-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2 = (fun _ => 1#1)

def Pre_KernelFfn (m : (ℓ : Loc Cert.KernelFfn.nD Cert.KernelFfn.τ Cert.KernelFfn.sig) → Buf (Elt Bits) ℓ) : Prop :=
  True

def Pre_KernelFfnIdeal (m : (ℓ : Loc Cert.KernelFfnIdeal.nD Cert.KernelFfnIdeal.τ Cert.KernelFfnIdeal.sig) → Buf (Elt Ideal) ℓ) : Prop :=
  True

def Pre_ReferenceFfnIdeal (m : (ℓ : Loc Cert.ReferenceFfnIdeal.nD Cert.ReferenceFfnIdeal.τ Cert.ReferenceFfnIdeal.sig) → Buf (Elt Ideal) ℓ) : Prop :=
  True

def Pre_KernelOut (m : (ℓ : Loc Cert.KernelOut.nD Cert.KernelOut.τ Cert.KernelOut.sig) → Buf (Elt Bits) ℓ) : Prop :=
  True

def Pre_KernelOutIdeal (m : (ℓ : Loc Cert.KernelOutIdeal.nD Cert.KernelOutIdeal.τ Cert.KernelOutIdeal.sig) → Buf (Elt Ideal) ℓ) : Prop :=
  True

def Pre_ReferenceOutIdeal (m : (ℓ : Loc Cert.ReferenceOutIdeal.nD Cert.ReferenceOutIdeal.τ Cert.ReferenceOutIdeal.sig) → Buf (Elt Ideal) ℓ) : Prop :=
  True

def Pre_KernelIn (m : (ℓ : Loc Cert.KernelIn.nD Cert.KernelIn.τ Cert.KernelIn.sig) → Buf (Elt Bits) ℓ) : Prop :=
  True

def Pre_KernelInIdeal (m : (ℓ : Loc Cert.KernelInIdeal.nD Cert.KernelInIdeal.τ Cert.KernelInIdeal.sig) → Buf (Elt Ideal) ℓ) : Prop :=
  True

def Pre_ReferenceInIdeal (m : (ℓ : Loc Cert.ReferenceInIdeal.nD Cert.ReferenceInIdeal.τ Cert.ReferenceInIdeal.sig) → Buf (Elt Ideal) ℓ) : Prop :=
  True

def Pre_KernelPost (m : (ℓ : Loc Cert.KernelPost.nD Cert.KernelPost.τ Cert.KernelPost.sig) → Buf (Elt Bits) ℓ) : Prop :=
  True

def Pre_KernelPostIdeal (m : (ℓ : Loc Cert.KernelPostIdeal.nD Cert.KernelPostIdeal.τ Cert.KernelPostIdeal.sig) → Buf (Elt Ideal) ℓ) : Prop :=
  True

def Pre_KernelPostIdeal_finite_keys [hPre_finite_keys : Cert.Pre_finite_keys.Facts] (m : (ℓ : Loc Cert.KernelPostIdeal.nD Cert.KernelPostIdeal.τ Cert.KernelPostIdeal.sig) → Buf (Elt Ideal) ℓ) : Prop :=
  ∀ c : Dev Cert.KernelPostIdeal.nD,
    (Cert.Pre_finite_keys.fn (F := Ideal) (m ((c.tc : Thread Cert.KernelPostIdeal.nD Cert.KernelPostIdeal.τ).loc Cert.KernelPostIdeal.main_arg0)) (m ((c.tc : Thread Cert.KernelPostIdeal.nD Cert.KernelPostIdeal.τ).loc Cert.KernelPostIdeal.main_arg1)) (m ((c.tc : Thread Cert.KernelPostIdeal.nD Cert.KernelPostIdeal.τ).loc Cert.KernelPostIdeal.main_arg2)) (m ((c.tc : Thread Cert.KernelPostIdeal.nD Cert.KernelPostIdeal.τ).loc Cert.KernelPostIdeal.main_arg3)) (m ((c.tc : Thread Cert.KernelPostIdeal.nD Cert.KernelPostIdeal.τ).loc Cert.KernelPostIdeal.main_arg4)) (m ((c.tc : Thread Cert.KernelPostIdeal.nD Cert.KernelPostIdeal.τ).loc Cert.KernelPostIdeal.main_arg5)) (m ((c.tc : Thread Cert.KernelPostIdeal.nD Cert.KernelPostIdeal.τ).loc Cert.KernelPostIdeal.main_arg6)) (m ((c.tc : Thread Cert.KernelPostIdeal.nD Cert.KernelPostIdeal.τ).loc Cert.KernelPostIdeal.main_arg7)) (m ((c.tc : Thread Cert.KernelPostIdeal.nD Cert.KernelPostIdeal.τ).loc Cert.KernelPostIdeal.main_arg8)) (m ((c.tc : Thread Cert.KernelPostIdeal.nD Cert.KernelPostIdeal.τ).loc Cert.KernelPostIdeal.main_arg9)) (m ((c.tc : Thread Cert.KernelPostIdeal.nD Cert.KernelPostIdeal.τ).loc Cert.KernelPostIdeal.main_arg10))).1 = (fun _ => 1#1)
    ∧ (Cert.Pre_finite_keys.fn (F := Ideal) (m ((c.tc : Thread Cert.KernelPostIdeal.nD Cert.KernelPostIdeal.τ).loc Cert.KernelPostIdeal.main_arg0)) (m ((c.tc : Thread Cert.KernelPostIdeal.nD Cert.KernelPostIdeal.τ).loc Cert.KernelPostIdeal.main_arg1)) (m ((c.tc : Thread Cert.KernelPostIdeal.nD Cert.KernelPostIdeal.τ).loc Cert.KernelPostIdeal.main_arg2)) (m ((c.tc : Thread Cert.KernelPostIdeal.nD Cert.KernelPostIdeal.τ).loc Cert.KernelPostIdeal.main_arg3)) (m ((c.tc : Thread Cert.KernelPostIdeal.nD Cert.KernelPostIdeal.τ).loc Cert.KernelPostIdeal.main_arg4)) (m ((c.tc : Thread Cert.KernelPostIdeal.nD Cert.KernelPostIdeal.τ).loc Cert.KernelPostIdeal.main_arg5)) (m ((c.tc : Thread Cert.KernelPostIdeal.nD Cert.KernelPostIdeal.τ).loc Cert.KernelPostIdeal.main_arg6)) (m ((c.tc : Thread Cert.KernelPostIdeal.nD Cert.KernelPostIdeal.τ).loc Cert.KernelPostIdeal.main_arg7)) (m ((c.tc : Thread Cert.KernelPostIdeal.nD Cert.KernelPostIdeal.τ).loc Cert.KernelPostIdeal.main_arg8)) (m ((c.tc : Thread Cert.KernelPostIdeal.nD Cert.KernelPostIdeal.τ).loc Cert.KernelPostIdeal.main_arg9)) (m ((c.tc : Thread Cert.KernelPostIdeal.nD Cert.KernelPostIdeal.τ).loc Cert.KernelPostIdeal.main_arg10))).2 = (fun _ => 1#1)

def Pre_ReferencePostIdeal (m : (ℓ : Loc Cert.ReferencePostIdeal.nD Cert.ReferencePostIdeal.τ Cert.ReferencePostIdeal.sig) → Buf (Elt Ideal) ℓ) : Prop :=
  True

def Pre_ReferencePostIdeal_finite_keys [hPre_finite_keys : Cert.Pre_finite_keys.Facts] (m : (ℓ : Loc Cert.ReferencePostIdeal.nD Cert.ReferencePostIdeal.τ Cert.ReferencePostIdeal.sig) → Buf (Elt Ideal) ℓ) : Prop :=
  ∀ c : Dev Cert.ReferencePostIdeal.nD,
    (Cert.Pre_finite_keys.fn (F := Ideal) (m ((c.tc : Thread Cert.ReferencePostIdeal.nD Cert.ReferencePostIdeal.τ).loc Cert.ReferencePostIdeal.main_arg0)) (m ((c.tc : Thread Cert.ReferencePostIdeal.nD Cert.ReferencePostIdeal.τ).loc Cert.ReferencePostIdeal.main_arg1)) (m ((c.tc : Thread Cert.ReferencePostIdeal.nD Cert.ReferencePostIdeal.τ).loc Cert.ReferencePostIdeal.main_arg2)) (m ((c.tc : Thread Cert.ReferencePostIdeal.nD Cert.ReferencePostIdeal.τ).loc Cert.ReferencePostIdeal.main_arg3)) (m ((c.tc : Thread Cert.ReferencePostIdeal.nD Cert.ReferencePostIdeal.τ).loc Cert.ReferencePostIdeal.main_arg4)) (m ((c.tc : Thread Cert.ReferencePostIdeal.nD Cert.ReferencePostIdeal.τ).loc Cert.ReferencePostIdeal.main_arg5)) (m ((c.tc : Thread Cert.ReferencePostIdeal.nD Cert.ReferencePostIdeal.τ).loc Cert.ReferencePostIdeal.main_arg6)) (m ((c.tc : Thread Cert.ReferencePostIdeal.nD Cert.ReferencePostIdeal.τ).loc Cert.ReferencePostIdeal.main_arg7)) (m ((c.tc : Thread Cert.ReferencePostIdeal.nD Cert.ReferencePostIdeal.τ).loc Cert.ReferencePostIdeal.main_arg8)) (m ((c.tc : Thread Cert.ReferencePostIdeal.nD Cert.ReferencePostIdeal.τ).loc Cert.ReferencePostIdeal.main_arg9)) (m ((c.tc : Thread Cert.ReferencePostIdeal.nD Cert.ReferencePostIdeal.τ).loc Cert.ReferencePostIdeal.main_arg10))).1 = (fun _ => 1#1)
    ∧ (Cert.Pre_finite_keys.fn (F := Ideal) (m ((c.tc : Thread Cert.ReferencePostIdeal.nD Cert.ReferencePostIdeal.τ).loc Cert.ReferencePostIdeal.main_arg0)) (m ((c.tc : Thread Cert.ReferencePostIdeal.nD Cert.ReferencePostIdeal.τ).loc Cert.ReferencePostIdeal.main_arg1)) (m ((c.tc : Thread Cert.ReferencePostIdeal.nD Cert.ReferencePostIdeal.τ).loc Cert.ReferencePostIdeal.main_arg2)) (m ((c.tc : Thread Cert.ReferencePostIdeal.nD Cert.ReferencePostIdeal.τ).loc Cert.ReferencePostIdeal.main_arg3)) (m ((c.tc : Thread Cert.ReferencePostIdeal.nD Cert.ReferencePostIdeal.τ).loc Cert.ReferencePostIdeal.main_arg4)) (m ((c.tc : Thread Cert.ReferencePostIdeal.nD Cert.ReferencePostIdeal.τ).loc Cert.ReferencePostIdeal.main_arg5)) (m ((c.tc : Thread Cert.ReferencePostIdeal.nD Cert.ReferencePostIdeal.τ).loc Cert.ReferencePostIdeal.main_arg6)) (m ((c.tc : Thread Cert.ReferencePostIdeal.nD Cert.ReferencePostIdeal.τ).loc Cert.ReferencePostIdeal.main_arg7)) (m ((c.tc : Thread Cert.ReferencePostIdeal.nD Cert.ReferencePostIdeal.τ).loc Cert.ReferencePostIdeal.main_arg8)) (m ((c.tc : Thread Cert.ReferencePostIdeal.nD Cert.ReferencePostIdeal.τ).loc Cert.ReferencePostIdeal.main_arg9)) (m ((c.tc : Thread Cert.ReferencePostIdeal.nD Cert.ReferencePostIdeal.τ).loc Cert.ReferencePostIdeal.main_arg10))).2 = (fun _ => 1#1)

def Pre_KernelPostSample (m : (ℓ : Loc Cert.KernelPostSample.nD Cert.KernelPostSample.τ Cert.KernelPostSample.sig) → Buf (Elt Bits) ℓ) : Prop :=
  True

def Pre_KernelPostSampleIdeal (m : (ℓ : Loc Cert.KernelPostSampleIdeal.nD Cert.KernelPostSampleIdeal.τ Cert.KernelPostSampleIdeal.sig) → Buf (Elt Ideal) ℓ) : Prop :=
  True

def Pre_KernelPostSampleIdeal_finite_keys_sample [hPre_finite_keys_sample : Cert.Pre_finite_keys_sample.Facts] (m : (ℓ : Loc Cert.KernelPostSampleIdeal.nD Cert.KernelPostSampleIdeal.τ Cert.KernelPostSampleIdeal.sig) → Buf (Elt Ideal) ℓ) : Prop :=
  ∀ c : Dev Cert.KernelPostSampleIdeal.nD,
    (Cert.Pre_finite_keys_sample.fn (F := Ideal) (m ((c.tc : Thread Cert.KernelPostSampleIdeal.nD Cert.KernelPostSampleIdeal.τ).loc Cert.KernelPostSampleIdeal.main_arg0)) (m ((c.tc : Thread Cert.KernelPostSampleIdeal.nD Cert.KernelPostSampleIdeal.τ).loc Cert.KernelPostSampleIdeal.main_arg1)) (m ((c.tc : Thread Cert.KernelPostSampleIdeal.nD Cert.KernelPostSampleIdeal.τ).loc Cert.KernelPostSampleIdeal.main_arg2)) (m ((c.tc : Thread Cert.KernelPostSampleIdeal.nD Cert.KernelPostSampleIdeal.τ).loc Cert.KernelPostSampleIdeal.main_arg3)) (m ((c.tc : Thread Cert.KernelPostSampleIdeal.nD Cert.KernelPostSampleIdeal.τ).loc Cert.KernelPostSampleIdeal.main_arg4)) (m ((c.tc : Thread Cert.KernelPostSampleIdeal.nD Cert.KernelPostSampleIdeal.τ).loc Cert.KernelPostSampleIdeal.main_arg5)) (m ((c.tc : Thread Cert.KernelPostSampleIdeal.nD Cert.KernelPostSampleIdeal.τ).loc Cert.KernelPostSampleIdeal.main_arg6)) (m ((c.tc : Thread Cert.KernelPostSampleIdeal.nD Cert.KernelPostSampleIdeal.τ).loc Cert.KernelPostSampleIdeal.main_arg7)) (m ((c.tc : Thread Cert.KernelPostSampleIdeal.nD Cert.KernelPostSampleIdeal.τ).loc Cert.KernelPostSampleIdeal.main_arg8)) (m ((c.tc : Thread Cert.KernelPostSampleIdeal.nD Cert.KernelPostSampleIdeal.τ).loc Cert.KernelPostSampleIdeal.main_arg9)) (m ((c.tc : Thread Cert.KernelPostSampleIdeal.nD Cert.KernelPostSampleIdeal.τ).loc Cert.KernelPostSampleIdeal.main_arg10))).1 = (fun _ => 1#1)
    ∧ (Cert.Pre_finite_keys_sample.fn (F := Ideal) (m ((c.tc : Thread Cert.KernelPostSampleIdeal.nD Cert.KernelPostSampleIdeal.τ).loc Cert.KernelPostSampleIdeal.main_arg0)) (m ((c.tc : Thread Cert.KernelPostSampleIdeal.nD Cert.KernelPostSampleIdeal.τ).loc Cert.KernelPostSampleIdeal.main_arg1)) (m ((c.tc : Thread Cert.KernelPostSampleIdeal.nD Cert.KernelPostSampleIdeal.τ).loc Cert.KernelPostSampleIdeal.main_arg2)) (m ((c.tc : Thread Cert.KernelPostSampleIdeal.nD Cert.KernelPostSampleIdeal.τ).loc Cert.KernelPostSampleIdeal.main_arg3)) (m ((c.tc : Thread Cert.KernelPostSampleIdeal.nD Cert.KernelPostSampleIdeal.τ).loc Cert.KernelPostSampleIdeal.main_arg4)) (m ((c.tc : Thread Cert.KernelPostSampleIdeal.nD Cert.KernelPostSampleIdeal.τ).loc Cert.KernelPostSampleIdeal.main_arg5)) (m ((c.tc : Thread Cert.KernelPostSampleIdeal.nD Cert.KernelPostSampleIdeal.τ).loc Cert.KernelPostSampleIdeal.main_arg6)) (m ((c.tc : Thread Cert.KernelPostSampleIdeal.nD Cert.KernelPostSampleIdeal.τ).loc Cert.KernelPostSampleIdeal.main_arg7)) (m ((c.tc : Thread Cert.KernelPostSampleIdeal.nD Cert.KernelPostSampleIdeal.τ).loc Cert.KernelPostSampleIdeal.main_arg8)) (m ((c.tc : Thread Cert.KernelPostSampleIdeal.nD Cert.KernelPostSampleIdeal.τ).loc Cert.KernelPostSampleIdeal.main_arg9)) (m ((c.tc : Thread Cert.KernelPostSampleIdeal.nD Cert.KernelPostSampleIdeal.τ).loc Cert.KernelPostSampleIdeal.main_arg10))).2 = (fun _ => 1#1)

def Pre_ReferencePostSampleIdeal (m : (ℓ : Loc Cert.ReferencePostSampleIdeal.nD Cert.ReferencePostSampleIdeal.τ Cert.ReferencePostSampleIdeal.sig) → Buf (Elt Ideal) ℓ) : Prop :=
  True

def Pre_ReferencePostSampleIdeal_finite_keys_sample [hPre_finite_keys_sample : Cert.Pre_finite_keys_sample.Facts] (m : (ℓ : Loc Cert.ReferencePostSampleIdeal.nD Cert.ReferencePostSampleIdeal.τ Cert.ReferencePostSampleIdeal.sig) → Buf (Elt Ideal) ℓ) : Prop :=
  ∀ c : Dev Cert.ReferencePostSampleIdeal.nD,
    (Cert.Pre_finite_keys_sample.fn (F := Ideal) (m ((c.tc : Thread Cert.ReferencePostSampleIdeal.nD Cert.ReferencePostSampleIdeal.τ).loc Cert.ReferencePostSampleIdeal.main_arg0)) (m ((c.tc : Thread Cert.ReferencePostSampleIdeal.nD Cert.ReferencePostSampleIdeal.τ).loc Cert.ReferencePostSampleIdeal.main_arg1)) (m ((c.tc : Thread Cert.ReferencePostSampleIdeal.nD Cert.ReferencePostSampleIdeal.τ).loc Cert.ReferencePostSampleIdeal.main_arg2)) (m ((c.tc : Thread Cert.ReferencePostSampleIdeal.nD Cert.ReferencePostSampleIdeal.τ).loc Cert.ReferencePostSampleIdeal.main_arg3)) (m ((c.tc : Thread Cert.ReferencePostSampleIdeal.nD Cert.ReferencePostSampleIdeal.τ).loc Cert.ReferencePostSampleIdeal.main_arg4)) (m ((c.tc : Thread Cert.ReferencePostSampleIdeal.nD Cert.ReferencePostSampleIdeal.τ).loc Cert.ReferencePostSampleIdeal.main_arg5)) (m ((c.tc : Thread Cert.ReferencePostSampleIdeal.nD Cert.ReferencePostSampleIdeal.τ).loc Cert.ReferencePostSampleIdeal.main_arg6)) (m ((c.tc : Thread Cert.ReferencePostSampleIdeal.nD Cert.ReferencePostSampleIdeal.τ).loc Cert.ReferencePostSampleIdeal.main_arg7)) (m ((c.tc : Thread Cert.ReferencePostSampleIdeal.nD Cert.ReferencePostSampleIdeal.τ).loc Cert.ReferencePostSampleIdeal.main_arg8)) (m ((c.tc : Thread Cert.ReferencePostSampleIdeal.nD Cert.ReferencePostSampleIdeal.τ).loc Cert.ReferencePostSampleIdeal.main_arg9)) (m ((c.tc : Thread Cert.ReferencePostSampleIdeal.nD Cert.ReferencePostSampleIdeal.τ).loc Cert.ReferencePostSampleIdeal.main_arg10))).1 = (fun _ => 1#1)
    ∧ (Cert.Pre_finite_keys_sample.fn (F := Ideal) (m ((c.tc : Thread Cert.ReferencePostSampleIdeal.nD Cert.ReferencePostSampleIdeal.τ).loc Cert.ReferencePostSampleIdeal.main_arg0)) (m ((c.tc : Thread Cert.ReferencePostSampleIdeal.nD Cert.ReferencePostSampleIdeal.τ).loc Cert.ReferencePostSampleIdeal.main_arg1)) (m ((c.tc : Thread Cert.ReferencePostSampleIdeal.nD Cert.ReferencePostSampleIdeal.τ).loc Cert.ReferencePostSampleIdeal.main_arg2)) (m ((c.tc : Thread Cert.ReferencePostSampleIdeal.nD Cert.ReferencePostSampleIdeal.τ).loc Cert.ReferencePostSampleIdeal.main_arg3)) (m ((c.tc : Thread Cert.ReferencePostSampleIdeal.nD Cert.ReferencePostSampleIdeal.τ).loc Cert.ReferencePostSampleIdeal.main_arg4)) (m ((c.tc : Thread Cert.ReferencePostSampleIdeal.nD Cert.ReferencePostSampleIdeal.τ).loc Cert.ReferencePostSampleIdeal.main_arg5)) (m ((c.tc : Thread Cert.ReferencePostSampleIdeal.nD Cert.ReferencePostSampleIdeal.τ).loc Cert.ReferencePostSampleIdeal.main_arg6)) (m ((c.tc : Thread Cert.ReferencePostSampleIdeal.nD Cert.ReferencePostSampleIdeal.τ).loc Cert.ReferencePostSampleIdeal.main_arg7)) (m ((c.tc : Thread Cert.ReferencePostSampleIdeal.nD Cert.ReferencePostSampleIdeal.τ).loc Cert.ReferencePostSampleIdeal.main_arg8)) (m ((c.tc : Thread Cert.ReferencePostSampleIdeal.nD Cert.ReferencePostSampleIdeal.τ).loc Cert.ReferencePostSampleIdeal.main_arg9)) (m ((c.tc : Thread Cert.ReferencePostSampleIdeal.nD Cert.ReferencePostSampleIdeal.τ).loc Cert.ReferencePostSampleIdeal.main_arg10))).2 = (fun _ => 1#1)

def Pre_KernelFfnSample (m : (ℓ : Loc Cert.KernelFfnSample.nD Cert.KernelFfnSample.τ Cert.KernelFfnSample.sig) → Buf (Elt Bits) ℓ) : Prop :=
  True

def Pre_KernelFfnSampleIdeal (m : (ℓ : Loc Cert.KernelFfnSampleIdeal.nD Cert.KernelFfnSampleIdeal.τ Cert.KernelFfnSampleIdeal.sig) → Buf (Elt Ideal) ℓ) : Prop :=
  True

def Pre_ReferenceFfnSampleIdeal (m : (ℓ : Loc Cert.ReferenceFfnSampleIdeal.nD Cert.ReferenceFfnSampleIdeal.τ Cert.ReferenceFfnSampleIdeal.sig) → Buf (Elt Ideal) ℓ) : Prop :=
  True

def Pre_KernelOutSample (m : (ℓ : Loc Cert.KernelOutSample.nD Cert.KernelOutSample.τ Cert.KernelOutSample.sig) → Buf (Elt Bits) ℓ) : Prop :=
  True

def Pre_KernelOutSampleIdeal (m : (ℓ : Loc Cert.KernelOutSampleIdeal.nD Cert.KernelOutSampleIdeal.τ Cert.KernelOutSampleIdeal.sig) → Buf (Elt Ideal) ℓ) : Prop :=
  True

def Pre_ReferenceOutSampleIdeal (m : (ℓ : Loc Cert.ReferenceOutSampleIdeal.nD Cert.ReferenceOutSampleIdeal.τ Cert.ReferenceOutSampleIdeal.sig) → Buf (Elt Ideal) ℓ) : Prop :=
  True

def Pre_KernelInSample (m : (ℓ : Loc Cert.KernelInSample.nD Cert.KernelInSample.τ Cert.KernelInSample.sig) → Buf (Elt Bits) ℓ) : Prop :=
  True

def Pre_KernelInSampleIdeal (m : (ℓ : Loc Cert.KernelInSampleIdeal.nD Cert.KernelInSampleIdeal.τ Cert.KernelInSampleIdeal.sig) → Buf (Elt Ideal) ℓ) : Prop :=
  True

def Pre_ReferenceInSampleIdeal (m : (ℓ : Loc Cert.ReferenceInSampleIdeal.nD Cert.ReferenceInSampleIdeal.τ Cert.ReferenceInSampleIdeal.sig) → Buf (Elt Ideal) ℓ) : Prop :=
  True

def Pre_KernelWin (m : (ℓ : Loc Cert.KernelWin.nD Cert.KernelWin.τ Cert.KernelWin.sig) → Buf (Elt Bits) ℓ) : Prop :=
  True

def Pre_KernelWinIdeal (m : (ℓ : Loc Cert.KernelWinIdeal.nD Cert.KernelWinIdeal.τ Cert.KernelWinIdeal.sig) → Buf (Elt Ideal) ℓ) : Prop :=
  True

def Pre_ReferenceWinIdeal (m : (ℓ : Loc Cert.ReferenceWinIdeal.nD Cert.ReferenceWinIdeal.τ Cert.ReferenceWinIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_KernelFfn [hKernelFfn : Cert.KernelFfn.Facts] : Prop :=
  ∀ (m : (ℓ : Loc Cert.KernelFfn.nD Cert.KernelFfn.τ Cert.KernelFfn.sig) → Buf (Elt Bits) ℓ) (g : Dev Cert.KernelFfn.nD → PrngReg), Pre_KernelFfn m →
    θ_run (Cert.KernelFfn.defs (F := Bits)) (onTc (τ := Cert.KernelFfn.τ) (Cert.KernelFfn.main (F := Bits))) ⟨m, fun _ => 0, g⟩ (fun r => (∀ c : Dev Cert.KernelFfn.nD,
      r.2.mem ((c.tc : Thread Cert.KernelFfn.nD Cert.KernelFfn.τ).loc Cert.KernelFfn.main_arg0) = m ((c.tc : Thread Cert.KernelFfn.nD Cert.KernelFfn.τ).loc Cert.KernelFfn.main_arg0)
      ∧ r.2.mem ((c.tc : Thread Cert.KernelFfn.nD Cert.KernelFfn.τ).loc Cert.KernelFfn.main_arg1) = m ((c.tc : Thread Cert.KernelFfn.nD Cert.KernelFfn.τ).loc Cert.KernelFfn.main_arg1)
      ∧ r.2.mem ((c.tc : Thread Cert.KernelFfn.nD Cert.KernelFfn.τ).loc Cert.KernelFfn.main_arg2) = m ((c.tc : Thread Cert.KernelFfn.nD Cert.KernelFfn.τ).loc Cert.KernelFfn.main_arg2)
      ∧ r.2.mem ((c.tc : Thread Cert.KernelFfn.nD Cert.KernelFfn.τ).loc Cert.KernelFfn.main_arg3) = m ((c.tc : Thread Cert.KernelFfn.nD Cert.KernelFfn.τ).loc Cert.KernelFfn.main_arg3)
      ∧ r.2.mem ((c.tc : Thread Cert.KernelFfn.nD Cert.KernelFfn.τ).loc Cert.KernelFfn.main_arg4) = m ((c.tc : Thread Cert.KernelFfn.nD Cert.KernelFfn.τ).loc Cert.KernelFfn.main_arg4))
      ∧ r.2.sem = fun _ => 0)

def quiescent_KernelFfnIdeal [hKernelFfnIdeal : Cert.KernelFfnIdeal.Facts] : Prop :=
  ∀ (m : (ℓ : Loc Cert.KernelFfnIdeal.nD Cert.KernelFfnIdeal.τ Cert.KernelFfnIdeal.sig) → Buf (Elt Ideal) ℓ) (g : Dev Cert.KernelFfnIdeal.nD → PrngReg), Pre_KernelFfnIdeal m →
    θ_run (Cert.KernelFfnIdeal.defs (F := Ideal)) (onTc (τ := Cert.KernelFfnIdeal.τ) (Cert.KernelFfnIdeal.main (F := Ideal))) ⟨m, fun _ => 0, g⟩ (fun r => (∀ c : Dev Cert.KernelFfnIdeal.nD,
      r.2.mem ((c.tc : Thread Cert.KernelFfnIdeal.nD Cert.KernelFfnIdeal.τ).loc Cert.KernelFfnIdeal.main_arg0) = m ((c.tc : Thread Cert.KernelFfnIdeal.nD Cert.KernelFfnIdeal.τ).loc Cert.KernelFfnIdeal.main_arg0)
      ∧ r.2.mem ((c.tc : Thread Cert.KernelFfnIdeal.nD Cert.KernelFfnIdeal.τ).loc Cert.KernelFfnIdeal.main_arg1) = m ((c.tc : Thread Cert.KernelFfnIdeal.nD Cert.KernelFfnIdeal.τ).loc Cert.KernelFfnIdeal.main_arg1)
      ∧ r.2.mem ((c.tc : Thread Cert.KernelFfnIdeal.nD Cert.KernelFfnIdeal.τ).loc Cert.KernelFfnIdeal.main_arg2) = m ((c.tc : Thread Cert.KernelFfnIdeal.nD Cert.KernelFfnIdeal.τ).loc Cert.KernelFfnIdeal.main_arg2)
      ∧ r.2.mem ((c.tc : Thread Cert.KernelFfnIdeal.nD Cert.KernelFfnIdeal.τ).loc Cert.KernelFfnIdeal.main_arg3) = m ((c.tc : Thread Cert.KernelFfnIdeal.nD Cert.KernelFfnIdeal.τ).loc Cert.KernelFfnIdeal.main_arg3)
      ∧ r.2.mem ((c.tc : Thread Cert.KernelFfnIdeal.nD Cert.KernelFfnIdeal.τ).loc Cert.KernelFfnIdeal.main_arg4) = m ((c.tc : Thread Cert.KernelFfnIdeal.nD Cert.KernelFfnIdeal.τ).loc Cert.KernelFfnIdeal.main_arg4))
      ∧ r.2.sem = fun _ => 0)

def quiescent_ReferenceFfnIdeal [hReferenceFfnIdeal : Cert.ReferenceFfnIdeal.Facts] : Prop :=
  ∀ (m : (ℓ : Loc Cert.ReferenceFfnIdeal.nD Cert.ReferenceFfnIdeal.τ Cert.ReferenceFfnIdeal.sig) → Buf (Elt Ideal) ℓ) (g : Dev Cert.ReferenceFfnIdeal.nD → PrngReg), Pre_ReferenceFfnIdeal m →
    θ_run (Cert.ReferenceFfnIdeal.defs (F := Ideal)) (onTc (τ := Cert.ReferenceFfnIdeal.τ) (Cert.ReferenceFfnIdeal.main (F := Ideal))) ⟨m, fun _ => 0, g⟩ (fun r => (∀ c : Dev Cert.ReferenceFfnIdeal.nD,
      r.2.mem ((c.tc : Thread Cert.ReferenceFfnIdeal.nD Cert.ReferenceFfnIdeal.τ).loc Cert.ReferenceFfnIdeal.main_arg0) = m ((c.tc : Thread Cert.ReferenceFfnIdeal.nD Cert.ReferenceFfnIdeal.τ).loc Cert.ReferenceFfnIdeal.main_arg0)
      ∧ r.2.mem ((c.tc : Thread Cert.ReferenceFfnIdeal.nD Cert.ReferenceFfnIdeal.τ).loc Cert.ReferenceFfnIdeal.main_arg1) = m ((c.tc : Thread Cert.ReferenceFfnIdeal.nD Cert.ReferenceFfnIdeal.τ).loc Cert.ReferenceFfnIdeal.main_arg1)
      ∧ r.2.mem ((c.tc : Thread Cert.ReferenceFfnIdeal.nD Cert.ReferenceFfnIdeal.τ).loc Cert.ReferenceFfnIdeal.main_arg2) = m ((c.tc : Thread Cert.ReferenceFfnIdeal.nD Cert.ReferenceFfnIdeal.τ).loc Cert.ReferenceFfnIdeal.main_arg2)
      ∧ r.2.mem ((c.tc : Thread Cert.ReferenceFfnIdeal.nD Cert.ReferenceFfnIdeal.τ).loc Cert.ReferenceFfnIdeal.main_arg3) = m ((c.tc : Thread Cert.ReferenceFfnIdeal.nD Cert.ReferenceFfnIdeal.τ).loc Cert.ReferenceFfnIdeal.main_arg3)
      ∧ r.2.mem ((c.tc : Thread Cert.ReferenceFfnIdeal.nD Cert.ReferenceFfnIdeal.τ).loc Cert.ReferenceFfnIdeal.main_arg4) = m ((c.tc : Thread Cert.ReferenceFfnIdeal.nD Cert.ReferenceFfnIdeal.τ).loc Cert.ReferenceFfnIdeal.main_arg4))
      ∧ r.2.sem = fun _ => 0)

def quiescent_KernelOut [hKernelOut : Cert.KernelOut.Facts] : Prop :=
  ∀ (m : (ℓ : Loc Cert.KernelOut.nD Cert.KernelOut.τ Cert.KernelOut.sig) → Buf (Elt Bits) ℓ) (g : Dev Cert.KernelOut.nD → PrngReg), Pre_KernelOut m →
    θ_run (Cert.KernelOut.defs (F := Bits)) (onTc (τ := Cert.KernelOut.τ) (Cert.KernelOut.main (F := Bits))) ⟨m, fun _ => 0, g⟩ (fun r => (∀ c : Dev Cert.KernelOut.nD,
      r.2.mem ((c.tc : Thread Cert.KernelOut.nD Cert.KernelOut.τ).loc Cert.KernelOut.main_arg0) = m ((c.tc : Thread Cert.KernelOut.nD Cert.KernelOut.τ).loc Cert.KernelOut.main_arg0)
      ∧ r.2.mem ((c.tc : Thread Cert.KernelOut.nD Cert.KernelOut.τ).loc Cert.KernelOut.main_arg1) = m ((c.tc : Thread Cert.KernelOut.nD Cert.KernelOut.τ).loc Cert.KernelOut.main_arg1)
      ∧ r.2.mem ((c.tc : Thread Cert.KernelOut.nD Cert.KernelOut.τ).loc Cert.KernelOut.main_arg2) = m ((c.tc : Thread Cert.KernelOut.nD Cert.KernelOut.τ).loc Cert.KernelOut.main_arg2)
      ∧ r.2.mem ((c.tc : Thread Cert.KernelOut.nD Cert.KernelOut.τ).loc Cert.KernelOut.main_arg3) = m ((c.tc : Thread Cert.KernelOut.nD Cert.KernelOut.τ).loc Cert.KernelOut.main_arg3)
      ∧ r.2.mem ((c.tc : Thread Cert.KernelOut.nD Cert.KernelOut.τ).loc Cert.KernelOut.main_arg4) = m ((c.tc : Thread Cert.KernelOut.nD Cert.KernelOut.τ).loc Cert.KernelOut.main_arg4)
      ∧ r.2.mem ((c.tc : Thread Cert.KernelOut.nD Cert.KernelOut.τ).loc Cert.KernelOut.main_arg5) = m ((c.tc : Thread Cert.KernelOut.nD Cert.KernelOut.τ).loc Cert.KernelOut.main_arg5)
      ∧ r.2.mem ((c.tc : Thread Cert.KernelOut.nD Cert.KernelOut.τ).loc Cert.KernelOut.main_arg6) = m ((c.tc : Thread Cert.KernelOut.nD Cert.KernelOut.τ).loc Cert.KernelOut.main_arg6)
      ∧ r.2.mem ((c.tc : Thread Cert.KernelOut.nD Cert.KernelOut.τ).loc Cert.KernelOut.main_arg7) = m ((c.tc : Thread Cert.KernelOut.nD Cert.KernelOut.τ).loc Cert.KernelOut.main_arg7)
      ∧ r.2.mem ((c.tc : Thread Cert.KernelOut.nD Cert.KernelOut.τ).loc Cert.KernelOut.main_arg8) = m ((c.tc : Thread Cert.KernelOut.nD Cert.KernelOut.τ).loc Cert.KernelOut.main_arg8))
      ∧ r.2.sem = fun _ => 0)

def quiescent_KernelOutIdeal [hKernelOutIdeal : Cert.KernelOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg), Pre_KernelOutIdeal m →
    θ_run (Cert.KernelOutIdeal.defs (F := Ideal)) (onTc (τ := Cert.KernelOutIdeal.τ) (Cert.KernelOutIdeal.main (F := Ideal))) ⟨m, fun _ => 0, g⟩ (fun r => (∀ c : Dev Cert.KernelOutIdeal.nD,
      r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
      ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
      ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2)
      ∧ r.2.mem ((c.tc : Thread Cert.KernelOutIdeal.nD Cert.KernelOutIdeal.τ).loc Cert.KernelOutIdeal.main_arg3) = m ((c.tc : Thread Cert.KernelOutIdeal.nD Cert.KernelOutIdeal.τ).loc Cert.KernelOutIdeal.main_arg3)
      ∧ r.2.mem ((c.tc : Thread Cert.KernelOutIdeal.nD Cert.KernelOutIdeal.τ).loc Cert.KernelOutIdeal.main_arg4) = m ((c.tc : Thread Cert.KernelOutIdeal.nD Cert.KernelOutIdeal.τ).loc Cert.KernelOutIdeal.main_arg4)
      ∧ r.2.mem ((c.tc : Thread Cert.KernelOutIdeal.nD Cert.KernelOutIdeal.τ).loc Cert.KernelOutIdeal.main_arg5) = m ((c.tc : Thread Cert.KernelOutIdeal.nD Cert.KernelOutIdeal.τ).loc Cert.KernelOutIdeal.main_arg5)
      ∧ r.2.mem ((c.tc : Thread Cert.KernelOutIdeal.nD Cert.KernelOutIdeal.τ).loc Cert.KernelOutIdeal.main_arg6) = m ((c.tc : Thread Cert.KernelOutIdeal.nD Cert.KernelOutIdeal.τ).loc Cert.KernelOutIdeal.main_arg6)
      ∧ r.2.mem ((c.tc : Thread Cert.KernelOutIdeal.nD Cert.KernelOutIdeal.τ).loc Cert.KernelOutIdeal.main_arg7) = m ((c.tc : Thread Cert.KernelOutIdeal.nD Cert.KernelOutIdeal.τ).loc Cert.KernelOutIdeal.main_arg7)
      ∧ r.2.mem ((c.tc : Thread Cert.KernelOutIdeal.nD Cert.KernelOutIdeal.τ).loc Cert.KernelOutIdeal.main_arg8) = m ((c.tc : Thread Cert.KernelOutIdeal.nD Cert.KernelOutIdeal.τ).loc Cert.KernelOutIdeal.main_arg8))
      ∧ r.2.sem = fun _ => 0)

def quiescent_ReferenceOutIdeal [hReferenceOutIdeal : Cert.ReferenceOutIdeal.Facts] : Prop :=
  ∀ (m : (ℓ : Loc Cert.ReferenceOutIdeal.nD Cert.ReferenceOutIdeal.τ Cert.ReferenceOutIdeal.sig) → Buf (Elt Ideal) ℓ) (g : Dev Cert.ReferenceOutIdeal.nD → PrngReg), Pre_ReferenceOutIdeal m →
    θ_run (Cert.ReferenceOutIdeal.defs (F := Ideal)) (onTc (τ := Cert.ReferenceOutIdeal.τ) (Cert.ReferenceOutIdeal.main (F := Ideal))) ⟨m, fun _ => 0, g⟩ (fun r => (∀ c : Dev Cert.ReferenceOutIdeal.nD,
      r.2.mem ((c.tc : Thread Cert.ReferenceOutIdeal.nD Cert.ReferenceOutIdeal.τ).loc Cert.ReferenceOutIdeal.main_arg0) = m ((c.tc : Thread Cert.ReferenceOutIdeal.nD Cert.ReferenceOutIdeal.τ).loc Cert.ReferenceOutIdeal.main_arg0)
      ∧ r.2.mem ((c.tc : Thread Cert.ReferenceOutIdeal.nD Cert.ReferenceOutIdeal.τ).loc Cert.ReferenceOutIdeal.main_arg1) = m ((c.tc : Thread Cert.ReferenceOutIdeal.nD Cert.ReferenceOutIdeal.τ).loc Cert.ReferenceOutIdeal.main_arg1)
      ∧ r.2.mem ((c.tc : Thread Cert.ReferenceOutIdeal.nD Cert.ReferenceOutIdeal.τ).loc Cert.ReferenceOutIdeal.main_arg2) = m ((c.tc : Thread Cert.ReferenceOutIdeal.nD Cert.ReferenceOutIdeal.τ).loc Cert.ReferenceOutIdeal.main_arg2)
      ∧ r.2.mem ((c.tc : Thread Cert.ReferenceOutIdeal.nD Cert.ReferenceOutIdeal.τ).loc Cert.ReferenceOutIdeal.main_arg3) = m ((c.tc : Thread Cert.ReferenceOutIdeal.nD Cert.ReferenceOutIdeal.τ).loc Cert.ReferenceOutIdeal.main_arg3)
      ∧ r.2.mem ((c.tc : Thread Cert.ReferenceOutIdeal.nD Cert.ReferenceOutIdeal.τ).loc Cert.ReferenceOutIdeal.main_arg4) = m ((c.tc : Thread Cert.ReferenceOutIdeal.nD Cert.ReferenceOutIdeal.τ).loc Cert.ReferenceOutIdeal.main_arg4)
      ∧ r.2.mem ((c.tc : Thread Cert.ReferenceOutIdeal.nD Cert.ReferenceOutIdeal.τ).loc Cert.ReferenceOutIdeal.main_arg5) = m ((c.tc : Thread Cert.ReferenceOutIdeal.nD Cert.ReferenceOutIdeal.τ).loc Cert.ReferenceOutIdeal.main_arg5)
      ∧ r.2.mem ((c.tc : Thread Cert.ReferenceOutIdeal.nD Cert.ReferenceOutIdeal.τ).loc Cert.ReferenceOutIdeal.main_arg6) = m ((c.tc : Thread Cert.ReferenceOutIdeal.nD Cert.ReferenceOutIdeal.τ).loc Cert.ReferenceOutIdeal.main_arg6)
      ∧ r.2.mem ((c.tc : Thread Cert.ReferenceOutIdeal.nD Cert.ReferenceOutIdeal.τ).loc Cert.ReferenceOutIdeal.main_arg7) = m ((c.tc : Thread Cert.ReferenceOutIdeal.nD Cert.ReferenceOutIdeal.τ).loc Cert.ReferenceOutIdeal.main_arg7)
      ∧ r.2.mem ((c.tc : Thread Cert.ReferenceOutIdeal.nD Cert.ReferenceOutIdeal.τ).loc Cert.ReferenceOutIdeal.main_arg8) = m ((c.tc : Thread Cert.ReferenceOutIdeal.nD Cert.ReferenceOutIdeal.τ).loc Cert.ReferenceOutIdeal.main_arg8))
      ∧ r.2.sem = fun _ => 0)

def quiescent_KernelIn [hKernelIn : Cert.KernelIn.Facts] : Prop :=
  ∀ (m : (ℓ : Loc Cert.KernelIn.nD Cert.KernelIn.τ Cert.KernelIn.sig) → Buf (Elt Bits) ℓ) (g : Dev Cert.KernelIn.nD → PrngReg), Pre_KernelIn m →
    θ_run (Cert.KernelIn.defs (F := Bits)) (onTc (τ := Cert.KernelIn.τ) (Cert.KernelIn.main (F := Bits))) ⟨m, fun _ => 0, g⟩ (fun r => (∀ c : Dev Cert.KernelIn.nD,
      r.2.mem ((c.tc : Thread Cert.KernelIn.nD Cert.KernelIn.τ).loc Cert.KernelIn.main_arg0) = m ((c.tc : Thread Cert.KernelIn.nD Cert.KernelIn.τ).loc Cert.KernelIn.main_arg0)
      ∧ r.2.mem ((c.tc : Thread Cert.KernelIn.nD Cert.KernelIn.τ).loc Cert.KernelIn.main_arg1) = m ((c.tc : Thread Cert.KernelIn.nD Cert.KernelIn.τ).loc Cert.KernelIn.main_arg1)
      ∧ r.2.mem ((c.tc : Thread Cert.KernelIn.nD Cert.KernelIn.τ).loc Cert.KernelIn.main_arg2) = m ((c.tc : Thread Cert.KernelIn.nD Cert.KernelIn.τ).loc Cert.KernelIn.main_arg2))
      ∧ r.2.sem = fun _ => 0)

def quiescent_KernelInIdeal [hKernelInIdeal : Cert.KernelInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg), Pre_KernelInIdeal m →
    θ_run (Cert.KernelInIdeal.defs (F := Ideal)) (onTc (τ := Cert.KernelInIdeal.τ) (Cert.KernelInIdeal.main (F := Ideal))) ⟨m, fun _ => 0, g⟩ (fun r => (∀ c : Dev Cert.KernelInIdeal.nD,
      r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
      ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1)
      ∧ r.2.mem ((c.tc : Thread Cert.KernelInIdeal.nD Cert.KernelInIdeal.τ).loc Cert.KernelInIdeal.main_arg2) = m ((c.tc : Thread Cert.KernelInIdeal.nD Cert.KernelInIdeal.τ).loc Cert.KernelInIdeal.main_arg2))
      ∧ r.2.sem = fun _ => 0)

def quiescent_ReferenceInIdeal [hReferenceInIdeal : Cert.ReferenceInIdeal.Facts] : Prop :=
  ∀ (m : (ℓ : Loc Cert.ReferenceInIdeal.nD Cert.ReferenceInIdeal.τ Cert.ReferenceInIdeal.sig) → Buf (Elt Ideal) ℓ) (g : Dev Cert.ReferenceInIdeal.nD → PrngReg), Pre_ReferenceInIdeal m →
    θ_run (Cert.ReferenceInIdeal.defs (F := Ideal)) (onTc (τ := Cert.ReferenceInIdeal.τ) (Cert.ReferenceInIdeal.main (F := Ideal))) ⟨m, fun _ => 0, g⟩ (fun r => (∀ c : Dev Cert.ReferenceInIdeal.nD,
      r.2.mem ((c.tc : Thread Cert.ReferenceInIdeal.nD Cert.ReferenceInIdeal.τ).loc Cert.ReferenceInIdeal.main_arg0) = m ((c.tc : Thread Cert.ReferenceInIdeal.nD Cert.ReferenceInIdeal.τ).loc Cert.ReferenceInIdeal.main_arg0)
      ∧ r.2.mem ((c.tc : Thread Cert.ReferenceInIdeal.nD Cert.ReferenceInIdeal.τ).loc Cert.ReferenceInIdeal.main_arg1) = m ((c.tc : Thread Cert.ReferenceInIdeal.nD Cert.ReferenceInIdeal.τ).loc Cert.ReferenceInIdeal.main_arg1)
      ∧ r.2.mem ((c.tc : Thread Cert.ReferenceInIdeal.nD Cert.ReferenceInIdeal.τ).loc Cert.ReferenceInIdeal.main_arg2) = m ((c.tc : Thread Cert.ReferenceInIdeal.nD Cert.ReferenceInIdeal.τ).loc Cert.ReferenceInIdeal.main_arg2))
      ∧ r.2.sem = fun _ => 0)

def quiescent_KernelPost [hKernelPost : Cert.KernelPost.Facts] : Prop :=
  ∀ (m : (ℓ : Loc Cert.KernelPost.nD Cert.KernelPost.τ Cert.KernelPost.sig) → Buf (Elt Bits) ℓ) (g : Dev Cert.KernelPost.nD → PrngReg), Pre_KernelPost m →
    θ_run (Cert.KernelPost.defs (F := Bits)) (onTc (τ := Cert.KernelPost.τ) (Cert.KernelPost.main (F := Bits))) ⟨m, fun _ => 0, g⟩ (fun r => (∀ c : Dev Cert.KernelPost.nD,
      r.2.mem ((c.tc : Thread Cert.KernelPost.nD Cert.KernelPost.τ).loc Cert.KernelPost.main_arg0) = m ((c.tc : Thread Cert.KernelPost.nD Cert.KernelPost.τ).loc Cert.KernelPost.main_arg0)
      ∧ r.2.mem ((c.tc : Thread Cert.KernelPost.nD Cert.KernelPost.τ).loc Cert.KernelPost.main_arg1) = m ((c.tc : Thread Cert.KernelPost.nD Cert.KernelPost.τ).loc Cert.KernelPost.main_arg1)
      ∧ r.2.mem ((c.tc : Thread Cert.KernelPost.nD Cert.KernelPost.τ).loc Cert.KernelPost.main_arg2) = m ((c.tc : Thread Cert.KernelPost.nD Cert.KernelPost.τ).loc Cert.KernelPost.main_arg2)
      ∧ r.2.mem ((c.tc : Thread Cert.KernelPost.nD Cert.KernelPost.τ).loc Cert.KernelPost.main_arg3) = m ((c.tc : Thread Cert.KernelPost.nD Cert.KernelPost.τ).loc Cert.KernelPost.main_arg3)
      ∧ r.2.mem ((c.tc : Thread Cert.KernelPost.nD Cert.KernelPost.τ).loc Cert.KernelPost.main_arg4) = m ((c.tc : Thread Cert.KernelPost.nD Cert.KernelPost.τ).loc Cert.KernelPost.main_arg4)
      ∧ r.2.mem ((c.tc : Thread Cert.KernelPost.nD Cert.KernelPost.τ).loc Cert.KernelPost.main_arg5) = m ((c.tc : Thread Cert.KernelPost.nD Cert.KernelPost.τ).loc Cert.KernelPost.main_arg5)
      ∧ r.2.mem ((c.tc : Thread Cert.KernelPost.nD Cert.KernelPost.τ).loc Cert.KernelPost.main_arg6) = m ((c.tc : Thread Cert.KernelPost.nD Cert.KernelPost.τ).loc Cert.KernelPost.main_arg6)
      ∧ r.2.mem ((c.tc : Thread Cert.KernelPost.nD Cert.KernelPost.τ).loc Cert.KernelPost.main_arg7) = m ((c.tc : Thread Cert.KernelPost.nD Cert.KernelPost.τ).loc Cert.KernelPost.main_arg7)
      ∧ r.2.mem ((c.tc : Thread Cert.KernelPost.nD Cert.KernelPost.τ).loc Cert.KernelPost.main_arg8) = m ((c.tc : Thread Cert.KernelPost.nD Cert.KernelPost.τ).loc Cert.KernelPost.main_arg8)
      ∧ r.2.mem ((c.tc : Thread Cert.KernelPost.nD Cert.KernelPost.τ).loc Cert.KernelPost.main_arg9) = m ((c.tc : Thread Cert.KernelPost.nD Cert.KernelPost.τ).loc Cert.KernelPost.main_arg9)
      ∧ r.2.mem ((c.tc : Thread Cert.KernelPost.nD Cert.KernelPost.τ).loc Cert.KernelPost.main_arg10) = m ((c.tc : Thread Cert.KernelPost.nD Cert.KernelPost.τ).loc Cert.KernelPost.main_arg10))
      ∧ r.2.sem = fun _ => 0)

def quiescent_KernelPostIdeal [hKernelPostIdeal : Cert.KernelPostIdeal.Facts] : Prop :=
  ∀ (m : (ℓ : Loc Cert.KernelPostIdeal.nD Cert.KernelPostIdeal.τ Cert.KernelPostIdeal.sig) → Buf (Elt Ideal) ℓ) (g : Dev Cert.KernelPostIdeal.nD → PrngReg), Pre_KernelPostIdeal m →
    θ_run (Cert.KernelPostIdeal.defs (F := Ideal)) (onTc (τ := Cert.KernelPostIdeal.τ) (Cert.KernelPostIdeal.main (F := Ideal))) ⟨m, fun _ => 0, g⟩ (fun r => (∀ c : Dev Cert.KernelPostIdeal.nD,
      r.2.mem ((c.tc : Thread Cert.KernelPostIdeal.nD Cert.KernelPostIdeal.τ).loc Cert.KernelPostIdeal.main_arg0) = m ((c.tc : Thread Cert.KernelPostIdeal.nD Cert.KernelPostIdeal.τ).loc Cert.KernelPostIdeal.main_arg0)
      ∧ r.2.mem ((c.tc : Thread Cert.KernelPostIdeal.nD Cert.KernelPostIdeal.τ).loc Cert.KernelPostIdeal.main_arg1) = m ((c.tc : Thread Cert.KernelPostIdeal.nD Cert.KernelPostIdeal.τ).loc Cert.KernelPostIdeal.main_arg1)
      ∧ r.2.mem ((c.tc : Thread Cert.KernelPostIdeal.nD Cert.KernelPostIdeal.τ).loc Cert.KernelPostIdeal.main_arg2) = m ((c.tc : Thread Cert.KernelPostIdeal.nD Cert.KernelPostIdeal.τ).loc Cert.KernelPostIdeal.main_arg2)
      ∧ r.2.mem ((c.tc : Thread Cert.KernelPostIdeal.nD Cert.KernelPostIdeal.τ).loc Cert.KernelPostIdeal.main_arg3) = m ((c.tc : Thread Cert.KernelPostIdeal.nD Cert.KernelPostIdeal.τ).loc Cert.KernelPostIdeal.main_arg3)
      ∧ r.2.mem ((c.tc : Thread Cert.KernelPostIdeal.nD Cert.KernelPostIdeal.τ).loc Cert.KernelPostIdeal.main_arg4) = m ((c.tc : Thread Cert.KernelPostIdeal.nD Cert.KernelPostIdeal.τ).loc Cert.KernelPostIdeal.main_arg4)
      ∧ r.2.mem ((c.tc : Thread Cert.KernelPostIdeal.nD Cert.KernelPostIdeal.τ).loc Cert.KernelPostIdeal.main_arg5) = m ((c.tc : Thread Cert.KernelPostIdeal.nD Cert.KernelPostIdeal.τ).loc Cert.KernelPostIdeal.main_arg5)
      ∧ r.2.mem ((c.tc : Thread Cert.KernelPostIdeal.nD Cert.KernelPostIdeal.τ).loc Cert.KernelPostIdeal.main_arg6) = m ((c.tc : Thread Cert.KernelPostIdeal.nD Cert.KernelPostIdeal.τ).loc Cert.KernelPostIdeal.main_arg6)
      ∧ r.2.mem ((c.tc : Thread Cert.KernelPostIdeal.nD Cert.KernelPostIdeal.τ).loc Cert.KernelPostIdeal.main_arg7) = m ((c.tc : Thread Cert.KernelPostIdeal.nD Cert.KernelPostIdeal.τ).loc Cert.KernelPostIdeal.main_arg7)
      ∧ r.2.mem ((c.tc : Thread Cert.KernelPostIdeal.nD Cert.KernelPostIdeal.τ).loc Cert.KernelPostIdeal.main_arg8) = m ((c.tc : Thread Cert.KernelPostIdeal.nD Cert.KernelPostIdeal.τ).loc Cert.KernelPostIdeal.main_arg8)
      ∧ r.2.mem ((c.tc : Thread Cert.KernelPostIdeal.nD Cert.KernelPostIdeal.τ).loc Cert.KernelPostIdeal.main_arg9) = m ((c.tc : Thread Cert.KernelPostIdeal.nD Cert.KernelPostIdeal.τ).loc Cert.KernelPostIdeal.main_arg9)
      ∧ r.2.mem ((c.tc : Thread Cert.KernelPostIdeal.nD Cert.KernelPostIdeal.τ).loc Cert.KernelPostIdeal.main_arg10) = m ((c.tc : Thread Cert.KernelPostIdeal.nD Cert.KernelPostIdeal.τ).loc Cert.KernelPostIdeal.main_arg10))
      ∧ r.2.sem = fun _ => 0)

def quiescent_KernelPostIdeal_pre_finite_keys [hKernelPostIdeal : Cert.KernelPostIdeal.Facts] [hPre_finite_keys : Cert.Pre_finite_keys.Facts] : Prop :=
  ∀ (m : (ℓ : Loc Cert.KernelPostIdeal.nD Cert.KernelPostIdeal.τ Cert.KernelPostIdeal.sig) → Buf (Elt Ideal) ℓ) (g : Dev Cert.KernelPostIdeal.nD → PrngReg), Pre_KernelPostIdeal_finite_keys m →
    θ_run (Cert.KernelPostIdeal.defs (F := Ideal)) (onTc (τ := Cert.KernelPostIdeal.τ) (Cert.KernelPostIdeal.main (F := Ideal))) ⟨m, fun _ => 0, g⟩ (fun r => (∀ c : Dev Cert.KernelPostIdeal.nD,
      r.2.mem ((c.tc : Thread Cert.KernelPostIdeal.nD Cert.KernelPostIdeal.τ).loc Cert.KernelPostIdeal.main_arg0) = m ((c.tc : Thread Cert.KernelPostIdeal.nD Cert.KernelPostIdeal.τ).loc Cert.KernelPostIdeal.main_arg0)
      ∧ r.2.mem ((c.tc : Thread Cert.KernelPostIdeal.nD Cert.KernelPostIdeal.τ).loc Cert.KernelPostIdeal.main_arg1) = m ((c.tc : Thread Cert.KernelPostIdeal.nD Cert.KernelPostIdeal.τ).loc Cert.KernelPostIdeal.main_arg1)
      ∧ r.2.mem ((c.tc : Thread Cert.KernelPostIdeal.nD Cert.KernelPostIdeal.τ).loc Cert.KernelPostIdeal.main_arg2) = m ((c.tc : Thread Cert.KernelPostIdeal.nD Cert.KernelPostIdeal.τ).loc Cert.KernelPostIdeal.main_arg2)
      ∧ r.2.mem ((c.tc : Thread Cert.KernelPostIdeal.nD Cert.KernelPostIdeal.τ).loc Cert.KernelPostIdeal.main_arg3) = m ((c.tc : Thread Cert.KernelPostIdeal.nD Cert.KernelPostIdeal.τ).loc Cert.KernelPostIdeal.main_arg3)
      ∧ r.2.mem ((c.tc : Thread Cert.KernelPostIdeal.nD Cert.KernelPostIdeal.τ).loc Cert.KernelPostIdeal.main_arg4) = m ((c.tc : Thread Cert.KernelPostIdeal.nD Cert.KernelPostIdeal.τ).loc Cert.KernelPostIdeal.main_arg4)
      ∧ r.2.mem ((c.tc : Thread Cert.KernelPostIdeal.nD Cert.KernelPostIdeal.τ).loc Cert.KernelPostIdeal.main_arg5) = m ((c.tc : Thread Cert.KernelPostIdeal.nD Cert.KernelPostIdeal.τ).loc Cert.KernelPostIdeal.main_arg5)
      ∧ r.2.mem ((c.tc : Thread Cert.KernelPostIdeal.nD Cert.KernelPostIdeal.τ).loc Cert.KernelPostIdeal.main_arg6) = m ((c.tc : Thread Cert.KernelPostIdeal.nD Cert.KernelPostIdeal.τ).loc Cert.KernelPostIdeal.main_arg6)
      ∧ r.2.mem ((c.tc : Thread Cert.KernelPostIdeal.nD Cert.KernelPostIdeal.τ).loc Cert.KernelPostIdeal.main_arg7) = m ((c.tc : Thread Cert.KernelPostIdeal.nD Cert.KernelPostIdeal.τ).loc Cert.KernelPostIdeal.main_arg7)
      ∧ r.2.mem ((c.tc : Thread Cert.KernelPostIdeal.nD Cert.KernelPostIdeal.τ).loc Cert.KernelPostIdeal.main_arg8) = m ((c.tc : Thread Cert.KernelPostIdeal.nD Cert.KernelPostIdeal.τ).loc Cert.KernelPostIdeal.main_arg8)
      ∧ r.2.mem ((c.tc : Thread Cert.KernelPostIdeal.nD Cert.KernelPostIdeal.τ).loc Cert.KernelPostIdeal.main_arg9) = m ((c.tc : Thread Cert.KernelPostIdeal.nD Cert.KernelPostIdeal.τ).loc Cert.KernelPostIdeal.main_arg9)
      ∧ r.2.mem ((c.tc : Thread Cert.KernelPostIdeal.nD Cert.KernelPostIdeal.τ).loc Cert.KernelPostIdeal.main_arg10) = m ((c.tc : Thread Cert.KernelPostIdeal.nD Cert.KernelPostIdeal.τ).loc Cert.KernelPostIdeal.main_arg10))
      ∧ r.2.sem = fun _ => 0)

def quiescent_ReferencePostIdeal [hReferencePostIdeal : Cert.ReferencePostIdeal.Facts] : Prop :=
  ∀ (m : (ℓ : Loc Cert.ReferencePostIdeal.nD Cert.ReferencePostIdeal.τ Cert.ReferencePostIdeal.sig) → Buf (Elt Ideal) ℓ) (g : Dev Cert.ReferencePostIdeal.nD → PrngReg), Pre_ReferencePostIdeal m →
    θ_run (Cert.ReferencePostIdeal.defs (F := Ideal)) (onTc (τ := Cert.ReferencePostIdeal.τ) (Cert.ReferencePostIdeal.main (F := Ideal))) ⟨m, fun _ => 0, g⟩ (fun r => (∀ c : Dev Cert.ReferencePostIdeal.nD,
      r.2.mem ((c.tc : Thread Cert.ReferencePostIdeal.nD Cert.ReferencePostIdeal.τ).loc Cert.ReferencePostIdeal.main_arg0) = m ((c.tc : Thread Cert.ReferencePostIdeal.nD Cert.ReferencePostIdeal.τ).loc Cert.ReferencePostIdeal.main_arg0)
      ∧ r.2.mem ((c.tc : Thread Cert.ReferencePostIdeal.nD Cert.ReferencePostIdeal.τ).loc Cert.ReferencePostIdeal.main_arg1) = m ((c.tc : Thread Cert.ReferencePostIdeal.nD Cert.ReferencePostIdeal.τ).loc Cert.ReferencePostIdeal.main_arg1)
      ∧ r.2.mem ((c.tc : Thread Cert.ReferencePostIdeal.nD Cert.ReferencePostIdeal.τ).loc Cert.ReferencePostIdeal.main_arg2) = m ((c.tc : Thread Cert.ReferencePostIdeal.nD Cert.ReferencePostIdeal.τ).loc Cert.ReferencePostIdeal.main_arg2)
      ∧ r.2.mem ((c.tc : Thread Cert.ReferencePostIdeal.nD Cert.ReferencePostIdeal.τ).loc Cert.ReferencePostIdeal.main_arg3) = m ((c.tc : Thread Cert.ReferencePostIdeal.nD Cert.ReferencePostIdeal.τ).loc Cert.ReferencePostIdeal.main_arg3)
      ∧ r.2.mem ((c.tc : Thread Cert.ReferencePostIdeal.nD Cert.ReferencePostIdeal.τ).loc Cert.ReferencePostIdeal.main_arg4) = m ((c.tc : Thread Cert.ReferencePostIdeal.nD Cert.ReferencePostIdeal.τ).loc Cert.ReferencePostIdeal.main_arg4)
      ∧ r.2.mem ((c.tc : Thread Cert.ReferencePostIdeal.nD Cert.ReferencePostIdeal.τ).loc Cert.ReferencePostIdeal.main_arg5) = m ((c.tc : Thread Cert.ReferencePostIdeal.nD Cert.ReferencePostIdeal.τ).loc Cert.ReferencePostIdeal.main_arg5)
      ∧ r.2.mem ((c.tc : Thread Cert.ReferencePostIdeal.nD Cert.ReferencePostIdeal.τ).loc Cert.ReferencePostIdeal.main_arg6) = m ((c.tc : Thread Cert.ReferencePostIdeal.nD Cert.ReferencePostIdeal.τ).loc Cert.ReferencePostIdeal.main_arg6)
      ∧ r.2.mem ((c.tc : Thread Cert.ReferencePostIdeal.nD Cert.ReferencePostIdeal.τ).loc Cert.ReferencePostIdeal.main_arg7) = m ((c.tc : Thread Cert.ReferencePostIdeal.nD Cert.ReferencePostIdeal.τ).loc Cert.ReferencePostIdeal.main_arg7)
      ∧ r.2.mem ((c.tc : Thread Cert.ReferencePostIdeal.nD Cert.ReferencePostIdeal.τ).loc Cert.ReferencePostIdeal.main_arg8) = m ((c.tc : Thread Cert.ReferencePostIdeal.nD Cert.ReferencePostIdeal.τ).loc Cert.ReferencePostIdeal.main_arg8)
      ∧ r.2.mem ((c.tc : Thread Cert.ReferencePostIdeal.nD Cert.ReferencePostIdeal.τ).loc Cert.ReferencePostIdeal.main_arg9) = m ((c.tc : Thread Cert.ReferencePostIdeal.nD Cert.ReferencePostIdeal.τ).loc Cert.ReferencePostIdeal.main_arg9)
      ∧ r.2.mem ((c.tc : Thread Cert.ReferencePostIdeal.nD Cert.ReferencePostIdeal.τ).loc Cert.ReferencePostIdeal.main_arg10) = m ((c.tc : Thread Cert.ReferencePostIdeal.nD Cert.ReferencePostIdeal.τ).loc Cert.ReferencePostIdeal.main_arg10))
      ∧ r.2.sem = fun _ => 0)

def quiescent_ReferencePostIdeal_pre_finite_keys [hReferencePostIdeal : Cert.ReferencePostIdeal.Facts] [hPre_finite_keys : Cert.Pre_finite_keys.Facts] : Prop :=
  ∀ (m : (ℓ : Loc Cert.ReferencePostIdeal.nD Cert.ReferencePostIdeal.τ Cert.ReferencePostIdeal.sig) → Buf (Elt Ideal) ℓ) (g : Dev Cert.ReferencePostIdeal.nD → PrngReg), Pre_ReferencePostIdeal_finite_keys m →
    θ_run (Cert.ReferencePostIdeal.defs (F := Ideal)) (onTc (τ := Cert.ReferencePostIdeal.τ) (Cert.ReferencePostIdeal.main (F := Ideal))) ⟨m, fun _ => 0, g⟩ (fun r => (∀ c : Dev Cert.ReferencePostIdeal.nD,
      r.2.mem ((c.tc : Thread Cert.ReferencePostIdeal.nD Cert.ReferencePostIdeal.τ).loc Cert.ReferencePostIdeal.main_arg0) = m ((c.tc : Thread Cert.ReferencePostIdeal.nD Cert.ReferencePostIdeal.τ).loc Cert.ReferencePostIdeal.main_arg0)
      ∧ r.2.mem ((c.tc : Thread Cert.ReferencePostIdeal.nD Cert.ReferencePostIdeal.τ).loc Cert.ReferencePostIdeal.main_arg1) = m ((c.tc : Thread Cert.ReferencePostIdeal.nD Cert.ReferencePostIdeal.τ).loc Cert.ReferencePostIdeal.main_arg1)
      ∧ r.2.mem ((c.tc : Thread Cert.ReferencePostIdeal.nD Cert.ReferencePostIdeal.τ).loc Cert.ReferencePostIdeal.main_arg2) = m ((c.tc : Thread Cert.ReferencePostIdeal.nD Cert.ReferencePostIdeal.τ).loc Cert.ReferencePostIdeal.main_arg2)
      ∧ r.2.mem ((c.tc : Thread Cert.ReferencePostIdeal.nD Cert.ReferencePostIdeal.τ).loc Cert.ReferencePostIdeal.main_arg3) = m ((c.tc : Thread Cert.ReferencePostIdeal.nD Cert.ReferencePostIdeal.τ).loc Cert.ReferencePostIdeal.main_arg3)
      ∧ r.2.mem ((c.tc : Thread Cert.ReferencePostIdeal.nD Cert.ReferencePostIdeal.τ).loc Cert.ReferencePostIdeal.main_arg4) = m ((c.tc : Thread Cert.ReferencePostIdeal.nD Cert.ReferencePostIdeal.τ).loc Cert.ReferencePostIdeal.main_arg4)
      ∧ r.2.mem ((c.tc : Thread Cert.ReferencePostIdeal.nD Cert.ReferencePostIdeal.τ).loc Cert.ReferencePostIdeal.main_arg5) = m ((c.tc : Thread Cert.ReferencePostIdeal.nD Cert.ReferencePostIdeal.τ).loc Cert.ReferencePostIdeal.main_arg5)
      ∧ r.2.mem ((c.tc : Thread Cert.ReferencePostIdeal.nD Cert.ReferencePostIdeal.τ).loc Cert.ReferencePostIdeal.main_arg6) = m ((c.tc : Thread Cert.ReferencePostIdeal.nD Cert.ReferencePostIdeal.τ).loc Cert.ReferencePostIdeal.main_arg6)
      ∧ r.2.mem ((c.tc : Thread Cert.ReferencePostIdeal.nD Cert.ReferencePostIdeal.τ).loc Cert.ReferencePostIdeal.main_arg7) = m ((c.tc : Thread Cert.ReferencePostIdeal.nD Cert.ReferencePostIdeal.τ).loc Cert.ReferencePostIdeal.main_arg7)
      ∧ r.2.mem ((c.tc : Thread Cert.ReferencePostIdeal.nD Cert.ReferencePostIdeal.τ).loc Cert.ReferencePostIdeal.main_arg8) = m ((c.tc : Thread Cert.ReferencePostIdeal.nD Cert.ReferencePostIdeal.τ).loc Cert.ReferencePostIdeal.main_arg8)
      ∧ r.2.mem ((c.tc : Thread Cert.ReferencePostIdeal.nD Cert.ReferencePostIdeal.τ).loc Cert.ReferencePostIdeal.main_arg9) = m ((c.tc : Thread Cert.ReferencePostIdeal.nD Cert.ReferencePostIdeal.τ).loc Cert.ReferencePostIdeal.main_arg9)
      ∧ r.2.mem ((c.tc : Thread Cert.ReferencePostIdeal.nD Cert.ReferencePostIdeal.τ).loc Cert.ReferencePostIdeal.main_arg10) = m ((c.tc : Thread Cert.ReferencePostIdeal.nD Cert.ReferencePostIdeal.τ).loc Cert.ReferencePostIdeal.main_arg10))
      ∧ r.2.sem = fun _ => 0)

def quiescent_KernelPostSample [hKernelPostSample : Cert.KernelPostSample.Facts] : Prop :=
  ∀ (m : (ℓ : Loc Cert.KernelPostSample.nD Cert.KernelPostSample.τ Cert.KernelPostSample.sig) → Buf (Elt Bits) ℓ) (g : Dev Cert.KernelPostSample.nD → PrngReg), Pre_KernelPostSample m →
    θ_run (Cert.KernelPostSample.defs (F := Bits)) (onTc (τ := Cert.KernelPostSample.τ) (Cert.KernelPostSample.main (F := Bits))) ⟨m, fun _ => 0, g⟩ (fun r => (∀ c : Dev Cert.KernelPostSample.nD,
      r.2.mem ((c.tc : Thread Cert.KernelPostSample.nD Cert.KernelPostSample.τ).loc Cert.KernelPostSample.main_arg0) = m ((c.tc : Thread Cert.KernelPostSample.nD Cert.KernelPostSample.τ).loc Cert.KernelPostSample.main_arg0)
      ∧ r.2.mem ((c.tc : Thread Cert.KernelPostSample.nD Cert.KernelPostSample.τ).loc Cert.KernelPostSample.main_arg1) = m ((c.tc : Thread Cert.KernelPostSample.nD Cert.KernelPostSample.τ).loc Cert.KernelPostSample.main_arg1)
      ∧ r.2.mem ((c.tc : Thread Cert.KernelPostSample.nD Cert.KernelPostSample.τ).loc Cert.KernelPostSample.main_arg2) = m ((c.tc : Thread Cert.KernelPostSample.nD Cert.KernelPostSample.τ).loc Cert.KernelPostSample.main_arg2)
      ∧ r.2.mem ((c.tc : Thread Cert.KernelPostSample.nD Cert.KernelPostSample.τ).loc Cert.KernelPostSample.main_arg3) = m ((c.tc : Thread Cert.KernelPostSample.nD Cert.KernelPostSample.τ).loc Cert.KernelPostSample.main_arg3)
      ∧ r.2.mem ((c.tc : Thread Cert.KernelPostSample.nD Cert.KernelPostSample.τ).loc Cert.KernelPostSample.main_arg4) = m ((c.tc : Thread Cert.KernelPostSample.nD Cert.KernelPostSample.τ).loc Cert.KernelPostSample.main_arg4)
      ∧ r.2.mem ((c.tc : Thread Cert.KernelPostSample.nD Cert.KernelPostSample.τ).loc Cert.KernelPostSample.main_arg5) = m ((c.tc : Thread Cert.KernelPostSample.nD Cert.KernelPostSample.τ).loc Cert.KernelPostSample.main_arg5)
      ∧ r.2.mem ((c.tc : Thread Cert.KernelPostSample.nD Cert.KernelPostSample.τ).loc Cert.KernelPostSample.main_arg6) = m ((c.tc : Thread Cert.KernelPostSample.nD Cert.KernelPostSample.τ).loc Cert.KernelPostSample.main_arg6)
      ∧ r.2.mem ((c.tc : Thread Cert.KernelPostSample.nD Cert.KernelPostSample.τ).loc Cert.KernelPostSample.main_arg7) = m ((c.tc : Thread Cert.KernelPostSample.nD Cert.KernelPostSample.τ).loc Cert.KernelPostSample.main_arg7)
      ∧ r.2.mem ((c.tc : Thread Cert.KernelPostSample.nD Cert.KernelPostSample.τ).loc Cert.KernelPostSample.main_arg8) = m ((c.tc : Thread Cert.KernelPostSample.nD Cert.KernelPostSample.τ).loc Cert.KernelPostSample.main_arg8)
      ∧ r.2.mem ((c.tc : Thread Cert.KernelPostSample.nD Cert.KernelPostSample.τ).loc Cert.KernelPostSample.main_arg9) = m ((c.tc : Thread Cert.KernelPostSample.nD Cert.KernelPostSample.τ).loc Cert.KernelPostSample.main_arg9)
      ∧ r.2.mem ((c.tc : Thread Cert.KernelPostSample.nD Cert.KernelPostSample.τ).loc Cert.KernelPostSample.main_arg10) = m ((c.tc : Thread Cert.KernelPostSample.nD Cert.KernelPostSample.τ).loc Cert.KernelPostSample.main_arg10))
      ∧ r.2.sem = fun _ => 0)

def quiescent_KernelPostSampleIdeal [hKernelPostSampleIdeal : Cert.KernelPostSampleIdeal.Facts] : Prop :=
  ∀ (m : (ℓ : Loc Cert.KernelPostSampleIdeal.nD Cert.KernelPostSampleIdeal.τ Cert.KernelPostSampleIdeal.sig) → Buf (Elt Ideal) ℓ) (g : Dev Cert.KernelPostSampleIdeal.nD → PrngReg), Pre_KernelPostSampleIdeal m →
    θ_run (Cert.KernelPostSampleIdeal.defs (F := Ideal)) (onTc (τ := Cert.KernelPostSampleIdeal.τ) (Cert.KernelPostSampleIdeal.main (F := Ideal))) ⟨m, fun _ => 0, g⟩ (fun r => (∀ c : Dev Cert.KernelPostSampleIdeal.nD,
      r.2.mem ((c.tc : Thread Cert.KernelPostSampleIdeal.nD Cert.KernelPostSampleIdeal.τ).loc Cert.KernelPostSampleIdeal.main_arg0) = m ((c.tc : Thread Cert.KernelPostSampleIdeal.nD Cert.KernelPostSampleIdeal.τ).loc Cert.KernelPostSampleIdeal.main_arg0)
      ∧ r.2.mem ((c.tc : Thread Cert.KernelPostSampleIdeal.nD Cert.KernelPostSampleIdeal.τ).loc Cert.KernelPostSampleIdeal.main_arg1) = m ((c.tc : Thread Cert.KernelPostSampleIdeal.nD Cert.KernelPostSampleIdeal.τ).loc Cert.KernelPostSampleIdeal.main_arg1)
      ∧ r.2.mem ((c.tc : Thread Cert.KernelPostSampleIdeal.nD Cert.KernelPostSampleIdeal.τ).loc Cert.KernelPostSampleIdeal.main_arg2) = m ((c.tc : Thread Cert.KernelPostSampleIdeal.nD Cert.KernelPostSampleIdeal.τ).loc Cert.KernelPostSampleIdeal.main_arg2)
      ∧ r.2.mem ((c.tc : Thread Cert.KernelPostSampleIdeal.nD Cert.KernelPostSampleIdeal.τ).loc Cert.KernelPostSampleIdeal.main_arg3) = m ((c.tc : Thread Cert.KernelPostSampleIdeal.nD Cert.KernelPostSampleIdeal.τ).loc Cert.KernelPostSampleIdeal.main_arg3)
      ∧ r.2.mem ((c.tc : Thread Cert.KernelPostSampleIdeal.nD Cert.KernelPostSampleIdeal.τ).loc Cert.KernelPostSampleIdeal.main_arg4) = m ((c.tc : Thread Cert.KernelPostSampleIdeal.nD Cert.KernelPostSampleIdeal.τ).loc Cert.KernelPostSampleIdeal.main_arg4)
      ∧ r.2.mem ((c.tc : Thread Cert.KernelPostSampleIdeal.nD Cert.KernelPostSampleIdeal.τ).loc Cert.KernelPostSampleIdeal.main_arg5) = m ((c.tc : Thread Cert.KernelPostSampleIdeal.nD Cert.KernelPostSampleIdeal.τ).loc Cert.KernelPostSampleIdeal.main_arg5)
      ∧ r.2.mem ((c.tc : Thread Cert.KernelPostSampleIdeal.nD Cert.KernelPostSampleIdeal.τ).loc Cert.KernelPostSampleIdeal.main_arg6) = m ((c.tc : Thread Cert.KernelPostSampleIdeal.nD Cert.KernelPostSampleIdeal.τ).loc Cert.KernelPostSampleIdeal.main_arg6)
      ∧ r.2.mem ((c.tc : Thread Cert.KernelPostSampleIdeal.nD Cert.KernelPostSampleIdeal.τ).loc Cert.KernelPostSampleIdeal.main_arg7) = m ((c.tc : Thread Cert.KernelPostSampleIdeal.nD Cert.KernelPostSampleIdeal.τ).loc Cert.KernelPostSampleIdeal.main_arg7)
      ∧ r.2.mem ((c.tc : Thread Cert.KernelPostSampleIdeal.nD Cert.KernelPostSampleIdeal.τ).loc Cert.KernelPostSampleIdeal.main_arg8) = m ((c.tc : Thread Cert.KernelPostSampleIdeal.nD Cert.KernelPostSampleIdeal.τ).loc Cert.KernelPostSampleIdeal.main_arg8)
      ∧ r.2.mem ((c.tc : Thread Cert.KernelPostSampleIdeal.nD Cert.KernelPostSampleIdeal.τ).loc Cert.KernelPostSampleIdeal.main_arg9) = m ((c.tc : Thread Cert.KernelPostSampleIdeal.nD Cert.KernelPostSampleIdeal.τ).loc Cert.KernelPostSampleIdeal.main_arg9)
      ∧ r.2.mem ((c.tc : Thread Cert.KernelPostSampleIdeal.nD Cert.KernelPostSampleIdeal.τ).loc Cert.KernelPostSampleIdeal.main_arg10) = m ((c.tc : Thread Cert.KernelPostSampleIdeal.nD Cert.KernelPostSampleIdeal.τ).loc Cert.KernelPostSampleIdeal.main_arg10))
      ∧ r.2.sem = fun _ => 0)

def quiescent_KernelPostSampleIdeal_pre_finite_keys_sample [hKernelPostSampleIdeal : Cert.KernelPostSampleIdeal.Facts] [hPre_finite_keys_sample : Cert.Pre_finite_keys_sample.Facts] : Prop :=
  ∀ (m : (ℓ : Loc Cert.KernelPostSampleIdeal.nD Cert.KernelPostSampleIdeal.τ Cert.KernelPostSampleIdeal.sig) → Buf (Elt Ideal) ℓ) (g : Dev Cert.KernelPostSampleIdeal.nD → PrngReg), Pre_KernelPostSampleIdeal_finite_keys_sample m →
    θ_run (Cert.KernelPostSampleIdeal.defs (F := Ideal)) (onTc (τ := Cert.KernelPostSampleIdeal.τ) (Cert.KernelPostSampleIdeal.main (F := Ideal))) ⟨m, fun _ => 0, g⟩ (fun r => (∀ c : Dev Cert.KernelPostSampleIdeal.nD,
      r.2.mem ((c.tc : Thread Cert.KernelPostSampleIdeal.nD Cert.KernelPostSampleIdeal.τ).loc Cert.KernelPostSampleIdeal.main_arg0) = m ((c.tc : Thread Cert.KernelPostSampleIdeal.nD Cert.KernelPostSampleIdeal.τ).loc Cert.KernelPostSampleIdeal.main_arg0)
      ∧ r.2.mem ((c.tc : Thread Cert.KernelPostSampleIdeal.nD Cert.KernelPostSampleIdeal.τ).loc Cert.KernelPostSampleIdeal.main_arg1) = m ((c.tc : Thread Cert.KernelPostSampleIdeal.nD Cert.KernelPostSampleIdeal.τ).loc Cert.KernelPostSampleIdeal.main_arg1)
      ∧ r.2.mem ((c.tc : Thread Cert.KernelPostSampleIdeal.nD Cert.KernelPostSampleIdeal.τ).loc Cert.KernelPostSampleIdeal.main_arg2) = m ((c.tc : Thread Cert.KernelPostSampleIdeal.nD Cert.KernelPostSampleIdeal.τ).loc Cert.KernelPostSampleIdeal.main_arg2)
      ∧ r.2.mem ((c.tc : Thread Cert.KernelPostSampleIdeal.nD Cert.KernelPostSampleIdeal.τ).loc Cert.KernelPostSampleIdeal.main_arg3) = m ((c.tc : Thread Cert.KernelPostSampleIdeal.nD Cert.KernelPostSampleIdeal.τ).loc Cert.KernelPostSampleIdeal.main_arg3)
      ∧ r.2.mem ((c.tc : Thread Cert.KernelPostSampleIdeal.nD Cert.KernelPostSampleIdeal.τ).loc Cert.KernelPostSampleIdeal.main_arg4) = m ((c.tc : Thread Cert.KernelPostSampleIdeal.nD Cert.KernelPostSampleIdeal.τ).loc Cert.KernelPostSampleIdeal.main_arg4)
      ∧ r.2.mem ((c.tc : Thread Cert.KernelPostSampleIdeal.nD Cert.KernelPostSampleIdeal.τ).loc Cert.KernelPostSampleIdeal.main_arg5) = m ((c.tc : Thread Cert.KernelPostSampleIdeal.nD Cert.KernelPostSampleIdeal.τ).loc Cert.KernelPostSampleIdeal.main_arg5)
      ∧ r.2.mem ((c.tc : Thread Cert.KernelPostSampleIdeal.nD Cert.KernelPostSampleIdeal.τ).loc Cert.KernelPostSampleIdeal.main_arg6) = m ((c.tc : Thread Cert.KernelPostSampleIdeal.nD Cert.KernelPostSampleIdeal.τ).loc Cert.KernelPostSampleIdeal.main_arg6)
      ∧ r.2.mem ((c.tc : Thread Cert.KernelPostSampleIdeal.nD Cert.KernelPostSampleIdeal.τ).loc Cert.KernelPostSampleIdeal.main_arg7) = m ((c.tc : Thread Cert.KernelPostSampleIdeal.nD Cert.KernelPostSampleIdeal.τ).loc Cert.KernelPostSampleIdeal.main_arg7)
      ∧ r.2.mem ((c.tc : Thread Cert.KernelPostSampleIdeal.nD Cert.KernelPostSampleIdeal.τ).loc Cert.KernelPostSampleIdeal.main_arg8) = m ((c.tc : Thread Cert.KernelPostSampleIdeal.nD Cert.KernelPostSampleIdeal.τ).loc Cert.KernelPostSampleIdeal.main_arg8)
      ∧ r.2.mem ((c.tc : Thread Cert.KernelPostSampleIdeal.nD Cert.KernelPostSampleIdeal.τ).loc Cert.KernelPostSampleIdeal.main_arg9) = m ((c.tc : Thread Cert.KernelPostSampleIdeal.nD Cert.KernelPostSampleIdeal.τ).loc Cert.KernelPostSampleIdeal.main_arg9)
      ∧ r.2.mem ((c.tc : Thread Cert.KernelPostSampleIdeal.nD Cert.KernelPostSampleIdeal.τ).loc Cert.KernelPostSampleIdeal.main_arg10) = m ((c.tc : Thread Cert.KernelPostSampleIdeal.nD Cert.KernelPostSampleIdeal.τ).loc Cert.KernelPostSampleIdeal.main_arg10))
      ∧ r.2.sem = fun _ => 0)

def quiescent_ReferencePostSampleIdeal [hReferencePostSampleIdeal : Cert.ReferencePostSampleIdeal.Facts] : Prop :=
  ∀ (m : (ℓ : Loc Cert.ReferencePostSampleIdeal.nD Cert.ReferencePostSampleIdeal.τ Cert.ReferencePostSampleIdeal.sig) → Buf (Elt Ideal) ℓ) (g : Dev Cert.ReferencePostSampleIdeal.nD → PrngReg), Pre_ReferencePostSampleIdeal m →
    θ_run (Cert.ReferencePostSampleIdeal.defs (F := Ideal)) (onTc (τ := Cert.ReferencePostSampleIdeal.τ) (Cert.ReferencePostSampleIdeal.main (F := Ideal))) ⟨m, fun _ => 0, g⟩ (fun r => (∀ c : Dev Cert.ReferencePostSampleIdeal.nD,
      r.2.mem ((c.tc : Thread Cert.ReferencePostSampleIdeal.nD Cert.ReferencePostSampleIdeal.τ).loc Cert.ReferencePostSampleIdeal.main_arg0) = m ((c.tc : Thread Cert.ReferencePostSampleIdeal.nD Cert.ReferencePostSampleIdeal.τ).loc Cert.ReferencePostSampleIdeal.main_arg0)
      ∧ r.2.mem ((c.tc : Thread Cert.ReferencePostSampleIdeal.nD Cert.ReferencePostSampleIdeal.τ).loc Cert.ReferencePostSampleIdeal.main_arg1) = m ((c.tc : Thread Cert.ReferencePostSampleIdeal.nD Cert.ReferencePostSampleIdeal.τ).loc Cert.ReferencePostSampleIdeal.main_arg1)
      ∧ r.2.mem ((c.tc : Thread Cert.ReferencePostSampleIdeal.nD Cert.ReferencePostSampleIdeal.τ).loc Cert.ReferencePostSampleIdeal.main_arg2) = m ((c.tc : Thread Cert.ReferencePostSampleIdeal.nD Cert.ReferencePostSampleIdeal.τ).loc Cert.ReferencePostSampleIdeal.main_arg2)
      ∧ r.2.mem ((c.tc : Thread Cert.ReferencePostSampleIdeal.nD Cert.ReferencePostSampleIdeal.τ).loc Cert.ReferencePostSampleIdeal.main_arg3) = m ((c.tc : Thread Cert.ReferencePostSampleIdeal.nD Cert.ReferencePostSampleIdeal.τ).loc Cert.ReferencePostSampleIdeal.main_arg3)
      ∧ r.2.mem ((c.tc : Thread Cert.ReferencePostSampleIdeal.nD Cert.ReferencePostSampleIdeal.τ).loc Cert.ReferencePostSampleIdeal.main_arg4) = m ((c.tc : Thread Cert.ReferencePostSampleIdeal.nD Cert.ReferencePostSampleIdeal.τ).loc Cert.ReferencePostSampleIdeal.main_arg4)
      ∧ r.2.mem ((c.tc : Thread Cert.ReferencePostSampleIdeal.nD Cert.ReferencePostSampleIdeal.τ).loc Cert.ReferencePostSampleIdeal.main_arg5) = m ((c.tc : Thread Cert.ReferencePostSampleIdeal.nD Cert.ReferencePostSampleIdeal.τ).loc Cert.ReferencePostSampleIdeal.main_arg5)
      ∧ r.2.mem ((c.tc : Thread Cert.ReferencePostSampleIdeal.nD Cert.ReferencePostSampleIdeal.τ).loc Cert.ReferencePostSampleIdeal.main_arg6) = m ((c.tc : Thread Cert.ReferencePostSampleIdeal.nD Cert.ReferencePostSampleIdeal.τ).loc Cert.ReferencePostSampleIdeal.main_arg6)
      ∧ r.2.mem ((c.tc : Thread Cert.ReferencePostSampleIdeal.nD Cert.ReferencePostSampleIdeal.τ).loc Cert.ReferencePostSampleIdeal.main_arg7) = m ((c.tc : Thread Cert.ReferencePostSampleIdeal.nD Cert.ReferencePostSampleIdeal.τ).loc Cert.ReferencePostSampleIdeal.main_arg7)
      ∧ r.2.mem ((c.tc : Thread Cert.ReferencePostSampleIdeal.nD Cert.ReferencePostSampleIdeal.τ).loc Cert.ReferencePostSampleIdeal.main_arg8) = m ((c.tc : Thread Cert.ReferencePostSampleIdeal.nD Cert.ReferencePostSampleIdeal.τ).loc Cert.ReferencePostSampleIdeal.main_arg8)
      ∧ r.2.mem ((c.tc : Thread Cert.ReferencePostSampleIdeal.nD Cert.ReferencePostSampleIdeal.τ).loc Cert.ReferencePostSampleIdeal.main_arg9) = m ((c.tc : Thread Cert.ReferencePostSampleIdeal.nD Cert.ReferencePostSampleIdeal.τ).loc Cert.ReferencePostSampleIdeal.main_arg9)
      ∧ r.2.mem ((c.tc : Thread Cert.ReferencePostSampleIdeal.nD Cert.ReferencePostSampleIdeal.τ).loc Cert.ReferencePostSampleIdeal.main_arg10) = m ((c.tc : Thread Cert.ReferencePostSampleIdeal.nD Cert.ReferencePostSampleIdeal.τ).loc Cert.ReferencePostSampleIdeal.main_arg10))
      ∧ r.2.sem = fun _ => 0)

def quiescent_ReferencePostSampleIdeal_pre_finite_keys_sample [hReferencePostSampleIdeal : Cert.ReferencePostSampleIdeal.Facts] [hPre_finite_keys_sample : Cert.Pre_finite_keys_sample.Facts] : Prop :=
  ∀ (m : (ℓ : Loc Cert.ReferencePostSampleIdeal.nD Cert.ReferencePostSampleIdeal.τ Cert.ReferencePostSampleIdeal.sig) → Buf (Elt Ideal) ℓ) (g : Dev Cert.ReferencePostSampleIdeal.nD → PrngReg), Pre_ReferencePostSampleIdeal_finite_keys_sample m →
    θ_run (Cert.ReferencePostSampleIdeal.defs (F := Ideal)) (onTc (τ := Cert.ReferencePostSampleIdeal.τ) (Cert.ReferencePostSampleIdeal.main (F := Ideal))) ⟨m, fun _ => 0, g⟩ (fun r => (∀ c : Dev Cert.ReferencePostSampleIdeal.nD,
      r.2.mem ((c.tc : Thread Cert.ReferencePostSampleIdeal.nD Cert.ReferencePostSampleIdeal.τ).loc Cert.ReferencePostSampleIdeal.main_arg0) = m ((c.tc : Thread Cert.ReferencePostSampleIdeal.nD Cert.ReferencePostSampleIdeal.τ).loc Cert.ReferencePostSampleIdeal.main_arg0)
      ∧ r.2.mem ((c.tc : Thread Cert.ReferencePostSampleIdeal.nD Cert.ReferencePostSampleIdeal.τ).loc Cert.ReferencePostSampleIdeal.main_arg1) = m ((c.tc : Thread Cert.ReferencePostSampleIdeal.nD Cert.ReferencePostSampleIdeal.τ).loc Cert.ReferencePostSampleIdeal.main_arg1)
      ∧ r.2.mem ((c.tc : Thread Cert.ReferencePostSampleIdeal.nD Cert.ReferencePostSampleIdeal.τ).loc Cert.ReferencePostSampleIdeal.main_arg2) = m ((c.tc : Thread Cert.ReferencePostSampleIdeal.nD Cert.ReferencePostSampleIdeal.τ).loc Cert.ReferencePostSampleIdeal.main_arg2)
      ∧ r.2.mem ((c.tc : Thread Cert.ReferencePostSampleIdeal.nD Cert.ReferencePostSampleIdeal.τ).loc Cert.ReferencePostSampleIdeal.main_arg3) = m ((c.tc : Thread Cert.ReferencePostSampleIdeal.nD Cert.ReferencePostSampleIdeal.τ).loc Cert.ReferencePostSampleIdeal.main_arg3)
      ∧ r.2.mem ((c.tc : Thread Cert.ReferencePostSampleIdeal.nD Cert.ReferencePostSampleIdeal.τ).loc Cert.ReferencePostSampleIdeal.main_arg4) = m ((c.tc : Thread Cert.ReferencePostSampleIdeal.nD Cert.ReferencePostSampleIdeal.τ).loc Cert.ReferencePostSampleIdeal.main_arg4)
      ∧ r.2.mem ((c.tc : Thread Cert.ReferencePostSampleIdeal.nD Cert.ReferencePostSampleIdeal.τ).loc Cert.ReferencePostSampleIdeal.main_arg5) = m ((c.tc : Thread Cert.ReferencePostSampleIdeal.nD Cert.ReferencePostSampleIdeal.τ).loc Cert.ReferencePostSampleIdeal.main_arg5)
      ∧ r.2.mem ((c.tc : Thread Cert.ReferencePostSampleIdeal.nD Cert.ReferencePostSampleIdeal.τ).loc Cert.ReferencePostSampleIdeal.main_arg6) = m ((c.tc : Thread Cert.ReferencePostSampleIdeal.nD Cert.ReferencePostSampleIdeal.τ).loc Cert.ReferencePostSampleIdeal.main_arg6)
      ∧ r.2.mem ((c.tc : Thread Cert.ReferencePostSampleIdeal.nD Cert.ReferencePostSampleIdeal.τ).loc Cert.ReferencePostSampleIdeal.main_arg7) = m ((c.tc : Thread Cert.ReferencePostSampleIdeal.nD Cert.ReferencePostSampleIdeal.τ).loc Cert.ReferencePostSampleIdeal.main_arg7)
      ∧ r.2.mem ((c.tc : Thread Cert.ReferencePostSampleIdeal.nD Cert.ReferencePostSampleIdeal.τ).loc Cert.ReferencePostSampleIdeal.main_arg8) = m ((c.tc : Thread Cert.ReferencePostSampleIdeal.nD Cert.ReferencePostSampleIdeal.τ).loc Cert.ReferencePostSampleIdeal.main_arg8)
      ∧ r.2.mem ((c.tc : Thread Cert.ReferencePostSampleIdeal.nD Cert.ReferencePostSampleIdeal.τ).loc Cert.ReferencePostSampleIdeal.main_arg9) = m ((c.tc : Thread Cert.ReferencePostSampleIdeal.nD Cert.ReferencePostSampleIdeal.τ).loc Cert.ReferencePostSampleIdeal.main_arg9)
      ∧ r.2.mem ((c.tc : Thread Cert.ReferencePostSampleIdeal.nD Cert.ReferencePostSampleIdeal.τ).loc Cert.ReferencePostSampleIdeal.main_arg10) = m ((c.tc : Thread Cert.ReferencePostSampleIdeal.nD Cert.ReferencePostSampleIdeal.τ).loc Cert.ReferencePostSampleIdeal.main_arg10))
      ∧ r.2.sem = fun _ => 0)

def quiescent_KernelFfnSample [hKernelFfnSample : Cert.KernelFfnSample.Facts] : Prop :=
  ∀ (m : (ℓ : Loc Cert.KernelFfnSample.nD Cert.KernelFfnSample.τ Cert.KernelFfnSample.sig) → Buf (Elt Bits) ℓ) (g : Dev Cert.KernelFfnSample.nD → PrngReg), Pre_KernelFfnSample m →
    θ_run (Cert.KernelFfnSample.defs (F := Bits)) (onTc (τ := Cert.KernelFfnSample.τ) (Cert.KernelFfnSample.main (F := Bits))) ⟨m, fun _ => 0, g⟩ (fun r => (∀ c : Dev Cert.KernelFfnSample.nD,
      r.2.mem ((c.tc : Thread Cert.KernelFfnSample.nD Cert.KernelFfnSample.τ).loc Cert.KernelFfnSample.main_arg0) = m ((c.tc : Thread Cert.KernelFfnSample.nD Cert.KernelFfnSample.τ).loc Cert.KernelFfnSample.main_arg0)
      ∧ r.2.mem ((c.tc : Thread Cert.KernelFfnSample.nD Cert.KernelFfnSample.τ).loc Cert.KernelFfnSample.main_arg1) = m ((c.tc : Thread Cert.KernelFfnSample.nD Cert.KernelFfnSample.τ).loc Cert.KernelFfnSample.main_arg1)
      ∧ r.2.mem ((c.tc : Thread Cert.KernelFfnSample.nD Cert.KernelFfnSample.τ).loc Cert.KernelFfnSample.main_arg2) = m ((c.tc : Thread Cert.KernelFfnSample.nD Cert.KernelFfnSample.τ).loc Cert.KernelFfnSample.main_arg2)
      ∧ r.2.mem ((c.tc : Thread Cert.KernelFfnSample.nD Cert.KernelFfnSample.τ).loc Cert.KernelFfnSample.main_arg3) = m ((c.tc : Thread Cert.KernelFfnSample.nD Cert.KernelFfnSample.τ).loc Cert.KernelFfnSample.main_arg3)
      ∧ r.2.mem ((c.tc : Thread Cert.KernelFfnSample.nD Cert.KernelFfnSample.τ).loc Cert.KernelFfnSample.main_arg4) = m ((c.tc : Thread Cert.KernelFfnSample.nD Cert.KernelFfnSample.τ).loc Cert.KernelFfnSample.main_arg4))
      ∧ r.2.sem = fun _ => 0)

def quiescent_KernelFfnSampleIdeal [hKernelFfnSampleIdeal : Cert.KernelFfnSampleIdeal.Facts] : Prop :=
  ∀ (m : (ℓ : Loc Cert.KernelFfnSampleIdeal.nD Cert.KernelFfnSampleIdeal.τ Cert.KernelFfnSampleIdeal.sig) → Buf (Elt Ideal) ℓ) (g : Dev Cert.KernelFfnSampleIdeal.nD → PrngReg), Pre_KernelFfnSampleIdeal m →
    θ_run (Cert.KernelFfnSampleIdeal.defs (F := Ideal)) (onTc (τ := Cert.KernelFfnSampleIdeal.τ) (Cert.KernelFfnSampleIdeal.main (F := Ideal))) ⟨m, fun _ => 0, g⟩ (fun r => (∀ c : Dev Cert.KernelFfnSampleIdeal.nD,
      r.2.mem ((c.tc : Thread Cert.KernelFfnSampleIdeal.nD Cert.KernelFfnSampleIdeal.τ).loc Cert.KernelFfnSampleIdeal.main_arg0) = m ((c.tc : Thread Cert.KernelFfnSampleIdeal.nD Cert.KernelFfnSampleIdeal.τ).loc Cert.KernelFfnSampleIdeal.main_arg0)
      ∧ r.2.mem ((c.tc : Thread Cert.KernelFfnSampleIdeal.nD Cert.KernelFfnSampleIdeal.τ).loc Cert.KernelFfnSampleIdeal.main_arg1) = m ((c.tc : Thread Cert.KernelFfnSampleIdeal.nD Cert.KernelFfnSampleIdeal.τ).loc Cert.KernelFfnSampleIdeal.main_arg1)
      ∧ r.2.mem ((c.tc : Thread Cert.KernelFfnSampleIdeal.nD Cert.KernelFfnSampleIdeal.τ).loc Cert.KernelFfnSampleIdeal.main_arg2) = m ((c.tc : Thread Cert.KernelFfnSampleIdeal.nD Cert.KernelFfnSampleIdeal.τ).loc Cert.KernelFfnSampleIdeal.main_arg2)
      ∧ r.2.mem ((c.tc : Thread Cert.KernelFfnSampleIdeal.nD Cert.KernelFfnSampleIdeal.τ).loc Cert.KernelFfnSampleIdeal.main_arg3) = m ((c.tc : Thread Cert.KernelFfnSampleIdeal.nD Cert.KernelFfnSampleIdeal.τ).loc Cert.KernelFfnSampleIdeal.main_arg3)
      ∧ r.2.mem ((c.tc : Thread Cert.KernelFfnSampleIdeal.nD Cert.KernelFfnSampleIdeal.τ).loc Cert.KernelFfnSampleIdeal.main_arg4) = m ((c.tc : Thread Cert.KernelFfnSampleIdeal.nD Cert.KernelFfnSampleIdeal.τ).loc Cert.KernelFfnSampleIdeal.main_arg4))
      ∧ r.2.sem = fun _ => 0)

def quiescent_ReferenceFfnSampleIdeal [hReferenceFfnSampleIdeal : Cert.ReferenceFfnSampleIdeal.Facts] : Prop :=
  ∀ (m : (ℓ : Loc Cert.ReferenceFfnSampleIdeal.nD Cert.ReferenceFfnSampleIdeal.τ Cert.ReferenceFfnSampleIdeal.sig) → Buf (Elt Ideal) ℓ) (g : Dev Cert.ReferenceFfnSampleIdeal.nD → PrngReg), Pre_ReferenceFfnSampleIdeal m →
    θ_run (Cert.ReferenceFfnSampleIdeal.defs (F := Ideal)) (onTc (τ := Cert.ReferenceFfnSampleIdeal.τ) (Cert.ReferenceFfnSampleIdeal.main (F := Ideal))) ⟨m, fun _ => 0, g⟩ (fun r => (∀ c : Dev Cert.ReferenceFfnSampleIdeal.nD,
      r.2.mem ((c.tc : Thread Cert.ReferenceFfnSampleIdeal.nD Cert.ReferenceFfnSampleIdeal.τ).loc Cert.ReferenceFfnSampleIdeal.main_arg0) = m ((c.tc : Thread Cert.ReferenceFfnSampleIdeal.nD Cert.ReferenceFfnSampleIdeal.τ).loc Cert.ReferenceFfnSampleIdeal.main_arg0)
      ∧ r.2.mem ((c.tc : Thread Cert.ReferenceFfnSampleIdeal.nD Cert.ReferenceFfnSampleIdeal.τ).loc Cert.ReferenceFfnSampleIdeal.main_arg1) = m ((c.tc : Thread Cert.ReferenceFfnSampleIdeal.nD Cert.ReferenceFfnSampleIdeal.τ).loc Cert.ReferenceFfnSampleIdeal.main_arg1)
      ∧ r.2.mem ((c.tc : Thread Cert.ReferenceFfnSampleIdeal.nD Cert.ReferenceFfnSampleIdeal.τ).loc Cert.ReferenceFfnSampleIdeal.main_arg2) = m ((c.tc : Thread Cert.ReferenceFfnSampleIdeal.nD Cert.ReferenceFfnSampleIdeal.τ).loc Cert.ReferenceFfnSampleIdeal.main_arg2)
      ∧ r.2.mem ((c.tc : Thread Cert.ReferenceFfnSampleIdeal.nD Cert.ReferenceFfnSampleIdeal.τ).loc Cert.ReferenceFfnSampleIdeal.main_arg3) = m ((c.tc : Thread Cert.ReferenceFfnSampleIdeal.nD Cert.ReferenceFfnSampleIdeal.τ).loc Cert.ReferenceFfnSampleIdeal.main_arg3)
      ∧ r.2.mem ((c.tc : Thread Cert.ReferenceFfnSampleIdeal.nD Cert.ReferenceFfnSampleIdeal.τ).loc Cert.ReferenceFfnSampleIdeal.main_arg4) = m ((c.tc : Thread Cert.ReferenceFfnSampleIdeal.nD Cert.ReferenceFfnSampleIdeal.τ).loc Cert.ReferenceFfnSampleIdeal.main_arg4))
      ∧ r.2.sem = fun _ => 0)

def quiescent_KernelOutSample [hKernelOutSample : Cert.KernelOutSample.Facts] : Prop :=
  ∀ (m : (ℓ : Loc Cert.KernelOutSample.nD Cert.KernelOutSample.τ Cert.KernelOutSample.sig) → Buf (Elt Bits) ℓ) (g : Dev Cert.KernelOutSample.nD → PrngReg), Pre_KernelOutSample m →
    θ_run (Cert.KernelOutSample.defs (F := Bits)) (onTc (τ := Cert.KernelOutSample.τ) (Cert.KernelOutSample.main (F := Bits))) ⟨m, fun _ => 0, g⟩ (fun r => (∀ c : Dev Cert.KernelOutSample.nD,
      r.2.mem ((c.tc : Thread Cert.KernelOutSample.nD Cert.KernelOutSample.τ).loc Cert.KernelOutSample.main_arg0) = m ((c.tc : Thread Cert.KernelOutSample.nD Cert.KernelOutSample.τ).loc Cert.KernelOutSample.main_arg0)
      ∧ r.2.mem ((c.tc : Thread Cert.KernelOutSample.nD Cert.KernelOutSample.τ).loc Cert.KernelOutSample.main_arg1) = m ((c.tc : Thread Cert.KernelOutSample.nD Cert.KernelOutSample.τ).loc Cert.KernelOutSample.main_arg1)
      ∧ r.2.mem ((c.tc : Thread Cert.KernelOutSample.nD Cert.KernelOutSample.τ).loc Cert.KernelOutSample.main_arg2) = m ((c.tc : Thread Cert.KernelOutSample.nD Cert.KernelOutSample.τ).loc Cert.KernelOutSample.main_arg2)
      ∧ r.2.mem ((c.tc : Thread Cert.KernelOutSample.nD Cert.KernelOutSample.τ).loc Cert.KernelOutSample.main_arg3) = m ((c.tc : Thread Cert.KernelOutSample.nD Cert.KernelOutSample.τ).loc Cert.KernelOutSample.main_arg3)
      ∧ r.2.mem ((c.tc : Thread Cert.KernelOutSample.nD Cert.KernelOutSample.τ).loc Cert.KernelOutSample.main_arg4) = m ((c.tc : Thread Cert.KernelOutSample.nD Cert.KernelOutSample.τ).loc Cert.KernelOutSample.main_arg4)
      ∧ r.2.mem ((c.tc : Thread Cert.KernelOutSample.nD Cert.KernelOutSample.τ).loc Cert.KernelOutSample.main_arg5) = m ((c.tc : Thread Cert.KernelOutSample.nD Cert.KernelOutSample.τ).loc Cert.KernelOutSample.main_arg5)
      ∧ r.2.mem ((c.tc : Thread Cert.KernelOutSample.nD Cert.KernelOutSample.τ).loc Cert.KernelOutSample.main_arg6) = m ((c.tc : Thread Cert.KernelOutSample.nD Cert.KernelOutSample.τ).loc Cert.KernelOutSample.main_arg6)
      ∧ r.2.mem ((c.tc : Thread Cert.KernelOutSample.nD Cert.KernelOutSample.τ).loc Cert.KernelOutSample.main_arg7) = m ((c.tc : Thread Cert.KernelOutSample.nD Cert.KernelOutSample.τ).loc Cert.KernelOutSample.main_arg7)
      ∧ r.2.mem ((c.tc : Thread Cert.KernelOutSample.nD Cert.KernelOutSample.τ).loc Cert.KernelOutSample.main_arg8) = m ((c.tc : Thread Cert.KernelOutSample.nD Cert.KernelOutSample.τ).loc Cert.KernelOutSample.main_arg8))
      ∧ r.2.sem = fun _ => 0)

def quiescent_KernelOutSampleIdeal [hKernelOutSampleIdeal : Cert.KernelOutSampleIdeal.Facts] : Prop :=
  ∀ (m : (ℓ : Loc Cert.KernelOutSampleIdeal.nD Cert.KernelOutSampleIdeal.τ Cert.KernelOutSampleIdeal.sig) → Buf (Elt Ideal) ℓ) (g : Dev Cert.KernelOutSampleIdeal.nD → PrngReg), Pre_KernelOutSampleIdeal m →
    θ_run (Cert.KernelOutSampleIdeal.defs (F := Ideal)) (onTc (τ := Cert.KernelOutSampleIdeal.τ) (Cert.KernelOutSampleIdeal.main (F := Ideal))) ⟨m, fun _ => 0, g⟩ (fun r => (∀ c : Dev Cert.KernelOutSampleIdeal.nD,
      r.2.mem ((c.tc : Thread Cert.KernelOutSampleIdeal.nD Cert.KernelOutSampleIdeal.τ).loc Cert.KernelOutSampleIdeal.main_arg0) = m ((c.tc : Thread Cert.KernelOutSampleIdeal.nD Cert.KernelOutSampleIdeal.τ).loc Cert.KernelOutSampleIdeal.main_arg0)
      ∧ r.2.mem ((c.tc : Thread Cert.KernelOutSampleIdeal.nD Cert.KernelOutSampleIdeal.τ).loc Cert.KernelOutSampleIdeal.main_arg1) = m ((c.tc : Thread Cert.KernelOutSampleIdeal.nD Cert.KernelOutSampleIdeal.τ).loc Cert.KernelOutSampleIdeal.main_arg1)
      ∧ r.2.mem ((c.tc : Thread Cert.KernelOutSampleIdeal.nD Cert.KernelOutSampleIdeal.τ).loc Cert.KernelOutSampleIdeal.main_arg2) = m ((c.tc : Thread Cert.KernelOutSampleIdeal.nD Cert.KernelOutSampleIdeal.τ).loc Cert.KernelOutSampleIdeal.main_arg2)
      ∧ r.2.mem ((c.tc : Thread Cert.KernelOutSampleIdeal.nD Cert.KernelOutSampleIdeal.τ).loc Cert.KernelOutSampleIdeal.main_arg3) = m ((c.tc : Thread Cert.KernelOutSampleIdeal.nD Cert.KernelOutSampleIdeal.τ).loc Cert.KernelOutSampleIdeal.main_arg3)
      ∧ r.2.mem ((c.tc : Thread Cert.KernelOutSampleIdeal.nD Cert.KernelOutSampleIdeal.τ).loc Cert.KernelOutSampleIdeal.main_arg4) = m ((c.tc : Thread Cert.KernelOutSampleIdeal.nD Cert.KernelOutSampleIdeal.τ).loc Cert.KernelOutSampleIdeal.main_arg4)
      ∧ r.2.mem ((c.tc : Thread Cert.KernelOutSampleIdeal.nD Cert.KernelOutSampleIdeal.τ).loc Cert.KernelOutSampleIdeal.main_arg5) = m ((c.tc : Thread Cert.KernelOutSampleIdeal.nD Cert.KernelOutSampleIdeal.τ).loc Cert.KernelOutSampleIdeal.main_arg5)
      ∧ r.2.mem ((c.tc : Thread Cert.KernelOutSampleIdeal.nD Cert.KernelOutSampleIdeal.τ).loc Cert.KernelOutSampleIdeal.main_arg6) = m ((c.tc : Thread Cert.KernelOutSampleIdeal.nD Cert.KernelOutSampleIdeal.τ).loc Cert.KernelOutSampleIdeal.main_arg6)
      ∧ r.2.mem ((c.tc : Thread Cert.KernelOutSampleIdeal.nD Cert.KernelOutSampleIdeal.τ).loc Cert.KernelOutSampleIdeal.main_arg7) = m ((c.tc : Thread Cert.KernelOutSampleIdeal.nD Cert.KernelOutSampleIdeal.τ).loc Cert.KernelOutSampleIdeal.main_arg7)
      ∧ r.2.mem ((c.tc : Thread Cert.KernelOutSampleIdeal.nD Cert.KernelOutSampleIdeal.τ).loc Cert.KernelOutSampleIdeal.main_arg8) = m ((c.tc : Thread Cert.KernelOutSampleIdeal.nD Cert.KernelOutSampleIdeal.τ).loc Cert.KernelOutSampleIdeal.main_arg8))
      ∧ r.2.sem = fun _ => 0)

def quiescent_ReferenceOutSampleIdeal [hReferenceOutSampleIdeal : Cert.ReferenceOutSampleIdeal.Facts] : Prop :=
  ∀ (m : (ℓ : Loc Cert.ReferenceOutSampleIdeal.nD Cert.ReferenceOutSampleIdeal.τ Cert.ReferenceOutSampleIdeal.sig) → Buf (Elt Ideal) ℓ) (g : Dev Cert.ReferenceOutSampleIdeal.nD → PrngReg), Pre_ReferenceOutSampleIdeal m →
    θ_run (Cert.ReferenceOutSampleIdeal.defs (F := Ideal)) (onTc (τ := Cert.ReferenceOutSampleIdeal.τ) (Cert.ReferenceOutSampleIdeal.main (F := Ideal))) ⟨m, fun _ => 0, g⟩ (fun r => (∀ c : Dev Cert.ReferenceOutSampleIdeal.nD,
      r.2.mem ((c.tc : Thread Cert.ReferenceOutSampleIdeal.nD Cert.ReferenceOutSampleIdeal.τ).loc Cert.ReferenceOutSampleIdeal.main_arg0) = m ((c.tc : Thread Cert.ReferenceOutSampleIdeal.nD Cert.ReferenceOutSampleIdeal.τ).loc Cert.ReferenceOutSampleIdeal.main_arg0)
      ∧ r.2.mem ((c.tc : Thread Cert.ReferenceOutSampleIdeal.nD Cert.ReferenceOutSampleIdeal.τ).loc Cert.ReferenceOutSampleIdeal.main_arg1) = m ((c.tc : Thread Cert.ReferenceOutSampleIdeal.nD Cert.ReferenceOutSampleIdeal.τ).loc Cert.ReferenceOutSampleIdeal.main_arg1)
      ∧ r.2.mem ((c.tc : Thread Cert.ReferenceOutSampleIdeal.nD Cert.ReferenceOutSampleIdeal.τ).loc Cert.ReferenceOutSampleIdeal.main_arg2) = m ((c.tc : Thread Cert.ReferenceOutSampleIdeal.nD Cert.ReferenceOutSampleIdeal.τ).loc Cert.ReferenceOutSampleIdeal.main_arg2)
      ∧ r.2.mem ((c.tc : Thread Cert.ReferenceOutSampleIdeal.nD Cert.ReferenceOutSampleIdeal.τ).loc Cert.ReferenceOutSampleIdeal.main_arg3) = m ((c.tc : Thread Cert.ReferenceOutSampleIdeal.nD Cert.ReferenceOutSampleIdeal.τ).loc Cert.ReferenceOutSampleIdeal.main_arg3)
      ∧ r.2.mem ((c.tc : Thread Cert.ReferenceOutSampleIdeal.nD Cert.ReferenceOutSampleIdeal.τ).loc Cert.ReferenceOutSampleIdeal.main_arg4) = m ((c.tc : Thread Cert.ReferenceOutSampleIdeal.nD Cert.ReferenceOutSampleIdeal.τ).loc Cert.ReferenceOutSampleIdeal.main_arg4)
      ∧ r.2.mem ((c.tc : Thread Cert.ReferenceOutSampleIdeal.nD Cert.ReferenceOutSampleIdeal.τ).loc Cert.ReferenceOutSampleIdeal.main_arg5) = m ((c.tc : Thread Cert.ReferenceOutSampleIdeal.nD Cert.ReferenceOutSampleIdeal.τ).loc Cert.ReferenceOutSampleIdeal.main_arg5)
      ∧ r.2.mem ((c.tc : Thread Cert.ReferenceOutSampleIdeal.nD Cert.ReferenceOutSampleIdeal.τ).loc Cert.ReferenceOutSampleIdeal.main_arg6) = m ((c.tc : Thread Cert.ReferenceOutSampleIdeal.nD Cert.ReferenceOutSampleIdeal.τ).loc Cert.ReferenceOutSampleIdeal.main_arg6)
      ∧ r.2.mem ((c.tc : Thread Cert.ReferenceOutSampleIdeal.nD Cert.ReferenceOutSampleIdeal.τ).loc Cert.ReferenceOutSampleIdeal.main_arg7) = m ((c.tc : Thread Cert.ReferenceOutSampleIdeal.nD Cert.ReferenceOutSampleIdeal.τ).loc Cert.ReferenceOutSampleIdeal.main_arg7)
      ∧ r.2.mem ((c.tc : Thread Cert.ReferenceOutSampleIdeal.nD Cert.ReferenceOutSampleIdeal.τ).loc Cert.ReferenceOutSampleIdeal.main_arg8) = m ((c.tc : Thread Cert.ReferenceOutSampleIdeal.nD Cert.ReferenceOutSampleIdeal.τ).loc Cert.ReferenceOutSampleIdeal.main_arg8))
      ∧ r.2.sem = fun _ => 0)

def quiescent_KernelInSample [hKernelInSample : Cert.KernelInSample.Facts] : Prop :=
  ∀ (m : (ℓ : Loc Cert.KernelInSample.nD Cert.KernelInSample.τ Cert.KernelInSample.sig) → Buf (Elt Bits) ℓ) (g : Dev Cert.KernelInSample.nD → PrngReg), Pre_KernelInSample m →
    θ_run (Cert.KernelInSample.defs (F := Bits)) (onTc (τ := Cert.KernelInSample.τ) (Cert.KernelInSample.main (F := Bits))) ⟨m, fun _ => 0, g⟩ (fun r => (∀ c : Dev Cert.KernelInSample.nD,
      r.2.mem ((c.tc : Thread Cert.KernelInSample.nD Cert.KernelInSample.τ).loc Cert.KernelInSample.main_arg0) = m ((c.tc : Thread Cert.KernelInSample.nD Cert.KernelInSample.τ).loc Cert.KernelInSample.main_arg0)
      ∧ r.2.mem ((c.tc : Thread Cert.KernelInSample.nD Cert.KernelInSample.τ).loc Cert.KernelInSample.main_arg1) = m ((c.tc : Thread Cert.KernelInSample.nD Cert.KernelInSample.τ).loc Cert.KernelInSample.main_arg1)
      ∧ r.2.mem ((c.tc : Thread Cert.KernelInSample.nD Cert.KernelInSample.τ).loc Cert.KernelInSample.main_arg2) = m ((c.tc : Thread Cert.KernelInSample.nD Cert.KernelInSample.τ).loc Cert.KernelInSample.main_arg2))
      ∧ r.2.sem = fun _ => 0)

def quiescent_KernelInSampleIdeal [hKernelInSampleIdeal : Cert.KernelInSampleIdeal.Facts] : Prop :=
  ∀ (m : (ℓ : Loc Cert.KernelInSampleIdeal.nD Cert.KernelInSampleIdeal.τ Cert.KernelInSampleIdeal.sig) → Buf (Elt Ideal) ℓ) (g : Dev Cert.KernelInSampleIdeal.nD → PrngReg), Pre_KernelInSampleIdeal m →
    θ_run (Cert.KernelInSampleIdeal.defs (F := Ideal)) (onTc (τ := Cert.KernelInSampleIdeal.τ) (Cert.KernelInSampleIdeal.main (F := Ideal))) ⟨m, fun _ => 0, g⟩ (fun r => (∀ c : Dev Cert.KernelInSampleIdeal.nD,
      r.2.mem ((c.tc : Thread Cert.KernelInSampleIdeal.nD Cert.KernelInSampleIdeal.τ).loc Cert.KernelInSampleIdeal.main_arg0) = m ((c.tc : Thread Cert.KernelInSampleIdeal.nD Cert.KernelInSampleIdeal.τ).loc Cert.KernelInSampleIdeal.main_arg0)
      ∧ r.2.mem ((c.tc : Thread Cert.KernelInSampleIdeal.nD Cert.KernelInSampleIdeal.τ).loc Cert.KernelInSampleIdeal.main_arg1) = m ((c.tc : Thread Cert.KernelInSampleIdeal.nD Cert.KernelInSampleIdeal.τ).loc Cert.KernelInSampleIdeal.main_arg1)
      ∧ r.2.mem ((c.tc : Thread Cert.KernelInSampleIdeal.nD Cert.KernelInSampleIdeal.τ).loc Cert.KernelInSampleIdeal.main_arg2) = m ((c.tc : Thread Cert.KernelInSampleIdeal.nD Cert.KernelInSampleIdeal.τ).loc Cert.KernelInSampleIdeal.main_arg2))
      ∧ r.2.sem = fun _ => 0)

def quiescent_ReferenceInSampleIdeal [hReferenceInSampleIdeal : Cert.ReferenceInSampleIdeal.Facts] : Prop :=
  ∀ (m : (ℓ : Loc Cert.ReferenceInSampleIdeal.nD Cert.ReferenceInSampleIdeal.τ Cert.ReferenceInSampleIdeal.sig) → Buf (Elt Ideal) ℓ) (g : Dev Cert.ReferenceInSampleIdeal.nD → PrngReg), Pre_ReferenceInSampleIdeal m →
    θ_run (Cert.ReferenceInSampleIdeal.defs (F := Ideal)) (onTc (τ := Cert.ReferenceInSampleIdeal.τ) (Cert.ReferenceInSampleIdeal.main (F := Ideal))) ⟨m, fun _ => 0, g⟩ (fun r => (∀ c : Dev Cert.ReferenceInSampleIdeal.nD,
      r.2.mem ((c.tc : Thread Cert.ReferenceInSampleIdeal.nD Cert.ReferenceInSampleIdeal.τ).loc Cert.ReferenceInSampleIdeal.main_arg0) = m ((c.tc : Thread Cert.ReferenceInSampleIdeal.nD Cert.ReferenceInSampleIdeal.τ).loc Cert.ReferenceInSampleIdeal.main_arg0)
      ∧ r.2.mem ((c.tc : Thread Cert.ReferenceInSampleIdeal.nD Cert.ReferenceInSampleIdeal.τ).loc Cert.ReferenceInSampleIdeal.main_arg1) = m ((c.tc : Thread Cert.ReferenceInSampleIdeal.nD Cert.ReferenceInSampleIdeal.τ).loc Cert.ReferenceInSampleIdeal.main_arg1)
      ∧ r.2.mem ((c.tc : Thread Cert.ReferenceInSampleIdeal.nD Cert.ReferenceInSampleIdeal.τ).loc Cert.ReferenceInSampleIdeal.main_arg2) = m ((c.tc : Thread Cert.ReferenceInSampleIdeal.nD Cert.ReferenceInSampleIdeal.τ).loc Cert.ReferenceInSampleIdeal.main_arg2))
      ∧ r.2.sem = fun _ => 0)

def quiescent_KernelWin [hKernelWin : Cert.KernelWin.Facts] : Prop :=
  ∀ (m : (ℓ : Loc Cert.KernelWin.nD Cert.KernelWin.τ Cert.KernelWin.sig) → Buf (Elt Bits) ℓ) (g : Dev Cert.KernelWin.nD → PrngReg), Pre_KernelWin m →
    θ_run (Cert.KernelWin.defs (F := Bits)) (onTc (τ := Cert.KernelWin.τ) (Cert.KernelWin.main (F := Bits))) ⟨m, fun _ => 0, g⟩ (fun r => (∀ c : Dev Cert.KernelWin.nD,
      r.2.mem ((c.tc : Thread Cert.KernelWin.nD Cert.KernelWin.τ).loc Cert.KernelWin.main_arg0) = m ((c.tc : Thread Cert.KernelWin.nD Cert.KernelWin.τ).loc Cert.KernelWin.main_arg0)
      ∧ r.2.mem ((c.tc : Thread Cert.KernelWin.nD Cert.KernelWin.τ).loc Cert.KernelWin.main_arg1) = m ((c.tc : Thread Cert.KernelWin.nD Cert.KernelWin.τ).loc Cert.KernelWin.main_arg1)
      ∧ r.2.mem ((c.tc : Thread Cert.KernelWin.nD Cert.KernelWin.τ).loc Cert.KernelWin.main_arg2) = m ((c.tc : Thread Cert.KernelWin.nD Cert.KernelWin.τ).loc Cert.KernelWin.main_arg2)
      ∧ r.2.mem ((c.tc : Thread Cert.KernelWin.nD Cert.KernelWin.τ).loc Cert.KernelWin.main_arg3) = m ((c.tc : Thread Cert.KernelWin.nD Cert.KernelWin.τ).loc Cert.KernelWin.main_arg3)
      ∧ r.2.mem ((c.tc : Thread Cert.KernelWin.nD Cert.KernelWin.τ).loc Cert.KernelWin.main_arg4) = m ((c.tc : Thread Cert.KernelWin.nD Cert.KernelWin.τ).loc Cert.KernelWin.main_arg4)
      ∧ r.2.mem ((c.tc : Thread Cert.KernelWin.nD Cert.KernelWin.τ).loc Cert.KernelWin.main_arg5) = m ((c.tc : Thread Cert.KernelWin.nD Cert.KernelWin.τ).loc Cert.KernelWin.main_arg5)
      ∧ r.2.mem ((c.tc : Thread Cert.KernelWin.nD Cert.KernelWin.τ).loc Cert.KernelWin.main_arg6) = m ((c.tc : Thread Cert.KernelWin.nD Cert.KernelWin.τ).loc Cert.KernelWin.main_arg6))
      ∧ r.2.sem = fun _ => 0)

def quiescent_KernelWinIdeal [hKernelWinIdeal : Cert.KernelWinIdeal.Facts] : Prop :=
  ∀ (m : (ℓ : Loc Cert.KernelWinIdeal.nD Cert.KernelWinIdeal.τ Cert.KernelWinIdeal.sig) → Buf (Elt Ideal) ℓ) (g : Dev Cert.KernelWinIdeal.nD → PrngReg), Pre_KernelWinIdeal m →
    θ_run (Cert.KernelWinIdeal.defs (F := Ideal)) (onTc (τ := Cert.KernelWinIdeal.τ) (Cert.KernelWinIdeal.main (F := Ideal))) ⟨m, fun _ => 0, g⟩ (fun r => (∀ c : Dev Cert.KernelWinIdeal.nD,
      r.2.mem ((c.tc : Thread Cert.KernelWinIdeal.nD Cert.KernelWinIdeal.τ).loc Cert.KernelWinIdeal.main_arg0) = m ((c.tc : Thread Cert.KernelWinIdeal.nD Cert.KernelWinIdeal.τ).loc Cert.KernelWinIdeal.main_arg0)
      ∧ r.2.mem ((c.tc : Thread Cert.KernelWinIdeal.nD Cert.KernelWinIdeal.τ).loc Cert.KernelWinIdeal.main_arg1) = m ((c.tc : Thread Cert.KernelWinIdeal.nD Cert.KernelWinIdeal.τ).loc Cert.KernelWinIdeal.main_arg1)
      ∧ r.2.mem ((c.tc : Thread Cert.KernelWinIdeal.nD Cert.KernelWinIdeal.τ).loc Cert.KernelWinIdeal.main_arg2) = m ((c.tc : Thread Cert.KernelWinIdeal.nD Cert.KernelWinIdeal.τ).loc Cert.KernelWinIdeal.main_arg2)
      ∧ r.2.mem ((c.tc : Thread Cert.KernelWinIdeal.nD Cert.KernelWinIdeal.τ).loc Cert.KernelWinIdeal.main_arg3) = m ((c.tc : Thread Cert.KernelWinIdeal.nD Cert.KernelWinIdeal.τ).loc Cert.KernelWinIdeal.main_arg3)
      ∧ r.2.mem ((c.tc : Thread Cert.KernelWinIdeal.nD Cert.KernelWinIdeal.τ).loc Cert.KernelWinIdeal.main_arg4) = m ((c.tc : Thread Cert.KernelWinIdeal.nD Cert.KernelWinIdeal.τ).loc Cert.KernelWinIdeal.main_arg4)
      ∧ r.2.mem ((c.tc : Thread Cert.KernelWinIdeal.nD Cert.KernelWinIdeal.τ).loc Cert.KernelWinIdeal.main_arg5) = m ((c.tc : Thread Cert.KernelWinIdeal.nD Cert.KernelWinIdeal.τ).loc Cert.KernelWinIdeal.main_arg5)
      ∧ r.2.mem ((c.tc : Thread Cert.KernelWinIdeal.nD Cert.KernelWinIdeal.τ).loc Cert.KernelWinIdeal.main_arg6) = m ((c.tc : Thread Cert.KernelWinIdeal.nD Cert.KernelWinIdeal.τ).loc Cert.KernelWinIdeal.main_arg6))
      ∧ r.2.sem = fun _ => 0)

def quiescent_ReferenceWinIdeal [hReferenceWinIdeal : Cert.ReferenceWinIdeal.Facts] : Prop :=
  ∀ (m : (ℓ : Loc Cert.ReferenceWinIdeal.nD Cert.ReferenceWinIdeal.τ Cert.ReferenceWinIdeal.sig) → Buf (Elt Ideal) ℓ) (g : Dev Cert.ReferenceWinIdeal.nD → PrngReg), Pre_ReferenceWinIdeal m →
    θ_run (Cert.ReferenceWinIdeal.defs (F := Ideal)) (onTc (τ := Cert.ReferenceWinIdeal.τ) (Cert.ReferenceWinIdeal.main (F := Ideal))) ⟨m, fun _ => 0, g⟩ (fun r => (∀ c : Dev Cert.ReferenceWinIdeal.nD,
      r.2.mem ((c.tc : Thread Cert.ReferenceWinIdeal.nD Cert.ReferenceWinIdeal.τ).loc Cert.ReferenceWinIdeal.main_arg0) = m ((c.tc : Thread Cert.ReferenceWinIdeal.nD Cert.ReferenceWinIdeal.τ).loc Cert.ReferenceWinIdeal.main_arg0)
      ∧ r.2.mem ((c.tc : Thread Cert.ReferenceWinIdeal.nD Cert.ReferenceWinIdeal.τ).loc Cert.ReferenceWinIdeal.main_arg1) = m ((c.tc : Thread Cert.ReferenceWinIdeal.nD Cert.ReferenceWinIdeal.τ).loc Cert.ReferenceWinIdeal.main_arg1)
      ∧ r.2.mem ((c.tc : Thread Cert.ReferenceWinIdeal.nD Cert.ReferenceWinIdeal.τ).loc Cert.ReferenceWinIdeal.main_arg2) = m ((c.tc : Thread Cert.ReferenceWinIdeal.nD Cert.ReferenceWinIdeal.τ).loc Cert.ReferenceWinIdeal.main_arg2)
      ∧ r.2.mem ((c.tc : Thread Cert.ReferenceWinIdeal.nD Cert.ReferenceWinIdeal.τ).loc Cert.ReferenceWinIdeal.main_arg3) = m ((c.tc : Thread Cert.ReferenceWinIdeal.nD Cert.ReferenceWinIdeal.τ).loc Cert.ReferenceWinIdeal.main_arg3)
      ∧ r.2.mem ((c.tc : Thread Cert.ReferenceWinIdeal.nD Cert.ReferenceWinIdeal.τ).loc Cert.ReferenceWinIdeal.main_arg4) = m ((c.tc : Thread Cert.ReferenceWinIdeal.nD Cert.ReferenceWinIdeal.τ).loc Cert.ReferenceWinIdeal.main_arg4)
      ∧ r.2.mem ((c.tc : Thread Cert.ReferenceWinIdeal.nD Cert.ReferenceWinIdeal.τ).loc Cert.ReferenceWinIdeal.main_arg5) = m ((c.tc : Thread Cert.ReferenceWinIdeal.nD Cert.ReferenceWinIdeal.τ).loc Cert.ReferenceWinIdeal.main_arg5)
      ∧ r.2.mem ((c.tc : Thread Cert.ReferenceWinIdeal.nD Cert.ReferenceWinIdeal.τ).loc Cert.ReferenceWinIdeal.main_arg6) = m ((c.tc : Thread Cert.ReferenceWinIdeal.nD Cert.ReferenceWinIdeal.τ).loc Cert.ReferenceWinIdeal.main_arg6))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "clamp" .f32 0xEFA18F08#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_KernelFfn_KernelFfnIdeal : Prop :=
  True

def algebraic_KernelFfnIdeal_ReferenceFfnIdeal [hKernelFfnIdeal : Cert.KernelFfnIdeal.Facts] [hReferenceFfnIdeal : Cert.ReferenceFfnIdeal.Facts] : Prop :=
  ∀ (m : (ℓ : Loc Cert.KernelFfnIdeal.nD Cert.KernelFfnIdeal.τ Cert.KernelFfnIdeal.sig) → Buf (Elt Ideal) ℓ) (g : Dev Cert.KernelFfnIdeal.nD → PrngReg)
    (m' : (ℓ : Loc Cert.ReferenceFfnIdeal.nD Cert.ReferenceFfnIdeal.τ Cert.ReferenceFfnIdeal.sig) → Buf (Elt Ideal) ℓ) (g' : Dev Cert.ReferenceFfnIdeal.nD → PrngReg), Pre_KernelFfnIdeal m →
    (∀ c : Dev Cert.KernelFfnIdeal.nD,
      m' ((c.tc : Thread Cert.ReferenceFfnIdeal.nD Cert.ReferenceFfnIdeal.τ).loc Cert.ReferenceFfnIdeal.main_arg0) = m ((c.tc : Thread Cert.KernelFfnIdeal.nD Cert.KernelFfnIdeal.τ).loc Cert.KernelFfnIdeal.main_arg0)
      ∧ m' ((c.tc : Thread Cert.ReferenceFfnIdeal.nD Cert.ReferenceFfnIdeal.τ).loc Cert.ReferenceFfnIdeal.main_arg1) = m ((c.tc : Thread Cert.KernelFfnIdeal.nD Cert.KernelFfnIdeal.τ).loc Cert.KernelFfnIdeal.main_arg1)
      ∧ m' ((c.tc : Thread Cert.ReferenceFfnIdeal.nD Cert.ReferenceFfnIdeal.τ).loc Cert.ReferenceFfnIdeal.main_arg2) = m ((c.tc : Thread Cert.KernelFfnIdeal.nD Cert.KernelFfnIdeal.τ).loc Cert.KernelFfnIdeal.main_arg2)
      ∧ m' ((c.tc : Thread Cert.ReferenceFfnIdeal.nD Cert.ReferenceFfnIdeal.τ).loc Cert.ReferenceFfnIdeal.main_arg3) = m ((c.tc : Thread Cert.KernelFfnIdeal.nD Cert.KernelFfnIdeal.τ).loc Cert.KernelFfnIdeal.main_arg3)
      ∧ m' ((c.tc : Thread Cert.ReferenceFfnIdeal.nD Cert.ReferenceFfnIdeal.τ).loc Cert.ReferenceFfnIdeal.main_arg4) = m ((c.tc : Thread Cert.KernelFfnIdeal.nD Cert.KernelFfnIdeal.τ).loc Cert.KernelFfnIdeal.main_arg4)) →
    ∃ (v0 : (c : Dev Cert.KernelFfnIdeal.nD) → Buf (Elt Ideal) ((c.tc : Thread Cert.KernelFfnIdeal.nD Cert.KernelFfnIdeal.τ).loc Cert.KernelFfnIdeal.main_v4)),
      θ_run (Cert.KernelFfnIdeal.defs (F := Ideal)) (onTc (τ := Cert.KernelFfnIdeal.τ) (Cert.KernelFfnIdeal.main (F := Ideal))) ⟨m, fun _ => 0, g⟩ (fun r => ∀ c : Dev Cert.KernelFfnIdeal.nD,
          r.2.mem ((c.tc : Thread Cert.KernelFfnIdeal.nD Cert.KernelFfnIdeal.τ).loc Cert.KernelFfnIdeal.main_v4) = v0 c
          ∧ r.2.mem ((c.tc : Thread Cert.KernelFfnIdeal.nD Cert.KernelFfnIdeal.τ).loc Cert.KernelFfnIdeal.main_arg0) = m ((c.tc : Thread Cert.KernelFfnIdeal.nD Cert.KernelFfnIdeal.τ).loc Cert.KernelFfnIdeal.main_arg0)
          ∧ r.2.mem ((c.tc : Thread Cert.KernelFfnIdeal.nD Cert.KernelFfnIdeal.τ).loc Cert.KernelFfnIdeal.main_arg1) = m ((c.tc : Thread Cert.KernelFfnIdeal.nD Cert.KernelFfnIdeal.τ).loc Cert.KernelFfnIdeal.main_arg1)
          ∧ r.2.mem ((c.tc : Thread Cert.KernelFfnIdeal.nD Cert.KernelFfnIdeal.τ).loc Cert.KernelFfnIdeal.main_arg2) = m ((c.tc : Thread Cert.KernelFfnIdeal.nD Cert.KernelFfnIdeal.τ).loc Cert.KernelFfnIdeal.main_arg2)
          ∧ r.2.mem ((c.tc : Thread Cert.KernelFfnIdeal.nD Cert.KernelFfnIdeal.τ).loc Cert.KernelFfnIdeal.main_arg3) = m ((c.tc : Thread Cert.KernelFfnIdeal.nD Cert.KernelFfnIdeal.τ).loc Cert.KernelFfnIdeal.main_arg3)
          ∧ r.2.mem ((c.tc : Thread Cert.KernelFfnIdeal.nD Cert.KernelFfnIdeal.τ).loc Cert.KernelFfnIdeal.main_arg4) = m ((c.tc : Thread Cert.KernelFfnIdeal.nD Cert.KernelFfnIdeal.τ).loc Cert.KernelFfnIdeal.main_arg4))
      ∧ θ_run (Cert.ReferenceFfnIdeal.defs (F := Ideal)) (onTc (τ := Cert.ReferenceFfnIdeal.τ) (Cert.ReferenceFfnIdeal.main (F := Ideal))) ⟨m', fun _ => 0, g'⟩ (fun r => ∀ c : Dev Cert.ReferenceFfnIdeal.nD,
          r.2.mem ((c.tc : Thread Cert.ReferenceFfnIdeal.nD Cert.ReferenceFfnIdeal.τ).loc Cert.ReferenceFfnIdeal.main_v5) = v0 c
          ∧ r.2.mem ((c.tc : Thread Cert.ReferenceFfnIdeal.nD Cert.ReferenceFfnIdeal.τ).loc Cert.ReferenceFfnIdeal.main_arg0) = m' ((c.tc : Thread Cert.ReferenceFfnIdeal.nD Cert.ReferenceFfnIdeal.τ).loc Cert.ReferenceFfnIdeal.main_arg0)
          ∧ r.2.mem ((c.tc : Thread Cert.ReferenceFfnIdeal.nD Cert.ReferenceFfnIdeal.τ).loc Cert.ReferenceFfnIdeal.main_arg1) = m' ((c.tc : Thread Cert.ReferenceFfnIdeal.nD Cert.ReferenceFfnIdeal.τ).loc Cert.ReferenceFfnIdeal.main_arg1)
          ∧ r.2.mem ((c.tc : Thread Cert.ReferenceFfnIdeal.nD Cert.ReferenceFfnIdeal.τ).loc Cert.ReferenceFfnIdeal.main_arg2) = m' ((c.tc : Thread Cert.ReferenceFfnIdeal.nD Cert.ReferenceFfnIdeal.τ).loc Cert.ReferenceFfnIdeal.main_arg2)
          ∧ r.2.mem ((c.tc : Thread Cert.ReferenceFfnIdeal.nD Cert.ReferenceFfnIdeal.τ).loc Cert.ReferenceFfnIdeal.main_arg3) = m' ((c.tc : Thread Cert.ReferenceFfnIdeal.nD Cert.ReferenceFfnIdeal.τ).loc Cert.ReferenceFfnIdeal.main_arg3)
          ∧ r.2.mem ((c.tc : Thread Cert.ReferenceFfnIdeal.nD Cert.ReferenceFfnIdeal.τ).loc Cert.ReferenceFfnIdeal.main_arg4) = m' ((c.tc : Thread Cert.ReferenceFfnIdeal.nD Cert.ReferenceFfnIdeal.τ).loc Cert.ReferenceFfnIdeal.main_arg4))

def preserves_KernelOut_KernelOutIdeal : Prop :=
  True

def algebraic_KernelOutIdeal_ReferenceOutIdeal [hKernelOutIdeal : Cert.KernelOutIdeal.Facts] [hReferenceOutIdeal : Cert.ReferenceOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg)
    (m' : (ℓ : Loc Cert.ReferenceOutIdeal.nD Cert.ReferenceOutIdeal.τ Cert.ReferenceOutIdeal.sig) → Buf (Elt Ideal) ℓ) (g' : Dev Cert.ReferenceOutIdeal.nD → PrngReg), Pre_KernelOutIdeal m →
    (∀ c : Dev Cert.KernelOutIdeal.nD,
      m' ((c.tc : Thread Cert.ReferenceOutIdeal.nD Cert.ReferenceOutIdeal.τ).loc Cert.ReferenceOutIdeal.main_arg0) = m ((c.tc : Thread Cert.KernelOutIdeal.nD Cert.KernelOutIdeal.τ).loc Cert.KernelOutIdeal.main_arg0)
      ∧ m' ((c.tc : Thread Cert.ReferenceOutIdeal.nD Cert.ReferenceOutIdeal.τ).loc Cert.ReferenceOutIdeal.main_arg1) = m ((c.tc : Thread Cert.KernelOutIdeal.nD Cert.KernelOutIdeal.τ).loc Cert.KernelOutIdeal.main_arg1)
      ∧ m' ((c.tc : Thread Cert.ReferenceOutIdeal.nD Cert.ReferenceOutIdeal.τ).loc Cert.ReferenceOutIdeal.main_arg2) = m ((c.tc : Thread Cert.KernelOutIdeal.nD Cert.KernelOutIdeal.τ).loc Cert.KernelOutIdeal.main_arg2)
      ∧ m' ((c.tc : Thread Cert.ReferenceOutIdeal.nD Cert.ReferenceOutIdeal.τ).loc Cert.ReferenceOutIdeal.main_arg3) = m ((c.tc : Thread Cert.KernelOutIdeal.nD Cert.KernelOutIdeal.τ).loc Cert.KernelOutIdeal.main_arg3)
      ∧ m' ((c.tc : Thread Cert.ReferenceOutIdeal.nD Cert.ReferenceOutIdeal.τ).loc Cert.ReferenceOutIdeal.main_arg4) = m ((c.tc : Thread Cert.KernelOutIdeal.nD Cert.KernelOutIdeal.τ).loc Cert.KernelOutIdeal.main_arg4)
      ∧ m' ((c.tc : Thread Cert.ReferenceOutIdeal.nD Cert.ReferenceOutIdeal.τ).loc Cert.ReferenceOutIdeal.main_arg5) = m ((c.tc : Thread Cert.KernelOutIdeal.nD Cert.KernelOutIdeal.τ).loc Cert.KernelOutIdeal.main_arg5)
      ∧ m' ((c.tc : Thread Cert.ReferenceOutIdeal.nD Cert.ReferenceOutIdeal.τ).loc Cert.ReferenceOutIdeal.main_arg6) = m ((c.tc : Thread Cert.KernelOutIdeal.nD Cert.KernelOutIdeal.τ).loc Cert.KernelOutIdeal.main_arg6)
      ∧ m' ((c.tc : Thread Cert.ReferenceOutIdeal.nD Cert.ReferenceOutIdeal.τ).loc Cert.ReferenceOutIdeal.main_arg7) = m ((c.tc : Thread Cert.KernelOutIdeal.nD Cert.KernelOutIdeal.τ).loc Cert.KernelOutIdeal.main_arg7)
      ∧ m' ((c.tc : Thread Cert.ReferenceOutIdeal.nD Cert.ReferenceOutIdeal.τ).loc Cert.ReferenceOutIdeal.main_arg8) = m ((c.tc : Thread Cert.KernelOutIdeal.nD Cert.KernelOutIdeal.τ).loc Cert.KernelOutIdeal.main_arg8)) →
    ∃ (v0 : (c : Dev Cert.KernelOutIdeal.nD) → Buf (Elt Ideal) ((c.tc : Thread Cert.KernelOutIdeal.nD Cert.KernelOutIdeal.τ).loc Cert.KernelOutIdeal.main_v9_0)) (v1 : (c : Dev Cert.KernelOutIdeal.nD) → Buf (Elt Ideal) ((c.tc : Thread Cert.KernelOutIdeal.nD Cert.KernelOutIdeal.τ).loc Cert.KernelOutIdeal.main_v9_1)),
      θ_run (Cert.KernelOutIdeal.defs (F := Ideal)) (onTc (τ := Cert.KernelOutIdeal.τ) (Cert.KernelOutIdeal.main (F := Ideal))) ⟨m, fun _ => 0, g⟩ (fun r => ∀ c : Dev Cert.KernelOutIdeal.nD,
          r.2.mem ((c.tc : Thread Cert.KernelOutIdeal.nD Cert.KernelOutIdeal.τ).loc Cert.KernelOutIdeal.main_v9_0) = v0 c
          ∧ r.2.mem ((c.tc : Thread Cert.KernelOutIdeal.nD Cert.KernelOutIdeal.τ).loc Cert.KernelOutIdeal.main_v9_1) = v1 c
          ∧ r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
          ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
          ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2)
          ∧ r.2.mem ((c.tc : Thread Cert.KernelOutIdeal.nD Cert.KernelOutIdeal.τ).loc Cert.KernelOutIdeal.main_arg3) = m ((c.tc : Thread Cert.KernelOutIdeal.nD Cert.KernelOutIdeal.τ).loc Cert.KernelOutIdeal.main_arg3)
          ∧ r.2.mem ((c.tc : Thread Cert.KernelOutIdeal.nD Cert.KernelOutIdeal.τ).loc Cert.KernelOutIdeal.main_arg4) = m ((c.tc : Thread Cert.KernelOutIdeal.nD Cert.KernelOutIdeal.τ).loc Cert.KernelOutIdeal.main_arg4)
          ∧ r.2.mem ((c.tc : Thread Cert.KernelOutIdeal.nD Cert.KernelOutIdeal.τ).loc Cert.KernelOutIdeal.main_arg5) = m ((c.tc : Thread Cert.KernelOutIdeal.nD Cert.KernelOutIdeal.τ).loc Cert.KernelOutIdeal.main_arg5)
          ∧ r.2.mem ((c.tc : Thread Cert.KernelOutIdeal.nD Cert.KernelOutIdeal.τ).loc Cert.KernelOutIdeal.main_arg6) = m ((c.tc : Thread Cert.KernelOutIdeal.nD Cert.KernelOutIdeal.τ).loc Cert.KernelOutIdeal.main_arg6)
          ∧ r.2.mem ((c.tc : Thread Cert.KernelOutIdeal.nD Cert.KernelOutIdeal.τ).loc Cert.KernelOutIdeal.main_arg7) = m ((c.tc : Thread Cert.KernelOutIdeal.nD Cert.KernelOutIdeal.τ).loc Cert.KernelOutIdeal.main_arg7)
          ∧ r.2.mem ((c.tc : Thread Cert.KernelOutIdeal.nD Cert.KernelOutIdeal.τ).loc Cert.KernelOutIdeal.main_arg8) = m ((c.tc : Thread Cert.KernelOutIdeal.nD Cert.KernelOutIdeal.τ).loc Cert.KernelOutIdeal.main_arg8))
      ∧ θ_run (Cert.ReferenceOutIdeal.defs (F := Ideal)) (onTc (τ := Cert.ReferenceOutIdeal.τ) (Cert.ReferenceOutIdeal.main (F := Ideal))) ⟨m', fun _ => 0, g'⟩ (fun r => ∀ c : Dev Cert.ReferenceOutIdeal.nD,
          r.2.mem ((c.tc : Thread Cert.ReferenceOutIdeal.nD Cert.ReferenceOutIdeal.τ).loc Cert.ReferenceOutIdeal.main_v18) = v0 c
          ∧ r.2.mem ((c.tc : Thread Cert.ReferenceOutIdeal.nD Cert.ReferenceOutIdeal.τ).loc Cert.ReferenceOutIdeal.main_v32) = v1 c
          ∧ r.2.mem ((c.tc : Thread Cert.ReferenceOutIdeal.nD Cert.ReferenceOutIdeal.τ).loc Cert.ReferenceOutIdeal.main_arg0) = m' ((c.tc : Thread Cert.ReferenceOutIdeal.nD Cert.ReferenceOutIdeal.τ).loc Cert.ReferenceOutIdeal.main_arg0)
          ∧ r.2.mem ((c.tc : Thread Cert.ReferenceOutIdeal.nD Cert.ReferenceOutIdeal.τ).loc Cert.ReferenceOutIdeal.main_arg1) = m' ((c.tc : Thread Cert.ReferenceOutIdeal.nD Cert.ReferenceOutIdeal.τ).loc Cert.ReferenceOutIdeal.main_arg1)
          ∧ r.2.mem ((c.tc : Thread Cert.ReferenceOutIdeal.nD Cert.ReferenceOutIdeal.τ).loc Cert.ReferenceOutIdeal.main_arg2) = m' ((c.tc : Thread Cert.ReferenceOutIdeal.nD Cert.ReferenceOutIdeal.τ).loc Cert.ReferenceOutIdeal.main_arg2)
          ∧ r.2.mem ((c.tc : Thread Cert.ReferenceOutIdeal.nD Cert.ReferenceOutIdeal.τ).loc Cert.ReferenceOutIdeal.main_arg3) = m' ((c.tc : Thread Cert.ReferenceOutIdeal.nD Cert.ReferenceOutIdeal.τ).loc Cert.ReferenceOutIdeal.main_arg3)
          ∧ r.2.mem ((c.tc : Thread Cert.ReferenceOutIdeal.nD Cert.ReferenceOutIdeal.τ).loc Cert.ReferenceOutIdeal.main_arg4) = m' ((c.tc : Thread Cert.ReferenceOutIdeal.nD Cert.ReferenceOutIdeal.τ).loc Cert.ReferenceOutIdeal.main_arg4)
          ∧ r.2.mem ((c.tc : Thread Cert.ReferenceOutIdeal.nD Cert.ReferenceOutIdeal.τ).loc Cert.ReferenceOutIdeal.main_arg5) = m' ((c.tc : Thread Cert.ReferenceOutIdeal.nD Cert.ReferenceOutIdeal.τ).loc Cert.ReferenceOutIdeal.main_arg5)
          ∧ r.2.mem ((c.tc : Thread Cert.ReferenceOutIdeal.nD Cert.ReferenceOutIdeal.τ).loc Cert.ReferenceOutIdeal.main_arg6) = m' ((c.tc : Thread Cert.ReferenceOutIdeal.nD Cert.ReferenceOutIdeal.τ).loc Cert.ReferenceOutIdeal.main_arg6)
          ∧ r.2.mem ((c.tc : Thread Cert.ReferenceOutIdeal.nD Cert.ReferenceOutIdeal.τ).loc Cert.ReferenceOutIdeal.main_arg7) = m' ((c.tc : Thread Cert.ReferenceOutIdeal.nD Cert.ReferenceOutIdeal.τ).loc Cert.ReferenceOutIdeal.main_arg7)
          ∧ r.2.mem ((c.tc : Thread Cert.ReferenceOutIdeal.nD Cert.ReferenceOutIdeal.τ).loc Cert.ReferenceOutIdeal.main_arg8) = m' ((c.tc : Thread Cert.ReferenceOutIdeal.nD Cert.ReferenceOutIdeal.τ).loc Cert.ReferenceOutIdeal.main_arg8))

def preserves_KernelIn_KernelInIdeal : Prop :=
  True

def algebraic_KernelInIdeal_ReferenceInIdeal [hKernelInIdeal : Cert.KernelInIdeal.Facts] [hReferenceInIdeal : Cert.ReferenceInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg)
    (m' : (ℓ : Loc Cert.ReferenceInIdeal.nD Cert.ReferenceInIdeal.τ Cert.ReferenceInIdeal.sig) → Buf (Elt Ideal) ℓ) (g' : Dev Cert.ReferenceInIdeal.nD → PrngReg), Pre_KernelInIdeal m →
    (∀ c : Dev Cert.KernelInIdeal.nD,
      m' ((c.tc : Thread Cert.ReferenceInIdeal.nD Cert.ReferenceInIdeal.τ).loc Cert.ReferenceInIdeal.main_arg0) = m ((c.tc : Thread Cert.KernelInIdeal.nD Cert.KernelInIdeal.τ).loc Cert.KernelInIdeal.main_arg0)
      ∧ m' ((c.tc : Thread Cert.ReferenceInIdeal.nD Cert.ReferenceInIdeal.τ).loc Cert.ReferenceInIdeal.main_arg1) = m ((c.tc : Thread Cert.KernelInIdeal.nD Cert.KernelInIdeal.τ).loc Cert.KernelInIdeal.main_arg1)
      ∧ m' ((c.tc : Thread Cert.ReferenceInIdeal.nD Cert.ReferenceInIdeal.τ).loc Cert.ReferenceInIdeal.main_arg2) = m ((c.tc : Thread Cert.KernelInIdeal.nD Cert.KernelInIdeal.τ).loc Cert.KernelInIdeal.main_arg2)) →
    ∃ (v0 : (c : Dev Cert.KernelInIdeal.nD) → Buf (Elt Ideal) ((c.tc : Thread Cert.KernelInIdeal.nD Cert.KernelInIdeal.τ).loc Cert.KernelInIdeal.main_v14)),
      θ_run (Cert.KernelInIdeal.defs (F := Ideal)) (onTc (τ := Cert.KernelInIdeal.τ) (Cert.KernelInIdeal.main (F := Ideal))) ⟨m, fun _ => 0, g⟩ (fun r => ∀ c : Dev Cert.KernelInIdeal.nD,
          r.2.mem ((c.tc : Thread Cert.KernelInIdeal.nD Cert.KernelInIdeal.τ).loc Cert.KernelInIdeal.main_v14) = v0 c
          ∧ r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
          ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1)
          ∧ r.2.mem ((c.tc : Thread Cert.KernelInIdeal.nD Cert.KernelInIdeal.τ).loc Cert.KernelInIdeal.main_arg2) = m ((c.tc : Thread Cert.KernelInIdeal.nD Cert.KernelInIdeal.τ).loc Cert.KernelInIdeal.main_arg2))
      ∧ θ_run (Cert.ReferenceInIdeal.defs (F := Ideal)) (onTc (τ := Cert.ReferenceInIdeal.τ) (Cert.ReferenceInIdeal.main (F := Ideal))) ⟨m', fun _ => 0, g'⟩ (fun r => ∀ c : Dev Cert.ReferenceInIdeal.nD,
          r.2.mem ((c.tc : Thread Cert.ReferenceInIdeal.nD Cert.ReferenceInIdeal.τ).loc Cert.ReferenceInIdeal.main_v25) = v0 c
          ∧ r.2.mem ((c.tc : Thread Cert.ReferenceInIdeal.nD Cert.ReferenceInIdeal.τ).loc Cert.ReferenceInIdeal.main_arg0) = m' ((c.tc : Thread Cert.ReferenceInIdeal.nD Cert.ReferenceInIdeal.τ).loc Cert.ReferenceInIdeal.main_arg0)
          ∧ r.2.mem ((c.tc : Thread Cert.ReferenceInIdeal.nD Cert.ReferenceInIdeal.τ).loc Cert.ReferenceInIdeal.main_arg1) = m' ((c.tc : Thread Cert.ReferenceInIdeal.nD Cert.ReferenceInIdeal.τ).loc Cert.ReferenceInIdeal.main_arg1)
          ∧ r.2.mem ((c.tc : Thread Cert.ReferenceInIdeal.nD Cert.ReferenceInIdeal.τ).loc Cert.ReferenceInIdeal.main_arg2) = m' ((c.tc : Thread Cert.ReferenceInIdeal.nD Cert.ReferenceInIdeal.τ).loc Cert.ReferenceInIdeal.main_arg2))

def preserves_KernelPost_KernelPostIdeal : Prop :=
  True

def algebraic_KernelPostIdeal_ReferencePostIdeal_pre_finite_keys [hKernelPostIdeal : Cert.KernelPostIdeal.Facts] [hReferencePostIdeal : Cert.ReferencePostIdeal.Facts] [hPre_finite_keys : Cert.Pre_finite_keys.Facts] : Prop :=
  ∀ (m : (ℓ : Loc Cert.KernelPostIdeal.nD Cert.KernelPostIdeal.τ Cert.KernelPostIdeal.sig) → Buf (Elt Ideal) ℓ) (g : Dev Cert.KernelPostIdeal.nD → PrngReg)
    (m' : (ℓ : Loc Cert.ReferencePostIdeal.nD Cert.ReferencePostIdeal.τ Cert.ReferencePostIdeal.sig) → Buf (Elt Ideal) ℓ) (g' : Dev Cert.ReferencePostIdeal.nD → PrngReg), Pre_KernelPostIdeal_finite_keys m →
    (∀ c : Dev Cert.KernelPostIdeal.nD,
      m' ((c.tc : Thread Cert.ReferencePostIdeal.nD Cert.ReferencePostIdeal.τ).loc Cert.ReferencePostIdeal.main_arg0) = m ((c.tc : Thread Cert.KernelPostIdeal.nD Cert.KernelPostIdeal.τ).loc Cert.KernelPostIdeal.main_arg0)
      ∧ m' ((c.tc : Thread Cert.ReferencePostIdeal.nD Cert.ReferencePostIdeal.τ).loc Cert.ReferencePostIdeal.main_arg1) = m ((c.tc : Thread Cert.KernelPostIdeal.nD Cert.KernelPostIdeal.τ).loc Cert.KernelPostIdeal.main_arg1)
      ∧ m' ((c.tc : Thread Cert.ReferencePostIdeal.nD Cert.ReferencePostIdeal.τ).loc Cert.ReferencePostIdeal.main_arg2) = m ((c.tc : Thread Cert.KernelPostIdeal.nD Cert.KernelPostIdeal.τ).loc Cert.KernelPostIdeal.main_arg2)
      ∧ m' ((c.tc : Thread Cert.ReferencePostIdeal.nD Cert.ReferencePostIdeal.τ).loc Cert.ReferencePostIdeal.main_arg3) = m ((c.tc : Thread Cert.KernelPostIdeal.nD Cert.KernelPostIdeal.τ).loc Cert.KernelPostIdeal.main_arg3)
      ∧ m' ((c.tc : Thread Cert.ReferencePostIdeal.nD Cert.ReferencePostIdeal.τ).loc Cert.ReferencePostIdeal.main_arg4) = m ((c.tc : Thread Cert.KernelPostIdeal.nD Cert.KernelPostIdeal.τ).loc Cert.KernelPostIdeal.main_arg4)
      ∧ m' ((c.tc : Thread Cert.ReferencePostIdeal.nD Cert.ReferencePostIdeal.τ).loc Cert.ReferencePostIdeal.main_arg5) = m ((c.tc : Thread Cert.KernelPostIdeal.nD Cert.KernelPostIdeal.τ).loc Cert.KernelPostIdeal.main_arg5)
      ∧ m' ((c.tc : Thread Cert.ReferencePostIdeal.nD Cert.ReferencePostIdeal.τ).loc Cert.ReferencePostIdeal.main_arg6) = m ((c.tc : Thread Cert.KernelPostIdeal.nD Cert.KernelPostIdeal.τ).loc Cert.KernelPostIdeal.main_arg6)
      ∧ m' ((c.tc : Thread Cert.ReferencePostIdeal.nD Cert.ReferencePostIdeal.τ).loc Cert.ReferencePostIdeal.main_arg7) = m ((c.tc : Thread Cert.KernelPostIdeal.nD Cert.KernelPostIdeal.τ).loc Cert.KernelPostIdeal.main_arg7)
      ∧ m' ((c.tc : Thread Cert.ReferencePostIdeal.nD Cert.ReferencePostIdeal.τ).loc Cert.ReferencePostIdeal.main_arg8) = m ((c.tc : Thread Cert.KernelPostIdeal.nD Cert.KernelPostIdeal.τ).loc Cert.KernelPostIdeal.main_arg8)
      ∧ m' ((c.tc : Thread Cert.ReferencePostIdeal.nD Cert.ReferencePostIdeal.τ).loc Cert.ReferencePostIdeal.main_arg9) = m ((c.tc : Thread Cert.KernelPostIdeal.nD Cert.KernelPostIdeal.τ).loc Cert.KernelPostIdeal.main_arg9)
      ∧ m' ((c.tc : Thread Cert.ReferencePostIdeal.nD Cert.ReferencePostIdeal.τ).loc Cert.ReferencePostIdeal.main_arg10) = m ((c.tc : Thread Cert.KernelPostIdeal.nD Cert.KernelPostIdeal.τ).loc Cert.KernelPostIdeal.main_arg10)) →
    ∃ (v0 : (c : Dev Cert.KernelPostIdeal.nD) → Buf (Elt Ideal) ((c.tc : Thread Cert.KernelPostIdeal.nD Cert.KernelPostIdeal.τ).loc Cert.KernelPostIdeal.main_v76_1)) (v1 : (c : Dev Cert.KernelPostIdeal.nD) → Buf (Elt Ideal) ((c.tc : Thread Cert.KernelPostIdeal.nD Cert.KernelPostIdeal.τ).loc Cert.KernelPostIdeal.main_v76_2)) (v2 : (c : Dev Cert.KernelPostIdeal.nD) → Buf (Elt Ideal) ((c.tc : Thread Cert.KernelPostIdeal.nD Cert.KernelPostIdeal.τ).loc Cert.KernelPostIdeal.main_v76_3)) (v3 : (c : Dev Cert.KernelPostIdeal.nD) → Buf (Elt Ideal) ((c.tc : Thread Cert.KernelPostIdeal.nD Cert.KernelPostIdeal.τ).loc Cert.KernelPostIdeal.main_v76_6)) (v4 : (c : Dev Cert.KernelPostIdeal.nD) → Buf (Elt Ideal) ((c.tc : Thread Cert.KernelPostIdeal.nD Cert.KernelPostIdeal.τ).loc Cert.KernelPostIdeal.main_v76_8)),
      θ_run (Cert.KernelPostIdeal.defs (F := Ideal)) (onTc (τ := Cert.KernelPostIdeal.τ) (Cert.KernelPostIdeal.main (F := Ideal))) ⟨m, fun _ => 0, g⟩ (fun r => ∀ c : Dev Cert.KernelPostIdeal.nD,
          r.2.mem ((c.tc : Thread Cert.KernelPostIdeal.nD Cert.KernelPostIdeal.τ).loc Cert.KernelPostIdeal.main_v76_1) = v0 c
          ∧ r.2.mem ((c.tc : Thread Cert.KernelPostIdeal.nD Cert.KernelPostIdeal.τ).loc Cert.KernelPostIdeal.main_v76_2) = v1 c
          ∧ r.2.mem ((c.tc : Thread Cert.KernelPostIdeal.nD Cert.KernelPostIdeal.τ).loc Cert.KernelPostIdeal.main_v76_3) = v2 c
          ∧ r.2.mem ((c.tc : Thread Cert.KernelPostIdeal.nD Cert.KernelPostIdeal.τ).loc Cert.KernelPostIdeal.main_v76_6) = v3 c
          ∧ r.2.mem ((c.tc : Thread Cert.KernelPostIdeal.nD Cert.KernelPostIdeal.τ).loc Cert.KernelPostIdeal.main_v76_8) = v4 c
          ∧ r.2.mem ((c.tc : Thread Cert.KernelPostIdeal.nD Cert.KernelPostIdeal.τ).loc Cert.KernelPostIdeal.main_arg0) = m ((c.tc : Thread Cert.KernelPostIdeal.nD Cert.KernelPostIdeal.τ).loc Cert.KernelPostIdeal.main_arg0)
          ∧ r.2.mem ((c.tc : Thread Cert.KernelPostIdeal.nD Cert.KernelPostIdeal.τ).loc Cert.KernelPostIdeal.main_arg1) = m ((c.tc : Thread Cert.KernelPostIdeal.nD Cert.KernelPostIdeal.τ).loc Cert.KernelPostIdeal.main_arg1)
          ∧ r.2.mem ((c.tc : Thread Cert.KernelPostIdeal.nD Cert.KernelPostIdeal.τ).loc Cert.KernelPostIdeal.main_arg2) = m ((c.tc : Thread Cert.KernelPostIdeal.nD Cert.KernelPostIdeal.τ).loc Cert.KernelPostIdeal.main_arg2)
          ∧ r.2.mem ((c.tc : Thread Cert.KernelPostIdeal.nD Cert.KernelPostIdeal.τ).loc Cert.KernelPostIdeal.main_arg3) = m ((c.tc : Thread Cert.KernelPostIdeal.nD Cert.KernelPostIdeal.τ).loc Cert.KernelPostIdeal.main_arg3)
          ∧ r.2.mem ((c.tc : Thread Cert.KernelPostIdeal.nD Cert.KernelPostIdeal.τ).loc Cert.KernelPostIdeal.main_arg4) = m ((c.tc : Thread Cert.KernelPostIdeal.nD Cert.KernelPostIdeal.τ).loc Cert.KernelPostIdeal.main_arg4)
          ∧ r.2.mem ((c.tc : Thread Cert.KernelPostIdeal.nD Cert.KernelPostIdeal.τ).loc Cert.KernelPostIdeal.main_arg5) = m ((c.tc : Thread Cert.KernelPostIdeal.nD Cert.KernelPostIdeal.τ).loc Cert.KernelPostIdeal.main_arg5)
          ∧ r.2.mem ((c.tc : Thread Cert.KernelPostIdeal.nD Cert.KernelPostIdeal.τ).loc Cert.KernelPostIdeal.main_arg6) = m ((c.tc : Thread Cert.KernelPostIdeal.nD Cert.KernelPostIdeal.τ).loc Cert.KernelPostIdeal.main_arg6)
          ∧ r.2.mem ((c.tc : Thread Cert.KernelPostIdeal.nD Cert.KernelPostIdeal.τ).loc Cert.KernelPostIdeal.main_arg7) = m ((c.tc : Thread Cert.KernelPostIdeal.nD Cert.KernelPostIdeal.τ).loc Cert.KernelPostIdeal.main_arg7)
          ∧ r.2.mem ((c.tc : Thread Cert.KernelPostIdeal.nD Cert.KernelPostIdeal.τ).loc Cert.KernelPostIdeal.main_arg8) = m ((c.tc : Thread Cert.KernelPostIdeal.nD Cert.KernelPostIdeal.τ).loc Cert.KernelPostIdeal.main_arg8)
          ∧ r.2.mem ((c.tc : Thread Cert.KernelPostIdeal.nD Cert.KernelPostIdeal.τ).loc Cert.KernelPostIdeal.main_arg9) = m ((c.tc : Thread Cert.KernelPostIdeal.nD Cert.KernelPostIdeal.τ).loc Cert.KernelPostIdeal.main_arg9)
          ∧ r.2.mem ((c.tc : Thread Cert.KernelPostIdeal.nD Cert.KernelPostIdeal.τ).loc Cert.KernelPostIdeal.main_arg10) = m ((c.tc : Thread Cert.KernelPostIdeal.nD Cert.KernelPostIdeal.τ).loc Cert.KernelPostIdeal.main_arg10))
      ∧ θ_run (Cert.ReferencePostIdeal.defs (F := Ideal)) (onTc (τ := Cert.ReferencePostIdeal.τ) (Cert.ReferencePostIdeal.main (F := Ideal))) ⟨m', fun _ => 0, g'⟩ (fun r => ∀ c : Dev Cert.ReferencePostIdeal.nD,
          r.2.mem ((c.tc : Thread Cert.ReferencePostIdeal.nD Cert.ReferencePostIdeal.τ).loc Cert.ReferencePostIdeal.main_v2) = v0 c
          ∧ r.2.mem ((c.tc : Thread Cert.ReferencePostIdeal.nD Cert.ReferencePostIdeal.τ).loc Cert.ReferencePostIdeal.main_v67) = v1 c
          ∧ r.2.mem ((c.tc : Thread Cert.ReferencePostIdeal.nD Cert.ReferencePostIdeal.τ).loc Cert.ReferencePostIdeal.main_v85) = v2 c
          ∧ r.2.mem ((c.tc : Thread Cert.ReferencePostIdeal.nD Cert.ReferencePostIdeal.τ).loc Cert.ReferencePostIdeal.main_v98) = v3 c
          ∧ r.2.mem ((c.tc : Thread Cert.ReferencePostIdeal.nD Cert.ReferencePostIdeal.τ).loc Cert.ReferencePostIdeal.main_v49) = v4 c
          ∧ r.2.mem ((c.tc : Thread Cert.ReferencePostIdeal.nD Cert.ReferencePostIdeal.τ).loc Cert.ReferencePostIdeal.main_arg0) = m' ((c.tc : Thread Cert.ReferencePostIdeal.nD Cert.ReferencePostIdeal.τ).loc Cert.ReferencePostIdeal.main_arg0)
          ∧ r.2.mem ((c.tc : Thread Cert.ReferencePostIdeal.nD Cert.ReferencePostIdeal.τ).loc Cert.ReferencePostIdeal.main_arg1) = m' ((c.tc : Thread Cert.ReferencePostIdeal.nD Cert.ReferencePostIdeal.τ).loc Cert.ReferencePostIdeal.main_arg1)
          ∧ r.2.mem ((c.tc : Thread Cert.ReferencePostIdeal.nD Cert.ReferencePostIdeal.τ).loc Cert.ReferencePostIdeal.main_arg2) = m' ((c.tc : Thread Cert.ReferencePostIdeal.nD Cert.ReferencePostIdeal.τ).loc Cert.ReferencePostIdeal.main_arg2)
          ∧ r.2.mem ((c.tc : Thread Cert.ReferencePostIdeal.nD Cert.ReferencePostIdeal.τ).loc Cert.ReferencePostIdeal.main_arg3) = m' ((c.tc : Thread Cert.ReferencePostIdeal.nD Cert.ReferencePostIdeal.τ).loc Cert.ReferencePostIdeal.main_arg3)
          ∧ r.2.mem ((c.tc : Thread Cert.ReferencePostIdeal.nD Cert.ReferencePostIdeal.τ).loc Cert.ReferencePostIdeal.main_arg4) = m' ((c.tc : Thread Cert.ReferencePostIdeal.nD Cert.ReferencePostIdeal.τ).loc Cert.ReferencePostIdeal.main_arg4)
          ∧ r.2.mem ((c.tc : Thread Cert.ReferencePostIdeal.nD Cert.ReferencePostIdeal.τ).loc Cert.ReferencePostIdeal.main_arg5) = m' ((c.tc : Thread Cert.ReferencePostIdeal.nD Cert.ReferencePostIdeal.τ).loc Cert.ReferencePostIdeal.main_arg5)
          ∧ r.2.mem ((c.tc : Thread Cert.ReferencePostIdeal.nD Cert.ReferencePostIdeal.τ).loc Cert.ReferencePostIdeal.main_arg6) = m' ((c.tc : Thread Cert.ReferencePostIdeal.nD Cert.ReferencePostIdeal.τ).loc Cert.ReferencePostIdeal.main_arg6)
          ∧ r.2.mem ((c.tc : Thread Cert.ReferencePostIdeal.nD Cert.ReferencePostIdeal.τ).loc Cert.ReferencePostIdeal.main_arg7) = m' ((c.tc : Thread Cert.ReferencePostIdeal.nD Cert.ReferencePostIdeal.τ).loc Cert.ReferencePostIdeal.main_arg7)
          ∧ r.2.mem ((c.tc : Thread Cert.ReferencePostIdeal.nD Cert.ReferencePostIdeal.τ).loc Cert.ReferencePostIdeal.main_arg8) = m' ((c.tc : Thread Cert.ReferencePostIdeal.nD Cert.ReferencePostIdeal.τ).loc Cert.ReferencePostIdeal.main_arg8)
          ∧ r.2.mem ((c.tc : Thread Cert.ReferencePostIdeal.nD Cert.ReferencePostIdeal.τ).loc Cert.ReferencePostIdeal.main_arg9) = m' ((c.tc : Thread Cert.ReferencePostIdeal.nD Cert.ReferencePostIdeal.τ).loc Cert.ReferencePostIdeal.main_arg9)
          ∧ r.2.mem ((c.tc : Thread Cert.ReferencePostIdeal.nD Cert.ReferencePostIdeal.τ).loc Cert.ReferencePostIdeal.main_arg10) = m' ((c.tc : Thread Cert.ReferencePostIdeal.nD Cert.ReferencePostIdeal.τ).loc Cert.ReferencePostIdeal.main_arg10))

def preserves_KernelPostSample_KernelPostSampleIdeal : Prop :=
  True

def algebraic_KernelPostSampleIdeal_ReferencePostSampleIdeal_pre_finite_keys_sample [hKernelPostSampleIdeal : Cert.KernelPostSampleIdeal.Facts] [hReferencePostSampleIdeal : Cert.ReferencePostSampleIdeal.Facts] [hPre_finite_keys_sample : Cert.Pre_finite_keys_sample.Facts] : Prop :=
  ∀ (m : (ℓ : Loc Cert.KernelPostSampleIdeal.nD Cert.KernelPostSampleIdeal.τ Cert.KernelPostSampleIdeal.sig) → Buf (Elt Ideal) ℓ) (g : Dev Cert.KernelPostSampleIdeal.nD → PrngReg)
    (m' : (ℓ : Loc Cert.ReferencePostSampleIdeal.nD Cert.ReferencePostSampleIdeal.τ Cert.ReferencePostSampleIdeal.sig) → Buf (Elt Ideal) ℓ) (g' : Dev Cert.ReferencePostSampleIdeal.nD → PrngReg), Pre_KernelPostSampleIdeal_finite_keys_sample m →
    (∀ c : Dev Cert.KernelPostSampleIdeal.nD,
      m' ((c.tc : Thread Cert.ReferencePostSampleIdeal.nD Cert.ReferencePostSampleIdeal.τ).loc Cert.ReferencePostSampleIdeal.main_arg0) = m ((c.tc : Thread Cert.KernelPostSampleIdeal.nD Cert.KernelPostSampleIdeal.τ).loc Cert.KernelPostSampleIdeal.main_arg0)
      ∧ m' ((c.tc : Thread Cert.ReferencePostSampleIdeal.nD Cert.ReferencePostSampleIdeal.τ).loc Cert.ReferencePostSampleIdeal.main_arg1) = m ((c.tc : Thread Cert.KernelPostSampleIdeal.nD Cert.KernelPostSampleIdeal.τ).loc Cert.KernelPostSampleIdeal.main_arg1)
      ∧ m' ((c.tc : Thread Cert.ReferencePostSampleIdeal.nD Cert.ReferencePostSampleIdeal.τ).loc Cert.ReferencePostSampleIdeal.main_arg2) = m ((c.tc : Thread Cert.KernelPostSampleIdeal.nD Cert.KernelPostSampleIdeal.τ).loc Cert.KernelPostSampleIdeal.main_arg2)
      ∧ m' ((c.tc : Thread Cert.ReferencePostSampleIdeal.nD Cert.ReferencePostSampleIdeal.τ).loc Cert.ReferencePostSampleIdeal.main_arg3) = m ((c.tc : Thread Cert.KernelPostSampleIdeal.nD Cert.KernelPostSampleIdeal.τ).loc Cert.KernelPostSampleIdeal.main_arg3)
      ∧ m' ((c.tc : Thread Cert.ReferencePostSampleIdeal.nD Cert.ReferencePostSampleIdeal.τ).loc Cert.ReferencePostSampleIdeal.main_arg4) = m ((c.tc : Thread Cert.KernelPostSampleIdeal.nD Cert.KernelPostSampleIdeal.τ).loc Cert.KernelPostSampleIdeal.main_arg4)
      ∧ m' ((c.tc : Thread Cert.ReferencePostSampleIdeal.nD Cert.ReferencePostSampleIdeal.τ).loc Cert.ReferencePostSampleIdeal.main_arg5) = m ((c.tc : Thread Cert.KernelPostSampleIdeal.nD Cert.KernelPostSampleIdeal.τ).loc Cert.KernelPostSampleIdeal.main_arg5)
      ∧ m' ((c.tc : Thread Cert.ReferencePostSampleIdeal.nD Cert.ReferencePostSampleIdeal.τ).loc Cert.ReferencePostSampleIdeal.main_arg6) = m ((c.tc : Thread Cert.KernelPostSampleIdeal.nD Cert.KernelPostSampleIdeal.τ).loc Cert.KernelPostSampleIdeal.main_arg6)
      ∧ m' ((c.tc : Thread Cert.ReferencePostSampleIdeal.nD Cert.ReferencePostSampleIdeal.τ).loc Cert.ReferencePostSampleIdeal.main_arg7) = m ((c.tc : Thread Cert.KernelPostSampleIdeal.nD Cert.KernelPostSampleIdeal.τ).loc Cert.KernelPostSampleIdeal.main_arg7)
      ∧ m' ((c.tc : Thread Cert.ReferencePostSampleIdeal.nD Cert.ReferencePostSampleIdeal.τ).loc Cert.ReferencePostSampleIdeal.main_arg8) = m ((c.tc : Thread Cert.KernelPostSampleIdeal.nD Cert.KernelPostSampleIdeal.τ).loc Cert.KernelPostSampleIdeal.main_arg8)
      ∧ m' ((c.tc : Thread Cert.ReferencePostSampleIdeal.nD Cert.ReferencePostSampleIdeal.τ).loc Cert.ReferencePostSampleIdeal.main_arg9) = m ((c.tc : Thread Cert.KernelPostSampleIdeal.nD Cert.KernelPostSampleIdeal.τ).loc Cert.KernelPostSampleIdeal.main_arg9)
      ∧ m' ((c.tc : Thread Cert.ReferencePostSampleIdeal.nD Cert.ReferencePostSampleIdeal.τ).loc Cert.ReferencePostSampleIdeal.main_arg10) = m ((c.tc : Thread Cert.KernelPostSampleIdeal.nD Cert.KernelPostSampleIdeal.τ).loc Cert.KernelPostSampleIdeal.main_arg10)) →
    ∃ (v0 : (c : Dev Cert.KernelPostSampleIdeal.nD) → Buf (Elt Ideal) ((c.tc : Thread Cert.KernelPostSampleIdeal.nD Cert.KernelPostSampleIdeal.τ).loc Cert.KernelPostSampleIdeal.main_v76_1)) (v1 : (c : Dev Cert.KernelPostSampleIdeal.nD) → Buf (Elt Ideal) ((c.tc : Thread Cert.KernelPostSampleIdeal.nD Cert.KernelPostSampleIdeal.τ).loc Cert.KernelPostSampleIdeal.main_v76_2)) (v2 : (c : Dev Cert.KernelPostSampleIdeal.nD) → Buf (Elt Ideal) ((c.tc : Thread Cert.KernelPostSampleIdeal.nD Cert.KernelPostSampleIdeal.τ).loc Cert.KernelPostSampleIdeal.main_v76_3)) (v3 : (c : Dev Cert.KernelPostSampleIdeal.nD) → Buf (Elt Ideal) ((c.tc : Thread Cert.KernelPostSampleIdeal.nD Cert.KernelPostSampleIdeal.τ).loc Cert.KernelPostSampleIdeal.main_v76_6)) (v4 : (c : Dev Cert.KernelPostSampleIdeal.nD) → Buf (Elt Ideal) ((c.tc : Thread Cert.KernelPostSampleIdeal.nD Cert.KernelPostSampleIdeal.τ).loc Cert.KernelPostSampleIdeal.main_v76_8)),
      θ_run (Cert.KernelPostSampleIdeal.defs (F := Ideal)) (onTc (τ := Cert.KernelPostSampleIdeal.τ) (Cert.KernelPostSampleIdeal.main (F := Ideal))) ⟨m, fun _ => 0, g⟩ (fun r => ∀ c : Dev Cert.KernelPostSampleIdeal.nD,
          r.2.mem ((c.tc : Thread Cert.KernelPostSampleIdeal.nD Cert.KernelPostSampleIdeal.τ).loc Cert.KernelPostSampleIdeal.main_v76_1) = v0 c
          ∧ r.2.mem ((c.tc : Thread Cert.KernelPostSampleIdeal.nD Cert.KernelPostSampleIdeal.τ).loc Cert.KernelPostSampleIdeal.main_v76_2) = v1 c
          ∧ r.2.mem ((c.tc : Thread Cert.KernelPostSampleIdeal.nD Cert.KernelPostSampleIdeal.τ).loc Cert.KernelPostSampleIdeal.main_v76_3) = v2 c
          ∧ r.2.mem ((c.tc : Thread Cert.KernelPostSampleIdeal.nD Cert.KernelPostSampleIdeal.τ).loc Cert.KernelPostSampleIdeal.main_v76_6) = v3 c
          ∧ r.2.mem ((c.tc : Thread Cert.KernelPostSampleIdeal.nD Cert.KernelPostSampleIdeal.τ).loc Cert.KernelPostSampleIdeal.main_v76_8) = v4 c
          ∧ r.2.mem ((c.tc : Thread Cert.KernelPostSampleIdeal.nD Cert.KernelPostSampleIdeal.τ).loc Cert.KernelPostSampleIdeal.main_arg0) = m ((c.tc : Thread Cert.KernelPostSampleIdeal.nD Cert.KernelPostSampleIdeal.τ).loc Cert.KernelPostSampleIdeal.main_arg0)
          ∧ r.2.mem ((c.tc : Thread Cert.KernelPostSampleIdeal.nD Cert.KernelPostSampleIdeal.τ).loc Cert.KernelPostSampleIdeal.main_arg1) = m ((c.tc : Thread Cert.KernelPostSampleIdeal.nD Cert.KernelPostSampleIdeal.τ).loc Cert.KernelPostSampleIdeal.main_arg1)
          ∧ r.2.mem ((c.tc : Thread Cert.KernelPostSampleIdeal.nD Cert.KernelPostSampleIdeal.τ).loc Cert.KernelPostSampleIdeal.main_arg2) = m ((c.tc : Thread Cert.KernelPostSampleIdeal.nD Cert.KernelPostSampleIdeal.τ).loc Cert.KernelPostSampleIdeal.main_arg2)
          ∧ r.2.mem ((c.tc : Thread Cert.KernelPostSampleIdeal.nD Cert.KernelPostSampleIdeal.τ).loc Cert.KernelPostSampleIdeal.main_arg3) = m ((c.tc : Thread Cert.KernelPostSampleIdeal.nD Cert.KernelPostSampleIdeal.τ).loc Cert.KernelPostSampleIdeal.main_arg3)
          ∧ r.2.mem ((c.tc : Thread Cert.KernelPostSampleIdeal.nD Cert.KernelPostSampleIdeal.τ).loc Cert.KernelPostSampleIdeal.main_arg4) = m ((c.tc : Thread Cert.KernelPostSampleIdeal.nD Cert.KernelPostSampleIdeal.τ).loc Cert.KernelPostSampleIdeal.main_arg4)
          ∧ r.2.mem ((c.tc : Thread Cert.KernelPostSampleIdeal.nD Cert.KernelPostSampleIdeal.τ).loc Cert.KernelPostSampleIdeal.main_arg5) = m ((c.tc : Thread Cert.KernelPostSampleIdeal.nD Cert.KernelPostSampleIdeal.τ).loc Cert.KernelPostSampleIdeal.main_arg5)
          ∧ r.2.mem ((c.tc : Thread Cert.KernelPostSampleIdeal.nD Cert.KernelPostSampleIdeal.τ).loc Cert.KernelPostSampleIdeal.main_arg6) = m ((c.tc : Thread Cert.KernelPostSampleIdeal.nD Cert.KernelPostSampleIdeal.τ).loc Cert.KernelPostSampleIdeal.main_arg6)
          ∧ r.2.mem ((c.tc : Thread Cert.KernelPostSampleIdeal.nD Cert.KernelPostSampleIdeal.τ).loc Cert.KernelPostSampleIdeal.main_arg7) = m ((c.tc : Thread Cert.KernelPostSampleIdeal.nD Cert.KernelPostSampleIdeal.τ).loc Cert.KernelPostSampleIdeal.main_arg7)
          ∧ r.2.mem ((c.tc : Thread Cert.KernelPostSampleIdeal.nD Cert.KernelPostSampleIdeal.τ).loc Cert.KernelPostSampleIdeal.main_arg8) = m ((c.tc : Thread Cert.KernelPostSampleIdeal.nD Cert.KernelPostSampleIdeal.τ).loc Cert.KernelPostSampleIdeal.main_arg8)
          ∧ r.2.mem ((c.tc : Thread Cert.KernelPostSampleIdeal.nD Cert.KernelPostSampleIdeal.τ).loc Cert.KernelPostSampleIdeal.main_arg9) = m ((c.tc : Thread Cert.KernelPostSampleIdeal.nD Cert.KernelPostSampleIdeal.τ).loc Cert.KernelPostSampleIdeal.main_arg9)
          ∧ r.2.mem ((c.tc : Thread Cert.KernelPostSampleIdeal.nD Cert.KernelPostSampleIdeal.τ).loc Cert.KernelPostSampleIdeal.main_arg10) = m ((c.tc : Thread Cert.KernelPostSampleIdeal.nD Cert.KernelPostSampleIdeal.τ).loc Cert.KernelPostSampleIdeal.main_arg10))
      ∧ θ_run (Cert.ReferencePostSampleIdeal.defs (F := Ideal)) (onTc (τ := Cert.ReferencePostSampleIdeal.τ) (Cert.ReferencePostSampleIdeal.main (F := Ideal))) ⟨m', fun _ => 0, g'⟩ (fun r => ∀ c : Dev Cert.ReferencePostSampleIdeal.nD,
          r.2.mem ((c.tc : Thread Cert.ReferencePostSampleIdeal.nD Cert.ReferencePostSampleIdeal.τ).loc Cert.ReferencePostSampleIdeal.main_v2) = v0 c
          ∧ r.2.mem ((c.tc : Thread Cert.ReferencePostSampleIdeal.nD Cert.ReferencePostSampleIdeal.τ).loc Cert.ReferencePostSampleIdeal.main_v67) = v1 c
          ∧ r.2.mem ((c.tc : Thread Cert.ReferencePostSampleIdeal.nD Cert.ReferencePostSampleIdeal.τ).loc Cert.ReferencePostSampleIdeal.main_v85) = v2 c
          ∧ r.2.mem ((c.tc : Thread Cert.ReferencePostSampleIdeal.nD Cert.ReferencePostSampleIdeal.τ).loc Cert.ReferencePostSampleIdeal.main_v98) = v3 c
          ∧ r.2.mem ((c.tc : Thread Cert.ReferencePostSampleIdeal.nD Cert.ReferencePostSampleIdeal.τ).loc Cert.ReferencePostSampleIdeal.main_v49) = v4 c
          ∧ r.2.mem ((c.tc : Thread Cert.ReferencePostSampleIdeal.nD Cert.ReferencePostSampleIdeal.τ).loc Cert.ReferencePostSampleIdeal.main_arg0) = m' ((c.tc : Thread Cert.ReferencePostSampleIdeal.nD Cert.ReferencePostSampleIdeal.τ).loc Cert.ReferencePostSampleIdeal.main_arg0)
          ∧ r.2.mem ((c.tc : Thread Cert.ReferencePostSampleIdeal.nD Cert.ReferencePostSampleIdeal.τ).loc Cert.ReferencePostSampleIdeal.main_arg1) = m' ((c.tc : Thread Cert.ReferencePostSampleIdeal.nD Cert.ReferencePostSampleIdeal.τ).loc Cert.ReferencePostSampleIdeal.main_arg1)
          ∧ r.2.mem ((c.tc : Thread Cert.ReferencePostSampleIdeal.nD Cert.ReferencePostSampleIdeal.τ).loc Cert.ReferencePostSampleIdeal.main_arg2) = m' ((c.tc : Thread Cert.ReferencePostSampleIdeal.nD Cert.ReferencePostSampleIdeal.τ).loc Cert.ReferencePostSampleIdeal.main_arg2)
          ∧ r.2.mem ((c.tc : Thread Cert.ReferencePostSampleIdeal.nD Cert.ReferencePostSampleIdeal.τ).loc Cert.ReferencePostSampleIdeal.main_arg3) = m' ((c.tc : Thread Cert.ReferencePostSampleIdeal.nD Cert.ReferencePostSampleIdeal.τ).loc Cert.ReferencePostSampleIdeal.main_arg3)
          ∧ r.2.mem ((c.tc : Thread Cert.ReferencePostSampleIdeal.nD Cert.ReferencePostSampleIdeal.τ).loc Cert.ReferencePostSampleIdeal.main_arg4) = m' ((c.tc : Thread Cert.ReferencePostSampleIdeal.nD Cert.ReferencePostSampleIdeal.τ).loc Cert.ReferencePostSampleIdeal.main_arg4)
          ∧ r.2.mem ((c.tc : Thread Cert.ReferencePostSampleIdeal.nD Cert.ReferencePostSampleIdeal.τ).loc Cert.ReferencePostSampleIdeal.main_arg5) = m' ((c.tc : Thread Cert.ReferencePostSampleIdeal.nD Cert.ReferencePostSampleIdeal.τ).loc Cert.ReferencePostSampleIdeal.main_arg5)
          ∧ r.2.mem ((c.tc : Thread Cert.ReferencePostSampleIdeal.nD Cert.ReferencePostSampleIdeal.τ).loc Cert.ReferencePostSampleIdeal.main_arg6) = m' ((c.tc : Thread Cert.ReferencePostSampleIdeal.nD Cert.ReferencePostSampleIdeal.τ).loc Cert.ReferencePostSampleIdeal.main_arg6)
          ∧ r.2.mem ((c.tc : Thread Cert.ReferencePostSampleIdeal.nD Cert.ReferencePostSampleIdeal.τ).loc Cert.ReferencePostSampleIdeal.main_arg7) = m' ((c.tc : Thread Cert.ReferencePostSampleIdeal.nD Cert.ReferencePostSampleIdeal.τ).loc Cert.ReferencePostSampleIdeal.main_arg7)
          ∧ r.2.mem ((c.tc : Thread Cert.ReferencePostSampleIdeal.nD Cert.ReferencePostSampleIdeal.τ).loc Cert.ReferencePostSampleIdeal.main_arg8) = m' ((c.tc : Thread Cert.ReferencePostSampleIdeal.nD Cert.ReferencePostSampleIdeal.τ).loc Cert.ReferencePostSampleIdeal.main_arg8)
          ∧ r.2.mem ((c.tc : Thread Cert.ReferencePostSampleIdeal.nD Cert.ReferencePostSampleIdeal.τ).loc Cert.ReferencePostSampleIdeal.main_arg9) = m' ((c.tc : Thread Cert.ReferencePostSampleIdeal.nD Cert.ReferencePostSampleIdeal.τ).loc Cert.ReferencePostSampleIdeal.main_arg9)
          ∧ r.2.mem ((c.tc : Thread Cert.ReferencePostSampleIdeal.nD Cert.ReferencePostSampleIdeal.τ).loc Cert.ReferencePostSampleIdeal.main_arg10) = m' ((c.tc : Thread Cert.ReferencePostSampleIdeal.nD Cert.ReferencePostSampleIdeal.τ).loc Cert.ReferencePostSampleIdeal.main_arg10))

def preserves_KernelFfnSample_KernelFfnSampleIdeal : Prop :=
  True

def algebraic_KernelFfnSampleIdeal_ReferenceFfnSampleIdeal [hKernelFfnSampleIdeal : Cert.KernelFfnSampleIdeal.Facts] [hReferenceFfnSampleIdeal : Cert.ReferenceFfnSampleIdeal.Facts] : Prop :=
  ∀ (m : (ℓ : Loc Cert.KernelFfnSampleIdeal.nD Cert.KernelFfnSampleIdeal.τ Cert.KernelFfnSampleIdeal.sig) → Buf (Elt Ideal) ℓ) (g : Dev Cert.KernelFfnSampleIdeal.nD → PrngReg)
    (m' : (ℓ : Loc Cert.ReferenceFfnSampleIdeal.nD Cert.ReferenceFfnSampleIdeal.τ Cert.ReferenceFfnSampleIdeal.sig) → Buf (Elt Ideal) ℓ) (g' : Dev Cert.ReferenceFfnSampleIdeal.nD → PrngReg), Pre_KernelFfnSampleIdeal m →
    (∀ c : Dev Cert.KernelFfnSampleIdeal.nD,
      m' ((c.tc : Thread Cert.ReferenceFfnSampleIdeal.nD Cert.ReferenceFfnSampleIdeal.τ).loc Cert.ReferenceFfnSampleIdeal.main_arg0) = m ((c.tc : Thread Cert.KernelFfnSampleIdeal.nD Cert.KernelFfnSampleIdeal.τ).loc Cert.KernelFfnSampleIdeal.main_arg0)
      ∧ m' ((c.tc : Thread Cert.ReferenceFfnSampleIdeal.nD Cert.ReferenceFfnSampleIdeal.τ).loc Cert.ReferenceFfnSampleIdeal.main_arg1) = m ((c.tc : Thread Cert.KernelFfnSampleIdeal.nD Cert.KernelFfnSampleIdeal.τ).loc Cert.KernelFfnSampleIdeal.main_arg1)
      ∧ m' ((c.tc : Thread Cert.ReferenceFfnSampleIdeal.nD Cert.ReferenceFfnSampleIdeal.τ).loc Cert.ReferenceFfnSampleIdeal.main_arg2) = m ((c.tc : Thread Cert.KernelFfnSampleIdeal.nD Cert.KernelFfnSampleIdeal.τ).loc Cert.KernelFfnSampleIdeal.main_arg2)
      ∧ m' ((c.tc : Thread Cert.ReferenceFfnSampleIdeal.nD Cert.ReferenceFfnSampleIdeal.τ).loc Cert.ReferenceFfnSampleIdeal.main_arg3) = m ((c.tc : Thread Cert.KernelFfnSampleIdeal.nD Cert.KernelFfnSampleIdeal.τ).loc Cert.KernelFfnSampleIdeal.main_arg3)
      ∧ m' ((c.tc : Thread Cert.ReferenceFfnSampleIdeal.nD Cert.ReferenceFfnSampleIdeal.τ).loc Cert.ReferenceFfnSampleIdeal.main_arg4) = m ((c.tc : Thread Cert.KernelFfnSampleIdeal.nD Cert.KernelFfnSampleIdeal.τ).loc Cert.KernelFfnSampleIdeal.main_arg4)) →
    ∃ (v0 : (c : Dev Cert.KernelFfnSampleIdeal.nD) → Buf (Elt Ideal) ((c.tc : Thread Cert.KernelFfnSampleIdeal.nD Cert.KernelFfnSampleIdeal.τ).loc Cert.KernelFfnSampleIdeal.main_v4)),
      θ_run (Cert.KernelFfnSampleIdeal.defs (F := Ideal)) (onTc (τ := Cert.KernelFfnSampleIdeal.τ) (Cert.KernelFfnSampleIdeal.main (F := Ideal))) ⟨m, fun _ => 0, g⟩ (fun r => ∀ c : Dev Cert.KernelFfnSampleIdeal.nD,
          r.2.mem ((c.tc : Thread Cert.KernelFfnSampleIdeal.nD Cert.KernelFfnSampleIdeal.τ).loc Cert.KernelFfnSampleIdeal.main_v4) = v0 c
          ∧ r.2.mem ((c.tc : Thread Cert.KernelFfnSampleIdeal.nD Cert.KernelFfnSampleIdeal.τ).loc Cert.KernelFfnSampleIdeal.main_arg0) = m ((c.tc : Thread Cert.KernelFfnSampleIdeal.nD Cert.KernelFfnSampleIdeal.τ).loc Cert.KernelFfnSampleIdeal.main_arg0)
          ∧ r.2.mem ((c.tc : Thread Cert.KernelFfnSampleIdeal.nD Cert.KernelFfnSampleIdeal.τ).loc Cert.KernelFfnSampleIdeal.main_arg1) = m ((c.tc : Thread Cert.KernelFfnSampleIdeal.nD Cert.KernelFfnSampleIdeal.τ).loc Cert.KernelFfnSampleIdeal.main_arg1)
          ∧ r.2.mem ((c.tc : Thread Cert.KernelFfnSampleIdeal.nD Cert.KernelFfnSampleIdeal.τ).loc Cert.KernelFfnSampleIdeal.main_arg2) = m ((c.tc : Thread Cert.KernelFfnSampleIdeal.nD Cert.KernelFfnSampleIdeal.τ).loc Cert.KernelFfnSampleIdeal.main_arg2)
          ∧ r.2.mem ((c.tc : Thread Cert.KernelFfnSampleIdeal.nD Cert.KernelFfnSampleIdeal.τ).loc Cert.KernelFfnSampleIdeal.main_arg3) = m ((c.tc : Thread Cert.KernelFfnSampleIdeal.nD Cert.KernelFfnSampleIdeal.τ).loc Cert.KernelFfnSampleIdeal.main_arg3)
          ∧ r.2.mem ((c.tc : Thread Cert.KernelFfnSampleIdeal.nD Cert.KernelFfnSampleIdeal.τ).loc Cert.KernelFfnSampleIdeal.main_arg4) = m ((c.tc : Thread Cert.KernelFfnSampleIdeal.nD Cert.KernelFfnSampleIdeal.τ).loc Cert.KernelFfnSampleIdeal.main_arg4))
      ∧ θ_run (Cert.ReferenceFfnSampleIdeal.defs (F := Ideal)) (onTc (τ := Cert.ReferenceFfnSampleIdeal.τ) (Cert.ReferenceFfnSampleIdeal.main (F := Ideal))) ⟨m', fun _ => 0, g'⟩ (fun r => ∀ c : Dev Cert.ReferenceFfnSampleIdeal.nD,
          r.2.mem ((c.tc : Thread Cert.ReferenceFfnSampleIdeal.nD Cert.ReferenceFfnSampleIdeal.τ).loc Cert.ReferenceFfnSampleIdeal.main_v5) = v0 c
          ∧ r.2.mem ((c.tc : Thread Cert.ReferenceFfnSampleIdeal.nD Cert.ReferenceFfnSampleIdeal.τ).loc Cert.ReferenceFfnSampleIdeal.main_arg0) = m' ((c.tc : Thread Cert.ReferenceFfnSampleIdeal.nD Cert.ReferenceFfnSampleIdeal.τ).loc Cert.ReferenceFfnSampleIdeal.main_arg0)
          ∧ r.2.mem ((c.tc : Thread Cert.ReferenceFfnSampleIdeal.nD Cert.ReferenceFfnSampleIdeal.τ).loc Cert.ReferenceFfnSampleIdeal.main_arg1) = m' ((c.tc : Thread Cert.ReferenceFfnSampleIdeal.nD Cert.ReferenceFfnSampleIdeal.τ).loc Cert.ReferenceFfnSampleIdeal.main_arg1)
          ∧ r.2.mem ((c.tc : Thread Cert.ReferenceFfnSampleIdeal.nD Cert.ReferenceFfnSampleIdeal.τ).loc Cert.ReferenceFfnSampleIdeal.main_arg2) = m' ((c.tc : Thread Cert.ReferenceFfnSampleIdeal.nD Cert.ReferenceFfnSampleIdeal.τ).loc Cert.ReferenceFfnSampleIdeal.main_arg2)
          ∧ r.2.mem ((c.tc : Thread Cert.ReferenceFfnSampleIdeal.nD Cert.ReferenceFfnSampleIdeal.τ).loc Cert.ReferenceFfnSampleIdeal.main_arg3) = m' ((c.tc : Thread Cert.ReferenceFfnSampleIdeal.nD Cert.ReferenceFfnSampleIdeal.τ).loc Cert.ReferenceFfnSampleIdeal.main_arg3)
          ∧ r.2.mem ((c.tc : Thread Cert.ReferenceFfnSampleIdeal.nD Cert.ReferenceFfnSampleIdeal.τ).loc Cert.ReferenceFfnSampleIdeal.main_arg4) = m' ((c.tc : Thread Cert.ReferenceFfnSampleIdeal.nD Cert.ReferenceFfnSampleIdeal.τ).loc Cert.ReferenceFfnSampleIdeal.main_arg4))

def preserves_KernelOutSample_KernelOutSampleIdeal : Prop :=
  True

def algebraic_KernelOutSampleIdeal_ReferenceOutSampleIdeal [hKernelOutSampleIdeal : Cert.KernelOutSampleIdeal.Facts] [hReferenceOutSampleIdeal : Cert.ReferenceOutSampleIdeal.Facts] : Prop :=
  ∀ (m : (ℓ : Loc Cert.KernelOutSampleIdeal.nD Cert.KernelOutSampleIdeal.τ Cert.KernelOutSampleIdeal.sig) → Buf (Elt Ideal) ℓ) (g : Dev Cert.KernelOutSampleIdeal.nD → PrngReg)
    (m' : (ℓ : Loc Cert.ReferenceOutSampleIdeal.nD Cert.ReferenceOutSampleIdeal.τ Cert.ReferenceOutSampleIdeal.sig) → Buf (Elt Ideal) ℓ) (g' : Dev Cert.ReferenceOutSampleIdeal.nD → PrngReg), Pre_KernelOutSampleIdeal m →
    (∀ c : Dev Cert.KernelOutSampleIdeal.nD,
      m' ((c.tc : Thread Cert.ReferenceOutSampleIdeal.nD Cert.ReferenceOutSampleIdeal.τ).loc Cert.ReferenceOutSampleIdeal.main_arg0) = m ((c.tc : Thread Cert.KernelOutSampleIdeal.nD Cert.KernelOutSampleIdeal.τ).loc Cert.KernelOutSampleIdeal.main_arg0)
      ∧ m' ((c.tc : Thread Cert.ReferenceOutSampleIdeal.nD Cert.ReferenceOutSampleIdeal.τ).loc Cert.ReferenceOutSampleIdeal.main_arg1) = m ((c.tc : Thread Cert.KernelOutSampleIdeal.nD Cert.KernelOutSampleIdeal.τ).loc Cert.KernelOutSampleIdeal.main_arg1)
      ∧ m' ((c.tc : Thread Cert.ReferenceOutSampleIdeal.nD Cert.ReferenceOutSampleIdeal.τ).loc Cert.ReferenceOutSampleIdeal.main_arg2) = m ((c.tc : Thread Cert.KernelOutSampleIdeal.nD Cert.KernelOutSampleIdeal.τ).loc Cert.KernelOutSampleIdeal.main_arg2)
      ∧ m' ((c.tc : Thread Cert.ReferenceOutSampleIdeal.nD Cert.ReferenceOutSampleIdeal.τ).loc Cert.ReferenceOutSampleIdeal.main_arg3) = m ((c.tc : Thread Cert.KernelOutSampleIdeal.nD Cert.KernelOutSampleIdeal.τ).loc Cert.KernelOutSampleIdeal.main_arg3)
      ∧ m' ((c.tc : Thread Cert.ReferenceOutSampleIdeal.nD Cert.ReferenceOutSampleIdeal.τ).loc Cert.ReferenceOutSampleIdeal.main_arg4) = m ((c.tc : Thread Cert.KernelOutSampleIdeal.nD Cert.KernelOutSampleIdeal.τ).loc Cert.KernelOutSampleIdeal.main_arg4)
      ∧ m' ((c.tc : Thread Cert.ReferenceOutSampleIdeal.nD Cert.ReferenceOutSampleIdeal.τ).loc Cert.ReferenceOutSampleIdeal.main_arg5) = m ((c.tc : Thread Cert.KernelOutSampleIdeal.nD Cert.KernelOutSampleIdeal.τ).loc Cert.KernelOutSampleIdeal.main_arg5)
      ∧ m' ((c.tc : Thread Cert.ReferenceOutSampleIdeal.nD Cert.ReferenceOutSampleIdeal.τ).loc Cert.ReferenceOutSampleIdeal.main_arg6) = m ((c.tc : Thread Cert.KernelOutSampleIdeal.nD Cert.KernelOutSampleIdeal.τ).loc Cert.KernelOutSampleIdeal.main_arg6)
      ∧ m' ((c.tc : Thread Cert.ReferenceOutSampleIdeal.nD Cert.ReferenceOutSampleIdeal.τ).loc Cert.ReferenceOutSampleIdeal.main_arg7) = m ((c.tc : Thread Cert.KernelOutSampleIdeal.nD Cert.KernelOutSampleIdeal.τ).loc Cert.KernelOutSampleIdeal.main_arg7)
      ∧ m' ((c.tc : Thread Cert.ReferenceOutSampleIdeal.nD Cert.ReferenceOutSampleIdeal.τ).loc Cert.ReferenceOutSampleIdeal.main_arg8) = m ((c.tc : Thread Cert.KernelOutSampleIdeal.nD Cert.KernelOutSampleIdeal.τ).loc Cert.KernelOutSampleIdeal.main_arg8)) →
    ∃ (v0 : (c : Dev Cert.KernelOutSampleIdeal.nD) → Buf (Elt Ideal) ((c.tc : Thread Cert.KernelOutSampleIdeal.nD Cert.KernelOutSampleIdeal.τ).loc Cert.KernelOutSampleIdeal.main_v9_0)) (v1 : (c : Dev Cert.KernelOutSampleIdeal.nD) → Buf (Elt Ideal) ((c.tc : Thread Cert.KernelOutSampleIdeal.nD Cert.KernelOutSampleIdeal.τ).loc Cert.KernelOutSampleIdeal.main_v9_1)),
      θ_run (Cert.KernelOutSampleIdeal.defs (F := Ideal)) (onTc (τ := Cert.KernelOutSampleIdeal.τ) (Cert.KernelOutSampleIdeal.main (F := Ideal))) ⟨m, fun _ => 0, g⟩ (fun r => ∀ c : Dev Cert.KernelOutSampleIdeal.nD,
          r.2.mem ((c.tc : Thread Cert.KernelOutSampleIdeal.nD Cert.KernelOutSampleIdeal.τ).loc Cert.KernelOutSampleIdeal.main_v9_0) = v0 c
          ∧ r.2.mem ((c.tc : Thread Cert.KernelOutSampleIdeal.nD Cert.KernelOutSampleIdeal.τ).loc Cert.KernelOutSampleIdeal.main_v9_1) = v1 c
          ∧ r.2.mem ((c.tc : Thread Cert.KernelOutSampleIdeal.nD Cert.KernelOutSampleIdeal.τ).loc Cert.KernelOutSampleIdeal.main_arg0) = m ((c.tc : Thread Cert.KernelOutSampleIdeal.nD Cert.KernelOutSampleIdeal.τ).loc Cert.KernelOutSampleIdeal.main_arg0)
          ∧ r.2.mem ((c.tc : Thread Cert.KernelOutSampleIdeal.nD Cert.KernelOutSampleIdeal.τ).loc Cert.KernelOutSampleIdeal.main_arg1) = m ((c.tc : Thread Cert.KernelOutSampleIdeal.nD Cert.KernelOutSampleIdeal.τ).loc Cert.KernelOutSampleIdeal.main_arg1)
          ∧ r.2.mem ((c.tc : Thread Cert.KernelOutSampleIdeal.nD Cert.KernelOutSampleIdeal.τ).loc Cert.KernelOutSampleIdeal.main_arg2) = m ((c.tc : Thread Cert.KernelOutSampleIdeal.nD Cert.KernelOutSampleIdeal.τ).loc Cert.KernelOutSampleIdeal.main_arg2)
          ∧ r.2.mem ((c.tc : Thread Cert.KernelOutSampleIdeal.nD Cert.KernelOutSampleIdeal.τ).loc Cert.KernelOutSampleIdeal.main_arg3) = m ((c.tc : Thread Cert.KernelOutSampleIdeal.nD Cert.KernelOutSampleIdeal.τ).loc Cert.KernelOutSampleIdeal.main_arg3)
          ∧ r.2.mem ((c.tc : Thread Cert.KernelOutSampleIdeal.nD Cert.KernelOutSampleIdeal.τ).loc Cert.KernelOutSampleIdeal.main_arg4) = m ((c.tc : Thread Cert.KernelOutSampleIdeal.nD Cert.KernelOutSampleIdeal.τ).loc Cert.KernelOutSampleIdeal.main_arg4)
          ∧ r.2.mem ((c.tc : Thread Cert.KernelOutSampleIdeal.nD Cert.KernelOutSampleIdeal.τ).loc Cert.KernelOutSampleIdeal.main_arg5) = m ((c.tc : Thread Cert.KernelOutSampleIdeal.nD Cert.KernelOutSampleIdeal.τ).loc Cert.KernelOutSampleIdeal.main_arg5)
          ∧ r.2.mem ((c.tc : Thread Cert.KernelOutSampleIdeal.nD Cert.KernelOutSampleIdeal.τ).loc Cert.KernelOutSampleIdeal.main_arg6) = m ((c.tc : Thread Cert.KernelOutSampleIdeal.nD Cert.KernelOutSampleIdeal.τ).loc Cert.KernelOutSampleIdeal.main_arg6)
          ∧ r.2.mem ((c.tc : Thread Cert.KernelOutSampleIdeal.nD Cert.KernelOutSampleIdeal.τ).loc Cert.KernelOutSampleIdeal.main_arg7) = m ((c.tc : Thread Cert.KernelOutSampleIdeal.nD Cert.KernelOutSampleIdeal.τ).loc Cert.KernelOutSampleIdeal.main_arg7)
          ∧ r.2.mem ((c.tc : Thread Cert.KernelOutSampleIdeal.nD Cert.KernelOutSampleIdeal.τ).loc Cert.KernelOutSampleIdeal.main_arg8) = m ((c.tc : Thread Cert.KernelOutSampleIdeal.nD Cert.KernelOutSampleIdeal.τ).loc Cert.KernelOutSampleIdeal.main_arg8))
      ∧ θ_run (Cert.ReferenceOutSampleIdeal.defs (F := Ideal)) (onTc (τ := Cert.ReferenceOutSampleIdeal.τ) (Cert.ReferenceOutSampleIdeal.main (F := Ideal))) ⟨m', fun _ => 0, g'⟩ (fun r => ∀ c : Dev Cert.ReferenceOutSampleIdeal.nD,
          r.2.mem ((c.tc : Thread Cert.ReferenceOutSampleIdeal.nD Cert.ReferenceOutSampleIdeal.τ).loc Cert.ReferenceOutSampleIdeal.main_v18) = v0 c
          ∧ r.2.mem ((c.tc : Thread Cert.ReferenceOutSampleIdeal.nD Cert.ReferenceOutSampleIdeal.τ).loc Cert.ReferenceOutSampleIdeal.main_v32) = v1 c
          ∧ r.2.mem ((c.tc : Thread Cert.ReferenceOutSampleIdeal.nD Cert.ReferenceOutSampleIdeal.τ).loc Cert.ReferenceOutSampleIdeal.main_arg0) = m' ((c.tc : Thread Cert.ReferenceOutSampleIdeal.nD Cert.ReferenceOutSampleIdeal.τ).loc Cert.ReferenceOutSampleIdeal.main_arg0)
          ∧ r.2.mem ((c.tc : Thread Cert.ReferenceOutSampleIdeal.nD Cert.ReferenceOutSampleIdeal.τ).loc Cert.ReferenceOutSampleIdeal.main_arg1) = m' ((c.tc : Thread Cert.ReferenceOutSampleIdeal.nD Cert.ReferenceOutSampleIdeal.τ).loc Cert.ReferenceOutSampleIdeal.main_arg1)
          ∧ r.2.mem ((c.tc : Thread Cert.ReferenceOutSampleIdeal.nD Cert.ReferenceOutSampleIdeal.τ).loc Cert.ReferenceOutSampleIdeal.main_arg2) = m' ((c.tc : Thread Cert.ReferenceOutSampleIdeal.nD Cert.ReferenceOutSampleIdeal.τ).loc Cert.ReferenceOutSampleIdeal.main_arg2)
          ∧ r.2.mem ((c.tc : Thread Cert.ReferenceOutSampleIdeal.nD Cert.ReferenceOutSampleIdeal.τ).loc Cert.ReferenceOutSampleIdeal.main_arg3) = m' ((c.tc : Thread Cert.ReferenceOutSampleIdeal.nD Cert.ReferenceOutSampleIdeal.τ).loc Cert.ReferenceOutSampleIdeal.main_arg3)
          ∧ r.2.mem ((c.tc : Thread Cert.ReferenceOutSampleIdeal.nD Cert.ReferenceOutSampleIdeal.τ).loc Cert.ReferenceOutSampleIdeal.main_arg4) = m' ((c.tc : Thread Cert.ReferenceOutSampleIdeal.nD Cert.ReferenceOutSampleIdeal.τ).loc Cert.ReferenceOutSampleIdeal.main_arg4)
          ∧ r.2.mem ((c.tc : Thread Cert.ReferenceOutSampleIdeal.nD Cert.ReferenceOutSampleIdeal.τ).loc Cert.ReferenceOutSampleIdeal.main_arg5) = m' ((c.tc : Thread Cert.ReferenceOutSampleIdeal.nD Cert.ReferenceOutSampleIdeal.τ).loc Cert.ReferenceOutSampleIdeal.main_arg5)
          ∧ r.2.mem ((c.tc : Thread Cert.ReferenceOutSampleIdeal.nD Cert.ReferenceOutSampleIdeal.τ).loc Cert.ReferenceOutSampleIdeal.main_arg6) = m' ((c.tc : Thread Cert.ReferenceOutSampleIdeal.nD Cert.ReferenceOutSampleIdeal.τ).loc Cert.ReferenceOutSampleIdeal.main_arg6)
          ∧ r.2.mem ((c.tc : Thread Cert.ReferenceOutSampleIdeal.nD Cert.ReferenceOutSampleIdeal.τ).loc Cert.ReferenceOutSampleIdeal.main_arg7) = m' ((c.tc : Thread Cert.ReferenceOutSampleIdeal.nD Cert.ReferenceOutSampleIdeal.τ).loc Cert.ReferenceOutSampleIdeal.main_arg7)
          ∧ r.2.mem ((c.tc : Thread Cert.ReferenceOutSampleIdeal.nD Cert.ReferenceOutSampleIdeal.τ).loc Cert.ReferenceOutSampleIdeal.main_arg8) = m' ((c.tc : Thread Cert.ReferenceOutSampleIdeal.nD Cert.ReferenceOutSampleIdeal.τ).loc Cert.ReferenceOutSampleIdeal.main_arg8))

def preserves_KernelInSample_KernelInSampleIdeal : Prop :=
  True

def algebraic_KernelInSampleIdeal_ReferenceInSampleIdeal [hKernelInSampleIdeal : Cert.KernelInSampleIdeal.Facts] [hReferenceInSampleIdeal : Cert.ReferenceInSampleIdeal.Facts] : Prop :=
  ∀ (m : (ℓ : Loc Cert.KernelInSampleIdeal.nD Cert.KernelInSampleIdeal.τ Cert.KernelInSampleIdeal.sig) → Buf (Elt Ideal) ℓ) (g : Dev Cert.KernelInSampleIdeal.nD → PrngReg)
    (m' : (ℓ : Loc Cert.ReferenceInSampleIdeal.nD Cert.ReferenceInSampleIdeal.τ Cert.ReferenceInSampleIdeal.sig) → Buf (Elt Ideal) ℓ) (g' : Dev Cert.ReferenceInSampleIdeal.nD → PrngReg), Pre_KernelInSampleIdeal m →
    (∀ c : Dev Cert.KernelInSampleIdeal.nD,
      m' ((c.tc : Thread Cert.ReferenceInSampleIdeal.nD Cert.ReferenceInSampleIdeal.τ).loc Cert.ReferenceInSampleIdeal.main_arg0) = m ((c.tc : Thread Cert.KernelInSampleIdeal.nD Cert.KernelInSampleIdeal.τ).loc Cert.KernelInSampleIdeal.main_arg0)
      ∧ m' ((c.tc : Thread Cert.ReferenceInSampleIdeal.nD Cert.ReferenceInSampleIdeal.τ).loc Cert.ReferenceInSampleIdeal.main_arg1) = m ((c.tc : Thread Cert.KernelInSampleIdeal.nD Cert.KernelInSampleIdeal.τ).loc Cert.KernelInSampleIdeal.main_arg1)
      ∧ m' ((c.tc : Thread Cert.ReferenceInSampleIdeal.nD Cert.ReferenceInSampleIdeal.τ).loc Cert.ReferenceInSampleIdeal.main_arg2) = m ((c.tc : Thread Cert.KernelInSampleIdeal.nD Cert.KernelInSampleIdeal.τ).loc Cert.KernelInSampleIdeal.main_arg2)) →
    ∃ (v0 : (c : Dev Cert.KernelInSampleIdeal.nD) → Buf (Elt Ideal) ((c.tc : Thread Cert.KernelInSampleIdeal.nD Cert.KernelInSampleIdeal.τ).loc Cert.KernelInSampleIdeal.main_v14)),
      θ_run (Cert.KernelInSampleIdeal.defs (F := Ideal)) (onTc (τ := Cert.KernelInSampleIdeal.τ) (Cert.KernelInSampleIdeal.main (F := Ideal))) ⟨m, fun _ => 0, g⟩ (fun r => ∀ c : Dev Cert.KernelInSampleIdeal.nD,
          r.2.mem ((c.tc : Thread Cert.KernelInSampleIdeal.nD Cert.KernelInSampleIdeal.τ).loc Cert.KernelInSampleIdeal.main_v14) = v0 c
          ∧ r.2.mem ((c.tc : Thread Cert.KernelInSampleIdeal.nD Cert.KernelInSampleIdeal.τ).loc Cert.KernelInSampleIdeal.main_arg0) = m ((c.tc : Thread Cert.KernelInSampleIdeal.nD Cert.KernelInSampleIdeal.τ).loc Cert.KernelInSampleIdeal.main_arg0)
          ∧ r.2.mem ((c.tc : Thread Cert.KernelInSampleIdeal.nD Cert.KernelInSampleIdeal.τ).loc Cert.KernelInSampleIdeal.main_arg1) = m ((c.tc : Thread Cert.KernelInSampleIdeal.nD Cert.KernelInSampleIdeal.τ).loc Cert.KernelInSampleIdeal.main_arg1)
          ∧ r.2.mem ((c.tc : Thread Cert.KernelInSampleIdeal.nD Cert.KernelInSampleIdeal.τ).loc Cert.KernelInSampleIdeal.main_arg2) = m ((c.tc : Thread Cert.KernelInSampleIdeal.nD Cert.KernelInSampleIdeal.τ).loc Cert.KernelInSampleIdeal.main_arg2))
      ∧ θ_run (Cert.ReferenceInSampleIdeal.defs (F := Ideal)) (onTc (τ := Cert.ReferenceInSampleIdeal.τ) (Cert.ReferenceInSampleIdeal.main (F := Ideal))) ⟨m', fun _ => 0, g'⟩ (fun r => ∀ c : Dev Cert.ReferenceInSampleIdeal.nD,
          r.2.mem ((c.tc : Thread Cert.ReferenceInSampleIdeal.nD Cert.ReferenceInSampleIdeal.τ).loc Cert.ReferenceInSampleIdeal.main_v25) = v0 c
          ∧ r.2.mem ((c.tc : Thread Cert.ReferenceInSampleIdeal.nD Cert.ReferenceInSampleIdeal.τ).loc Cert.ReferenceInSampleIdeal.main_arg0) = m' ((c.tc : Thread Cert.ReferenceInSampleIdeal.nD Cert.ReferenceInSampleIdeal.τ).loc Cert.ReferenceInSampleIdeal.main_arg0)
          ∧ r.2.mem ((c.tc : Thread Cert.ReferenceInSampleIdeal.nD Cert.ReferenceInSampleIdeal.τ).loc Cert.ReferenceInSampleIdeal.main_arg1) = m' ((c.tc : Thread Cert.ReferenceInSampleIdeal.nD Cert.ReferenceInSampleIdeal.τ).loc Cert.ReferenceInSampleIdeal.main_arg1)
          ∧ r.2.mem ((c.tc : Thread Cert.ReferenceInSampleIdeal.nD Cert.ReferenceInSampleIdeal.τ).loc Cert.ReferenceInSampleIdeal.main_arg2) = m' ((c.tc : Thread Cert.ReferenceInSampleIdeal.nD Cert.ReferenceInSampleIdeal.τ).loc Cert.ReferenceInSampleIdeal.main_arg2))

def preserves_KernelWin_KernelWinIdeal : Prop :=
  True

def algebraic_KernelWinIdeal_ReferenceWinIdeal [hKernelWinIdeal : Cert.KernelWinIdeal.Facts] [hReferenceWinIdeal : Cert.ReferenceWinIdeal.Facts] : Prop :=
  ∀ (m : (ℓ : Loc Cert.KernelWinIdeal.nD Cert.KernelWinIdeal.τ Cert.KernelWinIdeal.sig) → Buf (Elt Ideal) ℓ) (g : Dev Cert.KernelWinIdeal.nD → PrngReg)
    (m' : (ℓ : Loc Cert.ReferenceWinIdeal.nD Cert.ReferenceWinIdeal.τ Cert.ReferenceWinIdeal.sig) → Buf (Elt Ideal) ℓ) (g' : Dev Cert.ReferenceWinIdeal.nD → PrngReg), Pre_KernelWinIdeal m →
    (∀ c : Dev Cert.KernelWinIdeal.nD,
      m' ((c.tc : Thread Cert.ReferenceWinIdeal.nD Cert.ReferenceWinIdeal.τ).loc Cert.ReferenceWinIdeal.main_arg0) = m ((c.tc : Thread Cert.KernelWinIdeal.nD Cert.KernelWinIdeal.τ).loc Cert.KernelWinIdeal.main_arg0)
      ∧ m' ((c.tc : Thread Cert.ReferenceWinIdeal.nD Cert.ReferenceWinIdeal.τ).loc Cert.ReferenceWinIdeal.main_arg1) = m ((c.tc : Thread Cert.KernelWinIdeal.nD Cert.KernelWinIdeal.τ).loc Cert.KernelWinIdeal.main_arg1)
      ∧ m' ((c.tc : Thread Cert.ReferenceWinIdeal.nD Cert.ReferenceWinIdeal.τ).loc Cert.ReferenceWinIdeal.main_arg2) = m ((c.tc : Thread Cert.KernelWinIdeal.nD Cert.KernelWinIdeal.τ).loc Cert.KernelWinIdeal.main_arg2)
      ∧ m' ((c.tc : Thread Cert.ReferenceWinIdeal.nD Cert.ReferenceWinIdeal.τ).loc Cert.ReferenceWinIdeal.main_arg3) = m ((c.tc : Thread Cert.KernelWinIdeal.nD Cert.KernelWinIdeal.τ).loc Cert.KernelWinIdeal.main_arg3)
      ∧ m' ((c.tc : Thread Cert.ReferenceWinIdeal.nD Cert.ReferenceWinIdeal.τ).loc Cert.ReferenceWinIdeal.main_arg4) = m ((c.tc : Thread Cert.KernelWinIdeal.nD Cert.KernelWinIdeal.τ).loc Cert.KernelWinIdeal.main_arg4)
      ∧ m' ((c.tc : Thread Cert.ReferenceWinIdeal.nD Cert.ReferenceWinIdeal.τ).loc Cert.ReferenceWinIdeal.main_arg5) = m ((c.tc : Thread Cert.KernelWinIdeal.nD Cert.KernelWinIdeal.τ).loc Cert.KernelWinIdeal.main_arg5)
      ∧ m' ((c.tc : Thread Cert.ReferenceWinIdeal.nD Cert.ReferenceWinIdeal.τ).loc Cert.ReferenceWinIdeal.main_arg6) = m ((c.tc : Thread Cert.KernelWinIdeal.nD Cert.KernelWinIdeal.τ).loc Cert.KernelWinIdeal.main_arg6)) →
    ∃ (v0 : (c : Dev Cert.KernelWinIdeal.nD) → Buf (Elt Ideal) ((c.tc : Thread Cert.KernelWinIdeal.nD Cert.KernelWinIdeal.τ).loc Cert.KernelWinIdeal.main_v2_1)),
      θ_run (Cert.KernelWinIdeal.defs (F := Ideal)) (onTc (τ := Cert.KernelWinIdeal.τ) (Cert.KernelWinIdeal.main (F := Ideal))) ⟨m, fun _ => 0, g⟩ (fun r => ∀ c : Dev Cert.KernelWinIdeal.nD,
          r.2.mem ((c.tc : Thread Cert.KernelWinIdeal.nD Cert.KernelWinIdeal.τ).loc Cert.KernelWinIdeal.main_v2_1) = v0 c
          ∧ r.2.mem ((c.tc : Thread Cert.KernelWinIdeal.nD Cert.KernelWinIdeal.τ).loc Cert.KernelWinIdeal.main_arg0) = m ((c.tc : Thread Cert.KernelWinIdeal.nD Cert.KernelWinIdeal.τ).loc Cert.KernelWinIdeal.main_arg0)
          ∧ r.2.mem ((c.tc : Thread Cert.KernelWinIdeal.nD Cert.KernelWinIdeal.τ).loc Cert.KernelWinIdeal.main_arg1) = m ((c.tc : Thread Cert.KernelWinIdeal.nD Cert.KernelWinIdeal.τ).loc Cert.KernelWinIdeal.main_arg1)
          ∧ r.2.mem ((c.tc : Thread Cert.KernelWinIdeal.nD Cert.KernelWinIdeal.τ).loc Cert.KernelWinIdeal.main_arg2) = m ((c.tc : Thread Cert.KernelWinIdeal.nD Cert.KernelWinIdeal.τ).loc Cert.KernelWinIdeal.main_arg2)
          ∧ r.2.mem ((c.tc : Thread Cert.KernelWinIdeal.nD Cert.KernelWinIdeal.τ).loc Cert.KernelWinIdeal.main_arg3) = m ((c.tc : Thread Cert.KernelWinIdeal.nD Cert.KernelWinIdeal.τ).loc Cert.KernelWinIdeal.main_arg3)
          ∧ r.2.mem ((c.tc : Thread Cert.KernelWinIdeal.nD Cert.KernelWinIdeal.τ).loc Cert.KernelWinIdeal.main_arg4) = m ((c.tc : Thread Cert.KernelWinIdeal.nD Cert.KernelWinIdeal.τ).loc Cert.KernelWinIdeal.main_arg4)
          ∧ r.2.mem ((c.tc : Thread Cert.KernelWinIdeal.nD Cert.KernelWinIdeal.τ).loc Cert.KernelWinIdeal.main_arg5) = m ((c.tc : Thread Cert.KernelWinIdeal.nD Cert.KernelWinIdeal.τ).loc Cert.KernelWinIdeal.main_arg5)
          ∧ r.2.mem ((c.tc : Thread Cert.KernelWinIdeal.nD Cert.KernelWinIdeal.τ).loc Cert.KernelWinIdeal.main_arg6) = m ((c.tc : Thread Cert.KernelWinIdeal.nD Cert.KernelWinIdeal.τ).loc Cert.KernelWinIdeal.main_arg6))
      ∧ θ_run (Cert.ReferenceWinIdeal.defs (F := Ideal)) (onTc (τ := Cert.ReferenceWinIdeal.τ) (Cert.ReferenceWinIdeal.main (F := Ideal))) ⟨m', fun _ => 0, g'⟩ (fun r => ∀ c : Dev Cert.ReferenceWinIdeal.nD,
          r.2.mem ((c.tc : Thread Cert.ReferenceWinIdeal.nD Cert.ReferenceWinIdeal.τ).loc Cert.ReferenceWinIdeal.main_v2) = v0 c
          ∧ r.2.mem ((c.tc : Thread Cert.ReferenceWinIdeal.nD Cert.ReferenceWinIdeal.τ).loc Cert.ReferenceWinIdeal.main_arg0) = m' ((c.tc : Thread Cert.ReferenceWinIdeal.nD Cert.ReferenceWinIdeal.τ).loc Cert.ReferenceWinIdeal.main_arg0)
          ∧ r.2.mem ((c.tc : Thread Cert.ReferenceWinIdeal.nD Cert.ReferenceWinIdeal.τ).loc Cert.ReferenceWinIdeal.main_arg1) = m' ((c.tc : Thread Cert.ReferenceWinIdeal.nD Cert.ReferenceWinIdeal.τ).loc Cert.ReferenceWinIdeal.main_arg1)
          ∧ r.2.mem ((c.tc : Thread Cert.ReferenceWinIdeal.nD Cert.ReferenceWinIdeal.τ).loc Cert.ReferenceWinIdeal.main_arg2) = m' ((c.tc : Thread Cert.ReferenceWinIdeal.nD Cert.ReferenceWinIdeal.τ).loc Cert.ReferenceWinIdeal.main_arg2)
          ∧ r.2.mem ((c.tc : Thread Cert.ReferenceWinIdeal.nD Cert.ReferenceWinIdeal.τ).loc Cert.ReferenceWinIdeal.main_arg3) = m' ((c.tc : Thread Cert.ReferenceWinIdeal.nD Cert.ReferenceWinIdeal.τ).loc Cert.ReferenceWinIdeal.main_arg3)
          ∧ r.2.mem ((c.tc : Thread Cert.ReferenceWinIdeal.nD Cert.ReferenceWinIdeal.τ).loc Cert.ReferenceWinIdeal.main_arg4) = m' ((c.tc : Thread Cert.ReferenceWinIdeal.nD Cert.ReferenceWinIdeal.τ).loc Cert.ReferenceWinIdeal.main_arg4)
          ∧ r.2.mem ((c.tc : Thread Cert.ReferenceWinIdeal.nD Cert.ReferenceWinIdeal.τ).loc Cert.ReferenceWinIdeal.main_arg5) = m' ((c.tc : Thread Cert.ReferenceWinIdeal.nD Cert.ReferenceWinIdeal.τ).loc Cert.ReferenceWinIdeal.main_arg5)
          ∧ r.2.mem ((c.tc : Thread Cert.ReferenceWinIdeal.nD Cert.ReferenceWinIdeal.τ).loc Cert.ReferenceWinIdeal.main_arg6) = m' ((c.tc : Thread Cert.ReferenceWinIdeal.nD Cert.ReferenceWinIdeal.τ).loc Cert.ReferenceWinIdeal.main_arg6))

def Claim : Prop :=
  ∃ (hKernel : Cert.Kernel.Facts) (hKernelIdeal : Cert.KernelIdeal.Facts) (hReferenceIdeal : Cert.ReferenceIdeal.Facts) (hKernelFfn : Cert.KernelFfn.Facts) (hKernelFfnIdeal : Cert.KernelFfnIdeal.Facts) (hReferenceFfnIdeal : Cert.ReferenceFfnIdeal.Facts) (hKernelOut : Cert.KernelOut.Facts) (hKernelOutIdeal : Cert.KernelOutIdeal.Facts) (hReferenceOutIdeal : Cert.ReferenceOutIdeal.Facts) (hKernelIn : Cert.KernelIn.Facts) (hKernelInIdeal : Cert.KernelInIdeal.Facts) (hReferenceInIdeal : Cert.ReferenceInIdeal.Facts) (hKernelPost : Cert.KernelPost.Facts) (hKernelPostIdeal : Cert.KernelPostIdeal.Facts) (hReferencePostIdeal : Cert.ReferencePostIdeal.Facts) (hKernelPostSample : Cert.KernelPostSample.Facts) (hKernelPostSampleIdeal : Cert.KernelPostSampleIdeal.Facts) (hReferencePostSampleIdeal : Cert.ReferencePostSampleIdeal.Facts) (hKernelFfnSample : Cert.KernelFfnSample.Facts) (hKernelFfnSampleIdeal : Cert.KernelFfnSampleIdeal.Facts) (hReferenceFfnSampleIdeal : Cert.ReferenceFfnSampleIdeal.Facts) (hKernelOutSample : Cert.KernelOutSample.Facts) (hKernelOutSampleIdeal : Cert.KernelOutSampleIdeal.Facts) (hReferenceOutSampleIdeal : Cert.ReferenceOutSampleIdeal.Facts) (hKernelInSample : Cert.KernelInSample.Facts) (hKernelInSampleIdeal : Cert.KernelInSampleIdeal.Facts) (hReferenceInSampleIdeal : Cert.ReferenceInSampleIdeal.Facts) (hKernelWin : Cert.KernelWin.Facts) (hKernelWinIdeal : Cert.KernelWinIdeal.Facts) (hReferenceWinIdeal : Cert.ReferenceWinIdeal.Facts) (hPre_finite : Cert.Pre_finite.Facts) (hPre_finite_keys : Cert.Pre_finite_keys.Facts) (hPre_finite_keys_sample : Cert.Pre_finite_keys_sample.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_KernelFfn (hKernelFfn := hKernelFfn)
    ∧ quiescent_KernelFfnIdeal (hKernelFfnIdeal := hKernelFfnIdeal)
    ∧ quiescent_ReferenceFfnIdeal (hReferenceFfnIdeal := hReferenceFfnIdeal)
    ∧ quiescent_KernelOut (hKernelOut := hKernelOut)
    ∧ quiescent_KernelOutIdeal (hKernelOutIdeal := hKernelOutIdeal)
    ∧ quiescent_ReferenceOutIdeal (hReferenceOutIdeal := hReferenceOutIdeal)
    ∧ quiescent_KernelIn (hKernelIn := hKernelIn)
    ∧ quiescent_KernelInIdeal (hKernelInIdeal := hKernelInIdeal)
    ∧ quiescent_ReferenceInIdeal (hReferenceInIdeal := hReferenceInIdeal)
    ∧ quiescent_KernelPost (hKernelPost := hKernelPost)
    ∧ quiescent_KernelPostIdeal (hKernelPostIdeal := hKernelPostIdeal)
    ∧ quiescent_KernelPostIdeal_pre_finite_keys (hKernelPostIdeal := hKernelPostIdeal) (hPre_finite_keys := hPre_finite_keys)
    ∧ quiescent_ReferencePostIdeal (hReferencePostIdeal := hReferencePostIdeal)
    ∧ quiescent_ReferencePostIdeal_pre_finite_keys (hReferencePostIdeal := hReferencePostIdeal) (hPre_finite_keys := hPre_finite_keys)
    ∧ quiescent_KernelPostSample (hKernelPostSample := hKernelPostSample)
    ∧ quiescent_KernelPostSampleIdeal (hKernelPostSampleIdeal := hKernelPostSampleIdeal)
    ∧ quiescent_KernelPostSampleIdeal_pre_finite_keys_sample (hKernelPostSampleIdeal := hKernelPostSampleIdeal) (hPre_finite_keys_sample := hPre_finite_keys_sample)
    ∧ quiescent_ReferencePostSampleIdeal (hReferencePostSampleIdeal := hReferencePostSampleIdeal)
    ∧ quiescent_ReferencePostSampleIdeal_pre_finite_keys_sample (hReferencePostSampleIdeal := hReferencePostSampleIdeal) (hPre_finite_keys_sample := hPre_finite_keys_sample)
    ∧ quiescent_KernelFfnSample (hKernelFfnSample := hKernelFfnSample)
    ∧ quiescent_KernelFfnSampleIdeal (hKernelFfnSampleIdeal := hKernelFfnSampleIdeal)
    ∧ quiescent_ReferenceFfnSampleIdeal (hReferenceFfnSampleIdeal := hReferenceFfnSampleIdeal)
    ∧ quiescent_KernelOutSample (hKernelOutSample := hKernelOutSample)
    ∧ quiescent_KernelOutSampleIdeal (hKernelOutSampleIdeal := hKernelOutSampleIdeal)
    ∧ quiescent_ReferenceOutSampleIdeal (hReferenceOutSampleIdeal := hReferenceOutSampleIdeal)
    ∧ quiescent_KernelInSample (hKernelInSample := hKernelInSample)
    ∧ quiescent_KernelInSampleIdeal (hKernelInSampleIdeal := hKernelInSampleIdeal)
    ∧ quiescent_ReferenceInSampleIdeal (hReferenceInSampleIdeal := hReferenceInSampleIdeal)
    ∧ quiescent_KernelWin (hKernelWin := hKernelWin)
    ∧ quiescent_KernelWinIdeal (hKernelWinIdeal := hKernelWinIdeal)
    ∧ quiescent_ReferenceWinIdeal (hReferenceWinIdeal := hReferenceWinIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_KernelFfn_KernelFfnIdeal
    ∧ algebraic_KernelFfnIdeal_ReferenceFfnIdeal (hKernelFfnIdeal := hKernelFfnIdeal) (hReferenceFfnIdeal := hReferenceFfnIdeal)
    ∧ preserves_KernelOut_KernelOutIdeal
    ∧ algebraic_KernelOutIdeal_ReferenceOutIdeal (hKernelOutIdeal := hKernelOutIdeal) (hReferenceOutIdeal := hReferenceOutIdeal)
    ∧ preserves_KernelIn_KernelInIdeal
    ∧ algebraic_KernelInIdeal_ReferenceInIdeal (hKernelInIdeal := hKernelInIdeal) (hReferenceInIdeal := hReferenceInIdeal)
    ∧ preserves_KernelPost_KernelPostIdeal
    ∧ algebraic_KernelPostIdeal_ReferencePostIdeal_pre_finite_keys (hKernelPostIdeal := hKernelPostIdeal) (hReferencePostIdeal := hReferencePostIdeal) (hPre_finite_keys := hPre_finite_keys)
    ∧ preserves_KernelPostSample_KernelPostSampleIdeal
    ∧ algebraic_KernelPostSampleIdeal_ReferencePostSampleIdeal_pre_finite_keys_sample (hKernelPostSampleIdeal := hKernelPostSampleIdeal) (hReferencePostSampleIdeal := hReferencePostSampleIdeal) (hPre_finite_keys_sample := hPre_finite_keys_sample)
    ∧ preserves_KernelFfnSample_KernelFfnSampleIdeal
    ∧ algebraic_KernelFfnSampleIdeal_ReferenceFfnSampleIdeal (hKernelFfnSampleIdeal := hKernelFfnSampleIdeal) (hReferenceFfnSampleIdeal := hReferenceFfnSampleIdeal)
    ∧ preserves_KernelOutSample_KernelOutSampleIdeal
    ∧ algebraic_KernelOutSampleIdeal_ReferenceOutSampleIdeal (hKernelOutSampleIdeal := hKernelOutSampleIdeal) (hReferenceOutSampleIdeal := hReferenceOutSampleIdeal)
    ∧ preserves_KernelInSample_KernelInSampleIdeal
    ∧ algebraic_KernelInSampleIdeal_ReferenceInSampleIdeal (hKernelInSampleIdeal := hKernelInSampleIdeal) (hReferenceInSampleIdeal := hReferenceInSampleIdeal)
    ∧ preserves_KernelWin_KernelWinIdeal
    ∧ algebraic_KernelWinIdeal_ReferenceWinIdeal (hKernelWinIdeal := hKernelWinIdeal) (hReferenceWinIdeal := hReferenceWinIdeal)
-- ==== Pre_finite.lean ====
abbrev S4x4096x16x256 : Shape := ⟨4, ![4, 4096, 16, 256]⟩
abbrev S4x4096x16x32 : Shape := ⟨4, ![4, 4096, 16, 32]⟩
abbrev S4x4096x256 : Shape := ⟨3, ![4, 4096, 256]⟩
abbrev S4x4096x32 : Shape := ⟨3, ![4, 4096, 32]⟩
abbrev S16x256x64 : Shape := ⟨3, ![16, 256, 64]⟩
abbrev S_ : Shape := ⟨0, ![]⟩

class Facts : Prop where
  bcast_S_S4x4096x16x256 : S_.BroadcastsInDim S4x4096x16x256 (![] : Fin 0 → Fin S4x4096x16x256.rank)
  bcast_S_S4x4096x16x32 : S_.BroadcastsInDim S4x4096x16x32 (![] : Fin 0 → Fin S4x4096x16x32.rank)
  bcast_S_S4x4096x256 : S_.BroadcastsInDim S4x4096x256 (![] : Fin 0 → Fin S4x4096x256.rank)
  bcast_S_S4x4096x32 : S_.BroadcastsInDim S4x4096x32 (![] : Fin 0 → Fin S4x4096x32.rank)

variable [Facts]

def fn {F : FTy → Type} [FloatOps F] (main_arg0 : FVec F S4x4096x16x256 .f32) (main_arg1 : FVec F S4x4096x16x32 .f32) (main_arg2 : FVec F S4x4096x256 .f32) (main_arg3 : FVec F S4x4096x32 .f32) (main_arg4 : FVec F S16x256x64 .f32) : IVec S4x4096x16x256 1 × IVec S4x4096x16x32 1 × IVec S4x4096x256 1 × IVec S4x4096x32 1 :=
  let main_v0 : FVec F S4x4096x16x256 .f32 := Host.absf main_arg0
  let main_cst : FVec F S_ .f32 := constant S_ .f32 0x7F800000#32
  let main_v1 : FVec F S4x4096x16x256 .f32 := broadcastInDim S4x4096x16x256 ![] bcast_S_S4x4096x16x256 main_cst
  let main_v2 : IVec S4x4096x16x256 1 := cmpf .olt main_v0 main_v1
  let main_v3 : FVec F S4x4096x16x32 .f32 := Host.absf main_arg1
  let main_cst_0 : FVec F S_ .f32 := constant S_ .f32 0x7F800000#32
  let main_v4 : FVec F S4x4096x16x32 .f32 := broadcastInDim S4x4096x16x32 ![] bcast_S_S4x4096x16x32 main_cst_0
  let main_v5 : IVec S4x4096x16x32 1 := cmpf .olt main_v3 main_v4
  let main_v6 : FVec F S4x4096x256 .f32 := Host.absf main_arg2
  let main_cst_1 : FVec F S_ .f32 := constant S_ .f32 0x7F800000#32
  let main_v7 : FVec F S4x4096x256 .f32 := broadcastInDim S4x4096x256 ![] bcast_S_S4x4096x256 main_cst_1
  let main_v8 : IVec S4x4096x256 1 := cmpf .olt main_v6 main_v7
  let main_v9 : FVec F S4x4096x32 .f32 := Host.absf main_arg3
  let main_cst_2 : FVec F S_ .f32 := constant S_ .f32 0x7F800000#32
  let main_v10 : FVec F S4x4096x32 .f32 := broadcastInDim S4x4096x32 ![] bcast_S_S4x4096x32 main_cst_2
  let main_v11 : IVec S4x4096x32 1 := cmpf .olt main_v9 main_v10
  (main_v2, main_v5, main_v8, main_v11)
-- ==== Pre_finite_keys.lean ====
abbrev S16384x7168 : Shape := ⟨2, ![16384, 7168]⟩
abbrev S16384 : Shape := ⟨1, ![16384]⟩
abbrev S64 : Shape := ⟨1, ![64]⟩
abbrev S512 : Shape := ⟨1, ![512]⟩
abbrev S512x1536 : Shape := ⟨2, ![512, 1536]⟩
abbrev S96 : Shape := ⟨1, ![96]⟩
abbrev S256 : Shape := ⟨1, ![256]⟩
abbrev S32 : Shape := ⟨1, ![32]⟩
abbrev S16x256x64 : Shape := ⟨3, ![16, 256, 64]⟩
abbrev S16384x128 : Shape := ⟨2, ![16384, 128]⟩
abbrev S_ : Shape := ⟨0, ![]⟩

class Facts : Prop where
  slices_S16384x7168_S16384x128_0_6400 : S16384x7168.Slices ![0, 6400] S16384x128
  bcast_S_S16384x128 : S_.BroadcastsInDim S16384x128 (![] : Fin 0 → Fin S16384x128.rank)
  slices_S16384x7168_S16384x128_0_6656 : S16384x7168.Slices ![0, 6656] S16384x128

variable [Facts]

def fn {F : FTy → Type} [FloatOps F] (main_arg0 : FVec F S16384x7168 .f32) (main_arg1 : IVec S16384 32) (main_arg2 : FVec F S64 .f32) (main_arg3 : FVec F S64 .f32) (main_arg4 : FVec F S64 .f32) (main_arg5 : FVec F S512 .f32) (main_arg6 : FVec F S512x1536 .f32) (main_arg7 : FVec F S96 .f32) (main_arg8 : FVec F S256 .f32) (main_arg9 : FVec F S32 .f32) (main_arg10 : FVec F S16x256x64 .f32) : IVec S16384x128 1 × IVec S16384x128 1 :=
  let main_v0 : FVec F S16384x128 .f32 := (extractStridedSlice S16384x128 ![0, 6400] · slices_S16384x7168_S16384x128_0_6400) main_arg0
  let main_v1 : FVec F S16384x128 .f32 := Host.absf main_v0
  let main_cst : FVec F S_ .f32 := constant S_ .f32 0x7F800000#32
  let main_v2 : FVec F S16384x128 .f32 := broadcastInDim S16384x128 ![] bcast_S_S16384x128 main_cst
  let main_v3 : IVec S16384x128 1 := cmpf .olt main_v1 main_v2
  let main_v4 : FVec F S16384x128 .f32 := (extractStridedSlice S16384x128 ![0, 6656] · slices_S16384x7168_S16384x128_0_6656) main_arg0
  let main_v5 : FVec F S16384x128 .f32 := Host.absf main_v4
  let main_cst_0 : FVec F S_ .f32 := constant S_ .f32 0x7F800000#32
  let main_v6 : FVec F S16384x128 .f32 := broadcastInDim S16384x128 ![] bcast_S_S16384x128 main_cst_0
  let main_v7 : IVec S16384x128 1 := cmpf .olt main_v5 main_v6
  (main_v3, main_v7)
-- ==== Pre_finite_keys_sample.lean ====
abbrev S1024x7168 : Shape := ⟨2, ![1024, 7168]⟩
abbrev S1024 : Shape := ⟨1, ![1024]⟩
abbrev S64 : Shape := ⟨1, ![64]⟩
abbrev S512 : Shape := ⟨1, ![512]⟩
abbrev S512x1536 : Shape := ⟨2, ![512, 1536]⟩
abbrev S96 : Shape := ⟨1, ![96]⟩
abbrev S256 : Shape := ⟨1, ![256]⟩
abbrev S32 : Shape := ⟨1, ![32]⟩
abbrev S16x256x64 : Shape := ⟨3, ![16, 256, 64]⟩
abbrev S1024x128 : Shape := ⟨2, ![1024, 128]⟩
abbrev S_ : Shape := ⟨0, ![]⟩

class Facts : Prop where
  slices_S1024x7168_S1024x128_0_6400 : S1024x7168.Slices ![0, 6400] S1024x128
  bcast_S_S1024x128 : S_.BroadcastsInDim S1024x128 (![] : Fin 0 → Fin S1024x128.rank)
  slices_S1024x7168_S1024x128_0_6656 : S1024x7168.Slices ![0, 6656] S1024x128

variable [Facts]

def fn {F : FTy → Type} [FloatOps F] (main_arg0 : FVec F S1024x7168 .f32) (main_arg1 : IVec S1024 32) (main_arg2 : FVec F S64 .f32) (main_arg3 : FVec F S64 .f32) (main_arg4 : FVec F S64 .f32) (main_arg5 : FVec F S512 .f32) (main_arg6 : FVec F S512x1536 .f32) (main_arg7 : FVec F S96 .f32) (main_arg8 : FVec F S256 .f32) (main_arg9 : FVec F S32 .f32) (main_arg10 : FVec F S16x256x64 .f32) : IVec S1024x128 1 × IVec S1024x128 1 :=
  let main_v0 : FVec F S1024x128 .f32 := (extractStridedSlice S1024x128 ![0, 6400] · slices_S1024x7168_S1024x128_0_6400) main_arg0
  let main_v1 : FVec F S1024x128 .f32 := Host.absf main_v0
  let main_cst : FVec F S_ .f32 := constant S_ .f32 0x7F800000#32
  let main_v2 : FVec F S1024x128 .f32 := broadcastInDim S1024x128 ![] bcast_S_S1024x128 main_cst
  let main_v3 : IVec S1024x128 1 := cmpf .olt main_v1 main_v2
  let main_v4 : FVec F S1024x128 .f32 := (extractStridedSlice S1024x128 ![0, 6656] · slices_S1024x7168_S1024x128_0_6656) main_arg0
  let main_v5 : FVec F S1024x128 .f32 := Host.absf main_v4
  let main_cst_0 : FVec F S_ .f32 := constant S_ .f32 0x7F800000#32
  let main_v6 : FVec F S1024x128 .f32 := broadcastInDim S1024x128 ![] bcast_S_S1024x128 main_cst_0
  let main_v7 : IVec S1024x128 1 := cmpf .olt main_v5 main_v6
  (main_v3, main_v7)
-- ==== Kernel.lean ====
abbrev S4x4096x16x256 : Shape := ⟨4, ![4, 4096, 16, 256]⟩
abbrev S4x4096x16x32 : Shape := ⟨4, ![4, 4096, 16, 32]⟩
abbrev S4x4096x256 : Shape := ⟨3, ![4, 4096, 256]⟩
abbrev S4x4096x32 : Shape := ⟨3, ![4, 4096, 32]⟩
abbrev S16x256x64 : Shape := ⟨3, ![16, 256, 64]⟩
abbrev S_ : Shape := ⟨0, ![]⟩
abbrev S4x4096x16x128 : Shape := ⟨4, ![4, 4096, 16, 128]⟩
abbrev S4x4096x128 : Shape := ⟨3, ![4, 4096, 128]⟩
abbrev S4x4096x4096 : Shape := ⟨3, ![4, 4096, 4096]⟩
abbrev S4x4096x2048 : Shape := ⟨3, ![4, 4096, 2048]⟩
abbrev S4x4096x1024 : Shape := ⟨3, ![4, 4096, 1024]⟩
abbrev S1x128x4096 : Shape := ⟨3, ![1, 128, 4096]⟩
abbrev S1x128x2048 : Shape := ⟨3, ![1, 128, 2048]⟩
abbrev S1x4096x256 : Shape := ⟨3, ![1, 4096, 256]⟩
abbrev S1x4096x128 : Shape := ⟨3, ![1, 4096, 128]⟩
abbrev S1x128x1024 : Shape := ⟨3, ![1, 128, 1024]⟩
abbrev S4x512x256 : Shape := ⟨3, ![4, 512, 256]⟩
abbrev S4x512x128 : Shape := ⟨3, ![4, 512, 128]⟩
abbrev S4x512x1 : Shape := ⟨3, ![4, 512, 1]⟩
abbrev S1x128x256 : Shape := ⟨3, ![1, 128, 256]⟩
abbrev S128x256 : Shape := ⟨2, ![128, 256]⟩
abbrev S512x256 : Shape := ⟨2, ![512, 256]⟩
abbrev S1x512x256 : Shape := ⟨3, ![1, 512, 256]⟩
abbrev S1x128x128 : Shape := ⟨3, ![1, 128, 128]⟩
abbrev S128x128 : Shape := ⟨2, ![128, 128]⟩
abbrev S512x128 : Shape := ⟨2, ![512, 128]⟩
abbrev S1x512x128 : Shape := ⟨3, ![1, 512, 128]⟩
abbrev S1x1024x256 : Shape := ⟨3, ![1, 1024, 256]⟩
abbrev S1024x256 : Shape := ⟨2, ![1024, 256]⟩
abbrev S1x1024x128 : Shape := ⟨3, ![1, 1024, 128]⟩
abbrev S1024x128 : Shape := ⟨2, ![1024, 128]⟩
abbrev S512x1024 : Shape := ⟨2, ![512, 1024]⟩
abbrev S1x512x1 : Shape := ⟨3, ![1, 512, 1]⟩
abbrev S512x1 : Shape := ⟨2, ![512, 1]⟩
abbrev S512 : Shape := ⟨1, ![512]⟩
abbrev S128x1024 : Shape := ⟨2, ![128, 1024]⟩
abbrev S4x128x1024 : Shape := ⟨3, ![4, 128, 1024]⟩
abbrev S1x256x64 : Shape := ⟨3, ![1, 256, 64]⟩
abbrev S256x64 : Shape := ⟨2, ![256, 64]⟩
abbrev S128x64 : Shape := ⟨2, ![128, 64]⟩

abbrev nBuf : Space → Nat
  | .hbm => 25
  | .vmem => 16
  | .smem => 0
  | _ => 0

abbrev bufTy : (tb : Table) → Fin (tcTables nBuf tb) → BufTy
  | .hbm, ⟨0, _⟩ => ⟨S4x4096x16x256, .f32⟩
  | .hbm, ⟨1, _⟩ => ⟨S4x4096x16x32, .f32⟩
  | .hbm, ⟨2, _⟩ => ⟨S4x4096x256, .f32⟩
  | .hbm, ⟨3, _⟩ => ⟨S4x4096x32, .f32⟩
  | .hbm, ⟨4, _⟩ => ⟨S16x256x64, .f32⟩
  | .hbm, ⟨5, _⟩ => ⟨S_, .f32⟩
  | .hbm, ⟨6, _⟩ => ⟨S4x4096x16x256, .f32⟩
  | .hbm, ⟨7, _⟩ => ⟨S4x4096x16x256, .f32⟩
  | .hbm, ⟨8, _⟩ => ⟨S4x4096x16x256, .bf16⟩
  | .hbm, ⟨9, _⟩ => ⟨S_, .f32⟩
  | .hbm, ⟨10, _⟩ => ⟨S4x4096x16x32, .f32⟩
  | .hbm, ⟨11, _⟩ => ⟨S4x4096x16x32, .f32⟩
  | .hbm, ⟨12, _⟩ => ⟨S_, .i32⟩
  | .hbm, ⟨13, _⟩ => ⟨S_, .f32⟩
  | .hbm, ⟨14, _⟩ => ⟨S4x4096x16x128, .f32⟩
  | .hbm, ⟨15, _⟩ => ⟨S4x4096x16x128, .bf16⟩
  | .hbm, ⟨16, _⟩ => ⟨S_, .i32⟩
  | .hbm, ⟨17, _⟩ => ⟨S_, .f32⟩
  | .hbm, ⟨18, _⟩ => ⟨S4x4096x128, .f32⟩
  | .hbm, ⟨19, _⟩ => ⟨S4x4096x128, .bf16⟩
  | .hbm, ⟨20, _⟩ => ⟨S4x4096x256, .bf16⟩
  | .hbm, ⟨21, _⟩ => ⟨S16x256x64, .bf16⟩
  | .hbm, ⟨22, _⟩ => ⟨S4x4096x4096, .bf16⟩
  | .hbm, ⟨23, _⟩ => ⟨S4x4096x2048, .bf16⟩
  | .hbm, ⟨24, _⟩ => ⟨S4x4096x1024, .bf16⟩
  | .local _ .vmem, ⟨0, _⟩ => ⟨S1x128x4096, .bf16⟩
  | .local _ .vmem, ⟨1, _⟩ => ⟨S1x128x4096, .bf16⟩
  | .local _ .vmem, ⟨2, _⟩ => ⟨S1x128x2048, .bf16⟩
  | .local _ .vmem, ⟨3, _⟩ => ⟨S1x128x2048, .bf16⟩
  | .local _ .vmem, ⟨4, _⟩ => ⟨S1x4096x256, .bf16⟩
  | .local _ .vmem, ⟨5, _⟩ => ⟨S1x4096x256, .bf16⟩
  | .local _ .vmem, ⟨6, _⟩ => ⟨S1x4096x128, .bf16⟩
  | .local _ .vmem, ⟨7, _⟩ => ⟨S1x4096x128, .bf16⟩
  | .local _ .vmem, ⟨8, _⟩ => ⟨S16x256x64, .bf16⟩
  | .local _ .vmem, ⟨9, _⟩ => ⟨S1x128x1024, .bf16⟩
  | .local _ .vmem, ⟨10, _⟩ => ⟨S1x128x1024, .bf16⟩
  | .local _ .vmem, ⟨11, _⟩ => ⟨S4x512x256, .bf16⟩
  | .local _ .vmem, ⟨12, _⟩ => ⟨S4x512x128, .bf16⟩
  | .local _ .vmem, ⟨13, _⟩ => ⟨S4x512x1, .f32⟩
  | .local _ .vmem, ⟨14, _⟩ => ⟨S4x512x1, .f32⟩
  | .local _ .vmem, ⟨15, _⟩ => ⟨S4x512x256, .f32⟩
  | _, _ => ⟨S4x4096x16x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_call0_v0 : Ref sig .tc := ⟨.hbm, 13, rfl⟩
abbrev main_v5 : Ref sig .tc := ⟨.hbm, 14, rfl⟩
abbrev main_v6 : Ref sig .tc := ⟨.hbm, 15, rfl⟩
abbrev main_c_1 : Ref sig .tc := ⟨.hbm, 16, rfl⟩
abbrev main_call1_v0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_scratch4 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![4, 32], ![false, false]⟩

@[reducible] def k0_t1_loop (i : grid0.Coords) : Scf.Loop 32 :=
  let c0_i32_109 : BitVec 32 := 0#32
  let arg1 : BitVec 32 := BitVec.ofNat 32 (i 1).val
  let c128_i32 : BitVec 32 := 128#32
  let v108 : BitVec 32 := Scalar.muli arg1 c128_i32
  let c0_i32 : BitVec 32 := 0#32
  let v110 : BitVec 1 := Scalar.cmpi .sgt v108 c0_i32
  let v111 : BitVec 32 := Scalar.extui v110
  let c0_i32_104 : BitVec 32 := 0#32
  let v112 : BitVec 1 := Scalar.cmpi .slt v108 c0_i32_104
  let v113 : BitVec 32 := Scalar.extui v112
  let v114 : BitVec 32 := Scalar.subi v111 v113
  let c1024_i32 : BitVec 32 := 1024#32
  let c0_i32_105 : BitVec 32 := 0#32
  let v115 : BitVec 1 := Scalar.cmpi .sgt c1024_i32 c0_i32_105
  let v116 : BitVec 32 := Scalar.extui v115
  let c0_i32_106 : BitVec 32 := 0#32
  let v117 : BitVec 1 := Scalar.cmpi .slt c1024_i32 c0_i32_106
  let v118 : BitVec 32 := Scalar.extui v117
  let v119 : BitVec 32 := Scalar.subi v116 v118
  let v120 : BitVec 1 := Scalar.cmpi .ne v114 v119
  let v121 : BitVec 32 := Scalar.remsi v108 c1024_i32
  let c0_i32_107 : BitVec 32 := 0#32
  let v122 : BitVec 1 := Scalar.cmpi .ne v121 c0_i32_107
  let v123 : BitVec 1 := Scalar.andi v120 v122
  let v109 : BitVec 32 := Scalar.divsi v108 c1024_i32
  let c1_i32 : BitVec 32 := 1#32
  let v124 : BitVec 32 := Scalar.subi v109 c1_i32
  let v125 : BitVec 32 := Scalar.select v123 v124 v109
  let v126 : BitVec 32 := Scalar.subi v125 c0_i32_109
  let c1_i32_110 : BitVec 32 := 1#32
  let v128 : BitVec 32 := Scalar.divsi v126 c1_i32_110
  let v129 : BitVec 32 := Scalar.muli v128 c1_i32_110
  let v130 : BitVec 32 := Scalar.addi c0_i32_109 v129
  let c1_i32_111 : BitVec 32 := 1#32
  ⟨c0_i32_109, v130, c1_i32_111⟩
def k0_mult1 (i : grid0.Coords) (k0_t1 : Fin (k0_t1_loop i).trips) : BitVec 32 :=
  let c0_i32_109 : BitVec 32 := 0#32
  let c1_i32_111 : BitVec 32 := 1#32
  let arg13 : BitVec 32 := Scf.iv c0_i32_109 c1_i32_111 k0_t1
  let c1024_i32_323 : BitVec 32 := 1024#32
  let v428 : BitVec 32 := Scalar.muli arg13 c1024_i32_323
  v428
def k0_off1 (i : grid0.Coords) (k0_t1 : Fin (k0_t1_loop i).trips) : Fin 3 → Nat :=
  let c0_324 : Index := 0#32
  let c0_i32_109 : BitVec 32 := 0#32
  let c1_i32_111 : BitVec 32 := 1#32
  let arg13 : BitVec 32 := Scf.iv c0_i32_109 c1_i32_111 k0_t1
  let c1024_i32_323 : BitVec 32 := 1024#32
  let v428 : BitVec 32 := Scalar.muli arg13 c1024_i32_323
  let v429 : BitVec 32 := v428
  let v430 : Index := Scalar.indexCast v429
  let c0_325 : Index := 0#32
  ![0, v430.toNat, 0]
def k0_off2 (i : grid0.Coords) (k0_t1 : Fin (k0_t1_loop i).trips) : Fin 3 → Nat :=
  let c0_326 : Index := 0#32
  let c0_i32_109 : BitVec 32 := 0#32
  let c1_i32_111 : BitVec 32 := 1#32
  let arg13 : BitVec 32 := Scf.iv c0_i32_109 c1_i32_111 k0_t1
  let c1024_i32_323 : BitVec 32 := 1024#32
  let v428 : BitVec 32 := Scalar.muli arg13 c1024_i32_323
  let v429 : BitVec 32 := v428
  let v433 : Index := Scalar.indexCast v429
  let c0_327 : Index := 0#32
  ![0, v433.toNat, 0]
@[reducible] def k0_t2_loop (i : grid0.Coords) : Scf.Loop 32 :=
  let c0_i32_109 : BitVec 32 := 0#32
  let arg1 : BitVec 32 := BitVec.ofNat 32 (i 1).val
  let c128_i32 : BitVec 32 := 128#32
  let v108 : BitVec 32 := Scalar.muli arg1 c128_i32
  let c0_i32 : BitVec 32 := 0#32
  let v110 : BitVec 1 := Scalar.cmpi .sgt v108 c0_i32
  let v111 : BitVec 32 := Scalar.extui v110
  let c0_i32_104 : BitVec 32 := 0#32
  let v112 : BitVec 1 := Scalar.cmpi .slt v108 c0_i32_104
  let v113 : BitVec 32 := Scalar.extui v112
  let v114 : BitVec 32 := Scalar.subi v111 v113
  let c1024_i32 : BitVec 32 := 1024#32
  let c0_i32_105 : BitVec 32 := 0#32
  let v115 : BitVec 1 := Scalar.cmpi .sgt c1024_i32 c0_i32_105
  let v116 : BitVec 32 := Scalar.extui v115
  let c0_i32_106 : BitVec 32 := 0#32
  let v117 : BitVec 1 := Scalar.cmpi .slt c1024_i32 c0_i32_106
  let v118 : BitVec 32 := Scalar.extui v117
  let v119 : BitVec 32 := Scalar.subi v116 v118
  let v120 : BitVec 1 := Scalar.cmpi .ne v114 v119
  let v121 : BitVec 32 := Scalar.remsi v108 c1024_i32
  let c0_i32_107 : BitVec 32 := 0#32
  let v122 : BitVec 1 := Scalar.cmpi .ne v121 c0_i32_107
  let v123 : BitVec 1 := Scalar.andi v120 v122
  let v109 : BitVec 32 := Scalar.divsi v108 c1024_i32
  let c1_i32 : BitVec 32 := 1#32
  let v124 : BitVec 32 := Scalar.subi v109 c1_i32
  let v125 : BitVec 32 := Scalar.select v123 v124 v109
  let v126 : BitVec 32 := Scalar.subi v125 c0_i32_109
  let c1_i32_110 : BitVec 32 := 1#32
  let v128 : BitVec 32 := Scalar.divsi v126 c1_i32_110
  let v129 : BitVec 32 := Scalar.muli v128 c1_i32_110
  let v130 : BitVec 32 := Scalar.addi c0_i32_109 v129
  let v127 : BitVec 32 := Scalar.addi c0_i32_109 v126
  let c1_i32_112 : BitVec 32 := 1#32
  ⟨v130, v127, c1_i32_112⟩
def k0_mult2 (i : grid0.Coords) (k0_t2 : Fin (k0_t2_loop i).trips) : BitVec 32 :=
  let c0_i32_109 : BitVec 32 := 0#32
  let arg1 : BitVec 32 := BitVec.ofNat 32 (i 1).val
  let c128_i32 : BitVec 32 := 128#32
  let v108 : BitVec 32 := Scalar.muli arg1 c128_i32
  let c0_i32 : BitVec 32 := 0#32
  let v110 : BitVec 1 := Scalar.cmpi .sgt v108 c0_i32
  let v111 : BitVec 32 := Scalar.extui v110
  let c0_i32_104 : BitVec 32 := 0#32
  let v112 : BitVec 1 := Scalar.cmpi .slt v108 c0_i32_104
  let v113 : BitVec 32 := Scalar.extui v112
  let v114 : BitVec 32 := Scalar.subi v111 v113
  let c1024_i32 : BitVec 32 := 1024#32
  let c0_i32_105 : BitVec 32 := 0#32
  let v115 : BitVec 1 := Scalar.cmpi .sgt c1024_i32 c0_i32_105
  let v116 : BitVec 32 := Scalar.extui v115
  let c0_i32_106 : BitVec 32 := 0#32
  let v117 : BitVec 1 := Scalar.cmpi .slt c1024_i32 c0_i32_106
  let v118 : BitVec 32 := Scalar.extui v117
  let v119 : BitVec 32 := Scalar.subi v116 v118
  let v120 : BitVec 1 := Scalar.cmpi .ne v114 v119
  let v121 : BitVec 32 := Scalar.remsi v108 c1024_i32
  let c0_i32_107 : BitVec 32 := 0#32
  let v122 : BitVec 1 := Scalar.cmpi .ne v121 c0_i32_107
  let v123 : BitVec 1 := Scalar.andi v120 v122
  let v109 : BitVec 32 := Scalar.divsi v108 c1024_i32
  let c1_i32 : BitVec 32 := 1#32
  let v124 : BitVec 32 := Scalar.subi v109 c1_i32
  let v125 : BitVec 32 := Scalar.select v123 v124 v109
  let v126 : BitVec 32 := Scalar.subi v125 c0_i32_109
  let c1_i32_110 : BitVec 32 := 1#32
  let v128 : BitVec 32 := Scalar.divsi v126 c1_i32_110
  let v129 : BitVec 32 := Scalar.muli v128 c1_i32_110
  let v130 : BitVec 32 := Scalar.addi c0_i32_109 v129
  let c1_i32_112 : BitVec 32 := 1#32
  let arg13 : BitVec 32 := Scf.iv v130 c1_i32_112 k0_t2
  let c1024_i32_323 : BitVec 32 := 1024#32
  let v428 : BitVec 32 := Scalar.muli arg13 c1024_i32_323
  v428
def k0_off3 (i : grid0.Coords) (k0_t2 : Fin (k0_t2_loop i).trips) : Fin 3 → Nat :=
  let c0_324 : Index := 0#32
  let c0_i32_109 : BitVec 32 := 0#32
  let arg1 : BitVec 32 := BitVec.ofNat 32 (i 1).val
  let c128_i32 : BitVec 32 := 128#32
  let v108 : BitVec 32 := Scalar.muli arg1 c128_i32
  let c0_i32 : BitVec 32 := 0#32
  let v110 : BitVec 1 := Scalar.cmpi .sgt v108 c0_i32
  let v111 : BitVec 32 := Scalar.extui v110
  let c0_i32_104 : BitVec 32 := 0#32
  let v112 : BitVec 1 := Scalar.cmpi .slt v108 c0_i32_104
  let v113 : BitVec 32 := Scalar.extui v112
  let v114 : BitVec 32 := Scalar.subi v111 v113
  let c1024_i32 : BitVec 32 := 1024#32
  let c0_i32_105 : BitVec 32 := 0#32
  let v115 : BitVec 1 := Scalar.cmpi .sgt c1024_i32 c0_i32_105
  let v116 : BitVec 32 := Scalar.extui v115
  let c0_i32_106 : BitVec 32 := 0#32
  let v117 : BitVec 1 := Scalar.cmpi .slt c1024_i32 c0_i32_106
  let v118 : BitVec 32 := Scalar.extui v117
  let v119 : BitVec 32 := Scalar.subi v116 v118
  let v120 : BitVec 1 := Scalar.cmpi .ne v114 v119
  let v121 : BitVec 32 := Scalar.remsi v108 c1024_i32
  let c0_i32_107 : BitVec 32 := 0#32
  let v122 : BitVec 1 := Scalar.cmpi .ne v121 c0_i32_107
  let v123 : BitVec 1 := Scalar.andi v120 v122
  let v109 : BitVec 32 := Scalar.divsi v108 c1024_i32
  let c1_i32 : BitVec 32 := 1#32
  let v124 : BitVec 32 := Scalar.subi v109 c1_i32
  let v125 : BitVec 32 := Scalar.select v123 v124 v109
  let v126 : BitVec 32 := Scalar.subi v125 c0_i32_109
  let c1_i32_110 : BitVec 32 := 1#32
  let v128 : BitVec 32 := Scalar.divsi v126 c1_i32_110
  let v129 : BitVec 32 := Scalar.muli v128 c1_i32_110
  let v130 : BitVec 32 := Scalar.addi c0_i32_109 v129
  let c1_i32_112 : BitVec 32 := 1#32
  let arg13 : BitVec 32 := Scf.iv v130 c1_i32_112 k0_t2
  let c1024_i32_323 : BitVec 32 := 1024#32
  let v428 : BitVec 32 := Scalar.muli arg13 c1024_i32_323
  let v429 : BitVec 32 := v428
  let v430 : Index := Scalar.indexCast v429
  let c0_325 : Index := 0#32
  ![0, v430.toNat, 0]
def k0_off4 (i : grid0.Coords) (k0_t2 : Fin (k0_t2_loop i).trips) : Fin 3 → Nat :=
  let c0_326 : Index := 0#32
  let c0_i32_109 : BitVec 32 := 0#32
  let arg1 : BitVec 32 := BitVec.ofNat 32 (i 1).val
  let c128_i32 : BitVec 32 := 128#32
  let v108 : BitVec 32 := Scalar.muli arg1 c128_i32
  let c0_i32 : BitVec 32 := 0#32
  let v110 : BitVec 1 := Scalar.cmpi .sgt v108 c0_i32
  let v111 : BitVec 32 := Scalar.extui v110
  let c0_i32_104 : BitVec 32 := 0#32
  let v112 : BitVec 1 := Scalar.cmpi .slt v108 c0_i32_104
  let v113 : BitVec 32 := Scalar.extui v112
  let v114 : BitVec 32 := Scalar.subi v111 v113
  let c1024_i32 : BitVec 32 := 1024#32
  let c0_i32_105 : BitVec 32 := 0#32
  let v115 : BitVec 1 := Scalar.cmpi .sgt c1024_i32 c0_i32_105
  let v116 : BitVec 32 := Scalar.extui v115
  let c0_i32_106 : BitVec 32 := 0#32
  let v117 : BitVec 1 := Scalar.cmpi .slt c1024_i32 c0_i32_106
  let v118 : BitVec 32 := Scalar.extui v117
  let v119 : BitVec 32 := Scalar.subi v116 v118
  let v120 : BitVec 1 := Scalar.cmpi .ne v114 v119
  let v121 : BitVec 32 := Scalar.remsi v108 c1024_i32
  let c0_i32_107 : BitVec 32 := 0#32
  let v122 : BitVec 1 := Scalar.cmpi .ne v121 c0_i32_107
  let v123 : BitVec 1 := Scalar.andi v120 v122
  let v109 : BitVec 32 := Scalar.divsi v108 c1024_i32
  let c1_i32 : BitVec 32 := 1#32
  let v124 : BitVec 32 := Scalar.subi v109 c1_i32
  let v125 : BitVec 32 := Scalar.select v123 v124 v109
  let v126 : BitVec 32 := Scalar.subi v125 c0_i32_109
  let c1_i32_110 : BitVec 32 := 1#32
  let v128 : BitVec 32 := Scalar.divsi v126 c1_i32_110
  let v129 : BitVec 32 := Scalar.muli v128 c1_i32_110
  let v130 : BitVec 32 := Scalar.addi c0_i32_109 v129
  let c1_i32_112 : BitVec 32 := 1#32
  let arg13 : BitVec 32 := Scf.iv v130 c1_i32_112 k0_t2
  let c1024_i32_323 : BitVec 32 := 1024#32
  let v428 : BitVec 32 := Scalar.muli arg13 c1024_i32_323
  let v429 : BitVec 32 := v428
  let v433 : Index := Scalar.indexCast v429
  let c0_327 : Index := 0#32
  ![0, v433.toNat, 0]
def k0_mult3 (i : grid0.Coords) : BitVec 32 :=
  let arg1 : BitVec 32 := BitVec.ofNat 32 (i 1).val
  let c128_i32 : BitVec 32 := 128#32
  let v108 : BitVec 32 := Scalar.muli arg1 c128_i32
  let c0_i32 : BitVec 32 := 0#32
  let v110 : BitVec 1 := Scalar.cmpi .sgt v108 c0_i32
  let v111 : BitVec 32 := Scalar.extui v110
  let c0_i32_104 : BitVec 32 := 0#32
  let v112 : BitVec 1 := Scalar.cmpi .slt v108 c0_i32_104
  let v113 : BitVec 32 := Scalar.extui v112
  let v114 : BitVec 32 := Scalar.subi v111 v113
  let c1024_i32 : BitVec 32 := 1024#32
  let c0_i32_105 : BitVec 32 := 0#32
  let v115 : BitVec 1 := Scalar.cmpi .sgt c1024_i32 c0_i32_105
  let v116 : BitVec 32 := Scalar.extui v115
  let c0_i32_106 : BitVec 32 := 0#32
  let v117 : BitVec 1 := Scalar.cmpi .slt c1024_i32 c0_i32_106
  let v118 : BitVec 32 := Scalar.extui v117
  let v119 : BitVec 32 := Scalar.subi v116 v118
  let v120 : BitVec 1 := Scalar.cmpi .ne v114 v119
  let v121 : BitVec 32 := Scalar.remsi v108 c1024_i32
  let c0_i32_107 : BitVec 32 := 0#32
  let v122 : BitVec 1 := Scalar.cmpi .ne v121 c0_i32_107
  let v123 : BitVec 1 := Scalar.andi v120 v122
  let v109 : BitVec 32 := Scalar.divsi v108 c1024_i32
  let c1_i32 : BitVec 32 := 1#32
  let v124 : BitVec 32 := Scalar.subi v109 c1_i32
  let v125 : BitVec 32 := Scalar.select v123 v124 v109
  let c1024_i32_113 : BitVec 32 := 1024#32
  let v131 : BitVec 32 := Scalar.muli v125 c1024_i32_113
  v131
def k0_off5 (i : grid0.Coords) : Fin 3 → Nat :=
  let c0_114 : Index := 0#32
  let arg1 : BitVec 32 := BitVec.ofNat 32 (i 1).val
  let c128_i32 : BitVec 32 := 128#32
  let v108 : BitVec 32 := Scalar.muli arg1 c128_i32
  let c0_i32 : BitVec 32 := 0#32
  let v110 : BitVec 1 := Scalar.cmpi .sgt v108 c0_i32
  let v111 : BitVec 32 := Scalar.extui v110
  let c0_i32_104 : BitVec 32 := 0#32
  let v112 : BitVec 1 := Scalar.cmpi .slt v108 c0_i32_104
  let v113 : BitVec 32 := Scalar.extui v112
  let v114 : BitVec 32 := Scalar.subi v111 v113
  let c1024_i32 : BitVec 32 := 1024#32
  let c0_i32_105 : BitVec 32 := 0#32
  let v115 : BitVec 1 := Scalar.cmpi .sgt c1024_i32 c0_i32_105
  let v116 : BitVec 32 := Scalar.extui v115
  let c0_i32_106 : BitVec 32 := 0#32
  let v117 : BitVec 1 := Scalar.cmpi .slt c1024_i32 c0_i32_106
  let v118 : BitVec 32 := Scalar.extui v117
  let v119 : BitVec 32 := Scalar.subi v116 v118
  let v120 : BitVec 1 := Scalar.cmpi .ne v114 v119
  let v121 : BitVec 32 := Scalar.remsi v108 c1024_i32
  let c0_i32_107 : BitVec 32 := 0#32
  let v122 : BitVec 1 := Scalar.cmpi .ne v121 c0_i32_107
  let v123 : BitVec 1 := Scalar.andi v120 v122
  let v109 : BitVec 32 := Scalar.divsi v108 c1024_i32
  let c1_i32 : BitVec 32 := 1#32
  let v124 : BitVec 32 := Scalar.subi v109 c1_i32
  let v125 : BitVec 32 := Scalar.select v123 v124 v109
  let c1024_i32_113 : BitVec 32 := 1024#32
  let v131 : BitVec 32 := Scalar.muli v125 c1024_i32_113
  let v132 : BitVec 32 := v131
  let v133 : Index := Scalar.indexCast v132
  let c0_115 : Index := 0#32
  ![0, v133.toNat, 0]
def k0_off6 (i : grid0.Coords) : Fin 3 → Nat :=
  let c0_116 : Index := 0#32
  let arg1 : BitVec 32 := BitVec.ofNat 32 (i 1).val
  let c128_i32 : BitVec 32 := 128#32
  let v108 : BitVec 32 := Scalar.muli arg1 c128_i32
  let c0_i32 : BitVec 32 := 0#32
  let v110 : BitVec 1 := Scalar.cmpi .sgt v108 c0_i32
  let v111 : BitVec 32 := Scalar.extui v110
  let c0_i32_104 : BitVec 32 := 0#32
  let v112 : BitVec 1 := Scalar.cmpi .slt v108 c0_i32_104
  let v113 : BitVec 32 := Scalar.extui v112
  let v114 : BitVec 32 := Scalar.subi v111 v113
  let c1024_i32 : BitVec 32 := 1024#32
  let c0_i32_105 : BitVec 32 := 0#32
  let v115 : BitVec 1 := Scalar.cmpi .sgt c1024_i32 c0_i32_105
  let v116 : BitVec 32 := Scalar.extui v115
  let c0_i32_106 : BitVec 32 := 0#32
  let v117 : BitVec 1 := Scalar.cmpi .slt c1024_i32 c0_i32_106
  let v118 : BitVec 32 := Scalar.extui v117
  let v119 : BitVec 32 := Scalar.subi v116 v118
  let v120 : BitVec 1 := Scalar.cmpi .ne v114 v119
  let v121 : BitVec 32 := Scalar.remsi v108 c1024_i32
  let c0_i32_107 : BitVec 32 := 0#32
  let v122 : BitVec 1 := Scalar.cmpi .ne v121 c0_i32_107
  let v123 : BitVec 1 := Scalar.andi v120 v122
  let v109 : BitVec 32 := Scalar.divsi v108 c1024_i32
  let c1_i32 : BitVec 32 := 1#32
  let v124 : BitVec 32 := Scalar.subi v109 c1_i32
  let v125 : BitVec 32 := Scalar.select v123 v124 v109
  let c1024_i32_113 : BitVec 32 := 1024#32
  let v131 : BitVec 32 := Scalar.muli v125 c1024_i32_113
  let v132 : BitVec 32 := v131
  let v136 : Index := Scalar.indexCast v132
  let c0_117 : Index := 0#32
  ![0, v136.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S16x256x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x128x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== KernelIdeal.lean ====
variable {F : FTy → Type} [FloatOps F] [Named F]
def κ : String → Option EReal := fun
  | "clamp" => some ⊥
  | "mask" => some ⊥
  | _ => none
-- ==== ReferenceIdeal.lean ====
abbrev S4x4096x16x256 : Shape := ⟨4, ![4, 4096, 16, 256]⟩
abbrev S4x4096x16x32 : Shape := ⟨4, ![4, 4096, 16, 32]⟩
abbrev S4x4096x256 : Shape := ⟨3, ![4, 4096, 256]⟩
abbrev S4x4096x32 : Shape := ⟨3, ![4, 4096, 32]⟩
abbrev S16x256x64 : Shape := ⟨3, ![16, 256, 64]⟩
abbrev S4096 : Shape := ⟨1, ![4096]⟩
abbrev S4x4096x4096x16 : Shape := ⟨4, ![4, 4096, 4096, 16]⟩
abbrev S4x16x4096x4096 : Shape := ⟨4, ![4, 16, 4096, 4096]⟩
abbrev S_ : Shape := ⟨0, ![]⟩
abbrev S4096x1 : Shape := ⟨2, ![4096, 1]⟩
abbrev S1x4096 : Shape := ⟨2, ![1, 4096]⟩
abbrev S4096x4096 : Shape := ⟨2, ![4096, 4096]⟩
abbrev S4x16x4096 : Shape := ⟨3, ![4, 16, 4096]⟩
abbrev S4x16x4096x1 : Shape := ⟨4, ![4, 16, 4096, 1]⟩
abbrev S4x256x16x4096 : Shape := ⟨4, ![4, 256, 16, 4096]⟩
abbrev S16x64x4x4096 : Shape := ⟨4, ![16, 64, 4, 4096]⟩
abbrev S4x4096x16x64 : Shape := ⟨4, ![4, 4096, 16, 64]⟩
abbrev S4x4096x1024 : Shape := ⟨3, ![4, 4096, 1024]⟩

abbrev nBuf : Space → Nat
  | .hbm => 49
  | .vmem => 0
  | .smem => 0
  | _ => 0

abbrev bufTy : (tb : Table) → Fin (tcTables nBuf tb) → BufTy
  | .hbm, ⟨0, _⟩ => ⟨S4x4096x16x256, .f32⟩
  | .hbm, ⟨1, _⟩ => ⟨S4x4096x16x32, .f32⟩
  | .hbm, ⟨2, _⟩ => ⟨S4x4096x256, .f32⟩
  | .hbm, ⟨3, _⟩ => ⟨S4x4096x32, .f32⟩
  | .hbm, ⟨4, _⟩ => ⟨S16x256x64, .f32⟩
  | .hbm, ⟨5, _⟩ => ⟨S4096, .i32⟩
  | .hbm, ⟨6, _⟩ => ⟨S4x4096x4096x16, .f32⟩
  | .hbm, ⟨7, _⟩ => ⟨S4x16x4096x4096, .f32⟩
  | .hbm, ⟨8, _⟩ => ⟨S4x4096x4096x16, .f32⟩
  | .hbm, ⟨9, _⟩ => ⟨S4x16x4096x4096, .f32⟩
  | .hbm, ⟨10, _⟩ => ⟨S4x16x4096x4096, .f32⟩
  | .hbm, ⟨11, _⟩ => ⟨S_, .f32⟩
  | .hbm, ⟨12, _⟩ => ⟨S4x16x4096x4096, .f32⟩
  | .hbm, ⟨13, _⟩ => ⟨S4x16x4096x4096, .f32⟩
  | .hbm, ⟨14, _⟩ => ⟨S4096x1, .i32⟩
  | .hbm, ⟨15, _⟩ => ⟨S1x4096, .i32⟩
  | .hbm, ⟨16, _⟩ => ⟨S4096x4096, .i32⟩
  | .hbm, ⟨17, _⟩ => ⟨S4096x4096, .i32⟩
  | .hbm, ⟨18, _⟩ => ⟨S4096x4096, .i1⟩
  | .hbm, ⟨19, _⟩ => ⟨S_, .f32⟩
  | .hbm, ⟨20, _⟩ => ⟨S_, .f32⟩
  | .hbm, ⟨21, _⟩ => ⟨S4x16x4096x4096, .i1⟩
  | .hbm, ⟨22, _⟩ => ⟨S4x16x4096x4096, .f32⟩
  | .hbm, ⟨23, _⟩ => ⟨S4x16x4096x4096, .f32⟩
  | .hbm, ⟨24, _⟩ => ⟨S_, .f32⟩
  | .hbm, ⟨25, _⟩ => ⟨S4x16x4096, .f32⟩
  | .hbm, ⟨26, _⟩ => ⟨S_, .f32⟩
  | .hbm, ⟨27, _⟩ => ⟨S4x16x4096, .f32⟩
  | .hbm, ⟨28, _⟩ => ⟨S4x16x4096, .f32⟩
  | .hbm, ⟨29, _⟩ => ⟨S4x16x4096x1, .f32⟩
  | .hbm, ⟨30, _⟩ => ⟨S4x16x4096x4096, .f32⟩
  | .hbm, ⟨31, _⟩ => ⟨S4x16x4096x4096, .f32⟩
  | .hbm, ⟨32, _⟩ => ⟨S4x16x4096x4096, .f32⟩
  | .hbm, ⟨33, _⟩ => ⟨S_, .f32⟩
  | .hbm, ⟨34, _⟩ => ⟨S4x16x4096, .f32⟩
  | .hbm, ⟨35, _⟩ => ⟨S4x16x4096x1, .f32⟩
  | .hbm, ⟨36, _⟩ => ⟨S4x16x4096x4096, .f32⟩
  | .hbm, ⟨37, _⟩ => ⟨S4x16x4096x4096, .f32⟩
  | .hbm, ⟨38, _⟩ => ⟨S_, .f32⟩
  | .hbm, ⟨39, _⟩ => ⟨S_, .f32⟩
  | .hbm, ⟨40, _⟩ => ⟨S4x16x4096x4096, .i1⟩
  | .hbm, ⟨41, _⟩ => ⟨S4x16x4096x4096, .f32⟩
  | .hbm, ⟨42, _⟩ => ⟨S4x16x4096x4096, .f32⟩
  | .hbm, ⟨43, _⟩ => ⟨S4x256x16x4096, .f32⟩
  | .hbm, ⟨44, _⟩ => ⟨S4x4096x16x256, .f32⟩
  | .hbm, ⟨45, _⟩ => ⟨S16x64x4x4096, .f32⟩
  | .hbm, ⟨46, _⟩ => ⟨S4x4096x16x64, .f32⟩
  | .hbm, ⟨47, _⟩ => ⟨S4x4096x1024, .f32⟩
  | .hbm, ⟨48, _⟩ => ⟨S4x4096x1024, .bf16⟩
  | _, _ => ⟨S4x4096x16x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_4 : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩

abbrev nD : Nat := 1
abbrev τ : Topo := Topo.v7x

variable {F : FTy → Type} [FloatOps F]
-- ==== KernelFfn.lean ====
abbrev S16384x2048 : Shape := ⟨2, ![16384, 2048]⟩
abbrev S2048x5632 : Shape := ⟨2, ![2048, 5632]⟩
abbrev S5632x2048 : Shape := ⟨2, ![5632, 2048]⟩
abbrev S512x2048 : Shape := ⟨2, ![512, 2048]⟩
abbrev S2048x512 : Shape := ⟨2, ![2048, 512]⟩
abbrev S512x512 : Shape := ⟨2, ![512, 512]⟩

abbrev nBuf : Space → Nat
  | .hbm => 10
  | .vmem => 13
  | .smem => 0
  | _ => 0

abbrev bufTy : (tb : Table) → Fin (tcTables nBuf tb) → BufTy
  | .hbm, ⟨0, _⟩ => ⟨S16384x2048, .f32⟩
  | .hbm, ⟨1, _⟩ => ⟨S16384x2048, .f32⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S2048x5632, .bf16⟩
  | .hbm, ⟨6, _⟩ => ⟨S2048x5632, .bf16⟩
  | .hbm, ⟨7, _⟩ => ⟨S5632x2048, .bf16⟩
  | .hbm, ⟨8, _⟩ => ⟨S16384x2048, .bf16⟩
  | .hbm, ⟨9, _⟩ => ⟨S16384x2048, .f32⟩
  | .local _ .vmem, ⟨0, _⟩ => ⟨S512x2048, .bf16⟩
  | .local _ .vmem, ⟨1, _⟩ => ⟨S512x2048, .bf16⟩
  | .local _ .vmem, ⟨2, _⟩ => ⟨S512x2048, .f32⟩
  | .local _ .vmem, ⟨3, _⟩ => ⟨S512x2048, .f32⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S512x2048, .bf16⟩
  | .local _ .vmem, ⟨9, _⟩ => ⟨S512x2048, .bf16⟩
  | .local _ .vmem, ⟨10, _⟩ => ⟨S512x2048, .f32⟩
  | .local _ .vmem, ⟨11, _⟩ => ⟨S512x2048, .f32⟩
  | .local _ .vmem, ⟨12, _⟩ => ⟨S512x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![32, 11], ![false, false]⟩

def k0_cond2 (i : grid0.Coords) : BitVec 1 :=
  let arg1 : BitVec 32 := BitVec.ofNat 32 (i 1).val
  let c10_i32 : BitVec 32 := 10#32
  let v23 : BitVec 1 := Scalar.cmpi .eq arg1 c10_i32
  let v24 : BitVec 32 := Scalar.extui v23
  let c0_i32_14 : BitVec 32 := 0#32
  let v25 : BitVec 1 := Scalar.cmpi .ne v24 c0_i32_14
  v25

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== KernelFfnIdeal.lean ====
abbrev S16384x2048 : Shape := ⟨2, ![16384, 2048]⟩
abbrev S2048x5632 : Shape := ⟨2, ![2048, 5632]⟩
abbrev S5632x2048 : Shape := ⟨2, ![5632, 2048]⟩
abbrev S512x2048 : Shape := ⟨2, ![512, 2048]⟩
abbrev S2048x512 : Shape := ⟨2, ![2048, 512]⟩
abbrev S512x512 : Shape := ⟨2, ![512, 512]⟩

abbrev nBuf : Space → Nat
  | .hbm => 10
  | .vmem => 13
  | .smem => 0
  | _ => 0

abbrev bufTy : (tb : Table) → Fin (tcTables nBuf tb) → BufTy
  | .hbm, ⟨0, _⟩ => ⟨S16384x2048, .f32⟩
  | .hbm, ⟨1, _⟩ => ⟨S16384x2048, .f32⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S2048x5632, .bf16⟩
  | .hbm, ⟨6, _⟩ => ⟨S2048x5632, .bf16⟩
  | .hbm, ⟨7, _⟩ => ⟨S5632x2048, .bf16⟩
  | .hbm, ⟨8, _⟩ => ⟨S16384x2048, .bf16⟩
  | .hbm, ⟨9, _⟩ => ⟨S16384x2048, .f32⟩
  | .local _ .vmem, ⟨0, _⟩ => ⟨S512x2048, .bf16⟩
  | .local _ .vmem, ⟨1, _⟩ => ⟨S512x2048, .bf16⟩
  | .local _ .vmem, ⟨2, _⟩ => ⟨S512x2048, .f32⟩
  | .local _ .vmem, ⟨3, _⟩ => ⟨S512x2048, .f32⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S512x2048, .bf16⟩
  | .local _ .vmem, ⟨9, _⟩ => ⟨S512x2048, .bf16⟩
  | .local _ .vmem, ⟨10, _⟩ => ⟨S512x2048, .f32⟩
  | .local _ .vmem, ⟨11, _⟩ => ⟨S512x2048, .f32⟩
  | .local _ .vmem, ⟨12, _⟩ => ⟨S512x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![32, 11], ![false, false]⟩

def k0_cond2 (i : grid0.Coords) : BitVec 1 :=
  let arg1 : BitVec 32 := BitVec.ofNat 32 (i 1).val
  let c10_i32 : BitVec 32 := 10#32
  let v23 : BitVec 1 := Scalar.cmpi .eq arg1 c10_i32
  let v24 : BitVec 32 := Scalar.extui v23
  let c0_i32_14 : BitVec 32 := 0#32
  let v25 : BitVec 1 := Scalar.cmpi .ne v24 c0_i32_14
  v25

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== ReferenceFfnIdeal.lean ====
abbrev S16384x2048 : Shape := ⟨2, ![16384, 2048]⟩
abbrev S2048x5632 : Shape := ⟨2, ![2048, 5632]⟩
abbrev S5632x2048 : Shape := ⟨2, ![5632, 2048]⟩
abbrev S16384x5632 : Shape := ⟨2, ![16384, 5632]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x2048, .f32⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S16384x5632, .f32⟩
  | .hbm, ⟨6, _⟩ => ⟨S16384x5632, .f32⟩
  | .hbm, ⟨7, _⟩ => ⟨S16384x5632, .f32⟩
  | .hbm, ⟨8, _⟩ => ⟨S_, .f32⟩
  | .hbm, ⟨9, _⟩ => ⟨S16384x5632, .f32⟩
  | .hbm, ⟨10, _⟩ => ⟨S16384x5632, .f32⟩
  | .hbm, ⟨11, _⟩ => ⟨S_, .f32⟩
  | .hbm, ⟨12, _⟩ => ⟨S16384x5632, .f32⟩
  | .hbm, ⟨13, _⟩ => ⟨S16384x5632, .f32⟩
  | .hbm, ⟨14, _⟩ => ⟨S16384x5632, .f32⟩
  | .hbm, ⟨15, _⟩ => ⟨S16384x5632, .f32⟩
  | .hbm, ⟨16, _⟩ => ⟨S16384x5632, .f32⟩
  | .hbm, ⟨17, _⟩ => ⟨S16384x2048, .f32⟩
  | .hbm, ⟨18, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩

abbrev nD : Nat := 1
abbrev τ : Topo := Topo.v7x

variable {F : FTy → Type} [FloatOps F]
-- ==== KernelOut.lean ====
abbrev S16384x2048 : Shape := ⟨2, ![16384, 2048]⟩
abbrev S16384x1024 : Shape := ⟨2, ![16384, 1024]⟩
abbrev S1024x2048 : Shape := ⟨2, ![1024, 2048]⟩
abbrev S2048x2048 : Shape := ⟨2, ![2048, 2048]⟩
abbrev S2048 : Shape := ⟨1, ![2048]⟩
abbrev S1x2048 : Shape := ⟨2, ![1, 2048]⟩
abbrev S_ : Shape := ⟨0, ![]⟩
abbrev S16384x7168 : Shape := ⟨2, ![16384, 7168]⟩
abbrev S256x2048 : Shape := ⟨2, ![256, 2048]⟩
abbrev S256x1024 : Shape := ⟨2, ![256, 1024]⟩
abbrev S256 : Shape := ⟨1, ![256]⟩
abbrev S256x1 : Shape := ⟨2, ![256, 1]⟩

abbrev nBuf : Space → Nat
  | .hbm => 22
  | .vmem => 18
  | .smem => 0
  | _ => 0

abbrev bufTy : (tb : Table) → Fin (tcTables nBuf tb) → BufTy
  | .hbm, ⟨0, _⟩ => ⟨S16384x2048, .f32⟩
  | .hbm, ⟨1, _⟩ => ⟨S16384x1024, .f32⟩
  | .hbm, ⟨2, _⟩ => ⟨S16384x1024, .f32⟩
  | .hbm, ⟨3, _⟩ => ⟨S16384x2048, .f32⟩
  | .hbm, ⟨4, _⟩ => ⟨S16384x2048, .f32⟩
  | .hbm, ⟨5, _⟩ => ⟨S1024x2048, .f32⟩
  | .hbm, ⟨6, _⟩ => ⟨S1024x2048, .f32⟩
  | .hbm, ⟨7, _⟩ => ⟨S2048x2048, .f32⟩
  | .hbm, ⟨8, _⟩ => ⟨S2048, .f32⟩
  | .hbm, ⟨9, _⟩ => ⟨S1024x2048, .bf16⟩
  | .hbm, ⟨10, _⟩ => ⟨S1024x2048, .bf16⟩
  | .hbm, ⟨11, _⟩ => ⟨S2048x2048, .bf16⟩
  | .hbm, ⟨12, _⟩ => ⟨S1x2048, .f32⟩
  | .hbm, ⟨13, _⟩ => ⟨S_, .f32⟩
  | .hbm, ⟨14, _⟩ => ⟨S16384x2048, .f32⟩
  | .hbm, ⟨15, _⟩ => ⟨S_, .f32⟩
  | .hbm, ⟨16, _⟩ => ⟨S16384x1024, .f32⟩
  | .hbm, ⟨17, _⟩ => ⟨S16384x7168, .f32⟩
  | .hbm, ⟨18, _⟩ => ⟨S16384x1024, .bf16⟩
  | .hbm, ⟨19, _⟩ => ⟨S16384x1024, .bf16⟩
  | .hbm, ⟨20, _⟩ => ⟨S16384x2048, .f32⟩
  | .hbm, ⟨21, _⟩ => ⟨S16384x2048, .bf16⟩
  | .local _ .vmem, ⟨0, _⟩ => ⟨S256x2048, .f32⟩
  | .local _ .vmem, ⟨1, _⟩ => ⟨S256x2048, .f32⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S1024x2048, .bf16⟩
  | .local _ .vmem, ⟨11, _⟩ => ⟨S1024x2048, .bf16⟩
  | .local _ .vmem, ⟨12, _⟩ => ⟨S2048x2048, .bf16⟩
  | .local _ .vmem, ⟨13, _⟩ => ⟨S1x2048, .f32⟩
  | .local _ .vmem, ⟨14, _⟩ => ⟨S256x2048, .f32⟩
  | .local _ .vmem, ⟨15, _⟩ => ⟨S256x2048, .f32⟩
  | .local _ .vmem, ⟨16, _⟩ => ⟨S256x2048, .bf16⟩
  | .local _ .vmem, ⟨17, _⟩ => ⟨S256x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9_0 : Ref sig .tc := ⟨.hbm, 20, rfl⟩
abbrev main_v9_1 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== KernelOutIdeal.lean ====
abbrev S16384x2048 : Shape := ⟨2, ![16384, 2048]⟩
abbrev S16384x1024 : Shape := ⟨2, ![16384, 1024]⟩
abbrev S1024x2048 : Shape := ⟨2, ![1024, 2048]⟩
abbrev S2048x2048 : Shape := ⟨2, ![2048, 2048]⟩
abbrev S2048 : Shape := ⟨1, ![2048]⟩
abbrev S1x2048 : Shape := ⟨2, ![1, 2048]⟩
abbrev S_ : Shape := ⟨0, ![]⟩
abbrev S16384x7168 : Shape := ⟨2, ![16384, 7168]⟩
abbrev S256x2048 : Shape := ⟨2, ![256, 2048]⟩
abbrev S256x1024 : Shape := ⟨2, ![256, 1024]⟩
abbrev S256 : Shape := ⟨1, ![256]⟩
abbrev S256x1 : Shape := ⟨2, ![256, 1]⟩

abbrev nBuf : Space → Nat
  | .hbm => 22
  | .vmem => 18
  | .smem => 0
  | _ => 0

abbrev bufTy : (tb : Table) → Fin (tcTables nBuf tb) → BufTy
  | .hbm, ⟨0, _⟩ => ⟨S16384x2048, .f32⟩
  | .hbm, ⟨1, _⟩ => ⟨S16384x1024, .f32⟩
  | .hbm, ⟨2, _⟩ => ⟨S16384x1024, .f32⟩
  | .hbm, ⟨3, _⟩ => ⟨S16384x2048, .f32⟩
  | .hbm, ⟨4, _⟩ => ⟨S16384x2048, .f32⟩
  | .hbm, ⟨5, _⟩ => ⟨S1024x2048, .f32⟩
  | .hbm, ⟨6, _⟩ => ⟨S1024x2048, .f32⟩
  | .hbm, ⟨7, _⟩ => ⟨S2048x2048, .f32⟩
  | .hbm, ⟨8, _⟩ => ⟨S2048, .f32⟩
  | .hbm, ⟨9, _⟩ => ⟨S1024x2048, .bf16⟩
  | .hbm, ⟨10, _⟩ => ⟨S1024x2048, .bf16⟩
  | .hbm, ⟨11, _⟩ => ⟨S2048x2048, .bf16⟩
  | .hbm, ⟨12, _⟩ => ⟨S1x2048, .f32⟩
  | .hbm, ⟨13, _⟩ => ⟨S_, .f32⟩
  | .hbm, ⟨14, _⟩ => ⟨S16384x2048, .f32⟩
  | .hbm, ⟨15, _⟩ => ⟨S_, .f32⟩
  | .hbm, ⟨16, _⟩ => ⟨S16384x1024, .f32⟩
  | .hbm, ⟨17, _⟩ => ⟨S16384x7168, .f32⟩
  | .hbm, ⟨18, _⟩ => ⟨S16384x1024, .bf16⟩
  | .hbm, ⟨19, _⟩ => ⟨S16384x1024, .bf16⟩
  | .hbm, ⟨20, _⟩ => ⟨S16384x2048, .f32⟩
  | .hbm, ⟨21, _⟩ => ⟨S16384x2048, .bf16⟩
  | .local _ .vmem, ⟨0, _⟩ => ⟨S256x2048, .f32⟩
  | .local _ .vmem, ⟨1, _⟩ => ⟨S256x2048, .f32⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S1024x2048, .bf16⟩
  | .local _ .vmem, ⟨11, _⟩ => ⟨S1024x2048, .bf16⟩
  | .local _ .vmem, ⟨12, _⟩ => ⟨S2048x2048, .bf16⟩
  | .local _ .vmem, ⟨13, _⟩ => ⟨S1x2048, .f32⟩
  | .local _ .vmem, ⟨14, _⟩ => ⟨S256x2048, .f32⟩
  | .local _ .vmem, ⟨15, _⟩ => ⟨S256x2048, .f32⟩
  | .local _ .vmem, ⟨16, _⟩ => ⟨S256x2048, .bf16⟩
  | .local _ .vmem, ⟨17, _⟩ => ⟨S256x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9_0 : Ref sig .tc := ⟨.hbm, 20, rfl⟩
abbrev main_v9_1 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceOutIdeal.lean ====
abbrev S16384x2048 : Shape := ⟨2, ![16384, 2048]⟩
abbrev S16384x1024 : Shape := ⟨2, ![16384, 1024]⟩
abbrev S1024x2048 : Shape := ⟨2, ![1024, 2048]⟩
abbrev S2048x2048 : Shape := ⟨2, ![2048, 2048]⟩
abbrev S2048 : Shape := ⟨1, ![2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩

abbrev nBuf : Space → Nat
  | .hbm => 49
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x1024, .f32⟩
  | .hbm, ⟨2, _⟩ => ⟨S16384x1024, .f32⟩
  | .hbm, ⟨3, _⟩ => ⟨S16384x2048, .f32⟩
  | .hbm, ⟨4, _⟩ => ⟨S16384x2048, .f32⟩
  | .hbm, ⟨5, _⟩ => ⟨S1024x2048, .f32⟩
  | .hbm, ⟨6, _⟩ => ⟨S1024x2048, .f32⟩
  | .hbm, ⟨7, _⟩ => ⟨S2048x2048, .f32⟩
  | .hbm, ⟨8, _⟩ => ⟨S2048, .f32⟩
  | .hbm, ⟨9, _⟩ => ⟨S16384x2048, .f32⟩
  | .hbm, ⟨10, _⟩ => ⟨S16384x2048, .f32⟩
  | .hbm, ⟨11, _⟩ => ⟨S_, .f32⟩
  | .hbm, ⟨12, _⟩ => ⟨S16384x2048, .f32⟩
  | .hbm, ⟨13, _⟩ => ⟨S16384x2048, .f32⟩
  | .hbm, ⟨14, _⟩ => ⟨S_, .f32⟩
  | .hbm, ⟨15, _⟩ => ⟨S16384x2048, .f32⟩
  | .hbm, ⟨16, _⟩ => ⟨S16384x2048, .f32⟩
  | .hbm, ⟨17, _⟩ => ⟨S16384x2048, .f32⟩
  | .hbm, ⟨18, _⟩ => ⟨S16384x2048, .f32⟩
  | .hbm, ⟨19, _⟩ => ⟨S16384x2048, .f32⟩
  | .hbm, ⟨20, _⟩ => ⟨S16384x2048, .f32⟩
  | .hbm, ⟨21, _⟩ => ⟨S_, .f32⟩
  | .hbm, ⟨22, _⟩ => ⟨S16384x2048, .f32⟩
  | .hbm, ⟨23, _⟩ => ⟨S16384x2048, .f32⟩
  | .hbm, ⟨24, _⟩ => ⟨S_, .f32⟩
  | .hbm, ⟨25, _⟩ => ⟨S16384x2048, .f32⟩
  | .hbm, ⟨26, _⟩ => ⟨S16384x2048, .f32⟩
  | .hbm, ⟨27, _⟩ => ⟨S16384x2048, .f32⟩
  | .hbm, ⟨28, _⟩ => ⟨S16384x2048, .f32⟩
  | .hbm, ⟨29, _⟩ => ⟨S16384x2048, .f32⟩
  | .hbm, ⟨30, _⟩ => ⟨S16384x2048, .f32⟩
  | .hbm, ⟨31, _⟩ => ⟨S16384x2048, .f32⟩
  | .hbm, ⟨32, _⟩ => ⟨S16384x2048, .f32⟩
  | .hbm, ⟨33, _⟩ => ⟨S_, .f32⟩
  | .hbm, ⟨34, _⟩ => ⟨S16384, .f32⟩
  | .hbm, ⟨35, _⟩ => ⟨S16384x1, .f32⟩
  | .hbm, ⟨36, _⟩ => ⟨S_, .f32⟩
  | .hbm, ⟨37, _⟩ => ⟨S16384x1, .f32⟩
  | .hbm, ⟨38, _⟩ => ⟨S16384x1, .f32⟩
  | .hbm, ⟨39, _⟩ => ⟨S_, .f32⟩
  | .hbm, ⟨40, _⟩ => ⟨S16384x1, .f32⟩
  | .hbm, ⟨41, _⟩ => ⟨S16384x1, .f32⟩
  | .hbm, ⟨42, _⟩ => ⟨S16384x1, .f32⟩
  | .hbm, ⟨43, _⟩ => ⟨S16384x2048, .f32⟩
  | .hbm, ⟨44, _⟩ => ⟨S16384x2048, .f32⟩
  | .hbm, ⟨45, _⟩ => ⟨S1x2048, .f32⟩
  | .hbm, ⟨46, _⟩ => ⟨S16384x2048, .f32⟩
  | .hbm, ⟨47, _⟩ => ⟨S16384x2048, .f32⟩
  | .hbm, ⟨48, _⟩ => ⟨S16384x2048, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_cst_2 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_3 : Ref sig .tc := ⟨.hbm, 33, rfl⟩
abbrev main_v20 : Ref sig .tc := ⟨.hbm, 34, rfl⟩
abbrev main_v21 : Ref sig .tc := ⟨.hbm, 35, rfl⟩
abbrev main_cst_4 : Ref sig .tc := ⟨.hbm, 36, rfl⟩
abbrev main_v22 : Ref sig .tc := ⟨.hbm, 37, rfl⟩
abbrev main_v23 : Ref sig .tc := ⟨.hbm, 38, rfl⟩
abbrev main_cst_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩

abbrev nD : Nat := 1
abbrev τ : Topo := Topo.v7x

variable {F : FTy → Type} [FloatOps F]
-- ==== KernelIn.lean ====
abbrev S16384x2048 : Shape := ⟨2, ![16384, 2048]⟩
abbrev S2048 : Shape := ⟨1, ![2048]⟩
abbrev S2048x6736 : Shape := ⟨2, ![2048, 6736]⟩
abbrev S2048x1024 : Shape := ⟨2, ![2048, 1024]⟩
abbrev S2048x256 : Shape := ⟨2, ![2048, 256]⟩
abbrev S2048x48 : Shape := ⟨2, ![2048, 48]⟩
abbrev S2048x512 : Shape := ⟨2, ![2048, 512]⟩
abbrev S2048x32 : Shape := ⟨2, ![2048, 32]⟩
abbrev S2048x2048 : Shape := ⟨2, ![2048, 2048]⟩
abbrev S_ : Shape := ⟨0, ![]⟩
abbrev S2048x432 : Shape := ⟨2, ![2048, 432]⟩
abbrev S1x2048 : Shape := ⟨2, ![1, 2048]⟩
abbrev S2048x7168 : Shape := ⟨2, ![2048, 7168]⟩
abbrev S16384x7168 : Shape := ⟨2, ![16384, 7168]⟩
abbrev S512x2048 : Shape := ⟨2, ![512, 2048]⟩
abbrev S512x1024 : Shape := ⟨2, ![512, 1024]⟩
abbrev S512 : Shape := ⟨1, ![512]⟩
abbrev S512x1 : Shape := ⟨2, ![512, 1]⟩

abbrev nBuf : Space → Nat
  | .hbm => 19
  | .vmem => 8
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x6736, .f32⟩
  | .hbm, ⟨3, _⟩ => ⟨S2048x1024, .f32⟩
  | .hbm, ⟨4, _⟩ => ⟨S2048x256, .f32⟩
  | .hbm, ⟨5, _⟩ => ⟨S2048x256, .f32⟩
  | .hbm, ⟨6, _⟩ => ⟨S2048x256, .f32⟩
  | .hbm, ⟨7, _⟩ => ⟨S2048x48, .f32⟩
  | .hbm, ⟨8, _⟩ => ⟨S2048x512, .f32⟩
  | .hbm, ⟨9, _⟩ => ⟨S2048x256, .f32⟩
  | .hbm, ⟨10, _⟩ => ⟨S2048x32, .f32⟩
  | .hbm, ⟨11, _⟩ => ⟨S2048x2048, .f32⟩
  | .hbm, ⟨12, _⟩ => ⟨S2048x2048, .f32⟩
  | .hbm, ⟨13, _⟩ => ⟨S_, .f32⟩
  | .hbm, ⟨14, _⟩ => ⟨S2048x432, .f32⟩
  | .hbm, ⟨15, _⟩ => ⟨S1x2048, .f32⟩
  | .hbm, ⟨16, _⟩ => ⟨S2048x7168, .f32⟩
  | .hbm, ⟨17, _⟩ => ⟨S2048x7168, .bf16⟩
  | .hbm, ⟨18, _⟩ => ⟨S16384x7168, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S512x1024, .f32⟩
  | .local _ .vmem, ⟨6, _⟩ => ⟨S512x1024, .f32⟩
  | .local _ .vmem, ⟨7, _⟩ => ⟨S512x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![32, 7], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== KernelInIdeal.lean ====
abbrev S16384x2048 : Shape := ⟨2, ![16384, 2048]⟩
abbrev S2048 : Shape := ⟨1, ![2048]⟩
abbrev S2048x6736 : Shape := ⟨2, ![2048, 6736]⟩
abbrev S2048x1024 : Shape := ⟨2, ![2048, 1024]⟩
abbrev S2048x256 : Shape := ⟨2, ![2048, 256]⟩
abbrev S2048x48 : Shape := ⟨2, ![2048, 48]⟩
abbrev S2048x512 : Shape := ⟨2, ![2048, 512]⟩
abbrev S2048x32 : Shape := ⟨2, ![2048, 32]⟩
abbrev S2048x2048 : Shape := ⟨2, ![2048, 2048]⟩
abbrev S_ : Shape := ⟨0, ![]⟩
abbrev S2048x432 : Shape := ⟨2, ![2048, 432]⟩
abbrev S1x2048 : Shape := ⟨2, ![1, 2048]⟩
abbrev S2048x7168 : Shape := ⟨2, ![2048, 7168]⟩
abbrev S16384x7168 : Shape := ⟨2, ![16384, 7168]⟩
abbrev S512x2048 : Shape := ⟨2, ![512, 2048]⟩
abbrev S512x1024 : Shape := ⟨2, ![512, 1024]⟩
abbrev S512 : Shape := ⟨1, ![512]⟩
abbrev S512x1 : Shape := ⟨2, ![512, 1]⟩

abbrev nBuf : Space → Nat
  | .hbm => 19
  | .vmem => 8
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x6736, .f32⟩
  | .hbm, ⟨3, _⟩ => ⟨S2048x1024, .f32⟩
  | .hbm, ⟨4, _⟩ => ⟨S2048x256, .f32⟩
  | .hbm, ⟨5, _⟩ => ⟨S2048x256, .f32⟩
  | .hbm, ⟨6, _⟩ => ⟨S2048x256, .f32⟩
  | .hbm, ⟨7, _⟩ => ⟨S2048x48, .f32⟩
  | .hbm, ⟨8, _⟩ => ⟨S2048x512, .f32⟩
  | .hbm, ⟨9, _⟩ => ⟨S2048x256, .f32⟩
  | .hbm, ⟨10, _⟩ => ⟨S2048x32, .f32⟩
  | .hbm, ⟨11, _⟩ => ⟨S2048x2048, .f32⟩
  | .hbm, ⟨12, _⟩ => ⟨S2048x2048, .f32⟩
  | .hbm, ⟨13, _⟩ => ⟨S_, .f32⟩
  | .hbm, ⟨14, _⟩ => ⟨S2048x432, .f32⟩
  | .hbm, ⟨15, _⟩ => ⟨S1x2048, .f32⟩
  | .hbm, ⟨16, _⟩ => ⟨S2048x7168, .f32⟩
  | .hbm, ⟨17, _⟩ => ⟨S2048x7168, .bf16⟩
  | .hbm, ⟨18, _⟩ => ⟨S16384x7168, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S512x1024, .f32⟩
  | .local _ .vmem, ⟨6, _⟩ => ⟨S512x1024, .f32⟩
  | .local _ .vmem, ⟨7, _⟩ => ⟨S512x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![32, 7], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceInIdeal.lean ====
abbrev S16384x2048 : Shape := ⟨2, ![16384, 2048]⟩
abbrev S2048 : Shape := ⟨1, ![2048]⟩
abbrev S2048x6736 : Shape := ⟨2, ![2048, 6736]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S16384x6736 : Shape := ⟨2, ![16384, 6736]⟩
abbrev S16384x1024 : Shape := ⟨2, ![16384, 1024]⟩
abbrev S16384x256 : Shape := ⟨2, ![16384, 256]⟩
abbrev S16384x48 : Shape := ⟨2, ![16384, 48]⟩
abbrev S16384x512 : Shape := ⟨2, ![16384, 512]⟩
abbrev S16384x32 : Shape := ⟨2, ![16384, 32]⟩
abbrev S16384x432 : Shape := ⟨2, ![16384, 432]⟩
abbrev S16384x7168 : Shape := ⟨2, ![16384, 7168]⟩

abbrev nBuf : Space → Nat
  | .hbm => 33
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x6736, .f32⟩
  | .hbm, ⟨3, _⟩ => ⟨S16384x2048, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x2048, .f32⟩
  | .hbm, ⟨15, _⟩ => ⟨S16384x2048, .f32⟩
  | .hbm, ⟨16, _⟩ => ⟨S1x2048, .f32⟩
  | .hbm, ⟨17, _⟩ => ⟨S16384x2048, .f32⟩
  | .hbm, ⟨18, _⟩ => ⟨S16384x2048, .f32⟩
  | .hbm, ⟨19, _⟩ => ⟨S16384x6736, .f32⟩
  | .hbm, ⟨20, _⟩ => ⟨S16384x1024, .f32⟩
  | .hbm, ⟨21, _⟩ => ⟨S16384x256, .f32⟩
  | .hbm, ⟨22, _⟩ => ⟨S16384x256, .f32⟩
  | .hbm, ⟨23, _⟩ => ⟨S16384x256, .f32⟩
  | .hbm, ⟨24, _⟩ => ⟨S16384x48, .f32⟩
  | .hbm, ⟨25, _⟩ => ⟨S16384x512, .f32⟩
  | .hbm, ⟨26, _⟩ => ⟨S16384x256, .f32⟩
  | .hbm, ⟨27, _⟩ => ⟨S16384x32, .f32⟩
  | .hbm, ⟨28, _⟩ => ⟨S16384x2048, .f32⟩
  | .hbm, ⟨29, _⟩ => ⟨S16384x2048, .f32⟩
  | .hbm, ⟨30, _⟩ => ⟨S_, .f32⟩
  | .hbm, ⟨31, _⟩ => ⟨S16384x432, .f32⟩
  | .hbm, ⟨32, _⟩ => ⟨S16384x7168, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_2 : Ref sig .tc := ⟨.hbm, 30, rfl⟩
abbrev main_v24 : Ref sig .tc := ⟨.hbm, 31, rfl⟩
abbrev main_v25 : Ref sig .tc := ⟨.hbm, 32, rfl⟩

abbrev nD : Nat := 1
abbrev τ : Topo := Topo.v7x

variable {F : FTy → Type} [FloatOps F]
-- ==== KernelPost.lean ====
abbrev S16384x7168 : Shape := ⟨2, ![16384, 7168]⟩
abbrev S16384 : Shape := ⟨1, ![16384]⟩
abbrev S64 : Shape := ⟨1, ![64]⟩
abbrev S512 : Shape := ⟨1, ![512]⟩
abbrev S512x1536 : Shape := ⟨2, ![512, 1536]⟩
abbrev S96 : Shape := ⟨1, ![96]⟩
abbrev S256 : Shape := ⟨1, ![256]⟩
abbrev S32 : Shape := ⟨1, ![32]⟩
abbrev S16x256x64 : Shape := ⟨3, ![16, 256, 64]⟩
abbrev S1x64 : Shape := ⟨2, ![1, 64]⟩
abbrev S16x64 : Shape := ⟨2, ![16, 64]⟩
abbrev S1024 : Shape := ⟨1, ![1024]⟩
abbrev S1x1024 : Shape := ⟨2, ![1, 1024]⟩
abbrev S2x64 : Shape := ⟨2, ![2, 64]⟩
abbrev S128 : Shape := ⟨1, ![128]⟩
abbrev S1x128 : Shape := ⟨2, ![1, 128]⟩
abbrev S1x512 : Shape := ⟨2, ![1, 512]⟩
abbrev S512x16x96 : Shape := ⟨3, ![512, 16, 96]⟩
abbrev S512x16x32 : Shape := ⟨3, ![512, 16, 32]⟩
abbrev S_ : Shape := ⟨0, ![]⟩
abbrev S512x16x128 : Shape := ⟨3, ![512, 16, 128]⟩
abbrev S512x16x64 : Shape := ⟨3, ![512, 16, 64]⟩
abbrev S512x1024 : Shape := ⟨2, ![512, 1024]⟩
abbrev S512x2048 : Shape := ⟨2, ![512, 2048]⟩
abbrev S512x3072 : Shape := ⟨2, ![512, 3072]⟩
abbrev S16x128 : Shape := ⟨2, ![16, 128]⟩
abbrev S2048 : Shape := ⟨1, ![2048]⟩
abbrev S1x2048 : Shape := ⟨2, ![1, 2048]⟩
abbrev S1x256 : Shape := ⟨2, ![1, 256]⟩
abbrev S16x1x128 : Shape := ⟨3, ![16, 1, 128]⟩
abbrev S16x64x128 : Shape := ⟨3, ![16, 64, 128]⟩
abbrev S1024x128 : Shape := ⟨2, ![1024, 128]⟩
abbrev S16x128x128 : Shape := ⟨3, ![16, 128, 128]⟩
abbrev S2048x128 : Shape := ⟨2, ![2048, 128]⟩
abbrev S128x1024 : Shape := ⟨2, ![128, 1024]⟩
abbrev S128x2048 : Shape := ⟨2, ![128, 2048]⟩
abbrev S16 : Shape := ⟨1, ![16]⟩
abbrev S16384x1 : Shape := ⟨2, ![16384, 1]⟩
abbrev S1x16 : Shape := ⟨2, ![1, 16]⟩
abbrev S16384x16 : Shape := ⟨2, ![16384, 16]⟩
abbrev S16384x96 : Shape := ⟨2, ![16384, 96]⟩
abbrev S16384x128 : Shape := ⟨2, ![16384, 128]⟩
abbrev S16384x1024 : Shape := ⟨2, ![16384, 1024]⟩
abbrev S16384x256 : Shape := ⟨2, ![16384, 256]⟩
abbrev S2x16384x128 : Shape := ⟨3, ![2, 16384, 128]⟩
abbrev S16384x4096 : Shape := ⟨2, ![16384, 4096]⟩
abbrev S16384x2048 : Shape := ⟨2, ![16384, 2048]⟩
abbrev S1024x16384 : Shape := ⟨2, ![1024, 16384]⟩
abbrev S2x128x128x128 : Shape := ⟨4, ![2, 128, 128, 128]⟩
abbrev S256x1024 : Shape := ⟨2, ![256, 1024]⟩
abbrev S256x512 : Shape := ⟨2, ![256, 512]⟩
abbrev S256x768 : Shape := ⟨2, ![256, 768]⟩
abbrev S256x256 : Shape := ⟨2, ![256, 256]⟩
abbrev S256x128 : Shape := ⟨2, ![256, 128]⟩
abbrev S2x256x128 : Shape := ⟨3, ![2, 256, 128]⟩
abbrev S256x4096 : Shape := ⟨2, ![256, 4096]⟩
abbrev S256x2048 : Shape := ⟨2, ![256, 2048]⟩
abbrev S1024x256 : Shape := ⟨2, ![1024, 256]⟩
abbrev S2x2x128x128 : Shape := ⟨4, ![2, 2, 128, 128]⟩
abbrev S128x128 : Shape := ⟨2, ![128, 128]⟩
abbrev S256x64 : Shape := ⟨2, ![256, 64]⟩
abbrev S1x256x128 : Shape := ⟨3, ![1, 256, 128]⟩
abbrev S1x1x128x128 : Shape := ⟨4, ![1, 1, 128, 128]⟩
abbrev S256x1 : Shape := ⟨2, ![256, 1]⟩
abbrev S256x3072 : Shape := ⟨2, ![256, 3072]⟩
abbrev S1x256x64 : Shape := ⟨3, ![1, 256, 64]⟩

abbrev nBuf : Space → Nat
  | .hbm => 114
  | .vmem => 60
  | .smem => 0
  | _ => 0

abbrev bufTy : (tb : Table) → Fin (tcTables nBuf tb) → BufTy
  | .hbm, ⟨0, _⟩ => ⟨S16384x7168, .f32⟩
  | .hbm, ⟨1, _⟩ => ⟨S16384, .i32⟩
  | .hbm, ⟨2, _⟩ => ⟨S64, .f32⟩
  | .hbm, ⟨3, _⟩ => ⟨S64, .f32⟩
  | .hbm, ⟨4, _⟩ => ⟨S64, .f32⟩
  | .hbm, ⟨5, _⟩ => ⟨S512, .f32⟩
  | .hbm, ⟨6, _⟩ => ⟨S512x1536, .f32⟩
  | .hbm, ⟨7, _⟩ => ⟨S96, .f32⟩
  | .hbm, ⟨8, _⟩ => ⟨S256, .f32⟩
  | .hbm, ⟨9, _⟩ => ⟨S32, .f32⟩
  | .hbm, ⟨10, _⟩ => ⟨S16x256x64, .f32⟩
  | .hbm, ⟨11, _⟩ => ⟨S1x64, .f32⟩
  | .hbm, ⟨12, _⟩ => ⟨S16x64, .f32⟩
  | .hbm, ⟨13, _⟩ => ⟨S1024, .f32⟩
  | .hbm, ⟨14, _⟩ => ⟨S1x1024, .f32⟩
  | .hbm, ⟨15, _⟩ => ⟨S1x64, .f32⟩
  | .hbm, ⟨16, _⟩ => ⟨S2x64, .f32⟩
  | .hbm, ⟨17, _⟩ => ⟨S128, .f32⟩
  | .hbm, ⟨18, _⟩ => ⟨S1x128, .f32⟩
  | .hbm, ⟨19, _⟩ => ⟨S1x64, .f32⟩
  | .hbm, ⟨20, _⟩ => ⟨S2x64, .f32⟩
  | .hbm, ⟨21, _⟩ => ⟨S128, .f32⟩
  | .hbm, ⟨22, _⟩ => ⟨S1x128, .f32⟩
  | .hbm, ⟨23, _⟩ => ⟨S1x512, .f32⟩
  | .hbm, ⟨24, _⟩ => ⟨S512x16x96, .f32⟩
  | .hbm, ⟨25, _⟩ => ⟨S512x16x32, .f32⟩
  | .hbm, ⟨26, _⟩ => ⟨S_, .i32⟩
  | .hbm, ⟨27, _⟩ => ⟨S_, .f32⟩
  | .hbm, ⟨28, _⟩ => ⟨S512x16x128, .f32⟩
  | .hbm, ⟨29, _⟩ => ⟨S512x16x64, .f32⟩
  | .hbm, ⟨30, _⟩ => ⟨S512x1024, .f32⟩
  | .hbm, ⟨31, _⟩ => ⟨S512x2048, .f32⟩
  | .hbm, ⟨32, _⟩ => ⟨S512x3072, .f32⟩
  | .hbm, ⟨33, _⟩ => ⟨S512x3072, .bf16⟩
  | .hbm, ⟨34, _⟩ => ⟨S64, .f32⟩
  | .hbm, ⟨35, _⟩ => ⟨S1x64, .f32⟩
  | .hbm, ⟨36, _⟩ => ⟨S16x64, .f32⟩
  | .hbm, ⟨37, _⟩ => ⟨S1024, .f32⟩
  | .hbm, ⟨38, _⟩ => ⟨S1x1024, .f32⟩
  | .hbm, ⟨39, _⟩ => ⟨S32, .f32⟩
  | .hbm, ⟨40, _⟩ => ⟨S_, .i32⟩
  | .hbm, ⟨41, _⟩ => ⟨S_, .f32⟩
  | .hbm, ⟨42, _⟩ => ⟨S128, .f32⟩
  | .hbm, ⟨43, _⟩ => ⟨S1x128, .f32⟩
  | .hbm, ⟨44, _⟩ => ⟨S16x128, .f32⟩
  | .hbm, ⟨45, _⟩ => ⟨S2048, .f32⟩
  | .hbm, ⟨46, _⟩ => ⟨S1x2048, .f32⟩
  | .hbm, ⟨47, _⟩ => ⟨S1x256, .f32⟩
  | .hbm, ⟨48, _⟩ => ⟨S_, .i32⟩
  | .hbm, ⟨49, _⟩ => ⟨S_, .f32⟩
  | .hbm, ⟨50, _⟩ => ⟨S128, .f32⟩
  | .hbm, ⟨51, _⟩ => ⟨S1x128, .f32⟩
  | .hbm, ⟨52, _⟩ => ⟨S16x256x64, .bf16⟩
  | .hbm, ⟨53, _⟩ => ⟨S16x128, .i32⟩
  | .hbm, ⟨54, _⟩ => ⟨S16x128, .i32⟩
  | .hbm, ⟨55, _⟩ => ⟨S_, .i32⟩
  | .hbm, ⟨56, _⟩ => ⟨S16x128, .i32⟩
  | .hbm, ⟨57, _⟩ => ⟨S16x128, .i32⟩
  | .hbm, ⟨58, _⟩ => ⟨S16x128, .i1⟩
  | .hbm, ⟨59, _⟩ => ⟨S16x128, .bf16⟩
  | .hbm, ⟨60, _⟩ => ⟨S16x1x128, .bf16⟩
  | .hbm, ⟨61, _⟩ => ⟨S16x64x128, .bf16⟩
  | .hbm, ⟨62, _⟩ => ⟨S1024x128, .bf16⟩
  | .hbm, ⟨63, _⟩ => ⟨S16x128, .i32⟩
  | .hbm, ⟨64, _⟩ => ⟨S16x128, .i32⟩
  | .hbm, ⟨65, _⟩ => ⟨S_, .i32⟩
  | .hbm, ⟨66, _⟩ => ⟨S16x128, .i32⟩
  | .hbm, ⟨67, _⟩ => ⟨S16x128, .i32⟩
  | .hbm, ⟨68, _⟩ => ⟨S16x128, .i1⟩
  | .hbm, ⟨69, _⟩ => ⟨S16x128, .bf16⟩
  | .hbm, ⟨70, _⟩ => ⟨S16x1x128, .bf16⟩
  | .hbm, ⟨71, _⟩ => ⟨S16x128x128, .bf16⟩
  | .hbm, ⟨72, _⟩ => ⟨S2048x128, .bf16⟩
  | .hbm, ⟨73, _⟩ => ⟨S128x1024, .bf16⟩
  | .hbm, ⟨74, _⟩ => ⟨S128x2048, .bf16⟩
  | .hbm, ⟨75, _⟩ => ⟨S16, .f32⟩
  | .hbm, ⟨76, _⟩ => ⟨S16, .f32⟩
  | .hbm, ⟨77, _⟩ => ⟨S_, .f32⟩
  | .hbm, ⟨78, _⟩ => ⟨S16, .f32⟩
  | .hbm, ⟨79, _⟩ => ⟨S16, .f32⟩
  | .hbm, ⟨80, _⟩ => ⟨S_, .f32⟩
  | .hbm, ⟨81, _⟩ => ⟨S16, .f32⟩
  | .hbm, ⟨82, _⟩ => ⟨S16, .f32⟩
  | .hbm, ⟨83, _⟩ => ⟨S16384, .f32⟩
  | .hbm, ⟨84, _⟩ => ⟨S16384x1, .f32⟩
  | .hbm, ⟨85, _⟩ => ⟨S1x16, .f32⟩
  | .hbm, ⟨86, _⟩ => ⟨S16384x16, .f32⟩
  | .hbm, ⟨87, _⟩ => ⟨S16384x16, .f32⟩
  | .hbm, ⟨88, _⟩ => ⟨S16384x16, .f32⟩
  | .hbm, ⟨89, _⟩ => ⟨S16384x16, .f32⟩
  | .hbm, ⟨90, _⟩ => ⟨S16384x16, .f32⟩
  | .hbm, ⟨91, _⟩ => ⟨S_, .f32⟩
  | .hbm, ⟨92, _⟩ => ⟨S16384x96, .f32⟩
  | .hbm, ⟨93, _⟩ => ⟨S_, .f32⟩
  | .hbm, ⟨94, _⟩ => ⟨S16384x16, .f32⟩
  | .hbm, ⟨95, _⟩ => ⟨S16384x128, .f32⟩
  | .hbm, ⟨96, _⟩ => ⟨S16384x128, .f32⟩
  | .hbm, ⟨97, _⟩ => ⟨S16384x16, .f32⟩
  | .hbm, ⟨98, _⟩ => ⟨S16384x128, .f32⟩
  | .hbm, ⟨99, _⟩ => ⟨S16384x1024, .bf16⟩
  | .hbm, ⟨100, _⟩ => ⟨S16384x256, .f32⟩
  | .hbm, ⟨101, _⟩ => ⟨S16384x256, .f32⟩
  | .hbm, ⟨102, _⟩ => ⟨S16384x256, .f32⟩
  | .hbm, ⟨103, _⟩ => ⟨S2x16384x128, .bf16⟩
  | .hbm, ⟨104, _⟩ => ⟨S2x16384x128, .bf16⟩
  | .hbm, ⟨105, _⟩ => ⟨S16384x256, .f32⟩
  | .hbm, ⟨106, _⟩ => ⟨S16384x256, .bf16⟩
  | .hbm, ⟨107, _⟩ => ⟨S16384x128, .f32⟩
  | .hbm, ⟨108, _⟩ => ⟨S16384x128, .bf16⟩
  | .hbm, ⟨109, _⟩ => ⟨S16384x4096, .bf16⟩
  | .hbm, ⟨110, _⟩ => ⟨S16384x2048, .bf16⟩
  | .hbm, ⟨111, _⟩ => ⟨S1024x16384, .bf16⟩
  | .hbm, ⟨112, _⟩ => ⟨S2x128x128x128, .bf16⟩
  | .hbm, ⟨113, _⟩ => ⟨S2x128x128x128, .bf16⟩
  | .local _ .vmem, ⟨0, _⟩ => ⟨S256x1024, .f32⟩
  | .local _ .vmem, ⟨1, _⟩ => ⟨S256x1024, .f32⟩
  | .local _ .vmem, ⟨2, _⟩ => ⟨S256x512, .f32⟩
  | .local _ .vmem, ⟨3, _⟩ => ⟨S256x512, .f32⟩
  | .local _ .vmem, ⟨4, _⟩ => ⟨S256x768, .f32⟩
  | .local _ .vmem, ⟨5, _⟩ => ⟨S256x768, .f32⟩
  | .local _ .vmem, ⟨6, _⟩ => ⟨S256x256, .f32⟩
  | .local _ .vmem, ⟨7, _⟩ => ⟨S256x256, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S256x128, .f32⟩
  | .local _ .vmem, ⟨15, _⟩ => ⟨S256x128, .f32⟩
  | .local _ .vmem, ⟨16, _⟩ => ⟨S1x1024, .f32⟩
  | .local _ .vmem, ⟨17, _⟩ => ⟨S1x128, .f32⟩
  | .local _ .vmem, ⟨18, _⟩ => ⟨S1x128, .f32⟩
  | .local _ .vmem, ⟨19, _⟩ => ⟨S1x512, .f32⟩
  | .local _ .vmem, ⟨20, _⟩ => ⟨S512x3072, .bf16⟩
  | .local _ .vmem, ⟨21, _⟩ => ⟨S1x1024, .f32⟩
  | .local _ .vmem, ⟨22, _⟩ => ⟨S1x2048, .f32⟩
  | .local _ .vmem, ⟨23, _⟩ => ⟨S1x256, .f32⟩
  | .local _ .vmem, ⟨24, _⟩ => ⟨S1x128, .f32⟩
  | .local _ .vmem, ⟨25, _⟩ => ⟨S16x256x64, .bf16⟩
  | .local _ .vmem, ⟨26, _⟩ => ⟨S1024x128, .bf16⟩
  | .local _ .vmem, ⟨27, _⟩ => ⟨S128x1024, .bf16⟩
  | .local _ .vmem, ⟨28, _⟩ => ⟨S2048x128, .bf16⟩
  | .local _ .vmem, ⟨29, _⟩ => ⟨S128x2048, .bf16⟩
  | .local _ .vmem, ⟨30, _⟩ => ⟨S256x1024, .bf16⟩
  | .local _ .vmem, ⟨31, _⟩ => ⟨S256x1024, .bf16⟩
  | .local _ .vmem, ⟨32, _⟩ => ⟨S256x256, .f32⟩
  | .local _ .vmem, ⟨33, _⟩ => ⟨S256x256, .f32⟩
  | .local _ .vmem, ⟨34, _⟩ => ⟨S256x256, .f32⟩
  | .local _ .vmem, ⟨35, _⟩ => ⟨S256x256, .f32⟩
  | .local _ .vmem, ⟨36, _⟩ => ⟨S256x256, .f32⟩
  | .local _ .vmem, ⟨37, _⟩ => ⟨S256x256, .f32⟩
  | .local _ .vmem, ⟨38, _⟩ => ⟨S2x256x128, .bf16⟩
  | .local _ .vmem, ⟨39, _⟩ => ⟨S2x256x128, .bf16⟩
  | .local _ .vmem, ⟨40, _⟩ => ⟨S2x256x128, .bf16⟩
  | .local _ .vmem, ⟨41, _⟩ => ⟨S2x256x128, .bf16⟩
  | .local _ .vmem, ⟨42, _⟩ => ⟨S256x256, .f32⟩
  | .local _ .vmem, ⟨43, _⟩ => ⟨S256x256, .f32⟩
  | .local _ .vmem, ⟨44, _⟩ => ⟨S256x256, .bf16⟩
  | .local _ .vmem, ⟨45, _⟩ => ⟨S256x256, .bf16⟩
  | .local _ .vmem, ⟨46, _⟩ => ⟨S256x128, .f32⟩
  | .local _ .vmem, ⟨47, _⟩ => ⟨S256x128, .f32⟩
  | .local _ .vmem, ⟨48, _⟩ => ⟨S256x128, .bf16⟩
  | .local _ .vmem, ⟨49, _⟩ => ⟨S256x128, .bf16⟩
  | .local _ .vmem, ⟨50, _⟩ => ⟨S256x4096, .bf16⟩
  | .local _ .vmem, ⟨51, _⟩ => ⟨S256x4096, .bf16⟩
  | .local _ .vmem, ⟨52, _⟩ => ⟨S256x2048, .bf16⟩
  | .local _ .vmem, ⟨53, _⟩ => ⟨S256x2048, .bf16⟩
  | .local _ .vmem, ⟨54, _⟩ => ⟨S1024x256, .bf16⟩
  | .local _ .vmem, ⟨55, _⟩ => ⟨S1024x256, .bf16⟩
  | .local _ .vmem, ⟨56, _⟩ => ⟨S2x2x128x128, .bf16⟩
  | .local _ .vmem, ⟨57, _⟩ => ⟨S2x2x128x128, .bf16⟩
  | .local _ .vmem, ⟨58, _⟩ => ⟨S2x2x128x128, .bf16⟩
  | .local _ .vmem, ⟨59, _⟩ => ⟨S2x2x128x128, .bf16⟩
  | _, _ => ⟨S16384x7168, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | _, _ => false

abbrev semScoped : Fin 0 → Bool
  | ⟨_, h⟩ => absurd h (Nat.not_lt_zero _)

abbrev dmaSemScoped : Fin 60 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | _ => false

abbrev sig : RefSig :=
  ofTc nBuf bufTy 0 60 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_c : Ref sig .tc := ⟨.hbm, 26, rfl⟩
abbrev main_call0_v0 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_0 : Ref sig .tc := ⟨.hbm, 40, rfl⟩
abbrev main_call1_v0 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_c_1 : Ref sig .tc := ⟨.hbm, 48, rfl⟩
abbrev main_call2_v0 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_c_2 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_c_3 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_cst : Ref sig .tc := ⟨.hbm, 77, rfl⟩
abbrev main_v58 : Ref sig .tc := ⟨.hbm, 78, rfl⟩
abbrev main_v59 : Ref sig .tc := ⟨.hbm, 79, rfl⟩
abbrev main_cst_4 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_cst_5 : Ref sig .tc := ⟨.hbm, 91, rfl⟩
abbrev main_v70 : Ref sig .tc := ⟨.hbm, 92, rfl⟩
abbrev main_cst_6 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76_0 : Ref sig .tc := ⟨.hbm, 99, rfl⟩
abbrev main_v76_1 : Ref sig .tc := ⟨.hbm, 100, rfl⟩
abbrev main_v76_2 : Ref sig .tc := ⟨.hbm, 101, rfl⟩
abbrev main_v76_3 : Ref sig .tc := ⟨.hbm, 102, rfl⟩
abbrev main_v76_4 : Ref sig .tc := ⟨.hbm, 103, rfl⟩
abbrev main_v76_5 : Ref sig .tc := ⟨.hbm, 104, rfl⟩
abbrev main_v76_6 : Ref sig .tc := ⟨.hbm, 105, rfl⟩
abbrev main_v76_7 : Ref sig .tc := ⟨.hbm, 106, rfl⟩
abbrev main_v76_8 : Ref sig .tc := ⟨.hbm, 107, rfl⟩
abbrev main_v76_9 : Ref sig .tc := ⟨.hbm, 108, rfl⟩
abbrev main_v76_10 : Ref sig .tc := ⟨.hbm, 109, rfl⟩
abbrev main_v76_11 : Ref sig .tc := ⟨.hbm, 110, rfl⟩
abbrev main_v76_12 : Ref sig .tc := ⟨.hbm, 111, rfl⟩
abbrev main_v76_13 : Ref sig .tc := ⟨.hbm, 112, rfl⟩
abbrev main_v76_14 : Ref sig .tc := ⟨.hbm, 113, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg16_0 : Ref sig .tc := ⟨.vmem, 24, rfl⟩
abbrev cc0_stg17_0 : Ref sig .tc := ⟨.vmem, 25, rfl⟩
abbrev cc0_stg18_0 : Ref sig .tc := ⟨.vmem, 26, rfl⟩
abbrev cc0_stg19_0 : Ref sig .tc := ⟨.vmem, 27, rfl⟩
abbrev cc0_stg20_0 : Ref sig .tc := ⟨.vmem, 28, rfl⟩
abbrev cc0_stg21_0 : Ref sig .tc := ⟨.vmem, 29, rfl⟩
abbrev cc0_stg22_0 : Ref sig .tc := ⟨.vmem, 30, rfl⟩
abbrev cc0_stg22_1 : Ref sig .tc := ⟨.vmem, 31, rfl⟩
abbrev cc0_stg23_0 : Ref sig .tc := ⟨.vmem, 32, rfl⟩
abbrev cc0_stg23_1 : Ref sig .tc := ⟨.vmem, 33, rfl⟩
abbrev cc0_stg24_0 : Ref sig .tc := ⟨.vmem, 34, rfl⟩
abbrev cc0_stg24_1 : Ref sig .tc := ⟨.vmem, 35, rfl⟩
abbrev cc0_stg25_0 : Ref sig .tc := ⟨.vmem, 36, rfl⟩
abbrev cc0_stg25_1 : Ref sig .tc := ⟨.vmem, 37, rfl⟩
abbrev cc0_stg26_0 : Ref sig .tc := ⟨.vmem, 38, rfl⟩
abbrev cc0_stg26_1 : Ref sig .tc := ⟨.vmem, 39, rfl⟩
abbrev cc0_stg27_0 : Ref sig .tc := ⟨.vmem, 40, rfl⟩
abbrev cc0_stg27_1 : Ref sig .tc := ⟨.vmem, 41, rfl⟩
abbrev cc0_stg28_0 : Ref sig .tc := ⟨.vmem, 42, rfl⟩
abbrev cc0_stg28_1 : Ref sig .tc := ⟨.vmem, 43, rfl⟩
abbrev cc0_stg29_0 : Ref sig .tc := ⟨.vmem, 44, rfl⟩
abbrev cc0_stg29_1 : Ref sig .tc := ⟨.vmem, 45, rfl⟩
abbrev cc0_stg30_0 : Ref sig .tc := ⟨.vmem, 46, rfl⟩
abbrev cc0_stg30_1 : Ref sig .tc := ⟨.vmem, 47, rfl⟩
abbrev cc0_stg31_0 : Ref sig .tc := ⟨.vmem, 48, rfl⟩
abbrev cc0_stg31_1 : Ref sig .tc := ⟨.vmem, 49, rfl⟩
abbrev cc0_stg32_0 : Ref sig .tc := ⟨.vmem, 50, rfl⟩
abbrev cc0_stg32_1 : Ref sig .tc := ⟨.vmem, 51, rfl⟩
abbrev cc0_stg33_0 : Ref sig .tc := ⟨.vmem, 52, rfl⟩
abbrev cc0_stg33_1 : Ref sig .tc := ⟨.vmem, 53, rfl⟩
abbrev cc0_stg34_0 : Ref sig .tc := ⟨.vmem, 54, rfl⟩
abbrev cc0_stg34_1 : Ref sig .tc := ⟨.vmem, 55, rfl⟩
abbrev cc0_stg35_0 : Ref sig .tc := ⟨.vmem, 56, rfl⟩
abbrev cc0_stg35_1 : Ref sig .tc := ⟨.vmem, 57, rfl⟩
abbrev cc0_stg36_0 : Ref sig .tc := ⟨.vmem, 58, rfl⟩
abbrev cc0_stg36_1 : Ref sig .tc := ⟨.vmem, 59, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem15_0 : DmaSem sig := 23
abbrev cc0_sem16_0 : DmaSem sig := 24
abbrev cc0_sem17_0 : DmaSem sig := 25
abbrev cc0_sem18_0 : DmaSem sig := 26
abbrev cc0_sem19_0 : DmaSem sig := 27
abbrev cc0_sem20_0 : DmaSem sig := 28
abbrev cc0_sem21_0 : DmaSem sig := 29
abbrev cc0_sem22_0 : DmaSem sig := 30
abbrev cc0_sem22_1 : DmaSem sig := 31
abbrev cc0_sem23_0 : DmaSem sig := 32
abbrev cc0_sem23_1 : DmaSem sig := 33
abbrev cc0_sem24_0 : DmaSem sig := 34
abbrev cc0_sem24_1 : DmaSem sig := 35
abbrev cc0_sem25_0 : DmaSem sig := 36
abbrev cc0_sem25_1 : DmaSem sig := 37
abbrev cc0_sem26_0 : DmaSem sig := 38
abbrev cc0_sem26_1 : DmaSem sig := 39
abbrev cc0_sem27_0 : DmaSem sig := 40
abbrev cc0_sem27_1 : DmaSem sig := 41
abbrev cc0_sem28_0 : DmaSem sig := 42
abbrev cc0_sem28_1 : DmaSem sig := 43
abbrev cc0_sem29_0 : DmaSem sig := 44
abbrev cc0_sem29_1 : DmaSem sig := 45
abbrev cc0_sem30_0 : DmaSem sig := 46
abbrev cc0_sem30_1 : DmaSem sig := 47
abbrev cc0_sem31_0 : DmaSem sig := 48
abbrev cc0_sem31_1 : DmaSem sig := 49
abbrev cc0_sem32_0 : DmaSem sig := 50
abbrev cc0_sem32_1 : DmaSem sig := 51
abbrev cc0_sem33_0 : DmaSem sig := 52
abbrev cc0_sem33_1 : DmaSem sig := 53
abbrev cc0_sem34_0 : DmaSem sig := 54
abbrev cc0_sem34_1 : DmaSem sig := 55
abbrev cc0_sem35_0 : DmaSem sig := 56
abbrev cc0_sem35_1 : DmaSem sig := 57
abbrev cc0_sem36_0 : DmaSem sig := 58
abbrev cc0_sem36_1 : DmaSem sig := 59

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_2 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_3 (i : grid0.Coords) : Fin 2 → Nat :=
  let arg0 : BitVec 32 := BitVec.ofNat 32 (i 0).val
  let c27_i32 : BitVec 32 := 27#32
  let c0_i32 : BitVec 32 := 0#32
  ![arg0.toNat, c27_i32.toNat]

def cc0_transform_4 (i : grid0.Coords) : Fin 2 → Nat :=
  let arg0 : BitVec 32 := BitVec.ofNat 32 (i 0).val
  let c12_i32 : BitVec 32 := 12#32
  let c0_i32 : BitVec 32 := 0#32
  ![arg0.toNat, c12_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_24 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_25 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_26 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_27 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_28 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_29 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_30 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_31 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_32 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_33 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_34 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_35 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_36 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S512x3072 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x2048 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S16x256x64 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1024x128 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S128x1024 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S2048x128 .bf16 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S128x2048 .bf16 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 2 → Memref sig .tc .vmem S256x1024 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S256x256 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S256x256 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S256x256 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

abbrev stage0_26 : Fin 2 → Memref sig .tc .vmem S2x256x128 .bf16 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]

abbrev stage0_27 : Fin 2 → Memref sig .tc .vmem S2x256x128 .bf16 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true]

abbrev stage0_28 : Fin 2 → Memref sig .tc .vmem S256x256 .f32 := fun | 0 => Memref.whole cc0_stg28_0 | 1 => Memref.whole cc0_stg28_1 | ⟨_ + 2, h⟩ => absurd h (Nat.not_lt.2 (Nat.le_add_left _ _))
abbrev sem0_28 : Fin 2 → DmaSem sig := fun | 0 => cc0_sem28_0 | 1 => cc0_sem28_1 | ⟨_ + 2, h⟩ => absurd h (Nat.not_lt.2 (Nat.le_add_left _ _))
abbrev reads0_28 : Fin grid0.rank → Bool := ![true]

abbrev stage0_29 : Fin 2 → Memref sig .tc .vmem S256x256 .bf16 := fun | 0 => Memref.whole cc0_stg29_0 | 1 => Memref.whole cc0_stg29_1 | ⟨_ + 2, h⟩ => absurd h (Nat.not_lt.2 (Nat.le_add_left _ _))
abbrev sem0_29 : Fin 2 → DmaSem sig := fun | 0 => cc0_sem29_0 | 1 => cc0_sem29_1 | ⟨_ + 2, h⟩ => absurd h (Nat.not_lt.2 (Nat.le_add_left _ _))
abbrev reads0_29 : Fin grid0.rank → Bool := ![true]

abbrev stage0_30 : Fin 2 → Memref sig .tc .vmem S256x128 .f32 := fun | 0 => Memref.whole cc0_stg30_0 | 1 => Memref.whole cc0_stg30_1 | ⟨_ + 2, h⟩ => absurd h (Nat.not_lt.2 (Nat.le_add_left _ _))
abbrev sem0_30 : Fin 2 → DmaSem sig := fun | 0 => cc0_sem30_0 | 1 => cc0_sem30_1 | ⟨_ + 2, h⟩ => absurd h (Nat.not_lt.2 (Nat.le_add_left _ _))
abbrev reads0_30 : Fin grid0.rank → Bool := ![true]

abbrev stage0_31 : Fin 2 → Memref sig .tc .vmem S256x128 .bf16 := fun | 0 => Memref.whole cc0_stg31_0 | 1 => Memref.whole cc0_stg31_1 | ⟨_ + 2, h⟩ => absurd h (Nat.not_lt.2 (Nat.le_add_left _ _))
abbrev sem0_31 : Fin 2 → DmaSem sig := fun | 0 => cc0_sem31_0 | 1 => cc0_sem31_1 | ⟨_ + 2, h⟩ => absurd h (Nat.not_lt.2 (Nat.le_add_left _ _))
abbrev reads0_31 : Fin grid0.rank → Bool := ![true]

abbrev stage0_32 : Fin 2 → Memref sig .tc .vmem S256x4096 .bf16 := fun | 0 => Memref.whole cc0_stg32_0 | 1 => Memref.whole cc0_stg32_1 | ⟨_ + 2, h⟩ => absurd h (Nat.not_lt.2 (Nat.le_add_left _ _))
abbrev sem0_32 : Fin 2 → DmaSem sig := fun | 0 => cc0_sem32_0 | 1 => cc0_sem32_1 | ⟨_ + 2, h⟩ => absurd h (Nat.not_lt.2 (Nat.le_add_left _ _))
abbrev reads0_32 : Fin grid0.rank → Bool := ![true]

abbrev stage0_33 : Fin 2 → Memref sig .tc .vmem S256x2048 .bf16 := fun | 0 => Memref.whole cc0_stg33_0 | 1 => Memref.whole cc0_stg33_1 | ⟨_ + 2, h⟩ => absurd h (Nat.not_lt.2 (Nat.le_add_left _ _))
abbrev sem0_33 : Fin 2 → DmaSem sig := fun | 0 => cc0_sem33_0 | 1 => cc0_sem33_1 | ⟨_ + 2, h⟩ => absurd h (Nat.not_lt.2 (Nat.le_add_left _ _))
abbrev reads0_33 : Fin grid0.rank → Bool := ![true]

abbrev stage0_34 : Fin 2 → Memref sig .tc .vmem S1024x256 .bf16 := fun | 0 => Memref.whole cc0_stg34_0 | 1 => Memref.whole cc0_stg34_1 | ⟨_ + 2, h⟩ => absurd h (Nat.not_lt.2 (Nat.le_add_left _ _))
abbrev sem0_34 : Fin 2 → DmaSem sig := fun | 0 => cc0_sem34_0 | 1 => cc0_sem34_1 | ⟨_ + 2, h⟩ => absurd h (Nat.not_lt.2 (Nat.le_add_left _ _))
abbrev reads0_34 : Fin grid0.rank → Bool := ![true]

abbrev stage0_35 : Fin 2 → Memref sig .tc .vmem S2x2x128x128 .bf16 := fun | 0 => Memref.whole cc0_stg35_0 | 1 => Memref.whole cc0_stg35_1 | ⟨_ + 2, h⟩ => absurd h (Nat.not_lt.2 (Nat.le_add_left _ _))
abbrev sem0_35 : Fin 2 → DmaSem sig := fun | 0 => cc0_sem35_0 | 1 => cc0_sem35_1 | ⟨_ + 2, h⟩ => absurd h (Nat.not_lt.2 (Nat.le_add_left _ _))
abbrev reads0_35 : Fin grid0.rank → Bool := ![true]

abbrev stage0_36 : Fin 2 → Memref sig .tc .vmem S2x2x128x128 .bf16 := fun | 0 => Memref.whole cc0_stg36_0 | 1 => Memref.whole cc0_stg36_1 | ⟨_ + 2, h⟩ => absurd h (Nat.not_lt.2 (Nat.le_add_left _ _))
abbrev sem0_36 : Fin 2 → DmaSem sig := fun | 0 => cc0_sem36_0 | 1 => cc0_sem36_1 | ⟨_ + 2, h⟩ => absurd h (Nat.not_lt.2 (Nat.le_add_left _ _))
abbrev reads0_36 : Fin grid0.rank → Bool := ![true]
-- ==== ReferencePostIdeal.lean ====
abbrev S16384x7168 : Shape := ⟨2, ![16384, 7168]⟩
abbrev S16384 : Shape := ⟨1, ![16384]⟩
abbrev S64 : Shape := ⟨1, ![64]⟩
abbrev S512 : Shape := ⟨1, ![512]⟩
abbrev S512x1536 : Shape := ⟨2, ![512, 1536]⟩
abbrev S96 : Shape := ⟨1, ![96]⟩
abbrev S256 : Shape := ⟨1, ![256]⟩
abbrev S32 : Shape := ⟨1, ![32]⟩
abbrev S16x256x64 : Shape := ⟨3, ![16, 256, 64]⟩
abbrev S16384x32 : Shape := ⟨2, ![16384, 32]⟩
abbrev S16384x48 : Shape := ⟨2, ![16384, 48]⟩
abbrev S16384x256 : Shape := ⟨2, ![16384, 256]⟩
abbrev S_ : Shape := ⟨0, ![]⟩
abbrev S16384x1 : Shape := ⟨2, ![16384, 1]⟩
abbrev S1x32 : Shape := ⟨2, ![1, 32]⟩
abbrev S16 : Shape := ⟨1, ![16]⟩
abbrev S1x16 : Shape := ⟨2, ![1, 16]⟩
abbrev S16384x16 : Shape := ⟨2, ![16384, 16]⟩
abbrev S16384x128 : Shape := ⟨2, ![16384, 128]⟩
abbrev S16384x2x64 : Shape := ⟨3, ![16384, 2, 64]⟩
abbrev S16384x2 : Shape := ⟨2, ![16384, 2]⟩
abbrev S16384x2x1 : Shape := ⟨3, ![16384, 2, 1]⟩
abbrev S1x1x64 : Shape := ⟨3, ![1, 1, 64]⟩
abbrev S1x256 : Shape := ⟨2, ![1, 256]⟩

abbrev nBuf : Space → Nat
  | .hbm => 127
  | .vmem => 0
  | .smem => 0
  | _ => 0

abbrev bufTy : (tb : Table) → Fin (tcTables nBuf tb) → BufTy
  | .hbm, ⟨0, _⟩ => ⟨S16384x7168, .f32⟩
  | .hbm, ⟨1, _⟩ => ⟨S16384, .i32⟩
  | .hbm, ⟨2, _⟩ => ⟨S64, .f32⟩
  | .hbm, ⟨3, _⟩ => ⟨S64, .f32⟩
  | .hbm, ⟨4, _⟩ => ⟨S64, .f32⟩
  | .hbm, ⟨5, _⟩ => ⟨S512, .f32⟩
  | .hbm, ⟨6, _⟩ => ⟨S512x1536, .f32⟩
  | .hbm, ⟨7, _⟩ => ⟨S96, .f32⟩
  | .hbm, ⟨8, _⟩ => ⟨S256, .f32⟩
  | .hbm, ⟨9, _⟩ => ⟨S32, .f32⟩
  | .hbm, ⟨10, _⟩ => ⟨S16x256x64, .f32⟩
  | .hbm, ⟨11, _⟩ => ⟨S16384x32, .f32⟩
  | .hbm, ⟨12, _⟩ => ⟨S16384x48, .f32⟩
  | .hbm, ⟨13, _⟩ => ⟨S16384x256, .f32⟩
  | .hbm, ⟨14, _⟩ => ⟨S16384x256, .f32⟩
  | .hbm, ⟨15, _⟩ => ⟨S16384x256, .f32⟩
  | .hbm, ⟨16, _⟩ => ⟨S16384x256, .f32⟩
  | .hbm, ⟨17, _⟩ => ⟨S16384x32, .f32⟩
  | .hbm, ⟨18, _⟩ => ⟨S_, .f32⟩
  | .hbm, ⟨19, _⟩ => ⟨S16384, .f32⟩
  | .hbm, ⟨20, _⟩ => ⟨S16384x1, .f32⟩
  | .hbm, ⟨21, _⟩ => ⟨S_, .f32⟩
  | .hbm, ⟨22, _⟩ => ⟨S16384x1, .f32⟩
  | .hbm, ⟨23, _⟩ => ⟨S16384x1, .f32⟩
  | .hbm, ⟨24, _⟩ => ⟨S_, .f32⟩
  | .hbm, ⟨25, _⟩ => ⟨S16384x1, .f32⟩
  | .hbm, ⟨26, _⟩ => ⟨S16384x1, .f32⟩
  | .hbm, ⟨27, _⟩ => ⟨S16384x1, .f32⟩
  | .hbm, ⟨28, _⟩ => ⟨S16384x32, .f32⟩
  | .hbm, ⟨29, _⟩ => ⟨S16384x32, .f32⟩
  | .hbm, ⟨30, _⟩ => ⟨S1x32, .f32⟩
  | .hbm, ⟨31, _⟩ => ⟨S16384x32, .f32⟩
  | .hbm, ⟨32, _⟩ => ⟨S16384x32, .f32⟩
  | .hbm, ⟨33, _⟩ => ⟨S16, .f32⟩
  | .hbm, ⟨34, _⟩ => ⟨S16, .f32⟩
  | .hbm, ⟨35, _⟩ => ⟨S_, .f32⟩
  | .hbm, ⟨36, _⟩ => ⟨S16, .f32⟩
  | .hbm, ⟨37, _⟩ => ⟨S16, .f32⟩
  | .hbm, ⟨38, _⟩ => ⟨S_, .f32⟩
  | .hbm, ⟨39, _⟩ => ⟨S16, .f32⟩
  | .hbm, ⟨40, _⟩ => ⟨S16, .f32⟩
  | .hbm, ⟨41, _⟩ => ⟨S16384, .f32⟩
  | .hbm, ⟨42, _⟩ => ⟨S16384x1, .f32⟩
  | .hbm, ⟨43, _⟩ => ⟨S1x16, .f32⟩
  | .hbm, ⟨44, _⟩ => ⟨S16384x16, .f32⟩
  | .hbm, ⟨45, _⟩ => ⟨S16384x16, .f32⟩
  | .hbm, ⟨46, _⟩ => ⟨S16384x16, .f32⟩
  | .hbm, ⟨47, _⟩ => ⟨S16384x16, .f32⟩
  | .hbm, ⟨48, _⟩ => ⟨S16384x16, .f32⟩
  | .hbm, ⟨49, _⟩ => ⟨S16384x16, .f32⟩
  | .hbm, ⟨50, _⟩ => ⟨S16384x16, .f32⟩
  | .hbm, ⟨51, _⟩ => ⟨S16384x16, .f32⟩
  | .hbm, ⟨52, _⟩ => ⟨S16384x16, .f32⟩
  | .hbm, ⟨53, _⟩ => ⟨S16384x16, .f32⟩
  | .hbm, ⟨54, _⟩ => ⟨S16384x16, .f32⟩
  | .hbm, ⟨55, _⟩ => ⟨S16384x16, .f32⟩
  | .hbm, ⟨56, _⟩ => ⟨S16384x16, .f32⟩
  | .hbm, ⟨57, _⟩ => ⟨S16384x32, .f32⟩
  | .hbm, ⟨58, _⟩ => ⟨S_, .f32⟩
  | .hbm, ⟨59, _⟩ => ⟨S16384x48, .f32⟩
  | .hbm, ⟨60, _⟩ => ⟨S16384x48, .f32⟩
  | .hbm, ⟨61, _⟩ => ⟨S16384x48, .f32⟩
  | .hbm, ⟨62, _⟩ => ⟨S_, .f32⟩
  | .hbm, ⟨63, _⟩ => ⟨S16384x48, .f32⟩
  | .hbm, ⟨64, _⟩ => ⟨S16384x48, .f32⟩
  | .hbm, ⟨65, _⟩ => ⟨S_, .f32⟩
  | .hbm, ⟨66, _⟩ => ⟨S16384x48, .f32⟩
  | .hbm, ⟨67, _⟩ => ⟨S16384x48, .f32⟩
  | .hbm, ⟨68, _⟩ => ⟨S16384x128, .f32⟩
  | .hbm, ⟨69, _⟩ => ⟨S16384x128, .f32⟩
  | .hbm, ⟨70, _⟩ => ⟨S16384x2x64, .f32⟩
  | .hbm, ⟨71, _⟩ => ⟨S16384x2x64, .f32⟩
  | .hbm, ⟨72, _⟩ => ⟨S_, .f32⟩
  | .hbm, ⟨73, _⟩ => ⟨S16384x2, .f32⟩
  | .hbm, ⟨74, _⟩ => ⟨S16384x2x1, .f32⟩
  | .hbm, ⟨75, _⟩ => ⟨S_, .f32⟩
  | .hbm, ⟨76, _⟩ => ⟨S16384x2x1, .f32⟩
  | .hbm, ⟨77, _⟩ => ⟨S16384x2x1, .f32⟩
  | .hbm, ⟨78, _⟩ => ⟨S_, .f32⟩
  | .hbm, ⟨79, _⟩ => ⟨S16384x2x1, .f32⟩
  | .hbm, ⟨80, _⟩ => ⟨S16384x2x1, .f32⟩
  | .hbm, ⟨81, _⟩ => ⟨S16384x2x1, .f32⟩
  | .hbm, ⟨82, _⟩ => ⟨S16384x2x64, .f32⟩
  | .hbm, ⟨83, _⟩ => ⟨S16384x2x64, .f32⟩
  | .hbm, ⟨84, _⟩ => ⟨S1x1x64, .f32⟩
  | .hbm, ⟨85, _⟩ => ⟨S16384x2x64, .f32⟩
  | .hbm, ⟨86, _⟩ => ⟨S16384x2x64, .f32⟩
  | .hbm, ⟨87, _⟩ => ⟨S16384x128, .f32⟩
  | .hbm, ⟨88, _⟩ => ⟨S16384x128, .f32⟩
  | .hbm, ⟨89, _⟩ => ⟨S16384x256, .f32⟩
  | .hbm, ⟨90, _⟩ => ⟨S16384x128, .f32⟩
  | .hbm, ⟨91, _⟩ => ⟨S16384x2x64, .f32⟩
  | .hbm, ⟨92, _⟩ => ⟨S16384x2x64, .f32⟩
  | .hbm, ⟨93, _⟩ => ⟨S_, .f32⟩
  | .hbm, ⟨94, _⟩ => ⟨S16384x2, .f32⟩
  | .hbm, ⟨95, _⟩ => ⟨S16384x2x1, .f32⟩
  | .hbm, ⟨96, _⟩ => ⟨S_, .f32⟩
  | .hbm, ⟨97, _⟩ => ⟨S16384x2x1, .f32⟩
  | .hbm, ⟨98, _⟩ => ⟨S16384x2x1, .f32⟩
  | .hbm, ⟨99, _⟩ => ⟨S_, .f32⟩
  | .hbm, ⟨100, _⟩ => ⟨S16384x2x1, .f32⟩
  | .hbm, ⟨101, _⟩ => ⟨S16384x2x1, .f32⟩
  | .hbm, ⟨102, _⟩ => ⟨S16384x2x1, .f32⟩
  | .hbm, ⟨103, _⟩ => ⟨S16384x2x64, .f32⟩
  | .hbm, ⟨104, _⟩ => ⟨S16384x2x64, .f32⟩
  | .hbm, ⟨105, _⟩ => ⟨S1x1x64, .f32⟩
  | .hbm, ⟨106, _⟩ => ⟨S16384x2x64, .f32⟩
  | .hbm, ⟨107, _⟩ => ⟨S16384x2x64, .f32⟩
  | .hbm, ⟨108, _⟩ => ⟨S16384x128, .f32⟩
  | .hbm, ⟨109, _⟩ => ⟨S16384x128, .f32⟩
  | .hbm, ⟨110, _⟩ => ⟨S16384x256, .f32⟩
  | .hbm, ⟨111, _⟩ => ⟨S16384x256, .f32⟩
  | .hbm, ⟨112, _⟩ => ⟨S_, .f32⟩
  | .hbm, ⟨113, _⟩ => ⟨S16384, .f32⟩
  | .hbm, ⟨114, _⟩ => ⟨S16384x1, .f32⟩
  | .hbm, ⟨115, _⟩ => ⟨S_, .f32⟩
  | .hbm, ⟨116, _⟩ => ⟨S16384x1, .f32⟩
  | .hbm, ⟨117, _⟩ => ⟨S16384x1, .f32⟩
  | .hbm, ⟨118, _⟩ => ⟨S_, .f32⟩
  | .hbm, ⟨119, _⟩ => ⟨S16384x1, .f32⟩
  | .hbm, ⟨120, _⟩ => ⟨S16384x1, .f32⟩
  | .hbm, ⟨121, _⟩ => ⟨S16384x1, .f32⟩
  | .hbm, ⟨122, _⟩ => ⟨S16384x256, .f32⟩
  | .hbm, ⟨123, _⟩ => ⟨S16384x256, .f32⟩
  | .hbm, ⟨124, _⟩ => ⟨S1x256, .f32⟩
  | .hbm, ⟨125, _⟩ => ⟨S16384x256, .f32⟩
  | .hbm, ⟨126, _⟩ => ⟨S16384x256, .f32⟩
  | _, _ => ⟨S16384x7168, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_cst_0 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_2 : Ref sig .tc := ⟨.hbm, 35, rfl⟩
abbrev main_v21 : Ref sig .tc := ⟨.hbm, 36, rfl⟩
abbrev main_v22 : Ref sig .tc := ⟨.hbm, 37, rfl⟩
abbrev main_cst_3 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_4 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_5 : Ref sig .tc := ⟨.hbm, 62, rfl⟩
abbrev main_v45 : Ref sig .tc := ⟨.hbm, 63, rfl⟩
abbrev main_v46 : Ref sig .tc := ⟨.hbm, 64, rfl⟩
abbrev main_cst_6 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_7 : Ref sig .tc := ⟨.hbm, 72, rfl⟩
abbrev main_v53 : Ref sig .tc := ⟨.hbm, 73, rfl⟩
abbrev main_v54 : Ref sig .tc := ⟨.hbm, 74, rfl⟩
abbrev main_cst_8 : Ref sig .tc := ⟨.hbm, 75, rfl⟩
abbrev main_v55 : Ref sig .tc := ⟨.hbm, 76, rfl⟩
abbrev main_v56 : Ref sig .tc := ⟨.hbm, 77, rfl⟩
abbrev main_cst_9 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_cst_10 : Ref sig .tc := ⟨.hbm, 93, rfl⟩
abbrev main_v71 : Ref sig .tc := ⟨.hbm, 94, rfl⟩
abbrev main_v72 : Ref sig .tc := ⟨.hbm, 95, rfl⟩
abbrev main_cst_11 : Ref sig .tc := ⟨.hbm, 96, rfl⟩
abbrev main_v73 : Ref sig .tc := ⟨.hbm, 97, rfl⟩
abbrev main_v74 : Ref sig .tc := ⟨.hbm, 98, rfl⟩
abbrev main_cst_12 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_cst_13 : Ref sig .tc := ⟨.hbm, 112, rfl⟩
abbrev main_v87 : Ref sig .tc := ⟨.hbm, 113, rfl⟩
abbrev main_v88 : Ref sig .tc := ⟨.hbm, 114, rfl⟩
abbrev main_cst_14 : Ref sig .tc := ⟨.hbm, 115, rfl⟩
abbrev main_v89 : Ref sig .tc := ⟨.hbm, 116, rfl⟩
abbrev main_v90 : Ref sig .tc := ⟨.hbm, 117, rfl⟩
abbrev main_cst_15 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩

abbrev nD : Nat := 1
abbrev τ : Topo := Topo.v7x

variable {F : FTy → Type} [FloatOps F]
-- ==== KernelPostSample.lean ====
abbrev S1024x7168 : Shape := ⟨2, ![1024, 7168]⟩
abbrev S1024 : Shape := ⟨1, ![1024]⟩
abbrev S64 : Shape := ⟨1, ![64]⟩
abbrev S512 : Shape := ⟨1, ![512]⟩
abbrev S512x1536 : Shape := ⟨2, ![512, 1536]⟩
abbrev S96 : Shape := ⟨1, ![96]⟩
abbrev S256 : Shape := ⟨1, ![256]⟩
abbrev S32 : Shape := ⟨1, ![32]⟩
abbrev S16x256x64 : Shape := ⟨3, ![16, 256, 64]⟩
abbrev S1x64 : Shape := ⟨2, ![1, 64]⟩
abbrev S16x64 : Shape := ⟨2, ![16, 64]⟩
abbrev S1x1024 : Shape := ⟨2, ![1, 1024]⟩
abbrev S2x64 : Shape := ⟨2, ![2, 64]⟩
abbrev S128 : Shape := ⟨1, ![128]⟩
abbrev S1x128 : Shape := ⟨2, ![1, 128]⟩
abbrev S1x512 : Shape := ⟨2, ![1, 512]⟩
abbrev S512x16x96 : Shape := ⟨3, ![512, 16, 96]⟩
abbrev S512x16x32 : Shape := ⟨3, ![512, 16, 32]⟩
abbrev S_ : Shape := ⟨0, ![]⟩
abbrev S512x16x128 : Shape := ⟨3, ![512, 16, 128]⟩
abbrev S512x16x64 : Shape := ⟨3, ![512, 16, 64]⟩
abbrev S512x1024 : Shape := ⟨2, ![512, 1024]⟩
abbrev S512x2048 : Shape := ⟨2, ![512, 2048]⟩
abbrev S512x3072 : Shape := ⟨2, ![512, 3072]⟩
abbrev S16x128 : Shape := ⟨2, ![16, 128]⟩
abbrev S2048 : Shape := ⟨1, ![2048]⟩
abbrev S1x2048 : Shape := ⟨2, ![1, 2048]⟩
abbrev S1x256 : Shape := ⟨2, ![1, 256]⟩
abbrev S16x1x128 : Shape := ⟨3, ![16, 1, 128]⟩
abbrev S16x64x128 : Shape := ⟨3, ![16, 64, 128]⟩
abbrev S1024x128 : Shape := ⟨2, ![1024, 128]⟩
abbrev S16x128x128 : Shape := ⟨3, ![16, 128, 128]⟩
abbrev S2048x128 : Shape := ⟨2, ![2048, 128]⟩
abbrev S128x1024 : Shape := ⟨2, ![128, 1024]⟩
abbrev S128x2048 : Shape := ⟨2, ![128, 2048]⟩
abbrev S16 : Shape := ⟨1, ![16]⟩
abbrev S1024x1 : Shape := ⟨2, ![1024, 1]⟩
abbrev S1x16 : Shape := ⟨2, ![1, 16]⟩
abbrev S1024x16 : Shape := ⟨2, ![1024, 16]⟩
abbrev S1024x96 : Shape := ⟨2, ![1024, 96]⟩
abbrev S1024x1024 : Shape := ⟨2, ![1024, 1024]⟩
abbrev S1024x256 : Shape := ⟨2, ![1024, 256]⟩
abbrev S2x1024x128 : Shape := ⟨3, ![2, 1024, 128]⟩
abbrev S1024x4096 : Shape := ⟨2, ![1024, 4096]⟩
abbrev S1024x2048 : Shape := ⟨2, ![1024, 2048]⟩
abbrev S256x1024 : Shape := ⟨2, ![256, 1024]⟩
abbrev S256x512 : Shape := ⟨2, ![256, 512]⟩
abbrev S256x768 : Shape := ⟨2, ![256, 768]⟩
abbrev S256x256 : Shape := ⟨2, ![256, 256]⟩
abbrev S256x128 : Shape := ⟨2, ![256, 128]⟩
abbrev S2x256x128 : Shape := ⟨3, ![2, 256, 128]⟩
abbrev S256x4096 : Shape := ⟨2, ![256, 4096]⟩
abbrev S256x2048 : Shape := ⟨2, ![256, 2048]⟩
abbrev S128x128 : Shape := ⟨2, ![128, 128]⟩
abbrev S256x64 : Shape := ⟨2, ![256, 64]⟩
abbrev S1x256x128 : Shape := ⟨3, ![1, 256, 128]⟩
abbrev S256x1 : Shape := ⟨2, ![256, 1]⟩
abbrev S256x3072 : Shape := ⟨2, ![256, 3072]⟩
abbrev S1x256x64 : Shape := ⟨3, ![1, 256, 64]⟩

abbrev nBuf : Space → Nat
  | .hbm => 111
  | .vmem => 54
  | .smem => 0
  | _ => 0

abbrev bufTy : (tb : Table) → Fin (tcTables nBuf tb) → BufTy
  | .hbm, ⟨0, _⟩ => ⟨S1024x7168, .f32⟩
  | .hbm, ⟨1, _⟩ => ⟨S1024, .i32⟩
  | .hbm, ⟨2, _⟩ => ⟨S64, .f32⟩
  | .hbm, ⟨3, _⟩ => ⟨S64, .f32⟩
  | .hbm, ⟨4, _⟩ => ⟨S64, .f32⟩
  | .hbm, ⟨5, _⟩ => ⟨S512, .f32⟩
  | .hbm, ⟨6, _⟩ => ⟨S512x1536, .f32⟩
  | .hbm, ⟨7, _⟩ => ⟨S96, .f32⟩
  | .hbm, ⟨8, _⟩ => ⟨S256, .f32⟩
  | .hbm, ⟨9, _⟩ => ⟨S32, .f32⟩
  | .hbm, ⟨10, _⟩ => ⟨S16x256x64, .f32⟩
  | .hbm, ⟨11, _⟩ => ⟨S1x64, .f32⟩
  | .hbm, ⟨12, _⟩ => ⟨S16x64, .f32⟩
  | .hbm, ⟨13, _⟩ => ⟨S1024, .f32⟩
  | .hbm, ⟨14, _⟩ => ⟨S1x1024, .f32⟩
  | .hbm, ⟨15, _⟩ => ⟨S1x64, .f32⟩
  | .hbm, ⟨16, _⟩ => ⟨S2x64, .f32⟩
  | .hbm, ⟨17, _⟩ => ⟨S128, .f32⟩
  | .hbm, ⟨18, _⟩ => ⟨S1x128, .f32⟩
  | .hbm, ⟨19, _⟩ => ⟨S1x64, .f32⟩
  | .hbm, ⟨20, _⟩ => ⟨S2x64, .f32⟩
  | .hbm, ⟨21, _⟩ => ⟨S128, .f32⟩
  | .hbm, ⟨22, _⟩ => ⟨S1x128, .f32⟩
  | .hbm, ⟨23, _⟩ => ⟨S1x512, .f32⟩
  | .hbm, ⟨24, _⟩ => ⟨S512x16x96, .f32⟩
  | .hbm, ⟨25, _⟩ => ⟨S512x16x32, .f32⟩
  | .hbm, ⟨26, _⟩ => ⟨S_, .i32⟩
  | .hbm, ⟨27, _⟩ => ⟨S_, .f32⟩
  | .hbm, ⟨28, _⟩ => ⟨S512x16x128, .f32⟩
  | .hbm, ⟨29, _⟩ => ⟨S512x16x64, .f32⟩
  | .hbm, ⟨30, _⟩ => ⟨S512x1024, .f32⟩
  | .hbm, ⟨31, _⟩ => ⟨S512x2048, .f32⟩
  | .hbm, ⟨32, _⟩ => ⟨S512x3072, .f32⟩
  | .hbm, ⟨33, _⟩ => ⟨S512x3072, .bf16⟩
  | .hbm, ⟨34, _⟩ => ⟨S64, .f32⟩
  | .hbm, ⟨35, _⟩ => ⟨S1x64, .f32⟩
  | .hbm, ⟨36, _⟩ => ⟨S16x64, .f32⟩
  | .hbm, ⟨37, _⟩ => ⟨S1024, .f32⟩
  | .hbm, ⟨38, _⟩ => ⟨S1x1024, .f32⟩
  | .hbm, ⟨39, _⟩ => ⟨S32, .f32⟩
  | .hbm, ⟨40, _⟩ => ⟨S_, .i32⟩
  | .hbm, ⟨41, _⟩ => ⟨S_, .f32⟩
  | .hbm, ⟨42, _⟩ => ⟨S128, .f32⟩
  | .hbm, ⟨43, _⟩ => ⟨S1x128, .f32⟩
  | .hbm, ⟨44, _⟩ => ⟨S16x128, .f32⟩
  | .hbm, ⟨45, _⟩ => ⟨S2048, .f32⟩
  | .hbm, ⟨46, _⟩ => ⟨S1x2048, .f32⟩
  | .hbm, ⟨47, _⟩ => ⟨S1x256, .f32⟩
  | .hbm, ⟨48, _⟩ => ⟨S_, .i32⟩
  | .hbm, ⟨49, _⟩ => ⟨S_, .f32⟩
  | .hbm, ⟨50, _⟩ => ⟨S128, .f32⟩
  | .hbm, ⟨51, _⟩ => ⟨S1x128, .f32⟩
  | .hbm, ⟨52, _⟩ => ⟨S16x256x64, .bf16⟩
  | .hbm, ⟨53, _⟩ => ⟨S16x128, .i32⟩
  | .hbm, ⟨54, _⟩ => ⟨S16x128, .i32⟩
  | .hbm, ⟨55, _⟩ => ⟨S_, .i32⟩
  | .hbm, ⟨56, _⟩ => ⟨S16x128, .i32⟩
  | .hbm, ⟨57, _⟩ => ⟨S16x128, .i32⟩
  | .hbm, ⟨58, _⟩ => ⟨S16x128, .i1⟩
  | .hbm, ⟨59, _⟩ => ⟨S16x128, .bf16⟩
  | .hbm, ⟨60, _⟩ => ⟨S16x1x128, .bf16⟩
  | .hbm, ⟨61, _⟩ => ⟨S16x64x128, .bf16⟩
  | .hbm, ⟨62, _⟩ => ⟨S1024x128, .bf16⟩
  | .hbm, ⟨63, _⟩ => ⟨S16x128, .i32⟩
  | .hbm, ⟨64, _⟩ => ⟨S16x128, .i32⟩
  | .hbm, ⟨65, _⟩ => ⟨S_, .i32⟩
  | .hbm, ⟨66, _⟩ => ⟨S16x128, .i32⟩
  | .hbm, ⟨67, _⟩ => ⟨S16x128, .i32⟩
  | .hbm, ⟨68, _⟩ => ⟨S16x128, .i1⟩
  | .hbm, ⟨69, _⟩ => ⟨S16x128, .bf16⟩
  | .hbm, ⟨70, _⟩ => ⟨S16x1x128, .bf16⟩
  | .hbm, ⟨71, _⟩ => ⟨S16x128x128, .bf16⟩
  | .hbm, ⟨72, _⟩ => ⟨S2048x128, .bf16⟩
  | .hbm, ⟨73, _⟩ => ⟨S128x1024, .bf16⟩
  | .hbm, ⟨74, _⟩ => ⟨S128x2048, .bf16⟩
  | .hbm, ⟨75, _⟩ => ⟨S16, .f32⟩
  | .hbm, ⟨76, _⟩ => ⟨S16, .f32⟩
  | .hbm, ⟨77, _⟩ => ⟨S_, .f32⟩
  | .hbm, ⟨78, _⟩ => ⟨S16, .f32⟩
  | .hbm, ⟨79, _⟩ => ⟨S16, .f32⟩
  | .hbm, ⟨80, _⟩ => ⟨S_, .f32⟩
  | .hbm, ⟨81, _⟩ => ⟨S16, .f32⟩
  | .hbm, ⟨82, _⟩ => ⟨S16, .f32⟩
  | .hbm, ⟨83, _⟩ => ⟨S1024, .f32⟩
  | .hbm, ⟨84, _⟩ => ⟨S1024x1, .f32⟩
  | .hbm, ⟨85, _⟩ => ⟨S1x16, .f32⟩
  | .hbm, ⟨86, _⟩ => ⟨S1024x16, .f32⟩
  | .hbm, ⟨87, _⟩ => ⟨S1024x16, .f32⟩
  | .hbm, ⟨88, _⟩ => ⟨S1024x16, .f32⟩
  | .hbm, ⟨89, _⟩ => ⟨S1024x16, .f32⟩
  | .hbm, ⟨90, _⟩ => ⟨S1024x16, .f32⟩
  | .hbm, ⟨91, _⟩ => ⟨S_, .f32⟩
  | .hbm, ⟨92, _⟩ => ⟨S1024x96, .f32⟩
  | .hbm, ⟨93, _⟩ => ⟨S_, .f32⟩
  | .hbm, ⟨94, _⟩ => ⟨S1024x16, .f32⟩
  | .hbm, ⟨95, _⟩ => ⟨S1024x128, .f32⟩
  | .hbm, ⟨96, _⟩ => ⟨S1024x128, .f32⟩
  | .hbm, ⟨97, _⟩ => ⟨S1024x16, .f32⟩
  | .hbm, ⟨98, _⟩ => ⟨S1024x128, .f32⟩
  | .hbm, ⟨99, _⟩ => ⟨S1024x1024, .bf16⟩
  | .hbm, ⟨100, _⟩ => ⟨S1024x256, .f32⟩
  | .hbm, ⟨101, _⟩ => ⟨S1024x256, .f32⟩
  | .hbm, ⟨102, _⟩ => ⟨S1024x256, .f32⟩
  | .hbm, ⟨103, _⟩ => ⟨S2x1024x128, .bf16⟩
  | .hbm, ⟨104, _⟩ => ⟨S2x1024x128, .bf16⟩
  | .hbm, ⟨105, _⟩ => ⟨S1024x256, .f32⟩
  | .hbm, ⟨106, _⟩ => ⟨S1024x256, .bf16⟩
  | .hbm, ⟨107, _⟩ => ⟨S1024x128, .f32⟩
  | .hbm, ⟨108, _⟩ => ⟨S1024x128, .bf16⟩
  | .hbm, ⟨109, _⟩ => ⟨S1024x4096, .bf16⟩
  | .hbm, ⟨110, _⟩ => ⟨S1024x2048, .bf16⟩
  | .local _ .vmem, ⟨0, _⟩ => ⟨S256x1024, .f32⟩
  | .local _ .vmem, ⟨1, _⟩ => ⟨S256x1024, .f32⟩
  | .local _ .vmem, ⟨2, _⟩ => ⟨S256x512, .f32⟩
  | .local _ .vmem, ⟨3, _⟩ => ⟨S256x512, .f32⟩
  | .local _ .vmem, ⟨4, _⟩ => ⟨S256x768, .f32⟩
  | .local _ .vmem, ⟨5, _⟩ => ⟨S256x768, .f32⟩
  | .local _ .vmem, ⟨6, _⟩ => ⟨S256x256, .f32⟩
  | .local _ .vmem, ⟨7, _⟩ => ⟨S256x256, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S256x128, .f32⟩
  | .local _ .vmem, ⟨15, _⟩ => ⟨S256x128, .f32⟩
  | .local _ .vmem, ⟨16, _⟩ => ⟨S1x1024, .f32⟩
  | .local _ .vmem, ⟨17, _⟩ => ⟨S1x128, .f32⟩
  | .local _ .vmem, ⟨18, _⟩ => ⟨S1x128, .f32⟩
  | .local _ .vmem, ⟨19, _⟩ => ⟨S1x512, .f32⟩
  | .local _ .vmem, ⟨20, _⟩ => ⟨S512x3072, .bf16⟩
  | .local _ .vmem, ⟨21, _⟩ => ⟨S1x1024, .f32⟩
  | .local _ .vmem, ⟨22, _⟩ => ⟨S1x2048, .f32⟩
  | .local _ .vmem, ⟨23, _⟩ => ⟨S1x256, .f32⟩
  | .local _ .vmem, ⟨24, _⟩ => ⟨S1x128, .f32⟩
  | .local _ .vmem, ⟨25, _⟩ => ⟨S16x256x64, .bf16⟩
  | .local _ .vmem, ⟨26, _⟩ => ⟨S1024x128, .bf16⟩
  | .local _ .vmem, ⟨27, _⟩ => ⟨S128x1024, .bf16⟩
  | .local _ .vmem, ⟨28, _⟩ => ⟨S2048x128, .bf16⟩
  | .local _ .vmem, ⟨29, _⟩ => ⟨S128x2048, .bf16⟩
  | .local _ .vmem, ⟨30, _⟩ => ⟨S256x1024, .bf16⟩
  | .local _ .vmem, ⟨31, _⟩ => ⟨S256x1024, .bf16⟩
  | .local _ .vmem, ⟨32, _⟩ => ⟨S256x256, .f32⟩
  | .local _ .vmem, ⟨33, _⟩ => ⟨S256x256, .f32⟩
  | .local _ .vmem, ⟨34, _⟩ => ⟨S256x256, .f32⟩
  | .local _ .vmem, ⟨35, _⟩ => ⟨S256x256, .f32⟩
  | .local _ .vmem, ⟨36, _⟩ => ⟨S256x256, .f32⟩
  | .local _ .vmem, ⟨37, _⟩ => ⟨S256x256, .f32⟩
  | .local _ .vmem, ⟨38, _⟩ => ⟨S2x256x128, .bf16⟩
  | .local _ .vmem, ⟨39, _⟩ => ⟨S2x256x128, .bf16⟩
  | .local _ .vmem, ⟨40, _⟩ => ⟨S2x256x128, .bf16⟩
  | .local _ .vmem, ⟨41, _⟩ => ⟨S2x256x128, .bf16⟩
  | .local _ .vmem, ⟨42, _⟩ => ⟨S256x256, .f32⟩
  | .local _ .vmem, ⟨43, _⟩ => ⟨S256x256, .f32⟩
  | .local _ .vmem, ⟨44, _⟩ => ⟨S256x256, .bf16⟩
  | .local _ .vmem, ⟨45, _⟩ => ⟨S256x256, .bf16⟩
  | .local _ .vmem, ⟨46, _⟩ => ⟨S256x128, .f32⟩
  | .local _ .vmem, ⟨47, _⟩ => ⟨S256x128, .f32⟩
  | .local _ .vmem, ⟨48, _⟩ => ⟨S256x128, .bf16⟩
  | .local _ .vmem, ⟨49, _⟩ => ⟨S256x128, .bf16⟩
  | .local _ .vmem, ⟨50, _⟩ => ⟨S256x4096, .bf16⟩
  | .local _ .vmem, ⟨51, _⟩ => ⟨S256x4096, .bf16⟩
  | .local _ .vmem, ⟨52, _⟩ => ⟨S256x2048, .bf16⟩
  | .local _ .vmem, ⟨53, _⟩ => ⟨S256x2048, .bf16⟩
  | _, _ => ⟨S1024x7168, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | _, _ => false

abbrev semScoped : Fin 0 → Bool
  | ⟨_, h⟩ => absurd h (Nat.not_lt_zero _)

abbrev dmaSemScoped : Fin 54 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | _ => false

abbrev sig : RefSig :=
  ofTc nBuf bufTy 0 54 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_c : Ref sig .tc := ⟨.hbm, 26, rfl⟩
abbrev main_call0_v0 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_0 : Ref sig .tc := ⟨.hbm, 40, rfl⟩
abbrev main_call1_v0 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_c_1 : Ref sig .tc := ⟨.hbm, 48, rfl⟩
abbrev main_call2_v0 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_c_2 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_c_3 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_cst : Ref sig .tc := ⟨.hbm, 77, rfl⟩
abbrev main_v58 : Ref sig .tc := ⟨.hbm, 78, rfl⟩
abbrev main_v59 : Ref sig .tc := ⟨.hbm, 79, rfl⟩
abbrev main_cst_4 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_cst_5 : Ref sig .tc := ⟨.hbm, 91, rfl⟩
abbrev main_v70 : Ref sig .tc := ⟨.hbm, 92, rfl⟩
abbrev main_cst_6 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76_0 : Ref sig .tc := ⟨.hbm, 99, rfl⟩
abbrev main_v76_1 : Ref sig .tc := ⟨.hbm, 100, rfl⟩
abbrev main_v76_2 : Ref sig .tc := ⟨.hbm, 101, rfl⟩
abbrev main_v76_3 : Ref sig .tc := ⟨.hbm, 102, rfl⟩
abbrev main_v76_4 : Ref sig .tc := ⟨.hbm, 103, rfl⟩
abbrev main_v76_5 : Ref sig .tc := ⟨.hbm, 104, rfl⟩
abbrev main_v76_6 : Ref sig .tc := ⟨.hbm, 105, rfl⟩
abbrev main_v76_7 : Ref sig .tc := ⟨.hbm, 106, rfl⟩
abbrev main_v76_8 : Ref sig .tc := ⟨.hbm, 107, rfl⟩
abbrev main_v76_9 : Ref sig .tc := ⟨.hbm, 108, rfl⟩
abbrev main_v76_10 : Ref sig .tc := ⟨.hbm, 109, rfl⟩
abbrev main_v76_11 : Ref sig .tc := ⟨.hbm, 110, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg16_0 : Ref sig .tc := ⟨.vmem, 24, rfl⟩
abbrev cc0_stg17_0 : Ref sig .tc := ⟨.vmem, 25, rfl⟩
abbrev cc0_stg18_0 : Ref sig .tc := ⟨.vmem, 26, rfl⟩
abbrev cc0_stg19_0 : Ref sig .tc := ⟨.vmem, 27, rfl⟩
abbrev cc0_stg20_0 : Ref sig .tc := ⟨.vmem, 28, rfl⟩
abbrev cc0_stg21_0 : Ref sig .tc := ⟨.vmem, 29, rfl⟩
abbrev cc0_stg22_0 : Ref sig .tc := ⟨.vmem, 30, rfl⟩
abbrev cc0_stg22_1 : Ref sig .tc := ⟨.vmem, 31, rfl⟩
abbrev cc0_stg23_0 : Ref sig .tc := ⟨.vmem, 32, rfl⟩
abbrev cc0_stg23_1 : Ref sig .tc := ⟨.vmem, 33, rfl⟩
abbrev cc0_stg24_0 : Ref sig .tc := ⟨.vmem, 34, rfl⟩
abbrev cc0_stg24_1 : Ref sig .tc := ⟨.vmem, 35, rfl⟩
abbrev cc0_stg25_0 : Ref sig .tc := ⟨.vmem, 36, rfl⟩
abbrev cc0_stg25_1 : Ref sig .tc := ⟨.vmem, 37, rfl⟩
abbrev cc0_stg26_0 : Ref sig .tc := ⟨.vmem, 38, rfl⟩
abbrev cc0_stg26_1 : Ref sig .tc := ⟨.vmem, 39, rfl⟩
abbrev cc0_stg27_0 : Ref sig .tc := ⟨.vmem, 40, rfl⟩
abbrev cc0_stg27_1 : Ref sig .tc := ⟨.vmem, 41, rfl⟩
abbrev cc0_stg28_0 : Ref sig .tc := ⟨.vmem, 42, rfl⟩
abbrev cc0_stg28_1 : Ref sig .tc := ⟨.vmem, 43, rfl⟩
abbrev cc0_stg29_0 : Ref sig .tc := ⟨.vmem, 44, rfl⟩
abbrev cc0_stg29_1 : Ref sig .tc := ⟨.vmem, 45, rfl⟩
abbrev cc0_stg30_0 : Ref sig .tc := ⟨.vmem, 46, rfl⟩
abbrev cc0_stg30_1 : Ref sig .tc := ⟨.vmem, 47, rfl⟩
abbrev cc0_stg31_0 : Ref sig .tc := ⟨.vmem, 48, rfl⟩
abbrev cc0_stg31_1 : Ref sig .tc := ⟨.vmem, 49, rfl⟩
abbrev cc0_stg32_0 : Ref sig .tc := ⟨.vmem, 50, rfl⟩
abbrev cc0_stg32_1 : Ref sig .tc := ⟨.vmem, 51, rfl⟩
abbrev cc0_stg33_0 : Ref sig .tc := ⟨.vmem, 52, rfl⟩
abbrev cc0_stg33_1 : Ref sig .tc := ⟨.vmem, 53, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem15_0 : DmaSem sig := 23
abbrev cc0_sem16_0 : DmaSem sig := 24
abbrev cc0_sem17_0 : DmaSem sig := 25
abbrev cc0_sem18_0 : DmaSem sig := 26
abbrev cc0_sem19_0 : DmaSem sig := 27
abbrev cc0_sem20_0 : DmaSem sig := 28
abbrev cc0_sem21_0 : DmaSem sig := 29
abbrev cc0_sem22_0 : DmaSem sig := 30
abbrev cc0_sem22_1 : DmaSem sig := 31
abbrev cc0_sem23_0 : DmaSem sig := 32
abbrev cc0_sem23_1 : DmaSem sig := 33
abbrev cc0_sem24_0 : DmaSem sig := 34
abbrev cc0_sem24_1 : DmaSem sig := 35
abbrev cc0_sem25_0 : DmaSem sig := 36
abbrev cc0_sem25_1 : DmaSem sig := 37
abbrev cc0_sem26_0 : DmaSem sig := 38
abbrev cc0_sem26_1 : DmaSem sig := 39
abbrev cc0_sem27_0 : DmaSem sig := 40
abbrev cc0_sem27_1 : DmaSem sig := 41
abbrev cc0_sem28_0 : DmaSem sig := 42
abbrev cc0_sem28_1 : DmaSem sig := 43
abbrev cc0_sem29_0 : DmaSem sig := 44
abbrev cc0_sem29_1 : DmaSem sig := 45
abbrev cc0_sem30_0 : DmaSem sig := 46
abbrev cc0_sem30_1 : DmaSem sig := 47
abbrev cc0_sem31_0 : DmaSem sig := 48
abbrev cc0_sem31_1 : DmaSem sig := 49
abbrev cc0_sem32_0 : DmaSem sig := 50
abbrev cc0_sem32_1 : DmaSem sig := 51
abbrev cc0_sem33_0 : DmaSem sig := 52
abbrev cc0_sem33_1 : DmaSem sig := 53

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_2 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_3 (i : grid0.Coords) : Fin 2 → Nat :=
  let arg0 : BitVec 32 := BitVec.ofNat 32 (i 0).val
  let c27_i32 : BitVec 32 := 27#32
  let c0_i32 : BitVec 32 := 0#32
  ![arg0.toNat, c27_i32.toNat]

def cc0_transform_4 (i : grid0.Coords) : Fin 2 → Nat :=
  let arg0 : BitVec 32 := BitVec.ofNat 32 (i 0).val
  let c12_i32 : BitVec 32 := 12#32
  let c0_i32 : BitVec 32 := 0#32
  ![arg0.toNat, c12_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_24 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_25 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_26 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_27 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_28 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_29 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_30 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_31 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_32 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_33 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S512x3072 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x2048 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S16x256x64 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1024x128 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S128x1024 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S2048x128 .bf16 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S128x2048 .bf16 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 2 → Memref sig .tc .vmem S256x1024 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S256x256 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S256x256 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S256x256 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

abbrev stage0_26 : Fin 2 → Memref sig .tc .vmem S2x256x128 .bf16 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]

abbrev stage0_27 : Fin 2 → Memref sig .tc .vmem S2x256x128 .bf16 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true]

abbrev stage0_28 : Fin 2 → Memref sig .tc .vmem S256x256 .f32 := fun | 0 => Memref.whole cc0_stg28_0 | 1 => Memref.whole cc0_stg28_1 | ⟨_ + 2, h⟩ => absurd h (Nat.not_lt.2 (Nat.le_add_left _ _))
abbrev sem0_28 : Fin 2 → DmaSem sig := fun | 0 => cc0_sem28_0 | 1 => cc0_sem28_1 | ⟨_ + 2, h⟩ => absurd h (Nat.not_lt.2 (Nat.le_add_left _ _))
abbrev reads0_28 : Fin grid0.rank → Bool := ![true]

abbrev stage0_29 : Fin 2 → Memref sig .tc .vmem S256x256 .bf16 := fun | 0 => Memref.whole cc0_stg29_0 | 1 => Memref.whole cc0_stg29_1 | ⟨_ + 2, h⟩ => absurd h (Nat.not_lt.2 (Nat.le_add_left _ _))
abbrev sem0_29 : Fin 2 → DmaSem sig := fun | 0 => cc0_sem29_0 | 1 => cc0_sem29_1 | ⟨_ + 2, h⟩ => absurd h (Nat.not_lt.2 (Nat.le_add_left _ _))
abbrev reads0_29 : Fin grid0.rank → Bool := ![true]

abbrev stage0_30 : Fin 2 → Memref sig .tc .vmem S256x128 .f32 := fun | 0 => Memref.whole cc0_stg30_0 | 1 => Memref.whole cc0_stg30_1 | ⟨_ + 2, h⟩ => absurd h (Nat.not_lt.2 (Nat.le_add_left _ _))
abbrev sem0_30 : Fin 2 → DmaSem sig := fun | 0 => cc0_sem30_0 | 1 => cc0_sem30_1 | ⟨_ + 2, h⟩ => absurd h (Nat.not_lt.2 (Nat.le_add_left _ _))
abbrev reads0_30 : Fin grid0.rank → Bool := ![true]

abbrev stage0_31 : Fin 2 → Memref sig .tc .vmem S256x128 .bf16 := fun | 0 => Memref.whole cc0_stg31_0 | 1 => Memref.whole cc0_stg31_1 | ⟨_ + 2, h⟩ => absurd h (Nat.not_lt.2 (Nat.le_add_left _ _))
abbrev sem0_31 : Fin 2 → DmaSem sig := fun | 0 => cc0_sem31_0 | 1 => cc0_sem31_1 | ⟨_ + 2, h⟩ => absurd h (Nat.not_lt.2 (Nat.le_add_left _ _))
abbrev reads0_31 : Fin grid0.rank → Bool := ![true]

abbrev stage0_32 : Fin 2 → Memref sig .tc .vmem S256x4096 .bf16 := fun | 0 => Memref.whole cc0_stg32_0 | 1 => Memref.whole cc0_stg32_1 | ⟨_ + 2, h⟩ => absurd h (Nat.not_lt.2 (Nat.le_add_left _ _))
abbrev sem0_32 : Fin 2 → DmaSem sig := fun | 0 => cc0_sem32_0 | 1 => cc0_sem32_1 | ⟨_ + 2, h⟩ => absurd h (Nat.not_lt.2 (Nat.le_add_left _ _))
abbrev reads0_32 : Fin grid0.rank → Bool := ![true]

abbrev stage0_33 : Fin 2 → Memref sig .tc .vmem S256x2048 .bf16 := fun | 0 => Memref.whole cc0_stg33_0 | 1 => Memref.whole cc0_stg33_1 | ⟨_ + 2, h⟩ => absurd h (Nat.not_lt.2 (Nat.le_add_left _ _))
abbrev sem0_33 : Fin 2 → DmaSem sig := fun | 0 => cc0_sem33_0 | 1 => cc0_sem33_1 | ⟨_ + 2, h⟩ => absurd h (Nat.not_lt.2 (Nat.le_add_left _ _))
abbrev reads0_33 : Fin grid0.rank → Bool := ![true]
-- ==== ReferencePostSampleIdeal.lean ====
abbrev S1024x7168 : Shape := ⟨2, ![1024, 7168]⟩
abbrev S1024 : Shape := ⟨1, ![1024]⟩
abbrev S64 : Shape := ⟨1, ![64]⟩
abbrev S512 : Shape := ⟨1, ![512]⟩
abbrev S512x1536 : Shape := ⟨2, ![512, 1536]⟩
abbrev S96 : Shape := ⟨1, ![96]⟩
abbrev S256 : Shape := ⟨1, ![256]⟩
abbrev S32 : Shape := ⟨1, ![32]⟩
abbrev S16x256x64 : Shape := ⟨3, ![16, 256, 64]⟩
abbrev S1024x32 : Shape := ⟨2, ![1024, 32]⟩
abbrev S1024x48 : Shape := ⟨2, ![1024, 48]⟩
abbrev S1024x256 : Shape := ⟨2, ![1024, 256]⟩
abbrev S_ : Shape := ⟨0, ![]⟩
abbrev S1024x1 : Shape := ⟨2, ![1024, 1]⟩
abbrev S1x32 : Shape := ⟨2, ![1, 32]⟩
abbrev S16 : Shape := ⟨1, ![16]⟩
abbrev S1x16 : Shape := ⟨2, ![1, 16]⟩
abbrev S1024x16 : Shape := ⟨2, ![1024, 16]⟩
abbrev S1024x128 : Shape := ⟨2, ![1024, 128]⟩
abbrev S1024x2x64 : Shape := ⟨3, ![1024, 2, 64]⟩
abbrev S1024x2 : Shape := ⟨2, ![1024, 2]⟩
abbrev S1024x2x1 : Shape := ⟨3, ![1024, 2, 1]⟩
abbrev S1x1x64 : Shape := ⟨3, ![1, 1, 64]⟩
abbrev S1x256 : Shape := ⟨2, ![1, 256]⟩

abbrev nBuf : Space → Nat
  | .hbm => 127
  | .vmem => 0
  | .smem => 0
  | _ => 0

abbrev bufTy : (tb : Table) → Fin (tcTables nBuf tb) → BufTy
  | .hbm, ⟨0, _⟩ => ⟨S1024x7168, .f32⟩
  | .hbm, ⟨1, _⟩ => ⟨S1024, .i32⟩
  | .hbm, ⟨2, _⟩ => ⟨S64, .f32⟩
  | .hbm, ⟨3, _⟩ => ⟨S64, .f32⟩
  | .hbm, ⟨4, _⟩ => ⟨S64, .f32⟩
  | .hbm, ⟨5, _⟩ => ⟨S512, .f32⟩
  | .hbm, ⟨6, _⟩ => ⟨S512x1536, .f32⟩
  | .hbm, ⟨7, _⟩ => ⟨S96, .f32⟩
  | .hbm, ⟨8, _⟩ => ⟨S256, .f32⟩
  | .hbm, ⟨9, _⟩ => ⟨S32, .f32⟩
  | .hbm, ⟨10, _⟩ => ⟨S16x256x64, .f32⟩
  | .hbm, ⟨11, _⟩ => ⟨S1024x32, .f32⟩
  | .hbm, ⟨12, _⟩ => ⟨S1024x48, .f32⟩
  | .hbm, ⟨13, _⟩ => ⟨S1024x256, .f32⟩
  | .hbm, ⟨14, _⟩ => ⟨S1024x256, .f32⟩
  | .hbm, ⟨15, _⟩ => ⟨S1024x256, .f32⟩
  | .hbm, ⟨16, _⟩ => ⟨S1024x256, .f32⟩
  | .hbm, ⟨17, _⟩ => ⟨S1024x32, .f32⟩
  | .hbm, ⟨18, _⟩ => ⟨S_, .f32⟩
  | .hbm, ⟨19, _⟩ => ⟨S1024, .f32⟩
  | .hbm, ⟨20, _⟩ => ⟨S1024x1, .f32⟩
  | .hbm, ⟨21, _⟩ => ⟨S_, .f32⟩
  | .hbm, ⟨22, _⟩ => ⟨S1024x1, .f32⟩
  | .hbm, ⟨23, _⟩ => ⟨S1024x1, .f32⟩
  | .hbm, ⟨24, _⟩ => ⟨S_, .f32⟩
  | .hbm, ⟨25, _⟩ => ⟨S1024x1, .f32⟩
  | .hbm, ⟨26, _⟩ => ⟨S1024x1, .f32⟩
  | .hbm, ⟨27, _⟩ => ⟨S1024x1, .f32⟩
  | .hbm, ⟨28, _⟩ => ⟨S1024x32, .f32⟩
  | .hbm, ⟨29, _⟩ => ⟨S1024x32, .f32⟩
  | .hbm, ⟨30, _⟩ => ⟨S1x32, .f32⟩
  | .hbm, ⟨31, _⟩ => ⟨S1024x32, .f32⟩
  | .hbm, ⟨32, _⟩ => ⟨S1024x32, .f32⟩
  | .hbm, ⟨33, _⟩ => ⟨S16, .f32⟩
  | .hbm, ⟨34, _⟩ => ⟨S16, .f32⟩
  | .hbm, ⟨35, _⟩ => ⟨S_, .f32⟩
  | .hbm, ⟨36, _⟩ => ⟨S16, .f32⟩
  | .hbm, ⟨37, _⟩ => ⟨S16, .f32⟩
  | .hbm, ⟨38, _⟩ => ⟨S_, .f32⟩
  | .hbm, ⟨39, _⟩ => ⟨S16, .f32⟩
  | .hbm, ⟨40, _⟩ => ⟨S16, .f32⟩
  | .hbm, ⟨41, _⟩ => ⟨S1024, .f32⟩
  | .hbm, ⟨42, _⟩ => ⟨S1024x1, .f32⟩
  | .hbm, ⟨43, _⟩ => ⟨S1x16, .f32⟩
  | .hbm, ⟨44, _⟩ => ⟨S1024x16, .f32⟩
  | .hbm, ⟨45, _⟩ => ⟨S1024x16, .f32⟩
  | .hbm, ⟨46, _⟩ => ⟨S1024x16, .f32⟩
  | .hbm, ⟨47, _⟩ => ⟨S1024x16, .f32⟩
  | .hbm, ⟨48, _⟩ => ⟨S1024x16, .f32⟩
  | .hbm, ⟨49, _⟩ => ⟨S1024x16, .f32⟩
  | .hbm, ⟨50, _⟩ => ⟨S1024x16, .f32⟩
  | .hbm, ⟨51, _⟩ => ⟨S1024x16, .f32⟩
  | .hbm, ⟨52, _⟩ => ⟨S1024x16, .f32⟩
  | .hbm, ⟨53, _⟩ => ⟨S1024x16, .f32⟩
  | .hbm, ⟨54, _⟩ => ⟨S1024x16, .f32⟩
  | .hbm, ⟨55, _⟩ => ⟨S1024x16, .f32⟩
  | .hbm, ⟨56, _⟩ => ⟨S1024x16, .f32⟩
  | .hbm, ⟨57, _⟩ => ⟨S1024x32, .f32⟩
  | .hbm, ⟨58, _⟩ => ⟨S_, .f32⟩
  | .hbm, ⟨59, _⟩ => ⟨S1024x48, .f32⟩
  | .hbm, ⟨60, _⟩ => ⟨S1024x48, .f32⟩
  | .hbm, ⟨61, _⟩ => ⟨S1024x48, .f32⟩
  | .hbm, ⟨62, _⟩ => ⟨S_, .f32⟩
  | .hbm, ⟨63, _⟩ => ⟨S1024x48, .f32⟩
  | .hbm, ⟨64, _⟩ => ⟨S1024x48, .f32⟩
  | .hbm, ⟨65, _⟩ => ⟨S_, .f32⟩
  | .hbm, ⟨66, _⟩ => ⟨S1024x48, .f32⟩
  | .hbm, ⟨67, _⟩ => ⟨S1024x48, .f32⟩
  | .hbm, ⟨68, _⟩ => ⟨S1024x128, .f32⟩
  | .hbm, ⟨69, _⟩ => ⟨S1024x128, .f32⟩
  | .hbm, ⟨70, _⟩ => ⟨S1024x2x64, .f32⟩
  | .hbm, ⟨71, _⟩ => ⟨S1024x2x64, .f32⟩
  | .hbm, ⟨72, _⟩ => ⟨S_, .f32⟩
  | .hbm, ⟨73, _⟩ => ⟨S1024x2, .f32⟩
  | .hbm, ⟨74, _⟩ => ⟨S1024x2x1, .f32⟩
  | .hbm, ⟨75, _⟩ => ⟨S_, .f32⟩
  | .hbm, ⟨76, _⟩ => ⟨S1024x2x1, .f32⟩
  | .hbm, ⟨77, _⟩ => ⟨S1024x2x1, .f32⟩
  | .hbm, ⟨78, _⟩ => ⟨S_, .f32⟩
  | .hbm, ⟨79, _⟩ => ⟨S1024x2x1, .f32⟩
  | .hbm, ⟨80, _⟩ => ⟨S1024x2x1, .f32⟩
  | .hbm, ⟨81, _⟩ => ⟨S1024x2x1, .f32⟩
  | .hbm, ⟨82, _⟩ => ⟨S1024x2x64, .f32⟩
  | .hbm, ⟨83, _⟩ => ⟨S1024x2x64, .f32⟩
  | .hbm, ⟨84, _⟩ => ⟨S1x1x64, .f32⟩
  | .hbm, ⟨85, _⟩ => ⟨S1024x2x64, .f32⟩
  | .hbm, ⟨86, _⟩ => ⟨S1024x2x64, .f32⟩
  | .hbm, ⟨87, _⟩ => ⟨S1024x128, .f32⟩
  | .hbm, ⟨88, _⟩ => ⟨S1024x128, .f32⟩
  | .hbm, ⟨89, _⟩ => ⟨S1024x256, .f32⟩
  | .hbm, ⟨90, _⟩ => ⟨S1024x128, .f32⟩
  | .hbm, ⟨91, _⟩ => ⟨S1024x2x64, .f32⟩
  | .hbm, ⟨92, _⟩ => ⟨S1024x2x64, .f32⟩
  | .hbm, ⟨93, _⟩ => ⟨S_, .f32⟩
  | .hbm, ⟨94, _⟩ => ⟨S1024x2, .f32⟩
  | .hbm, ⟨95, _⟩ => ⟨S1024x2x1, .f32⟩
  | .hbm, ⟨96, _⟩ => ⟨S_, .f32⟩
  | .hbm, ⟨97, _⟩ => ⟨S1024x2x1, .f32⟩
  | .hbm, ⟨98, _⟩ => ⟨S1024x2x1, .f32⟩
  | .hbm, ⟨99, _⟩ => ⟨S_, .f32⟩
  | .hbm, ⟨100, _⟩ => ⟨S1024x2x1, .f32⟩
  | .hbm, ⟨101, _⟩ => ⟨S1024x2x1, .f32⟩
  | .hbm, ⟨102, _⟩ => ⟨S1024x2x1, .f32⟩
  | .hbm, ⟨103, _⟩ => ⟨S1024x2x64, .f32⟩
  | .hbm, ⟨104, _⟩ => ⟨S1024x2x64, .f32⟩
  | .hbm, ⟨105, _⟩ => ⟨S1x1x64, .f32⟩
  | .hbm, ⟨106, _⟩ => ⟨S1024x2x64, .f32⟩
  | .hbm, ⟨107, _⟩ => ⟨S1024x2x64, .f32⟩
  | .hbm, ⟨108, _⟩ => ⟨S1024x128, .f32⟩
  | .hbm, ⟨109, _⟩ => ⟨S1024x128, .f32⟩
  | .hbm, ⟨110, _⟩ => ⟨S1024x256, .f32⟩
  | .hbm, ⟨111, _⟩ => ⟨S1024x256, .f32⟩
  | .hbm, ⟨112, _⟩ => ⟨S_, .f32⟩
  | .hbm, ⟨113, _⟩ => ⟨S1024, .f32⟩
  | .hbm, ⟨114, _⟩ => ⟨S1024x1, .f32⟩
  | .hbm, ⟨115, _⟩ => ⟨S_, .f32⟩
  | .hbm, ⟨116, _⟩ => ⟨S1024x1, .f32⟩
  | .hbm, ⟨117, _⟩ => ⟨S1024x1, .f32⟩
  | .hbm, ⟨118, _⟩ => ⟨S_, .f32⟩
  | .hbm, ⟨119, _⟩ => ⟨S1024x1, .f32⟩
  | .hbm, ⟨120, _⟩ => ⟨S1024x1, .f32⟩
  | .hbm, ⟨121, _⟩ => ⟨S1024x1, .f32⟩
  | .hbm, ⟨122, _⟩ => ⟨S1024x256, .f32⟩
  | .hbm, ⟨123, _⟩ => ⟨S1024x256, .f32⟩
  | .hbm, ⟨124, _⟩ => ⟨S1x256, .f32⟩
  | .hbm, ⟨125, _⟩ => ⟨S1024x256, .f32⟩
  | .hbm, ⟨126, _⟩ => ⟨S1024x256, .f32⟩
  | _, _ => ⟨S1024x7168, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_cst_0 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_2 : Ref sig .tc := ⟨.hbm, 35, rfl⟩
abbrev main_v21 : Ref sig .tc := ⟨.hbm, 36, rfl⟩
abbrev main_v22 : Ref sig .tc := ⟨.hbm, 37, rfl⟩
abbrev main_cst_3 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_4 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_5 : Ref sig .tc := ⟨.hbm, 62, rfl⟩
abbrev main_v45 : Ref sig .tc := ⟨.hbm, 63, rfl⟩
abbrev main_v46 : Ref sig .tc := ⟨.hbm, 64, rfl⟩
abbrev main_cst_6 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_7 : Ref sig .tc := ⟨.hbm, 72, rfl⟩
abbrev main_v53 : Ref sig .tc := ⟨.hbm, 73, rfl⟩
abbrev main_v54 : Ref sig .tc := ⟨.hbm, 74, rfl⟩
abbrev main_cst_8 : Ref sig .tc := ⟨.hbm, 75, rfl⟩
abbrev main_v55 : Ref sig .tc := ⟨.hbm, 76, rfl⟩
abbrev main_v56 : Ref sig .tc := ⟨.hbm, 77, rfl⟩
abbrev main_cst_9 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_cst_10 : Ref sig .tc := ⟨.hbm, 93, rfl⟩
abbrev main_v71 : Ref sig .tc := ⟨.hbm, 94, rfl⟩
abbrev main_v72 : Ref sig .tc := ⟨.hbm, 95, rfl⟩
abbrev main_cst_11 : Ref sig .tc := ⟨.hbm, 96, rfl⟩
abbrev main_v73 : Ref sig .tc := ⟨.hbm, 97, rfl⟩
abbrev main_v74 : Ref sig .tc := ⟨.hbm, 98, rfl⟩
abbrev main_cst_12 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_cst_13 : Ref sig .tc := ⟨.hbm, 112, rfl⟩
abbrev main_v87 : Ref sig .tc := ⟨.hbm, 113, rfl⟩
abbrev main_v88 : Ref sig .tc := ⟨.hbm, 114, rfl⟩
abbrev main_cst_14 : Ref sig .tc := ⟨.hbm, 115, rfl⟩
abbrev main_v89 : Ref sig .tc := ⟨.hbm, 116, rfl⟩
abbrev main_v90 : Ref sig .tc := ⟨.hbm, 117, rfl⟩
abbrev main_cst_15 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩

abbrev nD : Nat := 1
abbrev τ : Topo := Topo.v7x

variable {F : FTy → Type} [FloatOps F]
-- ==== KernelFfnSample.lean ====
abbrev S1024x2048 : Shape := ⟨2, ![1024, 2048]⟩
abbrev S2048x5632 : Shape := ⟨2, ![2048, 5632]⟩
abbrev S5632x2048 : Shape := ⟨2, ![5632, 2048]⟩
abbrev S512x2048 : Shape := ⟨2, ![512, 2048]⟩
abbrev S2048x512 : Shape := ⟨2, ![2048, 512]⟩
abbrev S512x512 : Shape := ⟨2, ![512, 512]⟩

abbrev nBuf : Space → Nat
  | .hbm => 10
  | .vmem => 13
  | .smem => 0
  | _ => 0

abbrev bufTy : (tb : Table) → Fin (tcTables nBuf tb) → BufTy
  | .hbm, ⟨0, _⟩ => ⟨S1024x2048, .f32⟩
  | .hbm, ⟨1, _⟩ => ⟨S1024x2048, .f32⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S2048x5632, .bf16⟩
  | .hbm, ⟨6, _⟩ => ⟨S2048x5632, .bf16⟩
  | .hbm, ⟨7, _⟩ => ⟨S5632x2048, .bf16⟩
  | .hbm, ⟨8, _⟩ => ⟨S1024x2048, .bf16⟩
  | .hbm, ⟨9, _⟩ => ⟨S1024x2048, .f32⟩
  | .local _ .vmem, ⟨0, _⟩ => ⟨S512x2048, .bf16⟩
  | .local _ .vmem, ⟨1, _⟩ => ⟨S512x2048, .bf16⟩
  | .local _ .vmem, ⟨2, _⟩ => ⟨S512x2048, .f32⟩
  | .local _ .vmem, ⟨3, _⟩ => ⟨S512x2048, .f32⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S512x2048, .bf16⟩
  | .local _ .vmem, ⟨9, _⟩ => ⟨S512x2048, .bf16⟩
  | .local _ .vmem, ⟨10, _⟩ => ⟨S512x2048, .f32⟩
  | .local _ .vmem, ⟨11, _⟩ => ⟨S512x2048, .f32⟩
  | .local _ .vmem, ⟨12, _⟩ => ⟨S512x2048, .f32⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 11], ![false, false]⟩

def k0_cond2 (i : grid0.Coords) : BitVec 1 :=
  let arg1 : BitVec 32 := BitVec.ofNat 32 (i 1).val
  let c10_i32 : BitVec 32 := 10#32
  let v23 : BitVec 1 := Scalar.cmpi .eq arg1 c10_i32
  let v24 : BitVec 32 := Scalar.extui v23
  let c0_i32_14 : BitVec 32 := 0#32
  let v25 : BitVec 1 := Scalar.cmpi .ne v24 c0_i32_14
  v25

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== ReferenceFfnSampleIdeal.lean ====
abbrev S1024x2048 : Shape := ⟨2, ![1024, 2048]⟩
abbrev S2048x5632 : Shape := ⟨2, ![2048, 5632]⟩
abbrev S5632x2048 : Shape := ⟨2, ![5632, 2048]⟩
abbrev S1024x5632 : Shape := ⟨2, ![1024, 5632]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S1024x2048, .f32⟩
  | .hbm, ⟨1, _⟩ => ⟨S1024x2048, .f32⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S1024x5632, .f32⟩
  | .hbm, ⟨6, _⟩ => ⟨S1024x5632, .f32⟩
  | .hbm, ⟨7, _⟩ => ⟨S1024x5632, .f32⟩
  | .hbm, ⟨8, _⟩ => ⟨S_, .f32⟩
  | .hbm, ⟨9, _⟩ => ⟨S1024x5632, .f32⟩
  | .hbm, ⟨10, _⟩ => ⟨S1024x5632, .f32⟩
  | .hbm, ⟨11, _⟩ => ⟨S_, .f32⟩
  | .hbm, ⟨12, _⟩ => ⟨S1024x5632, .f32⟩
  | .hbm, ⟨13, _⟩ => ⟨S1024x5632, .f32⟩
  | .hbm, ⟨14, _⟩ => ⟨S1024x5632, .f32⟩
  | .hbm, ⟨15, _⟩ => ⟨S1024x5632, .f32⟩
  | .hbm, ⟨16, _⟩ => ⟨S1024x5632, .f32⟩
  | .hbm, ⟨17, _⟩ => ⟨S1024x2048, .f32⟩
  | .hbm, ⟨18, _⟩ => ⟨S1024x2048, .f32⟩
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩

abbrev nD : Nat := 1
abbrev τ : Topo := Topo.v7x

variable {F : FTy → Type} [FloatOps F]
-- ==== KernelOutSample.lean ====
abbrev S1024x2048 : Shape := ⟨2, ![1024, 2048]⟩
abbrev S1024x1024 : Shape := ⟨2, ![1024, 1024]⟩
abbrev S2048x2048 : Shape := ⟨2, ![2048, 2048]⟩
abbrev S2048 : Shape := ⟨1, ![2048]⟩
abbrev S1x2048 : Shape := ⟨2, ![1, 2048]⟩
abbrev S_ : Shape := ⟨0, ![]⟩
abbrev S1024x7168 : Shape := ⟨2, ![1024, 7168]⟩
abbrev S256x2048 : Shape := ⟨2, ![256, 2048]⟩
abbrev S256x1024 : Shape := ⟨2, ![256, 1024]⟩
abbrev S256 : Shape := ⟨1, ![256]⟩
abbrev S256x1 : Shape := ⟨2, ![256, 1]⟩

abbrev nBuf : Space → Nat
  | .hbm => 22
  | .vmem => 18
  | .smem => 0
  | _ => 0

abbrev bufTy : (tb : Table) → Fin (tcTables nBuf tb) → BufTy
  | .hbm, ⟨0, _⟩ => ⟨S1024x2048, .f32⟩
  | .hbm, ⟨1, _⟩ => ⟨S1024x1024, .f32⟩
  | .hbm, ⟨2, _⟩ => ⟨S1024x1024, .f32⟩
  | .hbm, ⟨3, _⟩ => ⟨S1024x2048, .f32⟩
  | .hbm, ⟨4, _⟩ => ⟨S1024x2048, .f32⟩
  | .hbm, ⟨5, _⟩ => ⟨S1024x2048, .f32⟩
  | .hbm, ⟨6, _⟩ => ⟨S1024x2048, .f32⟩
  | .hbm, ⟨7, _⟩ => ⟨S2048x2048, .f32⟩
  | .hbm, ⟨8, _⟩ => ⟨S2048, .f32⟩
  | .hbm, ⟨9, _⟩ => ⟨S1024x2048, .bf16⟩
  | .hbm, ⟨10, _⟩ => ⟨S1024x2048, .bf16⟩
  | .hbm, ⟨11, _⟩ => ⟨S2048x2048, .bf16⟩
  | .hbm, ⟨12, _⟩ => ⟨S1x2048, .f32⟩
  | .hbm, ⟨13, _⟩ => ⟨S_, .f32⟩
  | .hbm, ⟨14, _⟩ => ⟨S1024x2048, .f32⟩
  | .hbm, ⟨15, _⟩ => ⟨S_, .f32⟩
  | .hbm, ⟨16, _⟩ => ⟨S1024x1024, .f32⟩
  | .hbm, ⟨17, _⟩ => ⟨S1024x7168, .f32⟩
  | .hbm, ⟨18, _⟩ => ⟨S1024x1024, .bf16⟩
  | .hbm, ⟨19, _⟩ => ⟨S1024x1024, .bf16⟩
  | .hbm, ⟨20, _⟩ => ⟨S1024x2048, .f32⟩
  | .hbm, ⟨21, _⟩ => ⟨S1024x2048, .bf16⟩
  | .local _ .vmem, ⟨0, _⟩ => ⟨S256x2048, .f32⟩
  | .local _ .vmem, ⟨1, _⟩ => ⟨S256x2048, .f32⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S1024x2048, .bf16⟩
  | .local _ .vmem, ⟨11, _⟩ => ⟨S1024x2048, .bf16⟩
  | .local _ .vmem, ⟨12, _⟩ => ⟨S2048x2048, .bf16⟩
  | .local _ .vmem, ⟨13, _⟩ => ⟨S1x2048, .f32⟩
  | .local _ .vmem, ⟨14, _⟩ => ⟨S256x2048, .f32⟩
  | .local _ .vmem, ⟨15, _⟩ => ⟨S256x2048, .f32⟩
  | .local _ .vmem, ⟨16, _⟩ => ⟨S256x2048, .bf16⟩
  | .local _ .vmem, ⟨17, _⟩ => ⟨S256x2048, .bf16⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9_0 : Ref sig .tc := ⟨.hbm, 20, rfl⟩
abbrev main_v9_1 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceOutSampleIdeal.lean ====
abbrev S1024x2048 : Shape := ⟨2, ![1024, 2048]⟩
abbrev S1024x1024 : Shape := ⟨2, ![1024, 1024]⟩
abbrev S2048x2048 : Shape := ⟨2, ![2048, 2048]⟩
abbrev S2048 : Shape := ⟨1, ![2048]⟩
abbrev S_ : Shape := ⟨0, ![]⟩
abbrev S1024 : Shape := ⟨1, ![1024]⟩
abbrev S1024x1 : Shape := ⟨2, ![1024, 1]⟩
abbrev S1x2048 : Shape := ⟨2, ![1, 2048]⟩

abbrev nBuf : Space → Nat
  | .hbm => 49
  | .vmem => 0
  | .smem => 0
  | _ => 0

abbrev bufTy : (tb : Table) → Fin (tcTables nBuf tb) → BufTy
  | .hbm, ⟨0, _⟩ => ⟨S1024x2048, .f32⟩
  | .hbm, ⟨1, _⟩ => ⟨S1024x1024, .f32⟩
  | .hbm, ⟨2, _⟩ => ⟨S1024x1024, .f32⟩
  | .hbm, ⟨3, _⟩ => ⟨S1024x2048, .f32⟩
  | .hbm, ⟨4, _⟩ => ⟨S1024x2048, .f32⟩
  | .hbm, ⟨5, _⟩ => ⟨S1024x2048, .f32⟩
  | .hbm, ⟨6, _⟩ => ⟨S1024x2048, .f32⟩
  | .hbm, ⟨7, _⟩ => ⟨S2048x2048, .f32⟩
  | .hbm, ⟨8, _⟩ => ⟨S2048, .f32⟩
  | .hbm, ⟨9, _⟩ => ⟨S1024x2048, .f32⟩
  | .hbm, ⟨10, _⟩ => ⟨S1024x2048, .f32⟩
  | .hbm, ⟨11, _⟩ => ⟨S_, .f32⟩
  | .hbm, ⟨12, _⟩ => ⟨S1024x2048, .f32⟩
  | .hbm, ⟨13, _⟩ => ⟨S1024x2048, .f32⟩
  | .hbm, ⟨14, _⟩ => ⟨S_, .f32⟩
  | .hbm, ⟨15, _⟩ => ⟨S1024x2048, .f32⟩
  | .hbm, ⟨16, _⟩ => ⟨S1024x2048, .f32⟩
  | .hbm, ⟨17, _⟩ => ⟨S1024x2048, .f32⟩
  | .hbm, ⟨18, _⟩ => ⟨S1024x2048, .f32⟩
  | .hbm, ⟨19, _⟩ => ⟨S1024x2048, .f32⟩
  | .hbm, ⟨20, _⟩ => ⟨S1024x2048, .f32⟩
  | .hbm, ⟨21, _⟩ => ⟨S_, .f32⟩
  | .hbm, ⟨22, _⟩ => ⟨S1024x2048, .f32⟩
  | .hbm, ⟨23, _⟩ => ⟨S1024x2048, .f32⟩
  | .hbm, ⟨24, _⟩ => ⟨S_, .f32⟩
  | .hbm, ⟨25, _⟩ => ⟨S1024x2048, .f32⟩
  | .hbm, ⟨26, _⟩ => ⟨S1024x2048, .f32⟩
  | .hbm, ⟨27, _⟩ => ⟨S1024x2048, .f32⟩
  | .hbm, ⟨28, _⟩ => ⟨S1024x2048, .f32⟩
  | .hbm, ⟨29, _⟩ => ⟨S1024x2048, .f32⟩
  | .hbm, ⟨30, _⟩ => ⟨S1024x2048, .f32⟩
  | .hbm, ⟨31, _⟩ => ⟨S1024x2048, .f32⟩
  | .hbm, ⟨32, _⟩ => ⟨S1024x2048, .f32⟩
  | .hbm, ⟨33, _⟩ => ⟨S_, .f32⟩
  | .hbm, ⟨34, _⟩ => ⟨S1024, .f32⟩
  | .hbm, ⟨35, _⟩ => ⟨S1024x1, .f32⟩
  | .hbm, ⟨36, _⟩ => ⟨S_, .f32⟩
  | .hbm, ⟨37, _⟩ => ⟨S1024x1, .f32⟩
  | .hbm, ⟨38, _⟩ => ⟨S1024x1, .f32⟩
  | .hbm, ⟨39, _⟩ => ⟨S_, .f32⟩
  | .hbm, ⟨40, _⟩ => ⟨S1024x1, .f32⟩
  | .hbm, ⟨41, _⟩ => ⟨S1024x1, .f32⟩
  | .hbm, ⟨42, _⟩ => ⟨S1024x1, .f32⟩
  | .hbm, ⟨43, _⟩ => ⟨S1024x2048, .f32⟩
  | .hbm, ⟨44, _⟩ => ⟨S1024x2048, .f32⟩
  | .hbm, ⟨45, _⟩ => ⟨S1x2048, .f32⟩
  | .hbm, ⟨46, _⟩ => ⟨S1024x2048, .f32⟩
  | .hbm, ⟨47, _⟩ => ⟨S1024x2048, .f32⟩
  | .hbm, ⟨48, _⟩ => ⟨S1024x2048, .bf16⟩
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_cst_2 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_3 : Ref sig .tc := ⟨.hbm, 33, rfl⟩
abbrev main_v20 : Ref sig .tc := ⟨.hbm, 34, rfl⟩
abbrev main_v21 : Ref sig .tc := ⟨.hbm, 35, rfl⟩
abbrev main_cst_4 : Ref sig .tc := ⟨.hbm, 36, rfl⟩
abbrev main_v22 : Ref sig .tc := ⟨.hbm, 37, rfl⟩
abbrev main_v23 : Ref sig .tc := ⟨.hbm, 38, rfl⟩
abbrev main_cst_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩

abbrev nD : Nat := 1
abbrev τ : Topo := Topo.v7x

variable {F : FTy → Type} [FloatOps F]
-- ==== KernelInSample.lean ====
abbrev S1024x2048 : Shape := ⟨2, ![1024, 2048]⟩
abbrev S2048 : Shape := ⟨1, ![2048]⟩
abbrev S2048x6736 : Shape := ⟨2, ![2048, 6736]⟩
abbrev S2048x1024 : Shape := ⟨2, ![2048, 1024]⟩
abbrev S2048x256 : Shape := ⟨2, ![2048, 256]⟩
abbrev S2048x48 : Shape := ⟨2, ![2048, 48]⟩
abbrev S2048x512 : Shape := ⟨2, ![2048, 512]⟩
abbrev S2048x32 : Shape := ⟨2, ![2048, 32]⟩
abbrev S2048x2048 : Shape := ⟨2, ![2048, 2048]⟩
abbrev S_ : Shape := ⟨0, ![]⟩
abbrev S2048x432 : Shape := ⟨2, ![2048, 432]⟩
abbrev S1x2048 : Shape := ⟨2, ![1, 2048]⟩
abbrev S2048x7168 : Shape := ⟨2, ![2048, 7168]⟩
abbrev S1024x7168 : Shape := ⟨2, ![1024, 7168]⟩
abbrev S512x2048 : Shape := ⟨2, ![512, 2048]⟩
abbrev S512x1024 : Shape := ⟨2, ![512, 1024]⟩
abbrev S512 : Shape := ⟨1, ![512]⟩
abbrev S512x1 : Shape := ⟨2, ![512, 1]⟩

abbrev nBuf : Space → Nat
  | .hbm => 19
  | .vmem => 8
  | .smem => 0
  | _ => 0

abbrev bufTy : (tb : Table) → Fin (tcTables nBuf tb) → BufTy
  | .hbm, ⟨0, _⟩ => ⟨S1024x2048, .f32⟩
  | .hbm, ⟨1, _⟩ => ⟨S2048, .f32⟩
  | .hbm, ⟨2, _⟩ => ⟨S2048x6736, .f32⟩
  | .hbm, ⟨3, _⟩ => ⟨S2048x1024, .f32⟩
  | .hbm, ⟨4, _⟩ => ⟨S2048x256, .f32⟩
  | .hbm, ⟨5, _⟩ => ⟨S2048x256, .f32⟩
  | .hbm, ⟨6, _⟩ => ⟨S2048x256, .f32⟩
  | .hbm, ⟨7, _⟩ => ⟨S2048x48, .f32⟩
  | .hbm, ⟨8, _⟩ => ⟨S2048x512, .f32⟩
  | .hbm, ⟨9, _⟩ => ⟨S2048x256, .f32⟩
  | .hbm, ⟨10, _⟩ => ⟨S2048x32, .f32⟩
  | .hbm, ⟨11, _⟩ => ⟨S2048x2048, .f32⟩
  | .hbm, ⟨12, _⟩ => ⟨S2048x2048, .f32⟩
  | .hbm, ⟨13, _⟩ => ⟨S_, .f32⟩
  | .hbm, ⟨14, _⟩ => ⟨S2048x432, .f32⟩
  | .hbm, ⟨15, _⟩ => ⟨S1x2048, .f32⟩
  | .hbm, ⟨16, _⟩ => ⟨S2048x7168, .f32⟩
  | .hbm, ⟨17, _⟩ => ⟨S2048x7168, .bf16⟩
  | .hbm, ⟨18, _⟩ => ⟨S1024x7168, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S512x1024, .f32⟩
  | .local _ .vmem, ⟨6, _⟩ => ⟨S512x1024, .f32⟩
  | .local _ .vmem, ⟨7, _⟩ => ⟨S512x2048, .bf16⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 7], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceInSampleIdeal.lean ====
abbrev S1024x2048 : Shape := ⟨2, ![1024, 2048]⟩
abbrev S2048 : Shape := ⟨1, ![2048]⟩
abbrev S2048x6736 : Shape := ⟨2, ![2048, 6736]⟩
abbrev S_ : Shape := ⟨0, ![]⟩
abbrev S1024 : Shape := ⟨1, ![1024]⟩
abbrev S1024x1 : Shape := ⟨2, ![1024, 1]⟩
abbrev S1x2048 : Shape := ⟨2, ![1, 2048]⟩
abbrev S1024x6736 : Shape := ⟨2, ![1024, 6736]⟩
abbrev S1024x1024 : Shape := ⟨2, ![1024, 1024]⟩
abbrev S1024x256 : Shape := ⟨2, ![1024, 256]⟩
abbrev S1024x48 : Shape := ⟨2, ![1024, 48]⟩
abbrev S1024x512 : Shape := ⟨2, ![1024, 512]⟩
abbrev S1024x32 : Shape := ⟨2, ![1024, 32]⟩
abbrev S1024x432 : Shape := ⟨2, ![1024, 432]⟩
abbrev S1024x7168 : Shape := ⟨2, ![1024, 7168]⟩

abbrev nBuf : Space → Nat
  | .hbm => 33
  | .vmem => 0
  | .smem => 0
  | _ => 0

abbrev bufTy : (tb : Table) → Fin (tcTables nBuf tb) → BufTy
  | .hbm, ⟨0, _⟩ => ⟨S1024x2048, .f32⟩
  | .hbm, ⟨1, _⟩ => ⟨S2048, .f32⟩
  | .hbm, ⟨2, _⟩ => ⟨S2048x6736, .f32⟩
  | .hbm, ⟨3, _⟩ => ⟨S1024x2048, .f32⟩
  | .hbm, ⟨4, _⟩ => ⟨S_, .f32⟩
  | .hbm, ⟨5, _⟩ => ⟨S1024, .f32⟩
  | .hbm, ⟨6, _⟩ => ⟨S1024x1, .f32⟩
  | .hbm, ⟨7, _⟩ => ⟨S_, .f32⟩
  | .hbm, ⟨8, _⟩ => ⟨S1024x1, .f32⟩
  | .hbm, ⟨9, _⟩ => ⟨S1024x1, .f32⟩
  | .hbm, ⟨10, _⟩ => ⟨S_, .f32⟩
  | .hbm, ⟨11, _⟩ => ⟨S1024x1, .f32⟩
  | .hbm, ⟨12, _⟩ => ⟨S1024x1, .f32⟩
  | .hbm, ⟨13, _⟩ => ⟨S1024x1, .f32⟩
  | .hbm, ⟨14, _⟩ => ⟨S1024x2048, .f32⟩
  | .hbm, ⟨15, _⟩ => ⟨S1024x2048, .f32⟩
  | .hbm, ⟨16, _⟩ => ⟨S1x2048, .f32⟩
  | .hbm, ⟨17, _⟩ => ⟨S1024x2048, .f32⟩
  | .hbm, ⟨18, _⟩ => ⟨S1024x2048, .f32⟩
  | .hbm, ⟨19, _⟩ => ⟨S1024x6736, .f32⟩
  | .hbm, ⟨20, _⟩ => ⟨S1024x1024, .f32⟩
  | .hbm, ⟨21, _⟩ => ⟨S1024x256, .f32⟩
  | .hbm, ⟨22, _⟩ => ⟨S1024x256, .f32⟩
  | .hbm, ⟨23, _⟩ => ⟨S1024x256, .f32⟩
  | .hbm, ⟨24, _⟩ => ⟨S1024x48, .f32⟩
  | .hbm, ⟨25, _⟩ => ⟨S1024x512, .f32⟩
  | .hbm, ⟨26, _⟩ => ⟨S1024x256, .f32⟩
  | .hbm, ⟨27, _⟩ => ⟨S1024x32, .f32⟩
  | .hbm, ⟨28, _⟩ => ⟨S1024x2048, .f32⟩
  | .hbm, ⟨29, _⟩ => ⟨S1024x2048, .f32⟩
  | .hbm, ⟨30, _⟩ => ⟨S_, .f32⟩
  | .hbm, ⟨31, _⟩ => ⟨S1024x432, .f32⟩
  | .hbm, ⟨32, _⟩ => ⟨S1024x7168, .f32⟩
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_2 : Ref sig .tc := ⟨.hbm, 30, rfl⟩
abbrev main_v24 : Ref sig .tc := ⟨.hbm, 31, rfl⟩
abbrev main_v25 : Ref sig .tc := ⟨.hbm, 32, rfl⟩

abbrev nD : Nat := 1
abbrev τ : Topo := Topo.v7x

variable {F : FTy → Type} [FloatOps F]
-- ==== KernelWin.lean ====
abbrev S128x512x256 : Shape := ⟨3, ![128, 512, 256]⟩
abbrev S1024x256 : Shape := ⟨2, ![1024, 256]⟩
abbrev S1024x1024 : Shape := ⟨2, ![1024, 1024]⟩
abbrev S1024x128 : Shape := ⟨2, ![1024, 128]⟩
abbrev S128x128x128 : Shape := ⟨3, ![128, 128, 128]⟩
abbrev S128x128x64 : Shape := ⟨3, ![128, 128, 64]⟩
abbrev S128x640 : Shape := ⟨2, ![128, 640]⟩
abbrev S128x8x256 : Shape := ⟨3, ![128, 8, 256]⟩
abbrev S1x512x256 : Shape := ⟨3, ![1, 512, 256]⟩
abbrev S1x8x256 : Shape := ⟨3, ![1, 8, 256]⟩
abbrev S8x1024 : Shape := ⟨2, ![8, 1024]⟩
abbrev S8x128 : Shape := ⟨2, ![8, 128]⟩
abbrev S1x128x128 : Shape := ⟨3, ![1, 128, 128]⟩
abbrev S1x128x64 : Shape := ⟨3, ![1, 128, 64]⟩
abbrev S512x256 : Shape := ⟨2, ![512, 256]⟩
abbrev S8x256 : Shape := ⟨2, ![8, 256]⟩
abbrev S504x256 : Shape := ⟨2, ![504, 256]⟩
abbrev S1x504x256 : Shape := ⟨3, ![1, 504, 256]⟩
abbrev S120x256 : Shape := ⟨2, ![120, 256]⟩
abbrev S640x256 : Shape := ⟨2, ![640, 256]⟩
abbrev S8x64 : Shape := ⟨2, ![8, 64]⟩
abbrev S64x64 : Shape := ⟨2, ![64, 64]⟩
abbrev S64x192 : Shape := ⟨2, ![64, 192]⟩
abbrev S64x256 : Shape := ⟨2, ![64, 256]⟩
abbrev S64x128 : Shape := ⟨2, ![64, 128]⟩
abbrev S128x256 : Shape := ⟨2, ![128, 256]⟩
abbrev S128 : Shape := ⟨1, ![128]⟩
abbrev S128x1 : Shape := ⟨2, ![128, 1]⟩
abbrev S128x128 : Shape := ⟨2, ![128, 128]⟩
abbrev S128x64 : Shape := ⟨2, ![128, 64]⟩
abbrev S8x1 : Shape := ⟨2, ![8, 1]⟩

abbrev nBuf : Space → Nat
  | .hbm => 11
  | .vmem => 17
  | .smem => 0
  | _ => 0

abbrev bufTy : (tb : Table) → Fin (tcTables nBuf tb) → BufTy
  | .hbm, ⟨0, _⟩ => ⟨S128x512x256, .f32⟩
  | .hbm, ⟨1, _⟩ => ⟨S1024x256, .f32⟩
  | .hbm, ⟨2, _⟩ => ⟨S1024x1024, .f32⟩
  | .hbm, ⟨3, _⟩ => ⟨S1024x128, .f32⟩
  | .hbm, ⟨4, _⟩ => ⟨S128x128x128, .f32⟩
  | .hbm, ⟨5, _⟩ => ⟨S128x128x64, .f32⟩
  | .hbm, ⟨6, _⟩ => ⟨S128x640, .f32⟩
  | .hbm, ⟨7, _⟩ => ⟨S128x8x256, .f32⟩
  | .hbm, ⟨8, _⟩ => ⟨S1024x1024, .bf16⟩
  | .hbm, ⟨9, _⟩ => ⟨S1024x1024, .bf16⟩
  | .hbm, ⟨10, _⟩ => ⟨S128x512x256, .f32⟩
  | .local _ .vmem, ⟨0, _⟩ => ⟨S1x512x256, .f32⟩
  | .local _ .vmem, ⟨1, _⟩ => ⟨S1x512x256, .f32⟩
  | .local _ .vmem, ⟨2, _⟩ => ⟨S1x8x256, .f32⟩
  | .local _ .vmem, ⟨3, _⟩ => ⟨S1x8x256, .f32⟩
  | .local _ .vmem, ⟨4, _⟩ => ⟨S8x1024, .bf16⟩
  | .local _ .vmem, ⟨5, _⟩ => ⟨S8x1024, .bf16⟩
  | .local _ .vmem, ⟨6, _⟩ => ⟨S8x128, .f32⟩
  | .local _ .vmem, ⟨7, _⟩ => ⟨S8x128, .f32⟩
  | .local _ .vmem, ⟨8, _⟩ => ⟨S1x128x128, .f32⟩
  | .local _ .vmem, ⟨9, _⟩ => ⟨S1x128x128, .f32⟩
  | .local _ .vmem, ⟨10, _⟩ => ⟨S1x128x64, .f32⟩
  | .local _ .vmem, ⟨11, _⟩ => ⟨S1x128x64, .f32⟩
  | .local _ .vmem, ⟨12, _⟩ => ⟨S128x640, .f32⟩
  | .local _ .vmem, ⟨13, _⟩ => ⟨S8x1024, .bf16⟩
  | .local _ .vmem, ⟨14, _⟩ => ⟨S8x1024, .bf16⟩
  | .local _ .vmem, ⟨15, _⟩ => ⟨S1x512x256, .f32⟩
  | .local _ .vmem, ⟨16, _⟩ => ⟨S1x512x256, .f32⟩
  | _, _ => ⟨S128x512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S128x640 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S8x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceWinIdeal.lean ====
abbrev S128x512x256 : Shape := ⟨3, ![128, 512, 256]⟩
abbrev S1024x256 : Shape := ⟨2, ![1024, 256]⟩
abbrev S1024x1024 : Shape := ⟨2, ![1024, 1024]⟩
abbrev S1024x128 : Shape := ⟨2, ![1024, 128]⟩
abbrev S128x128x128 : Shape := ⟨3, ![128, 128, 128]⟩
abbrev S128x128x64 : Shape := ⟨3, ![128, 128, 64]⟩
abbrev S128x640 : Shape := ⟨2, ![128, 640]⟩
abbrev S128x8x256 : Shape := ⟨3, ![128, 8, 256]⟩
abbrev S128x520x256 : Shape := ⟨3, ![128, 520, 256]⟩

abbrev nBuf : Space → Nat
  | .hbm => 10
  | .vmem => 0
  | .smem => 0
  | _ => 0

abbrev bufTy : (tb : Table) → Fin (tcTables nBuf tb) → BufTy
  | .hbm, ⟨0, _⟩ => ⟨S128x512x256, .f32⟩
  | .hbm, ⟨1, _⟩ => ⟨S1024x256, .f32⟩
  | .hbm, ⟨2, _⟩ => ⟨S1024x1024, .f32⟩
  | .hbm, ⟨3, _⟩ => ⟨S1024x128, .f32⟩
  | .hbm, ⟨4, _⟩ => ⟨S128x128x128, .f32⟩
  | .hbm, ⟨5, _⟩ => ⟨S128x128x64, .f32⟩
  | .hbm, ⟨6, _⟩ => ⟨S128x640, .f32⟩
  | .hbm, ⟨7, _⟩ => ⟨S128x8x256, .f32⟩
  | .hbm, ⟨8, _⟩ => ⟨S128x520x256, .f32⟩
  | .hbm, ⟨9, _⟩ => ⟨S128x512x256, .f32⟩
  | _, _ => ⟨S128x512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩

abbrev nD : Nat := 1
abbrev τ : Topo := Topo.v7x

variable {F : FTy → Type} [FloatOps F]
-- ==== Proof.Frames.lean ====
/- The frames of the three programs and the constants' statements. -/
module

public import proofs.«01_k».proof.Defs
public import proofs.«01_k».proof.Proof.Gen.Kernel.Frame
public import proofs.«01_k».proof.Proof.Gen.KernelIdeal.Frame
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem

/-- The kernel runs, keeps its arguments and ends with every counter at zero. -/
theorem frame_p : Cert.quiescent_Kernel := fun m ρ _ => Cert.Kernel.Gen.frame m ρ

/-- The same of the kernel over the extended reals. -/
theorem frame_pi : Cert.quiescent_KernelIdeal := fun m ρ _ => Cert.KernelIdeal.Gen.frame m ρ

/-- The same of the reference, which has no counters. -/
theorem frame_ri : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- The mask value and the clamp are the two constants read as −∞. -/
theorem preserves : Cert.preserves_Kernel_KernelIdeal :=
  ⟨IdealRules.named_const.statement _ _ _ _ _ rfl, IdealRules.named_const.statement _ _ _ _ _ rfl⟩

end Cert.Proof

end
-- ==== Proof.Trip.lean ====
/- One turn of the kernel's loop over the full key tiles: what it stores, as four slabs of one update. -/
module

public import proofs.«01_k».proof.Proof.Gen.KernelIdeal.Value
public import Idealize.ShloMosaic.Lib.Pointwise
public import Idealize.ShloMosaic.Lib.WritesUnit
public import Idealize.ShloMosaic.Lib.VecWindow

@[expose] public section

set_option maxRecDepth 16384

noncomputable section

namespace Cert.KernelIdeal.Attn

open Idealize.ShloMosaic Idealize.ShloMosaic.TcCoe Idealize.SL.Sem
open Cert.KernelIdeal Cert.KernelIdeal.Gen

theorem inb256 : ∀ (sp : Fin 4) (a : Fin 3), (![sp.val, 0, 0] : Fin 3 → ℕ) a + S1x512x256.size a ≤ S4x512x256.size a := by decide
theorem inb128 : ∀ (sp : Fin 4) (a : Fin 3), (![sp.val, 0, 0] : Fin 3 → ℕ) a + S1x512x128.size a ≤ S4x512x128.size a := by decide
theorem inb1 : ∀ (sp : Fin 4) (a : Fin 3), (![sp.val, 0, 0] : Fin 3 → ℕ) a + S1x512x1.size a ≤ S4x512x1.size a := by decide

/-- Four stores, one per slab of 512 rows of one entry, the last first. -/
abbrev slabs1 {F : FTy → Type} (p : Fin 4 → Vec F S1x512x1 .f32) : List (View.Piece (Elt F) S4x512x1 .f32) :=
  [⟨Rect.unit ![(3 : Fin 4).val, 0, 0] S1x512x1.size (inb1 3), p 3⟩, ⟨Rect.unit ![(2 : Fin 4).val, 0, 0] S1x512x1.size (inb1 2), p 2⟩,
    ⟨Rect.unit ![(1 : Fin 4).val, 0, 0] S1x512x1.size (inb1 1), p 1⟩, ⟨Rect.unit ![(0 : Fin 4).val, 0, 0] S1x512x1.size (inb1 0), p 0⟩]

/-- Four stores, one per slab of 512 rows of 256 entries, the last first. -/
abbrev slabs256 {F : FTy → Type} {e : EltTy} (p : Fin 4 → Vec F S1x512x256 e) : List (View.Piece (Elt F) S4x512x256 e) :=
  [⟨Rect.unit ![(3 : Fin 4).val, 0, 0] S1x512x256.size (inb256 3), p 3⟩, ⟨Rect.unit ![(2 : Fin 4).val, 0, 0] S1x512x256.size (inb256 2), p 2⟩,
    ⟨Rect.unit ![(1 : Fin 4).val, 0, 0] S1x512x256.size (inb256 1), p 1⟩, ⟨Rect.unit ![(0 : Fin 4).val, 0, 0] S1x512x256.size (inb256 0), p 0⟩]

/-- Four stores, one per slab of 512 rows of 128 entries, the last first. -/
abbrev slabs128 {F : FTy → Type} {e : EltTy} (p : Fin 4 → Vec F S1x512x128 e) : List (View.Piece (Elt F) S4x512x128 e) :=
  [⟨Rect.unit ![(3 : Fin 4).val, 0, 0] S1x512x128.size (inb128 3), p 3⟩, ⟨Rect.unit ![(2 : Fin 4).val, 0, 0] S1x512x128.size (inb128 2), p 2⟩,
    ⟨Rect.unit ![(1 : Fin 4).val, 0, 0] S1x512x128.size (inb128 1), p 1⟩, ⟨Rect.unit ![(0 : Fin 4).val, 0, 0] S1x512x128.size (inb128 0), p 0⟩]

section Slabs

variable {F : FTy → Type} {e : EltTy}

theorem slab_hit {n : ℕ} {Val : EltTy → Type} {e : EltTy} (v : View sig .tc .vmem ⟨3, ![4, 512, n]⟩ e) (f : v.ty.Contents Val) (s : Fin 4)
    (h : ∀ a, (![s.val, 0, 0] : Fin 3 → ℕ) a + (![1, 512, n] : Fin 3 → ℕ) a ≤ (⟨3, ![4, 512, n]⟩ : Shape).size a)
    (w : (⟨3, ![1, 512, n]⟩ : Shape).Idx → Val e) (L : List (View.Piece Val (⟨3, ![4, 512, n]⟩ : Shape) e)) (r : Fin 512) (j : Fin n) :
    v.read Val (v.writes Val f (⟨Rect.unit ![s.val, 0, 0] ![1, 512, n] h, w⟩ :: L)) (ix3 s r j) = w (ix3 0 r j) :=
  View.read_writes_cons_unit_of_mem v f h w L (ix3 s r j) (ix3 0 r j) rfl (by
    intro a; match a with | ⟨0, _⟩ => rfl | ⟨1, _⟩ => exact (Nat.zero_add _).symm | ⟨2, _⟩ => exact (Nat.zero_add _).symm)

theorem slab_miss {n : ℕ} {Val : EltTy → Type} {e : EltTy} (v : View sig .tc .vmem ⟨3, ![4, 512, n]⟩ e) (f : v.ty.Contents Val) (s s' : Fin 4) (hne : s' ≠ s)
    (h : ∀ a, (![s.val, 0, 0] : Fin 3 → ℕ) a + (![1, 512, n] : Fin 3 → ℕ) a ≤ (⟨3, ![4, 512, n]⟩ : Shape).size a)
    (w : (⟨3, ![1, 512, n]⟩ : Shape).Idx → Val e) (L : List (View.Piece Val (⟨3, ![4, 512, n]⟩ : Shape) e)) (r : Fin 512) (j : Fin n) :
    v.read Val (v.writes Val f (⟨Rect.unit ![s.val, 0, 0] ![1, 512, n] h, w⟩ :: L)) (ix3 s' r j) = v.read Val (v.writes Val f L) (ix3 s' r j) :=
  View.read_writes_cons_unit_of_not_mem v f h w L (ix3 s' r j) rfl 0 (by
    have := Fin.val_ne_of_ne hne
    show s'.val < s.val ∨ s.val + 1 ≤ s'.val
    omega)

theorem slab_load {n : ℕ} {Val : EltTy → Type} {e : EltTy} (v : View sig .tc .vmem ⟨3, ![4, 512, n]⟩ e) (f : v.ty.Contents Val) (s : Fin 4)
    (h : ∀ a, (![s.val, 0, 0] : Fin 3 → ℕ) a + (![1, 512, n] : Fin 3 → ℕ) a ≤ (⟨3, ![4, 512, n]⟩ : Shape).size a) (r : Fin 512) (j : Fin n) :
    View.readAt Val v (Rect.unit (s := ⟨3, ![4, 512, n]⟩) ![s.val, 0, 0] ![1, 512, n] h).toLoadRect f (ix3 0 r j) = v.read Val f (ix3 s r j) := by
  rw [View.readAt_unit v f h rfl h]
  exact congrArg (v.read Val f) (by idx_ext)

theorem slabs1_read (v : View sig .tc .vmem S4x512x1 .f32) (f : v.ty.Contents (Elt F)) (p : Fin 4 → FVec F S1x512x1 .f32)
    (L : List (View.Piece (Elt F) S4x512x1 .f32)) (s : Fin 4) (r : Fin 512) (j : Fin 1) :
    v.read (Elt F) (v.writes (Elt F) f (slabs1 p ++ L)) (ix3 s r j) = p s (ix3 0 r j) := by
  match s with
  | 3 => exact slab_hit v f 3 (inb1 3) (p 3) _ r j
  | 2 => exact (slab_miss v f 3 2 (by decide) (inb1 3) (p 3) _ r j).trans (slab_hit v f 2 (inb1 2) (p 2) _ r j)
  | 1 => exact (slab_miss v f 3 1 (by decide) (inb1 3) (p 3) _ r j).trans ((slab_miss v f 2 1 (by decide) (inb1 2) (p 2) _ r j).trans
      (slab_hit v f 1 (inb1 1) (p 1) _ r j))
  | 0 => exact (slab_miss v f 3 0 (by decide) (inb1 3) (p 3) _ r j).trans ((slab_miss v f 2 0 (by decide) (inb1 2) (p 2) _ r j).trans
      ((slab_miss v f 1 0 (by decide) (inb1 1) (p 1) _ r j).trans (slab_hit v f 0 (inb1 0) (p 0) _ r j)))

theorem slabs256_read (v : View sig .tc .vmem S4x512x256 e) (f : v.ty.Contents (Elt F)) (p : Fin 4 → Vec F S1x512x256 e)
    (L : List (View.Piece (Elt F) S4x512x256 e)) (s : Fin 4) (r : Fin 512) (j : Fin 256) :
    v.read (Elt F) (v.writes (Elt F) f (slabs256 p ++ L)) (ix3 s r j) = p s (ix3 0 r j) := by
  match s with
  | 3 => exact slab_hit v f 3 (inb256 3) (p 3) _ r j
  | 2 => exact (slab_miss v f 3 2 (by decide) (inb256 3) (p 3) _ r j).trans (slab_hit v f 2 (inb256 2) (p 2) _ r j)
  | 1 => exact (slab_miss v f 3 1 (by decide) (inb256 3) (p 3) _ r j).trans ((slab_miss v f 2 1 (by decide) (inb256 2) (p 2) _ r j).trans
      (slab_hit v f 1 (inb256 1) (p 1) _ r j))
  | 0 => exact (slab_miss v f 3 0 (by decide) (inb256 3) (p 3) _ r j).trans ((slab_miss v f 2 0 (by decide) (inb256 2) (p 2) _ r j).trans
      ((slab_miss v f 1 0 (by decide) (inb256 1) (p 1) _ r j).trans (slab_hit v f 0 (inb256 0) (p 0) _ r j)))

theorem slabs128_read (v : View sig .tc .vmem S4x512x128 e) (f : v.ty.Contents (Elt F)) (p : Fin 4 → Vec F S1x512x128 e)
    (L : List (View.Piece (Elt F) S4x512x128 e)) (s : Fin 4) (r : Fin 512) (j : Fin 128) :
    v.read (Elt F) (v.writes (Elt F) f (slabs128 p ++ L)) (ix3 s r j) = p s (ix3 0 r j) := by
  match s with
  | 3 => exact slab_hit v f 3 (inb128 3) (p 3) _ r j
  | 2 => exact (slab_miss v f 3 2 (by decide) (inb128 3) (p 3) _ r j).trans (slab_hit v f 2 (inb128 2) (p 2) _ r j)
  | 1 => exact (slab_miss v f 3 1 (by decide) (inb128 3) (p 3) _ r j).trans ((slab_miss v f 2 1 (by decide) (inb128 2) (p 2) _ r j).trans
      (slab_hit v f 1 (inb128 1) (p 1) _ r j))
  | 0 => exact (slab_miss v f 3 0 (by decide) (inb128 3) (p 3) _ r j).trans ((slab_miss v f 2 0 (by decide) (inb128 2) (p 2) _ r j).trans
      ((slab_miss v f 1 0 (by decide) (inb128 1) (p 1) _ r j).trans (slab_hit v f 0 (inb128 0) (p 0) _ r j)))

end Slabs

variable {F : FTy → Type} [FloatOps F] [Named F]

/-- The slab of 512 rows that a split of the heads works on. -/
abbrev ld256 {e : EltTy} (v : View sig .tc .vmem S4x512x256 e) (X : v.ty.Contents (Elt F)) (s : Fin 4) : Vec F S1x512x256 e :=
  View.readAt (Elt F) v (Rect.unit (s := S4x512x256) ![s.val, 0, 0] S1x512x256.size (inb256 s)).toLoadRect X
abbrev ld128 {e : EltTy} (v : View sig .tc .vmem S4x512x128 e) (X : v.ty.Contents (Elt F)) (s : Fin 4) : Vec F S1x512x128 e :=
  View.readAt (Elt F) v (Rect.unit (s := S4x512x128) ![s.val, 0, 0] S1x512x128.size (inb128 s)).toLoadRect X
abbrev ld1 (v : View sig .tc .vmem S4x512x1 .f32) (X : v.ty.Contents (Elt F)) (s : Fin 4) : Vec F S1x512x1 .f32 :=
  View.readAt (Elt F) v (Rect.unit (s := S4x512x1) ![s.val, 0, 0] S1x512x1.size (inb1 s)).toLoadRect X

/-- The logits of 512 rows against a tile of 1024 keys. -/
def sc (ck : Vec F S1x1024x256 .bf16) (kr : Vec F S1x1024x128 .bf16) (qa : Vec F S1x512x256 .bf16) (qr : Vec F S1x512x128 .bf16) : FVec F S512x1024 .f32 :=
  k0_pay26 (k0_pay7 ck) (k0_pay8 kr) qa qr

section Trip

variable (𝒱 : Variants) (c : Dev nD) (bd : Option 𝒱.V) (i : grid0.Coords) (arg2 : Memref sig .tc .vmem S1x128x4096 .bf16) (harg2 : arg2.IsWhole) (arg3 : Memref sig .tc .vmem S1x128x2048 .bf16) (harg3 : arg3.IsWhole) (arg4 : Memref sig .tc .vmem S1x4096x256 .bf16) (harg4 : arg4.IsWhole) (arg5 : Memref sig .tc .vmem S1x4096x128 .bf16) (harg5 : arg5.IsWhole) (arg6 : Memref sig .tc .vmem S16x256x64 .bf16) (harg6 : arg6.IsWhole) (arg7 : Memref sig .tc .vmem S1x128x1024 .bf16) (harg7 : arg7.IsWhole) (arg8 : Memref sig .tc .vmem S4x512x256 .bf16) (harg8 : arg8.IsWhole) (arg9 : Memref sig .tc .vmem S4x512x128 .bf16) (harg9 : arg9.IsWhole) (arg10 : Memref sig .tc .vmem S4x512x1 .f32) (harg10 : arg10.IsWhole) (arg11 : Memref sig .tc .vmem S4x512x1 .f32) (harg11 : arg11.IsWhole) (arg12 : Memref sig .tc .vmem S4x512x256 .f32) (harg12 : arg12.IsWhole) (arg1 : BitVec 32) (v100 : FVec F S4x512x1 .f32) (X_arg4 : BufTy.Contents (Elt F) arg4.view.ty) (X_arg5 : BufTy.Contents (Elt F) arg5.view.ty) (X_arg8 : BufTy.Contents (Elt F) arg8.view.ty) (X_arg9 : BufTy.Contents (Elt F) arg9.view.ty) (k : Fin (k0_t1_loop i).trips) (f_arg10 : BufTy.Contents (Elt F) arg10.view.ty) (f_arg11 : BufTy.Contents (Elt F) arg11.view.ty) (f_arg12 : BufTy.Contents (Elt F) arg12.view.ty)

/-- The latent rows and the rotated keys of tile `k`. -/
abbrev tk4 : Vec F S1x1024x256 .bf16 := View.readAt (Elt F) arg4.view (Rect.unit (s := S1x4096x256) (k0_off1 i k) S1x1024x256.size (k0_off1_inb i k)).toLoadRect X_arg4
abbrev tk5 : Vec F S1x1024x128 .bf16 := View.readAt (Elt F) arg5.view (Rect.unit (s := S1x4096x128) (k0_off2 i k) S1x1024x128.size (k0_off2_inb i k)).toLoadRect X_arg5

/-- The logits of split `s` against tile `k`. -/
abbrev tsc (s : Fin 4) : FVec F S512x1024 .f32 :=
  sc (tk4 i arg4 X_arg4 k) (tk5 i arg5 X_arg5 k) (ld256 arg8.view X_arg8 s) (ld128 arg9.view X_arg9 s)

theorem trip_m : (tripL_k0_t1 (F := F) 𝒱 c bd i arg2 harg2 arg3 harg3 arg4 harg4 arg5 harg5 arg6 harg6 arg7 harg7 arg8 harg8 arg9 harg9 arg10 harg10 arg11 harg11 arg12 harg12 arg1 v100 X_arg4 X_arg5 X_arg8 X_arg9 k f_arg10 f_arg11 f_arg12).1
    = slabs1 fun s => k0_pay33 (tsc i arg4 arg5 arg8 arg9 X_arg4 X_arg5 X_arg8 X_arg9 k s) (ld1 arg10.view f_arg10 s) := by
  unfold tripL_k0_t1 trip_k0_t1
  dsimp only
  sl_unfold_words
  rfl

theorem trip_l : (tripL_k0_t1 (F := F) 𝒱 c bd i arg2 harg2 arg3 harg3 arg4 harg4 arg5 harg5 arg6 harg6 arg7 harg7 arg8 harg8 arg9 harg9 arg10 harg10 arg11 harg11 arg12 harg12 arg1 v100 X_arg4 X_arg5 X_arg8 X_arg9 k f_arg10 f_arg11 f_arg12).2.1
    = slabs1 fun s => k0_pay31 (tsc i arg4 arg5 arg8 arg9 X_arg4 X_arg5 X_arg8 X_arg9 k s) (ld1 arg10.view f_arg10 s) (ld1 arg11.view f_arg11 s) := by
  unfold tripL_k0_t1 trip_k0_t1
  dsimp only
  sl_unfold_words
  rfl

theorem trip_a : (tripL_k0_t1 (F := F) 𝒱 c bd i arg2 harg2 arg3 harg3 arg4 harg4 arg5 harg5 arg6 harg6 arg7 harg7 arg8 harg8 arg9 harg9 arg10 harg10 arg11 harg11 arg12 harg12 arg1 v100 X_arg4 X_arg5 X_arg8 X_arg9 k f_arg10 f_arg11 f_arg12).2.2
    = slabs256 fun s => k0_pay32 (k0_pay7 (tk4 i arg4 X_arg4 k)) (tsc i arg4 arg5 arg8 arg9 X_arg4 X_arg5 X_arg8 X_arg9 k s) (ld1 arg10.view f_arg10 s) (ld256 arg12.view f_arg12 s) := by
  unfold tripL_k0_t1 trip_k0_t1
  dsimp only
  sl_unfold_words
  rfl

end Trip

end Cert.KernelIdeal.Attn

end
-- ==== Proof.Online.lean ====
/- The running softmax of one row over the extended reals: the state a tile leaves, and the quotient at the end. -/
module

public import Idealize.ShloMosaic.PureOps.Ideal
public import Idealize.ShloMosaic.Lib.Pointwise

@[expose] public section

noncomputable section

namespace Cert.Online

open Idealize.ShloMosaic Finset

/-- A sum of reals, read as an extended real. -/
theorem coe_sum {ι : Type*} (S : Finset ι) (f : ι → ℝ) : ((∑ k ∈ S, f k : ℝ) : EReal) = ∑ k ∈ S, (f k : EReal) := by
  classical
  induction S using Finset.induction_on with
  | empty => simp
  | insert a s h ih => rw [sum_insert h, sum_insert h, EReal.coe_add, ih]

/-- The largest of finitely many entries that are real or −∞, one of them real, is real. -/
theorem sup_real {T : ℕ} (s : Fin T → EReal) (j0 : Fin T) (h0 : s j0 ≠ ⊥) (ht : ∀ j, s j ≠ ⊤) :
    ∃ M : ℝ, univ.fold max (⊥ : EReal) s = (M : EReal) := by
  have hs : univ.fold max (⊥ : EReal) s = univ.sup s := rfl
  obtain ⟨i, -, hi⟩ := exists_mem_eq_sup univ ⟨j0, mem_univ j0⟩ s
  have hle : s j0 ≤ univ.sup s := le_sup (mem_univ j0)
  rw [hs]
  refine ⟨(univ.sup s).toReal, (EReal.coe_toReal ?_ ?_).symm⟩
  · rw [hi]; exact ht i
  · intro h; rw [h] at hle; exact h0 (le_bot_iff.mp hle)

/-- The sum over the visible keys below `n`. -/
def vsum (vis : ℕ → Prop) [DecidablePred vis] (n : ℕ) (f : ℕ → ℝ) : ℝ := ∑ k ∈ (range n).filter vis, f k

variable {vis : ℕ → Prop} [DecidablePred vis]

theorem vsum_eq (n : ℕ) (f : ℕ → ℝ) : vsum vis n f = ∑ k ∈ range n, if vis k then f k else 0 := sum_filter _ _

theorem vsum_add (n T : ℕ) (f : ℕ → ℝ) :
    vsum vis (n + T) f = vsum vis n f + ∑ j : Fin T, if vis (n + j) then f (n + j) else 0 := by
  rw [vsum_eq, vsum_eq, sum_range_add, Fin.sum_univ_eq_sum_range (fun j => if vis (n + j) then f (n + j) else 0)]

theorem vsum_mul (n : ℕ) (a : ℝ) (f : ℕ → ℝ) : vsum vis n (fun k => a * f k) = a * vsum vis n f := by
  unfold vsum; rw [mul_sum]

/-- What a row's running maximum, sum and weighted sums are after the keys below `n`. -/
def Row (vis : ℕ → Prop) [DecidablePred vis] (X : ℕ → ℝ) {C : Type} (V : ℕ → C → ℝ) (n : ℕ) (m l : EReal) (a : C → EReal) : Prop :=
  (n = 0 ∧ m = ⊥ ∧ l = 0 ∧ ∀ c, a c = 0) ∨
  ∃ M : ℝ, m = (M : EReal) ∧ l = ((vsum vis n fun k => Real.exp (X k - M) : ℝ) : EReal)
    ∧ ∀ c, a c = ((vsum vis n fun k => Real.exp (X k - M) * V k c : ℝ) : EReal)

/-- One tile of `T` keys, the first of them visible. -/
theorem Row.step {X : ℕ → ℝ} {C : Type} {V : ℕ → C → ℝ} {n : ℕ} {m l : EReal} {a : C → EReal}
    (h : Row vis X V n m l a) {T : ℕ} (hT : 0 < T) (h0 : vis n) (s : Fin T → EReal)
    (hs : ∀ j : Fin T, s j = if vis (n + j) then (X (n + j) : EReal) else ⊥)
    (v : Fin T → C → EReal) (hv : ∀ j c, v j c = (V (n + j) c : EReal))
    {m' l' : EReal} {a' : C → EReal} (hm : m' = max m (univ.fold max (⊥ : EReal) s))
    (hl : l' = Ideal.exp (m - m') * l + ∑ j, Ideal.exp (s j - max m' ⊥))
    (ha : ∀ c, a' c = Ideal.exp (m - m') * a c + ∑ j, Ideal.exp (s j - max m' ⊥) * v j c) :
    Row vis X V (n + T) m' l' a' := by
  have hsT : ∀ j, s j ≠ ⊤ := fun j => by
    rw [hs]; split
    · exact EReal.coe_ne_top _
    · exact bot_ne_top
  obtain ⟨S, hS⟩ := sup_real s ⟨0, hT⟩ (by rw [hs]; simp [h0]) hsT
  rw [hS] at hm
  have hM : ∃ M : ℝ, m' = (M : EReal) := by
    rcases h with ⟨-, hm0, -, -⟩ | ⟨M, hm0, -, -⟩
    · exact ⟨S, by rw [hm, hm0, max_eq_right bot_le]⟩
    · exact ⟨max M S, by rw [hm, hm0]; exact (EReal.coe_strictMono.monotone.map_max).symm⟩
  obtain ⟨M, hM⟩ := hM
  have hp : ∀ j : Fin T, Ideal.exp (s j - max m' ⊥) = ((if vis (n + j) then Real.exp (X (n + j) - M) else 0 : ℝ) : EReal) := by
    intro j
    rw [hM, max_eq_left bot_le, hs]
    split
    · rw [← EReal.coe_sub, Ideal.exp_coe]
    · rw [EReal.bot_sub, Ideal.exp_bot, EReal.coe_zero]
  have hps : ∑ j, Ideal.exp (s j - max m' ⊥) = ((∑ j : Fin T, if vis (n + j) then Real.exp (X (n + j) - M) else 0 : ℝ) : EReal) := by
    rw [coe_sum]; exact sum_congr rfl fun j _ => hp j
  have hpv : ∀ c, ∑ j, Ideal.exp (s j - max m' ⊥) * v j c
      = ((∑ j : Fin T, if vis (n + j) then Real.exp (X (n + j) - M) * V (n + j) c else 0 : ℝ) : EReal) := by
    intro c
    rw [coe_sum]; refine sum_congr rfl fun j _ => ?_
    rw [hp, hv, ← EReal.coe_mul, ite_mul, zero_mul]
  refine Or.inr ⟨M, hM, ?_, fun c => ?_⟩
  · rw [hl, hps, vsum_add]
    rcases h with ⟨hn, hm0, hl0, -⟩ | ⟨Mo, hm0, hl0, -⟩
    · subst hn; rw [hl0, mul_zero, zero_add]; simp [vsum]
    · rw [hm0, hM, hl0, ← EReal.coe_sub, Ideal.exp_coe, ← EReal.coe_mul, ← EReal.coe_add, ← vsum_mul]
      simp only [← Real.exp_add, sub_add_sub_cancel']
  · rw [ha, hpv, vsum_add]
    rcases h with ⟨hn, hm0, -, ha0⟩ | ⟨Mo, hm0, -, ha0⟩
    · subst hn; rw [ha0, mul_zero, zero_add]; simp [vsum]
    · rw [hm0, hM, ha0, ← EReal.coe_sub, Ideal.exp_coe, ← EReal.coe_mul, ← EReal.coe_add, ← vsum_mul]
      simp only [← mul_assoc, ← Real.exp_add, sub_add_sub_cancel']

/-- The attention of one row: the values weighted by the normalised exponentials of the visible logits. -/
def att (vis : ℕ → Prop) [DecidablePred vis] (X : ℕ → ℝ) (n : ℕ) (V : ℕ → ℝ) : ℝ :=
  vsum vis n (fun k => Real.exp (X k) * V k) / vsum vis n fun k => Real.exp (X k)

theorem vsum_pos {n : ℕ} (hn : 0 < n) (h0 : vis 0) (f : ℕ → ℝ) (hf : ∀ k, 0 < f k) : 0 < vsum vis n f :=
  sum_pos (fun k _ => hf k) ⟨0, by simp [hn, h0]⟩

theorem att_shift (X : ℕ → ℝ) (n : ℕ) (V : ℕ → ℝ) (M : ℝ) :
    vsum vis n (fun k => Real.exp (X k - M) * V k) / (vsum vis n fun k => Real.exp (X k - M)) = att vis X n V := by
  have h1 : (fun k => Real.exp (X k - M) * V k) = fun k => Real.exp (-M) * (Real.exp (X k) * V k) := by
    funext k; rw [← mul_assoc, ← Real.exp_add]; congr 2; ring
  have h2 : (fun k => Real.exp (X k - M)) = fun k => Real.exp (-M) * Real.exp (X k) := by
    funext k; rw [← Real.exp_add]; congr 1; ring
  rw [h1, h2, vsum_mul, vsum_mul, att, mul_div_mul_left _ _ (Real.exp_ne_zero _)]

/-- The quotient at the end. -/
theorem Row.quot {X : ℕ → ℝ} {C : Type} {V : ℕ → C → ℝ} {n : ℕ} {m l : EReal} {a : C → EReal}
    (h : Row vis X V n m l a) (hn : 0 < n) (h0 : vis 0) (c : C) :
    Ideal.div (a c) l = (att vis X n (fun k => V k c) : EReal) := by
  rcases h with ⟨h, -⟩ | ⟨M, -, hl, ha⟩
  · omega
  · have hpos : 0 < vsum vis n fun k => Real.exp (X k - M) := vsum_pos hn h0 _ fun k => Real.exp_pos _
    rw [hl, ha, Ideal.div_coe hpos.ne', ← EReal.coe_mul, mul_one_div, att_shift]

/-- The plain softmax of one row of `n` logits, the invisible ones at −∞, and the values it weights. -/
theorem plain {X : ℕ → ℝ} {n : ℕ} (hn : 0 < n) (h0 : vis 0) (V : ℕ → ℝ) (y : Fin n → EReal)
    (hy : ∀ j : Fin n, y j = if vis j then (X j : EReal) else ⊥) (v p : Fin n → EReal) (hv : ∀ j, v j = (V j : EReal))
    (hp : ∀ j : Fin n, p j = if vis j then Ideal.div (Ideal.exp (y j - univ.fold max (⊥ : EReal) y))
      (∑ j, Ideal.exp (y j - univ.fold max (⊥ : EReal) y)) else 0) :
    ∑ j, v j * p j = (att vis X n V : EReal) := by
  have hyT : ∀ j, y j ≠ ⊤ := fun j => by
    rw [hy]; split
    · exact EReal.coe_ne_top _
    · exact bot_ne_top
  obtain ⟨M, hM⟩ := sup_real y ⟨0, hn⟩ (by rw [hy]; simp [h0]) hyT
  have he : ∀ j : Fin n, Ideal.exp (y j - univ.fold max (⊥ : EReal) y) = ((if vis j then Real.exp (X j - M) else 0 : ℝ) : EReal) := by
    intro j
    rw [hM, hy]
    split
    · rw [← EReal.coe_sub, Ideal.exp_coe]
    · rw [EReal.bot_sub, Ideal.exp_bot, EReal.coe_zero]
  have hsum : ∑ j, Ideal.exp (y j - univ.fold max (⊥ : EReal) y) = ((vsum vis n fun k => Real.exp (X k - M) : ℝ) : EReal) := by
    rw [vsum_eq, ← Fin.sum_univ_eq_sum_range (fun k => if vis k then Real.exp (X k - M) else 0), coe_sum]
    exact sum_congr rfl fun j _ => he j
  have hpos : 0 < vsum vis n fun k => Real.exp (X k - M) := vsum_pos hn h0 _ fun k => Real.exp_pos _
  rw [← att_shift X n V M, div_eq_mul_inv, mul_comm, ← vsum_mul, vsum_eq,
    ← Fin.sum_univ_eq_sum_range (fun k => if vis k then
      (vsum vis n fun k => Real.exp (X k - M))⁻¹ * (Real.exp (X k - M) * V k) else 0), coe_sum]
  refine sum_congr rfl fun j _ => ?_
  rw [hp, hsum, he, hv]
  split
  · rw [Ideal.div_coe hpos.ne', ← EReal.coe_mul, ← EReal.coe_mul, EReal.coe_eq_coe_iff, one_div]; ring
  · rw [mul_zero, EReal.coe_zero]

end Cert.Online

end
-- ==== Proof.Update.lean ====
/- One update of a split's running maximum, sum and weighted sums, read at a row over the extended reals. -/
module

public import proofs.«01_k».proof.Proof.Trip
public import proofs.«01_k».proof.Proof.Online

@[expose] public section

set_option maxRecDepth 16384

noncomputable section

namespace Cert.KernelIdeal.Attn

open Idealize.ShloMosaic Idealize.ShloMosaic.TcCoe Idealize.SL.Sem
open Cert.KernelIdeal Cert.KernelIdeal.Gen

theorem named_mask : Named.named (F := Ideal) (φ := .f32) κ "mask" 0xF149F2CA#32 = (⊥ : EReal) :=
  IdealRules.named_const.ideal_named_scalar _ _ _ _ rfl

theorem named_clamp : Named.named (F := Ideal) (φ := .f32) κ "clamp" 0xEFA18F08#32 = (⊥ : EReal) :=
  IdealRules.named_const.ideal_named_scalar _ _ _ _ rfl

theorem ofBits_neg_inf : (Ideal.ofBits .f32 0xFF800000#32 : EReal) = ⊥ := by
  simp [Ideal.ofBits, Ideal.ieee]

theorem sc_at (ck : Vec Ideal S1x1024x256 .bf16) (kr : Vec Ideal S1x1024x128 .bf16) (qa : Vec Ideal S1x512x256 .bf16) (qr : Vec Ideal S1x512x128 .bf16)
    (r : Fin 512) (j : Fin 1024) :
    sc ck kr qa qr (ix2 r j) = ((∑ k : Fin 256, qa (ix3 0 r k) * ck (ix3 0 j k)) + ∑ k : Fin 128, qr (ix3 0 r k) * kr (ix3 0 j k) : EReal) := by
  pointwise [sc, k0_pay26, k0_pay7, k0_pay8]

/-- The masked logits: a key after the query's position counts as −∞. -/
def msc (a1 v : BitVec 32) (ck : Vec Ideal S1x1024x256 .bf16) (kr : Vec Ideal S1x1024x128 .bf16) (qa : Vec Ideal S1x512x256 .bf16) (qr : Vec Ideal S1x512x128 .bf16) :
    FVec Ideal S512x1024 .f32 := k0_pay106 (k0_pay94 ck) (k0_pay95 kr) (k0_pay96 a1 v) qa qr

theorem msc_at (ck : Vec Ideal S1x1024x256 .bf16) (kr : Vec Ideal S1x1024x128 .bf16) (t w : ℕ) (ht : t < 32) (hw : w < 4) (qa : Vec Ideal S1x512x256 .bf16)
    (qr : Vec Ideal S1x512x128 .bf16) (r : Fin 512) (j : Fin 1024) :
    msc (BitVec.ofNat 32 t) (BitVec.ofNat 32 w) ck kr qa qr (ix2 r j)
      = (if 1024 * w + j.val ≤ 128 * t + r.val % 128 then sc ck kr qa qr (ix2 r j) else ⊥ : EReal) := by
  rw [sc_at]
  have hj := j.isLt
  have hc : (IntOp.cmpi CmpIPredicate.sle (IntOp.addi (Scalar.muli (BitVec.ofNat 32 w) 1024#32) (BitVec.ofNat 32 j.val))
      (IntOp.addi (Scalar.muli (128#32) (BitVec.ofNat 32 t)) (BitVec.ofNat 32 (r.val % 128))) = 1#1) ↔ 1024 * w + j.val ≤ 128 * t + r.val % 128 := by
    rw [IntOp.cmpi_sle]
    have e1 : (IntOp.addi (Scalar.muli (BitVec.ofNat 32 w) 1024#32) (BitVec.ofNat 32 j.val)) = BitVec.ofNat 32 (1024 * w + j.val) := by
      apply BitVec.eq_of_toNat_eq
      show (BitVec.ofNat 32 w * 1024#32 + BitVec.ofNat 32 j.val).toNat = _
      simp only [BitVec.toNat_add, BitVec.toNat_mul, BitVec.toNat_ofNat]
      omega
    have e2 : (IntOp.addi (Scalar.muli (128#32) (BitVec.ofNat 32 t)) (BitVec.ofNat 32 (r.val % 128))) = BitVec.ofNat 32 (128 * t + r.val % 128) := by
      apply BitVec.eq_of_toNat_eq
      show (128#32 * BitVec.ofNat 32 t + BitVec.ofNat 32 (r.val % 128)).toNat = _
      simp only [BitVec.toNat_add, BitVec.toNat_mul, BitVec.toNat_ofNat]
      omega
    rw [e1, e2, BitVec.toInt_eq_toNat_of_lt, BitVec.toInt_eq_toNat_of_lt] <;> simp only [BitVec.toNat_ofNat] <;> omega
  pointwise [msc, k0_pay106, k0_pay94, k0_pay95, k0_pay96, named_mask]
  unfold Scalar.select
  by_cases h : 1024 * w + j.val ≤ 128 * t + r.val % 128
  · exact (if_pos (hc.2 h)).trans (if_pos h).symm
  · exact (if_neg (fun h' => h (hc.1 h'))).trans (if_neg h).symm

theorem newM_at (s : FVec Ideal S512x1024 .f32) (m : Vec Ideal S1x512x1 .f32) (r : Fin 512) (j : Fin 1) :
    k0_pay33 s m (ix3 0 r j) = max (m (ix3 0 r 0)) (Finset.univ.fold max (⊥ : EReal) fun k : Fin 1024 => s (ix2 r k)) := by
  pointwise [k0_pay33, k0_pay28, k0_pay27, ofBits_neg_inf, named_clamp]

theorem newL_at (s : FVec Ideal S512x1024 .f32) (m l : Vec Ideal S1x512x1 .f32) (r : Fin 512) (j : Fin 1) :
    k0_pay31 s m l (ix3 0 r j) = (Ideal.exp ((m (ix3 0 r 0) : EReal) - k0_pay33 s m (ix3 0 r 0)) * l (ix3 0 r 0)
      + ∑ k : Fin 1024, Ideal.exp ((s (ix2 r k) : EReal) - max (k0_pay33 s m (ix3 0 r 0)) ⊥) : EReal) := by
  pointwise [k0_pay31, k0_pay30, k0_pay29, k0_pay33, k0_pay28, k0_pay27, ofBits_neg_inf, named_clamp]

theorem newA_at (ck : Vec Ideal S1x1024x256 .bf16) (s : FVec Ideal S512x1024 .f32) (m : Vec Ideal S1x512x1 .f32) (a : Vec Ideal S1x512x256 .f32) (r : Fin 512) (c : Fin 256) :
    k0_pay32 (k0_pay7 ck) s m a (ix3 0 r c) = (Ideal.exp ((m (ix3 0 r 0) : EReal) - k0_pay33 s m (ix3 0 r 0)) * a (ix3 0 r c)
      + ∑ k : Fin 1024, Ideal.exp ((s (ix2 r k) : EReal) - max (k0_pay33 s m (ix3 0 r 0)) ⊥) * ck (ix3 0 k c) : EReal) := by
  pointwise [k0_pay32, k0_pay30, k0_pay29, k0_pay33, k0_pay28, k0_pay27, k0_pay7, ofBits_neg_inf, named_clamp]

/-- One update of a row by the logits `s` of a tile. -/
theorem row_step {vis : ℕ → Prop} [DecidablePred vis] {X : ℕ → ℝ} {V : ℕ → Fin 256 → ℝ} {n : ℕ} (ck : Vec Ideal S1x1024x256 .bf16) (s : FVec Ideal S512x1024 .f32)
    (m l : Vec Ideal S1x512x1 .f32) (a : Vec Ideal S1x512x256 .f32) (r : Fin 512)
    (h : Online.Row vis X V n (m (ix3 0 r 0)) (l (ix3 0 r 0)) fun c => a (ix3 0 r c)) (h0 : vis n)
    (hs : ∀ j : Fin 1024, s (ix2 r j) = if vis (n + j) then (X (n + j) : EReal) else ⊥) (hv : ∀ (j : Fin 1024) (c : Fin 256), ck (ix3 0 j c) = (V (n + j) c : EReal)) :
    Online.Row vis X V (n + 1024) (k0_pay33 s m (ix3 0 r 0)) (k0_pay31 s m l (ix3 0 r 0)) fun c => k0_pay32 (k0_pay7 ck) s m a (ix3 0 r c) :=
  h.step (by decide) h0 (fun j => s (ix2 r j)) hs (fun j c => ck (ix3 0 j c)) hv (newM_at s m r 0) (newL_at s m l r 0) fun c => newA_at ck s m a r c

end Cert.KernelIdeal.Attn

end
-- ==== Proof.Loop.lean ====
/- The loop over the tiles every query of the block sees whole: the rows after any number of turns. -/
module

public import proofs.«01_k».proof.Proof.Update

@[expose] public section

set_option maxRecDepth 16384

noncomputable section

namespace Cert.KernelIdeal.Attn

open Idealize.ShloMosaic Idealize.ShloMosaic.TcCoe Idealize.SL.Sem
open Cert.KernelIdeal Cert.KernelIdeal.Gen

/-! ## What the grid point's words are -/

theorem trips2 : ∀ t : Fin grid0.N, (k0_t2_loop (grid0.coords t)).trips = 0 := by decide +kernel
theorem trips1 : ∀ t : Fin grid0.N, (k0_t1_loop (grid0.coords t)).trips = (grid0.coords t 1).val / 8 := by decide +kernel
theorem off1 : ∀ t : Fin grid0.N, ∀ k : Fin (k0_t1_loop (grid0.coords t)).trips, k0_off1 (grid0.coords t) k = ![0, 1024 * k.val, 0] := by decide +kernel
theorem off2 : ∀ t : Fin grid0.N, ∀ k : Fin (k0_t1_loop (grid0.coords t)).trips, k0_off2 (grid0.coords t) k = ![0, 1024 * k.val, 0] := by decide +kernel
theorem off5 : ∀ t : Fin grid0.N, k0_off5 (grid0.coords t) = ![0, 1024 * ((grid0.coords t 1).val / 8), 0] := by decide +kernel
theorem off6 : ∀ t : Fin grid0.N, k0_off6 (grid0.coords t) = ![0, 1024 * ((grid0.coords t 1).val / 8), 0] := by decide +kernel
theorem tile_word : ∀ t : Fin grid0.N, kernelRun0_A.sl.v125 (grid0.coords t) = BitVec.ofNat 32 ((grid0.coords t 1).val / 8) := by decide +kernel

/-- A tile of 1024 rows, loaded. -/
theorem tile_load {n : ℕ} {Val : EltTy → Type} {e : EltTy} (v : View sig .tc .vmem ⟨3, ![1, 4096, n]⟩ e) (f : v.ty.Contents Val) {off : Fin 3 → ℕ}
    (h : ∀ a, off a + (![1, 1024, n] : Fin 3 → ℕ) a ≤ (⟨3, ![1, 4096, n]⟩ : Shape).size a) (k : ℕ) (hk : k < 4) (ho : off = ![0, 1024 * k, 0]) (j : Fin 1024) (c : Fin n) :
    View.readAt Val v (Rect.unit (s := ⟨3, ![1, 4096, n]⟩) off ![1, 1024, n] h).toLoadRect f (ix3 0 j c)
      = v.read Val f (ix3 0 (⟨1024 * k + j.val, by have := j.isLt; omega⟩ : Fin 4096) c) := by
  subst ho
  rw [View.readAt_unit v f h rfl h]
  exact congrArg (v.read Val f) (by idx_ext)

/-- The logit of a row against a key: the two products of its two parts. -/
def lg (KV : ℕ → Fin 256 → ℝ) (KR : ℕ → Fin 128 → ℝ) (QA : Fin 256 → ℝ) (QR : Fin 128 → ℝ) (k : ℕ) : ℝ := (∑ d, QA d * KV k d) + ∑ d, QR d * KR k d

theorem sc_real (ck : Vec Ideal S1x1024x256 .bf16) (kr : Vec Ideal S1x1024x128 .bf16) (qa : Vec Ideal S1x512x256 .bf16) (qr : Vec Ideal S1x512x128 .bf16)
    {KV : ℕ → Fin 256 → ℝ} {KR : ℕ → Fin 128 → ℝ} {QA : Fin 256 → ℝ} {QR : Fin 128 → ℝ} {n : ℕ} (r : Fin 512) (j : Fin 1024)
    (h1 : ∀ d, ck (ix3 0 j d) = (KV (n + j) d : EReal)) (h2 : ∀ d, kr (ix3 0 j d) = (KR (n + j) d : EReal))
    (h3 : ∀ d, qa (ix3 0 r d) = (QA d : EReal)) (h4 : ∀ d, qr (ix3 0 r d) = (QR d : EReal)) :
    sc ck kr qa qr (ix2 r j) = (lg KV KR QA QR (n + j) : EReal) := by
  rw [sc_at, lg, EReal.coe_add, Online.coe_sum, Online.coe_sum]
  simp only [h1, h2, h3, h4, EReal.coe_mul]

theorem row_congr {vis : ℕ → Prop} [DecidablePred vis] {X : ℕ → ℝ} {V : ℕ → Fin 256 → ℝ} {n : ℕ} {m l m' l' : EReal} {a a' : Fin 256 → EReal}
    (h : Online.Row vis X V n m l a) (hm : m' = m) (hl : l' = l) (ha : ∀ d, a' d = a d) : Online.Row vis X V n m' l' a' := by
  obtain rfl := hm; obtain rfl := hl; obtain rfl : a' = a := funext ha; exact h

section Loop

variable (𝒱 : Variants) (c : Dev nD) (bd : Option 𝒱.V) (t : Fin grid0.N) (arg2 : Memref sig .tc .vmem S1x128x4096 .bf16) (harg2 : arg2.IsWhole) (arg3 : Memref sig .tc .vmem S1x128x2048 .bf16) (harg3 : arg3.IsWhole) (arg4 : Memref sig .tc .vmem S1x4096x256 .bf16) (harg4 : arg4.IsWhole) (arg5 : Memref sig .tc .vmem S1x4096x128 .bf16) (harg5 : arg5.IsWhole) (arg6 : Memref sig .tc .vmem S16x256x64 .bf16) (harg6 : arg6.IsWhole) (arg7 : Memref sig .tc .vmem S1x128x1024 .bf16) (harg7 : arg7.IsWhole) (arg8 : Memref sig .tc .vmem S4x512x256 .bf16) (harg8 : arg8.IsWhole) (arg9 : Memref sig .tc .vmem S4x512x128 .bf16) (harg9 : arg9.IsWhole) (arg10 : Memref sig .tc .vmem S4x512x1 .f32) (harg10 : arg10.IsWhole) (arg11 : Memref sig .tc .vmem S4x512x1 .f32) (harg11 : arg11.IsWhole) (arg12 : Memref sig .tc .vmem S4x512x256 .f32) (harg12 : arg12.IsWhole)
  (a1 : BitVec 32) (v100 : FVec Ideal S4x512x1 .f32) (X4 : BufTy.Contents (Elt Ideal) arg4.view.ty) (X5 : BufTy.Contents (Elt Ideal) arg5.view.ty) (X8 : BufTy.Contents (Elt Ideal) arg8.view.ty) (X9 : BufTy.Contents (Elt Ideal) arg9.view.ty)
  (G10 : BufTy.Contents (Elt Ideal) arg10.view.ty) (G11 : BufTy.Contents (Elt Ideal) arg11.view.ty) (G12 : BufTy.Contents (Elt Ideal) arg12.view.ty)

theorem loop_rows {KV : ℕ → Fin 256 → ℝ} {KR : ℕ → Fin 128 → ℝ} {QA : Fin 4 → Fin 512 → Fin 256 → ℝ} {QR : Fin 4 → Fin 512 → Fin 128 → ℝ}
    (h4 : ∀ (k : Fin 4096) (d : Fin 256), arg4.view.read (Elt Ideal) X4 (ix3 0 k d) = (KV k d : EReal))
    (h5 : ∀ (k : Fin 4096) (d : Fin 128), arg5.view.read (Elt Ideal) X5 (ix3 0 k d) = (KR k d : EReal))
    (h8 : ∀ (s : Fin 4) (r : Fin 512) (d : Fin 256), arg8.view.read (Elt Ideal) X8 (ix3 s r d) = (QA s r d : EReal))
    (h9 : ∀ (s : Fin 4) (r : Fin 512) (d : Fin 128), arg9.view.read (Elt Ideal) X9 (ix3 s r d) = (QR s r d : EReal))
    (g10 : ∀ (s : Fin 4) (r : Fin 512), arg10.view.read (Elt Ideal) G10 (ix3 s r 0) = (⊥ : EReal))
    (g11 : ∀ (s : Fin 4) (r : Fin 512), arg11.view.read (Elt Ideal) G11 (ix3 s r 0) = (0 : EReal))
    (g12 : ∀ (s : Fin 4) (r : Fin 512) (d : Fin 256), arg12.view.read (Elt Ideal) G12 (ix3 s r d) = (0 : EReal))
    (n : ℕ) (hn : n ≤ (grid0.coords t 1).val / 8) (s : Fin 4) (r : Fin 512) :
    Online.Row (fun k => k ≤ 128 * (grid0.coords t 1).val + r.val % 128) (lg KV KR (QA s r) (QR s r)) KV (1024 * n)
      (arg10.view.read (Elt Ideal) (arg10.view.writes (Elt Ideal) G10 (pb_k0_t1 (F := Ideal) 𝒱 c bd (grid0.coords t) arg2 harg2 arg3 harg3 arg4 harg4 arg5 harg5 arg6 harg6 arg7 harg7 arg8 harg8 arg9 harg9 arg10 harg10 arg11 harg11 arg12 harg12 a1 v100 X4 X5 X8 X9 G10 G11 G12 n).1) (ix3 s r 0))
      (arg11.view.read (Elt Ideal) (arg11.view.writes (Elt Ideal) G11 (pb_k0_t1 (F := Ideal) 𝒱 c bd (grid0.coords t) arg2 harg2 arg3 harg3 arg4 harg4 arg5 harg5 arg6 harg6 arg7 harg7 arg8 harg8 arg9 harg9 arg10 harg10 arg11 harg11 arg12 harg12 a1 v100 X4 X5 X8 X9 G10 G11 G12 n).2.1) (ix3 s r 0))
      (fun d => arg12.view.read (Elt Ideal) (arg12.view.writes (Elt Ideal) G12 (pb_k0_t1 (F := Ideal) 𝒱 c bd (grid0.coords t) arg2 harg2 arg3 harg3 arg4 harg4 arg5 harg5 arg6 harg6 arg7 harg7 arg8 harg8 arg9 harg9 arg10 harg10 arg11 harg11 arg12 harg12 a1 v100 X4 X5 X8 X9 G10 G11 G12 n).2.2) (ix3 s r d)) := by
  induction n with
  | zero => exact Or.inl ⟨rfl, g10 s r, g11 s r, fun d => g12 s r d⟩
  | succ n ih =>
    have ih := ih (by omega)
    have hlt : (grid0.coords t 1).val < 32 := (grid0.coords t 1).isLt
    have hk : n < (k0_t1_loop (grid0.coords t)).trips := by rw [trips1]; omega
    rw [show n + 1 = (⟨n, hk⟩ : Fin (k0_t1_loop (grid0.coords t)).trips).val + 1 from rfl, pb_k0_t1_succ, trip_m, trip_l, trip_a]
    dsimp only

    generalize pb_k0_t1 (F := Ideal) 𝒱 c bd (grid0.coords t) arg2 harg2 arg3 harg3 arg4 harg4 arg5 harg5 arg6 harg6 arg7 harg7 arg8 harg8 arg9 harg9 arg10 harg10 arg11 harg11 arg12 harg12 a1 v100 X4 X5 X8 X9 G10 G11 G12 n = L at ih ⊢
    simp only [slabs1_read, slabs256_read]
    set ck := tk4 (grid0.coords t) arg4 X4 ⟨n, hk⟩ with hck
    have hv : ∀ (j : Fin 1024) (d : Fin 256), ck (ix3 0 j d) = (KV (1024 * n + j) d : EReal) := fun j d =>
      (tile_load arg4.view X4 _ n (by omega) (off1 t ⟨n, hk⟩) j d).trans (h4 _ d)
    have hr : ∀ (j : Fin 1024) (d : Fin 128), tk5 (grid0.coords t) arg5 X5 ⟨n, hk⟩ (ix3 0 j d) = (KR (1024 * n + j) d : EReal) := fun j d =>
      (tile_load arg5.view X5 _ n (by omega) (off2 t ⟨n, hk⟩) j d).trans (h5 _ d)
    refine row_step (n := 1024 * n) ck _ _ _ _ r ?_ (show 1024 * n ≤ _ by omega) (fun j => ?_) hv
    · exact row_congr ih (slab_load arg10.view _ s _ r 0) (slab_load arg11.view _ s _ r 0) fun d => slab_load arg12.view _ s _ r d
    · have hj := j.isLt
      rw [if_pos (show 1024 * n + j.val ≤ _ by omega)]
      exact sc_real _ _ _ _ r j (hv j) (hr j) (fun d => (slab_load arg8.view X8 s _ r d).trans (h8 s r d)) fun d => (slab_load arg9.view X9 s _ r d).trans (h9 s r d)

end Loop

end Cert.KernelIdeal.Attn

end
-- ==== Proof.Fill.lean ====
/- The scratch rows of the queries: split `s` holds heads `4s … 4s+3`, 128 rows each. -/
module

public import proofs.«01_k».proof.Proof.Loop

@[expose] public section

set_option maxRecDepth 16384

noncomputable section

namespace Cert.KernelIdeal.Attn

open Idealize.ShloMosaic Idealize.ShloMosaic.TcCoe Idealize.SL.Sem
open Cert.KernelIdeal Cert.KernelIdeal.Gen

theorem inbq256 : ∀ (h : Fin 16) (a : Fin 3), (![0, 0, 256 * h.val] : Fin 3 → ℕ) a + S1x128x256.size a ≤ S1x128x4096.size a := by decide
theorem inbq128 : ∀ (h : Fin 16) (a : Fin 3), (![0, 0, 128 * h.val] : Fin 3 → ℕ) a + S1x128x128.size a ≤ S1x128x2048.size a := by decide

/-- The lanes of one head. -/
theorem lane_load {n w : ℕ} {Val : EltTy → Type} {e : EltTy} (v : View sig .tc .vmem ⟨3, ![1, 128, n]⟩ e) (f : v.ty.Contents Val) (o : ℕ)
    (h : ∀ a, (![0, 0, o] : Fin 3 → ℕ) a + (![1, 128, w] : Fin 3 → ℕ) a ≤ (⟨3, ![1, 128, n]⟩ : Shape).size a) (q : Fin 128) (d : Fin w) (hlt : o + d.val < n) :
    View.readAt Val v (Rect.unit (s := ⟨3, ![1, 128, n]⟩) ![0, 0, o] ![1, 128, w] h).toLoadRect f (ix3 0 q d) = v.read Val f (ix3 0 q ⟨o + d.val, hlt⟩) := by
  rw [View.readAt_unit v f h rfl h]
  exact congrArg (v.read Val f) (by idx_ext)

variable {F : FTy → Type} [FloatOps F] [Named F]

/-- Head `h` of the queries' latent part, and of its rotated part. -/
abbrev lq256 (v : View sig .tc .vmem S1x128x4096 .bf16) (X : v.ty.Contents (Elt F)) (h : Fin 16) : Vec F S1x128x256 .bf16 :=
  View.readAt (Elt F) v (Rect.unit (s := S1x128x4096) ![0, 0, 256 * h.val] S1x128x256.size (inbq256 h)).toLoadRect X
abbrev lq128 (v : View sig .tc .vmem S1x128x2048 .bf16) (X : v.ty.Contents (Elt F)) (h : Fin 16) : Vec F S1x128x128 .bf16 :=
  View.readAt (Elt F) v (Rect.unit (s := S1x128x2048) ![0, 0, 128 * h.val] S1x128x128.size (inbq128 h)).toLoadRect X

abbrev hd (s : Fin 4) (hh : Fin 4) : Fin 16 := ⟨4 * s.val + hh.val, by omega⟩

abbrev qa_slabs (v : View sig .tc .vmem S1x128x4096 .bf16) (X : v.ty.Contents (Elt F)) (s : Fin 4) : Vec F S1x512x256 .bf16 :=
  k0_pay75 (lq256 v X (hd s 0)) (lq256 v X (hd s 1)) (lq256 v X (hd s 2)) (lq256 v X (hd s 3))
abbrev qr_slabs (v : View sig .tc .vmem S1x128x2048 .bf16) (X : v.ty.Contents (Elt F)) (s : Fin 4) : Vec F S1x512x128 .bf16 :=
  k0_pay76 (lq128 v X (hd s 0)) (lq128 v X (hd s 1)) (lq128 v X (hd s 2)) (lq128 v X (hd s 3))

theorem fill_a (c : Dev nD) (arg2 : Memref sig .tc .vmem S1x128x4096 .bf16) (harg2 : arg2.IsWhole) (x0 : Vec F S1x128x4096 .bf16) :
    kernelRun0_A.sl.HS0_4 c arg2 harg2 x0 = slabs256 (qa_slabs arg2.view (harg2.unread x0)) ++ [] := by
  unfold kernelRun0_A.sl.HS0_4; rfl

theorem fill_r (c : Dev nD) (arg3 : Memref sig .tc .vmem S1x128x2048 .bf16) (harg3 : arg3.IsWhole) (x1 : Vec F S1x128x2048 .bf16) :
    kernelRun0_A.sl.HS1_4 c arg3 harg3 x1 = slabs128 (qr_slabs arg3.view (harg3.unread x1)) ++ [] := by
  unfold kernelRun0_A.sl.HS1_4; rfl

theorem pay75_at (w : Fin 4 → Vec Ideal S1x128x256 .bf16) (r : Fin 512) (d : Fin 256) :
    k0_pay75 (w 0) (w 1) (w 2) (w 3) (ix3 0 r d) = w ⟨r.val / 128, by omega⟩ (ix3 0 ⟨r.val % 128, by omega⟩ d) := by
  have hr := r.isLt
  have key : ∀ (i : Fin 4) (q : Fin 128), i.val = r.val / 128 → q.val = r.val % 128 →
      w i (ix3 0 q d) = w ⟨r.val / 128, by omega⟩ (ix3 0 ⟨r.val % 128, by omega⟩ d) := by
    rintro ⟨i, hi⟩ ⟨q, hq⟩ h1 h2
    dsimp only at h1 h2
    subst h1 h2
    rfl
  pointwise [k0_pay75]
  by_cases h0 : r.val < 128
  · rw [dif_pos h0]; exact key 0 _ (show 0 = _ by omega) (show r.val = _ by omega)
  rw [dif_neg h0]
  by_cases h1 : r.val - 128 < 128
  · rw [dif_pos h1]; exact key 1 _ (show 1 = _ by omega) (show r.val - 128 = _ by omega)
  rw [dif_neg h1]
  by_cases h2 : r.val - 128 - 128 < 128
  · rw [dif_pos h2]; exact key 2 _ (show 2 = _ by omega) (show r.val - 128 - 128 = _ by omega)
  rw [dif_neg h2]
  exact key 3 _ (show 3 = _ by omega) (show r.val - 128 - 128 - 128 = _ by omega)

theorem pay76_at (w : Fin 4 → Vec Ideal S1x128x128 .bf16) (r : Fin 512) (d : Fin 128) :
    k0_pay76 (w 0) (w 1) (w 2) (w 3) (ix3 0 r d) = w ⟨r.val / 128, by omega⟩ (ix3 0 ⟨r.val % 128, by omega⟩ d) := by
  have hr := r.isLt
  have key : ∀ (i : Fin 4) (q : Fin 128), i.val = r.val / 128 → q.val = r.val % 128 →
      w i (ix3 0 q d) = w ⟨r.val / 128, by omega⟩ (ix3 0 ⟨r.val % 128, by omega⟩ d) := by
    rintro ⟨i, hi⟩ ⟨q, hq⟩ h1 h2
    dsimp only at h1 h2
    subst h1 h2
    rfl
  pointwise [k0_pay76]
  by_cases h0 : r.val < 128
  · rw [dif_pos h0]; exact key 0 _ (show 0 = _ by omega) (show r.val = _ by omega)
  rw [dif_neg h0]
  by_cases h1 : r.val - 128 < 128
  · rw [dif_pos h1]; exact key 1 _ (show 1 = _ by omega) (show r.val - 128 = _ by omega)
  rw [dif_neg h1]
  by_cases h2 : r.val - 128 - 128 < 128
  · rw [dif_pos h2]; exact key 2 _ (show 2 = _ by omega) (show r.val - 128 - 128 = _ by omega)
  rw [dif_neg h2]
  exact key 3 _ (show 3 = _ by omega) (show r.val - 128 - 128 - 128 = _ by omega)

/-- What the scratch rows hold: row `r` of split `s` is position `r % 128` of head `4s + r / 128`. -/
theorem qa_read (arg2 : Memref sig .tc .vmem S1x128x4096 .bf16) (harg2 : arg2.IsWhole) (x0 : Vec Ideal S1x128x4096 .bf16) (v : View sig .tc .vmem S4x512x256 .bf16)
    (f : v.ty.Contents (Elt Ideal)) (c : Dev nD) (s : Fin 4) (r : Fin 512) (d : Fin 256) :
    v.read (Elt Ideal) (v.writes (Elt Ideal) f (kernelRun0_A.sl.HS0_4 c arg2 harg2 x0)) (ix3 s r d)
      = x0 (ix3 0 (⟨r.val % 128, by omega⟩ : Fin 128) (⟨256 * (4 * s.val + r.val / 128) + d.val, by omega⟩ : Fin 4096)) := by
  rw [fill_a, slabs256_read]
  refine (pay75_at (fun hh => lq256 arg2.view (harg2.unread x0) (hd s hh)) r d).trans ((lane_load arg2.view (harg2.unread x0) _ (inbq256 _) _ d (show 256 * (4 * s.val + r.val / 128) + d.val < 4096 by omega)).trans ?_)
  exact congrFun (harg2.read_unread x0) _

theorem qr_read (arg3 : Memref sig .tc .vmem S1x128x2048 .bf16) (harg3 : arg3.IsWhole) (x1 : Vec Ideal S1x128x2048 .bf16) (v : View sig .tc .vmem S4x512x128 .bf16)
    (f : v.ty.Contents (Elt Ideal)) (c : Dev nD) (s : Fin 4) (r : Fin 512) (d : Fin 128) :
    v.read (Elt Ideal) (v.writes (Elt Ideal) f (kernelRun0_A.sl.HS1_4 c arg3 harg3 x1)) (ix3 s r d)
      = x1 (ix3 0 (⟨r.val % 128, by omega⟩ : Fin 128) (⟨128 * (4 * s.val + r.val / 128) + d.val, by omega⟩ : Fin 2048)) := by
  rw [fill_r, slabs128_read]
  refine (pay76_at (fun hh => lq128 arg3.view (harg3.unread x1) (hd s hh)) r d).trans ((lane_load arg3.view (harg3.unread x1) _ (inbq128 _) _ d (show 128 * (4 * s.val + r.val / 128) + d.val < 2048 by omega)).trans ?_)
  exact congrFun (harg3.read_unread x1) _

end Cert.KernelIdeal.Attn

end
-- ==== Proof.Tail.lean ====
/- The last tile, masked, after the loop: the rows each split leaves. -/
module

public import proofs.«01_k».proof.Proof.Fill

@[expose] public section

set_option maxRecDepth 16384

noncomputable section

namespace Cert.KernelIdeal.Attn

open Idealize.ShloMosaic Idealize.ShloMosaic.TcCoe Idealize.SL.Sem
open Cert.KernelIdeal Cert.KernelIdeal.Gen

section Tail

variable (c : Dev nD) (t : Fin grid0.N) (arg2 : Memref sig .tc .vmem S1x128x4096 .bf16) (harg2 : arg2.IsWhole) (arg3 : Memref sig .tc .vmem S1x128x2048 .bf16) (harg3 : arg3.IsWhole) (arg4 : Memref sig .tc .vmem S1x4096x256 .bf16) (harg4 : arg4.IsWhole) (arg5 : Memref sig .tc .vmem S1x4096x128 .bf16) (harg5 : arg5.IsWhole) (arg6 : Memref sig .tc .vmem S16x256x64 .bf16) (harg6 : arg6.IsWhole) (arg7 : Memref sig .tc .vmem S1x128x1024 .bf16) (harg7 : arg7.IsWhole) (arg8 : Memref sig .tc .vmem S4x512x256 .bf16) (harg8 : arg8.IsWhole) (arg9 : Memref sig .tc .vmem S4x512x128 .bf16) (harg9 : arg9.IsWhole) (arg10 : Memref sig .tc .vmem S4x512x1 .f32) (harg10 : arg10.IsWhole) (arg11 : Memref sig .tc .vmem S4x512x1 .f32) (harg11 : arg11.IsWhole) (arg12 : Memref sig .tc .vmem S4x512x256 .f32) (harg12 : arg12.IsWhole)
  (x0 : Vec Ideal S1x128x4096 .bf16) (x1 : Vec Ideal S1x128x2048 .bf16) (x2 : Vec Ideal S1x4096x256 .bf16) (x3 : Vec Ideal S1x4096x128 .bf16)

/-- The stores before the last tile, newest first: the loop's, then the initial fill. -/
def L10 : List (View.Piece (Elt Ideal) S4x512x1 .f32) := (pb_k0_t1 (F := Ideal) Variants.none c none (grid0.coords t) arg2 harg2 arg3 harg3 arg4 harg4 arg5 harg5 arg6 harg6 arg7 harg7 arg8 harg8 arg9 harg9 arg10 harg10 arg11 harg11 arg12 harg12 (BitVec.ofNat 32 (grid0.coords t 1).val) k0_pay87 (harg4.unread x2) (harg5.unread x3) (arg8.view.writes (Elt Ideal) arg8.view.junk (kernelRun0_A.sl.HS0_4 c arg2 harg2 x0)) (arg9.view.writes (Elt Ideal) arg9.view.junk (kernelRun0_A.sl.HS1_4 c arg3 harg3 x1)) (arg10.view.writes (Elt Ideal) arg10.view.junk kernelRun0_A.sl.HS2_1) (arg11.view.writes (Elt Ideal) arg11.view.junk kernelRun0_A.sl.HS3_1) (arg12.view.writes (Elt Ideal) arg12.view.junk kernelRun0_A.sl.HS4_1) (Scf.trips (k0_t1_loop (grid0.coords t)).lb (k0_t1_loop (grid0.coords t)).ub (k0_t1_loop (grid0.coords t)).st)).1 ++ kernelRun0_A.sl.HS2_1
def L11 : List (View.Piece (Elt Ideal) S4x512x1 .f32) := (pb_k0_t1 (F := Ideal) Variants.none c none (grid0.coords t) arg2 harg2 arg3 harg3 arg4 harg4 arg5 harg5 arg6 harg6 arg7 harg7 arg8 harg8 arg9 harg9 arg10 harg10 arg11 harg11 arg12 harg12 (BitVec.ofNat 32 (grid0.coords t 1).val) k0_pay87 (harg4.unread x2) (harg5.unread x3) (arg8.view.writes (Elt Ideal) arg8.view.junk (kernelRun0_A.sl.HS0_4 c arg2 harg2 x0)) (arg9.view.writes (Elt Ideal) arg9.view.junk (kernelRun0_A.sl.HS1_4 c arg3 harg3 x1)) (arg10.view.writes (Elt Ideal) arg10.view.junk kernelRun0_A.sl.HS2_1) (arg11.view.writes (Elt Ideal) arg11.view.junk kernelRun0_A.sl.HS3_1) (arg12.view.writes (Elt Ideal) arg12.view.junk kernelRun0_A.sl.HS4_1) (Scf.trips (k0_t1_loop (grid0.coords t)).lb (k0_t1_loop (grid0.coords t)).ub (k0_t1_loop (grid0.coords t)).st)).2.1 ++ kernelRun0_A.sl.HS3_1
def L12 : List (View.Piece (Elt Ideal) S4x512x256 .f32) := (pb_k0_t1 (F := Ideal) Variants.none c none (grid0.coords t) arg2 harg2 arg3 harg3 arg4 harg4 arg5 harg5 arg6 harg6 arg7 harg7 arg8 harg8 arg9 harg9 arg10 harg10 arg11 harg11 arg12 harg12 (BitVec.ofNat 32 (grid0.coords t 1).val) k0_pay87 (harg4.unread x2) (harg5.unread x3) (arg8.view.writes (Elt Ideal) arg8.view.junk (kernelRun0_A.sl.HS0_4 c arg2 harg2 x0)) (arg9.view.writes (Elt Ideal) arg9.view.junk (kernelRun0_A.sl.HS1_4 c arg3 harg3 x1)) (arg10.view.writes (Elt Ideal) arg10.view.junk kernelRun0_A.sl.HS2_1) (arg11.view.writes (Elt Ideal) arg11.view.junk kernelRun0_A.sl.HS3_1) (arg12.view.writes (Elt Ideal) arg12.view.junk kernelRun0_A.sl.HS4_1) (Scf.trips (k0_t1_loop (grid0.coords t)).lb (k0_t1_loop (grid0.coords t)).ub (k0_t1_loop (grid0.coords t)).st)).2.2 ++ kernelRun0_A.sl.HS4_1

/-- The masked logits of split `s`. -/
abbrev tmsc (s : Fin 4) : FVec Ideal S512x1024 .f32 :=
  msc (BitVec.ofNat 32 (grid0.coords t 1).val) (kernelRun0_A.sl.v125 (grid0.coords t)) (View.readAt (Elt Ideal) arg4.view (Rect.unit (s := S1x4096x256) (k0_off5 (grid0.coords t)) S1x1024x256.size (k0_off5_inb (grid0.coords t))).toLoadRect (harg4.unread x2)) (View.readAt (Elt Ideal) arg5.view (Rect.unit (s := S1x4096x128) (k0_off6 (grid0.coords t)) S1x1024x128.size (k0_off6_inb (grid0.coords t))).toLoadRect (harg5.unread x3))
    (ld256 arg8.view (arg8.view.writes (Elt Ideal) arg8.view.junk (kernelRun0_A.sl.HS0_4 c arg2 harg2 x0)) s) (ld128 arg9.view (arg9.view.writes (Elt Ideal) arg9.view.junk (kernelRun0_A.sl.HS1_4 c arg3 harg3 x1)) s)

/-- What each split loads of its running maximum, sum and weighted sums. -/
abbrev tm : Fin 4 → Vec Ideal S1x512x1 .f32 := ![kernelRun0_A.sl.v162 c (grid0.coords t) arg2 harg2 arg3 harg3 arg4 harg4 arg5 harg5 arg6 harg6 arg7 harg7 arg8 harg8 arg9 harg9 arg10 harg10 arg11 harg11 arg12 harg12 x0 x1 x2 x3, kernelRun0_A.sl.v207 c (grid0.coords t) arg2 harg2 arg3 harg3 arg4 harg4 arg5 harg5 arg6 harg6 arg7 harg7 arg8 harg8 arg9 harg9 arg10 harg10 arg11 harg11 arg12 harg12 x0 x1 x2 x3, kernelRun0_A.sl.v252 c (grid0.coords t) arg2 harg2 arg3 harg3 arg4 harg4 arg5 harg5 arg6 harg6 arg7 harg7 arg8 harg8 arg9 harg9 arg10 harg10 arg11 harg11 arg12 harg12 x0 x1 x2 x3, kernelRun0_A.sl.v297 c (grid0.coords t) arg2 harg2 arg3 harg3 arg4 harg4 arg5 harg5 arg6 harg6 arg7 harg7 arg8 harg8 arg9 harg9 arg10 harg10 arg11 harg11 arg12 harg12 x0 x1 x2 x3]
abbrev tl : Fin 4 → Vec Ideal S1x512x1 .f32 := ![kernelRun0_A.sl.v174 c (grid0.coords t) arg2 harg2 arg3 harg3 arg4 harg4 arg5 harg5 arg6 harg6 arg7 harg7 arg8 harg8 arg9 harg9 arg10 harg10 arg11 harg11 arg12 harg12 x0 x1 x2 x3, kernelRun0_A.sl.v219 c (grid0.coords t) arg2 harg2 arg3 harg3 arg4 harg4 arg5 harg5 arg6 harg6 arg7 harg7 arg8 harg8 arg9 harg9 arg10 harg10 arg11 harg11 arg12 harg12 x0 x1 x2 x3, kernelRun0_A.sl.v264 c (grid0.coords t) arg2 harg2 arg3 harg3 arg4 harg4 arg5 harg5 arg6 harg6 arg7 harg7 arg8 harg8 arg9 harg9 arg10 harg10 arg11 harg11 arg12 harg12 x0 x1 x2 x3, kernelRun0_A.sl.v309 c (grid0.coords t) arg2 harg2 arg3 harg3 arg4 harg4 arg5 harg5 arg6 harg6 arg7 harg7 arg8 harg8 arg9 harg9 arg10 harg10 arg11 harg11 arg12 harg12 x0 x1 x2 x3]
abbrev ta : Fin 4 → Vec Ideal S1x512x256 .f32 := ![kernelRun0_A.sl.v185 c (grid0.coords t) arg2 harg2 arg3 harg3 arg4 harg4 arg5 harg5 arg6 harg6 arg7 harg7 arg8 harg8 arg9 harg9 arg10 harg10 arg11 harg11 arg12 harg12 x0 x1 x2 x3, kernelRun0_A.sl.v230 c (grid0.coords t) arg2 harg2 arg3 harg3 arg4 harg4 arg5 harg5 arg6 harg6 arg7 harg7 arg8 harg8 arg9 harg9 arg10 harg10 arg11 harg11 arg12 harg12 x0 x1 x2 x3, kernelRun0_A.sl.v275 c (grid0.coords t) arg2 harg2 arg3 harg3 arg4 harg4 arg5 harg5 arg6 harg6 arg7 harg7 arg8 harg8 arg9 harg9 arg10 harg10 arg11 harg11 arg12 harg12 x0 x1 x2 x3, kernelRun0_A.sl.v320 c (grid0.coords t) arg2 harg2 arg3 harg3 arg4 harg4 arg5 harg5 arg6 harg6 arg7 harg7 arg8 harg8 arg9 harg9 arg10 harg10 arg11 harg11 arg12 harg12 x0 x1 x2 x3]

theorem no_rest : Scf.trips (k0_t2_loop (grid0.coords t)).lb (k0_t2_loop (grid0.coords t)).ub (k0_t2_loop (grid0.coords t)).st = 0 := trips2 t

theorem first_10 : kernelRun0_A.sl.HS2_1_1 c (grid0.coords t) arg2 harg2 arg3 harg3 arg4 harg4 arg5 harg5 arg6 harg6 arg7 harg7 arg8 harg8 arg9 harg9 arg10 harg10 arg11 harg11 arg12 harg12 x0 x1 x2 x3 = ⟨Rect.unit (s := S4x512x1) ![(0 : Fin 4).val, 0, 0] S1x512x1.size (inb1 0), k0_pay33 (tmsc c t arg2 harg2 arg3 harg3 arg4 harg4 arg5 harg5 arg8 arg9 x0 x1 x2 x3 0) (kernelRun0_A.sl.v162 c (grid0.coords t) arg2 harg2 arg3 harg3 arg4 harg4 arg5 harg5 arg6 harg6 arg7 harg7 arg8 harg8 arg9 harg9 arg10 harg10 arg11 harg11 arg12 harg12 x0 x1 x2 x3)⟩ :: L10 c t arg2 harg2 arg3 harg3 arg4 harg4 arg5 harg5 arg6 harg6 arg7 harg7 arg8 harg8 arg9 harg9 arg10 harg10 arg11 harg11 arg12 harg12 x0 x1 x2 x3 := by
  unfold kernelRun0_A.sl.HS2_1_1
  rw [no_rest]
  rfl

theorem first_11 : kernelRun0_A.sl.HS3_1_1 c (grid0.coords t) arg2 harg2 arg3 harg3 arg4 harg4 arg5 harg5 arg6 harg6 arg7 harg7 arg8 harg8 arg9 harg9 arg10 harg10 arg11 harg11 arg12 harg12 x0 x1 x2 x3 = ⟨Rect.unit (s := S4x512x1) ![(0 : Fin 4).val, 0, 0] S1x512x1.size (inb1 0), k0_pay31 (tmsc c t arg2 harg2 arg3 harg3 arg4 harg4 arg5 harg5 arg8 arg9 x0 x1 x2 x3 0) (kernelRun0_A.sl.v162 c (grid0.coords t) arg2 harg2 arg3 harg3 arg4 harg4 arg5 harg5 arg6 harg6 arg7 harg7 arg8 harg8 arg9 harg9 arg10 harg10 arg11 harg11 arg12 harg12 x0 x1 x2 x3) (kernelRun0_A.sl.v174 c (grid0.coords t) arg2 harg2 arg3 harg3 arg4 harg4 arg5 harg5 arg6 harg6 arg7 harg7 arg8 harg8 arg9 harg9 arg10 harg10 arg11 harg11 arg12 harg12 x0 x1 x2 x3)⟩ :: L11 c t arg2 harg2 arg3 harg3 arg4 harg4 arg5 harg5 arg6 harg6 arg7 harg7 arg8 harg8 arg9 harg9 arg10 harg10 arg11 harg11 arg12 harg12 x0 x1 x2 x3 := by
  unfold kernelRun0_A.sl.HS3_1_1
  rw [no_rest]
  rfl

theorem first_12 : kernelRun0_A.sl.HS4_1_1 c (grid0.coords t) arg2 harg2 arg3 harg3 arg4 harg4 arg5 harg5 arg6 harg6 arg7 harg7 arg8 harg8 arg9 harg9 arg10 harg10 arg11 harg11 arg12 harg12 x0 x1 x2 x3 = ⟨Rect.unit (s := S4x512x256) ![(0 : Fin 4).val, 0, 0] S1x512x256.size (inb256 0), k0_pay32 (k0_pay7 (View.readAt (Elt Ideal) arg4.view (Rect.unit (s := S1x4096x256) (k0_off5 (grid0.coords t)) S1x1024x256.size (k0_off5_inb (grid0.coords t))).toLoadRect (harg4.unread x2))) (tmsc c t arg2 harg2 arg3 harg3 arg4 harg4 arg5 harg5 arg8 arg9 x0 x1 x2 x3 0) (kernelRun0_A.sl.v162 c (grid0.coords t) arg2 harg2 arg3 harg3 arg4 harg4 arg5 harg5 arg6 harg6 arg7 harg7 arg8 harg8 arg9 harg9 arg10 harg10 arg11 harg11 arg12 harg12 x0 x1 x2 x3) (kernelRun0_A.sl.v185 c (grid0.coords t) arg2 harg2 arg3 harg3 arg4 harg4 arg5 harg5 arg6 harg6 arg7 harg7 arg8 harg8 arg9 harg9 arg10 harg10 arg11 harg11 arg12 harg12 x0 x1 x2 x3)⟩ :: L12 c t arg2 harg2 arg3 harg3 arg4 harg4 arg5 harg5 arg6 harg6 arg7 harg7 arg8 harg8 arg9 harg9 arg10 harg10 arg11 harg11 arg12 harg12 x0 x1 x2 x3 := by
  unfold kernelRun0_A.sl.HS4_1_1
  rw [no_rest]
  rfl

theorem load_v162 : kernelRun0_A.sl.v162 c (grid0.coords t) arg2 harg2 arg3 harg3 arg4 harg4 arg5 harg5 arg6 harg6 arg7 harg7 arg8 harg8 arg9 harg9 arg10 harg10 arg11 harg11 arg12 harg12 x0 x1 x2 x3 = ld1 arg10.view (arg10.view.writes (Elt Ideal) arg10.view.junk (L10 c t arg2 harg2 arg3 harg3 arg4 harg4 arg5 harg5 arg6 harg6 arg7 harg7 arg8 harg8 arg9 harg9 arg10 harg10 arg11 harg11 arg12 harg12 x0 x1 x2 x3)) 0 := by
  unfold kernelRun0_A.sl.v162
  rw [no_rest]
  rfl

theorem load_v174 : kernelRun0_A.sl.v174 c (grid0.coords t) arg2 harg2 arg3 harg3 arg4 harg4 arg5 harg5 arg6 harg6 arg7 harg7 arg8 harg8 arg9 harg9 arg10 harg10 arg11 harg11 arg12 harg12 x0 x1 x2 x3 = ld1 arg11.view (arg11.view.writes (Elt Ideal) arg11.view.junk (L11 c t arg2 harg2 arg3 harg3 arg4 harg4 arg5 harg5 arg6 harg6 arg7 harg7 arg8 harg8 arg9 harg9 arg10 harg10 arg11 harg11 arg12 harg12 x0 x1 x2 x3)) 0 := by
  unfold kernelRun0_A.sl.v174
  rw [no_rest]
  rfl

theorem load_v185 : kernelRun0_A.sl.v185 c (grid0.coords t) arg2 harg2 arg3 harg3 arg4 harg4 arg5 harg5 arg6 harg6 arg7 harg7 arg8 harg8 arg9 harg9 arg10 harg10 arg11 harg11 arg12 harg12 x0 x1 x2 x3 = ld256 arg12.view (arg12.view.writes (Elt Ideal) arg12.view.junk (L12 c t arg2 harg2 arg3 harg3 arg4 harg4 arg5 harg5 arg6 harg6 arg7 harg7 arg8 harg8 arg9 harg9 arg10 harg10 arg11 harg11 arg12 harg12 x0 x1 x2 x3)) 0 := by
  unfold kernelRun0_A.sl.v185
  rw [no_rest]
  rfl

theorem all_11 : kernelRun0_A.sl.HS3_4 c (grid0.coords t) arg2 harg2 arg3 harg3 arg4 harg4 arg5 harg5 arg6 harg6 arg7 harg7 arg8 harg8 arg9 harg9 arg10 harg10 arg11 harg11 arg12 harg12 x0 x1 x2 x3 = slabs1 (fun s => k0_pay31 (tmsc c t arg2 harg2 arg3 harg3 arg4 harg4 arg5 harg5 arg8 arg9 x0 x1 x2 x3 s) (tm c t arg2 harg2 arg3 harg3 arg4 harg4 arg5 harg5 arg6 harg6 arg7 harg7 arg8 harg8 arg9 harg9 arg10 harg10 arg11 harg11 arg12 harg12 x0 x1 x2 x3 s) (tl c t arg2 harg2 arg3 harg3 arg4 harg4 arg5 harg5 arg6 harg6 arg7 harg7 arg8 harg8 arg9 harg9 arg10 harg10 arg11 harg11 arg12 harg12 x0 x1 x2 x3 s)) ++ L11 c t arg2 harg2 arg3 harg3 arg4 harg4 arg5 harg5 arg6 harg6 arg7 harg7 arg8 harg8 arg9 harg9 arg10 harg10 arg11 harg11 arg12 harg12 x0 x1 x2 x3 := by
  unfold kernelRun0_A.sl.HS3_4 kernelRun0_A.sl.HS3_3 kernelRun0_A.sl.HS3_2
  rw [first_11]
  rfl

theorem all_12 : kernelRun0_A.sl.HS4_4 c (grid0.coords t) arg2 harg2 arg3 harg3 arg4 harg4 arg5 harg5 arg6 harg6 arg7 harg7 arg8 harg8 arg9 harg9 arg10 harg10 arg11 harg11 arg12 harg12 x0 x1 x2 x3 = slabs256 (fun s => k0_pay32 (k0_pay7 (View.readAt (Elt Ideal) arg4.view (Rect.unit (s := S1x4096x256) (k0_off5 (grid0.coords t)) S1x1024x256.size (k0_off5_inb (grid0.coords t))).toLoadRect (harg4.unread x2))) (tmsc c t arg2 harg2 arg3 harg3 arg4 harg4 arg5 harg5 arg8 arg9 x0 x1 x2 x3 s) (tm c t arg2 harg2 arg3 harg3 arg4 harg4 arg5 harg5 arg6 harg6 arg7 harg7 arg8 harg8 arg9 harg9 arg10 harg10 arg11 harg11 arg12 harg12 x0 x1 x2 x3 s) (ta c t arg2 harg2 arg3 harg3 arg4 harg4 arg5 harg5 arg6 harg6 arg7 harg7 arg8 harg8 arg9 harg9 arg10 harg10 arg11 harg11 arg12 harg12 x0 x1 x2 x3 s)) ++ L12 c t arg2 harg2 arg3 harg3 arg4 harg4 arg5 harg5 arg6 harg6 arg7 harg7 arg8 harg8 arg9 harg9 arg10 harg10 arg11 harg11 arg12 harg12 x0 x1 x2 x3 := by
  unfold kernelRun0_A.sl.HS4_4 kernelRun0_A.sl.HS4_3 kernelRun0_A.sl.HS4_2
  rw [first_12]
  rfl

end Tail

end Cert.KernelIdeal.Attn

end
-- ==== Proof.Rows.lean ====
/- The rows after every tile: what the kernel divides at the end. -/
module

public import proofs.«01_k».proof.Proof.Tail

@[expose] public section

set_option maxRecDepth 16384

noncomputable section

namespace Cert.KernelIdeal.Attn

open Idealize.ShloMosaic Idealize.ShloMosaic.TcCoe Idealize.SL.Sem
open Cert.KernelIdeal Cert.KernelIdeal.Gen

theorem fill_10 (v : View sig .tc .vmem S4x512x1 .f32) (f : v.ty.Contents (Elt Ideal)) (s : Fin 4) (r : Fin 512) :
    v.read (Elt Ideal) (v.writes (Elt Ideal) f kernelRun0_A.sl.HS2_1) (ix3 s r 0) = (⊥ : EReal) := by
  unfold kernelRun0_A.sl.HS2_1
  refine (View.read_writes_cons_unit_of_mem v f _ _ _ _ (ix3 s r 0) rfl (fun a => ?_)).trans ?_
  · match a with | ⟨0, _⟩ => exact (Nat.zero_add _).symm | ⟨1, _⟩ => exact (Nat.zero_add _).symm | ⟨2, _⟩ => rfl
  · pointwise [k0_pay86, named_mask]

theorem fill_11 (v : View sig .tc .vmem S4x512x1 .f32) (f : v.ty.Contents (Elt Ideal)) (s : Fin 4) (r : Fin 512) :
    v.read (Elt Ideal) (v.writes (Elt Ideal) f kernelRun0_A.sl.HS3_1) (ix3 s r 0) = (0 : EReal) := by
  unfold kernelRun0_A.sl.HS3_1
  refine (View.read_writes_cons_unit_of_mem v f _ _ _ _ (ix3 s r 0) rfl (fun a => ?_)).trans ?_
  · match a with | ⟨0, _⟩ => exact (Nat.zero_add _).symm | ⟨1, _⟩ => exact (Nat.zero_add _).symm | ⟨2, _⟩ => rfl
  · pointwise [k0_pay88, k0_pay87]

theorem fill_12 (v : View sig .tc .vmem S4x512x256 .f32) (f : v.ty.Contents (Elt Ideal)) (s : Fin 4) (r : Fin 512) (d : Fin 256) :
    v.read (Elt Ideal) (v.writes (Elt Ideal) f kernelRun0_A.sl.HS4_1) (ix3 s r d) = (0 : EReal) := by
  unfold kernelRun0_A.sl.HS4_1
  refine (View.read_writes_cons_unit_of_mem v f _ _ _ _ (ix3 s r d) rfl (fun a => ?_)).trans ?_
  · match a with | ⟨0, _⟩ => exact (Nat.zero_add _).symm | ⟨1, _⟩ => exact (Nat.zero_add _).symm | ⟨2, _⟩ => exact (Nat.zero_add _).symm
  · pointwise [k0_pay89]

section Rows

variable (c : Dev nD) (t : Fin grid0.N) (arg2 : Memref sig .tc .vmem S1x128x4096 .bf16) (harg2 : arg2.IsWhole) (arg3 : Memref sig .tc .vmem S1x128x2048 .bf16) (harg3 : arg3.IsWhole) (arg4 : Memref sig .tc .vmem S1x4096x256 .bf16) (harg4 : arg4.IsWhole) (arg5 : Memref sig .tc .vmem S1x4096x128 .bf16) (harg5 : arg5.IsWhole) (arg6 : Memref sig .tc .vmem S16x256x64 .bf16) (harg6 : arg6.IsWhole) (arg7 : Memref sig .tc .vmem S1x128x1024 .bf16) (harg7 : arg7.IsWhole) (arg8 : Memref sig .tc .vmem S4x512x256 .bf16) (harg8 : arg8.IsWhole) (arg9 : Memref sig .tc .vmem S4x512x128 .bf16) (harg9 : arg9.IsWhole) (arg10 : Memref sig .tc .vmem S4x512x1 .f32) (harg10 : arg10.IsWhole) (arg11 : Memref sig .tc .vmem S4x512x1 .f32) (harg11 : arg11.IsWhole) (arg12 : Memref sig .tc .vmem S4x512x256 .f32) (harg12 : arg12.IsWhole)
  (x0 : Vec Ideal S1x128x4096 .bf16) (x1 : Vec Ideal S1x128x2048 .bf16) (x2 : Vec Ideal S1x4096x256 .bf16) (x3 : Vec Ideal S1x4096x128 .bf16)

theorem prev_10 (s : Fin 4) (r : Fin 512) : tm c t arg2 harg2 arg3 harg3 arg4 harg4 arg5 harg5 arg6 harg6 arg7 harg7 arg8 harg8 arg9 harg9 arg10 harg10 arg11 harg11 arg12 harg12 x0 x1 x2 x3 s (ix3 0 r 0) = arg10.view.read (Elt Ideal) (arg10.view.writes (Elt Ideal) arg10.view.junk (L10 c t arg2 harg2 arg3 harg3 arg4 harg4 arg5 harg5 arg6 harg6 arg7 harg7 arg8 harg8 arg9 harg9 arg10 harg10 arg11 harg11 arg12 harg12 x0 x1 x2 x3)) (ix3 s r 0) := by
  match s with
  | 0 => exact (congrFun (load_v162 c t arg2 harg2 arg3 harg3 arg4 harg4 arg5 harg5 arg6 harg6 arg7 harg7 arg8 harg8 arg9 harg9 arg10 harg10 arg11 harg11 arg12 harg12 x0 x1 x2 x3) _).trans (slab_load arg10.view _ 0 _ r 0)
  | 1 => exact (slab_load arg10.view _ 1 _ r 0).trans ((congrArg (fun L => arg10.view.read (Elt Ideal) (arg10.view.writes (Elt Ideal) arg10.view.junk L) (ix3 1 r 0)) (first_10 c t arg2 harg2 arg3 harg3 arg4 harg4 arg5 harg5 arg6 harg6 arg7 harg7 arg8 harg8 arg9 harg9 arg10 harg10 arg11 harg11 arg12 harg12 x0 x1 x2 x3)).trans (slab_miss arg10.view _ 0 1 (by decide) _ _ _ r 0))
  | 2 => exact (slab_load arg10.view _ 2 _ r 0).trans ((slab_miss arg10.view _ 1 2 (by decide) _ _ _ r 0).trans ((congrArg (fun L => arg10.view.read (Elt Ideal) (arg10.view.writes (Elt Ideal) arg10.view.junk L) (ix3 2 r 0)) (first_10 c t arg2 harg2 arg3 harg3 arg4 harg4 arg5 harg5 arg6 harg6 arg7 harg7 arg8 harg8 arg9 harg9 arg10 harg10 arg11 harg11 arg12 harg12 x0 x1 x2 x3)).trans (slab_miss arg10.view _ 0 2 (by decide) _ _ _ r 0)))
  | 3 => exact (slab_load arg10.view _ 3 _ r 0).trans ((slab_miss arg10.view _ 2 3 (by decide) _ _ _ r 0).trans ((slab_miss arg10.view _ 1 3 (by decide) _ _ _ r 0).trans ((congrArg (fun L => arg10.view.read (Elt Ideal) (arg10.view.writes (Elt Ideal) arg10.view.junk L) (ix3 3 r 0)) (first_10 c t arg2 harg2 arg3 harg3 arg4 harg4 arg5 harg5 arg6 harg6 arg7 harg7 arg8 harg8 arg9 harg9 arg10 harg10 arg11 harg11 arg12 harg12 x0 x1 x2 x3)).trans (slab_miss arg10.view _ 0 3 (by decide) _ _ _ r 0))))

theorem prev_11 (s : Fin 4) (r : Fin 512) : tl c t arg2 harg2 arg3 harg3 arg4 harg4 arg5 harg5 arg6 harg6 arg7 harg7 arg8 harg8 arg9 harg9 arg10 harg10 arg11 harg11 arg12 harg12 x0 x1 x2 x3 s (ix3 0 r 0) = arg11.view.read (Elt Ideal) (arg11.view.writes (Elt Ideal) arg11.view.junk (L11 c t arg2 harg2 arg3 harg3 arg4 harg4 arg5 harg5 arg6 harg6 arg7 harg7 arg8 harg8 arg9 harg9 arg10 harg10 arg11 harg11 arg12 harg12 x0 x1 x2 x3)) (ix3 s r 0) := by
  match s with
  | 0 => exact (congrFun (load_v174 c t arg2 harg2 arg3 harg3 arg4 harg4 arg5 harg5 arg6 harg6 arg7 harg7 arg8 harg8 arg9 harg9 arg10 harg10 arg11 harg11 arg12 harg12 x0 x1 x2 x3) _).trans (slab_load arg11.view _ 0 _ r 0)
  | 1 => exact (slab_load arg11.view _ 1 _ r 0).trans ((congrArg (fun L => arg11.view.read (Elt Ideal) (arg11.view.writes (Elt Ideal) arg11.view.junk L) (ix3 1 r 0)) (first_11 c t arg2 harg2 arg3 harg3 arg4 harg4 arg5 harg5 arg6 harg6 arg7 harg7 arg8 harg8 arg9 harg9 arg10 harg10 arg11 harg11 arg12 harg12 x0 x1 x2 x3)).trans (slab_miss arg11.view _ 0 1 (by decide) _ _ _ r 0))
  | 2 => exact (slab_load arg11.view _ 2 _ r 0).trans ((slab_miss arg11.view _ 1 2 (by decide) _ _ _ r 0).trans ((congrArg (fun L => arg11.view.read (Elt Ideal) (arg11.view.writes (Elt Ideal) arg11.view.junk L) (ix3 2 r 0)) (first_11 c t arg2 harg2 arg3 harg3 arg4 harg4 arg5 harg5 arg6 harg6 arg7 harg7 arg8 harg8 arg9 harg9 arg10 harg10 arg11 harg11 arg12 harg12 x0 x1 x2 x3)).trans (slab_miss arg11.view _ 0 2 (by decide) _ _ _ r 0)))
  | 3 => exact (slab_load arg11.view _ 3 _ r 0).trans ((slab_miss arg11.view _ 2 3 (by decide) _ _ _ r 0).trans ((slab_miss arg11.view _ 1 3 (by decide) _ _ _ r 0).trans ((congrArg (fun L => arg11.view.read (Elt Ideal) (arg11.view.writes (Elt Ideal) arg11.view.junk L) (ix3 3 r 0)) (first_11 c t arg2 harg2 arg3 harg3 arg4 harg4 arg5 harg5 arg6 harg6 arg7 harg7 arg8 harg8 arg9 harg9 arg10 harg10 arg11 harg11 arg12 harg12 x0 x1 x2 x3)).trans (slab_miss arg11.view _ 0 3 (by decide) _ _ _ r 0))))

theorem prev_12 (s : Fin 4) (r : Fin 512) (d : Fin 256) : ta c t arg2 harg2 arg3 harg3 arg4 harg4 arg5 harg5 arg6 harg6 arg7 harg7 arg8 harg8 arg9 harg9 arg10 harg10 arg11 harg11 arg12 harg12 x0 x1 x2 x3 s (ix3 0 r d) = arg12.view.read (Elt Ideal) (arg12.view.writes (Elt Ideal) arg12.view.junk (L12 c t arg2 harg2 arg3 harg3 arg4 harg4 arg5 harg5 arg6 harg6 arg7 harg7 arg8 harg8 arg9 harg9 arg10 harg10 arg11 harg11 arg12 harg12 x0 x1 x2 x3)) (ix3 s r d) := by
  match s with
  | 0 => exact (congrFun (load_v185 c t arg2 harg2 arg3 harg3 arg4 harg4 arg5 harg5 arg6 harg6 arg7 harg7 arg8 harg8 arg9 harg9 arg10 harg10 arg11 harg11 arg12 harg12 x0 x1 x2 x3) _).trans (slab_load arg12.view _ 0 _ r d)
  | 1 => exact (slab_load arg12.view _ 1 _ r d).trans ((congrArg (fun L => arg12.view.read (Elt Ideal) (arg12.view.writes (Elt Ideal) arg12.view.junk L) (ix3 1 r d)) (first_12 c t arg2 harg2 arg3 harg3 arg4 harg4 arg5 harg5 arg6 harg6 arg7 harg7 arg8 harg8 arg9 harg9 arg10 harg10 arg11 harg11 arg12 harg12 x0 x1 x2 x3)).trans (slab_miss arg12.view _ 0 1 (by decide) _ _ _ r d))
  | 2 => exact (slab_load arg12.view _ 2 _ r d).trans ((slab_miss arg12.view _ 1 2 (by decide) _ _ _ r d).trans ((congrArg (fun L => arg12.view.read (Elt Ideal) (arg12.view.writes (Elt Ideal) arg12.view.junk L) (ix3 2 r d)) (first_12 c t arg2 harg2 arg3 harg3 arg4 harg4 arg5 harg5 arg6 harg6 arg7 harg7 arg8 harg8 arg9 harg9 arg10 harg10 arg11 harg11 arg12 harg12 x0 x1 x2 x3)).trans (slab_miss arg12.view _ 0 2 (by decide) _ _ _ r d)))
  | 3 => exact (slab_load arg12.view _ 3 _ r d).trans ((slab_miss arg12.view _ 2 3 (by decide) _ _ _ r d).trans ((slab_miss arg12.view _ 1 3 (by decide) _ _ _ r d).trans ((congrArg (fun L => arg12.view.read (Elt Ideal) (arg12.view.writes (Elt Ideal) arg12.view.junk L) (ix3 3 r d)) (first_12 c t arg2 harg2 arg3 harg3 arg4 harg4 arg5 harg5 arg6 harg6 arg7 harg7 arg8 harg8 arg9 harg9 arg10 harg10 arg11 harg11 arg12 harg12 x0 x1 x2 x3)).trans (slab_miss arg12.view _ 0 3 (by decide) _ _ _ r d))))

/-- Row `r` of split `s` after every tile: it has seen the keys below `1024 (w + 1)`, `w` the tile that holds its position. -/
theorem final_rows {KV : ℕ → Fin 256 → ℝ} {KR : ℕ → Fin 128 → ℝ} {Q0 : Fin 128 → Fin 4096 → ℝ} {Q1 : Fin 128 → Fin 2048 → ℝ}
    (h0 : ∀ q d, x0 (ix3 0 q d) = (Q0 q d : EReal)) (h1 : ∀ q d, x1 (ix3 0 q d) = (Q1 q d : EReal))
    (h2 : ∀ (k : Fin 4096) d, x2 (ix3 0 k d) = (KV k d : EReal)) (h3 : ∀ (k : Fin 4096) d, x3 (ix3 0 k d) = (KR k d : EReal)) (s : Fin 4) (r : Fin 512) :
    ∃ m : EReal, Online.Row (fun k => k ≤ 128 * (grid0.coords t 1).val + r.val % 128)
      (lg KV KR (fun d => Q0 (⟨r.val % 128, by omega⟩ : Fin 128) (⟨256 * (4 * s.val + r.val / 128) + d.val, by omega⟩ : Fin 4096))
        fun d => Q1 (⟨r.val % 128, by omega⟩ : Fin 128) (⟨128 * (4 * s.val + r.val / 128) + d.val, by omega⟩ : Fin 2048)) KV (1024 * ((grid0.coords t 1).val / 8) + 1024)
      m (arg11.view.read (Elt Ideal) (arg11.view.writes (Elt Ideal) arg11.view.junk (kernelRun0_A.sl.HS3_4 c (grid0.coords t) arg2 harg2 arg3 harg3 arg4 harg4 arg5 harg5 arg6 harg6 arg7 harg7 arg8 harg8 arg9 harg9 arg10 harg10 arg11 harg11 arg12 harg12 x0 x1 x2 x3)) (ix3 s r 0)) (fun d => arg12.view.read (Elt Ideal) (arg12.view.writes (Elt Ideal) arg12.view.junk (kernelRun0_A.sl.HS4_4 c (grid0.coords t) arg2 harg2 arg3 harg3 arg4 harg4 arg5 harg5 arg6 harg6 arg7 harg7 arg8 harg8 arg9 harg9 arg10 harg10 arg11 harg11 arg12 harg12 x0 x1 x2 x3)) (ix3 s r d)) := by
  have hlt : (grid0.coords t 1).val < 32 := (grid0.coords t 1).isLt
  have e4 : ∀ (k : Fin 4096) d, arg4.view.read (Elt Ideal) (harg4.unread x2) (ix3 0 k d) = (KV k d : EReal) := fun k d => (congrFun (harg4.read_unread x2) _).trans (h2 k d)
  have e5 : ∀ (k : Fin 4096) d, arg5.view.read (Elt Ideal) (harg5.unread x3) (ix3 0 k d) = (KR k d : EReal) := fun k d => (congrFun (harg5.read_unread x3) _).trans (h3 k d)
  have e8 : ∀ (s : Fin 4) (r : Fin 512) (d : Fin 256), _ = (Q0 (⟨r.val % 128, by omega⟩ : Fin 128) (⟨256 * (4 * s.val + r.val / 128) + d.val, by omega⟩ : Fin 4096) : EReal) := fun s r d =>
    (qa_read arg2 harg2 x0 arg8.view arg8.view.junk c s r d).trans (h0 _ _)
  have e9 : ∀ (s : Fin 4) (r : Fin 512) (d : Fin 128), _ = (Q1 (⟨r.val % 128, by omega⟩ : Fin 128) (⟨128 * (4 * s.val + r.val / 128) + d.val, by omega⟩ : Fin 2048) : EReal) := fun s r d =>
    (qr_read arg3 harg3 x1 arg9.view arg9.view.junk c s r d).trans (h1 _ _)
  have hl := loop_rows Variants.none c none t arg2 harg2 arg3 harg3 arg4 harg4 arg5 harg5 arg6 harg6 arg7 harg7 arg8 harg8 arg9 harg9 arg10 harg10 arg11 harg11 arg12 harg12 (BitVec.ofNat 32 (grid0.coords t 1).val) k0_pay87 (harg4.unread x2) (harg5.unread x3) _ _ (arg10.view.writes (Elt Ideal) arg10.view.junk kernelRun0_A.sl.HS2_1) (arg11.view.writes (Elt Ideal) arg11.view.junk kernelRun0_A.sl.HS3_1) (arg12.view.writes (Elt Ideal) arg12.view.junk kernelRun0_A.sl.HS4_1)
    e4 e5 e8 e9 (fill_10 _ _) (fill_11 _ _) (fill_12 _ _) ((grid0.coords t 1).val / 8) (le_refl _) s r
  have hk := trips1 t
  rw [all_11, all_12]
  simp only [slabs1_read, slabs256_read]
  have hv : ∀ (j : Fin 1024) (d : Fin 256), (View.readAt (Elt Ideal) arg4.view (Rect.unit (s := S1x4096x256) (k0_off5 (grid0.coords t)) S1x1024x256.size (k0_off5_inb (grid0.coords t))).toLoadRect (harg4.unread x2)) (ix3 0 j d) = (KV (1024 * ((grid0.coords t 1).val / 8) + j) d : EReal) := fun j d =>
    (tile_load arg4.view (harg4.unread x2) _ _ (by omega) (off5 t) j d).trans (e4 _ d)
  have hr : ∀ (j : Fin 1024) (d : Fin 128), (View.readAt (Elt Ideal) arg5.view (Rect.unit (s := S1x4096x128) (k0_off6 (grid0.coords t)) S1x1024x128.size (k0_off6_inb (grid0.coords t))).toLoadRect (harg5.unread x3)) (ix3 0 j d) = (KR (1024 * ((grid0.coords t 1).val / 8) + j) d : EReal) := fun j d =>
    (tile_load arg5.view (harg5.unread x3) _ _ (by omega) (off6 t) j d).trans (e5 _ d)
  refine ⟨_, row_step (n := 1024 * ((grid0.coords t 1).val / 8)) (View.readAt (Elt Ideal) arg4.view (Rect.unit (s := S1x4096x256) (k0_off5 (grid0.coords t)) S1x1024x256.size (k0_off5_inb (grid0.coords t))).toLoadRect (harg4.unread x2)) (tmsc c t arg2 harg2 arg3 harg3 arg4 harg4 arg5 harg5 arg8 arg9 x0 x1 x2 x3 s) (tm c t arg2 harg2 arg3 harg3 arg4 harg4 arg5 harg5 arg6 harg6 arg7 harg7 arg8 harg8 arg9 harg9 arg10 harg10 arg11 harg11 arg12 harg12 x0 x1 x2 x3 s) (tl c t arg2 harg2 arg3 harg3 arg4 harg4 arg5 harg5 arg6 harg6 arg7 harg7 arg8 harg8 arg9 harg9 arg10 harg10 arg11 harg11 arg12 harg12 x0 x1 x2 x3 s) (ta c t arg2 harg2 arg3 harg3 arg4 harg4 arg5 harg5 arg6 harg6 arg7 harg7 arg8 harg8 arg9 harg9 arg10 harg10 arg11 harg11 arg12 harg12 x0 x1 x2 x3 s) r ?_ (show 1024 * ((grid0.coords t 1).val / 8) ≤ _ by omega) (fun j => ?_) hv⟩
  · refine row_congr hl ((prev_10 c t arg2 harg2 arg3 harg3 arg4 harg4 arg5 harg5 arg6 harg6 arg7 harg7 arg8 harg8 arg9 harg9 arg10 harg10 arg11 harg11 arg12 harg12 x0 x1 x2 x3 s r).trans ?_) ((prev_11 c t arg2 harg2 arg3 harg3 arg4 harg4 arg5 harg5 arg6 harg6 arg7 harg7 arg8 harg8 arg9 harg9 arg10 harg10 arg11 harg11 arg12 harg12 x0 x1 x2 x3 s r).trans ?_) fun d => (prev_12 c t arg2 harg2 arg3 harg3 arg4 harg4 arg5 harg5 arg6 harg6 arg7 harg7 arg8 harg8 arg9 harg9 arg10 harg10 arg11 harg11 arg12 harg12 x0 x1 x2 x3 s r d).trans ?_
    all_goals
      first | unfold L10 | unfold L11 | unfold L12
      rw [View.writes_append, show Scf.trips (k0_t1_loop (grid0.coords t)).lb (k0_t1_loop (grid0.coords t)).ub (k0_t1_loop (grid0.coords t)).st = (grid0.coords t 1).val / 8 from hk]
  · unfold tmsc
    rw [tile_word, msc_at _ _ _ _ hlt (by omega)]
    refine if_congr Iff.rfl ?_ rfl
    exact sc_real _ _ _ _ r j (hv j) (hr j) (fun d => (slab_load arg8.view _ s _ r d).trans (e8 s r d)) fun d => (slab_load arg9.view _ s _ r d).trans (e9 s r d)

end Rows

end Cert.KernelIdeal.Attn

end
-- ==== Proof.Out.lean ====
/- What one grid point stores: each head's attention over the latent rows, times its up-projection. -/
module

public import proofs.«01_k».proof.Proof.Rows

@[expose] public section

set_option maxRecDepth 16384

noncomputable section

namespace Cert.KernelIdeal.Attn

open Idealize.ShloMosaic Idealize.ShloMosaic.TcCoe Idealize.SL.Sem
open Cert.KernelIdeal Cert.KernelIdeal.Gen

theorem inbw : ∀ (h : Fin 16) (a : Fin 3), (![h.val, 0, 0] : Fin 3 → ℕ) a + S1x256x64.size a ≤ S16x256x64.size a := by decide

/-- The up-projection of head `h`. -/
abbrev lw (v : View sig .tc .vmem S16x256x64 .bf16) (X : v.ty.Contents (Elt Ideal)) (h : Fin 16) : Vec Ideal S1x256x64 .bf16 :=
  View.readAt (Elt Ideal) v (Rect.unit (s := S16x256x64) ![h.val, 0, 0] S1x256x64.size (inbw h)).toLoadRect X

theorem lw_at (arg6 : Memref sig .tc .vmem S16x256x64 .bf16) (harg6 : arg6.IsWhole) (x4 : Vec Ideal S16x256x64 .bf16) (h : Fin 16) (e : Fin 256) (d : Fin 64) :
    lw arg6.view (harg6.unread x4) h (ix3 0 e d) = x4 (ix3 h e d) := by
  unfold lw
  rw [View.readAt_unit arg6.view _ (inbw h) rfl (inbw h)]
  refine Eq.trans ?_ (congrFun (harg6.read_unread x4) (ix3 h e d))
  exact congrArg (arg6.view.read (Elt Ideal) (harg6.unread x4)) (by idx_ext)

/-- The four heads of a split, each from its 128 rows. -/
abbrev oh0 (a : Vec Ideal S1x512x256 .f32) (l : Vec Ideal S1x512x1 .f32) (w : Vec Ideal S1x256x64 .bf16) : FVec Ideal S128x64 .f32 := k0_pay135 a l w
abbrev oh1 (a : Vec Ideal S1x512x256 .f32) (l : Vec Ideal S1x512x1 .f32) (w : Vec Ideal S1x256x64 .bf16) : FVec Ideal S128x64 .f32 := k0_pay137 (k0_pay136 a l) w
abbrev oh2 (a : Vec Ideal S1x512x256 .f32) (l : Vec Ideal S1x512x1 .f32) (w : Vec Ideal S1x256x64 .bf16) : FVec Ideal S128x64 .f32 := k0_pay138 (k0_pay134 a l) w
abbrev oh3 (a : Vec Ideal S1x512x256 .f32) (l : Vec Ideal S1x512x1 .f32) (w : Vec Ideal S1x256x64 .bf16) : FVec Ideal S128x64 .f32 := k0_pay139 (k0_pay134 a l) w

theorem oh0_at (a : Vec Ideal S1x512x256 .f32) (l : Vec Ideal S1x512x1 .f32) (w : Vec Ideal S1x256x64 .bf16) (q : Fin 128) (d : Fin 64) (r : Fin 512) (hr : r.val = 0 + q.val) :
    oh0 a l w (ix2 q d) = (∑ e : Fin 256, Ideal.div (a (ix3 0 r e)) (l (ix3 0 r 0)) * w (ix3 0 e d) : EReal) := by
  have hb : 0 + q.val < 512 := by omega
  obtain rfl : r = ⟨0 + q.val, hb⟩ := Fin.ext hr
  pointwise [oh0, k0_pay135, k0_pay134]
  all_goals first | done | simp only [Nat.zero_add]

theorem oh1_at (a : Vec Ideal S1x512x256 .f32) (l : Vec Ideal S1x512x1 .f32) (w : Vec Ideal S1x256x64 .bf16) (q : Fin 128) (d : Fin 64) (r : Fin 512) (hr : r.val = 128 + q.val) :
    oh1 a l w (ix2 q d) = (∑ e : Fin 256, Ideal.div (a (ix3 0 r e)) (l (ix3 0 r 0)) * w (ix3 0 e d) : EReal) := by
  have hb : 128 + q.val < 512 := by omega
  obtain rfl : r = ⟨128 + q.val, hb⟩ := Fin.ext hr
  pointwise [oh1, k0_pay137, k0_pay136, k0_pay134]
  all_goals first | done | simp only [Nat.zero_add]

theorem oh2_at (a : Vec Ideal S1x512x256 .f32) (l : Vec Ideal S1x512x1 .f32) (w : Vec Ideal S1x256x64 .bf16) (q : Fin 128) (d : Fin 64) (r : Fin 512) (hr : r.val = 256 + q.val) :
    oh2 a l w (ix2 q d) = (∑ e : Fin 256, Ideal.div (a (ix3 0 r e)) (l (ix3 0 r 0)) * w (ix3 0 e d) : EReal) := by
  have hb : 256 + q.val < 512 := by omega
  obtain rfl : r = ⟨256 + q.val, hb⟩ := Fin.ext hr
  pointwise [oh2, k0_pay138, k0_pay134]
  all_goals first | done | simp only [Nat.zero_add]

theorem oh3_at (a : Vec Ideal S1x512x256 .f32) (l : Vec Ideal S1x512x1 .f32) (w : Vec Ideal S1x256x64 .bf16) (q : Fin 128) (d : Fin 64) (r : Fin 512) (hr : r.val = 384 + q.val) :
    oh3 a l w (ix2 q d) = (∑ e : Fin 256, Ideal.div (a (ix3 0 r e)) (l (ix3 0 r 0)) * w (ix3 0 e d) : EReal) := by
  have hb : 384 + q.val < 512 := by omega
  obtain rfl : r = ⟨384 + q.val, hb⟩ := Fin.ext hr
  pointwise [oh3, k0_pay139, k0_pay134]
  all_goals first | done | simp only [Nat.zero_add]

theorem cast_at (C : FVec Ideal S128x1024 .f32) (q : Fin 128) (e : Fin 1024) :
    shapeCast S1x128x1024 (truncf .bf16 C bitsLt_bf16_f32) shapeCasts_S128x1024_S1x128x1024 (ix3 0 q e) = C (ix2 q e) := by
  pointwise []

theorem pay6_at (o : Fin 16 → FVec Ideal S128x64 .f32) (h : Fin 16) (q : Fin 128) (d : Fin 64) (e : Fin 1024) (he : e.val = 64 * h.val + d.val) :
    k0_pay6 (o 0) (o 1) (o 2) (o 3) (o 4) (o 5) (o 6) (o 7) (o 8) (o 9) (o 10) (o 11) (o 12) (o 13) (o 14) (o 15) (ix3 0 q e) = o h (ix2 q d) := by
  refine (cast_at _ q e).trans ?_
  refine concatenate_ofFn_apply (t := S128x1024) (s₁ := S128x64) 1 o _ rfl 64 rfl (ix2 q e) h ?_ (ix2 q d) ?_ ?_
  · show e.val / 64 = h.val
    omega
  · show d.val = e.val % 64
    omega
  · intro b hb
    match b with
    | ⟨0, _⟩ => rfl
    | ⟨1, _⟩ => exact absurd rfl hb

theorem pay6_of {x0 x1 x2 x3 x4 x5 x6 x7 x8 x9 x10 x11 x12 x13 x14 x15 : FVec Ideal S128x64 .f32} (o : Fin 16 → FVec Ideal S128x64 .f32) (e0 : x0 = o 0) (e1 : x1 = o 1) (e2 : x2 = o 2) (e3 : x3 = o 3) (e4 : x4 = o 4) (e5 : x5 = o 5) (e6 : x6 = o 6) (e7 : x7 = o 7) (e8 : x8 = o 8) (e9 : x9 = o 9) (e10 : x10 = o 10) (e11 : x11 = o 11) (e12 : x12 = o 12) (e13 : x13 = o 13) (e14 : x14 = o 14) (e15 : x15 = o 15)
    (h : Fin 16) (q : Fin 128) (d : Fin 64) (e : Fin 1024) (he : e.val = 64 * h.val + d.val) :
    k0_pay6 x0 x1 x2 x3 x4 x5 x6 x7 x8 x9 x10 x11 x12 x13 x14 x15 (ix3 0 q e) = o h (ix2 q d) := by
  subst e0 e1 e2 e3 e4 e5 e6 e7 e8 e9 e10 e11 e12 e13 e14 e15
  exact pay6_at o h q d e he

/-- Head `k` of a split. -/
abbrev ohk (k : Fin 4) (a : Vec Ideal S1x512x256 .f32) (l : Vec Ideal S1x512x1 .f32) (w : Vec Ideal S1x256x64 .bf16) : FVec Ideal S128x64 .f32 :=
  match k with
  | 0 => oh0 a l w
  | 1 => oh1 a l w
  | 2 => oh2 a l w
  | 3 => oh3 a l w

theorem ohk_at (k : Fin 4) (a : Vec Ideal S1x512x256 .f32) (l : Vec Ideal S1x512x1 .f32) (w : Vec Ideal S1x256x64 .bf16) (q : Fin 128) (d : Fin 64) (r : Fin 512) (hr : r.val = 128 * k.val + q.val) :
    ohk k a l w (ix2 q d) = (∑ e : Fin 256, Ideal.div (a (ix3 0 r e)) (l (ix3 0 r 0)) * w (ix3 0 e d) : EReal) := by
  match k, hr with
  | 0, hr => exact oh0_at a l w q d r hr
  | 1, hr => exact oh1_at a l w q d r hr
  | 2, hr => exact oh2_at a l w q d r hr
  | 3, hr => exact oh3_at a l w q d r hr

theorem pick {A : Fin 4 → Vec Ideal S1x512x256 .f32} {L : Fin 4 → Vec Ideal S1x512x1 .f32} {w : Fin 16 → Vec Ideal S1x256x64 .bf16} (h : Fin 16) (k s : Fin 4)
    (hk : h.val % 4 = k.val) (hs : h.val / 4 = s.val) :
    ohk ⟨h.val % 4, by omega⟩ (A ⟨h.val / 4, by omega⟩) (L ⟨h.val / 4, by omega⟩) (w h) = ohk k (A s) (L s) (w h) := by
  have e1 : (⟨h.val % 4, by omega⟩ : Fin 4) = k := Fin.ext hk
  have e2 : (⟨h.val / 4, by omega⟩ : Fin 4) = s := Fin.ext hs
  rw [e1, e2]

theorem heads_at (A : Fin 4 → Vec Ideal S1x512x256 .f32) (L : Fin 4 → Vec Ideal S1x512x1 .f32) (w : Fin 16 → Vec Ideal S1x256x64 .bf16)
    (h : Fin 16) (q : Fin 128) (d : Fin 64) (e : Fin 1024) (he : e.val = 64 * h.val + d.val) :
    k0_pay6 (oh0 (A 0) (L 0) (w 0)) (oh1 (A 0) (L 0) (w 1)) (oh2 (A 0) (L 0) (w 2)) (oh3 (A 0) (L 0) (w 3)) (oh0 (A 1) (L 1) (w 4)) (oh1 (A 1) (L 1) (w 5)) (oh2 (A 1) (L 1) (w 6)) (oh3 (A 1) (L 1) (w 7)) (oh0 (A 2) (L 2) (w 8)) (oh1 (A 2) (L 2) (w 9)) (oh2 (A 2) (L 2) (w 10)) (oh3 (A 2) (L 2) (w 11)) (oh0 (A 3) (L 3) (w 12)) (oh1 (A 3) (L 3) (w 13)) (oh2 (A 3) (L 3) (w 14)) (oh3 (A 3) (L 3) (w 15)) (ix3 0 q e)
      = (∑ j : Fin 256, Ideal.div (A ⟨h.val / 4, by omega⟩ (ix3 0 ⟨128 * (h.val % 4) + q.val, by omega⟩ j)) (L ⟨h.val / 4, by omega⟩ (ix3 0 ⟨128 * (h.val % 4) + q.val, by omega⟩ 0)) * w h (ix3 0 j d) : EReal) := by
  refine (pay6_of (x0 := oh0 (A 0) (L 0) (w 0)) (x1 := oh1 (A 0) (L 0) (w 1)) (x2 := oh2 (A 0) (L 0) (w 2)) (x3 := oh3 (A 0) (L 0) (w 3)) (x4 := oh0 (A 1) (L 1) (w 4)) (x5 := oh1 (A 1) (L 1) (w 5)) (x6 := oh2 (A 1) (L 1) (w 6)) (x7 := oh3 (A 1) (L 1) (w 7)) (x8 := oh0 (A 2) (L 2) (w 8)) (x9 := oh1 (A 2) (L 2) (w 9)) (x10 := oh2 (A 2) (L 2) (w 10)) (x11 := oh3 (A 2) (L 2) (w 11)) (x12 := oh0 (A 3) (L 3) (w 12)) (x13 := oh1 (A 3) (L 3) (w 13)) (x14 := oh2 (A 3) (L 3) (w 14)) (x15 := oh3 (A 3) (L 3) (w 15)) (fun h => ohk ⟨h.val % 4, by omega⟩ (A ⟨h.val / 4, by omega⟩) (L ⟨h.val / 4, by omega⟩) (w h))
    (pick 0 0 0 rfl rfl).symm (pick 1 1 0 rfl rfl).symm (pick 2 2 0 rfl rfl).symm (pick 3 3 0 rfl rfl).symm (pick 4 0 1 rfl rfl).symm (pick 5 1 1 rfl rfl).symm (pick 6 2 1 rfl rfl).symm (pick 7 3 1 rfl rfl).symm (pick 8 0 2 rfl rfl).symm (pick 9 1 2 rfl rfl).symm (pick 10 2 2 rfl rfl).symm (pick 11 3 2 rfl rfl).symm (pick 12 0 3 rfl rfl).symm (pick 13 1 3 rfl rfl).symm (pick 14 2 3 rfl rfl).symm (pick 15 3 3 rfl rfl).symm h q d e he).trans ?_
  exact ohk_at _ _ _ _ q d _ rfl

section Out

variable (c : Dev nD) (t : Fin grid0.N) (arg2 : Memref sig .tc .vmem S1x128x4096 .bf16) (harg2 : arg2.IsWhole) (arg3 : Memref sig .tc .vmem S1x128x2048 .bf16) (harg3 : arg3.IsWhole) (arg4 : Memref sig .tc .vmem S1x4096x256 .bf16) (harg4 : arg4.IsWhole) (arg5 : Memref sig .tc .vmem S1x4096x128 .bf16) (harg5 : arg5.IsWhole) (arg6 : Memref sig .tc .vmem S16x256x64 .bf16) (harg6 : arg6.IsWhole) (arg7 : Memref sig .tc .vmem S1x128x1024 .bf16) (harg7 : arg7.IsWhole) (arg8 : Memref sig .tc .vmem S4x512x256 .bf16) (harg8 : arg8.IsWhole) (arg9 : Memref sig .tc .vmem S4x512x128 .bf16) (harg9 : arg9.IsWhole) (arg10 : Memref sig .tc .vmem S4x512x1 .f32) (harg10 : arg10.IsWhole) (arg11 : Memref sig .tc .vmem S4x512x1 .f32) (harg11 : arg11.IsWhole) (arg12 : Memref sig .tc .vmem S4x512x256 .f32) (harg12 : arg12.IsWhole)
  (x0 : Vec Ideal S1x128x4096 .bf16) (x1 : Vec Ideal S1x128x2048 .bf16) (x2 : Vec Ideal S1x4096x256 .bf16) (x3 : Vec Ideal S1x4096x128 .bf16) (x4 : Vec Ideal S16x256x64 .bf16)

theorem out_eq : out0_A_5 c (grid0.coords t) arg2 harg2 arg3 harg3 arg4 harg4 arg5 harg5 arg6 harg6 arg7 harg7 arg8 harg8 arg9 harg9 arg10 harg10 arg11 harg11 arg12 harg12 x0 x1 x2 x3 x4
    = VO0_5.read (Elt Ideal) (VO0_5.writes (Elt Ideal) VO0_5.junk [⟨Rect.unit (s := S1x128x1024) ![0, 0, 0] S1x128x1024.size inb_S1x128x1024_S1x128x1024_0_0_0, k0_pay6 (oh0 (kernelRun0_A.sl.v331 c (grid0.coords t) arg2 harg2 arg3 harg3 arg4 harg4 arg5 harg5 arg6 harg6 arg7 harg7 arg8 harg8 arg9 harg9 arg10 harg10 arg11 harg11 arg12 harg12 x0 x1 x2 x3) (kernelRun0_A.sl.v333 c (grid0.coords t) arg2 harg2 arg3 harg3 arg4 harg4 arg5 harg5 arg6 harg6 arg7 harg7 arg8 harg8 arg9 harg9 arg10 harg10 arg11 harg11 arg12 harg12 x0 x1 x2 x3) (lw arg6.view (harg6.unread x4) 0)) (oh1 (kernelRun0_A.sl.v331 c (grid0.coords t) arg2 harg2 arg3 harg3 arg4 harg4 arg5 harg5 arg6 harg6 arg7 harg7 arg8 harg8 arg9 harg9 arg10 harg10 arg11 harg11 arg12 harg12 x0 x1 x2 x3) (kernelRun0_A.sl.v333 c (grid0.coords t) arg2 harg2 arg3 harg3 arg4 harg4 arg5 harg5 arg6 harg6 arg7 harg7 arg8 harg8 arg9 harg9 arg10 harg10 arg11 harg11 arg12 harg12 x0 x1 x2 x3) (lw arg6.view (harg6.unread x4) 1)) (oh2 (kernelRun0_A.sl.v331 c (grid0.coords t) arg2 harg2 arg3 harg3 arg4 harg4 arg5 harg5 arg6 harg6 arg7 harg7 arg8 harg8 arg9 harg9 arg10 harg10 arg11 harg11 arg12 harg12 x0 x1 x2 x3) (kernelRun0_A.sl.v333 c (grid0.coords t) arg2 harg2 arg3 harg3 arg4 harg4 arg5 harg5 arg6 harg6 arg7 harg7 arg8 harg8 arg9 harg9 arg10 harg10 arg11 harg11 arg12 harg12 x0 x1 x2 x3) (lw arg6.view (harg6.unread x4) 2)) (oh3 (kernelRun0_A.sl.v331 c (grid0.coords t) arg2 harg2 arg3 harg3 arg4 harg4 arg5 harg5 arg6 harg6 arg7 harg7 arg8 harg8 arg9 harg9 arg10 harg10 arg11 harg11 arg12 harg12 x0 x1 x2 x3) (kernelRun0_A.sl.v333 c (grid0.coords t) arg2 harg2 arg3 harg3 arg4 harg4 arg5 harg5 arg6 harg6 arg7 harg7 arg8 harg8 arg9 harg9 arg10 harg10 arg11 harg11 arg12 harg12 x0 x1 x2 x3) (lw arg6.view (harg6.unread x4) 3)) (oh0 (kernelRun0_A.sl.v354 c (grid0.coords t) arg2 harg2 arg3 harg3 arg4 harg4 arg5 harg5 arg6 harg6 arg7 harg7 arg8 harg8 arg9 harg9 arg10 harg10 arg11 harg11 arg12 harg12 x0 x1 x2 x3) (kernelRun0_A.sl.v356 c (grid0.coords t) arg2 harg2 arg3 harg3 arg4 harg4 arg5 harg5 arg6 harg6 arg7 harg7 arg8 harg8 arg9 harg9 arg10 harg10 arg11 harg11 arg12 harg12 x0 x1 x2 x3) (lw arg6.view (harg6.unread x4) 4)) (oh1 (kernelRun0_A.sl.v354 c (grid0.coords t) arg2 harg2 arg3 harg3 arg4 harg4 arg5 harg5 arg6 harg6 arg7 harg7 arg8 harg8 arg9 harg9 arg10 harg10 arg11 harg11 arg12 harg12 x0 x1 x2 x3) (kernelRun0_A.sl.v356 c (grid0.coords t) arg2 harg2 arg3 harg3 arg4 harg4 arg5 harg5 arg6 harg6 arg7 harg7 arg8 harg8 arg9 harg9 arg10 harg10 arg11 harg11 arg12 harg12 x0 x1 x2 x3) (lw arg6.view (harg6.unread x4) 5)) (oh2 (kernelRun0_A.sl.v354 c (grid0.coords t) arg2 harg2 arg3 harg3 arg4 harg4 arg5 harg5 arg6 harg6 arg7 harg7 arg8 harg8 arg9 harg9 arg10 harg10 arg11 harg11 arg12 harg12 x0 x1 x2 x3) (kernelRun0_A.sl.v356 c (grid0.coords t) arg2 harg2 arg3 harg3 arg4 harg4 arg5 harg5 arg6 harg6 arg7 harg7 arg8 harg8 arg9 harg9 arg10 harg10 arg11 harg11 arg12 harg12 x0 x1 x2 x3) (lw arg6.view (harg6.unread x4) 6)) (oh3 (kernelRun0_A.sl.v354 c (grid0.coords t) arg2 harg2 arg3 harg3 arg4 harg4 arg5 harg5 arg6 harg6 arg7 harg7 arg8 harg8 arg9 harg9 arg10 harg10 arg11 harg11 arg12 harg12 x0 x1 x2 x3) (kernelRun0_A.sl.v356 c (grid0.coords t) arg2 harg2 arg3 harg3 arg4 harg4 arg5 harg5 arg6 harg6 arg7 harg7 arg8 harg8 arg9 harg9 arg10 harg10 arg11 harg11 arg12 harg12 x0 x1 x2 x3) (lw arg6.view (harg6.unread x4) 7)) (oh0 (kernelRun0_A.sl.v377 c (grid0.coords t) arg2 harg2 arg3 harg3 arg4 harg4 arg5 harg5 arg6 harg6 arg7 harg7 arg8 harg8 arg9 harg9 arg10 harg10 arg11 harg11 arg12 harg12 x0 x1 x2 x3) (kernelRun0_A.sl.v379 c (grid0.coords t) arg2 harg2 arg3 harg3 arg4 harg4 arg5 harg5 arg6 harg6 arg7 harg7 arg8 harg8 arg9 harg9 arg10 harg10 arg11 harg11 arg12 harg12 x0 x1 x2 x3) (lw arg6.view (harg6.unread x4) 8)) (oh1 (kernelRun0_A.sl.v377 c (grid0.coords t) arg2 harg2 arg3 harg3 arg4 harg4 arg5 harg5 arg6 harg6 arg7 harg7 arg8 harg8 arg9 harg9 arg10 harg10 arg11 harg11 arg12 harg12 x0 x1 x2 x3) (kernelRun0_A.sl.v379 c (grid0.coords t) arg2 harg2 arg3 harg3 arg4 harg4 arg5 harg5 arg6 harg6 arg7 harg7 arg8 harg8 arg9 harg9 arg10 harg10 arg11 harg11 arg12 harg12 x0 x1 x2 x3) (lw arg6.view (harg6.unread x4) 9)) (oh2 (kernelRun0_A.sl.v377 c (grid0.coords t) arg2 harg2 arg3 harg3 arg4 harg4 arg5 harg5 arg6 harg6 arg7 harg7 arg8 harg8 arg9 harg9 arg10 harg10 arg11 harg11 arg12 harg12 x0 x1 x2 x3) (kernelRun0_A.sl.v379 c (grid0.coords t) arg2 harg2 arg3 harg3 arg4 harg4 arg5 harg5 arg6 harg6 arg7 harg7 arg8 harg8 arg9 harg9 arg10 harg10 arg11 harg11 arg12 harg12 x0 x1 x2 x3) (lw arg6.view (harg6.unread x4) 10)) (oh3 (kernelRun0_A.sl.v377 c (grid0.coords t) arg2 harg2 arg3 harg3 arg4 harg4 arg5 harg5 arg6 harg6 arg7 harg7 arg8 harg8 arg9 harg9 arg10 harg10 arg11 harg11 arg12 harg12 x0 x1 x2 x3) (kernelRun0_A.sl.v379 c (grid0.coords t) arg2 harg2 arg3 harg3 arg4 harg4 arg5 harg5 arg6 harg6 arg7 harg7 arg8 harg8 arg9 harg9 arg10 harg10 arg11 harg11 arg12 harg12 x0 x1 x2 x3) (lw arg6.view (harg6.unread x4) 11)) (oh0 (kernelRun0_A.sl.v400 c (grid0.coords t) arg2 harg2 arg3 harg3 arg4 harg4 arg5 harg5 arg6 harg6 arg7 harg7 arg8 harg8 arg9 harg9 arg10 harg10 arg11 harg11 arg12 harg12 x0 x1 x2 x3) (kernelRun0_A.sl.v402 c (grid0.coords t) arg2 harg2 arg3 harg3 arg4 harg4 arg5 harg5 arg6 harg6 arg7 harg7 arg8 harg8 arg9 harg9 arg10 harg10 arg11 harg11 arg12 harg12 x0 x1 x2 x3) (lw arg6.view (harg6.unread x4) 12)) (oh1 (kernelRun0_A.sl.v400 c (grid0.coords t) arg2 harg2 arg3 harg3 arg4 harg4 arg5 harg5 arg6 harg6 arg7 harg7 arg8 harg8 arg9 harg9 arg10 harg10 arg11 harg11 arg12 harg12 x0 x1 x2 x3) (kernelRun0_A.sl.v402 c (grid0.coords t) arg2 harg2 arg3 harg3 arg4 harg4 arg5 harg5 arg6 harg6 arg7 harg7 arg8 harg8 arg9 harg9 arg10 harg10 arg11 harg11 arg12 harg12 x0 x1 x2 x3) (lw arg6.view (harg6.unread x4) 13)) (oh2 (kernelRun0_A.sl.v400 c (grid0.coords t) arg2 harg2 arg3 harg3 arg4 harg4 arg5 harg5 arg6 harg6 arg7 harg7 arg8 harg8 arg9 harg9 arg10 harg10 arg11 harg11 arg12 harg12 x0 x1 x2 x3) (kernelRun0_A.sl.v402 c (grid0.coords t) arg2 harg2 arg3 harg3 arg4 harg4 arg5 harg5 arg6 harg6 arg7 harg7 arg8 harg8 arg9 harg9 arg10 harg10 arg11 harg11 arg12 harg12 x0 x1 x2 x3) (lw arg6.view (harg6.unread x4) 14)) (oh3 (kernelRun0_A.sl.v400 c (grid0.coords t) arg2 harg2 arg3 harg3 arg4 harg4 arg5 harg5 arg6 harg6 arg7 harg7 arg8 harg8 arg9 harg9 arg10 harg10 arg11 harg11 arg12 harg12 x0 x1 x2 x3) (kernelRun0_A.sl.v402 c (grid0.coords t) arg2 harg2 arg3 harg3 arg4 harg4 arg5 harg5 arg6 harg6 arg7 harg7 arg8 harg8 arg9 harg9 arg10 harg10 arg11 harg11 arg12 harg12 x0 x1 x2 x3) (lw arg6.view (harg6.unread x4) 15))⟩])  := by
  unfold out0_A_5 kernelRun0_A
  dsimp only
  rfl

/-- The accumulators and the totals of the four splits, as loaded at the end. -/
abbrev sA (s : Fin 4) : Vec Ideal S1x512x256 .f32 :=
  match s with
  | 0 => kernelRun0_A.sl.v331 c (grid0.coords t) arg2 harg2 arg3 harg3 arg4 harg4 arg5 harg5 arg6 harg6 arg7 harg7 arg8 harg8 arg9 harg9 arg10 harg10 arg11 harg11 arg12 harg12 x0 x1 x2 x3
  | 1 => kernelRun0_A.sl.v354 c (grid0.coords t) arg2 harg2 arg3 harg3 arg4 harg4 arg5 harg5 arg6 harg6 arg7 harg7 arg8 harg8 arg9 harg9 arg10 harg10 arg11 harg11 arg12 harg12 x0 x1 x2 x3
  | 2 => kernelRun0_A.sl.v377 c (grid0.coords t) arg2 harg2 arg3 harg3 arg4 harg4 arg5 harg5 arg6 harg6 arg7 harg7 arg8 harg8 arg9 harg9 arg10 harg10 arg11 harg11 arg12 harg12 x0 x1 x2 x3
  | 3 => kernelRun0_A.sl.v400 c (grid0.coords t) arg2 harg2 arg3 harg3 arg4 harg4 arg5 harg5 arg6 harg6 arg7 harg7 arg8 harg8 arg9 harg9 arg10 harg10 arg11 harg11 arg12 harg12 x0 x1 x2 x3

abbrev sL (s : Fin 4) : Vec Ideal S1x512x1 .f32 :=
  match s with
  | 0 => kernelRun0_A.sl.v333 c (grid0.coords t) arg2 harg2 arg3 harg3 arg4 harg4 arg5 harg5 arg6 harg6 arg7 harg7 arg8 harg8 arg9 harg9 arg10 harg10 arg11 harg11 arg12 harg12 x0 x1 x2 x3
  | 1 => kernelRun0_A.sl.v356 c (grid0.coords t) arg2 harg2 arg3 harg3 arg4 harg4 arg5 harg5 arg6 harg6 arg7 harg7 arg8 harg8 arg9 harg9 arg10 harg10 arg11 harg11 arg12 harg12 x0 x1 x2 x3
  | 2 => kernelRun0_A.sl.v379 c (grid0.coords t) arg2 harg2 arg3 harg3 arg4 harg4 arg5 harg5 arg6 harg6 arg7 harg7 arg8 harg8 arg9 harg9 arg10 harg10 arg11 harg11 arg12 harg12 x0 x1 x2 x3
  | 3 => kernelRun0_A.sl.v402 c (grid0.coords t) arg2 harg2 arg3 harg3 arg4 harg4 arg5 harg5 arg6 harg6 arg7 harg7 arg8 harg8 arg9 harg9 arg10 harg10 arg11 harg11 arg12 harg12 x0 x1 x2 x3

theorem sA_at (s : Fin 4) (r : Fin 512) (j : Fin 256) : sA c t arg2 harg2 arg3 harg3 arg4 harg4 arg5 harg5 arg6 harg6 arg7 harg7 arg8 harg8 arg9 harg9 arg10 harg10 arg11 harg11 arg12 harg12 x0 x1 x2 x3 s (ix3 0 r j) = arg12.view.read (Elt Ideal) (arg12.view.writes (Elt Ideal) arg12.view.junk (kernelRun0_A.sl.HS4_4 c (grid0.coords t) arg2 harg2 arg3 harg3 arg4 harg4 arg5 harg5 arg6 harg6 arg7 harg7 arg8 harg8 arg9 harg9 arg10 harg10 arg11 harg11 arg12 harg12 x0 x1 x2 x3)) (ix3 s r j) := by
  match s with
  | 0 =>
    unfold sA kernelRun0_A.sl.v331
    exact slab_load arg12.view _ 0 (inb256 0) r j
  | 1 =>
    unfold sA kernelRun0_A.sl.v354
    exact slab_load arg12.view _ 1 (inb256 1) r j
  | 2 =>
    unfold sA kernelRun0_A.sl.v377
    exact slab_load arg12.view _ 2 (inb256 2) r j
  | 3 =>
    unfold sA kernelRun0_A.sl.v400
    exact slab_load arg12.view _ 3 (inb256 3) r j

theorem sL_at (s : Fin 4) (r : Fin 512) : sL c t arg2 harg2 arg3 harg3 arg4 harg4 arg5 harg5 arg6 harg6 arg7 harg7 arg8 harg8 arg9 harg9 arg10 harg10 arg11 harg11 arg12 harg12 x0 x1 x2 x3 s (ix3 0 r 0) = arg11.view.read (Elt Ideal) (arg11.view.writes (Elt Ideal) arg11.view.junk (kernelRun0_A.sl.HS3_4 c (grid0.coords t) arg2 harg2 arg3 harg3 arg4 harg4 arg5 harg5 arg6 harg6 arg7 harg7 arg8 harg8 arg9 harg9 arg10 harg10 arg11 harg11 arg12 harg12 x0 x1 x2 x3)) (ix3 s r 0) := by
  match s with
  | 0 =>
    unfold sL kernelRun0_A.sl.v333
    exact slab_load arg11.view _ 0 (inb1 0) r 0
  | 1 =>
    unfold sL kernelRun0_A.sl.v356
    exact slab_load arg11.view _ 1 (inb1 1) r 0
  | 2 =>
    unfold sL kernelRun0_A.sl.v379
    exact slab_load arg11.view _ 2 (inb1 2) r 0
  | 3 =>
    unfold sL kernelRun0_A.sl.v402
    exact slab_load arg11.view _ 3 (inb1 3) r 0

variable (KV : ℕ → Fin 256 → ℝ) (KR : ℕ → Fin 128 → ℝ) (Q0 : Fin 128 → Fin 4096 → ℝ) (Q1 : Fin 128 → Fin 2048 → ℝ)
  (h0 : ∀ q d, x0 (ix3 0 q d) = (Q0 q d : EReal)) (h1 : ∀ q d, x1 (ix3 0 q d) = (Q1 q d : EReal))
  (h2 : ∀ (k : Fin 4096) d, x2 (ix3 0 k d) = (KV k d : EReal)) (h3 : ∀ (k : Fin 4096) d, x3 (ix3 0 k d) = (KR k d : EReal))

include h0 h1 h2 h3 in
theorem key (h : Fin 16) (q : Fin 128) (j : Fin 256) :
    Ideal.div (arg12.view.read (Elt Ideal) (arg12.view.writes (Elt Ideal) arg12.view.junk (kernelRun0_A.sl.HS4_4 c (grid0.coords t) arg2 harg2 arg3 harg3 arg4 harg4 arg5 harg5 arg6 harg6 arg7 harg7 arg8 harg8 arg9 harg9 arg10 harg10 arg11 harg11 arg12 harg12 x0 x1 x2 x3)) (ix3 ⟨h.val / 4, by omega⟩ ⟨128 * (h.val % 4) + q.val, by omega⟩ j))
        (arg11.view.read (Elt Ideal) (arg11.view.writes (Elt Ideal) arg11.view.junk (kernelRun0_A.sl.HS3_4 c (grid0.coords t) arg2 harg2 arg3 harg3 arg4 harg4 arg5 harg5 arg6 harg6 arg7 harg7 arg8 harg8 arg9 harg9 arg10 harg10 arg11 harg11 arg12 harg12 x0 x1 x2 x3)) (ix3 ⟨h.val / 4, by omega⟩ ⟨128 * (h.val % 4) + q.val, by omega⟩ 0))
      = ((Online.att (fun k => k ≤ 128 * (grid0.coords t 1).val + q.val)
          (lg KV KR (fun d => Q0 q (⟨256 * h.val + d.val, by omega⟩ : Fin 4096)) fun d => Q1 q (⟨128 * h.val + d.val, by omega⟩ : Fin 2048))
          (1024 * ((grid0.coords t 1).val / 8) + 1024) fun k => KV k j : ℝ) : EReal) := by
  obtain ⟨m, hm⟩ := final_rows c t arg2 harg2 arg3 harg3 arg4 harg4 arg5 harg5 arg6 harg6 arg7 harg7 arg8 harg8 arg9 harg9 arg10 harg10 arg11 harg11 arg12 harg12 x0 x1 x2 x3 h0 h1 h2 h3 ⟨h.val / 4, by omega⟩ ⟨128 * (h.val % 4) + q.val, by omega⟩
  refine (hm.quot (by omega) (Nat.zero_le _) j).trans ?_
  have e1 : (128 * (h.val % 4) + q.val) % 128 = q.val := by omega
  have e3 : 4 * (h.val / 4) + (128 * (h.val % 4) + q.val) / 128 = h.val := by omega
  simp only [e1, e3, Fin.eta]

include h0 h1 h2 h3 in
/-- The block the grid point stores: at query `q` and column `64 * h + d`, head `h`'s attention over the rows
    `k ≤ 128 * i + q`, times its up-projection. -/
theorem out_at (h : Fin 16) (q : Fin 128) (d : Fin 64) (e : Fin 1024) (he : e.val = 64 * h.val + d.val) :
    out0_A_5 c (grid0.coords t) arg2 harg2 arg3 harg3 arg4 harg4 arg5 harg5 arg6 harg6 arg7 harg7 arg8 harg8 arg9 harg9 arg10 harg10 arg11 harg11 arg12 harg12 x0 x1 x2 x3 x4 (ix3 0 q e)
      = (∑ j : Fin 256, ((Online.att (fun k => k ≤ 128 * (grid0.coords t 1).val + q.val)
          (lg KV KR (fun d => Q0 q (⟨256 * h.val + d.val, by omega⟩ : Fin 4096)) fun d => Q1 q (⟨128 * h.val + d.val, by omega⟩ : Fin 2048))
          (1024 * ((grid0.coords t 1).val / 8) + 1024) fun k => KV k j : ℝ) : EReal) * x4 (ix3 h j d) : EReal) := by
  rw [out_eq]
  refine (View.read_writes_cons_unit_of_mem VO0_5 _ _ _ _ _ (ix3 0 q e) rfl (fun a => ?_)).trans ?_
  · match a with | ⟨0, _⟩ => rfl | ⟨1, _⟩ => exact (Nat.zero_add _).symm | ⟨2, _⟩ => exact (Nat.zero_add _).symm
  have pc : k0_pay6 (oh0 (kernelRun0_A.sl.v331 c (grid0.coords t) arg2 harg2 arg3 harg3 arg4 harg4 arg5 harg5 arg6 harg6 arg7 harg7 arg8 harg8 arg9 harg9 arg10 harg10 arg11 harg11 arg12 harg12 x0 x1 x2 x3) (kernelRun0_A.sl.v333 c (grid0.coords t) arg2 harg2 arg3 harg3 arg4 harg4 arg5 harg5 arg6 harg6 arg7 harg7 arg8 harg8 arg9 harg9 arg10 harg10 arg11 harg11 arg12 harg12 x0 x1 x2 x3) (lw arg6.view (harg6.unread x4) 0)) (oh1 (kernelRun0_A.sl.v331 c (grid0.coords t) arg2 harg2 arg3 harg3 arg4 harg4 arg5 harg5 arg6 harg6 arg7 harg7 arg8 harg8 arg9 harg9 arg10 harg10 arg11 harg11 arg12 harg12 x0 x1 x2 x3) (kernelRun0_A.sl.v333 c (grid0.coords t) arg2 harg2 arg3 harg3 arg4 harg4 arg5 harg5 arg6 harg6 arg7 harg7 arg8 harg8 arg9 harg9 arg10 harg10 arg11 harg11 arg12 harg12 x0 x1 x2 x3) (lw arg6.view (harg6.unread x4) 1)) (oh2 (kernelRun0_A.sl.v331 c (grid0.coords t) arg2 harg2 arg3 harg3 arg4 harg4 arg5 harg5 arg6 harg6 arg7 harg7 arg8 harg8 arg9 harg9 arg10 harg10 arg11 harg11 arg12 harg12 x0 x1 x2 x3) (kernelRun0_A.sl.v333 c (grid0.coords t) arg2 harg2 arg3 harg3 arg4 harg4 arg5 harg5 arg6 harg6 arg7 harg7 arg8 harg8 arg9 harg9 arg10 harg10 arg11 harg11 arg12 harg12 x0 x1 x2 x3) (lw arg6.view (harg6.unread x4) 2)) (oh3 (kernelRun0_A.sl.v331 c (grid0.coords t) arg2 harg2 arg3 harg3 arg4 harg4 arg5 harg5 arg6 harg6 arg7 harg7 arg8 harg8 arg9 harg9 arg10 harg10 arg11 harg11 arg12 harg12 x0 x1 x2 x3) (kernelRun0_A.sl.v333 c (grid0.coords t) arg2 harg2 arg3 harg3 arg4 harg4 arg5 harg5 arg6 harg6 arg7 harg7 arg8 harg8 arg9 harg9 arg10 harg10 arg11 harg11 arg12 harg12 x0 x1 x2 x3) (lw arg6.view (harg6.unread x4) 3)) (oh0 (kernelRun0_A.sl.v354 c (grid0.coords t) arg2 harg2 arg3 harg3 arg4 harg4 arg5 harg5 arg6 harg6 arg7 harg7 arg8 harg8 arg9 harg9 arg10 harg10 arg11 harg11 arg12 harg12 x0 x1 x2 x3) (kernelRun0_A.sl.v356 c (grid0.coords t) arg2 harg2 arg3 harg3 arg4 harg4 arg5 harg5 arg6 harg6 arg7 harg7 arg8 harg8 arg9 harg9 arg10 harg10 arg11 harg11 arg12 harg12 x0 x1 x2 x3) (lw arg6.view (harg6.unread x4) 4)) (oh1 (kernelRun0_A.sl.v354 c (grid0.coords t) arg2 harg2 arg3 harg3 arg4 harg4 arg5 harg5 arg6 harg6 arg7 harg7 arg8 harg8 arg9 harg9 arg10 harg10 arg11 harg11 arg12 harg12 x0 x1 x2 x3) (kernelRun0_A.sl.v356 c (grid0.coords t) arg2 harg2 arg3 harg3 arg4 harg4 arg5 harg5 arg6 harg6 arg7 harg7 arg8 harg8 arg9 harg9 arg10 harg10 arg11 harg11 arg12 harg12 x0 x1 x2 x3) (lw arg6.view (harg6.unread x4) 5)) (oh2 (kernelRun0_A.sl.v354 c (grid0.coords t) arg2 harg2 arg3 harg3 arg4 harg4 arg5 harg5 arg6 harg6 arg7 harg7 arg8 harg8 arg9 harg9 arg10 harg10 arg11 harg11 arg12 harg12 x0 x1 x2 x3) (kernelRun0_A.sl.v356 c (grid0.coords t) arg2 harg2 arg3 harg3 arg4 harg4 arg5 harg5 arg6 harg6 arg7 harg7 arg8 harg8 arg9 harg9 arg10 harg10 arg11 harg11 arg12 harg12 x0 x1 x2 x3) (lw arg6.view (harg6.unread x4) 6)) (oh3 (kernelRun0_A.sl.v354 c (grid0.coords t) arg2 harg2 arg3 harg3 arg4 harg4 arg5 harg5 arg6 harg6 arg7 harg7 arg8 harg8 arg9 harg9 arg10 harg10 arg11 harg11 arg12 harg12 x0 x1 x2 x3) (kernelRun0_A.sl.v356 c (grid0.coords t) arg2 harg2 arg3 harg3 arg4 harg4 arg5 harg5 arg6 harg6 arg7 harg7 arg8 harg8 arg9 harg9 arg10 harg10 arg11 harg11 arg12 harg12 x0 x1 x2 x3) (lw arg6.view (harg6.unread x4) 7)) (oh0 (kernelRun0_A.sl.v377 c (grid0.coords t) arg2 harg2 arg3 harg3 arg4 harg4 arg5 harg5 arg6 harg6 arg7 harg7 arg8 harg8 arg9 harg9 arg10 harg10 arg11 harg11 arg12 harg12 x0 x1 x2 x3) (kernelRun0_A.sl.v379 c (grid0.coords t) arg2 harg2 arg3 harg3 arg4 harg4 arg5 harg5 arg6 harg6 arg7 harg7 arg8 harg8 arg9 harg9 arg10 harg10 arg11 harg11 arg12 harg12 x0 x1 x2 x3) (lw arg6.view (harg6.unread x4) 8)) (oh1 (kernelRun0_A.sl.v377 c (grid0.coords t) arg2 harg2 arg3 harg3 arg4 harg4 arg5 harg5 arg6 harg6 arg7 harg7 arg8 harg8 arg9 harg9 arg10 harg10 arg11 harg11 arg12 harg12 x0 x1 x2 x3) (kernelRun0_A.sl.v379 c (grid0.coords t) arg2 harg2 arg3 harg3 arg4 harg4 arg5 harg5 arg6 harg6 arg7 harg7 arg8 harg8 arg9 harg9 arg10 harg10 arg11 harg11 arg12 harg12 x0 x1 x2 x3) (lw arg6.view (harg6.unread x4) 9)) (oh2 (kernelRun0_A.sl.v377 c (grid0.coords t) arg2 harg2 arg3 harg3 arg4 harg4 arg5 harg5 arg6 harg6 arg7 harg7 arg8 harg8 arg9 harg9 arg10 harg10 arg11 harg11 arg12 harg12 x0 x1 x2 x3) (kernelRun0_A.sl.v379 c (grid0.coords t) arg2 harg2 arg3 harg3 arg4 harg4 arg5 harg5 arg6 harg6 arg7 harg7 arg8 harg8 arg9 harg9 arg10 harg10 arg11 harg11 arg12 harg12 x0 x1 x2 x3) (lw arg6.view (harg6.unread x4) 10)) (oh3 (kernelRun0_A.sl.v377 c (grid0.coords t) arg2 harg2 arg3 harg3 arg4 harg4 arg5 harg5 arg6 harg6 arg7 harg7 arg8 harg8 arg9 harg9 arg10 harg10 arg11 harg11 arg12 harg12 x0 x1 x2 x3) (kernelRun0_A.sl.v379 c (grid0.coords t) arg2 harg2 arg3 harg3 arg4 harg4 arg5 harg5 arg6 harg6 arg7 harg7 arg8 harg8 arg9 harg9 arg10 harg10 arg11 harg11 arg12 harg12 x0 x1 x2 x3) (lw arg6.view (harg6.unread x4) 11)) (oh0 (kernelRun0_A.sl.v400 c (grid0.coords t) arg2 harg2 arg3 harg3 arg4 harg4 arg5 harg5 arg6 harg6 arg7 harg7 arg8 harg8 arg9 harg9 arg10 harg10 arg11 harg11 arg12 harg12 x0 x1 x2 x3) (kernelRun0_A.sl.v402 c (grid0.coords t) arg2 harg2 arg3 harg3 arg4 harg4 arg5 harg5 arg6 harg6 arg7 harg7 arg8 harg8 arg9 harg9 arg10 harg10 arg11 harg11 arg12 harg12 x0 x1 x2 x3) (lw arg6.view (harg6.unread x4) 12)) (oh1 (kernelRun0_A.sl.v400 c (grid0.coords t) arg2 harg2 arg3 harg3 arg4 harg4 arg5 harg5 arg6 harg6 arg7 harg7 arg8 harg8 arg9 harg9 arg10 harg10 arg11 harg11 arg12 harg12 x0 x1 x2 x3) (kernelRun0_A.sl.v402 c (grid0.coords t) arg2 harg2 arg3 harg3 arg4 harg4 arg5 harg5 arg6 harg6 arg7 harg7 arg8 harg8 arg9 harg9 arg10 harg10 arg11 harg11 arg12 harg12 x0 x1 x2 x3) (lw arg6.view (harg6.unread x4) 13)) (oh2 (kernelRun0_A.sl.v400 c (grid0.coords t) arg2 harg2 arg3 harg3 arg4 harg4 arg5 harg5 arg6 harg6 arg7 harg7 arg8 harg8 arg9 harg9 arg10 harg10 arg11 harg11 arg12 harg12 x0 x1 x2 x3) (kernelRun0_A.sl.v402 c (grid0.coords t) arg2 harg2 arg3 harg3 arg4 harg4 arg5 harg5 arg6 harg6 arg7 harg7 arg8 harg8 arg9 harg9 arg10 harg10 arg11 harg11 arg12 harg12 x0 x1 x2 x3) (lw arg6.view (harg6.unread x4) 14)) (oh3 (kernelRun0_A.sl.v400 c (grid0.coords t) arg2 harg2 arg3 harg3 arg4 harg4 arg5 harg5 arg6 harg6 arg7 harg7 arg8 harg8 arg9 harg9 arg10 harg10 arg11 harg11 arg12 harg12 x0 x1 x2 x3) (kernelRun0_A.sl.v402 c (grid0.coords t) arg2 harg2 arg3 harg3 arg4 harg4 arg5 harg5 arg6 harg6 arg7 harg7 arg8 harg8 arg9 harg9 arg10 harg10 arg11 harg11 arg12 harg12 x0 x1 x2 x3) (lw arg6.view (harg6.unread x4) 15)) (ix3 0 q e) = (∑ j : Fin 256, Ideal.div (arg12.view.read (Elt Ideal) (arg12.view.writes (Elt Ideal) arg12.view.junk (kernelRun0_A.sl.HS4_4 c (grid0.coords t) arg2 harg2 arg3 harg3 arg4 harg4 arg5 harg5 arg6 harg6 arg7 harg7 arg8 harg8 arg9 harg9 arg10 harg10 arg11 harg11 arg12 harg12 x0 x1 x2 x3)) (ix3 ⟨h.val / 4, by omega⟩ ⟨128 * (h.val % 4) + q.val, by omega⟩ j))
        (arg11.view.read (Elt Ideal) (arg11.view.writes (Elt Ideal) arg11.view.junk (kernelRun0_A.sl.HS3_4 c (grid0.coords t) arg2 harg2 arg3 harg3 arg4 harg4 arg5 harg5 arg6 harg6 arg7 harg7 arg8 harg8 arg9 harg9 arg10 harg10 arg11 harg11 arg12 harg12 x0 x1 x2 x3)) (ix3 ⟨h.val / 4, by omega⟩ ⟨128 * (h.val % 4) + q.val, by omega⟩ 0)) * x4 (ix3 h j d) : EReal) := by
    refine (heads_at (sA c t arg2 harg2 arg3 harg3 arg4 harg4 arg5 harg5 arg6 harg6 arg7 harg7 arg8 harg8 arg9 harg9 arg10 harg10 arg11 harg11 arg12 harg12 x0 x1 x2 x3) (sL c t arg2 harg2 arg3 harg3 arg4 harg4 arg5 harg5 arg6 harg6 arg7 harg7 arg8 harg8 arg9 harg9 arg10 harg10 arg11 harg11 arg12 harg12 x0 x1 x2 x3) (lw arg6.view (harg6.unread x4)) h q d e he).trans ?_
    exact Finset.sum_congr rfl fun j _ => congrArg₂ (· * ·) (congrArg₂ Ideal.div (sA_at c t arg2 harg2 arg3 harg3 arg4 harg4 arg5 harg5 arg6 harg6 arg7 harg7 arg8 harg8 arg9 harg9 arg10 harg10 arg11 harg11 arg12 harg12 x0 x1 x2 x3 _ _ j) (sL_at c t arg2 harg2 arg3 harg3 arg4 harg4 arg5 harg5 arg6 harg6 arg7 harg7 arg8 harg8 arg9 harg9 arg10 harg10 arg11 harg11 arg12 harg12 x0 x1 x2 x3 _ _)) (lw_at arg6 harg6 x4 h j d)
  refine pc.trans (Finset.sum_congr rfl fun j _ => ?_)
  rw [key c t arg2 harg2 arg3 harg3 arg4 harg4 arg5 harg5 arg6 harg6 arg7 harg7 arg8 harg8 arg9 harg9 arg10 harg10 arg11 harg11 arg12 harg12 x0 x1 x2 x3 KV KR Q0 Q1 h0 h1 h2 h3 h q j]

end Out

end Cert.KernelIdeal.Attn

end
-- ==== Proof.Ref.lean ====
/- The reference at an index: the causal softmax of each head's logits, weighting the latent rows. -/
module

public import proofs.«01_k».proof.Proof.Online
public import proofs.«01_k».proof.Proof.Gen.ReferenceIdeal.Run
public import proofs.«01_k».proof.Proof.Gen.ReferenceIdeal.Read
public import Idealize.ShloMosaic.Lib.Pointwise

@[expose] public section

set_option maxRecDepth 16384

noncomputable section

namespace Cert.ReferenceIdeal.Attn

open Idealize.ShloMosaic Idealize.ShloMosaic.TcCoe Idealize.SL.Sem
open Cert.ReferenceIdeal Cert.ReferenceIdeal.Gen Cert.ReferenceIdeal.Value Cert.ReferenceIdeal.Read

variable (x0 : Vec Ideal S4x4096x16x256 .f32) (x1 : Vec Ideal S4x4096x16x32 .f32) (x2 : Vec Ideal S4x4096x256 .f32) (x3 : Vec Ideal S4x4096x32 .f32) (x4 : Vec Ideal S16x256x64 .f32)

/-- The scale, 1/√96. -/
def scR : ℝ := (Ideal.ofBits .f32 1037108716#32).toReal

theorem sc_coe : Ideal.ofBits .f32 1037108716#32 = ((scR : ℝ) : EReal) := by
  unfold scR
  refine (EReal.coe_toReal ?_ ?_).symm
  all_goals
    simp [Ideal.ofBits, Ideal.ieee, -EReal.coe_mul]

theorem neg_inf : Ideal.ofBits .f32 4286578688#32 = (⊥ : EReal) := by simp [Ideal.ofBits, Ideal.ieee]

theorem v7_at (b : Fin 4) (h : Fin 16) (t k : Fin 4096) : val_main_v7 (F := Ideal) x0 x1 x2 x3 (ix4 b h t k)
    = ((∑ d : Fin 256, x2 (ix3 b k d) * x0 (ix4 b t h d) + ∑ d : Fin 32, x3 (ix3 b k d) * x1 (ix4 b t h d)) * Ideal.ofBits .f32 1037108716#32 : EReal) := by
  pointwise [val_main_v7, val_main_v6, val_main_cst, val_main_v5, val_main_v4, val_main_v3, val_main_v2, val_main_v1]

theorem mask_at (b : Fin 4) (h : Fin 16) (t k : Fin 4096) : val_main_call0_v1 (F := Ideal) (ix4 b h t k) = IntOp.cmpi .sge (BitVec.ofNat 32 t.val) (BitVec.ofNat 32 k.val) := by
  pointwise [val_main_call0_v1, val_main_v12, val_main_v11, val_main_v10, val_main_v9, val_main_v8, val_main_v0]

theorem mask1_at (b : Fin 4) (h : Fin 16) (t k : Fin 4096) : val_main_call1_v1 (F := Ideal) (ix4 b h t k) = IntOp.cmpi .sge (BitVec.ofNat 32 t.val) (BitVec.ofNat 32 k.val) := by
  pointwise [val_main_call1_v1, val_main_v12, val_main_v11, val_main_v10, val_main_v9, val_main_v8, val_main_v0]

theorem sge_iff (t k : Fin 4096) : IntOp.cmpi .sge (BitVec.ofNat 32 t.val) (BitVec.ofNat 32 k.val) = if k.val ≤ t.val then 1#1 else 0#1 := by
  have h1 : (BitVec.ofNat 32 t.val).toInt = t.val := by rw [BitVec.toInt_ofNat']; simp only [Int.bmod]; omega
  have h2 : (BitVec.ofNat 32 k.val).toInt = k.val := by rw [BitVec.toInt_ofNat']; simp only [Int.bmod]; omega
  unfold IntOp.cmpi
  simp only [BitVec.sle, h1, h2]
  by_cases hk : k ≤ t <;> simp [hk]

theorem v13_at (b : Fin 4) (h : Fin 16) (t k : Fin 4096) : val_main_v13 (F := Ideal) x0 x1 x2 x3 (ix4 b h t k)
    = Scalar.select (val_main_call0_v1 (F := Ideal) (ix4 b h t k)) (val_main_v7 (F := Ideal) x0 x1 x2 x3 (ix4 b h t k)) (⊥ : EReal) := by
  rw [val_main_v13_apply, val_main_call0_v2_apply, val_main_call0_v0_apply, val_main_cst_0_apply]
  exact congrArg _ neg_inf

theorem v14_at (b : Fin 4) (h : Fin 16) (t : Fin 4096) : val_main_v14 (F := Ideal) x0 x1 x2 x3 (ix3 b h t) = Finset.univ.fold max (⊥ : EReal) fun k => val_main_v13 (F := Ideal) x0 x1 x2 x3 (ix4 b h t k) := by
  unfold val_main_v14
  generalize val_main_v13 (F := Ideal) x0 x1 x2 x3 = y
  pointwise [val_main_cst_1, neg_inf]

theorem v18_at (b : Fin 4) (h : Fin 16) (t k : Fin 4096) : val_main_v18 (F := Ideal) x0 x1 x2 x3 (ix4 b h t k) = val_main_v14 (F := Ideal) x0 x1 x2 x3 (ix3 b h t) := by
  rw [val_main_v18_apply, val_main_v17_apply, val_main_v16_apply, val_main_v15_apply, val_main_cst_2_apply]
  have e : idx_main_v17 (idx_main_v18 (ix4 b h t k)) = ix3 b h t := by idx_ext
  rw [e]
  generalize val_main_v14 (F := Ideal) x0 x1 x2 x3 (ix3 b h t) = z
  show max (Ideal.ofBits .f32 4286578688#32) z = z
  rw [neg_inf]
  exact max_eq_right bot_le

theorem v20_at (b : Fin 4) (h : Fin 16) (t k : Fin 4096) : val_main_v20 (F := Ideal) x0 x1 x2 x3 (ix4 b h t k)
    = Ideal.exp (val_main_v13 (F := Ideal) x0 x1 x2 x3 (ix4 b h t k) - val_main_v14 (F := Ideal) x0 x1 x2 x3 (ix3 b h t)) := by
  rw [val_main_v20_apply, val_main_v19_apply, v18_at]
  rfl

theorem v23_at (b : Fin 4) (h : Fin 16) (t k : Fin 4096) : val_main_v23 (F := Ideal) x0 x1 x2 x3 (ix4 b h t k)
    = (∑ j : Fin 4096, val_main_v20 (F := Ideal) x0 x1 x2 x3 (ix4 b h t j) : EReal) := by
  rw [val_main_v23_apply, val_main_v22_apply, val_main_v21_apply, val_main_cst_3_apply]
  refine (congrArg (fun z : EReal => z + _) Ideal.ofBits_zero_f32).trans ((zero_add _).trans (Finset.sum_congr rfl fun j _ => congrArg _ (by idx_ext)))

theorem v25_at (b : Fin 4) (h : Fin 16) (t k : Fin 4096)  :
    val_main_v25 (F := Ideal) x0 x1 x2 x3 (ix4 b h t k) = Scalar.select (val_main_call1_v1 (F := Ideal) (ix4 b h t k))
      (Ideal.div (val_main_v20 (F := Ideal) x0 x1 x2 x3 (ix4 b h t k)) (∑ j : Fin 4096, val_main_v20 (F := Ideal) x0 x1 x2 x3 (ix4 b h t j) : EReal)) (0 : EReal) := by
  rw [val_main_v25_apply, val_main_v24_apply, v23_at, val_main_call1_v2_apply, val_main_call1_v0_apply, val_main_cst_4_apply]
  exact congrArg _ Ideal.ofBits_zero_f32

theorem v31_at (b : Fin 4) (h : Fin 16) (t : Fin 4096) (d : Fin 64) (e : Fin 1024) (he : e.val = 64 * h.val + d.val) :
    val_main_v31 (F := Ideal) x0 x1 x2 x3 x4 (ix3 b t e)
      = (∑ j : Fin 256, x4 (ix3 h j d) * ∑ k : Fin 4096, x2 (ix3 b k j) * val_main_v25 (F := Ideal) x0 x1 x2 x3 (ix4 b h t k) : EReal) := by
  have hb : 64 * h.val + d.val < 1024 := by omega
  obtain rfl : e = ⟨64 * h.val + d.val, hb⟩ := Fin.ext he
  pointwise [val_main_v31, val_main_v30, val_main_v29, val_main_v28, val_main_v27, val_main_v26]

section Real

variable {A : Fin 4 → Fin 4096 → Fin 16 → Fin 256 → ℝ} {B : Fin 4 → Fin 4096 → Fin 16 → Fin 32 → ℝ} {C : Fin 4 → ℕ → Fin 256 → ℝ} {R : Fin 4 → ℕ → Fin 32 → ℝ}
  (h0 : ∀ b t h d, x0 (ix4 b t h d) = ((A b t h d : ℝ) : EReal)) (h1 : ∀ b t h d, x1 (ix4 b t h d) = ((B b t h d : ℝ) : EReal))
  (h2 : ∀ b (k : Fin 4096) d, x2 (ix3 b k d) = ((C b k.val d : ℝ) : EReal)) (h3 : ∀ b (k : Fin 4096) d, x3 (ix3 b k d) = ((R b k.val d : ℝ) : EReal))

include h0 h1 h2 h3

theorem logit (b : Fin 4) (h : Fin 16) (t k : Fin 4096) : val_main_v7 (F := Ideal) x0 x1 x2 x3 (ix4 b h t k)
    = (((∑ d : Fin 256, C b k.val d * A b t h d + ∑ d : Fin 32, R b k.val d * B b t h d) * scR : ℝ) : EReal) := by
  rw [v7_at, sc_coe]
  simp only [h0, h1, h2, h3, ← EReal.coe_mul, ← EReal.coe_add, ← Cert.Online.coe_sum]

/-- The reference at query `t` and column `64 * h + d`. -/
theorem ref_at (b : Fin 4) (h : Fin 16) (t : Fin 4096) (d : Fin 64) (e : Fin 1024) (he : e.val = 64 * h.val + d.val) :
    val_main_v31 (F := Ideal) x0 x1 x2 x3 x4 (ix3 b t e)
      = (∑ j : Fin 256, x4 (ix3 h j d) * ((Cert.Online.att (fun k => k ≤ t.val)
          (fun k => (∑ d : Fin 256, C b k d * A b t h d + ∑ d : Fin 32, R b k d * B b t h d) * scR) 4096 fun k => C b k j : ℝ) : EReal) : EReal) := by
  rw [v31_at x0 x1 x2 x3 x4 b h t d e he]
  refine Finset.sum_congr rfl fun j _ => congrArg _ ?_
  have hy : ∀ k : Fin 4096, val_main_v13 (F := Ideal) x0 x1 x2 x3 (ix4 b h t k) = if k.val ≤ t.val then (((∑ d : Fin 256, C b k.val d * A b t h d + ∑ d : Fin 32, R b k.val d * B b t h d) * scR : ℝ) : EReal) else ⊥ := by
    intro k
    rw [v13_at, mask_at, sge_iff, logit x0 x1 x2 x3 h0 h1 h2 h3]
    split <;> rfl
  refine Cert.Online.plain (vis := fun k => k ≤ t.val) (X := fun k => (∑ d : Fin 256, C b k d * A b t h d + ∑ d : Fin 32, R b k d * B b t h d) * scR) (by decide) (Nat.zero_le _) (fun k => C b k j)
    (fun k => val_main_v13 (F := Ideal) x0 x1 x2 x3 (ix4 b h t k)) hy _ _ (fun k => h2 b k j) fun k => ?_
  rw [v25_at, mask1_at, sge_iff]
  simp only [v20_at, v14_at]
  split <;> rfl

end Real

end Cert.ReferenceIdeal.Attn

end
-- ==== Proof.Prep.lean ====
/- The arrays the pallas call is handed: the scaled queries and the padded keys, as real numbers. -/
module

public import proofs.«01_k».proof.Proof.Gen.KernelIdeal.Value
public import Idealize.ShloMosaic.Lib.Pointwise
public import Idealize.ShloMosaic.Lib.Claim

@[expose] public section

set_option maxRecDepth 16384

noncomputable section

namespace Cert.KernelIdeal.Attn

open Idealize.ShloMosaic Idealize.ShloMosaic.TcCoe Idealize.SL.Sem
open Cert.KernelIdeal Cert.KernelIdeal.Gen

variable (m : (ℓ : Loc nD τ sig) → Buf (Elt Ideal) ℓ) (c : Dev nD)

/-- The arguments. -/
abbrev aQ : Vec Ideal S4x4096x16x256 .f32 := m ((c : Thread nD τ).loc main_arg0)
abbrev aR : Vec Ideal S4x4096x16x32 .f32 := m ((c : Thread nD τ).loc main_arg1)
abbrev aC : Vec Ideal S4x4096x256 .f32 := m ((c : Thread nD τ).loc main_arg2)
abbrev aK : Vec Ideal S4x4096x32 .f32 := m ((c : Thread nD τ).loc main_arg3)
abbrev aW : Vec Ideal S16x256x64 .f32 := m ((c : Thread nD τ).loc main_arg4)

theorem sitofp_zero : (FloatOps.sitofp (F := Ideal) .f32 (0#32) : EReal) = 0 := by
  show (((0#32 : BitVec 32).toInt : ℝ) : EReal) = 0
  simp

theorem in_qa (b : Fin 4) (t : Fin 4096) (h : Fin 16) (d : Fin 256) (e : Fin 4096) (he : e.val = 256 * h.val + d.val) :
    @Eq EReal (V m c main_v11 (ix3 b t e)) (aQ m c (ix4 b t h d) * Ideal.ofBits .f32 1037108716#32) := by
  have hb : 256 * h.val + d.val < 4096 := by omega
  obtain rfl : e = ⟨256 * h.val + d.val, hb⟩ := Fin.ext he
  simp only [V, hostOps0, hostOps0_1, hostOps0_2, hostOps0_3, hostOps0_4, List.flatten_cons, List.flatten_nil, List.cons_append, List.nil_append, List.append_nil, StableHlo.TRef.ternary, StableHlo.TRef.binary, StableHlo.TRef.unary, StableHlo.TRef.toBuf, StableHlo.TRef.ofBuf, cast_eq]
  after_results_simp
  pointwise []

theorem in_qr (b : Fin 4) (t : Fin 4096) (h : Fin 16) (d : Fin 128) (e : Fin 2048) (he : e.val = 128 * h.val + d.val) :
    @Eq EReal (V m c main_v12 (ix3 b t e)) (if hd : d.val < 32 then aR m c (ix4 b t h ⟨d.val, hd⟩) * Ideal.ofBits .f32 1037108716#32 else 0) := by
  have hb : 128 * h.val + d.val < 2048 := by omega
  obtain rfl : e = ⟨128 * h.val + d.val, hb⟩ := Fin.ext he
  simp only [V, hostOps0, hostOps0_1, hostOps0_2, hostOps0_3, hostOps0_4, List.flatten_cons, List.flatten_nil, List.cons_append, List.nil_append, List.append_nil, StableHlo.TRef.ternary, StableHlo.TRef.binary, StableHlo.TRef.unary, StableHlo.TRef.toBuf, StableHlo.TRef.ofBuf, cast_eq]
  after_results_simp
  pointwise []
  split
  · rfl
  · exact sitofp_zero

theorem in_kr (b : Fin 4) (t : Fin 4096) (d : Fin 128) :
    @Eq EReal (V m c main_v8 (ix3 b t d)) (if hd : d.val < 32 then aK m c (ix3 b t ⟨d.val, hd⟩) else 0) := by
  simp only [V, hostOps0, hostOps0_1, hostOps0_2, hostOps0_3, hostOps0_4, List.flatten_cons, List.flatten_nil, List.cons_append, List.nil_append, List.append_nil, StableHlo.TRef.ternary, StableHlo.TRef.binary, StableHlo.TRef.unary, StableHlo.TRef.toBuf, StableHlo.TRef.ofBuf, cast_eq]
  after_results_simp
  pointwise []
  split
  · rfl
  · exact sitofp_zero

theorem in_kv (b : Fin 4) (t : Fin 4096) (d : Fin 256) :
    @Eq EReal (V m c main_v9 (ix3 b t d)) (aC m c (ix3 b t d)) := by
  simp only [V, hostOps0, hostOps0_1, hostOps0_2, hostOps0_3, hostOps0_4, List.flatten_cons, List.flatten_nil, List.cons_append, List.nil_append, List.append_nil, StableHlo.TRef.ternary, StableHlo.TRef.binary, StableHlo.TRef.unary, StableHlo.TRef.toBuf, StableHlo.TRef.ofBuf, cast_eq]
  after_results_simp
  pointwise []

theorem in_w (b : Fin 16) (t : Fin 256) (d : Fin 64) :
    @Eq EReal (V m c main_v10 (ix3 b t d)) (aW m c (ix3 b t d)) := by
  simp only [V, hostOps0, hostOps0_1, hostOps0_2, hostOps0_3, hostOps0_4, List.flatten_cons, List.flatten_nil, List.cons_append, List.nil_append, List.append_nil, StableHlo.TRef.ternary, StableHlo.TRef.binary, StableHlo.TRef.unary, StableHlo.TRef.toBuf, StableHlo.TRef.ofBuf, cast_eq]
  after_results_simp
  pointwise []

end Cert.KernelIdeal.Attn

end
-- ==== Proof.Blocks.lean ====
/- The blocks a grid point reads, at an index. -/
module

public import proofs.«01_k».proof.Proof.Prep
public import Idealize.ShloMosaic.Lib.Pipeline.ValueKit

@[expose] public section

set_option maxRecDepth 16384

noncomputable section

namespace Cert.KernelIdeal.Attn

open Idealize.ShloMosaic Idealize.ShloMosaic.TcCoe Idealize.SL.Sem
open Cert.KernelIdeal Cert.KernelIdeal.Gen

variable (m : (ℓ : Loc nD τ sig) → Buf (Elt Ideal) ℓ) (c : Dev nD)

theorem idx : ∀ t : Fin cfg0.N, win0_0.index t = ![(grid0.coords t 0).val, (grid0.coords t 1).val, 0]
    ∧ win0_1.index t = ![(grid0.coords t 0).val, (grid0.coords t 1).val, 0] ∧ win0_2.index t = ![(grid0.coords t 0).val, 0, 0]
    ∧ win0_3.index t = ![(grid0.coords t 0).val, 0, 0] ∧ win0_4.index t = ![0, 0, 0]
    ∧ win0_5.index t = ![(grid0.coords t 0).val, (grid0.coords t 1).val, 0] :=
  (by decide +kernel : ∀ t : Fin grid0.N, _)

theorem blk0 (t : Fin grid0.N) (b : Fin 4) (r : Fin 4096) (q : Fin 128) (e : Fin 4096) (hb : b.val = (grid0.coords t 0).val) (hr : r.val = 128 * (grid0.coords t 1).val + q.val) :
    @Eq EReal (iblk m c 0 t (ix3 0 q e)) (V m c main_v11 (ix3 b r e)) := by
  have e1 : (win0_0.blk t).view.emb (ix3 0 q e) = ix3 b r e := by blk_ext [idx t]
  unfold iblk
  change View.read (Elt Ideal) (win0_0.blk t).view (V m c main_v11) (ix3 0 q e) = V m c main_v11 (ix3 b r e)
  generalize V m c main_v11 = f
  rw [View.read_apply, e1]
  exact cast_eq _ _

theorem blk1 (t : Fin grid0.N) (b : Fin 4) (r : Fin 4096) (q : Fin 128) (e : Fin 2048) (hb : b.val = (grid0.coords t 0).val) (hr : r.val = 128 * (grid0.coords t 1).val + q.val) :
    @Eq EReal (iblk m c 1 t (ix3 0 q e)) (V m c main_v12 (ix3 b r e)) := by
  have e1 : (win0_1.blk t).view.emb (ix3 0 q e) = ix3 b r e := by blk_ext [idx t]
  unfold iblk
  change View.read (Elt Ideal) (win0_1.blk t).view (V m c main_v12) (ix3 0 q e) = V m c main_v12 (ix3 b r e)
  generalize V m c main_v12 = f
  rw [View.read_apply, e1]
  exact cast_eq _ _

theorem blk2 (t : Fin grid0.N) (b : Fin 4) (k : Fin 4096) (d : Fin 256) (hb : b.val = (grid0.coords t 0).val) :
    @Eq EReal (iblk m c 2 t (ix3 0 k d)) (V m c main_v9 (ix3 b k d)) := by
  have e1 : (win0_2.blk t).view.emb (ix3 0 k d) = ix3 b k d := by blk_ext [idx t]
  unfold iblk
  change View.read (Elt Ideal) (win0_2.blk t).view (V m c main_v9) (ix3 0 k d) = V m c main_v9 (ix3 b k d)
  generalize V m c main_v9 = f
  rw [View.read_apply, e1]
  exact cast_eq _ _

theorem blk3 (t : Fin grid0.N) (b : Fin 4) (k : Fin 4096) (d : Fin 128) (hb : b.val = (grid0.coords t 0).val) :
    @Eq EReal (iblk m c 3 t (ix3 0 k d)) (V m c main_v8 (ix3 b k d)) := by
  have e1 : (win0_3.blk t).view.emb (ix3 0 k d) = ix3 b k d := by blk_ext [idx t]
  unfold iblk
  change View.read (Elt Ideal) (win0_3.blk t).view (V m c main_v8) (ix3 0 k d) = V m c main_v8 (ix3 b k d)
  generalize V m c main_v8 = f
  rw [View.read_apply, e1]
  exact cast_eq _ _

theorem blk4 (t : Fin grid0.N) (h : Fin 16) (k : Fin 256) (d : Fin 64) :
    @Eq EReal (iblk m c 4 t (ix3 h k d)) (V m c main_v10 (ix3 h k d)) := by
  have e1 : (win0_4.blk t).view.emb (ix3 h k d) = ix3 h k d := by blk_ext [idx t]
  unfold iblk
  change View.read (Elt Ideal) (win0_4.blk t).view (V m c main_v10) (ix3 h k d) = V m c main_v10 (ix3 h k d)
  generalize V m c main_v10 = f
  rw [View.read_apply, e1]
  exact cast_eq _ _

end Cert.KernelIdeal.Attn

end
-- ==== Proof.Final.lean ====
/- The kernel's result array is the reference's, when the queries, keys and latent rows are real numbers. -/
module

public import proofs.«01_k».proof.Proof.Out
public import proofs.«01_k».proof.Proof.Ref
public import proofs.«01_k».proof.Proof.Blocks
public import Idealize.ShloMosaic.Lib.Pipeline.ValueKit

@[expose] public section

set_option maxRecDepth 16384

noncomputable section

namespace Cert.KernelIdeal.Attn

open Idealize.ShloMosaic Idealize.ShloMosaic.TcCoe Idealize.SL.Sem
open Cert.KernelIdeal Cert.KernelIdeal.Gen Cert.ReferenceIdeal.Attn

/-- Rows past the visible ones do not count. -/
theorem att_len (vis : ℕ → Prop) [DecidablePred vis] (X : ℕ → ℝ) (n n' : ℕ) (hn : n ≤ n') (hv : ∀ k, vis k → k < n) (V : ℕ → ℝ) :
    Online.att vis X n V = Online.att vis X n' V := by
  have e : ∀ f : ℕ → ℝ, Online.vsum vis n f = Online.vsum vis n' f := by
    intro f
    unfold Online.vsum
    refine Finset.sum_congr (Finset.ext fun k => ?_) fun _ _ => rfl
    simp only [Finset.mem_filter, Finset.mem_range]
    exact ⟨fun h => ⟨by omega, h.2⟩, fun h => ⟨hv k h.2, h.2⟩⟩
  unfold Online.att
  rw [e, e]

/-- A sum over 128 lanes, the last 96 of them zero. -/
theorem lanes (f : Fin 128 → ℝ) (g : Fin 32 → ℝ) (hl : ∀ d : Fin 32, f ⟨d.val, by omega⟩ = g d) (hr : ∀ d : Fin 128, 32 ≤ d.val → f d = 0) : ∑ d, f d = ∑ d, g d := by
  have := Fin.sum_univ_add (a := 32) (b := 96) f
  refine this.trans ?_
  rw [Finset.sum_eq_zero (s := (Finset.univ : Finset (Fin 96))) fun d _ => hr _ (by simp), add_zero]
  exact Finset.sum_congr rfl fun d _ => hl d

variable (m : (ℓ : Loc nD τ sig) → Buf (Elt Ideal) ℓ) (c : Dev nD)

section Real

variable {QF : S4x4096x16x256.Idx → ℝ} {RF : S4x4096x16x32.Idx → ℝ} {CF : S4x4096x256.Idx → ℝ} {KF : S4x4096x32.Idx → ℝ}
  (hQ : ∀ i, aQ m c i = (QF i : EReal)) (hR : ∀ i, aR m c i = (RF i : EReal)) (hC : ∀ i, aC m c i = (CF i : EReal)) (hK : ∀ i, aK m c i = (KF i : EReal))

include hQ hR hC hK

theorem point (t : Fin grid0.N) (b : Fin 4) (r : Fin 4096) (q : Fin 128) (h : Fin 16) (d : Fin 64) (e : Fin 1024) (he : e.val = 64 * h.val + d.val)
    (hb : b.val = (grid0.coords t 0).val) (hr : r.val = 128 * (grid0.coords t 1).val + q.val) :
    @Eq EReal (outsAt0 m c t (ix3 0 q e)) (Cert.ReferenceIdeal.Read.val_main_v31 (F := Ideal) (aQ m c) (aR m c) (aC m c) (aK m c) (aW m c) (ix3 b r e)) := by
  have hi : ∀ q' : Fin 128, 128 * (grid0.coords t 1).val + q'.val < 4096 := by
    intro q'
    have := r.isLt
    have := q.isLt
    have := q'.isLt
    omega
  have hlt : ∀ k : ℕ, k % 4096 < 4096 := fun k => Nat.mod_lt _ (by decide)
  have ref := ref_at (aQ m c) (aR m c) (aC m c) (aK m c) (aW m c) (A := fun b t h d => QF (ix4 b t h d)) (B := fun b t h d => RF (ix4 b t h d))
    (C := fun b k d => CF (ix3 b ⟨k % 4096, hlt k⟩ d)) (R := fun b k d => KF (ix3 b ⟨k % 4096, hlt k⟩ d))
    (fun b t h d => hQ _) (fun b t h d => hR _)
    (fun b k d => (hC _).trans (by simp only [Nat.mod_eq_of_lt k.isLt])) (fun b k d => (hK _).trans (by simp only [Nat.mod_eq_of_lt k.isLt])) b h r d e he
  have ker := out_at c t (ms0_0 t) (hs0_0 t) (ms0_1 t) (hs0_1 t) (ms0_2 t) (hs0_2 t) (ms0_3 t) (hs0_3 t) (ms0_4 t) (hs0_4 t) (ms0_5 t) (hs0_5 t)
    scM0_0 (Memref.isWhole_whole _) scM0_1 (Memref.isWhole_whole _) scM0_2 (Memref.isWhole_whole _) scM0_3 (Memref.isWhole_whole _) scM0_4 (Memref.isWhole_whole _)
    (iblk m c 0 t) (iblk m c 1 t) (iblk m c 2 t) (iblk m c 3 t) (iblk m c 4 t)
    (fun k d => CF (ix3 b ⟨k % 4096, hlt k⟩ d))
    (fun k d => if hd : d.val < 32 then KF (ix3 b ⟨k % 4096, hlt k⟩ ⟨d.val, hd⟩) else 0)
    (fun q e => QF (ix4 b ⟨128 * (grid0.coords t 1).val + q.val, hi q⟩ ⟨e.val / 256, by omega⟩ ⟨e.val % 256, by omega⟩) * scR)
    (fun q e => if hd : e.val % 128 < 32 then RF (ix4 b ⟨128 * (grid0.coords t 1).val + q.val, hi q⟩ ⟨e.val / 128, by omega⟩ ⟨e.val % 128, hd⟩) * scR else 0)
    (fun q e => (blk0 m c t b ⟨128 * (grid0.coords t 1).val + q.val, hi q⟩ q e hb rfl).trans
      ((in_qa m c b _ ⟨e.val / 256, by omega⟩ ⟨e.val % 256, by omega⟩ e (Nat.div_add_mod _ _).symm).trans (by rw [hQ, sc_coe, ← EReal.coe_mul])))
    (fun q e => (blk1 m c t b ⟨128 * (grid0.coords t 1).val + q.val, hi q⟩ q e hb rfl).trans
      ((in_qr m c b _ ⟨e.val / 128, by omega⟩ ⟨e.val % 128, by omega⟩ e (Nat.div_add_mod _ _).symm).trans (by
        split
        · rw [hR, sc_coe, ← EReal.coe_mul]
        · rfl)))
    (fun k d => (blk2 m c t b k d hb).trans ((in_kv m c b k d).trans ((hC _).trans (by simp only [Nat.mod_eq_of_lt k.isLt]))))
    (fun k d => (blk3 m c t b k d hb).trans ((in_kr m c b k d).trans (by
        split
        · exact (hK _).trans (by simp only [Nat.mod_eq_of_lt k.isLt])
        · rfl)))
    h q d e he
  refine Eq.trans ?_ ref.symm
  unfold outsAt0
  refine ker.trans (Finset.sum_congr rfl fun j _ => ?_)
  rw [mul_comm]
  refine congrArg₂ (· * ·) ((blk4 m c t h j d).trans (in_w m c h j d)) (congrArg _ ?_)
  refine (att_len _ _ _ 4096 (by have := r.isLt; omega) (fun k hk => by have := q.isLt; omega) _).trans ?_
  have er : (⟨128 * (grid0.coords t 1).val + q.val, hi q⟩ : Fin 4096) = r := Fin.ext hr.symm
  simp only [er, ← hr]
  refine congrArg (fun X => Online.att (fun k => k ≤ r.val) X 4096 _) (funext fun k => ?_)
  unfold lg
  rw [add_mul]
  refine congrArg₂ (· + ·) ?_ ?_
  · rw [Finset.sum_mul]
    refine Finset.sum_congr rfl fun d _ => ?_
    have e1 : (⟨(256 * h.val + d.val) / 256, by omega⟩ : Fin 16) = h := Fin.ext (by show (256 * h.val + d.val) / 256 = h.val; omega)
    have e2 : (⟨(256 * h.val + d.val) % 256, by omega⟩ : Fin 256) = d := Fin.ext (by show (256 * h.val + d.val) % 256 = d.val; omega)
    simp only [e1, e2]
    ring
  · rw [Finset.sum_mul]
    refine lanes _ _ (fun d => ?_) fun d hd => ?_
    · have hd : d.val < 32 := d.isLt
      have e1 : (⟨(128 * h.val + d.val) / 128, by omega⟩ : Fin 16) = h := Fin.ext (by show (128 * h.val + d.val) / 128 = h.val; omega)
      have e2 : (128 * h.val + d.val) % 128 = d.val := by omega
      simp only [e1, e2, hd, dif_pos, Fin.eta]
      ring
    · have : ¬ d.val < 32 := by omega
      simp only [dif_neg this, mul_zero]

theorem final : (dats m 0 c).arrAt 5 cfg0.N = Cert.ReferenceIdeal.Read.val_main_v31 (F := Ideal) (aQ m c) (aR m c) (aC m c) (aK m c) (aW m c) := by
  refine (dats m 0 c).arrAt_eq_of_covers 5 _ (by decide +kernel) fun t _ y => ?_
  blk_simp
  rw [after0_5]
  obtain ⟨q, e, rfl⟩ : ∃ (q : Fin 128) (e : Fin 1024), y = ix3 0 q e := ⟨y 1, y 2, by blk_ext⟩
  have hb : (grid0.coords t 0).val < 4 := (grid0.coords t 0).isLt
  have hi : (grid0.coords t 1).val < 32 := (grid0.coords t 1).isLt
  have e1 : (win0_5.blk t).view.emb (ix3 0 q e) = ix3 ⟨(grid0.coords t 0).val, hb⟩ ⟨128 * (grid0.coords t 1).val + q.val, by omega⟩ e := by blk_ext [idx t]
  rw [e1]
  exact point m c hQ hR hC hK t _ _ q ⟨e.val / 64, by omega⟩ ⟨e.val % 64, by omega⟩ e (Nat.div_add_mod _ _).symm rfl rfl

end Real

end Cert.KernelIdeal.Attn

end
-- ==== Proof.Algebraic.lean ====
/- The kernel and the reference end with equal results, from real queries, keys and latent rows. -/
module

public import proofs.«01_k».proof.Defs
public import proofs.«01_k».proof.Proof.Final
public import proofs.«01_k».proof.Proof.Gen.KernelIdeal.Value
public import proofs.«01_k».proof.Proof.Gen.ReferenceIdeal.Run
public import proofs.«01_k».proof.Proof.Gen.ReferenceIdeal.Read

@[expose] public section

set_option maxRecDepth 16384

noncomputable section

namespace Cert.Proof

open Idealize.ShloMosaic Idealize.ShloMosaic.TcCoe Idealize.SL.Sem

theorem top_bits : (FloatOps.ofBits (F := Ideal) .f32 0x7F800000#32 : EReal) = ⊤ := by
  show Ideal.ofBits .f32 0x7F800000#32 = ⊤
  simp [Ideal.ofBits, Ideal.ieee]

/-- An array whose absolute values lie below infinity holds real numbers. -/
theorem real_of_finite {S : Shape} (x : FVec Ideal S .f32) (S0 : Shape) (d : Fin S0.rank → Fin S.rank) (hb : S0.BroadcastsInDim S d)
    (h : cmpf .olt (Host.absf x) (broadcastInDim S d hb (constant S0 .f32 0x7F800000#32)) = fun _ => 1#1) :
    ∃ X : S.Idx → ℝ, ∀ i, x i = (X i : EReal) := by
  refine ⟨fun i => (x i : EReal).toReal, fun i => ?_⟩
  have h1 : (BitVec.ofBool (decide (max (x i : EReal) (-(x i : EReal)) < (FloatOps.ofBits (F := Ideal) .f32 0x7F800000#32 : EReal)))) = 1#1 := congrFun h i
  rw [top_bits] at h1
  have h2 : max (x i : EReal) (-(x i : EReal)) < ⊤ := by
    by_contra hn
    rw [decide_eq_false hn] at h1
    exact absurd h1 (by decide)
  refine (EReal.coe_toReal (fun e => ?_) (fun e => ?_)).symm
  · rw [e] at h2; simp at h2
  · rw [e] at h2; simp at h2

instance pre : Cert.Pre_finite.Facts := ⟨by decide, by decide, by decide, by decide⟩

theorem algebraic : Cert.algebraic_KernelIdeal_ReferenceIdeal_pre_finite := by
  pair_intro
  · run_from Cert.KernelIdeal.Value.run_blocks m g
  · run_from Cert.ReferenceIdeal.Value.run m' g'
    obtain ⟨h0, h1, h2, h3⟩ := hpre c
    obtain ⟨QF, hQ⟩ := real_of_finite _ _ _ _ h0
    obtain ⟨RF, hR⟩ := real_of_finite _ _ _ _ h1
    obtain ⟨CF, hC⟩ := real_of_finite _ _ _ _ h2
    obtain ⟨KF, hK⟩ := real_of_finite _ _ _ _ h3
    rw [Cert.ReferenceIdeal.Read.val_main_v31_eq]
    obtain ⟨a0, a1, a2, a3, a4⟩ := hagree c
    rw [a0, a1, a2, a3, a4]
    exact (Cert.KernelIdeal.Attn.final m c hQ hR hC hK).symm

end Cert.Proof

end
-- ==== Proof.CallFfn.lean ====
/- The feed-forward call: what a grid point adds to the accumulator, and the array after the run. -/
module

public import proofs.«01_k».proof.Defs
public import proofs.«01_k».proof.Proof.Gen.KernelFfn.Frame
public import proofs.«01_k».proof.Proof.Gen.KernelFfnIdeal.Value
public import proofs.«01_k».proof.Proof.Gen.ReferenceFfnIdeal.Run
public import proofs.«01_k».proof.Proof.Gen.ReferenceFfnIdeal.Read
public import Idealize.ShloMosaic.Lib.Pipeline.ValueKit
public import Idealize.ShloMosaic.Lib.Pipeline.ReadBack

@[expose] public section

set_option maxRecDepth 16384

noncomputable section

namespace Cert.KernelFfnIdeal.Ffn

open Idealize.ShloMosaic Idealize.ShloMosaic.TcCoe Idealize.SL.Sem
open Cert.KernelFfnIdeal Cert.KernelFfnIdeal.Gen

theorem pay1_at (i : Fin 512) (e : Fin 2048) : k0_pay1 (F := Ideal) (ix2 i e) = 0 := by pointwise [k0_pay1]

theorem pay3_at (x a : Vec Ideal S512x2048 .f32) (i : Fin 512) (e : Fin 2048) :
    k0_pay3 (F := Ideal) x a (ix2 i e) = x (ix2 i e) + a (ix2 i e) := by pointwise [k0_pay3]

theorem pay2_at (h : Vec Ideal S512x2048 .bf16) (g u : Vec Ideal S2048x512 .bf16) (a : Vec Ideal S512x2048 .f32) (d : Vec Ideal S512x2048 .bf16) (i : Fin 512) (e : Fin 2048) :
    @Eq EReal (k0_pay2 (F := Ideal) h g u a d (ix2 i e)) (a (ix2 i e) + ∑ k : Fin 512, (∑ j : Fin 2048, (h (ix2 i j) : EReal) * g (ix2 j k))
      * Ideal.logistic (∑ j : Fin 2048, (h (ix2 i j) : EReal) * g (ix2 j k)) * (∑ j : Fin 2048, (h (ix2 i j) : EReal) * u (ix2 j k)) * d (ix2 k e)) := by
  pointwise [k0_pay2]

section Arrays

variable (m : (ℓ : Loc nD τ sig) → Buf (Elt Ideal) ℓ) (c : Dev nD)

abbrev aH : Vec Ideal S16384x2048 .f32 := m ((c : Thread nD τ).loc main_arg0)
abbrev aX : Vec Ideal S16384x2048 .f32 := m ((c : Thread nD τ).loc main_arg1)
abbrev aG : Vec Ideal S2048x5632 .f32 := m ((c : Thread nD τ).loc main_arg2)
abbrev aU : Vec Ideal S2048x5632 .f32 := m ((c : Thread nD τ).loc main_arg3)
abbrev aD : Vec Ideal S5632x2048 .f32 := m ((c : Thread nD τ).loc main_arg4)

abbrev B0 (t : Fin cfg0.N) : Vec Ideal S512x2048 .bf16 := iblk m c 0 t
abbrev B1 (t : Fin cfg0.N) : Vec Ideal S512x2048 .f32 := iblk m c 1 t
abbrev B2 (t : Fin cfg0.N) : Vec Ideal S2048x512 .bf16 := iblk m c 2 t
abbrev B3 (t : Fin cfg0.N) : Vec Ideal S2048x512 .bf16 := iblk m c 3 t

/-- The gated hidden value of row `r` in column `l`, as the formula on the arguments. -/
def act (r : Fin 16384) (l : Fin 5632) : EReal :=
  (∑ j : Fin 2048, (aH m c (ix2 r j) : EReal) * aG m c (ix2 j l)) * Ideal.logistic (∑ j : Fin 2048, (aH m c (ix2 r j) : EReal) * aG m c (ix2 j l))
    * (∑ j : Fin 2048, (aH m c (ix2 r j) : EReal) * aU m c (ix2 j l))

theorem idx : ∀ t : Fin cfg0.N, win0_0.index t = ![t.val / 11, 0] ∧ win0_1.index t = ![t.val / 11, 0] ∧ win0_2.index t = ![0, t.val % 11]
    ∧ win0_3.index t = ![0, t.val % 11] ∧ win0_4.index t = ![t.val % 11, 0] ∧ win0_5.index t = ![t.val / 11, 0] :=
  (by decide +kernel : ∀ t : Fin grid0.N, _)

theorem in_h (i) : @Eq EReal (V m c main_v3 i) (aH m c i) := by
  simp only [V, hostOps0, StableHlo.TRef.unary, StableHlo.TRef.toBuf, StableHlo.TRef.ofBuf, cast_eq]
  after_results_simp
  pointwise []

theorem in_g (i) : @Eq EReal (V m c main_v0 i) (aG m c i) := by
  simp only [V, hostOps0, StableHlo.TRef.unary, StableHlo.TRef.toBuf, StableHlo.TRef.ofBuf, cast_eq]
  after_results_simp
  pointwise []

theorem in_u (i) : @Eq EReal (V m c main_v1 i) (aU m c i) := by
  simp only [V, hostOps0, StableHlo.TRef.unary, StableHlo.TRef.toBuf, StableHlo.TRef.ofBuf, cast_eq]
  after_results_simp
  pointwise []

theorem in_d (i) : @Eq EReal (V m c main_v2 i) (aD m c i) := by
  simp only [V, hostOps0, StableHlo.TRef.unary, StableHlo.TRef.toBuf, StableHlo.TRef.ofBuf, cast_eq]
  after_results_simp
  pointwise []

theorem in_x (i) : @Eq EReal (V m c main_arg1 i) (aX m c i) := by
  simp only [V, hostOps0, StableHlo.TRef.unary, StableHlo.TRef.toBuf, StableHlo.TRef.ofBuf, cast_eq]
  after_results_simp

theorem blk0 (t : Fin cfg0.N) (r : Fin 16384) (q : Fin 512) (e : Fin 2048) (hr : r.val = 512 * (t.val / 11) + q.val) :
    @Eq EReal (iblk m c 0 t (ix2 q e)) (aH m c (ix2 r e)) := by
  have e1 : (win0_0.blk t).view.emb (ix2 q e) = ix2 r e := by blk_ext [idx t]
  rw [← in_h]
  unfold iblk
  change View.read (Elt Ideal) (win0_0.blk t).view (V m c main_v3) (ix2 q e) = V m c main_v3 (ix2 r e)
  generalize V m c main_v3 = f
  rw [View.read_apply, e1]
  exact cast_eq _ _

theorem blk1 (t : Fin cfg0.N) (r : Fin 16384) (q : Fin 512) (e : Fin 2048) (hr : r.val = 512 * (t.val / 11) + q.val) :
    @Eq EReal (iblk m c 1 t (ix2 q e)) (aX m c (ix2 r e)) := by
  have e1 : (win0_1.blk t).view.emb (ix2 q e) = ix2 r e := by blk_ext [idx t]
  rw [← in_x]
  unfold iblk
  change View.read (Elt Ideal) (win0_1.blk t).view (V m c main_arg1) (ix2 q e) = V m c main_arg1 (ix2 r e)
  generalize V m c main_arg1 = f
  rw [View.read_apply, e1]
  exact cast_eq _ _

theorem blk2 (t : Fin cfg0.N) (j : Fin 2048) (q : Fin 512) (l : Fin 5632) (hl : l.val = 512 * (t.val % 11) + q.val) :
    @Eq EReal (iblk m c 2 t (ix2 j q)) (aG m c (ix2 j l)) := by
  have e1 : (win0_2.blk t).view.emb (ix2 j q) = ix2 j l := by blk_ext [idx t]
  rw [← in_g]
  unfold iblk
  change View.read (Elt Ideal) (win0_2.blk t).view (V m c main_v0) (ix2 j q) = V m c main_v0 (ix2 j l)
  generalize V m c main_v0 = f
  rw [View.read_apply, e1]
  exact cast_eq _ _

theorem blk3 (t : Fin cfg0.N) (j : Fin 2048) (q : Fin 512) (l : Fin 5632) (hl : l.val = 512 * (t.val % 11) + q.val) :
    @Eq EReal (iblk m c 3 t (ix2 j q)) (aU m c (ix2 j l)) := by
  have e1 : (win0_3.blk t).view.emb (ix2 j q) = ix2 j l := by blk_ext [idx t]
  rw [← in_u]
  unfold iblk
  change View.read (Elt Ideal) (win0_3.blk t).view (V m c main_v1) (ix2 j q) = V m c main_v1 (ix2 j l)
  generalize V m c main_v1 = f
  rw [View.read_apply, e1]
  exact cast_eq _ _

theorem blk4 (t : Fin cfg0.N) (q : Fin 512) (e : Fin 2048) (l : Fin 5632) (hl : l.val = 512 * (t.val % 11) + q.val) :
    @Eq EReal (iblk m c 4 t (ix2 q e)) (aD m c (ix2 l e)) := by
  have e1 : (win0_4.blk t).view.emb (ix2 q e) = ix2 l e := by blk_ext [idx t]
  rw [← in_d]
  unfold iblk
  change View.read (Elt Ideal) (win0_4.blk t).view (V m c main_v2) (ix2 q e) = V m c main_v2 (ix2 l e)
  generalize V m c main_v2 = f
  rw [View.read_apply, e1]
  exact cast_eq _ _

theorem t_lt (t : Fin cfg0.N) : t.val < 352 := lt_of_lt_of_eq t.isLt N_0

/-- What point `t` adds to the accumulator: the part of the hidden columns it holds. -/
def part (t : Fin cfg0.N) (y : S512x2048.Idx) : EReal :=
  ∑ k : Fin 512, act m c ⟨512 * (t.val / 11) + (y 0).val, by have := t_lt t; have : (y 0).val < 512 := (y 0).isLt; omega⟩
      ⟨512 * (t.val % 11) + k.val, by omega⟩ * (aD m c (ix2 ⟨512 * (t.val % 11) + k.val, by omega⟩ (y 1)) : EReal)

theorem pay2_part (t : Fin cfg0.N) (a : Vec Ideal S512x2048 .f32) (y : S512x2048.Idx) :
    @Eq EReal (k0_pay2 (F := Ideal) (iblk m c 0 t) (iblk m c 2 t) (iblk m c 3 t) a (iblk m c 4 t) y) (a y + part m c t y) := by
  obtain ⟨i, e, rfl⟩ : ∃ (i : Fin 512) (e : Fin 2048), y = ix2 i e := ⟨y 0, y 1, by blk_ext⟩
  have ht := t_lt t
  refine (pay2_at _ _ _ _ _ i e).trans (congrArg (a (ix2 i e) + ·) (Finset.sum_congr rfl fun k _ => ?_))
  have hg : (∑ j : Fin 2048, (B0 m c t (ix2 i j) : EReal) * B2 m c t (ix2 j k))
      = ∑ j : Fin 2048, (aH m c (ix2 ⟨512 * (t.val / 11) + i.val, by omega⟩ j) : EReal) * aG m c (ix2 j ⟨512 * (t.val % 11) + k.val, by omega⟩) :=
    Finset.sum_congr rfl fun j _ => congrArg₂ (· * ·) (blk0 m c t _ i j rfl) (blk2 m c t j k _ rfl)
  have hu : (∑ j : Fin 2048, (B0 m c t (ix2 i j) : EReal) * B3 m c t (ix2 j k))
      = ∑ j : Fin 2048, (aH m c (ix2 ⟨512 * (t.val / 11) + i.val, by omega⟩ j) : EReal) * aU m c (ix2 j ⟨512 * (t.val % 11) + k.val, by omega⟩) :=
    Finset.sum_congr rfl fun j _ => congrArg₂ (· * ·) (blk0 m c t _ i j rfl) (blk3 m c t j k _ rfl)
  refine congrArg₂ (· * ·) ?_ (blk4 m c t k e _ rfl)
  unfold act
  rw [hg, hu]
  rfl

theorem acc_A (t : Fin cfg0.N) (h : t.val % 11 = 0) (y : S512x2048.Idx) :
    @Eq EReal ((outsAt0 m c t.val t.isLt).2 y) (0 + part m c t y) := by
  rw [outsAt0_A m c t h (by omega)]
  frame_out
  rw [pay2_part]
  obtain ⟨i, e, rfl⟩ : ∃ (i : Fin 512) (e : Fin 2048), y = ix2 i e := ⟨y 0, y 1, by blk_ext⟩
  rw [pay1_at]

theorem acc_B (t : Fin cfg0.N) (h : ¬t.val % 11 = 0) (y : S512x2048.Idx) :
    @Eq EReal ((outsAt0 m c t.val t.isLt).2 y) ((outsAt0 m c (t.val - 1) (Nat.lt_of_le_of_lt (Nat.sub_le _ _) t.isLt)).2 y + part m c t y) := by
  by_cases h1 : t.val % 11 = 10
  · rw [outsAt0_C m c t h h1]
    frame_out
    rw [pay2_part, read_unread_whole]
  · rw [outsAt0_B m c t h h1]
    frame_out
    rw [pay2_part, read_unread_whole]

theorem last_C (t : Fin cfg0.N) (h1 : t.val % 11 = 10) (y : S512x2048.Idx) :
    @Eq EReal ((outsAt0 m c t.val t.isLt).1 y) (B1 m c t y + (outsAt0 m c t.val t.isLt).2 y) := by
  rw [outsAt0_C m c t (by omega) h1]
  frame_out
  obtain ⟨i, e, rfl⟩ : ∃ (i : Fin 512) (e : Fin 2048), y = ix2 i e := ⟨y 0, y 1, by blk_ext⟩
  rw [pay3_at]

theorem acc_sum (t : Fin cfg0.N) (h1 : t.val % 11 = 10) (r : Fin 16384) (q : Fin 512) (e : Fin 2048) (hr : r.val = 512 * (t.val / 11) + q.val) :
    @Eq EReal ((outsAt0 m c t.val t.isLt).2 (ix2 q e)) (∑ l : Fin 5632, act m c r l * (aD m c (ix2 l e) : EReal)) := by
  have key := Pipeline.eq_sum_fin_of_reset_step_apply_of_flush (M := EReal) (fun n h => (outsAt0 m c n h).2) 11 (fun _ => 0) (part m c)
    (fun t h j => acc_A m c t h j) (fun t h j => acc_B m c t h j) t h1 (ix2 q e)
  refine key.trans ?_
  rw [zero_add]
  refine Fin.sum_mul_add_congr fun s k hl => ?_
  have hs := s.isLt
  have e1 : (11 * (t.val / 11) + s.val) / 11 = t.val / 11 := by omega
  have e2 : (11 * (t.val / 11) + s.val) % 11 = s.val := by omega
  have er : (⟨512 * ((11 * (t.val / 11) + s.val) / 11) + q.val, by omega⟩ : Fin 16384) = r := Fin.ext (by simp only [e1, hr])
  have el : (⟨512 * ((11 * (t.val / 11) + s.val) % 11) + k.val, by omega⟩ : Fin 5632) = ⟨s.val * 512 + k.val, hl⟩ := Fin.ext (by simp only [e2]; omega)
  exact congrArg₂ (· * ·) (congrArg₂ (act m c) er el) (congrArg (fun l => (aD m c (ix2 l e) : EReal)) el)

end Arrays

theorem ref_at (x0 x1 : Vec Ideal Cert.ReferenceFfnIdeal.S16384x2048 .f32) (x2 x3 : Vec Ideal Cert.ReferenceFfnIdeal.S2048x5632 .f32) (x4 : Vec Ideal Cert.ReferenceFfnIdeal.S5632x2048 .f32) (r : Fin 16384) (e : Fin 2048) :
    @Eq EReal (Cert.ReferenceFfnIdeal.Read.val_main_v5 (F := Ideal) x0 x1 x2 x3 x4 (ix2 r e)) (x1 (ix2 r e) + ∑ l : Fin 5632,
      (∑ j : Fin 2048, (x0 (ix2 r j) : EReal) * x2 (ix2 j l)) * Ideal.logistic (∑ j : Fin 2048, (x0 (ix2 r j) : EReal) * x2 (ix2 j l))
        * (∑ j : Fin 2048, (x0 (ix2 r j) : EReal) * x3 (ix2 j l)) * x4 (ix2 l e)) := by
  pointwise [Cert.ReferenceFfnIdeal.Read.val_main_v5, Cert.ReferenceFfnIdeal.Read.val_main_v4, Cert.ReferenceFfnIdeal.Read.val_main_v3,
    Cert.ReferenceFfnIdeal.Read.val_main_v2, Cert.ReferenceFfnIdeal.Read.val_main_v1, Cert.ReferenceFfnIdeal.Read.val_main_v0,
    Cert.ReferenceFfnIdeal.Read.val_main_call0_v0, Cert.ReferenceFfnIdeal.Read.val_main_call0_v1, Cert.ReferenceFfnIdeal.Read.val_main_call0_v2,
    Cert.ReferenceFfnIdeal.Read.val_main_call0_v3, Cert.ReferenceFfnIdeal.Read.val_main_call0_v4, Cert.ReferenceFfnIdeal.Read.val_main_call0_v5,
    Cert.ReferenceFfnIdeal.Read.val_main_call0_cst, Cert.ReferenceFfnIdeal.Read.val_main_call0_cst_0]
  rfl

theorem final (m : (ℓ : Loc nD τ sig) → Buf (Elt Ideal) ℓ) (c : Dev nD) : (dats m 0 c).arrAt 5 cfg0.N
    = Cert.ReferenceFfnIdeal.Read.val_main_v5 (F := Ideal) (aH m c) (aX m c) (aG m c) (aU m c) (aD m c) := by
  refine (dats m 0 c).arrAt_eq_of_covers 5 _ (by decide +kernel) fun t hf y => ?_
  blk_simp
  rw [after0_5]
  obtain ⟨q, e, rfl⟩ : ∃ (q : Fin 512) (e : Fin 2048), y = ix2 q e := ⟨y 0, y 1, by blk_ext⟩
  have ht := t_lt t
  have h1 : t.val % 11 = 10 := (flush0_5 t).mp hf
  have e1 : (win0_5.blk t).view.emb (ix2 q e) = ix2 ⟨512 * (t.val / 11) + q.val, by omega⟩ e := by blk_ext [idx t]
  rw [e1]
  refine Eq.trans ?_ (ref_at _ _ _ _ _ _ _).symm
  exact (last_C m c t h1 (ix2 q e)).trans (congrArg₂ (· + ·) (blk1 m c t _ q e rfl) (acc_sum m c t h1 _ q e rfl))

end Cert.KernelFfnIdeal.Ffn

end
-- ==== Proof.CallOut.lean ====
/- The output projection: the gated mix of the two attentions, its product with the output weights, the residual and the norm after it. -/
module

public import proofs.«01_k».proof.Defs
public import proofs.«01_k».proof.Proof.Gen.KernelOut.Frame
public import proofs.«01_k».proof.Proof.Gen.KernelOutIdeal.Value
public import proofs.«01_k».proof.Proof.Gen.ReferenceOutIdeal.Run
public import proofs.«01_k».proof.Proof.Gen.ReferenceOutIdeal.Read
public import Idealize.ShloMosaic.Lib.Pipeline.ValueKit
public import Idealize.ShloMosaic.Lib.Pipeline.ReadBack

@[expose] public section

set_option maxRecDepth 16384

noncomputable section

namespace Cert.KernelOutIdeal.Proj

open Idealize.ShloMosaic Idealize.ShloMosaic.TcCoe Idealize.SL.Sem
open Cert.KernelOutIdeal Cert.KernelOutIdeal.Gen

theorem pay2_at (a : Vec Ideal S256x1024 .bf16) (p : Vec Ideal S1024x2048 .bf16) (b : Vec Ideal S256x1024 .bf16) (q : Vec Ideal S1024x2048 .bf16)
    (g h : Vec Ideal S256x2048 .f32) (x : Vec Ideal S256x2048 .f32) (w : Vec Ideal S2048x2048 .bf16) (i : Fin 256) (e : Fin 2048) :
    @Eq EReal (k0_pay2 (F := Ideal) a p b q g h x w (ix2 i e)) (x (ix2 i e) + ∑ k : Fin 2048,
      (Ideal.logistic (g (ix2 i k)) * (∑ j : Fin 1024, (a (ix2 i j) : EReal) * p (ix2 j k))
        + Ideal.logistic (h (ix2 i k)) * (∑ j : Fin 1024, (b (ix2 i j) : EReal) * q (ix2 j k))) * w (ix2 k e)) := by
  pointwise [k0_pay2]

theorem pay1_at (y : Vec Ideal S256x2048 .f32) (s : Vec Ideal S256x1 .f32) (f : Vec Ideal S1x2048 .f32) (i : Fin 256) (e : Fin 2048) :
    @Eq EReal (k0_pay1 (F := Ideal) y s f (ix2 i e)) (y (ix2 i e) * s (ix2 i 0) * f (ix2 0 e)) := by
  pointwise [k0_pay1]

theorem pay3_at (a : Vec Ideal S256x1024 .bf16) (p : Vec Ideal S1024x2048 .bf16) (b : Vec Ideal S256x1024 .bf16) (q : Vec Ideal S1024x2048 .bf16)
    (g h : Vec Ideal S256x2048 .f32) (x : Vec Ideal S256x2048 .f32) (w : Vec Ideal S2048x2048 .bf16) (i : Fin 256) :
    @Eq EReal (k0_pay3 (F := Ideal) a p b q g h x w (ix2 i 0)) (Ideal.rsqrt (Ideal.div
      (∑ e : Fin 2048, (k0_pay2 (F := Ideal) a p b q g h x w (ix2 i e) : EReal) * k0_pay2 (F := Ideal) a p b q g h x w (ix2 i e))
      (Ideal.ofBits .f32 0x45000000#32) + Ideal.ofBits .f32 0x358637BD#32)) := by
  generalize hy : k0_pay2 (F := Ideal) a p b q g h x w = y
  unfold k0_pay3
  rw [hy]
  pointwise []

section Arrays

variable (m : (ℓ : Loc nD τ sig) → Buf (Elt Ideal) ℓ) (c : Dev nD)

abbrev a0 : Vec Ideal S16384x2048 .f32 := m ((c : Thread nD τ).loc main_arg0)
abbrev a1 : Vec Ideal S16384x1024 .f32 := m ((c : Thread nD τ).loc main_arg1)
abbrev a2 : Vec Ideal S16384x1024 .f32 := m ((c : Thread nD τ).loc main_arg2)
abbrev a3 : Vec Ideal S16384x2048 .f32 := m ((c : Thread nD τ).loc main_arg3)
abbrev a4 : Vec Ideal S16384x2048 .f32 := m ((c : Thread nD τ).loc main_arg4)
abbrev a5 : Vec Ideal S1024x2048 .f32 := m ((c : Thread nD τ).loc main_arg5)
abbrev a6 : Vec Ideal S1024x2048 .f32 := m ((c : Thread nD τ).loc main_arg6)
abbrev a7 : Vec Ideal S2048x2048 .f32 := m ((c : Thread nD τ).loc main_arg7)
abbrev a8 : Vec Ideal S2048 .f32 := m ((c : Thread nD τ).loc main_arg8)

theorem idx : ∀ t : Fin cfg0.N, win0_0.index t = ![t.val, 0] ∧ win0_1.index t = ![t.val, 0] ∧ win0_2.index t = ![t.val, 0]
    ∧ win0_3.index t = ![t.val, 1] ∧ win0_4.index t = ![t.val, 2] ∧ win0_5.index t = ![0, 0] ∧ win0_6.index t = ![0, 0]
    ∧ win0_7.index t = ![0, 0] ∧ win0_8.index t = ![0, 0] ∧ win0_9.index t = ![t.val, 0] ∧ win0_10.index t = ![t.val, 0] :=
  (by decide +kernel : ∀ t : Fin grid0.N, _)

theorem in_x (i) : @Eq EReal (V m c main_arg0 i) (a0 m c i) := by
  simp only [V, hostOps0, StableHlo.TRef.unary, StableHlo.TRef.toBuf, StableHlo.TRef.ofBuf, cast_eq]
  after_results_simp

theorem in_a (i) : @Eq EReal (V m c main_v7 i) (a1 m c i) := by
  simp only [V, hostOps0, StableHlo.TRef.unary, StableHlo.TRef.toBuf, StableHlo.TRef.ofBuf, cast_eq]
  after_results_simp
  pointwise []

theorem in_b (i) : @Eq EReal (V m c main_v8 i) (a2 m c i) := by
  simp only [V, hostOps0, StableHlo.TRef.unary, StableHlo.TRef.toBuf, StableHlo.TRef.ofBuf, cast_eq]
  after_results_simp
  pointwise []

theorem in_p (i) : @Eq EReal (V m c main_v0 i) (a5 m c i) := by
  simp only [V, hostOps0, StableHlo.TRef.unary, StableHlo.TRef.toBuf, StableHlo.TRef.ofBuf, cast_eq]
  after_results_simp
  pointwise []

theorem in_q (i) : @Eq EReal (V m c main_v1 i) (a6 m c i) := by
  simp only [V, hostOps0, StableHlo.TRef.unary, StableHlo.TRef.toBuf, StableHlo.TRef.ofBuf, cast_eq]
  after_results_simp
  pointwise []

theorem in_w (i) : @Eq EReal (V m c main_v2 i) (a7 m c i) := by
  simp only [V, hostOps0, StableHlo.TRef.unary, StableHlo.TRef.toBuf, StableHlo.TRef.ofBuf, cast_eq]
  after_results_simp
  pointwise []

theorem in_f (e : Fin 2048) : @Eq EReal (V m c main_v3 (ix2 0 e)) (a8 m c (ix1 e)) := by
  simp only [V, hostOps0, StableHlo.TRef.unary, StableHlo.TRef.toBuf, StableHlo.TRef.ofBuf, cast_eq]
  after_results_simp
  pointwise []

theorem in_g (r : Fin 16384) (e : Fin 2048) (l : Fin 7168) (hl : l.val = 2048 + e.val) : @Eq EReal (V m c main_v6 (ix2 r l)) (a3 m c (ix2 r e)) := by
  have hb : 2048 + e.val < 7168 := by omega
  obtain rfl : l = ⟨2048 + e.val, hb⟩ := Fin.ext hl
  simp only [V, hostOps0, StableHlo.TRef.unary, StableHlo.TRef.toBuf, StableHlo.TRef.ofBuf, cast_eq]
  after_results_simp
  pointwise []

theorem in_h (r : Fin 16384) (e : Fin 2048) (l : Fin 7168) (hl : l.val = 4096 + e.val) : @Eq EReal (V m c main_v6 (ix2 r l)) (a4 m c (ix2 r e)) := by
  have hb : 4096 + e.val < 7168 := by omega
  obtain rfl : l = ⟨4096 + e.val, hb⟩ := Fin.ext hl
  simp only [V, hostOps0, StableHlo.TRef.unary, StableHlo.TRef.toBuf, StableHlo.TRef.ofBuf, cast_eq]
  after_results_simp
  pointwise []
  rw [dif_neg (by omega), dif_neg (by omega), dif_pos (by omega)]
  exact congrArg (a4 m c) (by blk_ext)

theorem blk0 (t : Fin cfg0.N) (r : Fin 16384) (q : Fin 256) (e : Fin 2048) (hr : r.val = 256 * t.val + q.val) :
    @Eq EReal (iblk m c 0 t (ix2 q e)) (a0 m c (ix2 r e)) := by
  have e1 : (win0_0.blk t).view.emb (ix2 q e) = (ix2 r e) := by blk_ext [idx t]
  rw [← in_x]
  unfold iblk
  change View.read (Elt Ideal) (win0_0.blk t).view (V m c main_arg0) (ix2 q e) = V m c main_arg0 (ix2 r e)
  generalize V m c main_arg0 = f
  rw [View.read_apply, e1]
  exact cast_eq _ _

theorem blk1 (t : Fin cfg0.N) (r : Fin 16384) (q : Fin 256) (e : Fin 1024) (hr : r.val = 256 * t.val + q.val) :
    @Eq EReal (iblk m c 1 t (ix2 q e)) (a1 m c (ix2 r e)) := by
  have e1 : (win0_1.blk t).view.emb (ix2 q e) = (ix2 r e) := by blk_ext [idx t]
  rw [← in_a]
  unfold iblk
  change View.read (Elt Ideal) (win0_1.blk t).view (V m c main_v7) (ix2 q e) = V m c main_v7 (ix2 r e)
  generalize V m c main_v7 = f
  rw [View.read_apply, e1]
  exact cast_eq _ _

theorem blk2 (t : Fin cfg0.N) (r : Fin 16384) (q : Fin 256) (e : Fin 1024) (hr : r.val = 256 * t.val + q.val) :
    @Eq EReal (iblk m c 2 t (ix2 q e)) (a2 m c (ix2 r e)) := by
  have e1 : (win0_2.blk t).view.emb (ix2 q e) = (ix2 r e) := by blk_ext [idx t]
  rw [← in_b]
  unfold iblk
  change View.read (Elt Ideal) (win0_2.blk t).view (V m c main_v8) (ix2 q e) = V m c main_v8 (ix2 r e)
  generalize V m c main_v8 = f
  rw [View.read_apply, e1]
  exact cast_eq _ _

theorem blk5 (t : Fin cfg0.N) (j : Fin 1024) (e : Fin 2048) :
    @Eq EReal (iblk m c 5 t (ix2 j e)) (a5 m c (ix2 j e)) := by
  have e1 : (win0_5.blk t).view.emb (ix2 j e) = (ix2 j e) := by blk_ext [idx t]
  rw [← in_p]
  unfold iblk
  change View.read (Elt Ideal) (win0_5.blk t).view (V m c main_v0) (ix2 j e) = V m c main_v0 (ix2 j e)
  generalize V m c main_v0 = f
  rw [View.read_apply, e1]
  exact cast_eq _ _

theorem blk6 (t : Fin cfg0.N) (j : Fin 1024) (e : Fin 2048) :
    @Eq EReal (iblk m c 6 t (ix2 j e)) (a6 m c (ix2 j e)) := by
  have e1 : (win0_6.blk t).view.emb (ix2 j e) = (ix2 j e) := by blk_ext [idx t]
  rw [← in_q]
  unfold iblk
  change View.read (Elt Ideal) (win0_6.blk t).view (V m c main_v1) (ix2 j e) = V m c main_v1 (ix2 j e)
  generalize V m c main_v1 = f
  rw [View.read_apply, e1]
  exact cast_eq _ _

theorem blk7 (t : Fin cfg0.N) (j : Fin 2048) (e : Fin 2048) :
    @Eq EReal (iblk m c 7 t (ix2 j e)) (a7 m c (ix2 j e)) := by
  have e1 : (win0_7.blk t).view.emb (ix2 j e) = (ix2 j e) := by blk_ext [idx t]
  rw [← in_w]
  unfold iblk
  change View.read (Elt Ideal) (win0_7.blk t).view (V m c main_v2) (ix2 j e) = V m c main_v2 (ix2 j e)
  generalize V m c main_v2 = f
  rw [View.read_apply, e1]
  exact cast_eq _ _

theorem blk8 (t : Fin cfg0.N) (e : Fin 2048) :
    @Eq EReal (iblk m c 8 t (ix2 0 e)) (a8 m c (ix1 e)) := by
  have e1 : (win0_8.blk t).view.emb (ix2 0 e) = (ix2 0 e) := by blk_ext [idx t]
  rw [← in_f]
  unfold iblk
  change View.read (Elt Ideal) (win0_8.blk t).view (V m c main_v3) (ix2 0 e) = V m c main_v3 (ix2 0 e)
  generalize V m c main_v3 = f
  rw [View.read_apply, e1]
  exact cast_eq _ _

theorem blk3 (t : Fin cfg0.N) (r : Fin 16384) (q : Fin 256) (e : Fin 2048) (hr : r.val = 256 * t.val + q.val) :
    @Eq EReal (X0_3 m c t (ix2 q e)) (a3 m c (ix2 r e)) := by
  unfold X0_3 Pipeline.Window.fill
  rw [dif_pos (moved0_3 t _)]
  have e1 : (win0_3.blk t).view.emb (fun a => ⟨((ix2 q e : S256x2048.Idx) a).val, ((win0_3.moved_iff _ _).mp (moved0_3 t (ix2 q e)) a)⟩) = ix2 r ⟨2048 + e.val, by omega⟩ := by blk_ext [idx t]
  rw [← in_g m c r e ⟨2048 + e.val, by omega⟩ rfl]
  unfold iblk
  change View.read (Elt Ideal) (win0_3.blk t).view (V m c main_v6) (fun a => ⟨((ix2 q e : S256x2048.Idx) a).val, ((win0_3.moved_iff _ _).mp (moved0_3 t (ix2 q e)) a)⟩) = V m c main_v6 _
  generalize V m c main_v6 = f
  rw [View.read_apply, e1]
  exact cast_eq _ _

theorem blk4 (t : Fin cfg0.N) (r : Fin 16384) (q : Fin 256) (e : Fin 2048) (hr : r.val = 256 * t.val + q.val) :
    @Eq EReal (X0_4 m c t (ix2 q e)) (a4 m c (ix2 r e)) := by
  unfold X0_4 Pipeline.Window.fill
  rw [dif_pos (moved0_4 t _)]
  have e1 : (win0_4.blk t).view.emb (fun a => ⟨((ix2 q e : S256x2048.Idx) a).val, ((win0_4.moved_iff _ _).mp (moved0_4 t (ix2 q e)) a)⟩) = ix2 r ⟨4096 + e.val, by omega⟩ := by blk_ext [idx t]
  rw [← in_h m c r e ⟨4096 + e.val, by omega⟩ rfl]
  unfold iblk
  change View.read (Elt Ideal) (win0_4.blk t).view (V m c main_v6) (fun a => ⟨((ix2 q e : S256x2048.Idx) a).val, ((win0_4.moved_iff _ _).mp (moved0_4 t (ix2 q e)) a)⟩) = V m c main_v6 _
  generalize V m c main_v6 = f
  rw [View.read_apply, e1]
  exact cast_eq _ _

theorem t_lt (t : Fin cfg0.N) : t.val < 64 := lt_of_lt_of_eq t.isLt N_0

/-- Row `r` of the residual stream after the mix of the two attentions, as the formula on the arguments. -/
def x1 (r : Fin 16384) (e : Fin 2048) : EReal :=
  (a0 m c (ix2 r e) : EReal) + ∑ k : Fin 2048,
    (Ideal.logistic (a3 m c (ix2 r k)) * (∑ j : Fin 1024, (a1 m c (ix2 r j) : EReal) * a5 m c (ix2 j k))
      + Ideal.logistic (a4 m c (ix2 r k)) * (∑ j : Fin 1024, (a2 m c (ix2 r j) : EReal) * a6 m c (ix2 j k))) * a7 m c (ix2 k e)

/-- The same row normed to unit mean square and scaled by the norm's weight. -/
def h2 (r : Fin 16384) (e : Fin 2048) : EReal :=
  x1 m c r e * Ideal.rsqrt (Ideal.div (∑ j : Fin 2048, x1 m c r j * x1 m c r j) (Ideal.ofBits .f32 0x45000000#32) + Ideal.ofBits .f32 0x358637BD#32)
    * (a8 m c (ix1 e) : EReal)

theorem x1_blk (t : Fin cfg0.N) (r : Fin 16384) (q : Fin 256) (e : Fin 2048) (hr : r.val = 256 * t.val + q.val) :
    @Eq EReal (k0_pay2 (F := Ideal) (iblk m c 1 t) (iblk m c 5 t) (iblk m c 2 t) (iblk m c 6 t) (X0_3 m c t) (X0_4 m c t) (iblk m c 0 t) (iblk m c 7 t) (ix2 q e)) (x1 m c r e) := by
  refine (pay2_at _ _ _ _ _ _ _ _ q e).trans (congrArg₂ (· + ·) (blk0 m c t r q e hr) (Finset.sum_congr rfl fun k _ => ?_))
  refine congrArg₂ (· * ·) (congrArg₂ (· + ·) ?_ ?_) (blk7 m c t k e)
  · exact congrArg₂ (· * ·) (congrArg Ideal.logistic (blk3 m c t r q k hr))
      (Finset.sum_congr rfl fun j _ => congrArg₂ (· * ·) (blk1 m c t r q j hr) (blk5 m c t j k))
  · exact congrArg₂ (· * ·) (congrArg Ideal.logistic (blk4 m c t r q k hr))
      (Finset.sum_congr rfl fun j _ => congrArg₂ (· * ·) (blk2 m c t r q j hr) (blk6 m c t j k))

theorem out_x1 (t : Fin cfg0.N) (r : Fin 16384) (q : Fin 256) (e : Fin 2048) (hr : r.val = 256 * t.val + q.val) :
    @Eq EReal ((outsAt0 m c t).1 (ix2 q e)) (x1 m c r e) := by
  unfold outsAt0
  frame_out
  exact x1_blk m c t r q e hr

theorem out_h2 (t : Fin cfg0.N) (r : Fin 16384) (q : Fin 256) (e : Fin 2048) (hr : r.val = 256 * t.val + q.val) :
    @Eq EReal ((outsAt0 m c t).2 (ix2 q e)) (h2 m c r e) := by
  unfold outsAt0
  frame_out
  refine (pay1_at _ _ _ q e).trans (congrArg₂ (· * ·) (congrArg₂ (· * ·) (x1_blk m c t r q e hr) ?_) (blk8 m c t e))
  refine (pay3_at _ _ _ _ _ _ _ _ q).trans (congrArg (fun z : EReal => Ideal.rsqrt (Ideal.div z (Ideal.ofBits .f32 0x45000000#32) + Ideal.ofBits .f32 0x358637BD#32)) ?_)
  exact Finset.sum_congr rfl fun j _ => congrArg₂ (· * ·) (x1_blk m c t r q j hr) (x1_blk m c t r q j hr)

end Arrays

section Reference

open Cert.ReferenceOutIdeal.Read

variable (b0 : Vec Ideal S16384x2048 .f32) (b1 b2 : Vec Ideal S16384x1024 .f32) (b3 b4 : Vec Ideal S16384x2048 .f32)
  (b5 b6 : Vec Ideal S1024x2048 .f32) (b7 : Vec Ideal S2048x2048 .f32) (b8 : Vec Ideal S2048 .f32)

theorem ref_x1 (r : Fin 16384) (e : Fin 2048) :
    @Eq EReal (val_main_v18 (F := Ideal) b0 b1 b2 b3 b4 b5 b6 b7 (ix2 r e)) ((b0 (ix2 r e) : EReal) + ∑ k : Fin 2048,
    (Ideal.logistic (b3 (ix2 r k)) * (∑ j : Fin 1024, (b1 (ix2 r j) : EReal) * b5 (ix2 j k))
      + Ideal.logistic (b4 (ix2 r k)) * (∑ j : Fin 1024, (b2 (ix2 r j) : EReal) * b6 (ix2 j k))) * b7 (ix2 k e)) := by
  pointwise [val_main_v18, val_main_v17, val_main_v16, val_main_v15, val_main_v14, val_main_v13, val_main_v12, val_main_v11, val_main_v10, val_main_v9,
    val_main_v8, val_main_v7, val_main_v6, val_main_v5, val_main_v4, val_main_v3, val_main_v2, val_main_v1, val_main_v0, val_main_cst, val_main_cst_0,
    val_main_cst_1, val_main_cst_2]
  rfl

theorem ref_h2 (r : Fin 16384) (e : Fin 2048) :
    @Eq EReal (val_main_v32 (F := Ideal) b0 b1 b2 b3 b4 b5 b6 b7 b8 (ix2 r e)) ((val_main_v18 (F := Ideal) b0 b1 b2 b3 b4 b5 b6 b7 (ix2 r e) : EReal)
      * Ideal.rsqrt (Ideal.div (∑ j : Fin 2048, (val_main_v18 (F := Ideal) b0 b1 b2 b3 b4 b5 b6 b7 (ix2 r j) : EReal) * val_main_v18 (F := Ideal) b0 b1 b2 b3 b4 b5 b6 b7 (ix2 r j))
        (Ideal.ofBits .f32 0x45000000#32) + Ideal.ofBits .f32 0x358637BD#32) * (b8 (ix1 e) : EReal)) := by
  unfold val_main_v32 val_main_v31 val_main_v28 val_main_v27 val_main_v26 val_main_v25 val_main_v23 val_main_v21 val_main_v20 val_main_v19
  generalize val_main_v18 (F := Ideal) b0 b1 b2 b3 b4 b5 b6 b7 = y
  pointwise [val_main_v30, val_main_v29, val_main_v24, val_main_v22, val_main_cst_3, val_main_cst_4, val_main_cst_5]

end Reference

theorem final_x1 (m : (ℓ : Loc nD τ sig) → Buf (Elt Ideal) ℓ) (c : Dev nD) : (dats m 0 c).arrAt 9 cfg0.N
    = Cert.ReferenceOutIdeal.Read.val_main_v18 (F := Ideal) (a0 m c) (a1 m c) (a2 m c) (a3 m c) (a4 m c) (a5 m c) (a6 m c) (a7 m c) := by
  refine (dats m 0 c).arrAt_eq_of_covers 9 _ (by decide +kernel) fun t hf y => ?_
  blk_simp
  rw [after0_9]
  obtain ⟨q, e, rfl⟩ : ∃ (q : Fin 256) (e : Fin 2048), y = ix2 q e := ⟨y 0, y 1, by blk_ext⟩
  have ht := t_lt t
  have e1 : (win0_9.blk t).view.emb (ix2 q e) = ix2 ⟨256 * t.val + q.val, by omega⟩ e := by blk_ext [idx t]
  rw [e1]
  exact (out_x1 m c t _ q e rfl).trans (ref_x1 _ _ _ _ _ _ _ _ _ _).symm

theorem final_h2 (m : (ℓ : Loc nD τ sig) → Buf (Elt Ideal) ℓ) (c : Dev nD) : (dats m 0 c).arrAt 10 cfg0.N
    = Cert.ReferenceOutIdeal.Read.val_main_v32 (F := Ideal) (a0 m c) (a1 m c) (a2 m c) (a3 m c) (a4 m c) (a5 m c) (a6 m c) (a7 m c) (a8 m c) := by
  refine (dats m 0 c).arrAt_eq_of_covers 10 _ (by decide +kernel) fun t hf y => ?_
  blk_simp
  rw [after0_10]
  obtain ⟨q, e, rfl⟩ : ∃ (q : Fin 256) (e : Fin 2048), y = ix2 q e := ⟨y 0, y 1, by blk_ext⟩
  have ht := t_lt t
  have e1 : (win0_10.blk t).view.emb (ix2 q e) = ix2 ⟨256 * t.val + q.val, by omega⟩ e := by blk_ext [idx t]
  rw [e1]
  refine (out_h2 m c t ⟨256 * t.val + q.val, by omega⟩ q e rfl).trans ((ref_h2 _ _ _ _ _ _ _ _ _ _ _).trans ?_).symm
  simp only [ref_x1]
  rfl

end Cert.KernelOutIdeal.Proj

end
-- ==== Proof.CallIn.lean ====
/- The input projection: the normed rows kept over the column tiles, their products, and the columns' order. -/
module

public import proofs.«01_k».proof.Defs
public import proofs.«01_k».proof.Proof.Gen.KernelIn.Frame
public import proofs.«01_k».proof.Proof.Gen.KernelInIdeal.Value
public import proofs.«01_k».proof.Proof.Gen.ReferenceInIdeal.Run
public import proofs.«01_k».proof.Proof.Gen.ReferenceInIdeal.Read
public import Idealize.ShloMosaic.Lib.Pipeline.ValueKit
public import Idealize.ShloMosaic.Lib.Pipeline.ReadBack

@[expose] public section

set_option maxRecDepth 16384

noncomputable section

namespace Cert.KernelInIdeal.Proj

open Idealize.ShloMosaic Idealize.ShloMosaic.TcCoe Idealize.SL.Sem
open Cert.KernelInIdeal Cert.KernelInIdeal.Gen

theorem pay1_at (x : Vec Ideal S512x2048 .f32) (g : Vec Ideal S1x2048 .f32) (i : Fin 512) (e : Fin 2048) :
    @Eq EReal (k0_pay1 (F := Ideal) x g (ix2 i e)) (x (ix2 i e) * Ideal.rsqrt (Ideal.div (∑ j : Fin 2048, (x (ix2 i j) : EReal) * x (ix2 i j))
      (Ideal.ofBits .f32 0x45000000#32) + Ideal.ofBits .f32 0x358637BD#32) * g (ix2 0 e)) := by
  pointwise [k0_pay1]

theorem pay2_at (h : Vec Ideal S512x2048 .bf16) (w : Vec Ideal S2048x1024 .bf16) (i : Fin 512) (e : Fin 1024) :
    @Eq EReal (k0_pay2 (F := Ideal) h w (ix2 i e)) (∑ j : Fin 2048, (h (ix2 i j) : EReal) * w (ix2 j e)) := by
  pointwise [k0_pay2]

/-- The column of the weights that column `l` of the result is made from; the columns 1616 to 2047 come from none. -/
def src (l : ℕ) : ℕ :=
  if l < 1024 then l else if l < 1536 then l - 1024 + 1840 else if l < 1568 then l - 1536 + 2608 else if l < 1616 then l - 1568 + 1792
  else if l < 2048 then 0 else if l < 4096 then l - 2048 + 2640 else if l < 6144 then l - 4096 + 4688 else if l < 6912 then l - 6144 + 1024
  else l - 6912 + 2352

theorem src_lt (l : Fin 7168) : src l.val < 6736 := by have := l.isLt; unfold src; split_ifs <;> omega

theorem src_0 (l e : ℕ) (he : e < 1024) (hl : l = 0 + e) : e = src l := by unfold src; split_ifs <;> omega
theorem src_1 (l e : ℕ) (he : e < 512) (hl : l = 1024 + e) : 1840 + e = src l := by unfold src; split_ifs <;> omega
theorem src_2 (l e : ℕ) (he : e < 32) (hl : l = 1536 + e) : 2608 + e = src l := by unfold src; split_ifs <;> omega
theorem src_3 (l e : ℕ) (he : e < 48) (hl : l = 1568 + e) : 1792 + e = src l := by unfold src; split_ifs <;> omega
theorem src_5 (l e : ℕ) (he : e < 2048) (hl : l = 2048 + e) : 2640 + e = src l := by unfold src; split_ifs <;> omega
theorem src_6 (l e : ℕ) (he : e < 2048) (hl : l = 4096 + e) : 4688 + e = src l := by unfold src; split_ifs <;> omega
theorem src_7 (l e : ℕ) (he : e < 256) (hl : l = 6144 + e) : 1024 + e = src l := by unfold src; split_ifs <;> omega
theorem src_8 (l e : ℕ) (he : e < 256) (hl : l = 6400 + e) : 1280 + e = src l := by unfold src; split_ifs <;> omega
theorem src_9 (l e : ℕ) (he : e < 256) (hl : l = 6656 + e) : 1536 + e = src l := by unfold src; split_ifs <;> omega
theorem src_10 (l e : ℕ) (he : e < 256) (hl : l = 6912 + e) : 2352 + e = src l := by unfold src; split_ifs <;> omega

/-- The array read at the source of column `l`, or zero. -/
def pick {n : ℕ} (f : Fin n → Fin 6736 → EReal) (r : Fin n) (l : Fin 7168) : EReal :=
  if 1616 ≤ l.val ∧ l.val < 2048 then 0 else f r ⟨src l.val, src_lt l⟩

theorem pick_at {n : ℕ} (f : Fin n → Fin 6736 → EReal) (r : Fin n) (l : Fin 7168) (s : Fin 6736) (hn : ¬(1616 ≤ l.val ∧ l.val < 2048)) (hs : s.val = src l.val) :
    pick f r l = f r s := by
  unfold pick
  rw [if_neg hn]
  exact congrArg (f r) (Fin.ext hs.symm)

theorem pick_zero {n : ℕ} (f : Fin n → Fin 6736 → EReal) (r : Fin n) (l : Fin 7168) (h : 1616 ≤ l.val ∧ l.val < 2048) : pick f r l = 0 := if_pos h

theorem narrow {S : Shape} (x : FVec Ideal S .f32) (h : FTy.bits .bf16 < FTy.bits .f32) (i : S.Idx) : @Eq EReal (truncf .bf16 x h i) (x i) := rfl

/-- A place of a table is its row and its column. -/
theorem at_ix2 {n w : ℕ} (i : (⟨2, ![n, w]⟩ : Shape).Idx) (r : Fin n) (e : Fin w) (h0 : (i 0).val = r.val) (h1 : (i 1).val = e.val) : i = ix2 r e :=
  funext fun a => match a with
    | ⟨0, _⟩ => Fin.ext h0
    | ⟨1, _⟩ => Fin.ext h1

section Lay

variable {n w : ℕ}

/-- What a row of pieces holds at a place before the first piece's end. -/
theorem take {W : ℕ} (j : (⟨2, ![n, W]⟩ : Shape).Idx) (x : (⟨2, ![n, w]⟩ : Shape).Idx → EReal) (q : (s : Shape) × (s.Idx → EReal)) (xs : List ((s : Shape) × (s.Idx → EReal)))
    (hs : ∀ s' ∈ ((⟨(⟨2, ![n, w]⟩ : Shape), x⟩ :: q :: xs : List ((s : Shape) × (s.Idx → EReal))).map (·.1)), s'.FitsOff (⟨2, ![n, W]⟩ : Shape) 1) (c : ℕ) (hc) (d : c < w) :
    concatenateAt (⟨2, ![n, W]⟩ : Shape) 1 j (⟨(⟨2, ![n, w]⟩ : Shape), x⟩ :: q :: xs) hs c hc = x (ix2 (j 0) ⟨c, d⟩) := by
  refine (concatenateAt_cons _ _ _ _ _ _ _ _).trans ((dif_pos d).trans (congrArg x ?_))
  exact at_ix2 _ _ _ rfl rfl

/-- The last piece. -/
theorem last {W : ℕ} (j : (⟨2, ![n, W]⟩ : Shape).Idx) (x : (⟨2, ![n, w]⟩ : Shape).Idx → EReal)
    (hs : ∀ s' ∈ ([⟨(⟨2, ![n, w]⟩ : Shape), x⟩] : List ((s : Shape) × (s.Idx → EReal))).map (·.1), s'.FitsOff (⟨2, ![n, W]⟩ : Shape) 1) (c : ℕ) (hc) (d : c < w) :
    concatenateAt (⟨2, ![n, W]⟩ : Shape) 1 j [⟨(⟨2, ![n, w]⟩ : Shape), x⟩] hs c hc = x (ix2 (j 0) ⟨c, d⟩) := by
  refine (concatenateAt_singleton _ _ _ _ _ _).trans (congrArg x ?_)
  exact at_ix2 _ _ _ rfl rfl

/-- Past the first piece's end the rest of the row is read that many places earlier. -/
theorem skip {W : ℕ} (j : (⟨2, ![n, W]⟩ : Shape).Idx) (x : (⟨2, ![n, w]⟩ : Shape).Idx → EReal) (q : (s : Shape) × (s.Idx → EReal)) (xs : List ((s : Shape) × (s.Idx → EReal)))
    (hs : ∀ s' ∈ ((⟨(⟨2, ![n, w]⟩ : Shape), x⟩ :: q :: xs : List ((s : Shape) × (s.Idx → EReal))).map (·.1)), s'.FitsOff (⟨2, ![n, W]⟩ : Shape) 1) (c : ℕ) (hc) (d : ¬c < w) :
    ∃ c', ∃ hs' hc', c = w + c' ∧ concatenateAt (⟨2, ![n, W]⟩ : Shape) 1 j (⟨(⟨2, ![n, w]⟩ : Shape), x⟩ :: q :: xs) hs c hc
      = concatenateAt (⟨2, ![n, W]⟩ : Shape) 1 j (q :: xs) hs' c' hc' :=
  ⟨c - w, _, _, by omega, (concatenateAt_cons _ _ _ _ _ _ _ _).trans (dif_neg d)⟩

/-- Eleven arrays laid side by side hold the array each of them holds a part of. -/
theorem lay {n : ℕ} (f : Fin n → Fin 7168 → EReal)
    (x0 : (⟨2, ![n, 1024]⟩ : Shape).Idx → EReal)
    (x1 : (⟨2, ![n, 512]⟩ : Shape).Idx → EReal)
    (x2 : (⟨2, ![n, 32]⟩ : Shape).Idx → EReal)
    (x3 : (⟨2, ![n, 48]⟩ : Shape).Idx → EReal)
    (x4 : (⟨2, ![n, 432]⟩ : Shape).Idx → EReal)
    (x5 : (⟨2, ![n, 2048]⟩ : Shape).Idx → EReal)
    (x6 : (⟨2, ![n, 2048]⟩ : Shape).Idx → EReal)
    (x7 : (⟨2, ![n, 256]⟩ : Shape).Idx → EReal)
    (x8 : (⟨2, ![n, 256]⟩ : Shape).Idx → EReal)
    (x9 : (⟨2, ![n, 256]⟩ : Shape).Idx → EReal)
    (x10 : (⟨2, ![n, 256]⟩ : Shape).Idx → EReal)
    (h : Shape.Concatenates [(⟨2, ![n, 1024]⟩ : Shape), (⟨2, ![n, 512]⟩ : Shape), (⟨2, ![n, 32]⟩ : Shape), (⟨2, ![n, 48]⟩ : Shape), (⟨2, ![n, 432]⟩ : Shape), (⟨2, ![n, 2048]⟩ : Shape), (⟨2, ![n, 2048]⟩ : Shape), (⟨2, ![n, 256]⟩ : Shape), (⟨2, ![n, 256]⟩ : Shape), (⟨2, ![n, 256]⟩ : Shape), (⟨2, ![n, 256]⟩ : Shape)] (⟨2, ![n, 7168]⟩ : Shape) 1)
    (h0 : ∀ (r : Fin n) (e : Fin 1024) (l : Fin 7168), l.val = 0 + e.val → x0 (ix2 r e) = f r l)
    (h1 : ∀ (r : Fin n) (e : Fin 512) (l : Fin 7168), l.val = 1024 + e.val → x1 (ix2 r e) = f r l)
    (h2 : ∀ (r : Fin n) (e : Fin 32) (l : Fin 7168), l.val = 1536 + e.val → x2 (ix2 r e) = f r l)
    (h3 : ∀ (r : Fin n) (e : Fin 48) (l : Fin 7168), l.val = 1568 + e.val → x3 (ix2 r e) = f r l)
    (h4 : ∀ (r : Fin n) (e : Fin 432) (l : Fin 7168), l.val = 1616 + e.val → x4 (ix2 r e) = f r l)
    (h5 : ∀ (r : Fin n) (e : Fin 2048) (l : Fin 7168), l.val = 2048 + e.val → x5 (ix2 r e) = f r l)
    (h6 : ∀ (r : Fin n) (e : Fin 2048) (l : Fin 7168), l.val = 4096 + e.val → x6 (ix2 r e) = f r l)
    (h7 : ∀ (r : Fin n) (e : Fin 256) (l : Fin 7168), l.val = 6144 + e.val → x7 (ix2 r e) = f r l)
    (h8 : ∀ (r : Fin n) (e : Fin 256) (l : Fin 7168), l.val = 6400 + e.val → x8 (ix2 r e) = f r l)
    (h9 : ∀ (r : Fin n) (e : Fin 256) (l : Fin 7168), l.val = 6656 + e.val → x9 (ix2 r e) = f r l)
    (h10 : ∀ (r : Fin n) (e : Fin 256) (l : Fin 7168), l.val = 6912 + e.val → x10 (ix2 r e) = f r l)
    (r : Fin n) (l : Fin 7168) :
    concatenate (⟨2, ![n, 7168]⟩ : Shape) 1 [⟨(⟨2, ![n, 1024]⟩ : Shape), x0⟩, ⟨(⟨2, ![n, 512]⟩ : Shape), x1⟩, ⟨(⟨2, ![n, 32]⟩ : Shape), x2⟩, ⟨(⟨2, ![n, 48]⟩ : Shape), x3⟩, ⟨(⟨2, ![n, 432]⟩ : Shape), x4⟩, ⟨(⟨2, ![n, 2048]⟩ : Shape), x5⟩, ⟨(⟨2, ![n, 2048]⟩ : Shape), x6⟩, ⟨(⟨2, ![n, 256]⟩ : Shape), x7⟩, ⟨(⟨2, ![n, 256]⟩ : Shape), x8⟩, ⟨(⟨2, ![n, 256]⟩ : Shape), x9⟩, ⟨(⟨2, ![n, 256]⟩ : Shape), x10⟩] h (ix2 r l) = f r l := by
  have hl := l.isLt
  refine (concatenate_cons_apply _ _ _ _ _ _ _).trans ?_
  have key : ∀ c0 s0 b0, c0 = l.val → concatenateAt (⟨2, ![n, 7168]⟩ : Shape) 1 (ix2 r l) [⟨(⟨2, ![n, 1024]⟩ : Shape), x0⟩, ⟨(⟨2, ![n, 512]⟩ : Shape), x1⟩, ⟨(⟨2, ![n, 32]⟩ : Shape), x2⟩, ⟨(⟨2, ![n, 48]⟩ : Shape), x3⟩, ⟨(⟨2, ![n, 432]⟩ : Shape), x4⟩, ⟨(⟨2, ![n, 2048]⟩ : Shape), x5⟩, ⟨(⟨2, ![n, 2048]⟩ : Shape), x6⟩, ⟨(⟨2, ![n, 256]⟩ : Shape), x7⟩, ⟨(⟨2, ![n, 256]⟩ : Shape), x8⟩, ⟨(⟨2, ![n, 256]⟩ : Shape), x9⟩, ⟨(⟨2, ![n, 256]⟩ : Shape), x10⟩] s0 c0 b0 = f r l := by
    intro c0 s0 b0 e0
    by_cases d0 : c0 < 1024
    · exact (take _ x0 _ _ s0 c0 b0 d0).trans (h0 r ⟨c0, d0⟩ l (by show l.val = 0 + c0; omega))
    obtain ⟨c1, s1, b1, e1, g1⟩ := skip _ x0 _ _ s0 c0 b0 d0
    refine g1.trans ?_
    by_cases d1 : c1 < 512
    · exact (take _ x1 _ _ s1 c1 b1 d1).trans (h1 r ⟨c1, d1⟩ l (by show l.val = 1024 + c1; omega))
    obtain ⟨c2, s2, b2, e2, g2⟩ := skip _ x1 _ _ s1 c1 b1 d1
    refine g2.trans ?_
    by_cases d2 : c2 < 32
    · exact (take _ x2 _ _ s2 c2 b2 d2).trans (h2 r ⟨c2, d2⟩ l (by show l.val = 1536 + c2; omega))
    obtain ⟨c3, s3, b3, e3, g3⟩ := skip _ x2 _ _ s2 c2 b2 d2
    refine g3.trans ?_
    by_cases d3 : c3 < 48
    · exact (take _ x3 _ _ s3 c3 b3 d3).trans (h3 r ⟨c3, d3⟩ l (by show l.val = 1568 + c3; omega))
    obtain ⟨c4, s4, b4, e4, g4⟩ := skip _ x3 _ _ s3 c3 b3 d3
    refine g4.trans ?_
    by_cases d4 : c4 < 432
    · exact (take _ x4 _ _ s4 c4 b4 d4).trans (h4 r ⟨c4, d4⟩ l (by show l.val = 1616 + c4; omega))
    obtain ⟨c5, s5, b5, e5, g5⟩ := skip _ x4 _ _ s4 c4 b4 d4
    refine g5.trans ?_
    by_cases d5 : c5 < 2048
    · exact (take _ x5 _ _ s5 c5 b5 d5).trans (h5 r ⟨c5, d5⟩ l (by show l.val = 2048 + c5; omega))
    obtain ⟨c6, s6, b6, e6, g6⟩ := skip _ x5 _ _ s5 c5 b5 d5
    refine g6.trans ?_
    by_cases d6 : c6 < 2048
    · exact (take _ x6 _ _ s6 c6 b6 d6).trans (h6 r ⟨c6, d6⟩ l (by show l.val = 4096 + c6; omega))
    obtain ⟨c7, s7, b7, e7, g7⟩ := skip _ x6 _ _ s6 c6 b6 d6
    refine g7.trans ?_
    by_cases d7 : c7 < 256
    · exact (take _ x7 _ _ s7 c7 b7 d7).trans (h7 r ⟨c7, d7⟩ l (by show l.val = 6144 + c7; omega))
    obtain ⟨c8, s8, b8, e8, g8⟩ := skip _ x7 _ _ s7 c7 b7 d7
    refine g8.trans ?_
    by_cases d8 : c8 < 256
    · exact (take _ x8 _ _ s8 c8 b8 d8).trans (h8 r ⟨c8, d8⟩ l (by show l.val = 6400 + c8; omega))
    obtain ⟨c9, s9, b9, e9, g9⟩ := skip _ x8 _ _ s8 c8 b8 d8
    refine g9.trans ?_
    by_cases d9 : c9 < 256
    · exact (take _ x9 _ _ s9 c9 b9 d9).trans (h9 r ⟨c9, d9⟩ l (by show l.val = 6656 + c9; omega))
    obtain ⟨c10, s10, b10, e10, g10⟩ := skip _ x9 _ _ s9 c9 b9 d9
    refine g10.trans ?_
    exact (last _ x10 s10 c10 b10 (by omega)).trans (h10 r ⟨c10, by omega⟩ l (by show l.val = 6912 + c10; omega))
  exact key _ _ _ rfl

end Lay

section Arrays

variable (m : (ℓ : Loc nD τ sig) → Buf (Elt Ideal) ℓ) (c : Dev nD)

abbrev aX : Vec Ideal S16384x2048 .f32 := m ((c : Thread nD τ).loc main_arg0)
abbrev aG : Vec Ideal S2048 .f32 := m ((c : Thread nD τ).loc main_arg1)
abbrev aW : Vec Ideal S2048x6736 .f32 := m ((c : Thread nD τ).loc main_arg2)

theorem idx : ∀ t : Fin cfg0.N, win0_0.index t = ![t.val / 7, 0] ∧ win0_1.index t = ![0, 0] ∧ win0_2.index t = ![0, t.val % 7]
    ∧ win0_3.index t = ![t.val / 7, t.val % 7] :=
  (by decide +kernel : ∀ t : Fin grid0.N, _)

theorem in_x (i) : @Eq EReal (V m c main_arg0 i) (aX m c i) := by
  simp only [V, hostOps0, StableHlo.TRef.unary, StableHlo.TRef.toBuf, StableHlo.TRef.ofBuf, cast_eq]
  after_results_simp

theorem in_g (e : Fin 2048) : @Eq EReal (V m c main_v11 (ix2 0 e)) (aG m c (ix1 e)) := by
  simp only [V, hostOps0, StableHlo.TRef.unary, StableHlo.TRef.toBuf, StableHlo.TRef.ofBuf, cast_eq]
  after_results_simp
  pointwise []

theorem in_w (j : Fin 2048) (l : Fin 7168) : @Eq EReal (V m c main_v13 (ix2 j l)) (pick (fun j s => aW m c (ix2 j s)) j l) := by
  simp only [V, hostOps0, StableHlo.TRef.unary, StableHlo.TRef.toBuf, StableHlo.TRef.ofBuf, cast_eq]
  after_results_simp
  refine (narrow _ _ _).trans ?_
  refine lay (fun j l => pick (fun j s => aW m c (ix2 j s)) j l) _ _ _ _ _ _ _ _ _ _ _ _ ?_ ?_ ?_ ?_ ?_ ?_ ?_ ?_ ?_ ?_ ?_ j l
  · intro r e l hl
    have he := e.isLt
    pointwise []
    after_results_simp
    pointwise []
    exact (pick_at (fun j s => aW m c (ix2 j s)) r l ⟨e.val, by omega⟩ (by omega) (src_0 _ _ he hl)).symm
  · intro r e l hl
    have he := e.isLt
    pointwise []
    after_results_simp
    pointwise []
    exact (pick_at (fun j s => aW m c (ix2 j s)) r l ⟨1840 + e.val, by omega⟩ (by omega) (src_1 _ _ he hl)).symm
  · intro r e l hl
    have he := e.isLt
    pointwise []
    after_results_simp
    pointwise []
    exact (pick_at (fun j s => aW m c (ix2 j s)) r l ⟨2608 + e.val, by omega⟩ (by omega) (src_2 _ _ he hl)).symm
  · intro r e l hl
    have he := e.isLt
    pointwise []
    after_results_simp
    pointwise []
    exact (pick_at (fun j s => aW m c (ix2 j s)) r l ⟨1792 + e.val, by omega⟩ (by omega) (src_3 _ _ he hl)).symm
  · intro r e l hl
    have he := e.isLt
    pointwise []
    after_results_simp
    pointwise []
    exact (pick_zero (fun j s => aW m c (ix2 j s)) r l (by omega)).symm
  · intro r e l hl
    have he := e.isLt
    pointwise []
    after_results_simp
    pointwise []
    exact (pick_at (fun j s => aW m c (ix2 j s)) r l ⟨2640 + e.val, by omega⟩ (by omega) (src_5 _ _ he hl)).symm
  · intro r e l hl
    have he := e.isLt
    pointwise []
    after_results_simp
    pointwise []
    exact (pick_at (fun j s => aW m c (ix2 j s)) r l ⟨4688 + e.val, by omega⟩ (by omega) (src_6 _ _ he hl)).symm
  · intro r e l hl
    have he := e.isLt
    pointwise []
    after_results_simp
    pointwise []
    exact (pick_at (fun j s => aW m c (ix2 j s)) r l ⟨1024 + e.val, by omega⟩ (by omega) (src_7 _ _ he hl)).symm
  · intro r e l hl
    have he := e.isLt
    pointwise []
    after_results_simp
    pointwise []
    exact (pick_at (fun j s => aW m c (ix2 j s)) r l ⟨1280 + e.val, by omega⟩ (by omega) (src_8 _ _ he hl)).symm
  · intro r e l hl
    have he := e.isLt
    pointwise []
    after_results_simp
    pointwise []
    exact (pick_at (fun j s => aW m c (ix2 j s)) r l ⟨1536 + e.val, by omega⟩ (by omega) (src_9 _ _ he hl)).symm
  · intro r e l hl
    have he := e.isLt
    pointwise []
    after_results_simp
    pointwise []
    exact (pick_at (fun j s => aW m c (ix2 j s)) r l ⟨2352 + e.val, by omega⟩ (by omega) (src_10 _ _ he hl)).symm

theorem blk0 (t : Fin cfg0.N) (r : Fin 16384) (q : Fin 512) (e : Fin 2048) (hr : r.val = 512 * (t.val / 7) + q.val) :
    @Eq EReal (iblk m c 0 t (ix2 q e)) (aX m c (ix2 r e)) := by
  have e1 : (win0_0.blk t).view.emb (ix2 q e) = ix2 r e := by blk_ext [idx t]
  rw [← in_x]
  unfold iblk
  change View.read (Elt Ideal) (win0_0.blk t).view (V m c main_arg0) (ix2 q e) = V m c main_arg0 (ix2 r e)
  generalize V m c main_arg0 = f
  rw [View.read_apply, e1]
  exact cast_eq _ _

theorem blk1 (t : Fin cfg0.N) (e : Fin 2048) : @Eq EReal (iblk m c 1 t (ix2 0 e)) (aG m c (ix1 e)) := by
  have e1 : (win0_1.blk t).view.emb (ix2 0 e) = ix2 0 e := by blk_ext [idx t]
  rw [← in_g]
  unfold iblk
  change View.read (Elt Ideal) (win0_1.blk t).view (V m c main_v11) (ix2 0 e) = V m c main_v11 (ix2 0 e)
  generalize V m c main_v11 = f
  rw [View.read_apply, e1]
  exact cast_eq _ _

theorem blk2 (t : Fin cfg0.N) (j : Fin 2048) (q : Fin 1024) (l : Fin 7168) (hl : l.val = 1024 * (t.val % 7) + q.val) :
    @Eq EReal (iblk m c 2 t (ix2 j q)) (pick (fun j s => aW m c (ix2 j s)) j l) := by
  have e1 : (win0_2.blk t).view.emb (ix2 j q) = ix2 j l := by blk_ext [idx t]
  rw [← in_w]
  unfold iblk
  change View.read (Elt Ideal) (win0_2.blk t).view (V m c main_v13) (ix2 j q) = V m c main_v13 (ix2 j l)
  generalize V m c main_v13 = f
  rw [View.read_apply, e1]
  exact cast_eq _ _

theorem t_lt (t : Fin cfg0.N) : t.val < 224 := lt_of_lt_of_eq t.isLt N_0

/-- Row `r` normed to unit mean square and scaled by the norm's weight, as the formula on the arguments. -/
def hn (r : Fin 16384) (e : Fin 2048) : EReal :=
  aX m c (ix2 r e) * Ideal.rsqrt (Ideal.div (∑ j : Fin 2048, (aX m c (ix2 r j) : EReal) * aX m c (ix2 r j))
    (Ideal.ofBits .f32 0x45000000#32) + Ideal.ofBits .f32 0x358637BD#32) * aG m c (ix1 e)

theorem pay1_blk (t : Fin cfg0.N) (r : Fin 16384) (q : Fin 512) (e : Fin 2048) (hr : r.val = 512 * (t.val / 7) + q.val) :
    @Eq EReal (k0_pay1 (F := Ideal) (iblk m c 0 t) (iblk m c 1 t) (ix2 q e)) (hn m c r e) := by
  refine (pay1_at _ _ q e).trans (congrArg₂ (· * ·) (congrArg₂ (· * ·) (blk0 m c t r q e hr) ?_) (blk1 m c t e))
  refine congrArg (fun z : EReal => Ideal.rsqrt (Ideal.div z (Ideal.ofBits .f32 0x45000000#32) + Ideal.ofBits .f32 0x358637BD#32)) ?_
  exact Finset.sum_congr rfl fun j _ => congrArg₂ (· * ·) (blk0 m c t r q j hr) (blk0 m c t r q j hr)

/-- The scratch holds the normed rows of the point's block, computed at the block's first point and kept after it. -/
theorem scr (n : ℕ) : ∀ t : Fin cfg0.N, t.val % 7 = n → ∀ (r : Fin 16384) (q : Fin 512) (e : Fin 2048), r.val = 512 * (t.val / 7) + q.val →
    @Eq EReal ((outsAt0 m c t.val t.isLt).2 (ix2 q e)) (hn m c r e) := by
  induction n with
  | zero =>
    intro t h r q e hr
    rw [outsAt0_A m c t h]
    frame_out
    exact pay1_blk m c t r q e hr
  | succ n ih =>
    intro t h r q e hr
    rw [outsAt0_B m c t (by omega)]
    frame_out
    exact ih ⟨t.val - 1, Nat.lt_of_le_of_lt (Nat.sub_le _ _) t.isLt⟩ (by show (t.val - 1) % 7 = n; omega) r q e
      (by show r.val = 512 * ((t.val - 1) / 7) + q.val; omega)

theorem out_z (t : Fin cfg0.N) (r : Fin 16384) (q : Fin 512) (l : Fin 7168) (e : Fin 1024) (hr : r.val = 512 * (t.val / 7) + q.val)
    (hl : l.val = 1024 * (t.val % 7) + e.val) :
    @Eq EReal ((outsAt0 m c t.val t.isLt).1 (ix2 q e)) (∑ j : Fin 2048, hn m c r j * pick (fun j s => aW m c (ix2 j s)) j l) := by
  by_cases h : t.val % 7 = 0
  · rw [outsAt0_A m c t h]
    frame_out
    refine (pay2_at _ _ q e).trans (Finset.sum_congr rfl fun j _ => congrArg₂ (· * ·) ?_ (blk2 m c t j e l hl))
    exact pay1_blk m c t r q j hr
  · rw [outsAt0_B m c t h]
    frame_out
    refine (pay2_at _ _ q e).trans (Finset.sum_congr rfl fun j _ => congrArg₂ (· * ·) ?_ (blk2 m c t j e l hl))
    refine Eq.trans ?_ (scr m c ((t.val - 1) % 7) ⟨t.val - 1, Nat.lt_of_le_of_lt (Nat.sub_le _ _) t.isLt⟩ rfl r q j
      (by show r.val = 512 * ((t.val - 1) / 7) + q.val; omega))
    rw [read_unread_whole]

end Arrays

section Reference

open Cert.ReferenceInIdeal.Read

variable (b0 : Vec Ideal S16384x2048 .f32) (b1 : Vec Ideal S2048 .f32) (b2 : Vec Ideal S2048x6736 .f32)

theorem ref_h (r : Fin 16384) (e : Fin 2048) :
    @Eq EReal (val_main_v12 (F := Ideal) b0 b1 (ix2 r e)) (b0 (ix2 r e) * Ideal.rsqrt (Ideal.div (∑ j : Fin 2048, (b0 (ix2 r j) : EReal) * b0 (ix2 r j))
      (Ideal.ofBits .f32 0x45000000#32) + Ideal.ofBits .f32 0x358637BD#32) * b1 (ix1 e)) := by
  pointwise [val_main_v12, val_main_v11, val_main_v10, val_main_v9, val_main_v8, val_main_v7, val_main_v6, val_main_v5, val_main_v4, val_main_v3,
    val_main_v2, val_main_v1, val_main_v0, val_main_cst, val_main_cst_0, val_main_cst_1]

theorem ref_z (r : Fin 16384) (s : Fin 6736) :
    @Eq EReal (val_main_v13 (F := Ideal) b0 b1 b2 (ix2 r s)) (∑ j : Fin 2048, (val_main_v12 (F := Ideal) b0 b1 (ix2 r j) : EReal) * b2 (ix2 j s)) := by
  unfold val_main_v13
  generalize val_main_v12 (F := Ideal) b0 b1 = y
  pointwise []

theorem ref_col (r : Fin 16384) (l : Fin 7168) :
    @Eq EReal (val_main_v25 (F := Ideal) b0 b1 b2 (ix2 r l)) (pick (fun r s => val_main_v13 (F := Ideal) b0 b1 b2 (ix2 r s)) r l) := by
  unfold val_main_v25 val_main_v14 val_main_v15 val_main_v16 val_main_v17 val_main_v18 val_main_v19 val_main_v20 val_main_v21 val_main_v22 val_main_v23
  generalize val_main_v13 (F := Ideal) b0 b1 b2 = y
  refine lay (fun r l => pick (fun r s => y (ix2 r s)) r l) _ _ _ _ _ _ _ _ _ _ _ _ ?_ ?_ ?_ ?_ ?_ ?_ ?_ ?_ ?_ ?_ ?_ r l
  · intro r e l hl
    have he := e.isLt
    pointwise [val_main_v24, val_main_cst_2]
    exact (pick_at (fun r s => y (ix2 r s)) r l ⟨e.val, by omega⟩ (by omega) (src_0 _ _ he hl)).symm
  · intro r e l hl
    have he := e.isLt
    pointwise [val_main_v24, val_main_cst_2]
    exact (pick_at (fun r s => y (ix2 r s)) r l ⟨1840 + e.val, by omega⟩ (by omega) (src_1 _ _ he hl)).symm
  · intro r e l hl
    have he := e.isLt
    pointwise [val_main_v24, val_main_cst_2]
    exact (pick_at (fun r s => y (ix2 r s)) r l ⟨2608 + e.val, by omega⟩ (by omega) (src_2 _ _ he hl)).symm
  · intro r e l hl
    have he := e.isLt
    pointwise [val_main_v24, val_main_cst_2]
    exact (pick_at (fun r s => y (ix2 r s)) r l ⟨1792 + e.val, by omega⟩ (by omega) (src_3 _ _ he hl)).symm
  · intro r e l hl
    have he := e.isLt
    pointwise [val_main_v24, val_main_cst_2]
    exact (pick_zero (fun r s => y (ix2 r s)) r l (by omega)).symm
  · intro r e l hl
    have he := e.isLt
    pointwise [val_main_v24, val_main_cst_2]
    exact (pick_at (fun r s => y (ix2 r s)) r l ⟨2640 + e.val, by omega⟩ (by omega) (src_5 _ _ he hl)).symm
  · intro r e l hl
    have he := e.isLt
    pointwise [val_main_v24, val_main_cst_2]
    exact (pick_at (fun r s => y (ix2 r s)) r l ⟨4688 + e.val, by omega⟩ (by omega) (src_6 _ _ he hl)).symm
  · intro r e l hl
    have he := e.isLt
    pointwise [val_main_v24, val_main_cst_2]
    exact (pick_at (fun r s => y (ix2 r s)) r l ⟨1024 + e.val, by omega⟩ (by omega) (src_7 _ _ he hl)).symm
  · intro r e l hl
    have he := e.isLt
    pointwise [val_main_v24, val_main_cst_2]
    exact (pick_at (fun r s => y (ix2 r s)) r l ⟨1280 + e.val, by omega⟩ (by omega) (src_8 _ _ he hl)).symm
  · intro r e l hl
    have he := e.isLt
    pointwise [val_main_v24, val_main_cst_2]
    exact (pick_at (fun r s => y (ix2 r s)) r l ⟨1536 + e.val, by omega⟩ (by omega) (src_9 _ _ he hl)).symm
  · intro r e l hl
    have he := e.isLt
    pointwise [val_main_v24, val_main_cst_2]
    exact (pick_at (fun r s => y (ix2 r s)) r l ⟨2352 + e.val, by omega⟩ (by omega) (src_10 _ _ he hl)).symm

end Reference

theorem final (m : (ℓ : Loc nD τ sig) → Buf (Elt Ideal) ℓ) (c : Dev nD) : (dats m 0 c).arrAt 3 cfg0.N
    = Cert.ReferenceInIdeal.Read.val_main_v25 (F := Ideal) (aX m c) (aG m c) (aW m c) := by
  refine (dats m 0 c).arrAt_eq_of_covers 3 _ (by decide +kernel) fun t hf y => ?_
  blk_simp
  rw [after0_3]
  obtain ⟨q, e, rfl⟩ : ∃ (q : Fin 512) (e : Fin 1024), y = ix2 q e := ⟨y 0, y 1, by blk_ext⟩
  have ht := t_lt t
  have e1 : (win0_3.blk t).view.emb (ix2 q e) = ix2 ⟨512 * (t.val / 7) + q.val, by omega⟩ ⟨1024 * (t.val % 7) + e.val, by omega⟩ := by blk_ext [idx t]
  rw [e1]
  generalize hr : (⟨512 * (t.val / 7) + q.val, by omega⟩ : Fin 16384) = r
  generalize hl : (⟨1024 * (t.val % 7) + e.val, by omega⟩ : Fin 7168) = l
  refine (out_z m c t r q l e (by rw [← hr]) (by rw [← hl])).trans (Eq.trans ?_ (ref_col _ _ _ r l).symm)
  by_cases hz : 1616 ≤ l.val ∧ l.val < 2048
  · rw [pick_zero _ _ _ hz]
    exact Finset.sum_eq_zero fun j _ => by rw [pick_zero _ _ _ hz, mul_zero]
  · rw [pick_at _ r l ⟨src l.val, src_lt l⟩ hz rfl, ref_z]
    refine Finset.sum_congr rfl fun j _ => ?_
    rw [ref_h, pick_at _ j l ⟨src l.val, src_lt l⟩ hz rfl]
    rfl

end Cert.KernelInIdeal.Proj

end
-- ==== Proof.Calls.lean ====
/- The frames and the equal results of the further calls: the feed-forward, the output projection and the input projection. -/
module

public import proofs.«01_k».proof.Defs
public import proofs.«01_k».proof.Proof.CallFfn
public import proofs.«01_k».proof.Proof.CallOut
public import proofs.«01_k».proof.Proof.CallIn
public import Idealize.ShloMosaic.Adequacy
public import Idealize.ShloMosaic.Init
public import Idealize.ShloMosaic.Lib.Claim

@[expose] public section

set_option maxRecDepth 16384

noncomputable section

namespace Cert.Proof

open Idealize.ShloMosaic Idealize.ShloMosaic.TcCoe Idealize.SL.Sem

/-- The feed-forward call runs, keeps its arguments and ends with every counter at zero. -/
theorem frame_p_ffn : Cert.quiescent_KernelFfn := fun m ρ _ => Cert.KernelFfn.Gen.frame m ρ

theorem frame_pi_ffn : Cert.quiescent_KernelFfnIdeal := fun m ρ _ => Cert.KernelFfnIdeal.Gen.frame m ρ

theorem frame_ri_ffn : Cert.quiescent_ReferenceFfnIdeal := fun m ρ _ =>
  (θ_run Cert.ReferenceFfnIdeal.defs _ _).mono
    (fun r h => ⟨fun c => (h c).2, sem_eq_zero_of_no_sems (by decide) r.2⟩)
    (Cert.ReferenceFfnIdeal.Value.run (F := Ideal) m ρ)

/-- The output projection runs, keeps its arguments and ends with every counter at zero. -/
theorem frame_p_out : Cert.quiescent_KernelOut := fun m ρ _ => Cert.KernelOut.Gen.frame m ρ

theorem frame_pi_out : Cert.quiescent_KernelOutIdeal := fun m ρ _ => Cert.KernelOutIdeal.Gen.frame m ρ

theorem frame_ri_out : Cert.quiescent_ReferenceOutIdeal := fun m ρ _ =>
  (θ_run Cert.ReferenceOutIdeal.defs _ _).mono
    (fun r h => ⟨fun c => (h c).2.2, sem_eq_zero_of_no_sems (by decide) r.2⟩)
    (Cert.ReferenceOutIdeal.Value.run (F := Ideal) m ρ)

/-- The input projection runs, keeps its arguments and ends with every counter at zero. -/
theorem frame_p_in : Cert.quiescent_KernelIn := fun m ρ _ => Cert.KernelIn.Gen.frame m ρ

theorem frame_pi_in : Cert.quiescent_KernelInIdeal := fun m ρ _ => Cert.KernelInIdeal.Gen.frame m ρ

theorem frame_ri_in : Cert.quiescent_ReferenceInIdeal := fun m ρ _ =>
  (θ_run Cert.ReferenceInIdeal.defs _ _).mono
    (fun r h => ⟨fun c => (h c).2, sem_eq_zero_of_no_sems (by decide) r.2⟩)
    (Cert.ReferenceInIdeal.Value.run (F := Ideal) m ρ)

theorem algebraic_ffn : Cert.algebraic_KernelFfnIdeal_ReferenceFfnIdeal := by
  pair_intro
  · run_from Cert.KernelFfnIdeal.Value.run_blocks m g
  · run_from Cert.ReferenceFfnIdeal.Value.run m' g'
    rw [Cert.ReferenceFfnIdeal.Read.val_main_v5_eq]
    exact (Cert.KernelFfnIdeal.Ffn.final m c).symm

theorem algebraic_out : Cert.algebraic_KernelOutIdeal_ReferenceOutIdeal := by
  pair_intro
  · run_from Cert.KernelOutIdeal.Value.run_blocks m g
  · run_from Cert.ReferenceOutIdeal.Value.run m' g'
    · rw [Cert.ReferenceOutIdeal.Read.val_main_v18_eq]
      exact (Cert.KernelOutIdeal.Proj.final_x1 m c).symm
    · rw [Cert.ReferenceOutIdeal.Read.val_main_v32_eq]
      exact (Cert.KernelOutIdeal.Proj.final_h2 m c).symm

theorem algebraic_in : Cert.algebraic_KernelInIdeal_ReferenceInIdeal := by
  pair_intro
  · run_from Cert.KernelInIdeal.Value.run_blocks m g
  · run_from Cert.ReferenceInIdeal.Value.run m' g'
    rw [Cert.ReferenceInIdeal.Read.val_main_v25_eq]
    obtain ⟨a0, a1, a2⟩ := hagree c
    rw [a0, a1, a2]
    exact (Cert.KernelInIdeal.Proj.final m c).symm

end Cert.Proof

end
-- ==== Proof.PostRun.lean ====
/- The run of one grid point of the call behind the input projection. -/
module

public import proofs.«01_k».proof.Proof.Gen.KernelPostIdeal.Frame.Runs

@[expose] public section

set_option maxRecDepth 16384

noncomputable section

namespace Cert.KernelPostIdeal.Post

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelPostIdeal Cert.KernelPostIdeal.Gen
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- What one grid point's stores leave in each output's buffer, with the proof that the body, run on buffers holding the
    inputs' blocks, gives the inputs back as they were and the outputs with those stores written. The body is long, so
    this one elaboration is given a larger budget. -/
noncomputable def bodyRun (c : Dev nD) (i : grid0.Coords) (arg1 : Memref sig .tc .vmem S256x1024 .f32) (harg1 : arg1.IsWhole) (arg2 : Memref sig .tc .vmem S256x512 .f32) (harg2 : arg2.IsWhole) (arg3 : Memref sig .tc .vmem S256x768 .f32) (harg3 : arg3.IsWhole) (arg4 : Memref sig .tc .vmem S256x256 .f32) (harg4 : arg4.IsWhole) (arg5 : Memref sig .tc .vmem S256x128 .f32) (harg5 : arg5.IsWhole) (arg6 : Memref sig .tc .vmem S256x128 .f32) (harg6 : arg6.IsWhole) (arg7 : Memref sig .tc .vmem S256x128 .f32) (harg7 : arg7.IsWhole) (arg8 : Memref sig .tc .vmem S256x128 .f32) (harg8 : arg8.IsWhole) (arg9 : Memref sig .tc .vmem S1x1024 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x512 .f32) (harg12 : arg12.IsWhole) (arg13 : Memref sig .tc .vmem S512x3072 .bf16) (harg13 : arg13.IsWhole) (arg14 : Memref sig .tc .vmem S1x1024 .f32) (harg14 : arg14.IsWhole) (arg15 : Memref sig .tc .vmem S1x2048 .f32) (harg15 : arg15.IsWhole) (arg16 : Memref sig .tc .vmem S1x256 .f32) (harg16 : arg16.IsWhole) (arg17 : Memref sig .tc .vmem S1x128 .f32) (harg17 : arg17.IsWhole) (arg18 : Memref sig .tc .vmem S16x256x64 .bf16) (harg18 : arg18.IsWhole) (arg19 : Memref sig .tc .vmem S1024x128 .bf16) (harg19 : arg19.IsWhole) (arg20 : Memref sig .tc .vmem S128x1024 .bf16) (harg20 : arg20.IsWhole) (arg21 : Memref sig .tc .vmem S2048x128 .bf16) (harg21 : arg21.IsWhole) (arg22 : Memref sig .tc .vmem S128x2048 .bf16) (harg22 : arg22.IsWhole) (arg23 : Memref sig .tc .vmem S256x1024 .bf16) (harg23 : arg23.IsWhole) (arg24 : Memref sig .tc .vmem S256x256 .f32) (harg24 : arg24.IsWhole) (arg25 : Memref sig .tc .vmem S256x256 .f32) (harg25 : arg25.IsWhole) (arg26 : Memref sig .tc .vmem S256x256 .f32) (harg26 : arg26.IsWhole) (arg27 : Memref sig .tc .vmem S2x256x128 .bf16) (harg27 : arg27.IsWhole) (arg28 : Memref sig .tc .vmem S2x256x128 .bf16) (harg28 : arg28.IsWhole) (arg29 : Memref sig .tc .vmem S256x256 .f32) (harg29 : arg29.IsWhole) (arg30 : Memref sig .tc .vmem S256x256 .bf16) (harg30 : arg30.IsWhole) (arg31 : Memref sig .tc .vmem S256x128 .f32) (harg31 : arg31.IsWhole) (arg32 : Memref sig .tc .vmem S256x128 .bf16) (harg32 : arg32.IsWhole) (arg33 : Memref sig .tc .vmem S256x4096 .bf16) (harg33 : arg33.IsWhole) (arg34 : Memref sig .tc .vmem S256x2048 .bf16) (harg34 : arg34.IsWhole) (arg35 : Memref sig .tc .vmem S1024x256 .bf16) (harg35 : arg35.IsWhole) (arg36 : Memref sig .tc .vmem S2x2x128x128 .bf16) (harg36 : arg36.IsWhole) (arg37 : Memref sig .tc .vmem S2x2x128x128 .bf16) (harg37 : arg37.IsWhole)
    (x0 : Vec F S256x1024 .f32) (x1 : Vec F S256x512 .f32) (x2 : Vec F S256x768 .f32) (x3 : Vec F S256x256 .f32) (x4 : Vec F S256x128 .f32) (x5 : Vec F S256x128 .f32) (x6 : Vec F S256x128 .f32) (x7 : Vec F S256x128 .f32) (x8 : Vec F S1x1024 .f32) (x9 : Vec F S1x128 .f32) (x10 : Vec F S1x128 .f32) (x11 : Vec F S1x512 .f32) (x12 : Vec F S512x3072 .bf16) (x13 : Vec F S1x1024 .f32) (x14 : Vec F S1x2048 .f32) (x15 : Vec F S1x256 .f32) (x16 : Vec F S1x128 .f32) (x17 : Vec F S16x256x64 .bf16) (x18 : Vec F S1024x128 .bf16) (x19 : Vec F S128x1024 .bf16) (x20 : Vec F S2048x128 .bf16) (x21 : Vec F S128x2048 .bf16) :
    Σ' (L22 : List (View.Piece (Elt F) S256x1024 .bf16)), Σ' (L23 : List (View.Piece (Elt F) S256x256 .f32)), Σ' (L24 : List (View.Piece (Elt F) S256x256 .f32)), Σ' (L25 : List (View.Piece (Elt F) S256x256 .f32)), Σ' (L26 : List (View.Piece (Elt F) S2x256x128 .bf16)), Σ' (L27 : List (View.Piece (Elt F) S2x256x128 .bf16)), Σ' (L28 : List (View.Piece (Elt F) S256x256 .f32)), Σ' (L29 : List (View.Piece (Elt F) S256x256 .bf16)), Σ' (L30 : List (View.Piece (Elt F) S256x128 .f32)), Σ' (L31 : List (View.Piece (Elt F) S256x128 .bf16)), Σ' (L32 : List (View.Piece (Elt F) S256x4096 .bf16)), Σ' (L33 : List (View.Piece (Elt F) S256x2048 .bf16)), Σ' (L34 : List (View.Piece (Elt F) S1024x256 .bf16)), Σ' (L35 : List (View.Piece (Elt F) S2x2x128x128 .bf16)), { L36 : List (View.Piece (Elt F) S2x2x128x128 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d) ∗ (∃ d, owns (c : Thread nD τ) arg33 fullShare d) ∗ (∃ d, owns (c : Thread nD τ) arg34 fullShare d) ∗ (∃ d, owns (c : Thread nD τ) arg35 fullShare d) ∗ (∃ d, owns (c : Thread nD τ) arg36 fullShare d) ∗ (∃ d, owns (c : Thread nD τ) arg37 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ (∃ f, arg23.view.loc (c : Thread nD τ) ↦[arg23.view.set]{fullShare} arg23.view.writes (Elt F) f L22) ∗ (∃ f, arg24.view.loc (c : Thread nD τ) ↦[arg24.view.set]{fullShare} arg24.view.writes (Elt F) f L23) ∗ (∃ f, arg25.view.loc (c : Thread nD τ) ↦[arg25.view.set]{fullShare} arg25.view.writes (Elt F) f L24) ∗ (∃ f, arg26.view.loc (c : Thread nD τ) ↦[arg26.view.set]{fullShare} arg26.view.writes (Elt F) f L25) ∗ (∃ f, arg27.view.loc (c : Thread nD τ) ↦[arg27.view.set]{fullShare} arg27.view.writes (Elt F) f L26) ∗ (∃ f, arg28.view.loc (c : Thread nD τ) ↦[arg28.view.set]{fullShare} arg28.view.writes (Elt F) f L27) ∗ (∃ f, arg29.view.loc (c : Thread nD τ) ↦[arg29.view.set]{fullShare} arg29.view.writes (Elt F) f L28) ∗ (∃ f, arg30.view.loc (c : Thread nD τ) ↦[arg30.view.set]{fullShare} arg30.view.writes (Elt F) f L29) ∗ (∃ f, arg31.view.loc (c : Thread nD τ) ↦[arg31.view.set]{fullShare} arg31.view.writes (Elt F) f L30) ∗ (∃ f, arg32.view.loc (c : Thread nD τ) ↦[arg32.view.set]{fullShare} arg32.view.writes (Elt F) f L31) ∗ (∃ f, arg33.view.loc (c : Thread nD τ) ↦[arg33.view.set]{fullShare} arg33.view.writes (Elt F) f L32) ∗ (∃ f, arg34.view.loc (c : Thread nD τ) ↦[arg34.view.set]{fullShare} arg34.view.writes (Elt F) f L33) ∗ (∃ f, arg35.view.loc (c : Thread nD τ) ↦[arg35.view.set]{fullShare} arg35.view.writes (Elt F) f L34) ∗ (∃ f, arg36.view.loc (c : Thread nD τ) ↦[arg36.view.set]{fullShare} arg36.view.writes (Elt F) f L35) ∗ (∃ f, arg37.view.loc (c : Thread nD τ) ↦[arg37.view.set]{fullShare} arg37.view.writes (Elt F) f L36)) -∗ K ⟨⟩))
          ⊢ wp frame (wpE (defs₀ (F := F)) Variants.none c none) E (cc0_post_proj i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37) K } := by
  refine ⟨?_, ?_, ?_, ?_, ?_, ?_, ?_, ?_, ?_, ?_, ?_, ?_, ?_, ?_, ?_, fun E K => ?run⟩
  case run =>
    simp only [cc0_post_proj_eq_skeleton]; unfold cc0_post_proj_skel
    simp only [k0_part13_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, ⟨%d28, %f28, -, H28⟩, ⟨%d29, %f29, -, H29⟩, ⟨%d30, %f30, -, H30⟩, ⟨%d31, %f31, -, H31⟩, ⟨%d32, %f32, -, H32⟩, ⟨%d33, %f33, -, H33⟩, ⟨%d34, %f34, -, H34⟩, ⟨%d35, %f35, -, H35⟩, ⟨%d36, %f36, -, H36⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18; obtain rfl := harg20.eq_unread hf19; obtain rfl := harg21.eq_unread hf20; obtain rfl := harg22.eq_unread hf21
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]
    · iexists _; isplitr; · ipureintro; exact harg19.read_unread _
      iexact H18
    isplitl [H19]
    · iexists _; isplitr; · ipureintro; exact harg20.read_unread _
      iexact H19
    isplitl [H20]
    · iexists _; isplitr; · ipureintro; exact harg21.read_unread _
      iexact H20
    isplitl [H21]
    · iexists _; isplitr; · ipureintro; exact harg22.read_unread _
      iexact H21
    isplitl [H22]; · iexists _; iexact H22
    isplitl [H23]; · iexists _; iexact H23
    isplitl [H24]; · iexists _; iexact H24
    isplitl [H25]; · iexists _; iexact H25
    isplitl [H26]; · iexists _; iexact H26
    isplitl [H27]; · iexists _; iexact H27
    isplitl [H28]; · iexists _; iexact H28
    isplitl [H29]; · iexists _; iexact H29
    isplitl [H30]; · iexists _; iexact H30
    isplitl [H31]; · iexists _; iexact H31
    isplitl [H32]; · iexists _; iexact H32
    isplitl [H33]; · iexists _; iexact H33
    isplitl [H34]; · iexists _; iexact H34
    isplitl [H35]; · iexists _; iexact H35
    iexists _; iexact H36

end Cert.KernelPostIdeal.Post

end
-- ==== Proof.PostFrame.lean ====
/- The run of the whole call behind the input projection: its arguments kept, its counters at zero, its results where the grid leaves them. -/
module

public import proofs.«01_k».proof.Proof.PostRun
public import Idealize.ShloMosaic.Lib.Claim

@[expose] public section

set_option maxRecDepth 16384

noncomputable section

namespace Cert.KernelPostIdeal.Post

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelPostIdeal Cert.KernelPostIdeal.Gen
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The run of grid point `t` on the point's own buffers and input blocks. -/
def runAt (c : Dev nD) (t : Fin cfg0.N) :=
  bodyRun (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) (ms0_32 t) (hs0_32 t) (ms0_33 t) (hs0_33 t) (ms0_34 t) (hs0_34 t) (ms0_35 t) (hs0_35 t) (ms0_36 t) (hs0_36 t) (iblk m c 0 t) (iblk m c 1 t) (X0_2 m c t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t)

theorem cover22 (c : Dev nD) (t : Fin cfg0.N) (y : S256x1024.Idx) : ∃ pc ∈ (runAt m c t).1, y ∈ pc.1.set :=
  View.cover_of_tiledL (runAt m c t).1 S256x1024.size (by sl_kernel_rfl) y

theorem cover23 (c : Dev nD) (t : Fin cfg0.N) (y : S256x256.Idx) : ∃ pc ∈ (runAt m c t).2.1, y ∈ pc.1.set :=
  View.cover_of_tiledL (runAt m c t).2.1 S256x256.size (by sl_kernel_rfl) y

theorem cover24 (c : Dev nD) (t : Fin cfg0.N) (y : S256x256.Idx) : ∃ pc ∈ (runAt m c t).2.2.1, y ∈ pc.1.set :=
  View.cover_of_tiledL (runAt m c t).2.2.1 S256x256.size (by sl_kernel_rfl) y

theorem cover25 (c : Dev nD) (t : Fin cfg0.N) (y : S256x256.Idx) : ∃ pc ∈ (runAt m c t).2.2.2.1, y ∈ pc.1.set :=
  View.cover_of_tiledL (runAt m c t).2.2.2.1 S256x256.size (by sl_kernel_rfl) y

theorem cover26 (c : Dev nD) (t : Fin cfg0.N) (y : S2x256x128.Idx) : ∃ pc ∈ (runAt m c t).2.2.2.2.1, y ∈ pc.1.set :=
  View.cover_of_tiledL (runAt m c t).2.2.2.2.1 S1x256x128.size (by sl_kernel_rfl) y

theorem cover27 (c : Dev nD) (t : Fin cfg0.N) (y : S2x256x128.Idx) : ∃ pc ∈ (runAt m c t).2.2.2.2.2.1, y ∈ pc.1.set :=
  View.cover_of_tiledL (runAt m c t).2.2.2.2.2.1 S1x256x128.size (by sl_kernel_rfl) y

theorem cover28 (c : Dev nD) (t : Fin cfg0.N) (y : S256x256.Idx) : ∃ pc ∈ (runAt m c t).2.2.2.2.2.2.1, y ∈ pc.1.set :=
  View.cover_of_tiledL (runAt m c t).2.2.2.2.2.2.1 S256x256.size (by sl_kernel_rfl) y

theorem cover29 (c : Dev nD) (t : Fin cfg0.N) (y : S256x256.Idx) : ∃ pc ∈ (runAt m c t).2.2.2.2.2.2.2.1, y ∈ pc.1.set :=
  View.cover_of_tiledL (runAt m c t).2.2.2.2.2.2.2.1 S256x256.size (by sl_kernel_rfl) y

theorem cover30 (c : Dev nD) (t : Fin cfg0.N) (y : S256x128.Idx) : ∃ pc ∈ (runAt m c t).2.2.2.2.2.2.2.2.1, y ∈ pc.1.set :=
  View.cover_of_tiledL (runAt m c t).2.2.2.2.2.2.2.2.1 S256x128.size (by sl_kernel_rfl) y

theorem cover31 (c : Dev nD) (t : Fin cfg0.N) (y : S256x128.Idx) : ∃ pc ∈ (runAt m c t).2.2.2.2.2.2.2.2.2.1, y ∈ pc.1.set :=
  View.cover_of_tiledL (runAt m c t).2.2.2.2.2.2.2.2.2.1 S256x128.size (by sl_kernel_rfl) y

theorem cover32 (c : Dev nD) (t : Fin cfg0.N) (y : S256x4096.Idx) : ∃ pc ∈ (runAt m c t).2.2.2.2.2.2.2.2.2.2.1, y ∈ pc.1.set :=
  View.cover_of_tiledL (runAt m c t).2.2.2.2.2.2.2.2.2.2.1 S256x256.size (by sl_kernel_rfl) y

theorem cover33 (c : Dev nD) (t : Fin cfg0.N) (y : S256x2048.Idx) : ∃ pc ∈ (runAt m c t).2.2.2.2.2.2.2.2.2.2.2.1, y ∈ pc.1.set :=
  View.cover_of_tiledL (runAt m c t).2.2.2.2.2.2.2.2.2.2.2.1 S256x2048.size (by sl_kernel_rfl) y

theorem cover34 (c : Dev nD) (t : Fin cfg0.N) (y : S1024x256.Idx) : ∃ pc ∈ (runAt m c t).2.2.2.2.2.2.2.2.2.2.2.2.1, y ∈ pc.1.set :=
  View.cover_of_tiledL (runAt m c t).2.2.2.2.2.2.2.2.2.2.2.2.1 S1024x256.size (by sl_kernel_rfl) y

theorem cover35 (c : Dev nD) (t : Fin cfg0.N) (y : S2x2x128x128.Idx) : ∃ pc ∈ (runAt m c t).2.2.2.2.2.2.2.2.2.2.2.2.2.1, y ∈ pc.1.set :=
  View.cover_of_tiledL (runAt m c t).2.2.2.2.2.2.2.2.2.2.2.2.2.1 S1x1x128x128.size (by sl_kernel_rfl) y

theorem cover36 (c : Dev nD) (t : Fin cfg0.N) (y : S2x2x128x128.Idx) : ∃ pc ∈ (runAt m c t).2.2.2.2.2.2.2.2.2.2.2.2.2.2.1, y ∈ pc.1.set :=
  View.cover_of_tiledL (runAt m c t).2.2.2.2.2.2.2.2.2.2.2.2.2.2.1 S1x1x128x128.size (by sl_kernel_rfl) y

/-- What the outputs' buffers hold after grid point `t`. -/
def outsAt0 (c : Dev nD) (t : Fin cfg0.N) : Vec F S256x1024 .bf16 × Vec F S256x256 .f32 × Vec F S256x256 .f32 × Vec F S256x256 .f32 × Vec F S2x256x128 .bf16 × Vec F S2x256x128 .bf16 × Vec F S256x256 .f32 × Vec F S256x256 .bf16 × Vec F S256x128 .f32 × Vec F S256x128 .bf16 × Vec F S256x4096 .bf16 × Vec F S256x2048 .bf16 × Vec F S1024x256 .bf16 × Vec F S2x2x128x128 .bf16 × Vec F S2x2x128x128 .bf16 :=
  (VO0_22.read (Elt F) (VO0_22.writes (Elt F) VO0_22.junk (runAt m c t).1),
    VO0_23.read (Elt F) (VO0_23.writes (Elt F) VO0_23.junk (runAt m c t).2.1),
    VO0_24.read (Elt F) (VO0_24.writes (Elt F) VO0_24.junk (runAt m c t).2.2.1),
    VO0_25.read (Elt F) (VO0_25.writes (Elt F) VO0_25.junk (runAt m c t).2.2.2.1),
    VO0_26.read (Elt F) (VO0_26.writes (Elt F) VO0_26.junk (runAt m c t).2.2.2.2.1),
    VO0_27.read (Elt F) (VO0_27.writes (Elt F) VO0_27.junk (runAt m c t).2.2.2.2.2.1),
    VO0_28.read (Elt F) (VO0_28.writes (Elt F) VO0_28.junk (runAt m c t).2.2.2.2.2.2.1),
    VO0_29.read (Elt F) (VO0_29.writes (Elt F) VO0_29.junk (runAt m c t).2.2.2.2.2.2.2.1),
    VO0_30.read (Elt F) (VO0_30.writes (Elt F) VO0_30.junk (runAt m c t).2.2.2.2.2.2.2.2.1),
    VO0_31.read (Elt F) (VO0_31.writes (Elt F) VO0_31.junk (runAt m c t).2.2.2.2.2.2.2.2.2.1),
    VO0_32.read (Elt F) (VO0_32.writes (Elt F) VO0_32.junk (runAt m c t).2.2.2.2.2.2.2.2.2.2.1),
    VO0_33.read (Elt F) (VO0_33.writes (Elt F) VO0_33.junk (runAt m c t).2.2.2.2.2.2.2.2.2.2.2.1),
    VO0_34.read (Elt F) (VO0_34.writes (Elt F) VO0_34.junk (runAt m c t).2.2.2.2.2.2.2.2.2.2.2.2.1),
    VO0_35.read (Elt F) (VO0_35.writes (Elt F) VO0_35.junk (runAt m c t).2.2.2.2.2.2.2.2.2.2.2.2.2.1),
    VO0_36.read (Elt F) (VO0_36.writes (Elt F) VO0_36.junk (runAt m c t).2.2.2.2.2.2.2.2.2.2.2.2.2.2.1))

/-- The arrays as the call finds them, and every buffer after each grid point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => X0_2 m c t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => (outsAt0 m c t).1
    | ⟨23, _⟩ => (outsAt0 m c t).2.1
    | ⟨24, _⟩ => (outsAt0 m c t).2.2.1
    | ⟨25, _⟩ => (outsAt0 m c t).2.2.2.1
    | ⟨26, _⟩ => (outsAt0 m c t).2.2.2.2.1
    | ⟨27, _⟩ => (outsAt0 m c t).2.2.2.2.2.1
    | ⟨28, _⟩ => (outsAt0 m c t).2.2.2.2.2.2.1
    | ⟨29, _⟩ => (outsAt0 m c t).2.2.2.2.2.2.2.1
    | ⟨30, _⟩ => (outsAt0 m c t).2.2.2.2.2.2.2.2.1
    | ⟨31, _⟩ => (outsAt0 m c t).2.2.2.2.2.2.2.2.2.1
    | ⟨32, _⟩ => (outsAt0 m c t).2.2.2.2.2.2.2.2.2.2.1
    | ⟨33, _⟩ => (outsAt0 m c t).2.2.2.2.2.2.2.2.2.2.2.1
    | ⟨34, _⟩ => (outsAt0 m c t).2.2.2.2.2.2.2.2.2.2.2.2.1
    | ⟨35, _⟩ => (outsAt0 m c t).2.2.2.2.2.2.2.2.2.2.2.2.2.1
    | ⟨36, _⟩ => (outsAt0 m c t).2.2.2.2.2.2.2.2.2.2.2.2.2.2
    | ⟨_ + 37, h⟩ => absurd h (Nat.not_lt.2 (Nat.le_add_left _ _))
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = X0_2 m c t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = iblk m c 21 t := by dsimp only [dats]
theorem after0_22 (c : Dev nD) (t : Fin cfg0.N) : (dats m 0 c).after 22 t = (outsAt0 m c t).1 := by dsimp only [dats]
theorem after0_23 (c : Dev nD) (t : Fin cfg0.N) : (dats m 0 c).after 23 t = (outsAt0 m c t).2.1 := by dsimp only [dats]
theorem after0_24 (c : Dev nD) (t : Fin cfg0.N) : (dats m 0 c).after 24 t = (outsAt0 m c t).2.2.1 := by dsimp only [dats]
theorem after0_25 (c : Dev nD) (t : Fin cfg0.N) : (dats m 0 c).after 25 t = (outsAt0 m c t).2.2.2.1 := by dsimp only [dats]
theorem after0_26 (c : Dev nD) (t : Fin cfg0.N) : (dats m 0 c).after 26 t = (outsAt0 m c t).2.2.2.2.1 := by dsimp only [dats]
theorem after0_27 (c : Dev nD) (t : Fin cfg0.N) : (dats m 0 c).after 27 t = (outsAt0 m c t).2.2.2.2.2.1 := by dsimp only [dats]
theorem after0_28 (c : Dev nD) (t : Fin cfg0.N) : (dats m 0 c).after 28 t = (outsAt0 m c t).2.2.2.2.2.2.1 := by dsimp only [dats]
theorem after0_29 (c : Dev nD) (t : Fin cfg0.N) : (dats m 0 c).after 29 t = (outsAt0 m c t).2.2.2.2.2.2.2.1 := by dsimp only [dats]
theorem after0_30 (c : Dev nD) (t : Fin cfg0.N) : (dats m 0 c).after 30 t = (outsAt0 m c t).2.2.2.2.2.2.2.2.1 := by dsimp only [dats]
theorem after0_31 (c : Dev nD) (t : Fin cfg0.N) : (dats m 0 c).after 31 t = (outsAt0 m c t).2.2.2.2.2.2.2.2.2.1 := by dsimp only [dats]
theorem after0_32 (c : Dev nD) (t : Fin cfg0.N) : (dats m 0 c).after 32 t = (outsAt0 m c t).2.2.2.2.2.2.2.2.2.2.1 := by dsimp only [dats]
theorem after0_33 (c : Dev nD) (t : Fin cfg0.N) : (dats m 0 c).after 33 t = (outsAt0 m c t).2.2.2.2.2.2.2.2.2.2.2.1 := by dsimp only [dats]
theorem after0_34 (c : Dev nD) (t : Fin cfg0.N) : (dats m 0 c).after 34 t = (outsAt0 m c t).2.2.2.2.2.2.2.2.2.2.2.2.1 := by dsimp only [dats]
theorem after0_35 (c : Dev nD) (t : Fin cfg0.N) : (dats m 0 c).after 35 t = (outsAt0 m c t).2.2.2.2.2.2.2.2.2.2.2.2.2.1 := by dsimp only [dats]
theorem after0_36 (c : Dev nD) (t : Fin cfg0.N) : (dats m 0 c).after 36 t = (outsAt0 m c t).2.2.2.2.2.2.2.2.2.2.2.2.2.2 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = X0_2 m c t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d
theorem before0_20 (c : Dev nD) (t : Fin cfg0.N) (d) : (dats m 0 c).before 20 t d = iblk m c 20 t :=
  before0_20_of m (dats m 0 c) (A_eq m c 20) (after0_20 m c) t d
theorem before0_21 (c : Dev nD) (t : Fin cfg0.N) (d) : (dats m 0 c).before 21 t d = iblk m c 21 t :=
  before0_21_of m (dats m 0 c) (A_eq m c 21) (after0_21 m c) t d

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d))
    ∗ (∃ d, owns (c : Thread nD τ) (ms0_25 t) fullShare ((dats m 0 c).before 25 t d))
    ∗ (∃ d, owns (c : Thread nD τ) (ms0_26 t) fullShare ((dats m 0 c).before 26 t d))
    ∗ (∃ d, owns (c : Thread nD τ) (ms0_27 t) fullShare ((dats m 0 c).before 27 t d))
    ∗ (∃ d, owns (c : Thread nD τ) (ms0_28 t) fullShare ((dats m 0 c).before 28 t d))
    ∗ (∃ d, owns (c : Thread nD τ) (ms0_29 t) fullShare ((dats m 0 c).before 29 t d))
    ∗ (∃ d, owns (c : Thread nD τ) (ms0_30 t) fullShare ((dats m 0 c).before 30 t d))
    ∗ (∃ d, owns (c : Thread nD τ) (ms0_31 t) fullShare ((dats m 0 c).before 31 t d))
    ∗ (∃ d, owns (c : Thread nD τ) (ms0_32 t) fullShare ((dats m 0 c).before 32 t d))
    ∗ (∃ d, owns (c : Thread nD τ) (ms0_33 t) fullShare ((dats m 0 c).before 33 t d))
    ∗ (∃ d, owns (c : Thread nD τ) (ms0_34 t) fullShare ((dats m 0 c).before 34 t d))
    ∗ (∃ d, owns (c : Thread nD τ) (ms0_35 t) fullShare ((dats m 0 c).before 35 t d))
    ∗ (∃ d, owns (c : Thread nD τ) (ms0_36 t) fullShare ((dats m 0 c).before 36 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t)
    ∗ owns (c : Thread nD τ) (ms0_24 t) fullShare ((dats m 0 c).after 24 t)
    ∗ owns (c : Thread nD τ) (ms0_25 t) fullShare ((dats m 0 c).after 25 t)
    ∗ owns (c : Thread nD τ) (ms0_26 t) fullShare ((dats m 0 c).after 26 t)
    ∗ owns (c : Thread nD τ) (ms0_27 t) fullShare ((dats m 0 c).after 27 t)
    ∗ owns (c : Thread nD τ) (ms0_28 t) fullShare ((dats m 0 c).after 28 t)
    ∗ owns (c : Thread nD τ) (ms0_29 t) fullShare ((dats m 0 c).after 29 t)
    ∗ owns (c : Thread nD τ) (ms0_30 t) fullShare ((dats m 0 c).after 30 t)
    ∗ owns (c : Thread nD τ) (ms0_31 t) fullShare ((dats m 0 c).after 31 t)
    ∗ owns (c : Thread nD τ) (ms0_32 t) fullShare ((dats m 0 c).after 32 t)
    ∗ owns (c : Thread nD τ) (ms0_33 t) fullShare ((dats m 0 c).after 33 t)
    ∗ owns (c : Thread nD τ) (ms0_34 t) fullShare ((dats m 0 c).after 34 t)
    ∗ owns (c : Thread nD τ) (ms0_35 t) fullShare ((dats m 0 c).after 35 t)
    ∗ owns (c : Thread nD τ) (ms0_36 t) fullShare ((dats m 0 c).after 36 t))

set_option maxHeartbeats 3600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27, after0_28, after0_29, after0_30, after0_31, after0_32, after0_33, after0_34, after0_35, after0_36]
  unfold outsAt0
  dsimp only
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩, ⟨%d33, H33⟩, ⟨%d34, H34⟩, ⟨%d35, H35⟩, ⟨%d36, H36⟩⟩
  iapply ((runAt m c t).2.2.2.2.2.2.2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexists _; iexact H22
  isplitl [H23]; · iexists _; iexact H23
  isplitl [H24]; · iexists _; iexact H24
  isplitl [H25]; · iexists _; iexact H25
  isplitl [H26]; · iexists _; iexact H26
  isplitl [H27]; · iexists _; iexact H27
  isplitl [H28]; · iexists _; iexact H28
  isplitl [H29]; · iexists _; iexact H29
  isplitl [H30]; · iexists _; iexact H30
  isplitl [H31]; · iexists _; iexact H31
  isplitl [H32]; · iexists _; iexact H32
  isplitl [H33]; · iexists _; iexact H33
  isplitl [H34]; · iexists _; iexact H34
  isplitl [H35]; · iexists _; iexact H35
  isplitl [H36]; · iexists _; iexact H36
  iintro ⟨H0, H1, H2, H3, H4, H5, H6, H7, H8, H9, H10, H11, H12, H13, H14, H15, H16, H17, H18, H19, H20, H21, ⟨%e22, H22⟩, ⟨%e23, H23⟩, ⟨%e24, H24⟩, ⟨%e25, H25⟩, ⟨%e26, H26⟩, ⟨%e27, H27⟩, ⟨%e28, H28⟩, ⟨%e29, H29⟩, ⟨%e30, H30⟩, ⟨%e31, H31⟩, ⟨%e32, H32⟩, ⟨%e33, H33⟩, ⟨%e34, H34⟩, ⟨%e35, H35⟩, ⟨%e36, H36⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]
  · unfold owns; iexists _; isplitr
    swap; · iexact H22
    ipureintro; exact View.read_writes_of_cover _ _ _ _ _ (cover22 m c t)
  isplitl [H23]
  · unfold owns; iexists _; isplitr
    swap; · iexact H23
    ipureintro; exact View.read_writes_of_cover _ _ _ _ _ (cover23 m c t)
  isplitl [H24]
  · unfold owns; iexists _; isplitr
    swap; · iexact H24
    ipureintro; exact View.read_writes_of_cover _ _ _ _ _ (cover24 m c t)
  isplitl [H25]
  · unfold owns; iexists _; isplitr
    swap; · iexact H25
    ipureintro; exact View.read_writes_of_cover _ _ _ _ _ (cover25 m c t)
  isplitl [H26]
  · unfold owns; iexists _; isplitr
    swap; · iexact H26
    ipureintro; exact View.read_writes_of_cover _ _ _ _ _ (cover26 m c t)
  isplitl [H27]
  · unfold owns; iexists _; isplitr
    swap; · iexact H27
    ipureintro; exact View.read_writes_of_cover _ _ _ _ _ (cover27 m c t)
  isplitl [H28]
  · unfold owns; iexists _; isplitr
    swap; · iexact H28
    ipureintro; exact View.read_writes_of_cover _ _ _ _ _ (cover28 m c t)
  isplitl [H29]
  · unfold owns; iexists _; isplitr
    swap; · iexact H29
    ipureintro; exact View.read_writes_of_cover _ _ _ _ _ (cover29 m c t)
  isplitl [H30]
  · unfold owns; iexists _; isplitr
    swap; · iexact H30
    ipureintro; exact View.read_writes_of_cover _ _ _ _ _ (cover30 m c t)
  isplitl [H31]
  · unfold owns; iexists _; isplitr
    swap; · iexact H31
    ipureintro; exact View.read_writes_of_cover _ _ _ _ _ (cover31 m c t)
  isplitl [H32]
  · unfold owns; iexists _; isplitr
    swap; · iexact H32
    ipureintro; exact View.read_writes_of_cover _ _ _ _ _ (cover32 m c t)
  isplitl [H33]
  · unfold owns; iexists _; isplitr
    swap; · iexact H33
    ipureintro; exact View.read_writes_of_cover _ _ _ _ _ (cover33 m c t)
  isplitl [H34]
  · unfold owns; iexists _; isplitr
    swap; · iexact H34
    ipureintro; exact View.read_writes_of_cover _ _ _ _ _ (cover34 m c t)
  isplitl [H35]
  · unfold owns; iexists _; isplitr
    swap; · iexact H35
    ipureintro; exact View.read_writes_of_cover _ _ _ _ _ (cover35 m c t)
  unfold owns; iexists _; isplitr
  swap; · iexact H36
  ipureintro; exact View.read_writes_of_cover _ _ _ _ _ (cover36 m c t)

theorem defs₀_row (t : Fin cfg0.N) :
    defs₀ (F := F) .tc cfg0.body (cfg0.bodyArgs t (cfg0.slots t)) = bodyAt0 t := by
  unfold defs₀; rw [Defs.onTc_tc]

set_option maxHeartbeats 8000000 in
/-- The body's obligation at every point of the grid. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  θ_run_and (unchanged m ρ) ((θ_run defs _ _).mono (fun _ h => h.2) (run_main_quiescent m ρ))

/-- The five results as the grid leaves them, the arguments as they were. -/
theorem run_results : θ_run defs (onTc (τ := τ) (main (F := F))) ⟨m, fun _ => 0, ρ⟩ fun r => ∀ c : Dev nD,
      r.2.mem ((c : Thread nD τ).loc main_v76_1) = (dats m 0 c).arrAt 23 cfg0.N
      ∧ r.2.mem ((c : Thread nD τ).loc main_v76_2) = (dats m 0 c).arrAt 24 cfg0.N
      ∧ r.2.mem ((c : Thread nD τ).loc main_v76_3) = (dats m 0 c).arrAt 25 cfg0.N
      ∧ r.2.mem ((c : Thread nD τ).loc main_v76_6) = (dats m 0 c).arrAt 28 cfg0.N
      ∧ r.2.mem ((c : Thread nD τ).loc main_v76_8) = (dats m 0 c).arrAt 30 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h.1 c).1 23, (h.1 c).1 24, (h.1 c).1 25, (h.1 c).1 28, (h.1 c).1 30, h.2 c⟩)
    (θ_run_and (run_main m ρ) (unchanged m ρ))

end Cert.KernelPostIdeal.Post

end
-- ==== Proof.PostIn.lean ====
/- The arrays the call behind the input projection is handed, read at one place each. -/
module

public import proofs.«01_k».proof.Proof.Gen.KernelPostIdeal.Frame.Runs
public import Idealize.ShloMosaic.Lib.Pointwise
public import Idealize.ShloMosaic.Lib.Claim
public import Idealize.ShloMosaic.Lib.WordCmp
public import Idealize.ShloMosaic.Lib.Pipeline.ValueKit
public import Idealize.ShloMosaic.Lib.Pipeline.ReadBack

@[expose] public section

set_option maxRecDepth 16384

noncomputable section

namespace Cert.KernelPostIdeal.Post

open Idealize.ShloMosaic Idealize.ShloMosaic.TcCoe Idealize.SL.Sem
open Cert.KernelPostIdeal Cert.KernelPostIdeal.Gen

variable (m : (ℓ : Loc nD τ sig) → Buf (Elt Ideal) ℓ) (c : Dev nD)

/-- The arguments: the projected rows, the rows' positions and the norms' weights. -/
abbrev aZ : Vec Ideal S16384x7168 .f32 := m ((c : Thread nD τ).loc main_arg0)
abbrev aP : Vec Ideal S16384 .i32 := m ((c : Thread nD τ).loc main_arg1)
abbrev aS : Vec Ideal S64 .f32 := m ((c : Thread nD τ).loc main_arg3)
abbrev aW : Vec Ideal S64 .f32 := m ((c : Thread nD τ).loc main_arg4)
abbrev aL : Vec Ideal S256 .f32 := m ((c : Thread nD τ).loc main_arg8)
abbrev aK : Vec Ideal S32 .f32 := m ((c : Thread nD τ).loc main_arg9)

/-- One entry of the head indicator. -/
theorem seg_word (a b : Nat) (ha : a < 1000) (hb : b < 1000) :
    @Eq EReal (FloatOps.uitofp (F := Ideal) .bf16 (IntOp.cmpi .eq (IntOp.addi (BitVec.ofNat 32 a) 0#32) (BitVec.ofNat 32 b))) (if a = b then 1 else 0) := by
  rw [show IntOp.addi (BitVec.ofNat 32 a) 0#32 = BitVec.ofNat 32 a from BitVec.add_zero _, WordCmp.cmpi_eq_ofNat (by omega) (by omega)]
  by_cases h : a = b
  · rw [if_pos h, decide_eq_true h]; simp [FloatOps.uitofp, FloatOps.scalar]
  · rw [if_neg h, decide_eq_false h]; simp [FloatOps.uitofp, FloatOps.scalar]

/-- The rotation angle of a row's position at one frequency. -/
def ang (r : Fin 16384) (i : Fin 16) : EReal :=
  (FloatOps.sitofp (F := Ideal) .f32 (aP m c (ix1 r)) : EReal) * Ideal.pow (Ideal.ofBits .f32 1176256512#32)
    (Ideal.div (-(FloatOps.sitofp (F := Ideal) .f32 (BitVec.ofNat 32 i.val) : EReal)) (Ideal.ofBits .f32 1098907648#32))

theorem in_z (i) : @Eq EReal (V m c main_arg0 i) (aZ m c i) := by
  simp only [V, hostOps0, hostOps0_1, hostOps0_2, hostOps0_3, hostOps0_4, hostOps0_5, hostOps0_6, List.flatten_cons, List.flatten_nil, List.cons_append, List.nil_append, List.append_nil, StableHlo.TRef.ternary, StableHlo.TRef.binary, StableHlo.TRef.unary, StableHlo.TRef.nullary, StableHlo.TRef.toBuf, StableHlo.TRef.ofBuf, cast_eq]
  after_results_simp

theorem in_s (l : Fin 128) (k : Fin 64) (hk : k.val = l.val % 64) : @Eq EReal (V m c main_v7 (ix2 0 l)) (aS m c (ix1 k)) := by
  simp only [V, hostOps0, hostOps0_1, hostOps0_2, hostOps0_3, hostOps0_4, hostOps0_5, hostOps0_6, List.flatten_cons, List.flatten_nil, List.cons_append, List.nil_append, List.append_nil, StableHlo.TRef.ternary, StableHlo.TRef.binary, StableHlo.TRef.unary, StableHlo.TRef.nullary, StableHlo.TRef.toBuf, StableHlo.TRef.ofBuf, cast_eq]
  after_results_simp
  pointwise []
  exact congrArg (aS m c) (by blk_ext)

theorem in_w (l : Fin 128) (k : Fin 64) (hk : k.val = l.val % 64) : @Eq EReal (V m c main_v11 (ix2 0 l)) (aW m c (ix1 k)) := by
  simp only [V, hostOps0, hostOps0_1, hostOps0_2, hostOps0_3, hostOps0_4, hostOps0_5, hostOps0_6, List.flatten_cons, List.flatten_nil, List.cons_append, List.nil_append, List.append_nil, StableHlo.TRef.ternary, StableHlo.TRef.binary, StableHlo.TRef.unary, StableHlo.TRef.nullary, StableHlo.TRef.toBuf, StableHlo.TRef.ofBuf, cast_eq]
  after_results_simp
  pointwise []
  exact congrArg (aW m c) (by blk_ext)

theorem in_l (e : Fin 256) : @Eq EReal (V m c main_v32 (ix2 0 e)) (aL m c (ix1 e)) := by
  simp only [V, hostOps0, hostOps0_1, hostOps0_2, hostOps0_3, hostOps0_4, hostOps0_5, hostOps0_6, List.flatten_cons, List.flatten_nil, List.cons_append, List.nil_append, List.append_nil, StableHlo.TRef.ternary, StableHlo.TRef.binary, StableHlo.TRef.unary, StableHlo.TRef.nullary, StableHlo.TRef.toBuf, StableHlo.TRef.ofBuf, cast_eq]
  after_results_simp
  pointwise []

theorem in_k (l : Fin 128) (k : Fin 32) (hk : k.val = l.val) : @Eq EReal (V m c main_v34 (ix2 0 l)) (aK m c (ix1 k)) := by
  simp only [V, hostOps0, hostOps0_1, hostOps0_2, hostOps0_3, hostOps0_4, hostOps0_5, hostOps0_6, List.flatten_cons, List.flatten_nil, List.cons_append, List.nil_append, List.append_nil, StableHlo.TRef.ternary, StableHlo.TRef.binary, StableHlo.TRef.unary, StableHlo.TRef.nullary, StableHlo.TRef.toBuf, StableHlo.TRef.ofBuf, cast_eq]
  after_results_simp
  pointwise []
  rw [dif_pos (by omega)]
  exact congrArg (aK m c) (by blk_ext)

theorem in_e (l : Fin 1024) (j : Fin 128) : @Eq EReal (V m c main_v44 (ix2 l j)) (if l.val / 64 = j.val then 1 else 0) := by
  simp only [V, hostOps0, hostOps0_1, hostOps0_2, hostOps0_3, hostOps0_4, hostOps0_5, hostOps0_6, List.flatten_cons, List.flatten_nil, List.cons_append, List.nil_append, List.append_nil, StableHlo.TRef.ternary, StableHlo.TRef.binary, StableHlo.TRef.unary, StableHlo.TRef.nullary, StableHlo.TRef.toBuf, StableHlo.TRef.ofBuf, cast_eq]
  after_results_simp
  pointwise []
  exact seg_word _ _ (by omega) (by omega)

theorem in_et (l : Fin 1024) (j : Fin 128) : @Eq EReal (V m c main_v54 (ix2 j l)) (if l.val / 64 = j.val then 1 else 0) := by
  simp only [V, hostOps0, hostOps0_1, hostOps0_2, hostOps0_3, hostOps0_4, hostOps0_5, hostOps0_6, List.flatten_cons, List.flatten_nil, List.cons_append, List.nil_append, List.append_nil, StableHlo.TRef.ternary, StableHlo.TRef.binary, StableHlo.TRef.unary, StableHlo.TRef.nullary, StableHlo.TRef.toBuf, StableHlo.TRef.ofBuf, cast_eq]
  after_results_simp
  pointwise []
  exact seg_word _ _ (by omega) (by omega)

theorem in_cos0 (r : Fin 16384) (l : Fin 128) (i : Fin 16) (hi : i.val = l.val) : @Eq EReal (V m c main_v72 (ix2 r l)) (Ideal.cos (ang m c r i)) := by
  simp only [V, hostOps0, hostOps0_1, hostOps0_2, hostOps0_3, hostOps0_4, hostOps0_5, hostOps0_6, List.flatten_cons, List.flatten_nil, List.cons_append, List.nil_append, List.append_nil, StableHlo.TRef.ternary, StableHlo.TRef.binary, StableHlo.TRef.unary, StableHlo.TRef.nullary, StableHlo.TRef.toBuf, StableHlo.TRef.ofBuf, cast_eq]
  after_results_simp
  pointwise []
  rw [dif_pos (by omega)]
  after_results_simp
  pointwise []
  rw [← hi]
  rfl

theorem in_cos1 (r : Fin 16384) (l : Fin 128) (i : Fin 16) (hi : l.val = i.val + 16) : @Eq EReal (V m c main_v72 (ix2 r l)) (Ideal.cos (ang m c r i)) := by
  simp only [V, hostOps0, hostOps0_1, hostOps0_2, hostOps0_3, hostOps0_4, hostOps0_5, hostOps0_6, List.flatten_cons, List.flatten_nil, List.cons_append, List.nil_append, List.append_nil, StableHlo.TRef.ternary, StableHlo.TRef.binary, StableHlo.TRef.unary, StableHlo.TRef.nullary, StableHlo.TRef.toBuf, StableHlo.TRef.ofBuf, cast_eq]
  after_results_simp
  pointwise []
  rw [dif_neg (by omega), dif_pos (by omega)]
  after_results_simp
  pointwise []
  rw [show l.val - 16 = i.val by omega]
  rfl

theorem in_sina0 (r : Fin 16384) (l : Fin 128) (i : Fin 16) (hi : i.val = l.val) : @Eq EReal (V m c main_v73 (ix2 r l)) (0) := by
  simp only [V, hostOps0, hostOps0_1, hostOps0_2, hostOps0_3, hostOps0_4, hostOps0_5, hostOps0_6, List.flatten_cons, List.flatten_nil, List.cons_append, List.nil_append, List.append_nil, StableHlo.TRef.ternary, StableHlo.TRef.binary, StableHlo.TRef.unary, StableHlo.TRef.nullary, StableHlo.TRef.toBuf, StableHlo.TRef.ofBuf, cast_eq]
  after_results_simp
  pointwise []
  rw [dif_pos (by omega)]
  after_results_simp
  pointwise []

theorem in_sina1 (r : Fin 16384) (l : Fin 128) (i : Fin 16) (hi : l.val = i.val + 16) : @Eq EReal (V m c main_v73 (ix2 r l)) (Ideal.sin (ang m c r i)) := by
  simp only [V, hostOps0, hostOps0_1, hostOps0_2, hostOps0_3, hostOps0_4, hostOps0_5, hostOps0_6, List.flatten_cons, List.flatten_nil, List.cons_append, List.nil_append, List.append_nil, StableHlo.TRef.ternary, StableHlo.TRef.binary, StableHlo.TRef.unary, StableHlo.TRef.nullary, StableHlo.TRef.toBuf, StableHlo.TRef.ofBuf, cast_eq]
  after_results_simp
  pointwise []
  rw [dif_neg (by omega), dif_pos (by omega)]
  after_results_simp
  pointwise []
  rw [show l.val - 16 = i.val by omega]
  rfl

theorem in_sinb0 (r : Fin 16384) (l : Fin 128) (i : Fin 16) (hi : i.val = l.val) : @Eq EReal (V m c main_v75 (ix2 r l)) (-Ideal.sin (ang m c r i)) := by
  simp only [V, hostOps0, hostOps0_1, hostOps0_2, hostOps0_3, hostOps0_4, hostOps0_5, hostOps0_6, List.flatten_cons, List.flatten_nil, List.cons_append, List.nil_append, List.append_nil, StableHlo.TRef.ternary, StableHlo.TRef.binary, StableHlo.TRef.unary, StableHlo.TRef.nullary, StableHlo.TRef.toBuf, StableHlo.TRef.ofBuf, cast_eq]
  after_results_simp
  pointwise []
  rw [dif_pos (by omega)]
  after_results_simp
  pointwise []
  rw [← hi]
  rfl

theorem in_sinb1 (r : Fin 16384) (l : Fin 128) (i : Fin 16) (hi : l.val = i.val + 16) : @Eq EReal (V m c main_v75 (ix2 r l)) (0) := by
  simp only [V, hostOps0, hostOps0_1, hostOps0_2, hostOps0_3, hostOps0_4, hostOps0_5, hostOps0_6, List.flatten_cons, List.flatten_nil, List.cons_append, List.nil_append, List.append_nil, StableHlo.TRef.ternary, StableHlo.TRef.binary, StableHlo.TRef.unary, StableHlo.TRef.nullary, StableHlo.TRef.toBuf, StableHlo.TRef.ofBuf, cast_eq]
  after_results_simp
  pointwise []
  rw [dif_neg (by omega), dif_pos (by omega)]
  after_results_simp
  pointwise []

end Cert.KernelPostIdeal.Post

end
-- ==== Proof.PostBlk.lean ====
/- The blocks a grid point of the call behind the input projection works on, read at one place each. -/
module

public import proofs.«01_k».proof.Proof.PostIn

@[expose] public section

set_option maxRecDepth 16384

noncomputable section

namespace Cert.KernelPostIdeal.Post

open Idealize.ShloMosaic Idealize.ShloMosaic.TcCoe Idealize.SL.Sem
open Cert.KernelPostIdeal Cert.KernelPostIdeal.Gen

variable (m : (ℓ : Loc nD τ sig) → Buf (Elt Ideal) ℓ) (c : Dev nD)

theorem t_lt (t : Fin cfg0.N) : t.val < 64 := lt_of_lt_of_eq t.isLt N_0

theorem idx : ∀ t : Fin cfg0.N, win0_2.index t = ![t.val, 8] ∧ win0_3.index t = ![t.val, 27] ∧ win0_4.index t = ![t.val, 12]
    ∧ win0_5.index t = ![t.val, 0] ∧ win0_6.index t = ![t.val, 0] ∧ win0_7.index t = ![t.val, 0] ∧ win0_9.index t = ![0, 0]
    ∧ win0_10.index t = ![0, 0] ∧ win0_15.index t = ![0, 0] ∧ win0_16.index t = ![0, 0] ∧ win0_18.index t = ![0, 0] ∧ win0_19.index t = ![0, 0]
    ∧ win0_23.index t = ![t.val, 0] ∧ win0_24.index t = ![t.val, 0] ∧ win0_25.index t = ![t.val, 0] ∧ win0_28.index t = ![t.val, 0]
    ∧ win0_30.index t = ![t.val, 0] :=
  (by decide +kernel : ∀ t : Fin grid0.N, _)

theorem blk2 (t : Fin cfg0.N) (r : Fin 16384) (q : Fin 256) (e : Fin 768) (hr : r.val = 256 * t.val + q.val) :
    @Eq EReal (X0_2 m c t (ix2 q e)) (aZ m c (ix2 r ⟨6144 + e.val, by omega⟩)) := by
  unfold X0_2 Pipeline.Window.fill
  rw [dif_pos (moved0_2 t _)]
  have e1 : (win0_2.blk t).view.emb (fun a => ⟨((ix2 q e : S256x768.Idx) a).val, ((win0_2.moved_iff _ _).mp (moved0_2 t (ix2 q e)) a)⟩) = ix2 r ⟨6144 + e.val, by omega⟩ := by blk_ext [idx t]
  rw [← in_z m c]
  unfold iblk
  change View.read (Elt Ideal) (win0_2.blk t).view (V m c main_arg0) (fun a => ⟨((ix2 q e : S256x768.Idx) a).val, ((win0_2.moved_iff _ _).mp (moved0_2 t (ix2 q e)) a)⟩) = V m c main_arg0 _
  generalize V m c main_arg0 = f
  rw [View.read_apply, e1]
  exact cast_eq _ _

theorem blk3 (t : Fin cfg0.N) (r : Fin 16384) (q : Fin 256) (e : Fin 256) (hr : r.val = 256 * t.val + q.val) :
    @Eq EReal (iblk m c 3 t (ix2 q e)) (aZ m c (ix2 r ⟨6912 + e.val, by omega⟩)) := by
  have e1 : (win0_3.blk t).view.emb (ix2 q e) = ix2 r ⟨6912 + e.val, by omega⟩ := by blk_ext [idx t]
  rw [← in_z m c]
  unfold iblk
  change View.read (Elt Ideal) (win0_3.blk t).view (V m c main_arg0) (ix2 q e) = V m c main_arg0 _
  generalize V m c main_arg0 = f
  rw [View.read_apply, e1]
  exact cast_eq _ _

theorem blk4 (t : Fin cfg0.N) (r : Fin 16384) (q : Fin 256) (e : Fin 128) (hr : r.val = 256 * t.val + q.val) :
    @Eq EReal (iblk m c 4 t (ix2 q e)) (aZ m c (ix2 r ⟨1536 + e.val, by omega⟩)) := by
  have e1 : (win0_4.blk t).view.emb (ix2 q e) = ix2 r ⟨1536 + e.val, by omega⟩ := by blk_ext [idx t]
  rw [← in_z m c]
  unfold iblk
  change View.read (Elt Ideal) (win0_4.blk t).view (V m c main_arg0) (ix2 q e) = V m c main_arg0 _
  generalize V m c main_arg0 = f
  rw [View.read_apply, e1]
  exact cast_eq _ _

theorem blk5 (t : Fin cfg0.N) (r : Fin 16384) (q : Fin 256) (e : Fin 128) (hr : r.val = 256 * t.val + q.val) : @Eq EReal (iblk m c 5 t (ix2 q e)) (V m c main_v72 (ix2 r e)) := by
  have e1 : (win0_5.blk t).view.emb (ix2 q e) = (ix2 r e) := by blk_ext [idx t]
  unfold iblk
  change View.read (Elt Ideal) (win0_5.blk t).view (V m c main_v72) (ix2 q e) = V m c main_v72 (ix2 r e)
  generalize V m c main_v72 = f
  rw [View.read_apply, e1]
  exact cast_eq _ _

theorem blk6 (t : Fin cfg0.N) (r : Fin 16384) (q : Fin 256) (e : Fin 128) (hr : r.val = 256 * t.val + q.val) : @Eq EReal (iblk m c 6 t (ix2 q e)) (V m c main_v73 (ix2 r e)) := by
  have e1 : (win0_6.blk t).view.emb (ix2 q e) = (ix2 r e) := by blk_ext [idx t]
  unfold iblk
  change View.read (Elt Ideal) (win0_6.blk t).view (V m c main_v73) (ix2 q e) = V m c main_v73 (ix2 r e)
  generalize V m c main_v73 = f
  rw [View.read_apply, e1]
  exact cast_eq _ _

theorem blk7 (t : Fin cfg0.N) (r : Fin 16384) (q : Fin 256) (e : Fin 128) (hr : r.val = 256 * t.val + q.val) : @Eq EReal (iblk m c 7 t (ix2 q e)) (V m c main_v75 (ix2 r e)) := by
  have e1 : (win0_7.blk t).view.emb (ix2 q e) = (ix2 r e) := by blk_ext [idx t]
  unfold iblk
  change View.read (Elt Ideal) (win0_7.blk t).view (V m c main_v75) (ix2 q e) = V m c main_v75 (ix2 r e)
  generalize V m c main_v75 = f
  rw [View.read_apply, e1]
  exact cast_eq _ _

theorem blk9 (t : Fin cfg0.N) (e : Fin 128) : @Eq EReal (iblk m c 9 t (ix2 0 e)) (V m c main_v7 (ix2 0 e)) := by
  have e1 : (win0_9.blk t).view.emb (ix2 0 e) = (ix2 0 e) := by blk_ext [idx t]
  unfold iblk
  change View.read (Elt Ideal) (win0_9.blk t).view (V m c main_v7) (ix2 0 e) = V m c main_v7 (ix2 0 e)
  generalize V m c main_v7 = f
  rw [View.read_apply, e1]
  exact cast_eq _ _

theorem blk10 (t : Fin cfg0.N) (e : Fin 128) : @Eq EReal (iblk m c 10 t (ix2 0 e)) (V m c main_v11 (ix2 0 e)) := by
  have e1 : (win0_10.blk t).view.emb (ix2 0 e) = (ix2 0 e) := by blk_ext [idx t]
  unfold iblk
  change View.read (Elt Ideal) (win0_10.blk t).view (V m c main_v11) (ix2 0 e) = V m c main_v11 (ix2 0 e)
  generalize V m c main_v11 = f
  rw [View.read_apply, e1]
  exact cast_eq _ _

theorem blk15 (t : Fin cfg0.N) (e : Fin 256) : @Eq EReal (iblk m c 15 t (ix2 0 e)) (V m c main_v32 (ix2 0 e)) := by
  have e1 : (win0_15.blk t).view.emb (ix2 0 e) = (ix2 0 e) := by blk_ext [idx t]
  unfold iblk
  change View.read (Elt Ideal) (win0_15.blk t).view (V m c main_v32) (ix2 0 e) = V m c main_v32 (ix2 0 e)
  generalize V m c main_v32 = f
  rw [View.read_apply, e1]
  exact cast_eq _ _

theorem blk16 (t : Fin cfg0.N) (e : Fin 128) : @Eq EReal (iblk m c 16 t (ix2 0 e)) (V m c main_v34 (ix2 0 e)) := by
  have e1 : (win0_16.blk t).view.emb (ix2 0 e) = (ix2 0 e) := by blk_ext [idx t]
  unfold iblk
  change View.read (Elt Ideal) (win0_16.blk t).view (V m c main_v34) (ix2 0 e) = V m c main_v34 (ix2 0 e)
  generalize V m c main_v34 = f
  rw [View.read_apply, e1]
  exact cast_eq _ _

theorem blk18 (t : Fin cfg0.N) (l : Fin 1024) (j : Fin 128) : @Eq EReal (iblk m c 18 t (ix2 l j)) (V m c main_v44 (ix2 l j)) := by
  have e1 : (win0_18.blk t).view.emb (ix2 l j) = (ix2 l j) := by blk_ext [idx t]
  unfold iblk
  change View.read (Elt Ideal) (win0_18.blk t).view (V m c main_v44) (ix2 l j) = V m c main_v44 (ix2 l j)
  generalize V m c main_v44 = f
  rw [View.read_apply, e1]
  exact cast_eq _ _

theorem blk19 (t : Fin cfg0.N) (l : Fin 1024) (j : Fin 128) : @Eq EReal (iblk m c 19 t (ix2 j l)) (V m c main_v54 (ix2 j l)) := by
  have e1 : (win0_19.blk t).view.emb (ix2 j l) = (ix2 j l) := by blk_ext [idx t]
  unfold iblk
  change View.read (Elt Ideal) (win0_19.blk t).view (V m c main_v54) (ix2 j l) = V m c main_v54 (ix2 j l)
  generalize V m c main_v54 = f
  rw [View.read_apply, e1]
  exact cast_eq _ _

end Cert.KernelPostIdeal.Post

end
-- ==== Proof.PostMath.lean ====
/- Facts about sums over lanes and norms through a head indicator, apart from any program. -/
module

public import Idealize.ShloMosaic.Lib.Pointwise
public import Idealize.ShloMosaic.Lib.Claim
public import Idealize.ShloMosaic.Lib.WordCmp

@[expose] public section

noncomputable section

namespace Cert.KernelPostIdeal.Post

open Idealize.ShloMosaic

/-- A select whose bit asks whether a lane lies below a bound. -/
theorem sel_lt (n : Nat) (hn : n < 1000) (x : Fin 128) (a b : EReal) :
    Scalar.select (IntOp.cmpi .slt (BitVec.ofNat 32 x.val) (BitVec.ofNat 32 n)) a b = if x.val < n then a else b := by
  rw [WordCmp.cmpi_slt_ofNat (by have := x.isLt; omega) (by omega)]
  by_cases h : x.val < n
  · rw [if_pos h]; simp [Scalar.select, h]
  · rw [if_neg h]; simp [Scalar.select, h]

/-- A sum over 128 lanes of which only the first 32 count. -/
theorem sum_lo (f : Fin 128 → EReal) : (∑ x : Fin 128, if x.val < 32 then f x else 0) = ∑ k : Fin 32, f ⟨k.val, by omega⟩ := by
  rw [← Finset.sum_filter]
  refine Finset.sum_bij' (fun x hx => (⟨x.val, (Finset.mem_filter.mp hx).2⟩ : Fin 32)) (fun k _ => (⟨k.val, by omega⟩ : Fin 128)) ?_ ?_ ?_ ?_ ?_
  · intro _ _; exact Finset.mem_univ _
  · intro k _; exact Finset.mem_filter.mpr ⟨Finset.mem_univ _, k.isLt⟩
  · intro _ _; rfl
  · intro _ _; rfl
  · intro _ _; rfl

/-- A sum over 128 lanes of which only those of one head of 64 count. -/
theorem sum_head (f : Fin 128 → EReal) (h : Fin 2) :
    (∑ x : Fin 128, f x * (if x.val / 64 = h.val then 1 else 0)) = ∑ k : Fin 64, f ⟨64 * h.val + k.val, by omega⟩ := by
  have e : ∀ x : Fin 128, f x * (if x.val / 64 = h.val then (1 : EReal) else 0) = if x.val / 64 = h.val then f x else 0 := by
    intro x; split <;> simp
  rw [Finset.sum_congr rfl fun x _ => e x, ← Finset.sum_filter]
  refine Finset.sum_bij' (fun x hx => (⟨x.val % 64, by omega⟩ : Fin 64)) (fun k _ => (⟨64 * h.val + k.val, by omega⟩ : Fin 128)) ?_ ?_ ?_ ?_ ?_
  · intro _ _; exact Finset.mem_univ _
  · intro k _; exact Finset.mem_filter.mpr ⟨Finset.mem_univ _, by show (64 * h.val + k.val) / 64 = h.val; omega⟩
  · intro x hx
    have := (Finset.mem_filter.mp hx).2
    exact Fin.ext (by show 64 * h.val + x.val % 64 = x.val; omega)
  · intro k _; exact Fin.ext (by show (64 * h.val + k.val) % 64 = k.val; omega)
  · intro x hx
    have := (Finset.mem_filter.mp hx).2
    exact congrArg f (Fin.ext (by show x.val = 64 * h.val + x.val % 64; omega))

theorem c64 : Ideal.ofBits .f32 1115684864#32 = ((64 : ℝ) : EReal) := by
  simp [Ideal.ofBits, Ideal.ieee, -EReal.coe_mul]
  norm_num

theorem eps_pos : (0 : EReal) < Ideal.ofBits .f32 897988541#32 := by
  simp [Ideal.ofBits, Ideal.ieee, -EReal.coe_mul]

/-- One over the root of a positive number is a real number. -/
theorem rsqrt_real (x : EReal) (h : 0 < x) : Ideal.rsqrt x ≠ ⊤ ∧ Ideal.rsqrt x ≠ ⊥ := by
  induction x with
  | bot => simp at h
  | top => simp
  | coe r =>
    have hr : 0 < r := by exact_mod_cast h
    rw [Ideal.rsqrt_coe, if_neg (not_lt.mpr hr.le), if_neg hr.ne']
    exact ⟨EReal.coe_ne_top _, EReal.coe_ne_bot _⟩

theorem sq_nonneg (x : EReal) : 0 ≤ x * x := by
  rcases le_total 0 x with h | h
  · exact EReal.mul_nonneg h h
  · have := EReal.mul_nonneg (EReal.neg_nonneg.mpr h) (EReal.neg_nonneg.mpr h)
    rwa [neg_mul_neg] at this

theorem sq_real (x : EReal) (h1 : x ≠ ⊤) (h2 : x ≠ ⊥) : x * x ≠ ⊤ ∧ x * x ≠ ⊥ := by
  lift x to ℝ using ⟨h1, h2⟩
  rw [← EReal.coe_mul]
  exact ⟨EReal.coe_ne_top _, EReal.coe_ne_bot _⟩

/-- The head norms' inverse roots, one per column of the head indicator. -/
def headR (y : Fin 128 → EReal) (j : Fin 128) : EReal :=
  Ideal.rsqrt (Ideal.div (∑ x : Fin 128, y x * y x * (if x.val / 64 = j.val then 1 else 0)) (Ideal.ofBits .f32 1115684864#32) + Ideal.ofBits .f32 897988541#32)

theorem headR_real (y : Fin 128 → EReal) (j : Fin 128) : headR y j ≠ ⊤ ∧ headR y j ≠ ⊥ := by
  refine rsqrt_real _ (lt_of_lt_of_le eps_pos (le_add_of_nonneg_left ?_))
  rw [c64, Ideal.div_coe (by norm_num)]
  refine EReal.mul_nonneg (Finset.sum_nonneg fun x _ => EReal.mul_nonneg (sq_nonneg _) ?_) ?_
  · split <;> simp
  · exact_mod_cast (by norm_num : (0 : ℝ) ≤ 1 / 64)

/-- The sums of squares carried in three parts: of finite keys the last two parts are zero. -/
theorem split_sq (y : Fin 128 → EReal) (hy : ∀ x, y x ≠ ⊤ ∧ y x ≠ ⊥) (E : Fin 128 → EReal) :
    (∑ x, y x * y x * E x) + (∑ x, (y x * y x - y x * y x) * E x) + (∑ x, (y x * y x - y x * y x - (y x * y x - y x * y x)) * E x)
    = ∑ x, y x * y x * E x := by
  have h0 : ∀ x, y x * y x - y x * y x = 0 := fun x => EReal.sub_self (sq_real _ (hy x).1 (hy x).2).1 (sq_real _ (hy x).1 (hy x).2).2
  simp [h0]

/-- The inverse roots spread back over the lanes: each lane gets its own head's. -/
theorem spread (R : Fin 128 → EReal) (hR : ∀ j, R j ≠ ⊤ ∧ R j ≠ ⊥) (l : Fin 128) :
    (∑ j : Fin 128, R j * (if l.val / 64 = j.val then 1 else 0)) + (∑ j : Fin 128, (R j - R j) * (if l.val / 64 = j.val then 1 else 0))
      + (∑ j : Fin 128, (R j - R j - (R j - R j)) * (if l.val / 64 = j.val then 1 else 0))
    = R ⟨l.val / 64, by omega⟩ := by
  have h0 : ∀ j, R j - R j = 0 := fun j => EReal.sub_self (hR j).1 (hR j).2
  simp only [h0, sub_zero, zero_mul, Finset.sum_const_zero, add_zero]
  rw [Finset.sum_eq_single (⟨l.val / 64, by omega⟩ : Fin 128)]
  · rw [if_pos rfl, mul_one]
  · intro j _ hj
    rw [if_neg (fun h => hj (Fin.ext h.symm)), mul_zero]
  · intro h; exact absurd (Finset.mem_univ _) h

/-- A key head's inverse root is that of its own 64 lanes. -/
theorem headR_eq (y : Fin 128 → EReal) (l : Fin 128) :
    headR y ⟨l.val / 64, by omega⟩ = Ideal.rsqrt (Ideal.div (∑ k : Fin 64, y ⟨64 * (l.val / 64) + k.val, by omega⟩ * y ⟨64 * (l.val / 64) + k.val, by omega⟩)
      (Ideal.ofBits .f32 1115684864#32) + Ideal.ofBits .f32 897988541#32) := by
  unfold headR
  rw [show (∑ x : Fin 128, y x * y x * (if x.val / 64 = l.val / 64 then (1 : EReal) else 0)) = _ from
    sum_head (fun x => y x * y x) ⟨l.val / 64, by omega⟩]

end Cert.KernelPostIdeal.Post

end
-- ==== Proof.PostRow.lean ====
/- The call behind the input projection, one row at a time: the key heads' norms through the head indicator, the rotated shared key and the gates. -/
module

public import proofs.«01_k».proof.Proof.Gen.KernelPostIdeal.Skeleton
public import proofs.«01_k».proof.Proof.PostMath
public import Idealize.ShloMosaic.Lib.Pointwise

@[expose] public section

set_option maxRecDepth 16384

noncomputable section

namespace Cert.KernelPostIdeal.Post

open Idealize.ShloMosaic Idealize.ShloMosaic.TcCoe Idealize.SL.Sem
open Cert.KernelPostIdeal Cert.KernelPostIdeal.Gen

/-- The head indicator's first 128 lanes, as a table and as its transpose. -/
abbrev seg (l j : Fin 128) : EReal := if l.val / 64 = j.val then 1 else 0

theorem pay15_at (v1 : FVec Ideal S1024x128 .bf16) (v51 : Vec Ideal S256x768 .f32) (q : Fin 256) (y : Fin 128 → EReal)
    (h1 : ∀ l j : Fin 128, @Eq EReal (v1 (ix2 ⟨l.val, by omega⟩ j)) (seg l j))
    (hk : ∀ l, @Eq EReal (k0_pay12 (F := Ideal) v51 (ix2 q l)) (y l)) (hy : ∀ l, y l ≠ ⊤ ∧ y l ≠ ⊥) (j : Fin 128) :
    @Eq EReal (k0_pay15 (F := Ideal) v1 v51 (ix2 q j)) (headR y j) := by
  generalize hK : k0_pay12 (F := Ideal) v51 = K at hk
  unfold k0_pay15
  rw [hK]
  pointwise []
  simp only [hk, h1]
  exact congrArg (fun s : EReal => Ideal.rsqrt (Ideal.div s _ + _)) (split_sq y hy fun x => seg x j)

theorem pay20_at (y : FVec Ideal S256x128 .f32) (e : FVec Ideal S128x128 .bf16) (g : Vec Ideal S1x128 .f32) (q : Fin 256) (l : Fin 128)
    (r : FVec Ideal S256x128 .bf16) (r1 : FVec Ideal S256x128 .f32) (r2 : FVec Ideal S256x128 .bf16) (r3 : FVec Ideal S256x128 .f32)
    (R : Fin 128 → EReal) (hR : ∀ j, R j ≠ ⊤ ∧ R j ≠ ⊥)
    (he : ∀ l j : Fin 128, @Eq EReal (e (ix2 j l)) (seg l j))
    (h : ∀ j, @Eq EReal (r (ix2 q j)) (R j)) (h1 : ∀ j, @Eq EReal (r1 (ix2 q j)) (R j - R j))
    (h2 : ∀ j, @Eq EReal (r2 (ix2 q j)) (R j - R j)) (h3 : ∀ j, @Eq EReal (r3 (ix2 q j)) (R j - R j)) :
    @Eq EReal (k0_pay20 (F := Ideal) y e r r1 r2 r3 g (ix2 q l)) (y (ix2 q l) * R ⟨l.val / 64, by omega⟩ * g (ix2 0 l)) := by
  pointwise [k0_pay20]
  simp only [h, h1, h2, h3, he]
  exact congrArg (fun s : EReal => y (ix2 q l) * s * g (ix2 0 l)) (spread R hR l)

/-- The shared key's inverse root. -/
def ropeR (z : Fin 128 → EReal) : EReal :=
  Ideal.rsqrt (Ideal.div (∑ k : Fin 32, z ⟨k.val, by omega⟩ * z ⟨k.val, by omega⟩) (Ideal.ofBits .f32 1107296256#32) + Ideal.ofBits .f32 897988541#32)

theorem pay56_at (cs sa sb z : Vec Ideal S256x128 .f32) (g : Vec Ideal S1x128 .f32) (q : Fin 256) (l : Fin 128) (hl : l.val < 32) (a b : Fin 128)
    (ha : a.val = (l.val + 112) % 128) (hb : b.val = l.val + 16) :
    @Eq EReal (k0_pay56 (F := Ideal) cs sa sb z g (ix2 q l))
      (z (ix2 q l) * ropeR (fun k => z (ix2 q k)) * g (ix2 0 l) * cs (ix2 q l) + z (ix2 q a) * ropeR (fun k => z (ix2 q k)) * g (ix2 0 a) * sa (ix2 q l)
        + z (ix2 q b) * ropeR (fun k => z (ix2 q k)) * g (ix2 0 b) * sb (ix2 q l)) := by
  have e : Ideal.rsqrt (Ideal.div (∑ x : Fin 128, Scalar.select (IntOp.cmpi .slt (BitVec.ofNat 32 x.val) 32#32) (z (ix2 q x) * z (ix2 q x)) (0 : EReal))
      (Ideal.ofBits .f32 1107296256#32) + Ideal.ofBits .f32 897988541#32) = ropeR (fun k => z (ix2 q k)) := by
    unfold ropeR
    rw [Finset.sum_congr rfl fun x _ => sel_lt 32 (by omega) x _ _, sum_lo]
  pointwise [k0_pay56, k0_pay52, k0_pay53, k0_pay54, k0_pay55]
  rw [sel_lt 32 (by omega), if_pos hl, e]
  have ea : (⟨(l.val + 128 - 16) % 128, by omega⟩ : Fin 128) = a := Fin.ext (by show (l.val + 128 - 16) % 128 = a.val; omega)
  have eb : (⟨(l.val + 128 - 112) % 128, by omega⟩ : Fin 128) = b := Fin.ext (by show (l.val + 128 - 112) % 128 = b.val; omega)
  rw [ea, eb]

theorem pay57_at (z : Vec Ideal S256x128 .f32) (q : Fin 256) (l : Fin 128) :
    @Eq EReal (k0_pay57 (F := Ideal) z (ix2 q l)) (if l.val < 80 then Ideal.logistic (z (ix2 q l)) else 0) := by
  pointwise [k0_pay57]
  exact sel_lt 80 (by omega) l _ _

theorem pay58_at (u v : FVec Ideal S256x128 .f32) (q : Fin 256) (l : Fin 128) :
    @Eq EReal (k0_pay58 (F := Ideal) k0_pay55 u v (ix2 q l)) (if l.val < 32 then u (ix2 q l) else v (ix2 q l)) := by
  pointwise [k0_pay58, k0_pay55]
  exact sel_lt 32 (by omega) l _ _

theorem pay50_at (z : Vec Ideal S256x256 .f32) (g : Vec Ideal S1x256 .f32) (q : Fin 256) (l : Fin 256) :
    @Eq EReal (k0_pay50 (F := Ideal) z g (ix2 q l))
      (z (ix2 q l) * Ideal.rsqrt (Ideal.div (∑ x : Fin 256, z (ix2 q x) * z (ix2 q x)) (Ideal.ofBits .f32 1132462080#32) + Ideal.ofBits .f32 897988541#32)
        * g (ix2 0 l)) := by
  pointwise [k0_pay50]

end Cert.KernelPostIdeal.Post

end
-- ==== Proof.PostRef.lean ====
/- The reference of the call behind the input projection, read at one place. -/
module

public import proofs.«01_k».proof.Proof.Gen.ReferencePostIdeal.Read
public import Idealize.ShloMosaic.Lib.Pointwise
public import Idealize.ShloMosaic.Lib.Claim
public import Idealize.ShloMosaic.Lib.Pipeline.ValueKit

@[expose] public section

set_option maxRecDepth 16384

noncomputable section

namespace Cert.ReferencePostIdeal.Post

open Idealize.ShloMosaic Idealize.ShloMosaic.TcCoe Idealize.SL.Sem
open Cert.ReferencePostIdeal Cert.ReferencePostIdeal.Gen Cert.ReferencePostIdeal.Read

variable (x0 : Vec Ideal S16384x7168 .f32) (x1 : Vec Ideal S16384 .i32) (x3 x4 : Vec Ideal S64 .f32) (x8 : Vec Ideal S256 .f32) (x9 : Vec Ideal S32 .f32)

theorem v2_at (r : Fin 16384) (l : Fin 256) : @Eq EReal (val_main_v2 (F := Ideal) x0 (ix2 r l)) (x0 (ix2 r ⟨6144 + l.val, by omega⟩)) := by
  pointwise [val_main_v2]

theorem v98_at (r : Fin 16384) (l : Fin 256) : @Eq EReal (val_main_v98 (F := Ideal) x0 x8 (ix2 r l))
    (x0 (ix2 r ⟨6912 + l.val, by omega⟩) * Ideal.rsqrt (Ideal.div (∑ x : Fin 256, x0 (ix2 r ⟨6912 + x.val, by omega⟩) * x0 (ix2 r ⟨6912 + x.val, by omega⟩))
      (Ideal.ofBits .f32 1132462080#32) + Ideal.ofBits .f32 897988541#32) * x8 (ix1 l)) := by
  pointwise [val_main_v98, val_main_v97, val_main_v96, val_main_v95, val_main_v94, val_main_v93, val_main_v92, val_main_v91, val_main_v90, val_main_v89, val_main_v88, val_main_v87, val_main_v86, val_main_v5, val_main_cst_13, val_main_cst_14, val_main_cst_15]

theorem v67_at (r : Fin 16384) (l : Fin 128) (k : Fin 64) (hk : k.val = l.val % 64) (e : Fin 256) (he : e.val = l.val) :
    @Eq EReal (val_main_v67 (F := Ideal) x0 x3 (ix2 r e))
      (x0 (ix2 r ⟨6400 + l.val, by omega⟩) * Ideal.rsqrt (Ideal.div (∑ k : Fin 64, x0 (ix2 r ⟨6400 + (64 * (l.val / 64) + k.val), by omega⟩) * x0 (ix2 r ⟨6400 + (64 * (l.val / 64) + k.val), by omega⟩))
        (Ideal.ofBits .f32 1115684864#32) + Ideal.ofBits .f32 897988541#32) * x3 (ix1 k)) := by
  unfold val_main_v67
  pointwise []
  rw [dif_pos (by omega)]
  pointwise [val_main_v65, val_main_v64, val_main_v63, val_main_v62, val_main_v61, val_main_v60, val_main_v59, val_main_v58, val_main_v57, val_main_v56, val_main_v55, val_main_v54, val_main_v53, val_main_v52, val_main_v51, val_main_v50, val_main_v3, val_main_cst_7, val_main_cst_8, val_main_cst_9]
  have e1 : e.val / 64 * 64 + e.val % 64 = l.val := by omega
  have e2 : ∀ x : Nat, e.val / 64 * 64 + x = 64 * (l.val / 64) + x := fun x => by omega
  have e3 : (⟨e.val % 64, by omega⟩ : Fin 64) = k := Fin.ext (by show e.val % 64 = k.val; omega)
  simp only [e1]
  simp only [e2, e3]

theorem v67_at_hi (r : Fin 16384) (l : Fin 256) (hl : 128 ≤ l.val) :
    @Eq EReal (val_main_v67 (F := Ideal) x0 x3 (ix2 r l)) (x0 (ix2 r ⟨6400 + l.val, by omega⟩)) := by
  unfold val_main_v67
  pointwise []
  rw [dif_neg (by omega)]
  pointwise [val_main_v66, val_main_v3]
  simp only [show 128 + (l.val - 128) = l.val by omega]

theorem v85_at (r : Fin 16384) (l : Fin 128) (k : Fin 64) (hk : k.val = l.val % 64) (e : Fin 256) (he : e.val = l.val) :
    @Eq EReal (val_main_v85 (F := Ideal) x0 x4 (ix2 r e))
      (x0 (ix2 r ⟨6656 + l.val, by omega⟩) * Ideal.rsqrt (Ideal.div (∑ k : Fin 64, x0 (ix2 r ⟨6656 + (64 * (l.val / 64) + k.val), by omega⟩) * x0 (ix2 r ⟨6656 + (64 * (l.val / 64) + k.val), by omega⟩))
        (Ideal.ofBits .f32 1115684864#32) + Ideal.ofBits .f32 897988541#32) * x4 (ix1 k)) := by
  unfold val_main_v85
  pointwise []
  rw [dif_pos (by omega)]
  pointwise [val_main_v83, val_main_v82, val_main_v81, val_main_v80, val_main_v79, val_main_v78, val_main_v77, val_main_v76, val_main_v75, val_main_v74, val_main_v73, val_main_v72, val_main_v71, val_main_v70, val_main_v69, val_main_v68, val_main_v4, val_main_cst_10, val_main_cst_11, val_main_cst_12]
  have e1 : e.val / 64 * 64 + e.val % 64 = l.val := by omega
  have e2 : ∀ x : Nat, e.val / 64 * 64 + x = 64 * (l.val / 64) + x := fun x => by omega
  have e3 : (⟨e.val % 64, by omega⟩ : Fin 64) = k := Fin.ext (by show e.val % 64 = k.val; omega)
  simp only [e1]
  simp only [e2, e3]

theorem v85_at_hi (r : Fin 16384) (l : Fin 256) (hl : 128 ≤ l.val) :
    @Eq EReal (val_main_v85 (F := Ideal) x0 x4 (ix2 r l)) (x0 (ix2 r ⟨6656 + l.val, by omega⟩)) := by
  unfold val_main_v85
  pointwise []
  rw [dif_neg (by omega)]
  pointwise [val_main_v84, val_main_v4]
  simp only [show 128 + (l.val - 128) = l.val by omega]

/-- The rotation angle of a row's position at one frequency. -/
def ang (r : Fin 16384) (i : Fin 16) : EReal :=
  (FloatOps.sitofp (F := Ideal) .f32 (x1 (ix1 r)) : EReal) * Ideal.pow (Ideal.ofBits .f32 1176256512#32)
    (Ideal.div (-(FloatOps.sitofp (F := Ideal) .f32 (BitVec.ofNat 32 i.val) : EReal)) (Ideal.ofBits .f32 1098907648#32))

/-- The shared key's inverse root. -/
def inv (r : Fin 16384) : EReal :=
  Ideal.rsqrt (Ideal.div (∑ x : Fin 32, x0 (ix2 r ⟨1536 + x.val, by omega⟩) * x0 (ix2 r ⟨1536 + x.val, by omega⟩))
    (Ideal.ofBits .f32 1107296256#32) + Ideal.ofBits .f32 897988541#32)

theorem v49_lo (r : Fin 16384) (l : Fin 128) (hl : l.val < 16) : @Eq EReal (val_main_v49 (F := Ideal) x0 x1 x9 (ix2 r l))
    (x0 (ix2 r ⟨1536 + l.val, by omega⟩) * inv x0 r * x9 (ix1 ⟨l.val, by omega⟩) * Ideal.cos (ang x1 r ⟨l.val, hl⟩)
      - x0 (ix2 r ⟨1536 + (16 + l.val), by omega⟩) * inv x0 r * x9 (ix1 ⟨(16 + l.val), by omega⟩) * Ideal.sin (ang x1 r ⟨l.val, hl⟩)) := by
  unfold val_main_v49 val_main_v41
  pointwise []
  rw [dif_pos (by omega)]
  pointwise []
  rw [dif_pos (by omega)]
  pointwise [val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v0, val_main_cst, val_main_cst_0, val_main_cst_1, val_main_cst_2, val_main_cst_3]
  rfl

theorem v49_mid (r : Fin 16384) (l : Fin 128) (hl : 16 ≤ l.val) (hl' : l.val < 32) : @Eq EReal (val_main_v49 (F := Ideal) x0 x1 x9 (ix2 r l))
    (x0 (ix2 r ⟨1536 + (16 + (l.val - 16)), by omega⟩) * inv x0 r * x9 (ix1 ⟨(16 + (l.val - 16)), by omega⟩) * Ideal.cos (ang x1 r ⟨l.val - 16, by omega⟩)
      + x0 (ix2 r ⟨1536 + (l.val - 16), by omega⟩) * inv x0 r * x9 (ix1 ⟨(l.val - 16), by omega⟩) * Ideal.sin (ang x1 r ⟨l.val - 16, by omega⟩)) := by
  unfold val_main_v49 val_main_v41
  pointwise []
  rw [dif_pos (by omega)]
  pointwise []
  rw [dif_neg (by omega)]
  pointwise [val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v0, val_main_cst, val_main_cst_0, val_main_cst_1, val_main_cst_2, val_main_cst_3]
  rfl

theorem v49_gate (r : Fin 16384) (l : Fin 128) (hl : 32 ≤ l.val) (hl' : l.val < 80) : @Eq EReal (val_main_v49 (F := Ideal) x0 x1 x9 (ix2 r l)) (Ideal.logistic (x0 (ix2 r ⟨1568 + (l.val - 32), by omega⟩))) := by
  unfold val_main_v49
  pointwise []
  rw [dif_neg (by omega), dif_pos (by omega)]
  pointwise [val_main_v48, val_main_v47, val_main_v46, val_main_v45, val_main_v44, val_main_v43, val_main_v1, val_main_cst_5, val_main_cst_6]
  rfl

theorem v49_zero (r : Fin 16384) (l : Fin 128) (hl : 80 ≤ l.val) : @Eq EReal (val_main_v49 (F := Ideal) x0 x1 x9 (ix2 r l)) 0 := by
  unfold val_main_v49
  pointwise []
  rw [dif_neg (by omega), dif_neg (by omega)]
  pointwise [val_main_v42, val_main_cst_4]

end Cert.ReferencePostIdeal.Post

end
-- ==== Proof.PostVal.lean ====
/- What a grid point of the call behind the input projection writes at one place: the head norms of both key bands, the rotated shared key and the gates, in the reference's terms. -/
module

public import proofs.«01_k».proof.Proof.PostBlk
public import proofs.«01_k».proof.Proof.PostRow
public import proofs.«01_k».proof.Proof.PostRef

@[expose] public section

set_option maxRecDepth 16384

noncomputable section

namespace Cert.KernelPostIdeal.Post

open Idealize.ShloMosaic Idealize.ShloMosaic.TcCoe Idealize.SL.Sem
open Cert.KernelPostIdeal Cert.KernelPostIdeal.Gen

theorem pay12_at (X : Vec Ideal S256x768 .f32) (q : Fin 256) (l : Fin 128) :
    @Eq EReal (k0_pay12 (F := Ideal) X (ix2 q l)) (X (ix2 q ⟨256 + l.val, by omega⟩)) := by
  pointwise [k0_pay12, k0_pay11]

theorem pay13_at (X : Vec Ideal S256x768 .f32) (q : Fin 256) (l : Fin 128) :
    @Eq EReal (k0_pay13 (F := Ideal) X (ix2 q l)) (X (ix2 q ⟨256 + (128 + l.val), by omega⟩)) := by
  pointwise [k0_pay13, k0_pay11]

theorem pay32_at (X : Vec Ideal S256x768 .f32) (q : Fin 256) (l : Fin 128) :
    @Eq EReal (k0_pay32 (F := Ideal) X (ix2 q l)) (X (ix2 q ⟨512 + l.val, by omega⟩)) := by
  pointwise [k0_pay32, k0_pay31]

theorem pay33_at (X : Vec Ideal S256x768 .f32) (q : Fin 256) (l : Fin 128) :
    @Eq EReal (k0_pay33 (F := Ideal) X (ix2 q l)) (X (ix2 q ⟨512 + (128 + l.val), by omega⟩)) := by
  pointwise [k0_pay33, k0_pay31]

/-- The first of two pieces side by side, over its own lanes. -/
theorem pay21_lo (v1 : FVec Ideal S1024x128 .bf16) (v3 : FVec Ideal S128x1024 .bf16) (X : Vec Ideal S256x768 .f32) (g : Vec Ideal S1x128 .f32)
    (q : Fin 256) (l : Fin 128) (y : Fin 128 → EReal)
    (h1 : ∀ l j : Fin 128, @Eq EReal (v1 (ix2 ⟨l.val, by omega⟩ j)) (seg l j))
    (h3 : ∀ l j : Fin 128, @Eq EReal (v3 (ix2 j ⟨l.val, by omega⟩)) (seg l j))
    (hk : ∀ l, @Eq EReal (k0_pay12 (F := Ideal) X (ix2 q l)) (y l)) (hy : ∀ l, y l ≠ ⊤ ∧ y l ≠ ⊥) (e : Fin 256) (he : e.val = l.val) :
    @Eq EReal (k0_pay21 (F := Ideal) (k0_pay12 X) (k0_pay13 X) (k0_pay14 v3) (k0_pay16 v1 X) (k0_pay17 v1 X) (k0_pay18 v1 X) (k0_pay19 v1 X) g (ix2 q e))
      (y l * headR y ⟨l.val / 64, by omega⟩ * g (ix2 0 l)) := by
  have h15 := pay15_at v1 X q y h1 hk hy
  generalize h12 : k0_pay12 (F := Ideal) X = K at hk
  have e14 : ∀ l j : Fin 128, @Eq EReal (k0_pay14 (F := Ideal) v3 (ix2 j l)) (seg l j) := fun l j => by
    pointwise [k0_pay14]
    exact h3 l j
  have e16 : ∀ j, @Eq EReal (k0_pay16 (F := Ideal) v1 X (ix2 q j)) (headR y j) := fun j => by
    pointwise [k0_pay16]
    exact h15 j
  have e17 : ∀ j, @Eq EReal (k0_pay17 (F := Ideal) v1 X (ix2 q j)) (headR y j - headR y j) := fun j => by
    pointwise [k0_pay17, k0_pay16]
    rw [h15 j]
  have e18 : ∀ j, @Eq EReal (k0_pay18 (F := Ideal) v1 X (ix2 q j)) (headR y j - headR y j) := fun j => by
    pointwise [k0_pay18]
    exact e17 j
  have e19 : ∀ j, @Eq EReal (k0_pay19 (F := Ideal) v1 X (ix2 q j)) (headR y j - headR y j) := fun j => by
    pointwise [k0_pay19]
    exact e18 j
  generalize k0_pay13 (F := Ideal) X = B
  generalize k0_pay14 (F := Ideal) v3 = E at *
  generalize k0_pay16 (F := Ideal) v1 X = r at *
  generalize k0_pay17 (F := Ideal) v1 X = r1 at *
  generalize k0_pay18 (F := Ideal) v1 X = r2 at *
  generalize k0_pay19 (F := Ideal) v1 X = r3 at *
  have main := pay20_at K E g q l r r1 r2 r3 (headR y) (headR_real y) e14 e16 e17 e18 e19
  generalize hP : k0_pay20 (F := Ideal) K E r r1 r2 r3 g = P at main
  unfold k0_pay21
  rw [hP]
  pointwise []
  rw [dif_pos (by omega)]
  rw [← hk l, ← main]
  exact congrArg (fun s => P (ix2 q s)) (Fin.ext he)

theorem pay21_hi (a b : FVec Ideal S256x128 .f32) (v : FVec Ideal S128x128 .bf16) (r : FVec Ideal S256x128 .bf16) (r1 : FVec Ideal S256x128 .f32)
    (r2 : FVec Ideal S256x128 .bf16) (r3 : FVec Ideal S256x128 .f32) (g : Vec Ideal S1x128 .f32) (q : Fin 256) (e : Fin 256) (he : 128 ≤ e.val) :
    @Eq EReal (k0_pay21 (F := Ideal) a b v r r1 r2 r3 g (ix2 q e)) (b (ix2 q ⟨e.val - 128, by omega⟩)) := by
  unfold k0_pay21
  generalize k0_pay20 (F := Ideal) a v r r1 r2 r3 g = P
  pointwise []
  rw [dif_neg (by omega)]

/-- The row with its lanes turned by a band's width. -/
def turn (X : Vec Ideal S256x768 .f32) : Vec Ideal S256x768 .f32 := fun i => X (ix2 (i 0) ⟨((i 1).val + 256) % 768, by omega⟩)

theorem turn12 (X : Vec Ideal S256x768 .f32) : k0_pay12 (F := Ideal) (turn X) = k0_pay32 (F := Ideal) X := by
  funext i
  obtain ⟨q, l, rfl⟩ : ∃ (q : Fin 256) (l : Fin 128), i = ix2 q l := ⟨i 0, i 1, by blk_ext⟩
  refine (pay12_at (turn X) q l).trans (Eq.trans ?_ (pay32_at X q l).symm)
  exact congrArg (fun s => X (ix2 q s)) (Fin.ext (by show (256 + l.val + 256) % 768 = 512 + l.val; omega))

theorem turn13 (X : Vec Ideal S256x768 .f32) : k0_pay13 (F := Ideal) (turn X) = k0_pay33 (F := Ideal) X := by
  funext i
  obtain ⟨q, l, rfl⟩ : ∃ (q : Fin 256) (l : Fin 128), i = ix2 q l := ⟨i 0, i 1, by blk_ext⟩
  refine (pay13_at (turn X) q l).trans (Eq.trans ?_ (pay33_at X q l).symm)
  exact congrArg (fun s => X (ix2 q s)) (Fin.ext (by show (256 + (128 + l.val) + 256) % 768 = 512 + (128 + l.val); omega))

theorem turn15 (v1 : FVec Ideal S1024x128 .bf16) (X : Vec Ideal S256x768 .f32) : k0_pay35 (F := Ideal) v1 X = k0_pay15 (F := Ideal) v1 (turn X) := by
  unfold k0_pay35 k0_pay15
  rw [turn12]

/-- The second band's norm is the first's on the turned row. -/
theorem pay40_eq (v1 : FVec Ideal S1024x128 .bf16) (v3 : FVec Ideal S128x1024 .bf16) (X : Vec Ideal S256x768 .f32) (g : Vec Ideal S1x128 .f32) :
    k0_pay40 (F := Ideal) (k0_pay32 X) (k0_pay33 X) (k0_pay34 v3) (k0_pay36 v1 X) (k0_pay37 v1 X) (k0_pay38 v1 X) g
    = k0_pay21 (F := Ideal) (k0_pay12 (turn X)) (k0_pay13 (turn X)) (k0_pay14 v3) (k0_pay16 v1 (turn X)) (k0_pay17 v1 (turn X)) (k0_pay18 v1 (turn X))
        (k0_pay19 v1 (turn X)) g := by
  unfold k0_pay40 k0_pay39 k0_pay34 k0_pay38 k0_pay37 k0_pay36 k0_pay21 k0_pay20 k0_pay14 k0_pay19 k0_pay18 k0_pay17 k0_pay16
  rw [turn12, turn13, turn15]

end Cert.KernelPostIdeal.Post

end
-- ==== Proof.PostPt.lean ====
/- What a grid point of the call behind the input projection writes at one place is the reference's value there. -/
module

public import proofs.«01_k».proof.Proof.PostVal

@[expose] public section

set_option maxRecDepth 16384

noncomputable section

namespace Cert.KernelPostIdeal.Post

open Idealize.ShloMosaic Idealize.ShloMosaic.TcCoe Idealize.SL.Sem
open Cert.KernelPostIdeal Cert.KernelPostIdeal.Gen
open Cert.ReferencePostIdeal.Read (val_main_v2 val_main_v67 val_main_v85 val_main_v98 val_main_v49)

variable (m : (ℓ : Loc nD τ sig) → Buf (Elt Ideal) ℓ) (c : Dev nD)

/-- A band of 128 lanes of the projected rows holds real numbers. -/
def Finite (m : (ℓ : Loc nD τ sig) → Buf (Elt Ideal) ℓ) (c : Dev nD) (o : Nat) (ho : o + 128 ≤ 7168) : Prop :=
  ∀ (r : Fin 16384) (l : Fin 128), @Ne EReal (aZ m c (ix2 r ⟨o + l.val, by omega⟩)) ⊤ ∧ @Ne EReal (aZ m c (ix2 r ⟨o + l.val, by omega⟩)) ⊥

theorem seg1 (t : Fin cfg0.N) (l j : Fin 128) : @Eq EReal (k0_pay2 (F := Ideal) (iblk m c 18 t) (ix2 ⟨l.val, by omega⟩ j)) (seg l j) := by
  have h := (blk18 m c t ⟨l.val, by omega⟩ j).trans (in_e m c ⟨l.val, by omega⟩ j)
  generalize iblk m c 18 t = B at *
  pointwise [k0_pay2]
  exact h

theorem seg3 (t : Fin cfg0.N) (l j : Fin 128) : @Eq EReal (k0_pay3 (F := Ideal) (iblk m c 19 t) (ix2 j ⟨l.val, by omega⟩)) (seg l j) := by
  have h := (blk19 m c t ⟨l.val, by omega⟩ j).trans (in_et m c ⟨l.val, by omega⟩ j)
  generalize iblk m c 19 t = B at *
  pointwise [k0_pay3]
  exact h

theorem pt23 (t : Fin cfg0.N) (r : Fin 16384) (q e : Fin 256) (hr : r.val = 256 * t.val + q.val) :
    @Eq EReal (k0_pay10 (F := Ideal) (X0_2 m c t) (ix2 q e)) (val_main_v2 (F := Ideal) (aZ m c) (ix2 r e)) := by
  refine Eq.trans ?_ (Cert.ReferencePostIdeal.Post.v2_at (aZ m c) r e).symm
  refine Eq.trans ?_ (blk2 m c t r q ⟨e.val, by omega⟩ hr)
  generalize X0_2 m c t = X
  pointwise [k0_pay10]

theorem pt24 (hf : Finite m c 6400 (by omega)) (t : Fin cfg0.N) (r : Fin 16384) (q e : Fin 256) (hr : r.val = 256 * t.val + q.val) :
    @Eq EReal (k0_pay21 (F := Ideal) (k0_pay12 (X0_2 m c t)) (k0_pay13 (X0_2 m c t)) (k0_pay14 (k0_pay3 (iblk m c 19 t)))
      (k0_pay16 (k0_pay2 (iblk m c 18 t)) (X0_2 m c t)) (k0_pay17 (k0_pay2 (iblk m c 18 t)) (X0_2 m c t)) (k0_pay18 (k0_pay2 (iblk m c 18 t)) (X0_2 m c t))
      (k0_pay19 (k0_pay2 (iblk m c 18 t)) (X0_2 m c t)) (iblk m c 9 t) (ix2 q e))
      (val_main_v67 (F := Ideal) (aZ m c) (aS m c) (ix2 r e)) := by
  rcases lt_or_ge e.val 128 with h | h
  · have hg := (blk9 m c t ⟨e.val, h⟩).trans (in_s m c ⟨e.val, h⟩ ⟨e.val % 64, by omega⟩ rfl)
    refine (pay21_lo _ _ _ _ q ⟨e.val, h⟩ (fun l => aZ m c (ix2 r ⟨6400 + l.val, by omega⟩)) (seg1 m c t) (seg3 m c t) (fun l => ?_) (hf r) e rfl).trans ?_
    · refine (pay12_at _ q l).trans ((blk2 m c t r q ⟨256 + l.val, by omega⟩ hr).trans ?_)
      exact congrArg (fun s => aZ m c (ix2 r s)) (Fin.ext (by show 6144 + (256 + l.val) = 6400 + l.val; omega))
    · rw [hg, headR_eq]
      exact (Cert.ReferencePostIdeal.Post.v67_at (aZ m c) (aS m c) r ⟨e.val, h⟩ ⟨e.val % 64, by omega⟩ rfl e rfl).symm
  · refine (pay21_hi _ _ _ _ _ _ _ _ q e h).trans ((pay13_at _ q ⟨e.val - 128, by omega⟩).trans ((blk2 m c t r q _ hr).trans ?_))
    refine Eq.trans ?_ (Cert.ReferencePostIdeal.Post.v67_at_hi (aZ m c) (aS m c) r e h).symm
    exact congrArg (fun s => aZ m c (ix2 r s)) (Fin.ext (by show 6144 + (256 + (128 + (e.val - 128))) = 6400 + e.val; omega))

theorem pt25 (hf : Finite m c 6656 (by omega)) (t : Fin cfg0.N) (r : Fin 16384) (q e : Fin 256) (hr : r.val = 256 * t.val + q.val) :
    @Eq EReal (k0_pay40 (F := Ideal) (k0_pay32 (X0_2 m c t)) (k0_pay33 (X0_2 m c t)) (k0_pay34 (k0_pay3 (iblk m c 19 t)))
      (k0_pay36 (k0_pay2 (iblk m c 18 t)) (X0_2 m c t)) (k0_pay37 (k0_pay2 (iblk m c 18 t)) (X0_2 m c t)) (k0_pay38 (k0_pay2 (iblk m c 18 t)) (X0_2 m c t))
      (iblk m c 10 t) (ix2 q e))
      (val_main_v85 (F := Ideal) (aZ m c) (aW m c) (ix2 r e)) := by
  refine (congrFun (pay40_eq _ _ _ _) (ix2 q e)).trans ?_
  rcases lt_or_ge e.val 128 with h | h
  · have hg := (blk10 m c t ⟨e.val, h⟩).trans (in_w m c ⟨e.val, h⟩ ⟨e.val % 64, by omega⟩ rfl)
    refine (pay21_lo _ _ _ _ q ⟨e.val, h⟩ (fun l => aZ m c (ix2 r ⟨6656 + l.val, by omega⟩)) (seg1 m c t) (seg3 m c t) (fun l => ?_) (hf r) e rfl).trans ?_
    · rw [turn12]
      refine (pay32_at _ q l).trans ((blk2 m c t r q ⟨512 + l.val, by omega⟩ hr).trans ?_)
      exact congrArg (fun s => aZ m c (ix2 r s)) (Fin.ext (by show 6144 + (512 + l.val) = 6656 + l.val; omega))
    · rw [hg, headR_eq]
      exact (Cert.ReferencePostIdeal.Post.v85_at (aZ m c) (aW m c) r ⟨e.val, h⟩ ⟨e.val % 64, by omega⟩ rfl e rfl).symm
  · refine (pay21_hi _ _ _ _ _ _ _ _ q e h).trans ?_
    rw [turn13]
    refine (pay33_at _ q ⟨e.val - 128, by omega⟩).trans ((blk2 m c t r q _ hr).trans ?_)
    refine Eq.trans ?_ (Cert.ReferencePostIdeal.Post.v85_at_hi (aZ m c) (aW m c) r e h).symm
    exact congrArg (fun s => aZ m c (ix2 r s)) (Fin.ext (by show 6144 + (512 + (128 + (e.val - 128))) = 6656 + e.val; omega))

theorem pt28 (t : Fin cfg0.N) (r : Fin 16384) (q e : Fin 256) (hr : r.val = 256 * t.val + q.val) :
    @Eq EReal (k0_pay50 (F := Ideal) (iblk m c 3 t) (iblk m c 15 t) (ix2 q e)) (val_main_v98 (F := Ideal) (aZ m c) (aL m c) (ix2 r e)) := by
  have hg := (blk15 m c t e).trans (in_l m c e)
  have hz := fun e => blk3 m c t r q e hr
  generalize iblk m c 3 t = Z at *
  generalize iblk m c 15 t = G at *
  refine (pay50_at Z G q e).trans ?_
  refine Eq.trans ?_ (Cert.ReferencePostIdeal.Post.v98_at (aZ m c) (aL m c) r e).symm
  simp only [hz, hg]

theorem rope_inv (t : Fin cfg0.N) (r : Fin 16384) (q : Fin 256) (hr : r.val = 256 * t.val + q.val) :
    ropeR (fun k => iblk m c 4 t (ix2 q k)) = Cert.ReferencePostIdeal.Post.inv (aZ m c) r := by
  unfold ropeR Cert.ReferencePostIdeal.Post.inv
  refine congrArg (fun s : EReal => Ideal.rsqrt (Ideal.div s _ + _)) (Finset.sum_congr rfl fun x _ => ?_)
  have h := blk4 m c t r q ⟨x.val, by omega⟩ hr
  exact congrArg₂ (fun a b : EReal => a * b) h h

theorem pt30 (t : Fin cfg0.N) (r : Fin 16384) (q : Fin 256) (l : Fin 128) (hr : r.val = 256 * t.val + q.val) :
    @Eq EReal (k0_pay58 (F := Ideal) k0_pay55 (k0_pay56 (iblk m c 5 t) (iblk m c 6 t) (iblk m c 7 t) (iblk m c 4 t) (iblk m c 16 t)) (k0_pay57 (iblk m c 4 t)) (ix2 q l))
      (val_main_v49 (F := Ideal) (aZ m c) (aP m c) (aK m c) (ix2 r l)) := by
  refine (pay58_at _ _ q l).trans ?_
  rcases lt_or_ge l.val 32 with h | h
  · rw [if_pos h]
    refine (pay56_at _ _ _ _ _ q l h ⟨(l.val + 112) % 128, by omega⟩ ⟨l.val + 16, by omega⟩ rfl rfl).trans ?_
    rw [rope_inv m c t r q hr]
    rcases lt_or_ge l.val 16 with h' | h'
    · refine Eq.trans ?_ (Cert.ReferencePostIdeal.Post.v49_lo (aZ m c) (aP m c) (aK m c) r l h').symm
      rw [(blk5 m c t r q l hr).trans (in_cos0 m c r l ⟨l.val, h'⟩ rfl), (blk6 m c t r q l hr).trans (in_sina0 m c r l ⟨l.val, h'⟩ rfl),
        (blk7 m c t r q l hr).trans (in_sinb0 m c r l ⟨l.val, h'⟩ rfl), blk4 m c t r q l hr, blk4 m c t r q ⟨l.val + 16, by omega⟩ hr,
        (blk16 m c t l).trans (in_k m c l ⟨l.val, h⟩ rfl), (blk16 m c t ⟨l.val + 16, by omega⟩).trans (in_k m c ⟨l.val + 16, by omega⟩ ⟨16 + l.val, by omega⟩ (by show 16 + l.val = l.val + 16; omega)),
        mul_zero, add_zero, mul_neg, ← sub_eq_add_neg]
      rw [show (⟨1536 + (⟨l.val + 16, by omega⟩ : Fin 128).val, by show 1536 + (l.val + 16) < 7168; omega⟩ : Fin 7168) = ⟨1536 + (16 + l.val), by omega⟩ from
        Fin.ext (by show 1536 + (l.val + 16) = 1536 + (16 + l.val); omega)]
      rfl
    · refine Eq.trans ?_ (Cert.ReferencePostIdeal.Post.v49_mid (aZ m c) (aP m c) (aK m c) r l h' h).symm
      have hi : l.val = (⟨l.val - 16, by omega⟩ : Fin 16).val + 16 := by show l.val = l.val - 16 + 16; omega
      have ea : (⟨(l.val + 112) % 128, by omega⟩ : Fin 128) = ⟨l.val - 16, by omega⟩ := Fin.ext (by show (l.val + 112) % 128 = l.val - 16; omega)
      rw [ea, (blk5 m c t r q l hr).trans (in_cos1 m c r l ⟨l.val - 16, by omega⟩ hi), (blk6 m c t r q l hr).trans (in_sina1 m c r l ⟨l.val - 16, by omega⟩ hi),
        (blk7 m c t r q l hr).trans (in_sinb1 m c r l ⟨l.val - 16, by omega⟩ hi), blk4 m c t r q l hr, blk4 m c t r q ⟨l.val - 16, by omega⟩ hr,
        (blk16 m c t l).trans (in_k m c l ⟨16 + (l.val - 16), by omega⟩ (by show 16 + (l.val - 16) = l.val; omega)),
        (blk16 m c t ⟨l.val - 16, by omega⟩).trans (in_k m c ⟨l.val - 16, by omega⟩ ⟨l.val - 16, by omega⟩ rfl),
        mul_zero, add_zero]
      rw [show (⟨1536 + l.val, by omega⟩ : Fin 7168) = ⟨1536 + (16 + (l.val - 16)), by omega⟩ from Fin.ext (by show 1536 + l.val = 1536 + (16 + (l.val - 16)); omega)]
      rfl
  · rw [if_neg (by omega)]
    refine (pay57_at _ q l).trans ?_
    rcases lt_or_ge l.val 80 with h' | h'
    · rw [if_pos h', blk4 m c t r q l hr]
      refine Eq.trans ?_ (Cert.ReferencePostIdeal.Post.v49_gate (aZ m c) (aP m c) (aK m c) r l h h').symm
      exact congrArg (fun s => Ideal.logistic (aZ m c (ix2 r s))) (Fin.ext (by show 1536 + l.val = 1568 + (l.val - 32); omega))
    · rw [if_neg (by omega)]
      exact (Cert.ReferencePostIdeal.Post.v49_zero (aZ m c) (aP m c) (aK m c) r l h').symm

end Cert.KernelPostIdeal.Post

end
-- ==== Proof.CallPost.lean ====
/- The call behind the input projection: the blocks each result is written in, the results themselves, the frames and the equal results. -/
module

public import proofs.«01_k».proof.Proof.PostFrameBits
public import proofs.«01_k».proof.Proof.PostFrame
public import proofs.«01_k».proof.Proof.PostPt
public import proofs.«01_k».proof.Proof.Algebraic
public import proofs.«01_k».proof.Proof.Gen.ReferencePostIdeal.Run
public import Idealize.ShloMosaic.Lib.Pipeline.ValueKit
public import Idealize.ShloMosaic.Lib.Pipeline.ReadBack
public import Idealize.ShloMosaic.Adequacy
public import Idealize.ShloMosaic.Init

@[expose] public section

set_option maxRecDepth 16384

noncomputable section

namespace Cert.KernelPostIdeal.Post

open Idealize.ShloMosaic Idealize.ShloMosaic.TcCoe Idealize.SL.Sem
open Cert.KernelPostIdeal Cert.KernelPostIdeal.Gen
open Cert.ReferencePostIdeal.Read (val_main_v2 val_main_v67 val_main_v85 val_main_v98 val_main_v49)

variable (m : (ℓ : Loc nD τ sig) → Buf (Elt Ideal) ℓ) (c : Dev nD)

theorem out23 (t : Fin cfg0.N) (r : Fin 16384) (q : Fin 256) (e : Fin 256) (hr : r.val = 256 * t.val + q.val) :
    @Eq EReal ((outsAt0 m c t).2.1 (ix2 q e)) (val_main_v2 (F := Ideal) (aZ m c) (ix2 r e)) := by
  refine Eq.trans ?_ (pt23 m c t r q e hr)
  unfold outsAt0 runAt
  frame_out

theorem out24 (hf : Finite m c 6400 (by omega)) (t : Fin cfg0.N) (r : Fin 16384) (q : Fin 256) (e : Fin 256) (hr : r.val = 256 * t.val + q.val) :
    @Eq EReal ((outsAt0 m c t).2.2.1 (ix2 q e)) (val_main_v67 (F := Ideal) (aZ m c) (aS m c) (ix2 r e)) := by
  refine Eq.trans ?_ (pt24 m c hf t r q e hr)
  unfold outsAt0 runAt
  frame_out

theorem out25 (hf : Finite m c 6656 (by omega)) (t : Fin cfg0.N) (r : Fin 16384) (q : Fin 256) (e : Fin 256) (hr : r.val = 256 * t.val + q.val) :
    @Eq EReal ((outsAt0 m c t).2.2.2.1 (ix2 q e)) (val_main_v85 (F := Ideal) (aZ m c) (aW m c) (ix2 r e)) := by
  refine Eq.trans ?_ (pt25 m c hf t r q e hr)
  unfold outsAt0 runAt
  frame_out

theorem out28 (t : Fin cfg0.N) (r : Fin 16384) (q : Fin 256) (e : Fin 256) (hr : r.val = 256 * t.val + q.val) :
    @Eq EReal ((outsAt0 m c t).2.2.2.2.2.2.1 (ix2 q e)) (val_main_v98 (F := Ideal) (aZ m c) (aL m c) (ix2 r e)) := by
  refine Eq.trans ?_ (pt28 m c t r q e hr)
  unfold outsAt0 runAt
  frame_out

theorem out30 (t : Fin cfg0.N) (r : Fin 16384) (q : Fin 256) (e : Fin 128) (hr : r.val = 256 * t.val + q.val) :
    @Eq EReal ((outsAt0 m c t).2.2.2.2.2.2.2.2.1 (ix2 q e)) (val_main_v49 (F := Ideal) (aZ m c) (aP m c) (aK m c) (ix2 r e)) := by
  refine Eq.trans ?_ (pt30 m c t r q e hr)
  unfold outsAt0 runAt
  frame_out

theorem final23 : (dats m 0 c).arrAt 23 cfg0.N = val_main_v2 (F := Ideal) (aZ m c) := by
  refine (dats m 0 c).arrAt_eq_of_covers 23 _ (by decide +kernel) fun t hft y => ?_
  blk_simp
  rw [after0_23]
  obtain ⟨q, e, rfl⟩ : ∃ (q : Fin 256) (e : Fin 256), y = ix2 q e := ⟨y 0, y 1, by blk_ext⟩
  have ht := t_lt t
  have e1 : (win0_23.blk t).view.emb (ix2 q e) = ix2 ⟨256 * t.val + q.val, by omega⟩ e := by blk_ext [idx t]
  rw [e1]
  exact out23 m c t _ q e rfl

theorem final24 (hf : Finite m c 6400 (by omega)) : (dats m 0 c).arrAt 24 cfg0.N = val_main_v67 (F := Ideal) (aZ m c) (aS m c) := by
  refine (dats m 0 c).arrAt_eq_of_covers 24 _ (by decide +kernel) fun t hft y => ?_
  blk_simp
  rw [after0_24]
  obtain ⟨q, e, rfl⟩ : ∃ (q : Fin 256) (e : Fin 256), y = ix2 q e := ⟨y 0, y 1, by blk_ext⟩
  have ht := t_lt t
  have e1 : (win0_24.blk t).view.emb (ix2 q e) = ix2 ⟨256 * t.val + q.val, by omega⟩ e := by blk_ext [idx t]
  rw [e1]
  exact out24 m c hf t _ q e rfl

theorem final25 (hf : Finite m c 6656 (by omega)) : (dats m 0 c).arrAt 25 cfg0.N = val_main_v85 (F := Ideal) (aZ m c) (aW m c) := by
  refine (dats m 0 c).arrAt_eq_of_covers 25 _ (by decide +kernel) fun t hft y => ?_
  blk_simp
  rw [after0_25]
  obtain ⟨q, e, rfl⟩ : ∃ (q : Fin 256) (e : Fin 256), y = ix2 q e := ⟨y 0, y 1, by blk_ext⟩
  have ht := t_lt t
  have e1 : (win0_25.blk t).view.emb (ix2 q e) = ix2 ⟨256 * t.val + q.val, by omega⟩ e := by blk_ext [idx t]
  rw [e1]
  exact out25 m c hf t _ q e rfl

theorem final28 : (dats m 0 c).arrAt 28 cfg0.N = val_main_v98 (F := Ideal) (aZ m c) (aL m c) := by
  refine (dats m 0 c).arrAt_eq_of_covers 28 _ (by decide +kernel) fun t hft y => ?_
  blk_simp
  rw [after0_28]
  obtain ⟨q, e, rfl⟩ : ∃ (q : Fin 256) (e : Fin 256), y = ix2 q e := ⟨y 0, y 1, by blk_ext⟩
  have ht := t_lt t
  have e1 : (win0_28.blk t).view.emb (ix2 q e) = ix2 ⟨256 * t.val + q.val, by omega⟩ e := by blk_ext [idx t]
  rw [e1]
  exact out28 m c t _ q e rfl

theorem final30 : (dats m 0 c).arrAt 30 cfg0.N = val_main_v49 (F := Ideal) (aZ m c) (aP m c) (aK m c) := by
  refine (dats m 0 c).arrAt_eq_of_covers 30 _ (by decide +kernel) fun t hft y => ?_
  blk_simp
  rw [after0_30]
  obtain ⟨q, e, rfl⟩ : ∃ (q : Fin 256) (e : Fin 128), y = ix2 q e := ⟨y 0, y 1, by blk_ext⟩
  have ht := t_lt t
  have e1 : (win0_30.blk t).view.emb (ix2 q e) = ix2 ⟨256 * t.val + q.val, by omega⟩ e := by blk_ext [idx t]
  rw [e1]
  exact out30 m c t _ q e rfl

end Cert.KernelPostIdeal.Post

namespace Cert.Proof

open Idealize.ShloMosaic Idealize.ShloMosaic.TcCoe Idealize.SL.Sem

/-- The call behind the input projection runs, keeps its arguments and ends with every counter at zero. -/
theorem frame_p_post : Cert.quiescent_KernelPost := fun m ρ _ => Cert.KernelPost.Post.frame m ρ

theorem frame_pi_post : Cert.quiescent_KernelPostIdeal := fun m ρ _ => Cert.KernelPostIdeal.Post.frame m ρ

theorem frame_ri_post : Cert.quiescent_ReferencePostIdeal := fun m ρ _ =>
  (θ_run Cert.ReferencePostIdeal.defs _ _).mono
    (fun r h => ⟨fun c => (h c).2.2.2.2.2, sem_eq_zero_of_no_sems (by decide) r.2⟩)
    (Cert.ReferencePostIdeal.Value.run (F := Ideal) m ρ)

instance pre_keys : Cert.Pre_finite_keys.Facts := ⟨by decide, by decide, by decide⟩

/-- A band whose absolute values lie below infinity, read through the slice that cuts it out. -/
theorem finite_band (m : (ℓ : Loc Cert.KernelPostIdeal.nD Cert.KernelPostIdeal.τ Cert.KernelPostIdeal.sig) → Buf (Elt Ideal) ℓ) (c : Dev Cert.KernelPostIdeal.nD)
    (o : Nat) (ho : o + 128 ≤ 7168) (x : FVec Ideal Cert.Pre_finite_keys.S16384x128 .f32)
    (hx : ∀ (r : Fin 16384) (l : Fin 128), @Eq EReal (x (ix2 r l)) (Cert.KernelPostIdeal.Post.aZ m c (ix2 r ⟨o + l.val, by omega⟩)))
    (h : ∃ X : Cert.Pre_finite_keys.S16384x128.Idx → ℝ, ∀ i, @Eq EReal (x i) (X i : EReal)) : Cert.KernelPostIdeal.Post.Finite m c o ho := by
  obtain ⟨X, hX⟩ := h
  intro r l
  have e := (hx r l).symm.trans (hX (ix2 r l))
  rw [e]
  exact ⟨EReal.coe_ne_top _, EReal.coe_ne_bot _⟩

theorem v49_congr {z z' : Vec Ideal Cert.ReferencePostIdeal.S16384x7168 .f32} {p p' : Vec Ideal Cert.ReferencePostIdeal.S16384 .i32} {k k' : Vec Ideal Cert.ReferencePostIdeal.S32 .f32}
    (hz : z = z') (hp : p = p') (hk : k = k') : Cert.ReferencePostIdeal.Read.val_main_v49 (F := Ideal) z p k = Cert.ReferencePostIdeal.Read.val_main_v49 (F := Ideal) z' p' k' := by
  rw [hz, hp, hk]

set_option maxHeartbeats 2000000 in
/-- Kernel and reference of the call behind the input projection end with equal results. -/
theorem algebraic_post : Cert.algebraic_KernelPostIdeal_ReferencePostIdeal_pre_finite_keys := by
  pair_intro
  · run_from Cert.KernelPostIdeal.Post.run_results m g
  · run_from Cert.ReferencePostIdeal.Value.run m' g'
    · rw [Cert.ReferencePostIdeal.Read.val_main_v2_eq]
      exact (Cert.KernelPostIdeal.Post.final23 m c).symm
    · rw [Cert.ReferencePostIdeal.Read.val_main_v67_eq]
      rw [(hagree c).2.2.2.1]
      refine (Cert.KernelPostIdeal.Post.final24 m c (finite_band m c 6400 (by omega) _ (fun r l => ?_) (real_of_finite _ _ _ _ (hpre c).1))).symm
      pointwise []
    · rw [Cert.ReferencePostIdeal.Read.val_main_v85_eq]
      rw [(hagree c).2.2.2.2.1]
      refine (Cert.KernelPostIdeal.Post.final25 m c (finite_band m c 6656 (by omega) _ (fun r l => ?_) (real_of_finite _ _ _ _ (hpre c).2))).symm
      pointwise []
    · rw [Cert.ReferencePostIdeal.Read.val_main_v98_eq]
      exact (Cert.KernelPostIdeal.Post.final28 m c).symm
    · rw [Cert.ReferencePostIdeal.Read.val_main_v49_eq]
      exact (v49_congr (hagree c).1 (hagree c).2.1 (hagree c).2.2.2.2.2.2.2.2.2.1).trans (Cert.KernelPostIdeal.Post.final30 m c).symm

end Cert.Proof

end
-- ==== Proof.SampleFfn.lean ====
/- The feed-forward call: what a grid point adds to the accumulator, and the array after the run. -/
module

public import proofs.«01_k».proof.Defs
public import proofs.«01_k».proof.Proof.Gen.KernelFfnSample.Frame
public import proofs.«01_k».proof.Proof.Gen.KernelFfnSampleIdeal.Value
public import proofs.«01_k».proof.Proof.Gen.ReferenceFfnSampleIdeal.Run
public import proofs.«01_k».proof.Proof.Gen.ReferenceFfnSampleIdeal.Read
public import Idealize.ShloMosaic.Lib.Pipeline.ValueKit
public import Idealize.ShloMosaic.Lib.Pipeline.ReadBack

@[expose] public section

set_option maxRecDepth 16384

noncomputable section

namespace Cert.KernelFfnSampleIdeal.Ffn

open Idealize.ShloMosaic Idealize.ShloMosaic.TcCoe Idealize.SL.Sem
open Cert.KernelFfnSampleIdeal Cert.KernelFfnSampleIdeal.Gen

theorem pay1_at (i : Fin 512) (e : Fin 2048) : k0_pay1 (F := Ideal) (ix2 i e) = 0 := by pointwise [k0_pay1]

theorem pay3_at (x a : Vec Ideal S512x2048 .f32) (i : Fin 512) (e : Fin 2048) :
    k0_pay3 (F := Ideal) x a (ix2 i e) = x (ix2 i e) + a (ix2 i e) := by pointwise [k0_pay3]

theorem pay2_at (h : Vec Ideal S512x2048 .bf16) (g u : Vec Ideal S2048x512 .bf16) (a : Vec Ideal S512x2048 .f32) (d : Vec Ideal S512x2048 .bf16) (i : Fin 512) (e : Fin 2048) :
    @Eq EReal (k0_pay2 (F := Ideal) h g u a d (ix2 i e)) (a (ix2 i e) + ∑ k : Fin 512, (∑ j : Fin 2048, (h (ix2 i j) : EReal) * g (ix2 j k))
      * Ideal.logistic (∑ j : Fin 2048, (h (ix2 i j) : EReal) * g (ix2 j k)) * (∑ j : Fin 2048, (h (ix2 i j) : EReal) * u (ix2 j k)) * d (ix2 k e)) := by
  pointwise [k0_pay2]

section Arrays

variable (m : (ℓ : Loc nD τ sig) → Buf (Elt Ideal) ℓ) (c : Dev nD)

abbrev aH : Vec Ideal S1024x2048 .f32 := m ((c : Thread nD τ).loc main_arg0)
abbrev aX : Vec Ideal S1024x2048 .f32 := m ((c : Thread nD τ).loc main_arg1)
abbrev aG : Vec Ideal S2048x5632 .f32 := m ((c : Thread nD τ).loc main_arg2)
abbrev aU : Vec Ideal S2048x5632 .f32 := m ((c : Thread nD τ).loc main_arg3)
abbrev aD : Vec Ideal S5632x2048 .f32 := m ((c : Thread nD τ).loc main_arg4)

abbrev B0 (t : Fin cfg0.N) : Vec Ideal S512x2048 .bf16 := iblk m c 0 t
abbrev B1 (t : Fin cfg0.N) : Vec Ideal S512x2048 .f32 := iblk m c 1 t
abbrev B2 (t : Fin cfg0.N) : Vec Ideal S2048x512 .bf16 := iblk m c 2 t
abbrev B3 (t : Fin cfg0.N) : Vec Ideal S2048x512 .bf16 := iblk m c 3 t

/-- The gated hidden value of row `r` in column `l`, as the formula on the arguments. -/
def act (r : Fin 1024) (l : Fin 5632) : EReal :=
  (∑ j : Fin 2048, (aH m c (ix2 r j) : EReal) * aG m c (ix2 j l)) * Ideal.logistic (∑ j : Fin 2048, (aH m c (ix2 r j) : EReal) * aG m c (ix2 j l))
    * (∑ j : Fin 2048, (aH m c (ix2 r j) : EReal) * aU m c (ix2 j l))

theorem idx : ∀ t : Fin cfg0.N, win0_0.index t = ![t.val / 11, 0] ∧ win0_1.index t = ![t.val / 11, 0] ∧ win0_2.index t = ![0, t.val % 11]
    ∧ win0_3.index t = ![0, t.val % 11] ∧ win0_4.index t = ![t.val % 11, 0] ∧ win0_5.index t = ![t.val / 11, 0] :=
  (by decide +kernel : ∀ t : Fin grid0.N, _)

theorem in_h (i) : @Eq EReal (V m c main_v3 i) (aH m c i) := by
  simp only [V, hostOps0, StableHlo.TRef.unary, StableHlo.TRef.toBuf, StableHlo.TRef.ofBuf, cast_eq]
  after_results_simp
  pointwise []

theorem in_g (i) : @Eq EReal (V m c main_v0 i) (aG m c i) := by
  simp only [V, hostOps0, StableHlo.TRef.unary, StableHlo.TRef.toBuf, StableHlo.TRef.ofBuf, cast_eq]
  after_results_simp
  pointwise []

theorem in_u (i) : @Eq EReal (V m c main_v1 i) (aU m c i) := by
  simp only [V, hostOps0, StableHlo.TRef.unary, StableHlo.TRef.toBuf, StableHlo.TRef.ofBuf, cast_eq]
  after_results_simp
  pointwise []

theorem in_d (i) : @Eq EReal (V m c main_v2 i) (aD m c i) := by
  simp only [V, hostOps0, StableHlo.TRef.unary, StableHlo.TRef.toBuf, StableHlo.TRef.ofBuf, cast_eq]
  after_results_simp
  pointwise []

theorem in_x (i) : @Eq EReal (V m c main_arg1 i) (aX m c i) := by
  simp only [V, hostOps0, StableHlo.TRef.unary, StableHlo.TRef.toBuf, StableHlo.TRef.ofBuf, cast_eq]
  after_results_simp

theorem blk0 (t : Fin cfg0.N) (r : Fin 1024) (q : Fin 512) (e : Fin 2048) (hr : r.val = 512 * (t.val / 11) + q.val) :
    @Eq EReal (iblk m c 0 t (ix2 q e)) (aH m c (ix2 r e)) := by
  have e1 : (win0_0.blk t).view.emb (ix2 q e) = ix2 r e := by blk_ext [idx t]
  rw [← in_h]
  unfold iblk
  change View.read (Elt Ideal) (win0_0.blk t).view (V m c main_v3) (ix2 q e) = V m c main_v3 (ix2 r e)
  generalize V m c main_v3 = f
  rw [View.read_apply, e1]
  exact cast_eq _ _

theorem blk1 (t : Fin cfg0.N) (r : Fin 1024) (q : Fin 512) (e : Fin 2048) (hr : r.val = 512 * (t.val / 11) + q.val) :
    @Eq EReal (iblk m c 1 t (ix2 q e)) (aX m c (ix2 r e)) := by
  have e1 : (win0_1.blk t).view.emb (ix2 q e) = ix2 r e := by blk_ext [idx t]
  rw [← in_x]
  unfold iblk
  change View.read (Elt Ideal) (win0_1.blk t).view (V m c main_arg1) (ix2 q e) = V m c main_arg1 (ix2 r e)
  generalize V m c main_arg1 = f
  rw [View.read_apply, e1]
  exact cast_eq _ _

theorem blk2 (t : Fin cfg0.N) (j : Fin 2048) (q : Fin 512) (l : Fin 5632) (hl : l.val = 512 * (t.val % 11) + q.val) :
    @Eq EReal (iblk m c 2 t (ix2 j q)) (aG m c (ix2 j l)) := by
  have e1 : (win0_2.blk t).view.emb (ix2 j q) = ix2 j l := by blk_ext [idx t]
  rw [← in_g]
  unfold iblk
  change View.read (Elt Ideal) (win0_2.blk t).view (V m c main_v0) (ix2 j q) = V m c main_v0 (ix2 j l)
  generalize V m c main_v0 = f
  rw [View.read_apply, e1]
  exact cast_eq _ _

theorem blk3 (t : Fin cfg0.N) (j : Fin 2048) (q : Fin 512) (l : Fin 5632) (hl : l.val = 512 * (t.val % 11) + q.val) :
    @Eq EReal (iblk m c 3 t (ix2 j q)) (aU m c (ix2 j l)) := by
  have e1 : (win0_3.blk t).view.emb (ix2 j q) = ix2 j l := by blk_ext [idx t]
  rw [← in_u]
  unfold iblk
  change View.read (Elt Ideal) (win0_3.blk t).view (V m c main_v1) (ix2 j q) = V m c main_v1 (ix2 j l)
  generalize V m c main_v1 = f
  rw [View.read_apply, e1]
  exact cast_eq _ _

theorem blk4 (t : Fin cfg0.N) (q : Fin 512) (e : Fin 2048) (l : Fin 5632) (hl : l.val = 512 * (t.val % 11) + q.val) :
    @Eq EReal (iblk m c 4 t (ix2 q e)) (aD m c (ix2 l e)) := by
  have e1 : (win0_4.blk t).view.emb (ix2 q e) = ix2 l e := by blk_ext [idx t]
  rw [← in_d]
  unfold iblk
  change View.read (Elt Ideal) (win0_4.blk t).view (V m c main_v2) (ix2 q e) = V m c main_v2 (ix2 l e)
  generalize V m c main_v2 = f
  rw [View.read_apply, e1]
  exact cast_eq _ _

theorem t_lt (t : Fin cfg0.N) : t.val < 22 := lt_of_lt_of_eq t.isLt N_0

/-- What point `t` adds to the accumulator: the part of the hidden columns it holds. -/
def part (t : Fin cfg0.N) (y : S512x2048.Idx) : EReal :=
  ∑ k : Fin 512, act m c ⟨512 * (t.val / 11) + (y 0).val, by have := t_lt t; have : (y 0).val < 512 := (y 0).isLt; omega⟩
      ⟨512 * (t.val % 11) + k.val, by omega⟩ * (aD m c (ix2 ⟨512 * (t.val % 11) + k.val, by omega⟩ (y 1)) : EReal)

theorem pay2_part (t : Fin cfg0.N) (a : Vec Ideal S512x2048 .f32) (y : S512x2048.Idx) :
    @Eq EReal (k0_pay2 (F := Ideal) (iblk m c 0 t) (iblk m c 2 t) (iblk m c 3 t) a (iblk m c 4 t) y) (a y + part m c t y) := by
  obtain ⟨i, e, rfl⟩ : ∃ (i : Fin 512) (e : Fin 2048), y = ix2 i e := ⟨y 0, y 1, by blk_ext⟩
  have ht := t_lt t
  refine (pay2_at _ _ _ _ _ i e).trans (congrArg (a (ix2 i e) + ·) (Finset.sum_congr rfl fun k _ => ?_))
  have hg : (∑ j : Fin 2048, (B0 m c t (ix2 i j) : EReal) * B2 m c t (ix2 j k))
      = ∑ j : Fin 2048, (aH m c (ix2 ⟨512 * (t.val / 11) + i.val, by omega⟩ j) : EReal) * aG m c (ix2 j ⟨512 * (t.val % 11) + k.val, by omega⟩) :=
    Finset.sum_congr rfl fun j _ => congrArg₂ (· * ·) (blk0 m c t _ i j rfl) (blk2 m c t j k _ rfl)
  have hu : (∑ j : Fin 2048, (B0 m c t (ix2 i j) : EReal) * B3 m c t (ix2 j k))
      = ∑ j : Fin 2048, (aH m c (ix2 ⟨512 * (t.val / 11) + i.val, by omega⟩ j) : EReal) * aU m c (ix2 j ⟨512 * (t.val % 11) + k.val, by omega⟩) :=
    Finset.sum_congr rfl fun j _ => congrArg₂ (· * ·) (blk0 m c t _ i j rfl) (blk3 m c t j k _ rfl)
  refine congrArg₂ (· * ·) ?_ (blk4 m c t k e _ rfl)
  unfold act
  rw [hg, hu]
  rfl

theorem acc_A (t : Fin cfg0.N) (h : t.val % 11 = 0) (y : S512x2048.Idx) :
    @Eq EReal ((outsAt0 m c t.val t.isLt).2 y) (0 + part m c t y) := by
  rw [outsAt0_A m c t h (by omega)]
  frame_out
  rw [pay2_part]
  obtain ⟨i, e, rfl⟩ : ∃ (i : Fin 512) (e : Fin 2048), y = ix2 i e := ⟨y 0, y 1, by blk_ext⟩
  rw [pay1_at]

theorem acc_B (t : Fin cfg0.N) (h : ¬t.val % 11 = 0) (y : S512x2048.Idx) :
    @Eq EReal ((outsAt0 m c t.val t.isLt).2 y) ((outsAt0 m c (t.val - 1) (Nat.lt_of_le_of_lt (Nat.sub_le _ _) t.isLt)).2 y + part m c t y) := by
  by_cases h1 : t.val % 11 = 10
  · rw [outsAt0_C m c t h h1]
    frame_out
    rw [pay2_part, read_unread_whole]
  · rw [outsAt0_B m c t h h1]
    frame_out
    rw [pay2_part, read_unread_whole]

theorem last_C (t : Fin cfg0.N) (h1 : t.val % 11 = 10) (y : S512x2048.Idx) :
    @Eq EReal ((outsAt0 m c t.val t.isLt).1 y) (B1 m c t y + (outsAt0 m c t.val t.isLt).2 y) := by
  rw [outsAt0_C m c t (by omega) h1]
  frame_out
  obtain ⟨i, e, rfl⟩ : ∃ (i : Fin 512) (e : Fin 2048), y = ix2 i e := ⟨y 0, y 1, by blk_ext⟩
  rw [pay3_at]

theorem acc_sum (t : Fin cfg0.N) (h1 : t.val % 11 = 10) (r : Fin 1024) (q : Fin 512) (e : Fin 2048) (hr : r.val = 512 * (t.val / 11) + q.val) :
    @Eq EReal ((outsAt0 m c t.val t.isLt).2 (ix2 q e)) (∑ l : Fin 5632, act m c r l * (aD m c (ix2 l e) : EReal)) := by
  have key := Pipeline.eq_sum_fin_of_reset_step_apply_of_flush (M := EReal) (fun n h => (outsAt0 m c n h).2) 11 (fun _ => 0) (part m c)
    (fun t h j => acc_A m c t h j) (fun t h j => acc_B m c t h j) t h1 (ix2 q e)
  refine key.trans ?_
  rw [zero_add]
  refine Fin.sum_mul_add_congr fun s k hl => ?_
  have hs := s.isLt
  have e1 : (11 * (t.val / 11) + s.val) / 11 = t.val / 11 := by omega
  have e2 : (11 * (t.val / 11) + s.val) % 11 = s.val := by omega
  have er : (⟨512 * ((11 * (t.val / 11) + s.val) / 11) + q.val, by omega⟩ : Fin 1024) = r := Fin.ext (by simp only [e1, hr])
  have el : (⟨512 * ((11 * (t.val / 11) + s.val) % 11) + k.val, by omega⟩ : Fin 5632) = ⟨s.val * 512 + k.val, hl⟩ := Fin.ext (by simp only [e2]; omega)
  exact congrArg₂ (· * ·) (congrArg₂ (act m c) er el) (congrArg (fun l => (aD m c (ix2 l e) : EReal)) el)

end Arrays

theorem ref_at (x0 x1 : Vec Ideal Cert.ReferenceFfnSampleIdeal.S1024x2048 .f32) (x2 x3 : Vec Ideal Cert.ReferenceFfnSampleIdeal.S2048x5632 .f32) (x4 : Vec Ideal Cert.ReferenceFfnSampleIdeal.S5632x2048 .f32) (r : Fin 1024) (e : Fin 2048) :
    @Eq EReal (Cert.ReferenceFfnSampleIdeal.Read.val_main_v5 (F := Ideal) x0 x1 x2 x3 x4 (ix2 r e)) (x1 (ix2 r e) + ∑ l : Fin 5632,
      (∑ j : Fin 2048, (x0 (ix2 r j) : EReal) * x2 (ix2 j l)) * Ideal.logistic (∑ j : Fin 2048, (x0 (ix2 r j) : EReal) * x2 (ix2 j l))
        * (∑ j : Fin 2048, (x0 (ix2 r j) : EReal) * x3 (ix2 j l)) * x4 (ix2 l e)) := by
  pointwise [Cert.ReferenceFfnSampleIdeal.Read.val_main_v5, Cert.ReferenceFfnSampleIdeal.Read.val_main_v4, Cert.ReferenceFfnSampleIdeal.Read.val_main_v3,
    Cert.ReferenceFfnSampleIdeal.Read.val_main_v2, Cert.ReferenceFfnSampleIdeal.Read.val_main_v1, Cert.ReferenceFfnSampleIdeal.Read.val_main_v0,
    Cert.ReferenceFfnSampleIdeal.Read.val_main_call0_v0, Cert.ReferenceFfnSampleIdeal.Read.val_main_call0_v1, Cert.ReferenceFfnSampleIdeal.Read.val_main_call0_v2,
    Cert.ReferenceFfnSampleIdeal.Read.val_main_call0_v3, Cert.ReferenceFfnSampleIdeal.Read.val_main_call0_v4, Cert.ReferenceFfnSampleIdeal.Read.val_main_call0_v5,
    Cert.ReferenceFfnSampleIdeal.Read.val_main_call0_cst, Cert.ReferenceFfnSampleIdeal.Read.val_main_call0_cst_0]
  rfl

theorem final (m : (ℓ : Loc nD τ sig) → Buf (Elt Ideal) ℓ) (c : Dev nD) : (dats m 0 c).arrAt 5 cfg0.N
    = Cert.ReferenceFfnSampleIdeal.Read.val_main_v5 (F := Ideal) (aH m c) (aX m c) (aG m c) (aU m c) (aD m c) := by
  refine (dats m 0 c).arrAt_eq_of_covers 5 _ (by decide +kernel) fun t hf y => ?_
  blk_simp
  rw [after0_5]
  obtain ⟨q, e, rfl⟩ : ∃ (q : Fin 512) (e : Fin 2048), y = ix2 q e := ⟨y 0, y 1, by blk_ext⟩
  have ht := t_lt t
  have h1 : t.val % 11 = 10 := (flush0_5 t).mp hf
  have e1 : (win0_5.blk t).view.emb (ix2 q e) = ix2 ⟨512 * (t.val / 11) + q.val, by omega⟩ e := by blk_ext [idx t]
  rw [e1]
  refine Eq.trans ?_ (ref_at _ _ _ _ _ _ _).symm
  exact (last_C m c t h1 (ix2 q e)).trans (congrArg₂ (· + ·) (blk1 m c t _ q e rfl) (acc_sum m c t h1 _ q e rfl))

end Cert.KernelFfnSampleIdeal.Ffn

end
-- ==== Proof.SampleOut.lean ====
/- The output projection: the gated mix of the two attentions, its product with the output weights, the residual and the norm after it. -/
module

public import proofs.«01_k».proof.Defs
public import proofs.«01_k».proof.Proof.Gen.KernelOutSample.Frame
public import proofs.«01_k».proof.Proof.Gen.KernelOutSampleIdeal.Value
public import proofs.«01_k».proof.Proof.Gen.ReferenceOutSampleIdeal.Run
public import proofs.«01_k».proof.Proof.Gen.ReferenceOutSampleIdeal.Read
public import Idealize.ShloMosaic.Lib.Pipeline.ValueKit
public import Idealize.ShloMosaic.Lib.Pipeline.ReadBack

@[expose] public section

set_option maxRecDepth 16384

noncomputable section

namespace Cert.KernelOutSampleIdeal.Proj

open Idealize.ShloMosaic Idealize.ShloMosaic.TcCoe Idealize.SL.Sem
open Cert.KernelOutSampleIdeal Cert.KernelOutSampleIdeal.Gen

theorem pay2_at (a : Vec Ideal S256x1024 .bf16) (p : Vec Ideal S1024x2048 .bf16) (b : Vec Ideal S256x1024 .bf16) (q : Vec Ideal S1024x2048 .bf16)
    (g h : Vec Ideal S256x2048 .f32) (x : Vec Ideal S256x2048 .f32) (w : Vec Ideal S2048x2048 .bf16) (i : Fin 256) (e : Fin 2048) :
    @Eq EReal (k0_pay2 (F := Ideal) a p b q g h x w (ix2 i e)) (x (ix2 i e) + ∑ k : Fin 2048,
      (Ideal.logistic (g (ix2 i k)) * (∑ j : Fin 1024, (a (ix2 i j) : EReal) * p (ix2 j k))
        + Ideal.logistic (h (ix2 i k)) * (∑ j : Fin 1024, (b (ix2 i j) : EReal) * q (ix2 j k))) * w (ix2 k e)) := by
  pointwise [k0_pay2]

theorem pay1_at (y : Vec Ideal S256x2048 .f32) (s : Vec Ideal S256x1 .f32) (f : Vec Ideal S1x2048 .f32) (i : Fin 256) (e : Fin 2048) :
    @Eq EReal (k0_pay1 (F := Ideal) y s f (ix2 i e)) (y (ix2 i e) * s (ix2 i 0) * f (ix2 0 e)) := by
  pointwise [k0_pay1]

theorem pay3_at (a : Vec Ideal S256x1024 .bf16) (p : Vec Ideal S1024x2048 .bf16) (b : Vec Ideal S256x1024 .bf16) (q : Vec Ideal S1024x2048 .bf16)
    (g h : Vec Ideal S256x2048 .f32) (x : Vec Ideal S256x2048 .f32) (w : Vec Ideal S2048x2048 .bf16) (i : Fin 256) :
    @Eq EReal (k0_pay3 (F := Ideal) a p b q g h x w (ix2 i 0)) (Ideal.rsqrt (Ideal.div
      (∑ e : Fin 2048, (k0_pay2 (F := Ideal) a p b q g h x w (ix2 i e) : EReal) * k0_pay2 (F := Ideal) a p b q g h x w (ix2 i e))
      (Ideal.ofBits .f32 0x45000000#32) + Ideal.ofBits .f32 0x358637BD#32)) := by
  generalize hy : k0_pay2 (F := Ideal) a p b q g h x w = y
  unfold k0_pay3
  rw [hy]
  pointwise []

section Arrays

variable (m : (ℓ : Loc nD τ sig) → Buf (Elt Ideal) ℓ) (c : Dev nD)

abbrev a0 : Vec Ideal S1024x2048 .f32 := m ((c : Thread nD τ).loc main_arg0)
abbrev a1 : Vec Ideal S1024x1024 .f32 := m ((c : Thread nD τ).loc main_arg1)
abbrev a2 : Vec Ideal S1024x1024 .f32 := m ((c : Thread nD τ).loc main_arg2)
abbrev a3 : Vec Ideal S1024x2048 .f32 := m ((c : Thread nD τ).loc main_arg3)
abbrev a4 : Vec Ideal S1024x2048 .f32 := m ((c : Thread nD τ).loc main_arg4)
abbrev a5 : Vec Ideal S1024x2048 .f32 := m ((c : Thread nD τ).loc main_arg5)
abbrev a6 : Vec Ideal S1024x2048 .f32 := m ((c : Thread nD τ).loc main_arg6)
abbrev a7 : Vec Ideal S2048x2048 .f32 := m ((c : Thread nD τ).loc main_arg7)
abbrev a8 : Vec Ideal S2048 .f32 := m ((c : Thread nD τ).loc main_arg8)

theorem idx : ∀ t : Fin cfg0.N, win0_0.index t = ![t.val, 0] ∧ win0_1.index t = ![t.val, 0] ∧ win0_2.index t = ![t.val, 0]
    ∧ win0_3.index t = ![t.val, 1] ∧ win0_4.index t = ![t.val, 2] ∧ win0_5.index t = ![0, 0] ∧ win0_6.index t = ![0, 0]
    ∧ win0_7.index t = ![0, 0] ∧ win0_8.index t = ![0, 0] ∧ win0_9.index t = ![t.val, 0] ∧ win0_10.index t = ![t.val, 0] :=
  (by decide +kernel : ∀ t : Fin grid0.N, _)

theorem in_x (i) : @Eq EReal (V m c main_arg0 i) (a0 m c i) := by
  simp only [V, hostOps0, StableHlo.TRef.unary, StableHlo.TRef.toBuf, StableHlo.TRef.ofBuf, cast_eq]
  after_results_simp

theorem in_a (i) : @Eq EReal (V m c main_v7 i) (a1 m c i) := by
  simp only [V, hostOps0, StableHlo.TRef.unary, StableHlo.TRef.toBuf, StableHlo.TRef.ofBuf, cast_eq]
  after_results_simp
  pointwise []

theorem in_b (i) : @Eq EReal (V m c main_v8 i) (a2 m c i) := by
  simp only [V, hostOps0, StableHlo.TRef.unary, StableHlo.TRef.toBuf, StableHlo.TRef.ofBuf, cast_eq]
  after_results_simp
  pointwise []

theorem in_p (i) : @Eq EReal (V m c main_v0 i) (a5 m c i) := by
  simp only [V, hostOps0, StableHlo.TRef.unary, StableHlo.TRef.toBuf, StableHlo.TRef.ofBuf, cast_eq]
  after_results_simp
  pointwise []

theorem in_q (i) : @Eq EReal (V m c main_v1 i) (a6 m c i) := by
  simp only [V, hostOps0, StableHlo.TRef.unary, StableHlo.TRef.toBuf, StableHlo.TRef.ofBuf, cast_eq]
  after_results_simp
  pointwise []

theorem in_w (i) : @Eq EReal (V m c main_v2 i) (a7 m c i) := by
  simp only [V, hostOps0, StableHlo.TRef.unary, StableHlo.TRef.toBuf, StableHlo.TRef.ofBuf, cast_eq]
  after_results_simp
  pointwise []

theorem in_f (e : Fin 2048) : @Eq EReal (V m c main_v3 (ix2 0 e)) (a8 m c (ix1 e)) := by
  simp only [V, hostOps0, StableHlo.TRef.unary, StableHlo.TRef.toBuf, StableHlo.TRef.ofBuf, cast_eq]
  after_results_simp
  pointwise []

theorem in_g (r : Fin 1024) (e : Fin 2048) (l : Fin 7168) (hl : l.val = 2048 + e.val) : @Eq EReal (V m c main_v6 (ix2 r l)) (a3 m c (ix2 r e)) := by
  have hb : 2048 + e.val < 7168 := by omega
  obtain rfl : l = ⟨2048 + e.val, hb⟩ := Fin.ext hl
  simp only [V, hostOps0, StableHlo.TRef.unary, StableHlo.TRef.toBuf, StableHlo.TRef.ofBuf, cast_eq]
  after_results_simp
  pointwise []

theorem in_h (r : Fin 1024) (e : Fin 2048) (l : Fin 7168) (hl : l.val = 4096 + e.val) : @Eq EReal (V m c main_v6 (ix2 r l)) (a4 m c (ix2 r e)) := by
  have hb : 4096 + e.val < 7168 := by omega
  obtain rfl : l = ⟨4096 + e.val, hb⟩ := Fin.ext hl
  simp only [V, hostOps0, StableHlo.TRef.unary, StableHlo.TRef.toBuf, StableHlo.TRef.ofBuf, cast_eq]
  after_results_simp
  pointwise []
  rw [dif_neg (by omega), dif_neg (by omega), dif_pos (by omega)]
  exact congrArg (a4 m c) (by blk_ext)

theorem blk0 (t : Fin cfg0.N) (r : Fin 1024) (q : Fin 256) (e : Fin 2048) (hr : r.val = 256 * t.val + q.val) :
    @Eq EReal (iblk m c 0 t (ix2 q e)) (a0 m c (ix2 r e)) := by
  have e1 : (win0_0.blk t).view.emb (ix2 q e) = (ix2 r e) := by blk_ext [idx t]
  rw [← in_x]
  unfold iblk
  change View.read (Elt Ideal) (win0_0.blk t).view (V m c main_arg0) (ix2 q e) = V m c main_arg0 (ix2 r e)
  generalize V m c main_arg0 = f
  rw [View.read_apply, e1]
  exact cast_eq _ _

theorem blk1 (t : Fin cfg0.N) (r : Fin 1024) (q : Fin 256) (e : Fin 1024) (hr : r.val = 256 * t.val + q.val) :
    @Eq EReal (iblk m c 1 t (ix2 q e)) (a1 m c (ix2 r e)) := by
  have e1 : (win0_1.blk t).view.emb (ix2 q e) = (ix2 r e) := by blk_ext [idx t]
  rw [← in_a]
  unfold iblk
  change View.read (Elt Ideal) (win0_1.blk t).view (V m c main_v7) (ix2 q e) = V m c main_v7 (ix2 r e)
  generalize V m c main_v7 = f
  rw [View.read_apply, e1]
  exact cast_eq _ _

theorem blk2 (t : Fin cfg0.N) (r : Fin 1024) (q : Fin 256) (e : Fin 1024) (hr : r.val = 256 * t.val + q.val) :
    @Eq EReal (iblk m c 2 t (ix2 q e)) (a2 m c (ix2 r e)) := by
  have e1 : (win0_2.blk t).view.emb (ix2 q e) = (ix2 r e) := by blk_ext [idx t]
  rw [← in_b]
  unfold iblk
  change View.read (Elt Ideal) (win0_2.blk t).view (V m c main_v8) (ix2 q e) = V m c main_v8 (ix2 r e)
  generalize V m c main_v8 = f
  rw [View.read_apply, e1]
  exact cast_eq _ _

theorem blk5 (t : Fin cfg0.N) (j : Fin 1024) (e : Fin 2048) :
    @Eq EReal (iblk m c 5 t (ix2 j e)) (a5 m c (ix2 j e)) := by
  have e1 : (win0_5.blk t).view.emb (ix2 j e) = (ix2 j e) := by blk_ext [idx t]
  rw [← in_p]
  unfold iblk
  change View.read (Elt Ideal) (win0_5.blk t).view (V m c main_v0) (ix2 j e) = V m c main_v0 (ix2 j e)
  generalize V m c main_v0 = f
  rw [View.read_apply, e1]
  exact cast_eq _ _

theorem blk6 (t : Fin cfg0.N) (j : Fin 1024) (e : Fin 2048) :
    @Eq EReal (iblk m c 6 t (ix2 j e)) (a6 m c (ix2 j e)) := by
  have e1 : (win0_6.blk t).view.emb (ix2 j e) = (ix2 j e) := by blk_ext [idx t]
  rw [← in_q]
  unfold iblk
  change View.read (Elt Ideal) (win0_6.blk t).view (V m c main_v1) (ix2 j e) = V m c main_v1 (ix2 j e)
  generalize V m c main_v1 = f
  rw [View.read_apply, e1]
  exact cast_eq _ _

theorem blk7 (t : Fin cfg0.N) (j : Fin 2048) (e : Fin 2048) :
    @Eq EReal (iblk m c 7 t (ix2 j e)) (a7 m c (ix2 j e)) := by
  have e1 : (win0_7.blk t).view.emb (ix2 j e) = (ix2 j e) := by blk_ext [idx t]
  rw [← in_w]
  unfold iblk
  change View.read (Elt Ideal) (win0_7.blk t).view (V m c main_v2) (ix2 j e) = V m c main_v2 (ix2 j e)
  generalize V m c main_v2 = f
  rw [View.read_apply, e1]
  exact cast_eq _ _

theorem blk8 (t : Fin cfg0.N) (e : Fin 2048) :
    @Eq EReal (iblk m c 8 t (ix2 0 e)) (a8 m c (ix1 e)) := by
  have e1 : (win0_8.blk t).view.emb (ix2 0 e) = (ix2 0 e) := by blk_ext [idx t]
  rw [← in_f]
  unfold iblk
  change View.read (Elt Ideal) (win0_8.blk t).view (V m c main_v3) (ix2 0 e) = V m c main_v3 (ix2 0 e)
  generalize V m c main_v3 = f
  rw [View.read_apply, e1]
  exact cast_eq _ _

theorem blk3 (t : Fin cfg0.N) (r : Fin 1024) (q : Fin 256) (e : Fin 2048) (hr : r.val = 256 * t.val + q.val) :
    @Eq EReal (X0_3 m c t (ix2 q e)) (a3 m c (ix2 r e)) := by
  unfold X0_3 Pipeline.Window.fill
  rw [dif_pos (moved0_3 t _)]
  have e1 : (win0_3.blk t).view.emb (fun a => ⟨((ix2 q e : S256x2048.Idx) a).val, ((win0_3.moved_iff _ _).mp (moved0_3 t (ix2 q e)) a)⟩) = ix2 r ⟨2048 + e.val, by omega⟩ := by blk_ext [idx t]
  rw [← in_g m c r e ⟨2048 + e.val, by omega⟩ rfl]
  unfold iblk
  change View.read (Elt Ideal) (win0_3.blk t).view (V m c main_v6) (fun a => ⟨((ix2 q e : S256x2048.Idx) a).val, ((win0_3.moved_iff _ _).mp (moved0_3 t (ix2 q e)) a)⟩) = V m c main_v6 _
  generalize V m c main_v6 = f
  rw [View.read_apply, e1]
  exact cast_eq _ _

theorem blk4 (t : Fin cfg0.N) (r : Fin 1024) (q : Fin 256) (e : Fin 2048) (hr : r.val = 256 * t.val + q.val) :
    @Eq EReal (X0_4 m c t (ix2 q e)) (a4 m c (ix2 r e)) := by
  unfold X0_4 Pipeline.Window.fill
  rw [dif_pos (moved0_4 t _)]
  have e1 : (win0_4.blk t).view.emb (fun a => ⟨((ix2 q e : S256x2048.Idx) a).val, ((win0_4.moved_iff _ _).mp (moved0_4 t (ix2 q e)) a)⟩) = ix2 r ⟨4096 + e.val, by omega⟩ := by blk_ext [idx t]
  rw [← in_h m c r e ⟨4096 + e.val, by omega⟩ rfl]
  unfold iblk
  change View.read (Elt Ideal) (win0_4.blk t).view (V m c main_v6) (fun a => ⟨((ix2 q e : S256x2048.Idx) a).val, ((win0_4.moved_iff _ _).mp (moved0_4 t (ix2 q e)) a)⟩) = V m c main_v6 _
  generalize V m c main_v6 = f
  rw [View.read_apply, e1]
  exact cast_eq _ _

theorem t_lt (t : Fin cfg0.N) : t.val < 4 := lt_of_lt_of_eq t.isLt N_0

/-- Row `r` of the residual stream after the mix of the two attentions, as the formula on the arguments. -/
def x1 (r : Fin 1024) (e : Fin 2048) : EReal :=
  (a0 m c (ix2 r e) : EReal) + ∑ k : Fin 2048,
    (Ideal.logistic (a3 m c (ix2 r k)) * (∑ j : Fin 1024, (a1 m c (ix2 r j) : EReal) * a5 m c (ix2 j k))
      + Ideal.logistic (a4 m c (ix2 r k)) * (∑ j : Fin 1024, (a2 m c (ix2 r j) : EReal) * a6 m c (ix2 j k))) * a7 m c (ix2 k e)

/-- The same row normed to unit mean square and scaled by the norm's weight. -/
def h2 (r : Fin 1024) (e : Fin 2048) : EReal :=
  x1 m c r e * Ideal.rsqrt (Ideal.div (∑ j : Fin 2048, x1 m c r j * x1 m c r j) (Ideal.ofBits .f32 0x45000000#32) + Ideal.ofBits .f32 0x358637BD#32)
    * (a8 m c (ix1 e) : EReal)

theorem x1_blk (t : Fin cfg0.N) (r : Fin 1024) (q : Fin 256) (e : Fin 2048) (hr : r.val = 256 * t.val + q.val) :
    @Eq EReal (k0_pay2 (F := Ideal) (iblk m c 1 t) (iblk m c 5 t) (iblk m c 2 t) (iblk m c 6 t) (X0_3 m c t) (X0_4 m c t) (iblk m c 0 t) (iblk m c 7 t) (ix2 q e)) (x1 m c r e) := by
  refine (pay2_at _ _ _ _ _ _ _ _ q e).trans (congrArg₂ (· + ·) (blk0 m c t r q e hr) (Finset.sum_congr rfl fun k _ => ?_))
  refine congrArg₂ (· * ·) (congrArg₂ (· + ·) ?_ ?_) (blk7 m c t k e)
  · exact congrArg₂ (· * ·) (congrArg Ideal.logistic (blk3 m c t r q k hr))
      (Finset.sum_congr rfl fun j _ => congrArg₂ (· * ·) (blk1 m c t r q j hr) (blk5 m c t j k))
  · exact congrArg₂ (· * ·) (congrArg Ideal.logistic (blk4 m c t r q k hr))
      (Finset.sum_congr rfl fun j _ => congrArg₂ (· * ·) (blk2 m c t r q j hr) (blk6 m c t j k))

theorem out_x1 (t : Fin cfg0.N) (r : Fin 1024) (q : Fin 256) (e : Fin 2048) (hr : r.val = 256 * t.val + q.val) :
    @Eq EReal ((outsAt0 m c t).1 (ix2 q e)) (x1 m c r e) := by
  unfold outsAt0
  frame_out
  exact x1_blk m c t r q e hr

theorem out_h2 (t : Fin cfg0.N) (r : Fin 1024) (q : Fin 256) (e : Fin 2048) (hr : r.val = 256 * t.val + q.val) :
    @Eq EReal ((outsAt0 m c t).2 (ix2 q e)) (h2 m c r e) := by
  unfold outsAt0
  frame_out
  refine (pay1_at _ _ _ q e).trans (congrArg₂ (· * ·) (congrArg₂ (· * ·) (x1_blk m c t r q e hr) ?_) (blk8 m c t e))
  refine (pay3_at _ _ _ _ _ _ _ _ q).trans (congrArg (fun z : EReal => Ideal.rsqrt (Ideal.div z (Ideal.ofBits .f32 0x45000000#32) + Ideal.ofBits .f32 0x358637BD#32)) ?_)
  exact Finset.sum_congr rfl fun j _ => congrArg₂ (· * ·) (x1_blk m c t r q j hr) (x1_blk m c t r q j hr)

end Arrays

section Reference

open Cert.ReferenceOutSampleIdeal.Read

variable (b0 : Vec Ideal S1024x2048 .f32) (b1 b2 : Vec Ideal S1024x1024 .f32) (b3 b4 : Vec Ideal S1024x2048 .f32)
  (b5 b6 : Vec Ideal S1024x2048 .f32) (b7 : Vec Ideal S2048x2048 .f32) (b8 : Vec Ideal S2048 .f32)

theorem ref_x1 (r : Fin 1024) (e : Fin 2048) :
    @Eq EReal (val_main_v18 (F := Ideal) b0 b1 b2 b3 b4 b5 b6 b7 (ix2 r e)) ((b0 (ix2 r e) : EReal) + ∑ k : Fin 2048,
    (Ideal.logistic (b3 (ix2 r k)) * (∑ j : Fin 1024, (b1 (ix2 r j) : EReal) * b5 (ix2 j k))
      + Ideal.logistic (b4 (ix2 r k)) * (∑ j : Fin 1024, (b2 (ix2 r j) : EReal) * b6 (ix2 j k))) * b7 (ix2 k e)) := by
  pointwise [val_main_v18, val_main_v17, val_main_v16, val_main_v15, val_main_v14, val_main_v13, val_main_v12, val_main_v11, val_main_v10, val_main_v9,
    val_main_v8, val_main_v7, val_main_v6, val_main_v5, val_main_v4, val_main_v3, val_main_v2, val_main_v1, val_main_v0, val_main_cst, val_main_cst_0,
    val_main_cst_1, val_main_cst_2]
  rfl

theorem ref_h2 (r : Fin 1024) (e : Fin 2048) :
    @Eq EReal (val_main_v32 (F := Ideal) b0 b1 b2 b3 b4 b5 b6 b7 b8 (ix2 r e)) ((val_main_v18 (F := Ideal) b0 b1 b2 b3 b4 b5 b6 b7 (ix2 r e) : EReal)
      * Ideal.rsqrt (Ideal.div (∑ j : Fin 2048, (val_main_v18 (F := Ideal) b0 b1 b2 b3 b4 b5 b6 b7 (ix2 r j) : EReal) * val_main_v18 (F := Ideal) b0 b1 b2 b3 b4 b5 b6 b7 (ix2 r j))
        (Ideal.ofBits .f32 0x45000000#32) + Ideal.ofBits .f32 0x358637BD#32) * (b8 (ix1 e) : EReal)) := by
  unfold val_main_v32 val_main_v31 val_main_v28 val_main_v27 val_main_v26 val_main_v25 val_main_v23 val_main_v21 val_main_v20 val_main_v19
  generalize val_main_v18 (F := Ideal) b0 b1 b2 b3 b4 b5 b6 b7 = y
  pointwise [val_main_v30, val_main_v29, val_main_v24, val_main_v22, val_main_cst_3, val_main_cst_4, val_main_cst_5]

end Reference

theorem final_x1 (m : (ℓ : Loc nD τ sig) → Buf (Elt Ideal) ℓ) (c : Dev nD) : (dats m 0 c).arrAt 9 cfg0.N
    = Cert.ReferenceOutSampleIdeal.Read.val_main_v18 (F := Ideal) (a0 m c) (a1 m c) (a2 m c) (a3 m c) (a4 m c) (a5 m c) (a6 m c) (a7 m c) := by
  refine (dats m 0 c).arrAt_eq_of_covers 9 _ (by decide +kernel) fun t hf y => ?_
  blk_simp
  rw [after0_9]
  obtain ⟨q, e, rfl⟩ : ∃ (q : Fin 256) (e : Fin 2048), y = ix2 q e := ⟨y 0, y 1, by blk_ext⟩
  have ht := t_lt t
  have e1 : (win0_9.blk t).view.emb (ix2 q e) = ix2 ⟨256 * t.val + q.val, by omega⟩ e := by blk_ext [idx t]
  rw [e1]
  exact (out_x1 m c t _ q e rfl).trans (ref_x1 _ _ _ _ _ _ _ _ _ _).symm

theorem final_h2 (m : (ℓ : Loc nD τ sig) → Buf (Elt Ideal) ℓ) (c : Dev nD) : (dats m 0 c).arrAt 10 cfg0.N
    = Cert.ReferenceOutSampleIdeal.Read.val_main_v32 (F := Ideal) (a0 m c) (a1 m c) (a2 m c) (a3 m c) (a4 m c) (a5 m c) (a6 m c) (a7 m c) (a8 m c) := by
  refine (dats m 0 c).arrAt_eq_of_covers 10 _ (by decide +kernel) fun t hf y => ?_
  blk_simp
  rw [after0_10]
  obtain ⟨q, e, rfl⟩ : ∃ (q : Fin 256) (e : Fin 2048), y = ix2 q e := ⟨y 0, y 1, by blk_ext⟩
  have ht := t_lt t
  have e1 : (win0_10.blk t).view.emb (ix2 q e) = ix2 ⟨256 * t.val + q.val, by omega⟩ e := by blk_ext [idx t]
  rw [e1]
  refine (out_h2 m c t ⟨256 * t.val + q.val, by omega⟩ q e rfl).trans ((ref_h2 _ _ _ _ _ _ _ _ _ _ _).trans ?_).symm
  simp only [ref_x1]
  rfl

end Cert.KernelOutSampleIdeal.Proj

end
-- ==== Proof.SampleProj.lean ====
/- The input projection: the normed rows kept over the column tiles, their products, and the columns' order. -/
module

public import proofs.«01_k».proof.Defs
public import proofs.«01_k».proof.Proof.Gen.KernelInSample.Frame
public import proofs.«01_k».proof.Proof.Gen.KernelInSampleIdeal.Value
public import proofs.«01_k».proof.Proof.Gen.ReferenceInSampleIdeal.Run
public import proofs.«01_k».proof.Proof.Gen.ReferenceInSampleIdeal.Read
public import Idealize.ShloMosaic.Lib.Pipeline.ValueKit
public import Idealize.ShloMosaic.Lib.Pipeline.ReadBack

@[expose] public section

set_option maxRecDepth 16384

noncomputable section

namespace Cert.KernelInSampleIdeal.Proj

open Idealize.ShloMosaic Idealize.ShloMosaic.TcCoe Idealize.SL.Sem
open Cert.KernelInSampleIdeal Cert.KernelInSampleIdeal.Gen

theorem pay1_at (x : Vec Ideal S512x2048 .f32) (g : Vec Ideal S1x2048 .f32) (i : Fin 512) (e : Fin 2048) :
    @Eq EReal (k0_pay1 (F := Ideal) x g (ix2 i e)) (x (ix2 i e) * Ideal.rsqrt (Ideal.div (∑ j : Fin 2048, (x (ix2 i j) : EReal) * x (ix2 i j))
      (Ideal.ofBits .f32 0x45000000#32) + Ideal.ofBits .f32 0x358637BD#32) * g (ix2 0 e)) := by
  pointwise [k0_pay1]

theorem pay2_at (h : Vec Ideal S512x2048 .bf16) (w : Vec Ideal S2048x1024 .bf16) (i : Fin 512) (e : Fin 1024) :
    @Eq EReal (k0_pay2 (F := Ideal) h w (ix2 i e)) (∑ j : Fin 2048, (h (ix2 i j) : EReal) * w (ix2 j e)) := by
  pointwise [k0_pay2]

/-- The column of the weights that column `l` of the result is made from; the columns 1616 to 2047 come from none. -/
def src (l : ℕ) : ℕ :=
  if l < 1024 then l else if l < 1536 then l - 1024 + 1840 else if l < 1568 then l - 1536 + 2608 else if l < 1616 then l - 1568 + 1792
  else if l < 2048 then 0 else if l < 4096 then l - 2048 + 2640 else if l < 6144 then l - 4096 + 4688 else if l < 6912 then l - 6144 + 1024
  else l - 6912 + 2352

theorem src_lt (l : Fin 7168) : src l.val < 6736 := by have := l.isLt; unfold src; split_ifs <;> omega

theorem src_0 (l e : ℕ) (he : e < 1024) (hl : l = 0 + e) : e = src l := by unfold src; split_ifs <;> omega
theorem src_1 (l e : ℕ) (he : e < 512) (hl : l = 1024 + e) : 1840 + e = src l := by unfold src; split_ifs <;> omega
theorem src_2 (l e : ℕ) (he : e < 32) (hl : l = 1536 + e) : 2608 + e = src l := by unfold src; split_ifs <;> omega
theorem src_3 (l e : ℕ) (he : e < 48) (hl : l = 1568 + e) : 1792 + e = src l := by unfold src; split_ifs <;> omega
theorem src_5 (l e : ℕ) (he : e < 2048) (hl : l = 2048 + e) : 2640 + e = src l := by unfold src; split_ifs <;> omega
theorem src_6 (l e : ℕ) (he : e < 2048) (hl : l = 4096 + e) : 4688 + e = src l := by unfold src; split_ifs <;> omega
theorem src_7 (l e : ℕ) (he : e < 256) (hl : l = 6144 + e) : 1024 + e = src l := by unfold src; split_ifs <;> omega
theorem src_8 (l e : ℕ) (he : e < 256) (hl : l = 6400 + e) : 1280 + e = src l := by unfold src; split_ifs <;> omega
theorem src_9 (l e : ℕ) (he : e < 256) (hl : l = 6656 + e) : 1536 + e = src l := by unfold src; split_ifs <;> omega
theorem src_10 (l e : ℕ) (he : e < 256) (hl : l = 6912 + e) : 2352 + e = src l := by unfold src; split_ifs <;> omega

/-- The array read at the source of column `l`, or zero. -/
def pick {n : ℕ} (f : Fin n → Fin 6736 → EReal) (r : Fin n) (l : Fin 7168) : EReal :=
  if 1616 ≤ l.val ∧ l.val < 2048 then 0 else f r ⟨src l.val, src_lt l⟩

theorem pick_at {n : ℕ} (f : Fin n → Fin 6736 → EReal) (r : Fin n) (l : Fin 7168) (s : Fin 6736) (hn : ¬(1616 ≤ l.val ∧ l.val < 2048)) (hs : s.val = src l.val) :
    pick f r l = f r s := by
  unfold pick
  rw [if_neg hn]
  exact congrArg (f r) (Fin.ext hs.symm)

theorem pick_zero {n : ℕ} (f : Fin n → Fin 6736 → EReal) (r : Fin n) (l : Fin 7168) (h : 1616 ≤ l.val ∧ l.val < 2048) : pick f r l = 0 := if_pos h

theorem narrow {S : Shape} (x : FVec Ideal S .f32) (h : FTy.bits .bf16 < FTy.bits .f32) (i : S.Idx) : @Eq EReal (truncf .bf16 x h i) (x i) := rfl

/-- A place of a table is its row and its column. -/
theorem at_ix2 {n w : ℕ} (i : (⟨2, ![n, w]⟩ : Shape).Idx) (r : Fin n) (e : Fin w) (h0 : (i 0).val = r.val) (h1 : (i 1).val = e.val) : i = ix2 r e :=
  funext fun a => match a with
    | ⟨0, _⟩ => Fin.ext h0
    | ⟨1, _⟩ => Fin.ext h1

section Lay

variable {n w : ℕ}

/-- What a row of pieces holds at a place before the first piece's end. -/
theorem take {W : ℕ} (j : (⟨2, ![n, W]⟩ : Shape).Idx) (x : (⟨2, ![n, w]⟩ : Shape).Idx → EReal) (q : (s : Shape) × (s.Idx → EReal)) (xs : List ((s : Shape) × (s.Idx → EReal)))
    (hs : ∀ s' ∈ ((⟨(⟨2, ![n, w]⟩ : Shape), x⟩ :: q :: xs : List ((s : Shape) × (s.Idx → EReal))).map (·.1)), s'.FitsOff (⟨2, ![n, W]⟩ : Shape) 1) (c : ℕ) (hc) (d : c < w) :
    concatenateAt (⟨2, ![n, W]⟩ : Shape) 1 j (⟨(⟨2, ![n, w]⟩ : Shape), x⟩ :: q :: xs) hs c hc = x (ix2 (j 0) ⟨c, d⟩) := by
  refine (concatenateAt_cons _ _ _ _ _ _ _ _).trans ((dif_pos d).trans (congrArg x ?_))
  exact at_ix2 _ _ _ rfl rfl

/-- The last piece. -/
theorem last {W : ℕ} (j : (⟨2, ![n, W]⟩ : Shape).Idx) (x : (⟨2, ![n, w]⟩ : Shape).Idx → EReal)
    (hs : ∀ s' ∈ ([⟨(⟨2, ![n, w]⟩ : Shape), x⟩] : List ((s : Shape) × (s.Idx → EReal))).map (·.1), s'.FitsOff (⟨2, ![n, W]⟩ : Shape) 1) (c : ℕ) (hc) (d : c < w) :
    concatenateAt (⟨2, ![n, W]⟩ : Shape) 1 j [⟨(⟨2, ![n, w]⟩ : Shape), x⟩] hs c hc = x (ix2 (j 0) ⟨c, d⟩) := by
  refine (concatenateAt_singleton _ _ _ _ _ _).trans (congrArg x ?_)
  exact at_ix2 _ _ _ rfl rfl

/-- Past the first piece's end the rest of the row is read that many places earlier. -/
theorem skip {W : ℕ} (j : (⟨2, ![n, W]⟩ : Shape).Idx) (x : (⟨2, ![n, w]⟩ : Shape).Idx → EReal) (q : (s : Shape) × (s.Idx → EReal)) (xs : List ((s : Shape) × (s.Idx → EReal)))
    (hs : ∀ s' ∈ ((⟨(⟨2, ![n, w]⟩ : Shape), x⟩ :: q :: xs : List ((s : Shape) × (s.Idx → EReal))).map (·.1)), s'.FitsOff (⟨2, ![n, W]⟩ : Shape) 1) (c : ℕ) (hc) (d : ¬c < w) :
    ∃ c', ∃ hs' hc', c = w + c' ∧ concatenateAt (⟨2, ![n, W]⟩ : Shape) 1 j (⟨(⟨2, ![n, w]⟩ : Shape), x⟩ :: q :: xs) hs c hc
      = concatenateAt (⟨2, ![n, W]⟩ : Shape) 1 j (q :: xs) hs' c' hc' :=
  ⟨c - w, _, _, by omega, (concatenateAt_cons _ _ _ _ _ _ _ _).trans (dif_neg d)⟩

/-- Eleven arrays laid side by side hold the array each of them holds a part of. -/
theorem lay {n : ℕ} (f : Fin n → Fin 7168 → EReal)
    (x0 : (⟨2, ![n, 1024]⟩ : Shape).Idx → EReal)
    (x1 : (⟨2, ![n, 512]⟩ : Shape).Idx → EReal)
    (x2 : (⟨2, ![n, 32]⟩ : Shape).Idx → EReal)
    (x3 : (⟨2, ![n, 48]⟩ : Shape).Idx → EReal)
    (x4 : (⟨2, ![n, 432]⟩ : Shape).Idx → EReal)
    (x5 : (⟨2, ![n, 2048]⟩ : Shape).Idx → EReal)
    (x6 : (⟨2, ![n, 2048]⟩ : Shape).Idx → EReal)
    (x7 : (⟨2, ![n, 256]⟩ : Shape).Idx → EReal)
    (x8 : (⟨2, ![n, 256]⟩ : Shape).Idx → EReal)
    (x9 : (⟨2, ![n, 256]⟩ : Shape).Idx → EReal)
    (x10 : (⟨2, ![n, 256]⟩ : Shape).Idx → EReal)
    (h : Shape.Concatenates [(⟨2, ![n, 1024]⟩ : Shape), (⟨2, ![n, 512]⟩ : Shape), (⟨2, ![n, 32]⟩ : Shape), (⟨2, ![n, 48]⟩ : Shape), (⟨2, ![n, 432]⟩ : Shape), (⟨2, ![n, 2048]⟩ : Shape), (⟨2, ![n, 2048]⟩ : Shape), (⟨2, ![n, 256]⟩ : Shape), (⟨2, ![n, 256]⟩ : Shape), (⟨2, ![n, 256]⟩ : Shape), (⟨2, ![n, 256]⟩ : Shape)] (⟨2, ![n, 7168]⟩ : Shape) 1)
    (h0 : ∀ (r : Fin n) (e : Fin 1024) (l : Fin 7168), l.val = 0 + e.val → x0 (ix2 r e) = f r l)
    (h1 : ∀ (r : Fin n) (e : Fin 512) (l : Fin 7168), l.val = 1024 + e.val → x1 (ix2 r e) = f r l)
    (h2 : ∀ (r : Fin n) (e : Fin 32) (l : Fin 7168), l.val = 1536 + e.val → x2 (ix2 r e) = f r l)
    (h3 : ∀ (r : Fin n) (e : Fin 48) (l : Fin 7168), l.val = 1568 + e.val → x3 (ix2 r e) = f r l)
    (h4 : ∀ (r : Fin n) (e : Fin 432) (l : Fin 7168), l.val = 1616 + e.val → x4 (ix2 r e) = f r l)
    (h5 : ∀ (r : Fin n) (e : Fin 2048) (l : Fin 7168), l.val = 2048 + e.val → x5 (ix2 r e) = f r l)
    (h6 : ∀ (r : Fin n) (e : Fin 2048) (l : Fin 7168), l.val = 4096 + e.val → x6 (ix2 r e) = f r l)
    (h7 : ∀ (r : Fin n) (e : Fin 256) (l : Fin 7168), l.val = 6144 + e.val → x7 (ix2 r e) = f r l)
    (h8 : ∀ (r : Fin n) (e : Fin 256) (l : Fin 7168), l.val = 6400 + e.val → x8 (ix2 r e) = f r l)
    (h9 : ∀ (r : Fin n) (e : Fin 256) (l : Fin 7168), l.val = 6656 + e.val → x9 (ix2 r e) = f r l)
    (h10 : ∀ (r : Fin n) (e : Fin 256) (l : Fin 7168), l.val = 6912 + e.val → x10 (ix2 r e) = f r l)
    (r : Fin n) (l : Fin 7168) :
    concatenate (⟨2, ![n, 7168]⟩ : Shape) 1 [⟨(⟨2, ![n, 1024]⟩ : Shape), x0⟩, ⟨(⟨2, ![n, 512]⟩ : Shape), x1⟩, ⟨(⟨2, ![n, 32]⟩ : Shape), x2⟩, ⟨(⟨2, ![n, 48]⟩ : Shape), x3⟩, ⟨(⟨2, ![n, 432]⟩ : Shape), x4⟩, ⟨(⟨2, ![n, 2048]⟩ : Shape), x5⟩, ⟨(⟨2, ![n, 2048]⟩ : Shape), x6⟩, ⟨(⟨2, ![n, 256]⟩ : Shape), x7⟩, ⟨(⟨2, ![n, 256]⟩ : Shape), x8⟩, ⟨(⟨2, ![n, 256]⟩ : Shape), x9⟩, ⟨(⟨2, ![n, 256]⟩ : Shape), x10⟩] h (ix2 r l) = f r l := by
  have hl := l.isLt
  refine (concatenate_cons_apply _ _ _ _ _ _ _).trans ?_
  have key : ∀ c0 s0 b0, c0 = l.val → concatenateAt (⟨2, ![n, 7168]⟩ : Shape) 1 (ix2 r l) [⟨(⟨2, ![n, 1024]⟩ : Shape), x0⟩, ⟨(⟨2, ![n, 512]⟩ : Shape), x1⟩, ⟨(⟨2, ![n, 32]⟩ : Shape), x2⟩, ⟨(⟨2, ![n, 48]⟩ : Shape), x3⟩, ⟨(⟨2, ![n, 432]⟩ : Shape), x4⟩, ⟨(⟨2, ![n, 2048]⟩ : Shape), x5⟩, ⟨(⟨2, ![n, 2048]⟩ : Shape), x6⟩, ⟨(⟨2, ![n, 256]⟩ : Shape), x7⟩, ⟨(⟨2, ![n, 256]⟩ : Shape), x8⟩, ⟨(⟨2, ![n, 256]⟩ : Shape), x9⟩, ⟨(⟨2, ![n, 256]⟩ : Shape), x10⟩] s0 c0 b0 = f r l := by
    intro c0 s0 b0 e0
    by_cases d0 : c0 < 1024
    · exact (take _ x0 _ _ s0 c0 b0 d0).trans (h0 r ⟨c0, d0⟩ l (by show l.val = 0 + c0; omega))
    obtain ⟨c1, s1, b1, e1, g1⟩ := skip _ x0 _ _ s0 c0 b0 d0
    refine g1.trans ?_
    by_cases d1 : c1 < 512
    · exact (take _ x1 _ _ s1 c1 b1 d1).trans (h1 r ⟨c1, d1⟩ l (by show l.val = 1024 + c1; omega))
    obtain ⟨c2, s2, b2, e2, g2⟩ := skip _ x1 _ _ s1 c1 b1 d1
    refine g2.trans ?_
    by_cases d2 : c2 < 32
    · exact (take _ x2 _ _ s2 c2 b2 d2).trans (h2 r ⟨c2, d2⟩ l (by show l.val = 1536 + c2; omega))
    obtain ⟨c3, s3, b3, e3, g3⟩ := skip _ x2 _ _ s2 c2 b2 d2
    refine g3.trans ?_
    by_cases d3 : c3 < 48
    · exact (take _ x3 _ _ s3 c3 b3 d3).trans (h3 r ⟨c3, d3⟩ l (by show l.val = 1568 + c3; omega))
    obtain ⟨c4, s4, b4, e4, g4⟩ := skip _ x3 _ _ s3 c3 b3 d3
    refine g4.trans ?_
    by_cases d4 : c4 < 432
    · exact (take _ x4 _ _ s4 c4 b4 d4).trans (h4 r ⟨c4, d4⟩ l (by show l.val = 1616 + c4; omega))
    obtain ⟨c5, s5, b5, e5, g5⟩ := skip _ x4 _ _ s4 c4 b4 d4
    refine g5.trans ?_
    by_cases d5 : c5 < 2048
    · exact (take _ x5 _ _ s5 c5 b5 d5).trans (h5 r ⟨c5, d5⟩ l (by show l.val = 2048 + c5; omega))
    obtain ⟨c6, s6, b6, e6, g6⟩ := skip _ x5 _ _ s5 c5 b5 d5
    refine g6.trans ?_
    by_cases d6 : c6 < 2048
    · exact (take _ x6 _ _ s6 c6 b6 d6).trans (h6 r ⟨c6, d6⟩ l (by show l.val = 4096 + c6; omega))
    obtain ⟨c7, s7, b7, e7, g7⟩ := skip _ x6 _ _ s6 c6 b6 d6
    refine g7.trans ?_
    by_cases d7 : c7 < 256
    · exact (take _ x7 _ _ s7 c7 b7 d7).trans (h7 r ⟨c7, d7⟩ l (by show l.val = 6144 + c7; omega))
    obtain ⟨c8, s8, b8, e8, g8⟩ := skip _ x7 _ _ s7 c7 b7 d7
    refine g8.trans ?_
    by_cases d8 : c8 < 256
    · exact (take _ x8 _ _ s8 c8 b8 d8).trans (h8 r ⟨c8, d8⟩ l (by show l.val = 6400 + c8; omega))
    obtain ⟨c9, s9, b9, e9, g9⟩ := skip _ x8 _ _ s8 c8 b8 d8
    refine g9.trans ?_
    by_cases d9 : c9 < 256
    · exact (take _ x9 _ _ s9 c9 b9 d9).trans (h9 r ⟨c9, d9⟩ l (by show l.val = 6656 + c9; omega))
    obtain ⟨c10, s10, b10, e10, g10⟩ := skip _ x9 _ _ s9 c9 b9 d9
    refine g10.trans ?_
    exact (last _ x10 s10 c10 b10 (by omega)).trans (h10 r ⟨c10, by omega⟩ l (by show l.val = 6912 + c10; omega))
  exact key _ _ _ rfl

end Lay

section Arrays

variable (m : (ℓ : Loc nD τ sig) → Buf (Elt Ideal) ℓ) (c : Dev nD)

abbrev aX : Vec Ideal S1024x2048 .f32 := m ((c : Thread nD τ).loc main_arg0)
abbrev aG : Vec Ideal S2048 .f32 := m ((c : Thread nD τ).loc main_arg1)
abbrev aW : Vec Ideal S2048x6736 .f32 := m ((c : Thread nD τ).loc main_arg2)

theorem idx : ∀ t : Fin cfg0.N, win0_0.index t = ![t.val / 7, 0] ∧ win0_1.index t = ![0, 0] ∧ win0_2.index t = ![0, t.val % 7]
    ∧ win0_3.index t = ![t.val / 7, t.val % 7] :=
  (by decide +kernel : ∀ t : Fin grid0.N, _)

theorem in_x (i) : @Eq EReal (V m c main_arg0 i) (aX m c i) := by
  simp only [V, hostOps0, StableHlo.TRef.unary, StableHlo.TRef.toBuf, StableHlo.TRef.ofBuf, cast_eq]
  after_results_simp

theorem in_g (e : Fin 2048) : @Eq EReal (V m c main_v11 (ix2 0 e)) (aG m c (ix1 e)) := by
  simp only [V, hostOps0, StableHlo.TRef.unary, StableHlo.TRef.toBuf, StableHlo.TRef.ofBuf, cast_eq]
  after_results_simp
  pointwise []

theorem in_w (j : Fin 2048) (l : Fin 7168) : @Eq EReal (V m c main_v13 (ix2 j l)) (pick (fun j s => aW m c (ix2 j s)) j l) := by
  simp only [V, hostOps0, StableHlo.TRef.unary, StableHlo.TRef.toBuf, StableHlo.TRef.ofBuf, cast_eq]
  after_results_simp
  refine (narrow _ _ _).trans ?_
  refine lay (fun j l => pick (fun j s => aW m c (ix2 j s)) j l) _ _ _ _ _ _ _ _ _ _ _ _ ?_ ?_ ?_ ?_ ?_ ?_ ?_ ?_ ?_ ?_ ?_ j l
  · intro r e l hl
    have he := e.isLt
    pointwise []
    after_results_simp
    pointwise []
    exact (pick_at (fun j s => aW m c (ix2 j s)) r l ⟨e.val, by omega⟩ (by omega) (src_0 _ _ he hl)).symm
  · intro r e l hl
    have he := e.isLt
    pointwise []
    after_results_simp
    pointwise []
    exact (pick_at (fun j s => aW m c (ix2 j s)) r l ⟨1840 + e.val, by omega⟩ (by omega) (src_1 _ _ he hl)).symm
  · intro r e l hl
    have he := e.isLt
    pointwise []
    after_results_simp
    pointwise []
    exact (pick_at (fun j s => aW m c (ix2 j s)) r l ⟨2608 + e.val, by omega⟩ (by omega) (src_2 _ _ he hl)).symm
  · intro r e l hl
    have he := e.isLt
    pointwise []
    after_results_simp
    pointwise []
    exact (pick_at (fun j s => aW m c (ix2 j s)) r l ⟨1792 + e.val, by omega⟩ (by omega) (src_3 _ _ he hl)).symm
  · intro r e l hl
    have he := e.isLt
    pointwise []
    after_results_simp
    pointwise []
    exact (pick_zero (fun j s => aW m c (ix2 j s)) r l (by omega)).symm
  · intro r e l hl
    have he := e.isLt
    pointwise []
    after_results_simp
    pointwise []
    exact (pick_at (fun j s => aW m c (ix2 j s)) r l ⟨2640 + e.val, by omega⟩ (by omega) (src_5 _ _ he hl)).symm
  · intro r e l hl
    have he := e.isLt
    pointwise []
    after_results_simp
    pointwise []
    exact (pick_at (fun j s => aW m c (ix2 j s)) r l ⟨4688 + e.val, by omega⟩ (by omega) (src_6 _ _ he hl)).symm
  · intro r e l hl
    have he := e.isLt
    pointwise []
    after_results_simp
    pointwise []
    exact (pick_at (fun j s => aW m c (ix2 j s)) r l ⟨1024 + e.val, by omega⟩ (by omega) (src_7 _ _ he hl)).symm
  · intro r e l hl
    have he := e.isLt
    pointwise []
    after_results_simp
    pointwise []
    exact (pick_at (fun j s => aW m c (ix2 j s)) r l ⟨1280 + e.val, by omega⟩ (by omega) (src_8 _ _ he hl)).symm
  · intro r e l hl
    have he := e.isLt
    pointwise []
    after_results_simp
    pointwise []
    exact (pick_at (fun j s => aW m c (ix2 j s)) r l ⟨1536 + e.val, by omega⟩ (by omega) (src_9 _ _ he hl)).symm
  · intro r e l hl
    have he := e.isLt
    pointwise []
    after_results_simp
    pointwise []
    exact (pick_at (fun j s => aW m c (ix2 j s)) r l ⟨2352 + e.val, by omega⟩ (by omega) (src_10 _ _ he hl)).symm

theorem blk0 (t : Fin cfg0.N) (r : Fin 1024) (q : Fin 512) (e : Fin 2048) (hr : r.val = 512 * (t.val / 7) + q.val) :
    @Eq EReal (iblk m c 0 t (ix2 q e)) (aX m c (ix2 r e)) := by
  have e1 : (win0_0.blk t).view.emb (ix2 q e) = ix2 r e := by blk_ext [idx t]
  rw [← in_x]
  unfold iblk
  change View.read (Elt Ideal) (win0_0.blk t).view (V m c main_arg0) (ix2 q e) = V m c main_arg0 (ix2 r e)
  generalize V m c main_arg0 = f
  rw [View.read_apply, e1]
  exact cast_eq _ _

theorem blk1 (t : Fin cfg0.N) (e : Fin 2048) : @Eq EReal (iblk m c 1 t (ix2 0 e)) (aG m c (ix1 e)) := by
  have e1 : (win0_1.blk t).view.emb (ix2 0 e) = ix2 0 e := by blk_ext [idx t]
  rw [← in_g]
  unfold iblk
  change View.read (Elt Ideal) (win0_1.blk t).view (V m c main_v11) (ix2 0 e) = V m c main_v11 (ix2 0 e)
  generalize V m c main_v11 = f
  rw [View.read_apply, e1]
  exact cast_eq _ _

theorem blk2 (t : Fin cfg0.N) (j : Fin 2048) (q : Fin 1024) (l : Fin 7168) (hl : l.val = 1024 * (t.val % 7) + q.val) :
    @Eq EReal (iblk m c 2 t (ix2 j q)) (pick (fun j s => aW m c (ix2 j s)) j l) := by
  have e1 : (win0_2.blk t).view.emb (ix2 j q) = ix2 j l := by blk_ext [idx t]
  rw [← in_w]
  unfold iblk
  change View.read (Elt Ideal) (win0_2.blk t).view (V m c main_v13) (ix2 j q) = V m c main_v13 (ix2 j l)
  generalize V m c main_v13 = f
  rw [View.read_apply, e1]
  exact cast_eq _ _

theorem t_lt (t : Fin cfg0.N) : t.val < 14 := lt_of_lt_of_eq t.isLt N_0

/-- Row `r` normed to unit mean square and scaled by the norm's weight, as the formula on the arguments. -/
def hn (r : Fin 1024) (e : Fin 2048) : EReal :=
  aX m c (ix2 r e) * Ideal.rsqrt (Ideal.div (∑ j : Fin 2048, (aX m c (ix2 r j) : EReal) * aX m c (ix2 r j))
    (Ideal.ofBits .f32 0x45000000#32) + Ideal.ofBits .f32 0x358637BD#32) * aG m c (ix1 e)

theorem pay1_blk (t : Fin cfg0.N) (r : Fin 1024) (q : Fin 512) (e : Fin 2048) (hr : r.val = 512 * (t.val / 7) + q.val) :
    @Eq EReal (k0_pay1 (F := Ideal) (iblk m c 0 t) (iblk m c 1 t) (ix2 q e)) (hn m c r e) := by
  refine (pay1_at _ _ q e).trans (congrArg₂ (· * ·) (congrArg₂ (· * ·) (blk0 m c t r q e hr) ?_) (blk1 m c t e))
  refine congrArg (fun z : EReal => Ideal.rsqrt (Ideal.div z (Ideal.ofBits .f32 0x45000000#32) + Ideal.ofBits .f32 0x358637BD#32)) ?_
  exact Finset.sum_congr rfl fun j _ => congrArg₂ (· * ·) (blk0 m c t r q j hr) (blk0 m c t r q j hr)

/-- The scratch holds the normed rows of the point's block, computed at the block's first point and kept after it. -/
theorem scr (n : ℕ) : ∀ t : Fin cfg0.N, t.val % 7 = n → ∀ (r : Fin 1024) (q : Fin 512) (e : Fin 2048), r.val = 512 * (t.val / 7) + q.val →
    @Eq EReal ((outsAt0 m c t.val t.isLt).2 (ix2 q e)) (hn m c r e) := by
  induction n with
  | zero =>
    intro t h r q e hr
    rw [outsAt0_A m c t h]
    frame_out
    exact pay1_blk m c t r q e hr
  | succ n ih =>
    intro t h r q e hr
    rw [outsAt0_B m c t (by omega)]
    frame_out
    exact ih ⟨t.val - 1, Nat.lt_of_le_of_lt (Nat.sub_le _ _) t.isLt⟩ (by show (t.val - 1) % 7 = n; omega) r q e
      (by show r.val = 512 * ((t.val - 1) / 7) + q.val; omega)

theorem out_z (t : Fin cfg0.N) (r : Fin 1024) (q : Fin 512) (l : Fin 7168) (e : Fin 1024) (hr : r.val = 512 * (t.val / 7) + q.val)
    (hl : l.val = 1024 * (t.val % 7) + e.val) :
    @Eq EReal ((outsAt0 m c t.val t.isLt).1 (ix2 q e)) (∑ j : Fin 2048, hn m c r j * pick (fun j s => aW m c (ix2 j s)) j l) := by
  by_cases h : t.val % 7 = 0
  · rw [outsAt0_A m c t h]
    frame_out
    refine (pay2_at _ _ q e).trans (Finset.sum_congr rfl fun j _ => congrArg₂ (· * ·) ?_ (blk2 m c t j e l hl))
    exact pay1_blk m c t r q j hr
  · rw [outsAt0_B m c t h]
    frame_out
    refine (pay2_at _ _ q e).trans (Finset.sum_congr rfl fun j _ => congrArg₂ (· * ·) ?_ (blk2 m c t j e l hl))
    refine Eq.trans ?_ (scr m c ((t.val - 1) % 7) ⟨t.val - 1, Nat.lt_of_le_of_lt (Nat.sub_le _ _) t.isLt⟩ rfl r q j
      (by show r.val = 512 * ((t.val - 1) / 7) + q.val; omega))
    rw [read_unread_whole]

end Arrays

section Reference

open Cert.ReferenceInSampleIdeal.Read

variable (b0 : Vec Ideal S1024x2048 .f32) (b1 : Vec Ideal S2048 .f32) (b2 : Vec Ideal S2048x6736 .f32)

theorem ref_h (r : Fin 1024) (e : Fin 2048) :
    @Eq EReal (val_main_v12 (F := Ideal) b0 b1 (ix2 r e)) (b0 (ix2 r e) * Ideal.rsqrt (Ideal.div (∑ j : Fin 2048, (b0 (ix2 r j) : EReal) * b0 (ix2 r j))
      (Ideal.ofBits .f32 0x45000000#32) + Ideal.ofBits .f32 0x358637BD#32) * b1 (ix1 e)) := by
  pointwise [val_main_v12, val_main_v11, val_main_v10, val_main_v9, val_main_v8, val_main_v7, val_main_v6, val_main_v5, val_main_v4, val_main_v3,
    val_main_v2, val_main_v1, val_main_v0, val_main_cst, val_main_cst_0, val_main_cst_1]

theorem ref_z (r : Fin 1024) (s : Fin 6736) :
    @Eq EReal (val_main_v13 (F := Ideal) b0 b1 b2 (ix2 r s)) (∑ j : Fin 2048, (val_main_v12 (F := Ideal) b0 b1 (ix2 r j) : EReal) * b2 (ix2 j s)) := by
  unfold val_main_v13
  generalize val_main_v12 (F := Ideal) b0 b1 = y
  pointwise []

theorem ref_col (r : Fin 1024) (l : Fin 7168) :
    @Eq EReal (val_main_v25 (F := Ideal) b0 b1 b2 (ix2 r l)) (pick (fun r s => val_main_v13 (F := Ideal) b0 b1 b2 (ix2 r s)) r l) := by
  unfold val_main_v25 val_main_v14 val_main_v15 val_main_v16 val_main_v17 val_main_v18 val_main_v19 val_main_v20 val_main_v21 val_main_v22 val_main_v23
  generalize val_main_v13 (F := Ideal) b0 b1 b2 = y
  refine lay (fun r l => pick (fun r s => y (ix2 r s)) r l) _ _ _ _ _ _ _ _ _ _ _ _ ?_ ?_ ?_ ?_ ?_ ?_ ?_ ?_ ?_ ?_ ?_ r l
  · intro r e l hl
    have he := e.isLt
    pointwise [val_main_v24, val_main_cst_2]
    exact (pick_at (fun r s => y (ix2 r s)) r l ⟨e.val, by omega⟩ (by omega) (src_0 _ _ he hl)).symm
  · intro r e l hl
    have he := e.isLt
    pointwise [val_main_v24, val_main_cst_2]
    exact (pick_at (fun r s => y (ix2 r s)) r l ⟨1840 + e.val, by omega⟩ (by omega) (src_1 _ _ he hl)).symm
  · intro r e l hl
    have he := e.isLt
    pointwise [val_main_v24, val_main_cst_2]
    exact (pick_at (fun r s => y (ix2 r s)) r l ⟨2608 + e.val, by omega⟩ (by omega) (src_2 _ _ he hl)).symm
  · intro r e l hl
    have he := e.isLt
    pointwise [val_main_v24, val_main_cst_2]
    exact (pick_at (fun r s => y (ix2 r s)) r l ⟨1792 + e.val, by omega⟩ (by omega) (src_3 _ _ he hl)).symm
  · intro r e l hl
    have he := e.isLt
    pointwise [val_main_v24, val_main_cst_2]
    exact (pick_zero (fun r s => y (ix2 r s)) r l (by omega)).symm
  · intro r e l hl
    have he := e.isLt
    pointwise [val_main_v24, val_main_cst_2]
    exact (pick_at (fun r s => y (ix2 r s)) r l ⟨2640 + e.val, by omega⟩ (by omega) (src_5 _ _ he hl)).symm
  · intro r e l hl
    have he := e.isLt
    pointwise [val_main_v24, val_main_cst_2]
    exact (pick_at (fun r s => y (ix2 r s)) r l ⟨4688 + e.val, by omega⟩ (by omega) (src_6 _ _ he hl)).symm
  · intro r e l hl
    have he := e.isLt
    pointwise [val_main_v24, val_main_cst_2]
    exact (pick_at (fun r s => y (ix2 r s)) r l ⟨1024 + e.val, by omega⟩ (by omega) (src_7 _ _ he hl)).symm
  · intro r e l hl
    have he := e.isLt
    pointwise [val_main_v24, val_main_cst_2]
    exact (pick_at (fun r s => y (ix2 r s)) r l ⟨1280 + e.val, by omega⟩ (by omega) (src_8 _ _ he hl)).symm
  · intro r e l hl
    have he := e.isLt
    pointwise [val_main_v24, val_main_cst_2]
    exact (pick_at (fun r s => y (ix2 r s)) r l ⟨1536 + e.val, by omega⟩ (by omega) (src_9 _ _ he hl)).symm
  · intro r e l hl
    have he := e.isLt
    pointwise [val_main_v24, val_main_cst_2]
    exact (pick_at (fun r s => y (ix2 r s)) r l ⟨2352 + e.val, by omega⟩ (by omega) (src_10 _ _ he hl)).symm

end Reference

theorem final (m : (ℓ : Loc nD τ sig) → Buf (Elt Ideal) ℓ) (c : Dev nD) : (dats m 0 c).arrAt 3 cfg0.N
    = Cert.ReferenceInSampleIdeal.Read.val_main_v25 (F := Ideal) (aX m c) (aG m c) (aW m c) := by
  refine (dats m 0 c).arrAt_eq_of_covers 3 _ (by decide +kernel) fun t hf y => ?_
  blk_simp
  rw [after0_3]
  obtain ⟨q, e, rfl⟩ : ∃ (q : Fin 512) (e : Fin 1024), y = ix2 q e := ⟨y 0, y 1, by blk_ext⟩
  have ht := t_lt t
  have e1 : (win0_3.blk t).view.emb (ix2 q e) = ix2 ⟨512 * (t.val / 7) + q.val, by omega⟩ ⟨1024 * (t.val % 7) + e.val, by omega⟩ := by blk_ext [idx t]
  rw [e1]
  generalize hr : (⟨512 * (t.val / 7) + q.val, by omega⟩ : Fin 1024) = r
  generalize hl : (⟨1024 * (t.val % 7) + e.val, by omega⟩ : Fin 7168) = l
  refine (out_z m c t r q l e (by rw [← hr]) (by rw [← hl])).trans (Eq.trans ?_ (ref_col _ _ _ r l).symm)
  by_cases hz : 1616 ≤ l.val ∧ l.val < 2048
  · rw [pick_zero _ _ _ hz]
    exact Finset.sum_eq_zero fun j _ => by rw [pick_zero _ _ _ hz, mul_zero]
  · rw [pick_at _ r l ⟨src l.val, src_lt l⟩ hz rfl, ref_z]
    refine Finset.sum_congr rfl fun j _ => ?_
    rw [ref_h, pick_at _ j l ⟨src l.val, src_lt l⟩ hz rfl]
    rfl

end Cert.KernelInSampleIdeal.Proj

end
-- ==== Proof.SampleCalls.lean ====
/- The frames and the equal results of the calls of the sample group: the feed-forward, the output projection and the input projection. -/
module

public import proofs.«01_k».proof.Proof.SampleFfn
public import proofs.«01_k».proof.Proof.SampleOut
public import proofs.«01_k».proof.Proof.SampleProj
public import Idealize.ShloMosaic.Adequacy
public import Idealize.ShloMosaic.Init
public import Idealize.ShloMosaic.Lib.Claim

@[expose] public section

set_option maxRecDepth 16384

noncomputable section

namespace Cert.Proof

open Idealize.ShloMosaic Idealize.ShloMosaic.TcCoe Idealize.SL.Sem

/-- The feed-forward call of the sample group runs, keeps its arguments and ends with every counter at zero. -/
theorem frame_p_ffn_sample : Cert.quiescent_KernelFfnSample := fun m ρ _ => Cert.KernelFfnSample.Gen.frame m ρ

theorem frame_pi_ffn_sample : Cert.quiescent_KernelFfnSampleIdeal := fun m ρ _ => Cert.KernelFfnSampleIdeal.Gen.frame m ρ

theorem frame_ri_ffn_sample : Cert.quiescent_ReferenceFfnSampleIdeal := fun m ρ _ =>
  (θ_run Cert.ReferenceFfnSampleIdeal.defs _ _).mono
    (fun r h => ⟨fun c => (h c).2, sem_eq_zero_of_no_sems (by decide) r.2⟩)
    (Cert.ReferenceFfnSampleIdeal.Value.run (F := Ideal) m ρ)

/-- The output projection of the sample group runs, keeps its arguments and ends with every counter at zero. -/
theorem frame_p_out_sample : Cert.quiescent_KernelOutSample := fun m ρ _ => Cert.KernelOutSample.Gen.frame m ρ

theorem frame_pi_out_sample : Cert.quiescent_KernelOutSampleIdeal := fun m ρ _ => Cert.KernelOutSampleIdeal.Gen.frame m ρ

theorem frame_ri_out_sample : Cert.quiescent_ReferenceOutSampleIdeal := fun m ρ _ =>
  (θ_run Cert.ReferenceOutSampleIdeal.defs _ _).mono
    (fun r h => ⟨fun c => (h c).2.2, sem_eq_zero_of_no_sems (by decide) r.2⟩)
    (Cert.ReferenceOutSampleIdeal.Value.run (F := Ideal) m ρ)

/-- The input projection of the sample group runs, keeps its arguments and ends with every counter at zero. -/
theorem frame_p_in_sample : Cert.quiescent_KernelInSample := fun m ρ _ => Cert.KernelInSample.Gen.frame m ρ

theorem frame_pi_in_sample : Cert.quiescent_KernelInSampleIdeal := fun m ρ _ => Cert.KernelInSampleIdeal.Gen.frame m ρ

theorem frame_ri_in_sample : Cert.quiescent_ReferenceInSampleIdeal := fun m ρ _ =>
  (θ_run Cert.ReferenceInSampleIdeal.defs _ _).mono
    (fun r h => ⟨fun c => (h c).2, sem_eq_zero_of_no_sems (by decide) r.2⟩)
    (Cert.ReferenceInSampleIdeal.Value.run (F := Ideal) m ρ)

theorem algebraic_ffn_sample : Cert.algebraic_KernelFfnSampleIdeal_ReferenceFfnSampleIdeal := by
  pair_intro
  · run_from Cert.KernelFfnSampleIdeal.Value.run_blocks m g
  · run_from Cert.ReferenceFfnSampleIdeal.Value.run m' g'
    rw [Cert.ReferenceFfnSampleIdeal.Read.val_main_v5_eq]
    exact (Cert.KernelFfnSampleIdeal.Ffn.final m c).symm

theorem algebraic_out_sample : Cert.algebraic_KernelOutSampleIdeal_ReferenceOutSampleIdeal := by
  pair_intro
  · run_from Cert.KernelOutSampleIdeal.Value.run_blocks m g
  · run_from Cert.ReferenceOutSampleIdeal.Value.run m' g'
    · rw [Cert.ReferenceOutSampleIdeal.Read.val_main_v18_eq]
      exact (Cert.KernelOutSampleIdeal.Proj.final_x1 m c).symm
    · rw [Cert.ReferenceOutSampleIdeal.Read.val_main_v32_eq]
      exact (Cert.KernelOutSampleIdeal.Proj.final_h2 m c).symm

theorem algebraic_in_sample : Cert.algebraic_KernelInSampleIdeal_ReferenceInSampleIdeal := by
  pair_intro
  · run_from Cert.KernelInSampleIdeal.Value.run_blocks m g
  · run_from Cert.ReferenceInSampleIdeal.Value.run m' g'
    rw [Cert.ReferenceInSampleIdeal.Read.val_main_v25_eq]
    obtain ⟨a0, a1, a2⟩ := hagree c
    rw [a0, a1, a2]
    exact (Cert.KernelInSampleIdeal.Proj.final m c).symm

end Cert.Proof

end
-- ==== Proof.SampleRun.lean ====
/- The run of one grid point of the call behind the input projection for the sample group. -/
module

public import proofs.«01_k».proof.Proof.Gen.KernelPostSampleIdeal.Frame.Runs

@[expose] public section

set_option maxRecDepth 16384

noncomputable section

namespace Cert.KernelPostSampleIdeal.Post

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelPostSampleIdeal Cert.KernelPostSampleIdeal.Gen
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- What one grid point's stores leave in each output's buffer, with the proof that the body, run on buffers holding the
    inputs' blocks, gives the inputs back as they were and the outputs with those stores written. The body is long, so
    this one elaboration is given a larger budget. -/
noncomputable def bodyRun (c : Dev nD) (i : grid0.Coords) (arg1 : Memref sig .tc .vmem S256x1024 .f32) (harg1 : arg1.IsWhole) (arg2 : Memref sig .tc .vmem S256x512 .f32) (harg2 : arg2.IsWhole) (arg3 : Memref sig .tc .vmem S256x768 .f32) (harg3 : arg3.IsWhole) (arg4 : Memref sig .tc .vmem S256x256 .f32) (harg4 : arg4.IsWhole) (arg5 : Memref sig .tc .vmem S256x128 .f32) (harg5 : arg5.IsWhole) (arg6 : Memref sig .tc .vmem S256x128 .f32) (harg6 : arg6.IsWhole) (arg7 : Memref sig .tc .vmem S256x128 .f32) (harg7 : arg7.IsWhole) (arg8 : Memref sig .tc .vmem S256x128 .f32) (harg8 : arg8.IsWhole) (arg9 : Memref sig .tc .vmem S1x1024 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x512 .f32) (harg12 : arg12.IsWhole) (arg13 : Memref sig .tc .vmem S512x3072 .bf16) (harg13 : arg13.IsWhole) (arg14 : Memref sig .tc .vmem S1x1024 .f32) (harg14 : arg14.IsWhole) (arg15 : Memref sig .tc .vmem S1x2048 .f32) (harg15 : arg15.IsWhole) (arg16 : Memref sig .tc .vmem S1x256 .f32) (harg16 : arg16.IsWhole) (arg17 : Memref sig .tc .vmem S1x128 .f32) (harg17 : arg17.IsWhole) (arg18 : Memref sig .tc .vmem S16x256x64 .bf16) (harg18 : arg18.IsWhole) (arg19 : Memref sig .tc .vmem S1024x128 .bf16) (harg19 : arg19.IsWhole) (arg20 : Memref sig .tc .vmem S128x1024 .bf16) (harg20 : arg20.IsWhole) (arg21 : Memref sig .tc .vmem S2048x128 .bf16) (harg21 : arg21.IsWhole) (arg22 : Memref sig .tc .vmem S128x2048 .bf16) (harg22 : arg22.IsWhole) (arg23 : Memref sig .tc .vmem S256x1024 .bf16) (harg23 : arg23.IsWhole) (arg24 : Memref sig .tc .vmem S256x256 .f32) (harg24 : arg24.IsWhole) (arg25 : Memref sig .tc .vmem S256x256 .f32) (harg25 : arg25.IsWhole) (arg26 : Memref sig .tc .vmem S256x256 .f32) (harg26 : arg26.IsWhole) (arg27 : Memref sig .tc .vmem S2x256x128 .bf16) (harg27 : arg27.IsWhole) (arg28 : Memref sig .tc .vmem S2x256x128 .bf16) (harg28 : arg28.IsWhole) (arg29 : Memref sig .tc .vmem S256x256 .f32) (harg29 : arg29.IsWhole) (arg30 : Memref sig .tc .vmem S256x256 .bf16) (harg30 : arg30.IsWhole) (arg31 : Memref sig .tc .vmem S256x128 .f32) (harg31 : arg31.IsWhole) (arg32 : Memref sig .tc .vmem S256x128 .bf16) (harg32 : arg32.IsWhole) (arg33 : Memref sig .tc .vmem S256x4096 .bf16) (harg33 : arg33.IsWhole) (arg34 : Memref sig .tc .vmem S256x2048 .bf16) (harg34 : arg34.IsWhole)
    (x0 : Vec F S256x1024 .f32) (x1 : Vec F S256x512 .f32) (x2 : Vec F S256x768 .f32) (x3 : Vec F S256x256 .f32) (x4 : Vec F S256x128 .f32) (x5 : Vec F S256x128 .f32) (x6 : Vec F S256x128 .f32) (x7 : Vec F S256x128 .f32) (x8 : Vec F S1x1024 .f32) (x9 : Vec F S1x128 .f32) (x10 : Vec F S1x128 .f32) (x11 : Vec F S1x512 .f32) (x12 : Vec F S512x3072 .bf16) (x13 : Vec F S1x1024 .f32) (x14 : Vec F S1x2048 .f32) (x15 : Vec F S1x256 .f32) (x16 : Vec F S1x128 .f32) (x17 : Vec F S16x256x64 .bf16) (x18 : Vec F S1024x128 .bf16) (x19 : Vec F S128x1024 .bf16) (x20 : Vec F S2048x128 .bf16) (x21 : Vec F S128x2048 .bf16) :
    Σ' (L22 : List (View.Piece (Elt F) S256x1024 .bf16)), Σ' (L23 : List (View.Piece (Elt F) S256x256 .f32)), Σ' (L24 : List (View.Piece (Elt F) S256x256 .f32)), Σ' (L25 : List (View.Piece (Elt F) S256x256 .f32)), Σ' (L26 : List (View.Piece (Elt F) S2x256x128 .bf16)), Σ' (L27 : List (View.Piece (Elt F) S2x256x128 .bf16)), Σ' (L28 : List (View.Piece (Elt F) S256x256 .f32)), Σ' (L29 : List (View.Piece (Elt F) S256x256 .bf16)), Σ' (L30 : List (View.Piece (Elt F) S256x128 .f32)), Σ' (L31 : List (View.Piece (Elt F) S256x128 .bf16)), Σ' (L32 : List (View.Piece (Elt F) S256x4096 .bf16)), { L33 : List (View.Piece (Elt F) S256x2048 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d) ∗ (∃ d, owns (c : Thread nD τ) arg33 fullShare d) ∗ (∃ d, owns (c : Thread nD τ) arg34 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ (∃ f, arg23.view.loc (c : Thread nD τ) ↦[arg23.view.set]{fullShare} arg23.view.writes (Elt F) f L22) ∗ (∃ f, arg24.view.loc (c : Thread nD τ) ↦[arg24.view.set]{fullShare} arg24.view.writes (Elt F) f L23) ∗ (∃ f, arg25.view.loc (c : Thread nD τ) ↦[arg25.view.set]{fullShare} arg25.view.writes (Elt F) f L24) ∗ (∃ f, arg26.view.loc (c : Thread nD τ) ↦[arg26.view.set]{fullShare} arg26.view.writes (Elt F) f L25) ∗ (∃ f, arg27.view.loc (c : Thread nD τ) ↦[arg27.view.set]{fullShare} arg27.view.writes (Elt F) f L26) ∗ (∃ f, arg28.view.loc (c : Thread nD τ) ↦[arg28.view.set]{fullShare} arg28.view.writes (Elt F) f L27) ∗ (∃ f, arg29.view.loc (c : Thread nD τ) ↦[arg29.view.set]{fullShare} arg29.view.writes (Elt F) f L28) ∗ (∃ f, arg30.view.loc (c : Thread nD τ) ↦[arg30.view.set]{fullShare} arg30.view.writes (Elt F) f L29) ∗ (∃ f, arg31.view.loc (c : Thread nD τ) ↦[arg31.view.set]{fullShare} arg31.view.writes (Elt F) f L30) ∗ (∃ f, arg32.view.loc (c : Thread nD τ) ↦[arg32.view.set]{fullShare} arg32.view.writes (Elt F) f L31) ∗ (∃ f, arg33.view.loc (c : Thread nD τ) ↦[arg33.view.set]{fullShare} arg33.view.writes (Elt F) f L32) ∗ (∃ f, arg34.view.loc (c : Thread nD τ) ↦[arg34.view.set]{fullShare} arg34.view.writes (Elt F) f L33)) -∗ K ⟨⟩))
          ⊢ wp frame (wpE (defs₀ (F := F)) Variants.none c none) E (cc0_post_proj i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34) K } := by
  refine ⟨?_, ?_, ?_, ?_, ?_, ?_, ?_, ?_, ?_, ?_, ?_, ?_, fun E K => ?run⟩
  case run =>
    simp only [cc0_post_proj_eq_skeleton]; unfold cc0_post_proj_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, ⟨%d28, %f28, -, H28⟩, ⟨%d29, %f29, -, H29⟩, ⟨%d30, %f30, -, H30⟩, ⟨%d31, %f31, -, H31⟩, ⟨%d32, %f32, -, H32⟩, ⟨%d33, %f33, -, H33⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18; obtain rfl := harg20.eq_unread hf19; obtain rfl := harg21.eq_unread hf20; obtain rfl := harg22.eq_unread hf21
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]
    · iexists _; isplitr; · ipureintro; exact harg19.read_unread _
      iexact H18
    isplitl [H19]
    · iexists _; isplitr; · ipureintro; exact harg20.read_unread _
      iexact H19
    isplitl [H20]
    · iexists _; isplitr; · ipureintro; exact harg21.read_unread _
      iexact H20
    isplitl [H21]
    · iexists _; isplitr; · ipureintro; exact harg22.read_unread _
      iexact H21
    isplitl [H22]; · iexists _; iexact H22
    isplitl [H23]; · iexists _; iexact H23
    isplitl [H24]; · iexists _; iexact H24
    isplitl [H25]; · iexists _; iexact H25
    isplitl [H26]; · iexists _; iexact H26
    isplitl [H27]; · iexists _; iexact H27
    isplitl [H28]; · iexists _; iexact H28
    isplitl [H29]; · iexists _; iexact H29
    isplitl [H30]; · iexists _; iexact H30
    isplitl [H31]; · iexists _; iexact H31
    isplitl [H32]; · iexists _; iexact H32
    iexists _; iexact H33

end Cert.KernelPostSampleIdeal.Post

end
-- ==== Proof.SampleFrame.lean ====
/- The run of the whole call behind the input projection for the sample group: its arguments kept, its counters at zero, its results where the grid leaves them. -/
module

public import proofs.«01_k».proof.Proof.SampleRun
public import Idealize.ShloMosaic.Lib.Claim

@[expose] public section

set_option maxRecDepth 16384

noncomputable section

namespace Cert.KernelPostSampleIdeal.Post

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelPostSampleIdeal Cert.KernelPostSampleIdeal.Gen
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The run of grid point `t` on the point's own buffers and input blocks. -/
def runAt (c : Dev nD) (t : Fin cfg0.N) :=
  bodyRun (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) (ms0_32 t) (hs0_32 t) (ms0_33 t) (hs0_33 t) (iblk m c 0 t) (iblk m c 1 t) (X0_2 m c t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t)

theorem cover22 (c : Dev nD) (t : Fin cfg0.N) (y : S256x1024.Idx) : ∃ pc ∈ (runAt m c t).1, y ∈ pc.1.set :=
  View.cover_of_tiledL (runAt m c t).1 S256x1024.size (by sl_kernel_rfl) y

theorem cover23 (c : Dev nD) (t : Fin cfg0.N) (y : S256x256.Idx) : ∃ pc ∈ (runAt m c t).2.1, y ∈ pc.1.set :=
  View.cover_of_tiledL (runAt m c t).2.1 S256x256.size (by sl_kernel_rfl) y

theorem cover24 (c : Dev nD) (t : Fin cfg0.N) (y : S256x256.Idx) : ∃ pc ∈ (runAt m c t).2.2.1, y ∈ pc.1.set :=
  View.cover_of_tiledL (runAt m c t).2.2.1 S256x256.size (by sl_kernel_rfl) y

theorem cover25 (c : Dev nD) (t : Fin cfg0.N) (y : S256x256.Idx) : ∃ pc ∈ (runAt m c t).2.2.2.1, y ∈ pc.1.set :=
  View.cover_of_tiledL (runAt m c t).2.2.2.1 S256x256.size (by sl_kernel_rfl) y

theorem cover26 (c : Dev nD) (t : Fin cfg0.N) (y : S2x256x128.Idx) : ∃ pc ∈ (runAt m c t).2.2.2.2.1, y ∈ pc.1.set :=
  View.cover_of_tiledL (runAt m c t).2.2.2.2.1 S1x256x128.size (by sl_kernel_rfl) y

theorem cover27 (c : Dev nD) (t : Fin cfg0.N) (y : S2x256x128.Idx) : ∃ pc ∈ (runAt m c t).2.2.2.2.2.1, y ∈ pc.1.set :=
  View.cover_of_tiledL (runAt m c t).2.2.2.2.2.1 S1x256x128.size (by sl_kernel_rfl) y

theorem cover28 (c : Dev nD) (t : Fin cfg0.N) (y : S256x256.Idx) : ∃ pc ∈ (runAt m c t).2.2.2.2.2.2.1, y ∈ pc.1.set :=
  View.cover_of_tiledL (runAt m c t).2.2.2.2.2.2.1 S256x256.size (by sl_kernel_rfl) y

theorem cover29 (c : Dev nD) (t : Fin cfg0.N) (y : S256x256.Idx) : ∃ pc ∈ (runAt m c t).2.2.2.2.2.2.2.1, y ∈ pc.1.set :=
  View.cover_of_tiledL (runAt m c t).2.2.2.2.2.2.2.1 S256x256.size (by sl_kernel_rfl) y

theorem cover30 (c : Dev nD) (t : Fin cfg0.N) (y : S256x128.Idx) : ∃ pc ∈ (runAt m c t).2.2.2.2.2.2.2.2.1, y ∈ pc.1.set :=
  View.cover_of_tiledL (runAt m c t).2.2.2.2.2.2.2.2.1 S256x128.size (by sl_kernel_rfl) y

theorem cover31 (c : Dev nD) (t : Fin cfg0.N) (y : S256x128.Idx) : ∃ pc ∈ (runAt m c t).2.2.2.2.2.2.2.2.2.1, y ∈ pc.1.set :=
  View.cover_of_tiledL (runAt m c t).2.2.2.2.2.2.2.2.2.1 S256x128.size (by sl_kernel_rfl) y

theorem cover32 (c : Dev nD) (t : Fin cfg0.N) (y : S256x4096.Idx) : ∃ pc ∈ (runAt m c t).2.2.2.2.2.2.2.2.2.2.1, y ∈ pc.1.set :=
  View.cover_of_tiledL (runAt m c t).2.2.2.2.2.2.2.2.2.2.1 S256x256.size (by sl_kernel_rfl) y

theorem cover33 (c : Dev nD) (t : Fin cfg0.N) (y : S256x2048.Idx) : ∃ pc ∈ (runAt m c t).2.2.2.2.2.2.2.2.2.2.2.1, y ∈ pc.1.set :=
  View.cover_of_tiledL (runAt m c t).2.2.2.2.2.2.2.2.2.2.2.1 S256x2048.size (by sl_kernel_rfl) y

/-- What the outputs' buffers hold after grid point `t`. -/
def outsAt0 (c : Dev nD) (t : Fin cfg0.N) : Vec F S256x1024 .bf16 × Vec F S256x256 .f32 × Vec F S256x256 .f32 × Vec F S256x256 .f32 × Vec F S2x256x128 .bf16 × Vec F S2x256x128 .bf16 × Vec F S256x256 .f32 × Vec F S256x256 .bf16 × Vec F S256x128 .f32 × Vec F S256x128 .bf16 × Vec F S256x4096 .bf16 × Vec F S256x2048 .bf16 :=
  (VO0_22.read (Elt F) (VO0_22.writes (Elt F) VO0_22.junk (runAt m c t).1),
    VO0_23.read (Elt F) (VO0_23.writes (Elt F) VO0_23.junk (runAt m c t).2.1),
    VO0_24.read (Elt F) (VO0_24.writes (Elt F) VO0_24.junk (runAt m c t).2.2.1),
    VO0_25.read (Elt F) (VO0_25.writes (Elt F) VO0_25.junk (runAt m c t).2.2.2.1),
    VO0_26.read (Elt F) (VO0_26.writes (Elt F) VO0_26.junk (runAt m c t).2.2.2.2.1),
    VO0_27.read (Elt F) (VO0_27.writes (Elt F) VO0_27.junk (runAt m c t).2.2.2.2.2.1),
    VO0_28.read (Elt F) (VO0_28.writes (Elt F) VO0_28.junk (runAt m c t).2.2.2.2.2.2.1),
    VO0_29.read (Elt F) (VO0_29.writes (Elt F) VO0_29.junk (runAt m c t).2.2.2.2.2.2.2.1),
    VO0_30.read (Elt F) (VO0_30.writes (Elt F) VO0_30.junk (runAt m c t).2.2.2.2.2.2.2.2.1),
    VO0_31.read (Elt F) (VO0_31.writes (Elt F) VO0_31.junk (runAt m c t).2.2.2.2.2.2.2.2.2.1),
    VO0_32.read (Elt F) (VO0_32.writes (Elt F) VO0_32.junk (runAt m c t).2.2.2.2.2.2.2.2.2.2.1),
    VO0_33.read (Elt F) (VO0_33.writes (Elt F) VO0_33.junk (runAt m c t).2.2.2.2.2.2.2.2.2.2.2.1))

/-- The arrays as the call finds them, and every buffer after each grid point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => X0_2 m c t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => (outsAt0 m c t).1
    | ⟨23, _⟩ => (outsAt0 m c t).2.1
    | ⟨24, _⟩ => (outsAt0 m c t).2.2.1
    | ⟨25, _⟩ => (outsAt0 m c t).2.2.2.1
    | ⟨26, _⟩ => (outsAt0 m c t).2.2.2.2.1
    | ⟨27, _⟩ => (outsAt0 m c t).2.2.2.2.2.1
    | ⟨28, _⟩ => (outsAt0 m c t).2.2.2.2.2.2.1
    | ⟨29, _⟩ => (outsAt0 m c t).2.2.2.2.2.2.2.1
    | ⟨30, _⟩ => (outsAt0 m c t).2.2.2.2.2.2.2.2.1
    | ⟨31, _⟩ => (outsAt0 m c t).2.2.2.2.2.2.2.2.2.1
    | ⟨32, _⟩ => (outsAt0 m c t).2.2.2.2.2.2.2.2.2.2.1
    | ⟨33, _⟩ => (outsAt0 m c t).2.2.2.2.2.2.2.2.2.2.2
    | ⟨_ + 34, h⟩ => absurd h (Nat.not_lt.2 (Nat.le_add_left _ _))
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = X0_2 m c t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = iblk m c 21 t := by dsimp only [dats]
theorem after0_22 (c : Dev nD) (t : Fin cfg0.N) : (dats m 0 c).after 22 t = (outsAt0 m c t).1 := by dsimp only [dats]
theorem after0_23 (c : Dev nD) (t : Fin cfg0.N) : (dats m 0 c).after 23 t = (outsAt0 m c t).2.1 := by dsimp only [dats]
theorem after0_24 (c : Dev nD) (t : Fin cfg0.N) : (dats m 0 c).after 24 t = (outsAt0 m c t).2.2.1 := by dsimp only [dats]
theorem after0_25 (c : Dev nD) (t : Fin cfg0.N) : (dats m 0 c).after 25 t = (outsAt0 m c t).2.2.2.1 := by dsimp only [dats]
theorem after0_26 (c : Dev nD) (t : Fin cfg0.N) : (dats m 0 c).after 26 t = (outsAt0 m c t).2.2.2.2.1 := by dsimp only [dats]
theorem after0_27 (c : Dev nD) (t : Fin cfg0.N) : (dats m 0 c).after 27 t = (outsAt0 m c t).2.2.2.2.2.1 := by dsimp only [dats]
theorem after0_28 (c : Dev nD) (t : Fin cfg0.N) : (dats m 0 c).after 28 t = (outsAt0 m c t).2.2.2.2.2.2.1 := by dsimp only [dats]
theorem after0_29 (c : Dev nD) (t : Fin cfg0.N) : (dats m 0 c).after 29 t = (outsAt0 m c t).2.2.2.2.2.2.2.1 := by dsimp only [dats]
theorem after0_30 (c : Dev nD) (t : Fin cfg0.N) : (dats m 0 c).after 30 t = (outsAt0 m c t).2.2.2.2.2.2.2.2.1 := by dsimp only [dats]
theorem after0_31 (c : Dev nD) (t : Fin cfg0.N) : (dats m 0 c).after 31 t = (outsAt0 m c t).2.2.2.2.2.2.2.2.2.1 := by dsimp only [dats]
theorem after0_32 (c : Dev nD) (t : Fin cfg0.N) : (dats m 0 c).after 32 t = (outsAt0 m c t).2.2.2.2.2.2.2.2.2.2.1 := by dsimp only [dats]
theorem after0_33 (c : Dev nD) (t : Fin cfg0.N) : (dats m 0 c).after 33 t = (outsAt0 m c t).2.2.2.2.2.2.2.2.2.2.2 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = X0_2 m c t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d
theorem before0_20 (c : Dev nD) (t : Fin cfg0.N) (d) : (dats m 0 c).before 20 t d = iblk m c 20 t :=
  before0_20_of m (dats m 0 c) (A_eq m c 20) (after0_20 m c) t d
theorem before0_21 (c : Dev nD) (t : Fin cfg0.N) (d) : (dats m 0 c).before 21 t d = iblk m c 21 t :=
  before0_21_of m (dats m 0 c) (A_eq m c 21) (after0_21 m c) t d

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d))
    ∗ (∃ d, owns (c : Thread nD τ) (ms0_25 t) fullShare ((dats m 0 c).before 25 t d))
    ∗ (∃ d, owns (c : Thread nD τ) (ms0_26 t) fullShare ((dats m 0 c).before 26 t d))
    ∗ (∃ d, owns (c : Thread nD τ) (ms0_27 t) fullShare ((dats m 0 c).before 27 t d))
    ∗ (∃ d, owns (c : Thread nD τ) (ms0_28 t) fullShare ((dats m 0 c).before 28 t d))
    ∗ (∃ d, owns (c : Thread nD τ) (ms0_29 t) fullShare ((dats m 0 c).before 29 t d))
    ∗ (∃ d, owns (c : Thread nD τ) (ms0_30 t) fullShare ((dats m 0 c).before 30 t d))
    ∗ (∃ d, owns (c : Thread nD τ) (ms0_31 t) fullShare ((dats m 0 c).before 31 t d))
    ∗ (∃ d, owns (c : Thread nD τ) (ms0_32 t) fullShare ((dats m 0 c).before 32 t d))
    ∗ (∃ d, owns (c : Thread nD τ) (ms0_33 t) fullShare ((dats m 0 c).before 33 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t)
    ∗ owns (c : Thread nD τ) (ms0_24 t) fullShare ((dats m 0 c).after 24 t)
    ∗ owns (c : Thread nD τ) (ms0_25 t) fullShare ((dats m 0 c).after 25 t)
    ∗ owns (c : Thread nD τ) (ms0_26 t) fullShare ((dats m 0 c).after 26 t)
    ∗ owns (c : Thread nD τ) (ms0_27 t) fullShare ((dats m 0 c).after 27 t)
    ∗ owns (c : Thread nD τ) (ms0_28 t) fullShare ((dats m 0 c).after 28 t)
    ∗ owns (c : Thread nD τ) (ms0_29 t) fullShare ((dats m 0 c).after 29 t)
    ∗ owns (c : Thread nD τ) (ms0_30 t) fullShare ((dats m 0 c).after 30 t)
    ∗ owns (c : Thread nD τ) (ms0_31 t) fullShare ((dats m 0 c).after 31 t)
    ∗ owns (c : Thread nD τ) (ms0_32 t) fullShare ((dats m 0 c).after 32 t)
    ∗ owns (c : Thread nD τ) (ms0_33 t) fullShare ((dats m 0 c).after 33 t))

set_option maxHeartbeats 3200000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27, after0_28, after0_29, after0_30, after0_31, after0_32, after0_33]
  unfold outsAt0
  dsimp only
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩, ⟨%d33, H33⟩⟩
  iapply ((runAt m c t).2.2.2.2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexists _; iexact H22
  isplitl [H23]; · iexists _; iexact H23
  isplitl [H24]; · iexists _; iexact H24
  isplitl [H25]; · iexists _; iexact H25
  isplitl [H26]; · iexists _; iexact H26
  isplitl [H27]; · iexists _; iexact H27
  isplitl [H28]; · iexists _; iexact H28
  isplitl [H29]; · iexists _; iexact H29
  isplitl [H30]; · iexists _; iexact H30
  isplitl [H31]; · iexists _; iexact H31
  isplitl [H32]; · iexists _; iexact H32
  isplitl [H33]; · iexists _; iexact H33
  iintro ⟨H0, H1, H2, H3, H4, H5, H6, H7, H8, H9, H10, H11, H12, H13, H14, H15, H16, H17, H18, H19, H20, H21, ⟨%e22, H22⟩, ⟨%e23, H23⟩, ⟨%e24, H24⟩, ⟨%e25, H25⟩, ⟨%e26, H26⟩, ⟨%e27, H27⟩, ⟨%e28, H28⟩, ⟨%e29, H29⟩, ⟨%e30, H30⟩, ⟨%e31, H31⟩, ⟨%e32, H32⟩, ⟨%e33, H33⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]
  · unfold owns; iexists _; isplitr
    swap; · iexact H22
    ipureintro; exact View.read_writes_of_cover _ _ _ _ _ (cover22 m c t)
  isplitl [H23]
  · unfold owns; iexists _; isplitr
    swap; · iexact H23
    ipureintro; exact View.read_writes_of_cover _ _ _ _ _ (cover23 m c t)
  isplitl [H24]
  · unfold owns; iexists _; isplitr
    swap; · iexact H24
    ipureintro; exact View.read_writes_of_cover _ _ _ _ _ (cover24 m c t)
  isplitl [H25]
  · unfold owns; iexists _; isplitr
    swap; · iexact H25
    ipureintro; exact View.read_writes_of_cover _ _ _ _ _ (cover25 m c t)
  isplitl [H26]
  · unfold owns; iexists _; isplitr
    swap; · iexact H26
    ipureintro; exact View.read_writes_of_cover _ _ _ _ _ (cover26 m c t)
  isplitl [H27]
  · unfold owns; iexists _; isplitr
    swap; · iexact H27
    ipureintro; exact View.read_writes_of_cover _ _ _ _ _ (cover27 m c t)
  isplitl [H28]
  · unfold owns; iexists _; isplitr
    swap; · iexact H28
    ipureintro; exact View.read_writes_of_cover _ _ _ _ _ (cover28 m c t)
  isplitl [H29]
  · unfold owns; iexists _; isplitr
    swap; · iexact H29
    ipureintro; exact View.read_writes_of_cover _ _ _ _ _ (cover29 m c t)
  isplitl [H30]
  · unfold owns; iexists _; isplitr
    swap; · iexact H30
    ipureintro; exact View.read_writes_of_cover _ _ _ _ _ (cover30 m c t)
  isplitl [H31]
  · unfold owns; iexists _; isplitr
    swap; · iexact H31
    ipureintro; exact View.read_writes_of_cover _ _ _ _ _ (cover31 m c t)
  isplitl [H32]
  · unfold owns; iexists _; isplitr
    swap; · iexact H32
    ipureintro; exact View.read_writes_of_cover _ _ _ _ _ (cover32 m c t)
  unfold owns; iexists _; isplitr
  swap; · iexact H33
  ipureintro; exact View.read_writes_of_cover _ _ _ _ _ (cover33 m c t)

theorem defs₀_row (t : Fin cfg0.N) :
    defs₀ (F := F) .tc cfg0.body (cfg0.bodyArgs t (cfg0.slots t)) = bodyAt0 t := by
  unfold defs₀; rw [Defs.onTc_tc]

set_option maxHeartbeats 8000000 in
/-- The body's obligation at every point of the grid. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  θ_run_and (unchanged m ρ) ((θ_run defs _ _).mono (fun _ h => h.2) (run_main_quiescent m ρ))

/-- The five results as the grid leaves them, the arguments as they were. -/
theorem run_results : θ_run defs (onTc (τ := τ) (main (F := F))) ⟨m, fun _ => 0, ρ⟩ fun r => ∀ c : Dev nD,
      r.2.mem ((c : Thread nD τ).loc main_v76_1) = (dats m 0 c).arrAt 23 cfg0.N
      ∧ r.2.mem ((c : Thread nD τ).loc main_v76_2) = (dats m 0 c).arrAt 24 cfg0.N
      ∧ r.2.mem ((c : Thread nD τ).loc main_v76_3) = (dats m 0 c).arrAt 25 cfg0.N
      ∧ r.2.mem ((c : Thread nD τ).loc main_v76_6) = (dats m 0 c).arrAt 28 cfg0.N
      ∧ r.2.mem ((c : Thread nD τ).loc main_v76_8) = (dats m 0 c).arrAt 30 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h.1 c).1 23, (h.1 c).1 24, (h.1 c).1 25, (h.1 c).1 28, (h.1 c).1 30, h.2 c⟩)
    (θ_run_and (run_main m ρ) (unchanged m ρ))

end Cert.KernelPostSampleIdeal.Post

end
-- ==== Proof.SampleIn.lean ====
/- The arrays the call behind the input projection for the sample group is handed, read at one place each. -/
module

public import proofs.«01_k».proof.Proof.Gen.KernelPostSampleIdeal.Frame.Runs
public import Idealize.ShloMosaic.Lib.Pointwise
public import Idealize.ShloMosaic.Lib.Claim
public import Idealize.ShloMosaic.Lib.WordCmp
public import Idealize.ShloMosaic.Lib.Pipeline.ValueKit
public import Idealize.ShloMosaic.Lib.Pipeline.ReadBack

@[expose] public section

set_option maxRecDepth 16384

noncomputable section

namespace Cert.KernelPostSampleIdeal.Post

open Idealize.ShloMosaic Idealize.ShloMosaic.TcCoe Idealize.SL.Sem
open Cert.KernelPostSampleIdeal Cert.KernelPostSampleIdeal.Gen

variable (m : (ℓ : Loc nD τ sig) → Buf (Elt Ideal) ℓ) (c : Dev nD)

/-- The arguments: the projected rows, the rows' positions and the norms' weights. -/
abbrev aZ : Vec Ideal S1024x7168 .f32 := m ((c : Thread nD τ).loc main_arg0)
abbrev aP : Vec Ideal S1024 .i32 := m ((c : Thread nD τ).loc main_arg1)
abbrev aS : Vec Ideal S64 .f32 := m ((c : Thread nD τ).loc main_arg3)
abbrev aW : Vec Ideal S64 .f32 := m ((c : Thread nD τ).loc main_arg4)
abbrev aL : Vec Ideal S256 .f32 := m ((c : Thread nD τ).loc main_arg8)
abbrev aK : Vec Ideal S32 .f32 := m ((c : Thread nD τ).loc main_arg9)

/-- One entry of the head indicator. -/
theorem seg_word (a b : Nat) (ha : a < 1000) (hb : b < 1000) :
    @Eq EReal (FloatOps.uitofp (F := Ideal) .bf16 (IntOp.cmpi .eq (IntOp.addi (BitVec.ofNat 32 a) 0#32) (BitVec.ofNat 32 b))) (if a = b then 1 else 0) := by
  rw [show IntOp.addi (BitVec.ofNat 32 a) 0#32 = BitVec.ofNat 32 a from BitVec.add_zero _, WordCmp.cmpi_eq_ofNat (by omega) (by omega)]
  by_cases h : a = b
  · rw [if_pos h, decide_eq_true h]; simp [FloatOps.uitofp, FloatOps.scalar]
  · rw [if_neg h, decide_eq_false h]; simp [FloatOps.uitofp, FloatOps.scalar]

/-- The rotation angle of a row's position at one frequency. -/
def ang (r : Fin 1024) (i : Fin 16) : EReal :=
  (FloatOps.sitofp (F := Ideal) .f32 (aP m c (ix1 r)) : EReal) * Ideal.pow (Ideal.ofBits .f32 1176256512#32)
    (Ideal.div (-(FloatOps.sitofp (F := Ideal) .f32 (BitVec.ofNat 32 i.val) : EReal)) (Ideal.ofBits .f32 1098907648#32))

theorem in_z (i) : @Eq EReal (V m c main_arg0 i) (aZ m c i) := by
  simp only [V, hostOps0, hostOps0_1, hostOps0_2, hostOps0_3, hostOps0_4, hostOps0_5, hostOps0_6, List.flatten_cons, List.flatten_nil, List.cons_append, List.nil_append, List.append_nil, StableHlo.TRef.ternary, StableHlo.TRef.binary, StableHlo.TRef.unary, StableHlo.TRef.nullary, StableHlo.TRef.toBuf, StableHlo.TRef.ofBuf, cast_eq]
  after_results_simp

theorem in_s (l : Fin 128) (k : Fin 64) (hk : k.val = l.val % 64) : @Eq EReal (V m c main_v7 (ix2 0 l)) (aS m c (ix1 k)) := by
  simp only [V, hostOps0, hostOps0_1, hostOps0_2, hostOps0_3, hostOps0_4, hostOps0_5, hostOps0_6, List.flatten_cons, List.flatten_nil, List.cons_append, List.nil_append, List.append_nil, StableHlo.TRef.ternary, StableHlo.TRef.binary, StableHlo.TRef.unary, StableHlo.TRef.nullary, StableHlo.TRef.toBuf, StableHlo.TRef.ofBuf, cast_eq]
  after_results_simp
  pointwise []
  exact congrArg (aS m c) (by blk_ext)

theorem in_w (l : Fin 128) (k : Fin 64) (hk : k.val = l.val % 64) : @Eq EReal (V m c main_v11 (ix2 0 l)) (aW m c (ix1 k)) := by
  simp only [V, hostOps0, hostOps0_1, hostOps0_2, hostOps0_3, hostOps0_4, hostOps0_5, hostOps0_6, List.flatten_cons, List.flatten_nil, List.cons_append, List.nil_append, List.append_nil, StableHlo.TRef.ternary, StableHlo.TRef.binary, StableHlo.TRef.unary, StableHlo.TRef.nullary, StableHlo.TRef.toBuf, StableHlo.TRef.ofBuf, cast_eq]
  after_results_simp
  pointwise []
  exact congrArg (aW m c) (by blk_ext)

theorem in_l (e : Fin 256) : @Eq EReal (V m c main_v32 (ix2 0 e)) (aL m c (ix1 e)) := by
  simp only [V, hostOps0, hostOps0_1, hostOps0_2, hostOps0_3, hostOps0_4, hostOps0_5, hostOps0_6, List.flatten_cons, List.flatten_nil, List.cons_append, List.nil_append, List.append_nil, StableHlo.TRef.ternary, StableHlo.TRef.binary, StableHlo.TRef.unary, StableHlo.TRef.nullary, StableHlo.TRef.toBuf, StableHlo.TRef.ofBuf, cast_eq]
  after_results_simp
  pointwise []

theorem in_k (l : Fin 128) (k : Fin 32) (hk : k.val = l.val) : @Eq EReal (V m c main_v34 (ix2 0 l)) (aK m c (ix1 k)) := by
  simp only [V, hostOps0, hostOps0_1, hostOps0_2, hostOps0_3, hostOps0_4, hostOps0_5, hostOps0_6, List.flatten_cons, List.flatten_nil, List.cons_append, List.nil_append, List.append_nil, StableHlo.TRef.ternary, StableHlo.TRef.binary, StableHlo.TRef.unary, StableHlo.TRef.nullary, StableHlo.TRef.toBuf, StableHlo.TRef.ofBuf, cast_eq]
  after_results_simp
  pointwise []
  rw [dif_pos (by omega)]
  exact congrArg (aK m c) (by blk_ext)

theorem in_e (l : Fin 1024) (j : Fin 128) : @Eq EReal (V m c main_v44 (ix2 l j)) (if l.val / 64 = j.val then 1 else 0) := by
  simp only [V, hostOps0, hostOps0_1, hostOps0_2, hostOps0_3, hostOps0_4, hostOps0_5, hostOps0_6, List.flatten_cons, List.flatten_nil, List.cons_append, List.nil_append, List.append_nil, StableHlo.TRef.ternary, StableHlo.TRef.binary, StableHlo.TRef.unary, StableHlo.TRef.nullary, StableHlo.TRef.toBuf, StableHlo.TRef.ofBuf, cast_eq]
  after_results_simp
  pointwise []
  exact seg_word _ _ (by omega) (by omega)

theorem in_et (l : Fin 1024) (j : Fin 128) : @Eq EReal (V m c main_v54 (ix2 j l)) (if l.val / 64 = j.val then 1 else 0) := by
  simp only [V, hostOps0, hostOps0_1, hostOps0_2, hostOps0_3, hostOps0_4, hostOps0_5, hostOps0_6, List.flatten_cons, List.flatten_nil, List.cons_append, List.nil_append, List.append_nil, StableHlo.TRef.ternary, StableHlo.TRef.binary, StableHlo.TRef.unary, StableHlo.TRef.nullary, StableHlo.TRef.toBuf, StableHlo.TRef.ofBuf, cast_eq]
  after_results_simp
  pointwise []
  exact seg_word _ _ (by omega) (by omega)

theorem in_cos0 (r : Fin 1024) (l : Fin 128) (i : Fin 16) (hi : i.val = l.val) : @Eq EReal (V m c main_v72 (ix2 r l)) (Ideal.cos (ang m c r i)) := by
  simp only [V, hostOps0, hostOps0_1, hostOps0_2, hostOps0_3, hostOps0_4, hostOps0_5, hostOps0_6, List.flatten_cons, List.flatten_nil, List.cons_append, List.nil_append, List.append_nil, StableHlo.TRef.ternary, StableHlo.TRef.binary, StableHlo.TRef.unary, StableHlo.TRef.nullary, StableHlo.TRef.toBuf, StableHlo.TRef.ofBuf, cast_eq]
  after_results_simp
  pointwise []
  rw [dif_pos (by omega)]
  after_results_simp
  pointwise []
  rw [← hi]
  rfl

theorem in_cos1 (r : Fin 1024) (l : Fin 128) (i : Fin 16) (hi : l.val = i.val + 16) : @Eq EReal (V m c main_v72 (ix2 r l)) (Ideal.cos (ang m c r i)) := by
  simp only [V, hostOps0, hostOps0_1, hostOps0_2, hostOps0_3, hostOps0_4, hostOps0_5, hostOps0_6, List.flatten_cons, List.flatten_nil, List.cons_append, List.nil_append, List.append_nil, StableHlo.TRef.ternary, StableHlo.TRef.binary, StableHlo.TRef.unary, StableHlo.TRef.nullary, StableHlo.TRef.toBuf, StableHlo.TRef.ofBuf, cast_eq]
  after_results_simp
  pointwise []
  rw [dif_neg (by omega), dif_pos (by omega)]
  after_results_simp
  pointwise []
  rw [show l.val - 16 = i.val by omega]
  rfl

theorem in_sina0 (r : Fin 1024) (l : Fin 128) (i : Fin 16) (hi : i.val = l.val) : @Eq EReal (V m c main_v73 (ix2 r l)) (0) := by
  simp only [V, hostOps0, hostOps0_1, hostOps0_2, hostOps0_3, hostOps0_4, hostOps0_5, hostOps0_6, List.flatten_cons, List.flatten_nil, List.cons_append, List.nil_append, List.append_nil, StableHlo.TRef.ternary, StableHlo.TRef.binary, StableHlo.TRef.unary, StableHlo.TRef.nullary, StableHlo.TRef.toBuf, StableHlo.TRef.ofBuf, cast_eq]
  after_results_simp
  pointwise []
  rw [dif_pos (by omega)]
  after_results_simp
  pointwise []

theorem in_sina1 (r : Fin 1024) (l : Fin 128) (i : Fin 16) (hi : l.val = i.val + 16) : @Eq EReal (V m c main_v73 (ix2 r l)) (Ideal.sin (ang m c r i)) := by
  simp only [V, hostOps0, hostOps0_1, hostOps0_2, hostOps0_3, hostOps0_4, hostOps0_5, hostOps0_6, List.flatten_cons, List.flatten_nil, List.cons_append, List.nil_append, List.append_nil, StableHlo.TRef.ternary, StableHlo.TRef.binary, StableHlo.TRef.unary, StableHlo.TRef.nullary, StableHlo.TRef.toBuf, StableHlo.TRef.ofBuf, cast_eq]
  after_results_simp
  pointwise []
  rw [dif_neg (by omega), dif_pos (by omega)]
  after_results_simp
  pointwise []
  rw [show l.val - 16 = i.val by omega]
  rfl

theorem in_sinb0 (r : Fin 1024) (l : Fin 128) (i : Fin 16) (hi : i.val = l.val) : @Eq EReal (V m c main_v75 (ix2 r l)) (-Ideal.sin (ang m c r i)) := by
  simp only [V, hostOps0, hostOps0_1, hostOps0_2, hostOps0_3, hostOps0_4, hostOps0_5, hostOps0_6, List.flatten_cons, List.flatten_nil, List.cons_append, List.nil_append, List.append_nil, StableHlo.TRef.ternary, StableHlo.TRef.binary, StableHlo.TRef.unary, StableHlo.TRef.nullary, StableHlo.TRef.toBuf, StableHlo.TRef.ofBuf, cast_eq]
  after_results_simp
  pointwise []
  rw [dif_pos (by omega)]
  after_results_simp
  pointwise []
  rw [← hi]
  rfl

theorem in_sinb1 (r : Fin 1024) (l : Fin 128) (i : Fin 16) (hi : l.val = i.val + 16) : @Eq EReal (V m c main_v75 (ix2 r l)) (0) := by
  simp only [V, hostOps0, hostOps0_1, hostOps0_2, hostOps0_3, hostOps0_4, hostOps0_5, hostOps0_6, List.flatten_cons, List.flatten_nil, List.cons_append, List.nil_append, List.append_nil, StableHlo.TRef.ternary, StableHlo.TRef.binary, StableHlo.TRef.unary, StableHlo.TRef.nullary, StableHlo.TRef.toBuf, StableHlo.TRef.ofBuf, cast_eq]
  after_results_simp
  pointwise []
  rw [dif_neg (by omega), dif_pos (by omega)]
  after_results_simp
  pointwise []

end Cert.KernelPostSampleIdeal.Post

end
-- ==== Proof.SampleBlk.lean ====
/- The blocks a grid point of the call behind the input projection for the sample group works on, read at one place each. -/
module

public import proofs.«01_k».proof.Proof.SampleIn

@[expose] public section

set_option maxRecDepth 16384

noncomputable section

namespace Cert.KernelPostSampleIdeal.Post

open Idealize.ShloMosaic Idealize.ShloMosaic.TcCoe Idealize.SL.Sem
open Cert.KernelPostSampleIdeal Cert.KernelPostSampleIdeal.Gen

variable (m : (ℓ : Loc nD τ sig) → Buf (Elt Ideal) ℓ) (c : Dev nD)

theorem t_lt (t : Fin cfg0.N) : t.val < 4 := lt_of_lt_of_eq t.isLt N_0

theorem idx : ∀ t : Fin cfg0.N, win0_2.index t = ![t.val, 8] ∧ win0_3.index t = ![t.val, 27] ∧ win0_4.index t = ![t.val, 12]
    ∧ win0_5.index t = ![t.val, 0] ∧ win0_6.index t = ![t.val, 0] ∧ win0_7.index t = ![t.val, 0] ∧ win0_9.index t = ![0, 0]
    ∧ win0_10.index t = ![0, 0] ∧ win0_15.index t = ![0, 0] ∧ win0_16.index t = ![0, 0] ∧ win0_18.index t = ![0, 0] ∧ win0_19.index t = ![0, 0]
    ∧ win0_23.index t = ![t.val, 0] ∧ win0_24.index t = ![t.val, 0] ∧ win0_25.index t = ![t.val, 0] ∧ win0_28.index t = ![t.val, 0]
    ∧ win0_30.index t = ![t.val, 0] :=
  (by decide +kernel : ∀ t : Fin grid0.N, _)

theorem blk2 (t : Fin cfg0.N) (r : Fin 1024) (q : Fin 256) (e : Fin 768) (hr : r.val = 256 * t.val + q.val) :
    @Eq EReal (X0_2 m c t (ix2 q e)) (aZ m c (ix2 r ⟨6144 + e.val, by omega⟩)) := by
  unfold X0_2 Pipeline.Window.fill
  rw [dif_pos (moved0_2 t _)]
  have e1 : (win0_2.blk t).view.emb (fun a => ⟨((ix2 q e : S256x768.Idx) a).val, ((win0_2.moved_iff _ _).mp (moved0_2 t (ix2 q e)) a)⟩) = ix2 r ⟨6144 + e.val, by omega⟩ := by blk_ext [idx t]
  rw [← in_z m c]
  unfold iblk
  change View.read (Elt Ideal) (win0_2.blk t).view (V m c main_arg0) (fun a => ⟨((ix2 q e : S256x768.Idx) a).val, ((win0_2.moved_iff _ _).mp (moved0_2 t (ix2 q e)) a)⟩) = V m c main_arg0 _
  generalize V m c main_arg0 = f
  rw [View.read_apply, e1]
  exact cast_eq _ _

theorem blk3 (t : Fin cfg0.N) (r : Fin 1024) (q : Fin 256) (e : Fin 256) (hr : r.val = 256 * t.val + q.val) :
    @Eq EReal (iblk m c 3 t (ix2 q e)) (aZ m c (ix2 r ⟨6912 + e.val, by omega⟩)) := by
  have e1 : (win0_3.blk t).view.emb (ix2 q e) = ix2 r ⟨6912 + e.val, by omega⟩ := by blk_ext [idx t]
  rw [← in_z m c]
  unfold iblk
  change View.read (Elt Ideal) (win0_3.blk t).view (V m c main_arg0) (ix2 q e) = V m c main_arg0 _
  generalize V m c main_arg0 = f
  rw [View.read_apply, e1]
  exact cast_eq _ _

theorem blk4 (t : Fin cfg0.N) (r : Fin 1024) (q : Fin 256) (e : Fin 128) (hr : r.val = 256 * t.val + q.val) :
    @Eq EReal (iblk m c 4 t (ix2 q e)) (aZ m c (ix2 r ⟨1536 + e.val, by omega⟩)) := by
  have e1 : (win0_4.blk t).view.emb (ix2 q e) = ix2 r ⟨1536 + e.val, by omega⟩ := by blk_ext [idx t]
  rw [← in_z m c]
  unfold iblk
  change View.read (Elt Ideal) (win0_4.blk t).view (V m c main_arg0) (ix2 q e) = V m c main_arg0 _
  generalize V m c main_arg0 = f
  rw [View.read_apply, e1]
  exact cast_eq _ _

theorem blk5 (t : Fin cfg0.N) (r : Fin 1024) (q : Fin 256) (e : Fin 128) (hr : r.val = 256 * t.val + q.val) : @Eq EReal (iblk m c 5 t (ix2 q e)) (V m c main_v72 (ix2 r e)) := by
  have e1 : (win0_5.blk t).view.emb (ix2 q e) = (ix2 r e) := by blk_ext [idx t]
  unfold iblk
  change View.read (Elt Ideal) (win0_5.blk t).view (V m c main_v72) (ix2 q e) = V m c main_v72 (ix2 r e)
  generalize V m c main_v72 = f
  rw [View.read_apply, e1]
  exact cast_eq _ _

theorem blk6 (t : Fin cfg0.N) (r : Fin 1024) (q : Fin 256) (e : Fin 128) (hr : r.val = 256 * t.val + q.val) : @Eq EReal (iblk m c 6 t (ix2 q e)) (V m c main_v73 (ix2 r e)) := by
  have e1 : (win0_6.blk t).view.emb (ix2 q e) = (ix2 r e) := by blk_ext [idx t]
  unfold iblk
  change View.read (Elt Ideal) (win0_6.blk t).view (V m c main_v73) (ix2 q e) = V m c main_v73 (ix2 r e)
  generalize V m c main_v73 = f
  rw [View.read_apply, e1]
  exact cast_eq _ _

theorem blk7 (t : Fin cfg0.N) (r : Fin 1024) (q : Fin 256) (e : Fin 128) (hr : r.val = 256 * t.val + q.val) : @Eq EReal (iblk m c 7 t (ix2 q e)) (V m c main_v75 (ix2 r e)) := by
  have e1 : (win0_7.blk t).view.emb (ix2 q e) = (ix2 r e) := by blk_ext [idx t]
  unfold iblk
  change View.read (Elt Ideal) (win0_7.blk t).view (V m c main_v75) (ix2 q e) = V m c main_v75 (ix2 r e)
  generalize V m c main_v75 = f
  rw [View.read_apply, e1]
  exact cast_eq _ _

theorem blk9 (t : Fin cfg0.N) (e : Fin 128) : @Eq EReal (iblk m c 9 t (ix2 0 e)) (V m c main_v7 (ix2 0 e)) := by
  have e1 : (win0_9.blk t).view.emb (ix2 0 e) = (ix2 0 e) := by blk_ext [idx t]
  unfold iblk
  change View.read (Elt Ideal) (win0_9.blk t).view (V m c main_v7) (ix2 0 e) = V m c main_v7 (ix2 0 e)
  generalize V m c main_v7 = f
  rw [View.read_apply, e1]
  exact cast_eq _ _

theorem blk10 (t : Fin cfg0.N) (e : Fin 128) : @Eq EReal (iblk m c 10 t (ix2 0 e)) (V m c main_v11 (ix2 0 e)) := by
  have e1 : (win0_10.blk t).view.emb (ix2 0 e) = (ix2 0 e) := by blk_ext [idx t]
  unfold iblk
  change View.read (Elt Ideal) (win0_10.blk t).view (V m c main_v11) (ix2 0 e) = V m c main_v11 (ix2 0 e)
  generalize V m c main_v11 = f
  rw [View.read_apply, e1]
  exact cast_eq _ _

theorem blk15 (t : Fin cfg0.N) (e : Fin 256) : @Eq EReal (iblk m c 15 t (ix2 0 e)) (V m c main_v32 (ix2 0 e)) := by
  have e1 : (win0_15.blk t).view.emb (ix2 0 e) = (ix2 0 e) := by blk_ext [idx t]
  unfold iblk
  change View.read (Elt Ideal) (win0_15.blk t).view (V m c main_v32) (ix2 0 e) = V m c main_v32 (ix2 0 e)
  generalize V m c main_v32 = f
  rw [View.read_apply, e1]
  exact cast_eq _ _

theorem blk16 (t : Fin cfg0.N) (e : Fin 128) : @Eq EReal (iblk m c 16 t (ix2 0 e)) (V m c main_v34 (ix2 0 e)) := by
  have e1 : (win0_16.blk t).view.emb (ix2 0 e) = (ix2 0 e) := by blk_ext [idx t]
  unfold iblk
  change View.read (Elt Ideal) (win0_16.blk t).view (V m c main_v34) (ix2 0 e) = V m c main_v34 (ix2 0 e)
  generalize V m c main_v34 = f
  rw [View.read_apply, e1]
  exact cast_eq _ _

theorem blk18 (t : Fin cfg0.N) (l : Fin 1024) (j : Fin 128) : @Eq EReal (iblk m c 18 t (ix2 l j)) (V m c main_v44 (ix2 l j)) := by
  have e1 : (win0_18.blk t).view.emb (ix2 l j) = (ix2 l j) := by blk_ext [idx t]
  unfold iblk
  change View.read (Elt Ideal) (win0_18.blk t).view (V m c main_v44) (ix2 l j) = V m c main_v44 (ix2 l j)
  generalize V m c main_v44 = f
  rw [View.read_apply, e1]
  exact cast_eq _ _

theorem blk19 (t : Fin cfg0.N) (l : Fin 1024) (j : Fin 128) : @Eq EReal (iblk m c 19 t (ix2 j l)) (V m c main_v54 (ix2 j l)) := by
  have e1 : (win0_19.blk t).view.emb (ix2 j l) = (ix2 j l) := by blk_ext [idx t]
  unfold iblk
  change View.read (Elt Ideal) (win0_19.blk t).view (V m c main_v54) (ix2 j l) = V m c main_v54 (ix2 j l)
  generalize V m c main_v54 = f
  rw [View.read_apply, e1]
  exact cast_eq _ _

end Cert.KernelPostSampleIdeal.Post

end
-- ==== Proof.SampleRef.lean ====
/- The reference of the call behind the input projection for the sample group, read at one place. -/
module

public import proofs.«01_k».proof.Proof.Gen.ReferencePostSampleIdeal.Read
public import Idealize.ShloMosaic.Lib.Pointwise
public import Idealize.ShloMosaic.Lib.Claim
public import Idealize.ShloMosaic.Lib.Pipeline.ValueKit

@[expose] public section

set_option maxRecDepth 16384

noncomputable section

namespace Cert.ReferencePostSampleIdeal.Post

open Idealize.ShloMosaic Idealize.ShloMosaic.TcCoe Idealize.SL.Sem
open Cert.ReferencePostSampleIdeal Cert.ReferencePostSampleIdeal.Gen Cert.ReferencePostSampleIdeal.Read

variable (x0 : Vec Ideal S1024x7168 .f32) (x1 : Vec Ideal S1024 .i32) (x3 x4 : Vec Ideal S64 .f32) (x8 : Vec Ideal S256 .f32) (x9 : Vec Ideal S32 .f32)

theorem v2_at (r : Fin 1024) (l : Fin 256) : @Eq EReal (val_main_v2 (F := Ideal) x0 (ix2 r l)) (x0 (ix2 r ⟨6144 + l.val, by omega⟩)) := by
  pointwise [val_main_v2]

theorem v98_at (r : Fin 1024) (l : Fin 256) : @Eq EReal (val_main_v98 (F := Ideal) x0 x8 (ix2 r l))
    (x0 (ix2 r ⟨6912 + l.val, by omega⟩) * Ideal.rsqrt (Ideal.div (∑ x : Fin 256, x0 (ix2 r ⟨6912 + x.val, by omega⟩) * x0 (ix2 r ⟨6912 + x.val, by omega⟩))
      (Ideal.ofBits .f32 1132462080#32) + Ideal.ofBits .f32 897988541#32) * x8 (ix1 l)) := by
  pointwise [val_main_v98, val_main_v97, val_main_v96, val_main_v95, val_main_v94, val_main_v93, val_main_v92, val_main_v91, val_main_v90, val_main_v89, val_main_v88, val_main_v87, val_main_v86, val_main_v5, val_main_cst_13, val_main_cst_14, val_main_cst_15]

theorem v67_at (r : Fin 1024) (l : Fin 128) (k : Fin 64) (hk : k.val = l.val % 64) (e : Fin 256) (he : e.val = l.val) :
    @Eq EReal (val_main_v67 (F := Ideal) x0 x3 (ix2 r e))
      (x0 (ix2 r ⟨6400 + l.val, by omega⟩) * Ideal.rsqrt (Ideal.div (∑ k : Fin 64, x0 (ix2 r ⟨6400 + (64 * (l.val / 64) + k.val), by omega⟩) * x0 (ix2 r ⟨6400 + (64 * (l.val / 64) + k.val), by omega⟩))
        (Ideal.ofBits .f32 1115684864#32) + Ideal.ofBits .f32 897988541#32) * x3 (ix1 k)) := by
  unfold val_main_v67
  pointwise []
  rw [dif_pos (by omega)]
  pointwise [val_main_v65, val_main_v64, val_main_v63, val_main_v62, val_main_v61, val_main_v60, val_main_v59, val_main_v58, val_main_v57, val_main_v56, val_main_v55, val_main_v54, val_main_v53, val_main_v52, val_main_v51, val_main_v50, val_main_v3, val_main_cst_7, val_main_cst_8, val_main_cst_9]
  have e1 : e.val / 64 * 64 + e.val % 64 = l.val := by omega
  have e2 : ∀ x : Nat, e.val / 64 * 64 + x = 64 * (l.val / 64) + x := fun x => by omega
  have e3 : (⟨e.val % 64, by omega⟩ : Fin 64) = k := Fin.ext (by show e.val % 64 = k.val; omega)
  simp only [e1]
  simp only [e2, e3]

theorem v67_at_hi (r : Fin 1024) (l : Fin 256) (hl : 128 ≤ l.val) :
    @Eq EReal (val_main_v67 (F := Ideal) x0 x3 (ix2 r l)) (x0 (ix2 r ⟨6400 + l.val, by omega⟩)) := by
  unfold val_main_v67
  pointwise []
  rw [dif_neg (by omega)]
  pointwise [val_main_v66, val_main_v3]
  simp only [show 128 + (l.val - 128) = l.val by omega]

theorem v85_at (r : Fin 1024) (l : Fin 128) (k : Fin 64) (hk : k.val = l.val % 64) (e : Fin 256) (he : e.val = l.val) :
    @Eq EReal (val_main_v85 (F := Ideal) x0 x4 (ix2 r e))
      (x0 (ix2 r ⟨6656 + l.val, by omega⟩) * Ideal.rsqrt (Ideal.div (∑ k : Fin 64, x0 (ix2 r ⟨6656 + (64 * (l.val / 64) + k.val), by omega⟩) * x0 (ix2 r ⟨6656 + (64 * (l.val / 64) + k.val), by omega⟩))
        (Ideal.ofBits .f32 1115684864#32) + Ideal.ofBits .f32 897988541#32) * x4 (ix1 k)) := by
  unfold val_main_v85
  pointwise []
  rw [dif_pos (by omega)]
  pointwise [val_main_v83, val_main_v82, val_main_v81, val_main_v80, val_main_v79, val_main_v78, val_main_v77, val_main_v76, val_main_v75, val_main_v74, val_main_v73, val_main_v72, val_main_v71, val_main_v70, val_main_v69, val_main_v68, val_main_v4, val_main_cst_10, val_main_cst_11, val_main_cst_12]
  have e1 : e.val / 64 * 64 + e.val % 64 = l.val := by omega
  have e2 : ∀ x : Nat, e.val / 64 * 64 + x = 64 * (l.val / 64) + x := fun x => by omega
  have e3 : (⟨e.val % 64, by omega⟩ : Fin 64) = k := Fin.ext (by show e.val % 64 = k.val; omega)
  simp only [e1]
  simp only [e2, e3]

theorem v85_at_hi (r : Fin 1024) (l : Fin 256) (hl : 128 ≤ l.val) :
    @Eq EReal (val_main_v85 (F := Ideal) x0 x4 (ix2 r l)) (x0 (ix2 r ⟨6656 + l.val, by omega⟩)) := by
  unfold val_main_v85
  pointwise []
  rw [dif_neg (by omega)]
  pointwise [val_main_v84, val_main_v4]
  simp only [show 128 + (l.val - 128) = l.val by omega]

/-- The rotation angle of a row's position at one frequency. -/
def ang (r : Fin 1024) (i : Fin 16) : EReal :=
  (FloatOps.sitofp (F := Ideal) .f32 (x1 (ix1 r)) : EReal) * Ideal.pow (Ideal.ofBits .f32 1176256512#32)
    (Ideal.div (-(FloatOps.sitofp (F := Ideal) .f32 (BitVec.ofNat 32 i.val) : EReal)) (Ideal.ofBits .f32 1098907648#32))

/-- The shared key's inverse root. -/
def inv (r : Fin 1024) : EReal :=
  Ideal.rsqrt (Ideal.div (∑ x : Fin 32, x0 (ix2 r ⟨1536 + x.val, by omega⟩) * x0 (ix2 r ⟨1536 + x.val, by omega⟩))
    (Ideal.ofBits .f32 1107296256#32) + Ideal.ofBits .f32 897988541#32)

theorem v49_lo (r : Fin 1024) (l : Fin 128) (hl : l.val < 16) : @Eq EReal (val_main_v49 (F := Ideal) x0 x1 x9 (ix2 r l))
    (x0 (ix2 r ⟨1536 + l.val, by omega⟩) * inv x0 r * x9 (ix1 ⟨l.val, by omega⟩) * Ideal.cos (ang x1 r ⟨l.val, hl⟩)
      - x0 (ix2 r ⟨1536 + (16 + l.val), by omega⟩) * inv x0 r * x9 (ix1 ⟨(16 + l.val), by omega⟩) * Ideal.sin (ang x1 r ⟨l.val, hl⟩)) := by
  unfold val_main_v49 val_main_v41
  pointwise []
  rw [dif_pos (by omega)]
  pointwise []
  rw [dif_pos (by omega)]
  pointwise [val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v0, val_main_cst, val_main_cst_0, val_main_cst_1, val_main_cst_2, val_main_cst_3]
  rfl

theorem v49_mid (r : Fin 1024) (l : Fin 128) (hl : 16 ≤ l.val) (hl' : l.val < 32) : @Eq EReal (val_main_v49 (F := Ideal) x0 x1 x9 (ix2 r l))
    (x0 (ix2 r ⟨1536 + (16 + (l.val - 16)), by omega⟩) * inv x0 r * x9 (ix1 ⟨(16 + (l.val - 16)), by omega⟩) * Ideal.cos (ang x1 r ⟨l.val - 16, by omega⟩)
      + x0 (ix2 r ⟨1536 + (l.val - 16), by omega⟩) * inv x0 r * x9 (ix1 ⟨(l.val - 16), by omega⟩) * Ideal.sin (ang x1 r ⟨l.val - 16, by omega⟩)) := by
  unfold val_main_v49 val_main_v41
  pointwise []
  rw [dif_pos (by omega)]
  pointwise []
  rw [dif_neg (by omega)]
  pointwise [val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v0, val_main_cst, val_main_cst_0, val_main_cst_1, val_main_cst_2, val_main_cst_3]
  rfl

theorem v49_gate (r : Fin 1024) (l : Fin 128) (hl : 32 ≤ l.val) (hl' : l.val < 80) : @Eq EReal (val_main_v49 (F := Ideal) x0 x1 x9 (ix2 r l)) (Ideal.logistic (x0 (ix2 r ⟨1568 + (l.val - 32), by omega⟩))) := by
  unfold val_main_v49
  pointwise []
  rw [dif_neg (by omega), dif_pos (by omega)]
  pointwise [val_main_v48, val_main_v47, val_main_v46, val_main_v45, val_main_v44, val_main_v43, val_main_v1, val_main_cst_5, val_main_cst_6]
  rfl

theorem v49_zero (r : Fin 1024) (l : Fin 128) (hl : 80 ≤ l.val) : @Eq EReal (val_main_v49 (F := Ideal) x0 x1 x9 (ix2 r l)) 0 := by
  unfold val_main_v49
  pointwise []
  rw [dif_neg (by omega), dif_neg (by omega)]
  pointwise [val_main_v42, val_main_cst_4]

end Cert.ReferencePostSampleIdeal.Post

end
-- ==== Proof.SamplePt.lean ====
/- What a grid point of the call behind the input projection for the sample group writes at one place is the reference's value there. -/
module

public import proofs.«01_k».proof.Proof.PostVal
public import proofs.«01_k».proof.Proof.SampleBlk
public import proofs.«01_k».proof.Proof.SampleRef

@[expose] public section

set_option maxRecDepth 16384

noncomputable section

namespace Cert.KernelPostSampleIdeal.Post

open Idealize.ShloMosaic Idealize.ShloMosaic.TcCoe Idealize.SL.Sem
open Cert.KernelPostSampleIdeal Cert.KernelPostSampleIdeal.Gen
open Cert.ReferencePostSampleIdeal.Read (val_main_v2 val_main_v67 val_main_v85 val_main_v98 val_main_v49)

variable (m : (ℓ : Loc nD τ sig) → Buf (Elt Ideal) ℓ) (c : Dev nD)

/-- A band of 128 lanes of the projected rows holds real numbers. -/
def Finite (m : (ℓ : Loc nD τ sig) → Buf (Elt Ideal) ℓ) (c : Dev nD) (o : Nat) (ho : o + 128 ≤ 7168) : Prop :=
  ∀ (r : Fin 1024) (l : Fin 128), @Ne EReal (aZ m c (ix2 r ⟨o + l.val, by omega⟩)) ⊤ ∧ @Ne EReal (aZ m c (ix2 r ⟨o + l.val, by omega⟩)) ⊥

theorem seg1 (t : Fin cfg0.N) (l j : Fin 128) : @Eq EReal (Cert.KernelPostIdeal.Gen.k0_pay2 (F := Ideal) (iblk m c 18 t) (ix2 ⟨l.val, by omega⟩ j)) (Cert.KernelPostIdeal.Post.seg l j) := by
  have h := (blk18 m c t ⟨l.val, by omega⟩ j).trans (in_e m c ⟨l.val, by omega⟩ j)
  generalize iblk m c 18 t = B at *
  pointwise [Cert.KernelPostIdeal.Gen.k0_pay2]
  exact h

theorem seg3 (t : Fin cfg0.N) (l j : Fin 128) : @Eq EReal (Cert.KernelPostIdeal.Gen.k0_pay3 (F := Ideal) (iblk m c 19 t) (ix2 j ⟨l.val, by omega⟩)) (Cert.KernelPostIdeal.Post.seg l j) := by
  have h := (blk19 m c t ⟨l.val, by omega⟩ j).trans (in_et m c ⟨l.val, by omega⟩ j)
  generalize iblk m c 19 t = B at *
  pointwise [Cert.KernelPostIdeal.Gen.k0_pay3]
  exact h

theorem pt23 (t : Fin cfg0.N) (r : Fin 1024) (q e : Fin 256) (hr : r.val = 256 * t.val + q.val) :
    @Eq EReal (Cert.KernelPostIdeal.Gen.k0_pay10 (F := Ideal) (X0_2 m c t) (ix2 q e)) (val_main_v2 (F := Ideal) (aZ m c) (ix2 r e)) := by
  refine Eq.trans ?_ (Cert.ReferencePostSampleIdeal.Post.v2_at (aZ m c) r e).symm
  refine Eq.trans ?_ (blk2 m c t r q ⟨e.val, by omega⟩ hr)
  generalize X0_2 m c t = X
  pointwise [Cert.KernelPostIdeal.Gen.k0_pay10]

theorem pt24 (hf : Finite m c 6400 (by omega)) (t : Fin cfg0.N) (r : Fin 1024) (q e : Fin 256) (hr : r.val = 256 * t.val + q.val) :
    @Eq EReal (Cert.KernelPostIdeal.Gen.k0_pay21 (F := Ideal) (Cert.KernelPostIdeal.Gen.k0_pay12 (X0_2 m c t)) (Cert.KernelPostIdeal.Gen.k0_pay13 (X0_2 m c t)) (Cert.KernelPostIdeal.Gen.k0_pay14 (Cert.KernelPostIdeal.Gen.k0_pay3 (iblk m c 19 t)))
      (Cert.KernelPostIdeal.Gen.k0_pay16 (Cert.KernelPostIdeal.Gen.k0_pay2 (iblk m c 18 t)) (X0_2 m c t)) (Cert.KernelPostIdeal.Gen.k0_pay17 (Cert.KernelPostIdeal.Gen.k0_pay2 (iblk m c 18 t)) (X0_2 m c t)) (Cert.KernelPostIdeal.Gen.k0_pay18 (Cert.KernelPostIdeal.Gen.k0_pay2 (iblk m c 18 t)) (X0_2 m c t))
      (Cert.KernelPostIdeal.Gen.k0_pay19 (Cert.KernelPostIdeal.Gen.k0_pay2 (iblk m c 18 t)) (X0_2 m c t)) (iblk m c 9 t) (ix2 q e))
      (val_main_v67 (F := Ideal) (aZ m c) (aS m c) (ix2 r e)) := by
  rcases lt_or_ge e.val 128 with h | h
  · have hg := (blk9 m c t ⟨e.val, h⟩).trans (in_s m c ⟨e.val, h⟩ ⟨e.val % 64, by omega⟩ rfl)
    refine (Cert.KernelPostIdeal.Post.pay21_lo _ _ _ _ q ⟨e.val, h⟩ (fun l => aZ m c (ix2 r ⟨6400 + l.val, by omega⟩)) (seg1 m c t) (seg3 m c t) (fun l => ?_) (hf r) e rfl).trans ?_
    · refine (Cert.KernelPostIdeal.Post.pay12_at _ q l).trans ((blk2 m c t r q ⟨256 + l.val, by omega⟩ hr).trans ?_)
      exact congrArg (fun s => aZ m c (ix2 r s)) (Fin.ext (by show 6144 + (256 + l.val) = 6400 + l.val; omega))
    · rw [hg, Cert.KernelPostIdeal.Post.headR_eq]
      exact (Cert.ReferencePostSampleIdeal.Post.v67_at (aZ m c) (aS m c) r ⟨e.val, h⟩ ⟨e.val % 64, by omega⟩ rfl e rfl).symm
  · refine (Cert.KernelPostIdeal.Post.pay21_hi _ _ _ _ _ _ _ _ q e h).trans ((Cert.KernelPostIdeal.Post.pay13_at _ q ⟨e.val - 128, by omega⟩).trans ((blk2 m c t r q _ hr).trans ?_))
    refine Eq.trans ?_ (Cert.ReferencePostSampleIdeal.Post.v67_at_hi (aZ m c) (aS m c) r e h).symm
    exact congrArg (fun s => aZ m c (ix2 r s)) (Fin.ext (by show 6144 + (256 + (128 + (e.val - 128))) = 6400 + e.val; omega))

theorem pt25 (hf : Finite m c 6656 (by omega)) (t : Fin cfg0.N) (r : Fin 1024) (q e : Fin 256) (hr : r.val = 256 * t.val + q.val) :
    @Eq EReal (Cert.KernelPostIdeal.Gen.k0_pay40 (F := Ideal) (Cert.KernelPostIdeal.Gen.k0_pay32 (X0_2 m c t)) (Cert.KernelPostIdeal.Gen.k0_pay33 (X0_2 m c t)) (Cert.KernelPostIdeal.Gen.k0_pay34 (Cert.KernelPostIdeal.Gen.k0_pay3 (iblk m c 19 t)))
      (Cert.KernelPostIdeal.Gen.k0_pay36 (Cert.KernelPostIdeal.Gen.k0_pay2 (iblk m c 18 t)) (X0_2 m c t)) (Cert.KernelPostIdeal.Gen.k0_pay37 (Cert.KernelPostIdeal.Gen.k0_pay2 (iblk m c 18 t)) (X0_2 m c t)) (Cert.KernelPostIdeal.Gen.k0_pay38 (Cert.KernelPostIdeal.Gen.k0_pay2 (iblk m c 18 t)) (X0_2 m c t))
      (iblk m c 10 t) (ix2 q e))
      (val_main_v85 (F := Ideal) (aZ m c) (aW m c) (ix2 r e)) := by
  refine (congrFun (Cert.KernelPostIdeal.Post.pay40_eq _ _ _ _) (ix2 q e)).trans ?_
  rcases lt_or_ge e.val 128 with h | h
  · have hg := (blk10 m c t ⟨e.val, h⟩).trans (in_w m c ⟨e.val, h⟩ ⟨e.val % 64, by omega⟩ rfl)
    refine (Cert.KernelPostIdeal.Post.pay21_lo _ _ _ _ q ⟨e.val, h⟩ (fun l => aZ m c (ix2 r ⟨6656 + l.val, by omega⟩)) (seg1 m c t) (seg3 m c t) (fun l => ?_) (hf r) e rfl).trans ?_
    · rw [Cert.KernelPostIdeal.Post.turn12]
      refine (Cert.KernelPostIdeal.Post.pay32_at _ q l).trans ((blk2 m c t r q ⟨512 + l.val, by omega⟩ hr).trans ?_)
      exact congrArg (fun s => aZ m c (ix2 r s)) (Fin.ext (by show 6144 + (512 + l.val) = 6656 + l.val; omega))
    · rw [hg, Cert.KernelPostIdeal.Post.headR_eq]
      exact (Cert.ReferencePostSampleIdeal.Post.v85_at (aZ m c) (aW m c) r ⟨e.val, h⟩ ⟨e.val % 64, by omega⟩ rfl e rfl).symm
  · refine (Cert.KernelPostIdeal.Post.pay21_hi _ _ _ _ _ _ _ _ q e h).trans ?_
    rw [Cert.KernelPostIdeal.Post.turn13]
    refine (Cert.KernelPostIdeal.Post.pay33_at _ q ⟨e.val - 128, by omega⟩).trans ((blk2 m c t r q _ hr).trans ?_)
    refine Eq.trans ?_ (Cert.ReferencePostSampleIdeal.Post.v85_at_hi (aZ m c) (aW m c) r e h).symm
    exact congrArg (fun s => aZ m c (ix2 r s)) (Fin.ext (by show 6144 + (512 + (128 + (e.val - 128))) = 6656 + e.val; omega))

theorem pt28 (t : Fin cfg0.N) (r : Fin 1024) (q e : Fin 256) (hr : r.val = 256 * t.val + q.val) :
    @Eq EReal (Cert.KernelPostIdeal.Gen.k0_pay50 (F := Ideal) (iblk m c 3 t) (iblk m c 15 t) (ix2 q e)) (val_main_v98 (F := Ideal) (aZ m c) (aL m c) (ix2 r e)) := by
  have hg := (blk15 m c t e).trans (in_l m c e)
  have hz := fun e => blk3 m c t r q e hr
  generalize iblk m c 3 t = Z at *
  generalize iblk m c 15 t = G at *
  refine (Cert.KernelPostIdeal.Post.pay50_at Z G q e).trans ?_
  refine Eq.trans ?_ (Cert.ReferencePostSampleIdeal.Post.v98_at (aZ m c) (aL m c) r e).symm
  simp only [hz, hg]

theorem rope_inv (t : Fin cfg0.N) (r : Fin 1024) (q : Fin 256) (hr : r.val = 256 * t.val + q.val) :
    Cert.KernelPostIdeal.Post.ropeR (fun k => iblk m c 4 t (ix2 q k)) = Cert.ReferencePostSampleIdeal.Post.inv (aZ m c) r := by
  unfold Cert.KernelPostIdeal.Post.ropeR Cert.ReferencePostSampleIdeal.Post.inv
  refine congrArg (fun s : EReal => Ideal.rsqrt (Ideal.div s _ + _)) (Finset.sum_congr rfl fun x _ => ?_)
  have h := blk4 m c t r q ⟨x.val, by omega⟩ hr
  exact congrArg₂ (fun a b : EReal => a * b) h h

theorem pt30 (t : Fin cfg0.N) (r : Fin 1024) (q : Fin 256) (l : Fin 128) (hr : r.val = 256 * t.val + q.val) :
    @Eq EReal (Cert.KernelPostIdeal.Gen.k0_pay58 (F := Ideal) Cert.KernelPostIdeal.Gen.k0_pay55 (Cert.KernelPostIdeal.Gen.k0_pay56 (iblk m c 5 t) (iblk m c 6 t) (iblk m c 7 t) (iblk m c 4 t) (iblk m c 16 t)) (Cert.KernelPostIdeal.Gen.k0_pay57 (iblk m c 4 t)) (ix2 q l))
      (val_main_v49 (F := Ideal) (aZ m c) (aP m c) (aK m c) (ix2 r l)) := by
  refine (Cert.KernelPostIdeal.Post.pay58_at _ _ q l).trans ?_
  rcases lt_or_ge l.val 32 with h | h
  · rw [if_pos h]
    refine (Cert.KernelPostIdeal.Post.pay56_at _ _ _ _ _ q l h ⟨(l.val + 112) % 128, by omega⟩ ⟨l.val + 16, by omega⟩ rfl rfl).trans ?_
    rw [rope_inv m c t r q hr]
    rcases lt_or_ge l.val 16 with h' | h'
    · refine Eq.trans ?_ (Cert.ReferencePostSampleIdeal.Post.v49_lo (aZ m c) (aP m c) (aK m c) r l h').symm
      rw [(blk5 m c t r q l hr).trans (in_cos0 m c r l ⟨l.val, h'⟩ rfl), (blk6 m c t r q l hr).trans (in_sina0 m c r l ⟨l.val, h'⟩ rfl),
        (blk7 m c t r q l hr).trans (in_sinb0 m c r l ⟨l.val, h'⟩ rfl), blk4 m c t r q l hr, blk4 m c t r q ⟨l.val + 16, by omega⟩ hr,
        (blk16 m c t l).trans (in_k m c l ⟨l.val, h⟩ rfl), (blk16 m c t ⟨l.val + 16, by omega⟩).trans (in_k m c ⟨l.val + 16, by omega⟩ ⟨16 + l.val, by omega⟩ (by show 16 + l.val = l.val + 16; omega)),
        mul_zero, add_zero, mul_neg, ← sub_eq_add_neg]
      rw [show (⟨1536 + (⟨l.val + 16, by omega⟩ : Fin 128).val, by show 1536 + (l.val + 16) < 7168; omega⟩ : Fin 7168) = ⟨1536 + (16 + l.val), by omega⟩ from
        Fin.ext (by show 1536 + (l.val + 16) = 1536 + (16 + l.val); omega)]
      rfl
    · refine Eq.trans ?_ (Cert.ReferencePostSampleIdeal.Post.v49_mid (aZ m c) (aP m c) (aK m c) r l h' h).symm
      have hi : l.val = (⟨l.val - 16, by omega⟩ : Fin 16).val + 16 := by show l.val = l.val - 16 + 16; omega
      have ea : (⟨(l.val + 112) % 128, by omega⟩ : Fin 128) = ⟨l.val - 16, by omega⟩ := Fin.ext (by show (l.val + 112) % 128 = l.val - 16; omega)
      rw [ea, (blk5 m c t r q l hr).trans (in_cos1 m c r l ⟨l.val - 16, by omega⟩ hi), (blk6 m c t r q l hr).trans (in_sina1 m c r l ⟨l.val - 16, by omega⟩ hi),
        (blk7 m c t r q l hr).trans (in_sinb1 m c r l ⟨l.val - 16, by omega⟩ hi), blk4 m c t r q l hr, blk4 m c t r q ⟨l.val - 16, by omega⟩ hr,
        (blk16 m c t l).trans (in_k m c l ⟨16 + (l.val - 16), by omega⟩ (by show 16 + (l.val - 16) = l.val; omega)),
        (blk16 m c t ⟨l.val - 16, by omega⟩).trans (in_k m c ⟨l.val - 16, by omega⟩ ⟨l.val - 16, by omega⟩ rfl),
        mul_zero, add_zero]
      rw [show (⟨1536 + l.val, by omega⟩ : Fin 7168) = ⟨1536 + (16 + (l.val - 16)), by omega⟩ from Fin.ext (by show 1536 + l.val = 1536 + (16 + (l.val - 16)); omega)]
      rfl
  · rw [if_neg (by omega)]
    refine (Cert.KernelPostIdeal.Post.pay57_at _ q l).trans ?_
    rcases lt_or_ge l.val 80 with h' | h'
    · rw [if_pos h', blk4 m c t r q l hr]
      refine Eq.trans ?_ (Cert.ReferencePostSampleIdeal.Post.v49_gate (aZ m c) (aP m c) (aK m c) r l h h').symm
      exact congrArg (fun s => Ideal.logistic (aZ m c (ix2 r s))) (Fin.ext (by show 1536 + l.val = 1568 + (l.val - 32); omega))
    · rw [if_neg (by omega)]
      exact (Cert.ReferencePostSampleIdeal.Post.v49_zero (aZ m c) (aP m c) (aK m c) r l h').symm

end Cert.KernelPostSampleIdeal.Post

end
-- ==== Proof.CallPostSample.lean ====
/- The call behind the input projection for the sample group: the blocks each result is written in, the results themselves, the frames and the equal results. -/
module

public import proofs.«01_k».proof.Proof.SampleFrameBits
public import proofs.«01_k».proof.Proof.SampleFrame
public import proofs.«01_k».proof.Proof.SamplePt
public import proofs.«01_k».proof.Proof.Algebraic
public import proofs.«01_k».proof.Proof.Gen.ReferencePostSampleIdeal.Run
public import Idealize.ShloMosaic.Lib.Pipeline.ValueKit
public import Idealize.ShloMosaic.Lib.Pipeline.ReadBack
public import Idealize.ShloMosaic.Adequacy
public import Idealize.ShloMosaic.Init

@[expose] public section

set_option maxRecDepth 16384

noncomputable section

namespace Cert.KernelPostSampleIdeal.Post

open Idealize.ShloMosaic Idealize.ShloMosaic.TcCoe Idealize.SL.Sem
open Cert.KernelPostSampleIdeal Cert.KernelPostSampleIdeal.Gen
open Cert.ReferencePostSampleIdeal.Read (val_main_v2 val_main_v67 val_main_v85 val_main_v98 val_main_v49)

variable (m : (ℓ : Loc nD τ sig) → Buf (Elt Ideal) ℓ) (c : Dev nD)

theorem out23 (t : Fin cfg0.N) (r : Fin 1024) (q : Fin 256) (e : Fin 256) (hr : r.val = 256 * t.val + q.val) :
    @Eq EReal ((outsAt0 m c t).2.1 (ix2 q e)) (val_main_v2 (F := Ideal) (aZ m c) (ix2 r e)) := by
  refine Eq.trans ?_ (pt23 m c t r q e hr)
  unfold outsAt0 runAt
  frame_out
  rfl

theorem out24 (hf : Finite m c 6400 (by omega)) (t : Fin cfg0.N) (r : Fin 1024) (q : Fin 256) (e : Fin 256) (hr : r.val = 256 * t.val + q.val) :
    @Eq EReal ((outsAt0 m c t).2.2.1 (ix2 q e)) (val_main_v67 (F := Ideal) (aZ m c) (aS m c) (ix2 r e)) := by
  refine Eq.trans ?_ (pt24 m c hf t r q e hr)
  unfold outsAt0 runAt
  frame_out
  rfl

theorem out25 (hf : Finite m c 6656 (by omega)) (t : Fin cfg0.N) (r : Fin 1024) (q : Fin 256) (e : Fin 256) (hr : r.val = 256 * t.val + q.val) :
    @Eq EReal ((outsAt0 m c t).2.2.2.1 (ix2 q e)) (val_main_v85 (F := Ideal) (aZ m c) (aW m c) (ix2 r e)) := by
  refine Eq.trans ?_ (pt25 m c hf t r q e hr)
  unfold outsAt0 runAt
  frame_out
  rfl

theorem out28 (t : Fin cfg0.N) (r : Fin 1024) (q : Fin 256) (e : Fin 256) (hr : r.val = 256 * t.val + q.val) :
    @Eq EReal ((outsAt0 m c t).2.2.2.2.2.2.1 (ix2 q e)) (val_main_v98 (F := Ideal) (aZ m c) (aL m c) (ix2 r e)) := by
  refine Eq.trans ?_ (pt28 m c t r q e hr)
  unfold outsAt0 runAt
  frame_out
  rfl

theorem out30 (t : Fin cfg0.N) (r : Fin 1024) (q : Fin 256) (e : Fin 128) (hr : r.val = 256 * t.val + q.val) :
    @Eq EReal ((outsAt0 m c t).2.2.2.2.2.2.2.2.1 (ix2 q e)) (val_main_v49 (F := Ideal) (aZ m c) (aP m c) (aK m c) (ix2 r e)) := by
  refine Eq.trans ?_ (pt30 m c t r q e hr)
  unfold outsAt0 runAt
  frame_out
  rfl

theorem final23 : (dats m 0 c).arrAt 23 cfg0.N = val_main_v2 (F := Ideal) (aZ m c) := by
  refine (dats m 0 c).arrAt_eq_of_covers 23 _ (by decide +kernel) fun t hft y => ?_
  blk_simp
  rw [after0_23]
  obtain ⟨q, e, rfl⟩ : ∃ (q : Fin 256) (e : Fin 256), y = ix2 q e := ⟨y 0, y 1, by blk_ext⟩
  have ht := t_lt t
  have e1 : (win0_23.blk t).view.emb (ix2 q e) = ix2 ⟨256 * t.val + q.val, by omega⟩ e := by blk_ext [idx t]
  rw [e1]
  exact out23 m c t _ q e rfl

theorem final24 (hf : Finite m c 6400 (by omega)) : (dats m 0 c).arrAt 24 cfg0.N = val_main_v67 (F := Ideal) (aZ m c) (aS m c) := by
  refine (dats m 0 c).arrAt_eq_of_covers 24 _ (by decide +kernel) fun t hft y => ?_
  blk_simp
  rw [after0_24]
  obtain ⟨q, e, rfl⟩ : ∃ (q : Fin 256) (e : Fin 256), y = ix2 q e := ⟨y 0, y 1, by blk_ext⟩
  have ht := t_lt t
  have e1 : (win0_24.blk t).view.emb (ix2 q e) = ix2 ⟨256 * t.val + q.val, by omega⟩ e := by blk_ext [idx t]
  rw [e1]
  exact out24 m c hf t _ q e rfl

theorem final25 (hf : Finite m c 6656 (by omega)) : (dats m 0 c).arrAt 25 cfg0.N = val_main_v85 (F := Ideal) (aZ m c) (aW m c) := by
  refine (dats m 0 c).arrAt_eq_of_covers 25 _ (by decide +kernel) fun t hft y => ?_
  blk_simp
  rw [after0_25]
  obtain ⟨q, e, rfl⟩ : ∃ (q : Fin 256) (e : Fin 256), y = ix2 q e := ⟨y 0, y 1, by blk_ext⟩
  have ht := t_lt t
  have e1 : (win0_25.blk t).view.emb (ix2 q e) = ix2 ⟨256 * t.val + q.val, by omega⟩ e := by blk_ext [idx t]
  rw [e1]
  exact out25 m c hf t _ q e rfl

theorem final28 : (dats m 0 c).arrAt 28 cfg0.N = val_main_v98 (F := Ideal) (aZ m c) (aL m c) := by
  refine (dats m 0 c).arrAt_eq_of_covers 28 _ (by decide +kernel) fun t hft y => ?_
  blk_simp
  rw [after0_28]
  obtain ⟨q, e, rfl⟩ : ∃ (q : Fin 256) (e : Fin 256), y = ix2 q e := ⟨y 0, y 1, by blk_ext⟩
  have ht := t_lt t
  have e1 : (win0_28.blk t).view.emb (ix2 q e) = ix2 ⟨256 * t.val + q.val, by omega⟩ e := by blk_ext [idx t]
  rw [e1]
  exact out28 m c t _ q e rfl

theorem final30 : (dats m 0 c).arrAt 30 cfg0.N = val_main_v49 (F := Ideal) (aZ m c) (aP m c) (aK m c) := by
  refine (dats m 0 c).arrAt_eq_of_covers 30 _ (by decide +kernel) fun t hft y => ?_
  blk_simp
  rw [after0_30]
  obtain ⟨q, e, rfl⟩ : ∃ (q : Fin 256) (e : Fin 128), y = ix2 q e := ⟨y 0, y 1, by blk_ext⟩
  have ht := t_lt t
  have e1 : (win0_30.blk t).view.emb (ix2 q e) = ix2 ⟨256 * t.val + q.val, by omega⟩ e := by blk_ext [idx t]
  rw [e1]
  exact out30 m c t _ q e rfl

end Cert.KernelPostSampleIdeal.Post

namespace Cert.Proof

open Idealize.ShloMosaic Idealize.ShloMosaic.TcCoe Idealize.SL.Sem

/-- The call behind the input projection for the sample group runs, keeps its arguments and ends with every counter at zero. -/
theorem frame_p_post_sample : Cert.quiescent_KernelPostSample := fun m ρ _ => Cert.KernelPostSample.Post.frame m ρ

theorem frame_pi_post_sample : Cert.quiescent_KernelPostSampleIdeal := fun m ρ _ => Cert.KernelPostSampleIdeal.Post.frame m ρ

theorem frame_ri_post_sample : Cert.quiescent_ReferencePostSampleIdeal := fun m ρ _ =>
  (θ_run Cert.ReferencePostSampleIdeal.defs _ _).mono
    (fun r h => ⟨fun c => (h c).2.2.2.2.2, sem_eq_zero_of_no_sems (by decide) r.2⟩)
    (Cert.ReferencePostSampleIdeal.Value.run (F := Ideal) m ρ)

instance pre_keys_sample : Cert.Pre_finite_keys_sample.Facts := ⟨by decide, by decide, by decide⟩

/-- A band whose absolute values lie below infinity, read through the slice that cuts it out. -/
theorem finite_band_sample (m : (ℓ : Loc Cert.KernelPostSampleIdeal.nD Cert.KernelPostSampleIdeal.τ Cert.KernelPostSampleIdeal.sig) → Buf (Elt Ideal) ℓ) (c : Dev Cert.KernelPostSampleIdeal.nD)
    (o : Nat) (ho : o + 128 ≤ 7168) (x : FVec Ideal Cert.Pre_finite_keys_sample.S1024x128 .f32)
    (hx : ∀ (r : Fin 1024) (l : Fin 128), @Eq EReal (x (ix2 r l)) (Cert.KernelPostSampleIdeal.Post.aZ m c (ix2 r ⟨o + l.val, by omega⟩)))
    (h : ∃ X : Cert.Pre_finite_keys_sample.S1024x128.Idx → ℝ, ∀ i, @Eq EReal (x i) (X i : EReal)) : Cert.KernelPostSampleIdeal.Post.Finite m c o ho := by
  obtain ⟨X, hX⟩ := h
  intro r l
  have e := (hx r l).symm.trans (hX (ix2 r l))
  rw [e]
  exact ⟨EReal.coe_ne_top _, EReal.coe_ne_bot _⟩

theorem v49_congr_sample {z z' : Vec Ideal Cert.ReferencePostSampleIdeal.S1024x7168 .f32} {p p' : Vec Ideal Cert.ReferencePostSampleIdeal.S1024 .i32} {k k' : Vec Ideal Cert.ReferencePostSampleIdeal.S32 .f32}
    (hz : z = z') (hp : p = p') (hk : k = k') : Cert.ReferencePostSampleIdeal.Read.val_main_v49 (F := Ideal) z p k = Cert.ReferencePostSampleIdeal.Read.val_main_v49 (F := Ideal) z' p' k' := by
  rw [hz, hp, hk]

set_option maxHeartbeats 2000000 in
/-- Kernel and reference of the call behind the input projection for the sample group end with equal results. -/
theorem algebraic_post_sample : Cert.algebraic_KernelPostSampleIdeal_ReferencePostSampleIdeal_pre_finite_keys_sample := by
  pair_intro
  · run_from Cert.KernelPostSampleIdeal.Post.run_results m g
  · run_from Cert.ReferencePostSampleIdeal.Value.run m' g'
    · rw [Cert.ReferencePostSampleIdeal.Read.val_main_v2_eq]
      exact (Cert.KernelPostSampleIdeal.Post.final23 m c).symm
    · rw [Cert.ReferencePostSampleIdeal.Read.val_main_v67_eq]
      rw [(hagree c).2.2.2.1]
      refine (Cert.KernelPostSampleIdeal.Post.final24 m c (finite_band_sample m c 6400 (by omega) _ (fun r l => ?_) (real_of_finite _ _ _ _ (hpre c).1))).symm
      pointwise []
    · rw [Cert.ReferencePostSampleIdeal.Read.val_main_v85_eq]
      rw [(hagree c).2.2.2.2.1]
      refine (Cert.KernelPostSampleIdeal.Post.final25 m c (finite_band_sample m c 6656 (by omega) _ (fun r l => ?_) (real_of_finite _ _ _ _ (hpre c).2))).symm
      pointwise []
    · rw [Cert.ReferencePostSampleIdeal.Read.val_main_v98_eq]
      exact (Cert.KernelPostSampleIdeal.Post.final28 m c).symm
    · rw [Cert.ReferencePostSampleIdeal.Read.val_main_v49_eq]
      exact (v49_congr_sample (hagree c).1 (hagree c).2.1 (hagree c).2.2.2.2.2.2.2.2.2.1).trans (Cert.KernelPostSampleIdeal.Post.final30 m c).symm

end Cert.Proof

end
-- ==== Proof.CallWin.lean ====
/- The sample group's window call: the window rows it writes. -/
module

public import proofs.«01_k».proof.Defs
public import proofs.«01_k».proof.Proof.Gen.KernelWin.Frame
public import proofs.«01_k».proof.Proof.Gen.KernelWinIdeal.Value
public import proofs.«01_k».proof.Proof.Gen.ReferenceWinIdeal.Run
public import proofs.«01_k».proof.Proof.Gen.ReferenceWinIdeal.Read
public import Idealize.ShloMosaic.Lib.Pipeline.ValueKit
public import Idealize.ShloMosaic.Lib.Pipeline.ReadBack
public import Idealize.ShloMosaic.Adequacy
public import Idealize.ShloMosaic.Init
public import Idealize.ShloMosaic.Lib.Claim

@[expose] public section

set_option maxRecDepth 16384

noncomputable section

namespace Cert.KernelWinIdeal.Win

open Idealize.ShloMosaic Idealize.ShloMosaic.TcCoe Idealize.SL.Sem
open Cert.KernelWinIdeal Cert.KernelWinIdeal.Gen
open Cert.ReferenceWinIdeal.Read (val_main_v2)

variable (m : (ℓ : Loc nD τ sig) → Buf (Elt Ideal) ℓ) (c : Dev nD)

abbrev aS : Vec Ideal S128x512x256 .f32 := m ((c : Thread nD τ).loc main_arg0)
abbrev aN : Vec Ideal S1024x256 .f32 := m ((c : Thread nD τ).loc main_arg1)

theorem idx : ∀ t : Fin cfg0.N, win0_0.index t = ![t.val, 0, 0] ∧ win0_1.index t = ![t.val, 0, 0] ∧ win0_8.index t = ![t.val, 0, 0] :=
  (by decide +kernel : ∀ t : Fin grid0.N, _)

theorem t_lt (t : Fin cfg0.N) : t.val < 128 := lt_of_lt_of_eq t.isLt N_0

theorem in_state (i) : @Eq EReal (V m c main_arg0 i) (aS m c i) := by
  simp only [V, hostOps0, StableHlo.TRef.unary, StableHlo.TRef.toBuf, StableHlo.TRef.ofBuf, cast_eq]
  after_results_simp

theorem in_new (b : Fin 128) (w : Fin 8) (e : Fin 256) : @Eq EReal (V m c main_v0 (ix3 b w e)) (aN m c (ix2 ⟨8 * b.val + w.val, by omega⟩ e)) := by
  simp only [V, hostOps0, StableHlo.TRef.unary, StableHlo.TRef.toBuf, StableHlo.TRef.ofBuf, cast_eq]
  after_results_simp
  exact shapeCast_apply (aN m c) shapeCasts_S1024x256_S128x8x256 (ix3 b w e) (ix2 ⟨8 * b.val + w.val, by omega⟩ e) (by
    rewrite [Shape.rowMajor_val_two, Shape.rowMajor_val_three]
    show (8 * b.val + w.val) * 256 + e.val = (b.val * 8 + w.val) * 256 + e.val
    omega)

theorem blk0 (t : Fin cfg0.N) (b : Fin 128) (w : Fin 512) (e : Fin 256) (hb : b.val = t.val) :
    @Eq EReal (iblk m c 0 t (ix3 0 w e)) (aS m c (ix3 b w e)) := by
  have e1 : (win0_0.blk t).view.emb (ix3 0 w e) = (ix3 b w e) := by blk_ext [idx t]
  rw [← in_state]
  unfold iblk
  change View.read (Elt Ideal) (win0_0.blk t).view (V m c main_arg0) (ix3 0 w e) = V m c main_arg0 (ix3 b w e)
  generalize V m c main_arg0 = f
  rw [View.read_apply, e1]
  exact cast_eq _ _

theorem blk1 (t : Fin cfg0.N) (b : Fin 128) (w : Fin 8) (e : Fin 256) (hb : b.val = t.val) :
    @Eq EReal (iblk m c 1 t (ix3 0 w e)) (aN m c (ix2 ⟨8 * b.val + w.val, by omega⟩ e)) := by
  have e1 : (win0_1.blk t).view.emb (ix3 0 w e) = (ix3 b w e) := by blk_ext [idx t]
  rw [← in_new]
  unfold iblk
  change View.read (Elt Ideal) (win0_1.blk t).view (V m c main_v0) (ix3 0 w e) = V m c main_v0 (ix3 b w e)
  generalize V m c main_v0 = f
  rw [View.read_apply, e1]
  exact cast_eq _ _

/-- The reference's row: the state's rows from the ninth on, then the new rows. -/
theorem ref_lo (x0 : Vec Ideal S128x512x256 .f32) (x1 : Vec Ideal S1024x256 .f32) (b : Fin 128) (w : Fin 512) (e : Fin 256) (h : w.val < 504) :
    @Eq EReal (val_main_v2 (F := Ideal) x0 x1 (ix3 b w e)) (x0 (ix3 b ⟨8 + w.val, by omega⟩ e)) := by
  unfold val_main_v2 Cert.ReferenceWinIdeal.Read.val_main_v1
  pointwise []
  rw [dif_pos (by omega)]

theorem ref_hi (x0 : Vec Ideal S128x512x256 .f32) (x1 : Vec Ideal S1024x256 .f32) (b : Fin 128) (w : Fin 512) (e : Fin 256) (h : 504 ≤ w.val) :
    @Eq EReal (val_main_v2 (F := Ideal) x0 x1 (ix3 b w e)) (x1 (ix2 ⟨8 * b.val + (w.val - 504), by omega⟩ e)) := by
  unfold val_main_v2 Cert.ReferenceWinIdeal.Read.val_main_v1
  pointwise []
  rw [dif_neg (by omega)]
  refine (Cert.ReferenceWinIdeal.Read.val_main_v0_apply x1 _).trans (congrArg x1 ?_)
  blk_ext

theorem pay6_at (Y : Vec Ideal S1x8x256 .f32) (w : Fin 8) (e : Fin 256) : @Eq EReal (k0_pay6 (F := Ideal) Y (ix3 0 w e)) (Y (ix3 0 w e)) := by
  pointwise [k0_pay6, k0_pay4]

theorem pay5_at (X : Vec Ideal S1x512x256 .f32) (w : Fin 504) (e : Fin 256) : @Eq EReal (k0_pay5 (F := Ideal) X (ix3 0 w e)) (X (ix3 0 ⟨8 + w.val, by omega⟩ e)) := by
  pointwise [k0_pay5, k0_pay3]

theorem out8 (t : Fin cfg0.N) (b : Fin 128) (w : Fin 512) (e : Fin 256) (hb : b.val = t.val) :
    @Eq EReal ((outsAt0 m c t).2 (ix3 0 w e)) (val_main_v2 (F := Ideal) (aS m c) (aN m c) (ix3 b w e)) := by
  unfold outsAt0
  frame_out
  canon_tiles x h using View.cover_of_tiledBy _ ![1, 8, 256] (by sl_kernel_rfl) _
  · change w.val = 504 + (x 1).val at h1
    change e.val = (x 2).val at h2
    have hx : x = ix3 0 ⟨w.val - 504, by omega⟩ e := by blk_ext
    rw [hx]
    refine (pay6_at _ _ _).trans ((blk1 m c t b _ e hb).trans ?_)
    exact (ref_hi (aS m c) (aN m c) b w e (by omega)).symm
  · change w.val = (x 1).val at h1
    change e.val = (x 2).val at h2
    have hx : x = ix3 0 ⟨w.val, by omega⟩ e := by blk_ext
    rw [hx]
    refine (pay5_at _ _ _).trans ((blk0 m c t b _ e hb).trans ?_)
    exact (ref_lo (aS m c) (aN m c) b w e (by omega)).symm

theorem final (m : (ℓ : Loc nD τ sig) → Buf (Elt Ideal) ℓ) (c : Dev nD) : (dats m 0 c).arrAt 8 cfg0.N = val_main_v2 (F := Ideal) (aS m c) (aN m c) := by
  refine (dats m 0 c).arrAt_eq_of_covers 8 _ (by decide +kernel) fun t hft y => ?_
  blk_simp
  rw [after0_8]
  obtain ⟨w, e, rfl⟩ : ∃ (w : Fin 512) (e : Fin 256), y = ix3 0 w e := ⟨y 1, y 2, by blk_ext⟩
  have ht := t_lt t
  have e1 : (win0_8.blk t).view.emb (ix3 0 w e) = ix3 ⟨t.val, ht⟩ w e := by blk_ext [idx t]
  rw [e1]
  exact out8 m c t _ w e rfl

end Cert.KernelWinIdeal.Win

namespace Cert.Proof

open Idealize.ShloMosaic Idealize.ShloMosaic.TcCoe Idealize.SL.Sem

/-- The sample group's window call runs, keeps its arguments and ends with every counter at zero. -/
theorem frame_p_win : Cert.quiescent_KernelWin := fun m ρ _ => Cert.KernelWin.Gen.frame m ρ

theorem frame_pi_win : Cert.quiescent_KernelWinIdeal := fun m ρ _ => Cert.KernelWinIdeal.Gen.frame m ρ

theorem frame_ri_win : Cert.quiescent_ReferenceWinIdeal := fun m ρ _ =>
  (θ_run Cert.ReferenceWinIdeal.defs _ _).mono
    (fun r h => ⟨fun c => (h c).2, sem_eq_zero_of_no_sems (by decide) r.2⟩)
    (Cert.ReferenceWinIdeal.Value.run (F := Ideal) m ρ)

/-- Kernel and reference of the window call end with equal window rows. -/
theorem algebraic_win : Cert.algebraic_KernelWinIdeal_ReferenceWinIdeal := by
  pair_intro
  · run_from Cert.KernelWinIdeal.Value.run_blocks m g
  · run_from Cert.ReferenceWinIdeal.Value.run m' g'
    rw [Cert.ReferenceWinIdeal.Read.val_main_v2_eq]
    exact (Cert.KernelWinIdeal.Win.final m c).symm

end Cert.Proof

end
-- ==== Proof.lean ====
module

public import proofs.«01_k».proof.Proof.Frames
public import proofs.«01_k».proof.Proof.Algebraic
public import proofs.«01_k».proof.Proof.Calls
public import proofs.«01_k».proof.Proof.CallPost
public import proofs.«01_k».proof.Proof.SampleCalls
public import proofs.«01_k».proof.Proof.CallPostSample
public import proofs.«01_k».proof.Proof.CallWin

@[expose] public section

noncomputable section

namespace Cert.Proof

/-- Everything the certificate claims. -/
theorem claim : Cert.Claim := ⟨Cert.Kernel.Gen.facts, Cert.KernelIdeal.Gen.facts, Cert.ReferenceIdeal.Gen.facts,
  Cert.KernelFfn.Gen.facts, Cert.KernelFfnIdeal.Gen.facts, Cert.ReferenceFfnIdeal.Gen.facts,
  Cert.KernelOut.Gen.facts, Cert.KernelOutIdeal.Gen.facts, Cert.ReferenceOutIdeal.Gen.facts,
  Cert.KernelIn.Gen.facts, Cert.KernelInIdeal.Gen.facts, Cert.ReferenceInIdeal.Gen.facts,
  Cert.KernelPost.Gen.facts, Cert.KernelPostIdeal.Gen.facts, Cert.ReferencePostIdeal.Gen.facts,
  Cert.KernelPostSample.Gen.facts, Cert.KernelPostSampleIdeal.Gen.facts, Cert.ReferencePostSampleIdeal.Gen.facts,
  Cert.KernelFfnSample.Gen.facts, Cert.KernelFfnSampleIdeal.Gen.facts, Cert.ReferenceFfnSampleIdeal.Gen.facts,
  Cert.KernelOutSample.Gen.facts, Cert.KernelOutSampleIdeal.Gen.facts, Cert.ReferenceOutSampleIdeal.Gen.facts,
  Cert.KernelInSample.Gen.facts, Cert.KernelInSampleIdeal.Gen.facts, Cert.ReferenceInSampleIdeal.Gen.facts,
  Cert.KernelWin.Gen.facts, Cert.KernelWinIdeal.Gen.facts, Cert.ReferenceWinIdeal.Gen.facts, pre, pre_keys, pre_keys_sample,
  frame_p, frame_pi, fun m g _ => frame_pi m g trivial, frame_ri, fun m g _ => frame_ri m g trivial,
  frame_p_ffn, frame_pi_ffn, frame_ri_ffn, frame_p_out, frame_pi_out, frame_ri_out, frame_p_in, frame_pi_in, frame_ri_in,
  frame_p_post, frame_pi_post, fun m g _ => frame_pi_post m g trivial, frame_ri_post, fun m g _ => frame_ri_post m g trivial,
  frame_p_post_sample, frame_pi_post_sample, fun m g _ => frame_pi_post_sample m g trivial, frame_ri_post_sample, fun m g _ => frame_ri_post_sample m g trivial,
  frame_p_ffn_sample, frame_pi_ffn_sample, frame_ri_ffn_sample, frame_p_out_sample, frame_pi_out_sample, frame_ri_out_sample,
  frame_p_in_sample, frame_pi_in_sample, frame_ri_in_sample, frame_p_win, frame_pi_win, frame_ri_win,
  preserves, algebraic, trivial, algebraic_ffn, trivial, algebraic_out, trivial, algebraic_in, trivial, algebraic_post,
  trivial, algebraic_post_sample, trivial, algebraic_ffn_sample, trivial, algebraic_out_sample, trivial, algebraic_in_sample, trivial, algebraic_win⟩

end Cert.Proof

end
